-- ==== Defs.lean ====
def Pre_LnSilu (m : (ℓ : Loc Cert.LnSilu.nD Cert.LnSilu.τ Cert.LnSilu.sig) → Buf (Elt Bits) ℓ) : Prop :=
  True

def Pre_LnSiluIdeal (m : (ℓ : Loc Cert.LnSiluIdeal.nD Cert.LnSiluIdeal.τ Cert.LnSiluIdeal.sig) → Buf (Elt Ideal) ℓ) : Prop :=
  True

def Pre_LnSiluRefIdeal (m : (ℓ : Loc Cert.LnSiluRefIdeal.nD Cert.LnSiluRefIdeal.τ Cert.LnSiluRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_ResGate (m : (ℓ : Loc Cert.ResGate.nD Cert.ResGate.τ Cert.ResGate.sig) → Buf (Elt Bits) ℓ) : Prop :=
  True

def Pre_ResGateIdeal (m : (ℓ : Loc Cert.ResGateIdeal.nD Cert.ResGateIdeal.τ Cert.ResGateIdeal.sig) → Buf (Elt Ideal) ℓ) : Prop :=
  True

def Pre_ResGateRefIdeal (m : (ℓ : Loc Cert.ResGateRefIdeal.nD Cert.ResGateRefIdeal.τ Cert.ResGateRefIdeal.sig) → Buf (Elt Ideal) ℓ) : Prop :=
  True

def Pre_ResFwd (m : (ℓ : Loc Cert.ResFwd.nD Cert.ResFwd.τ Cert.ResFwd.sig) → Buf (Elt Bits) ℓ) : Prop :=
  True

def Pre_ResFwdIdeal (m : (ℓ : Loc Cert.ResFwdIdeal.nD Cert.ResFwdIdeal.τ Cert.ResFwdIdeal.sig) → Buf (Elt Ideal) ℓ) : Prop :=
  True

def Pre_ResFwdRefIdeal (m : (ℓ : Loc Cert.ResFwdRefIdeal.nD Cert.ResFwdRefIdeal.τ Cert.ResFwdRefIdeal.sig) → Buf (Elt Ideal) ℓ) : Prop :=
  True

def Pre_ModGlu (m : (ℓ : Loc Cert.ModGlu.nD Cert.ModGlu.τ Cert.ModGlu.sig) → Buf (Elt Bits) ℓ) : Prop :=
  True

def Pre_ModGluIdeal (m : (ℓ : Loc Cert.ModGluIdeal.nD Cert.ModGluIdeal.τ Cert.ModGluIdeal.sig) → Buf (Elt Ideal) ℓ) : Prop :=
  True

def Pre_ModGluRefIdeal (m : (ℓ : Loc Cert.ModGluRefIdeal.nD Cert.ModGluRefIdeal.τ Cert.ModGluRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_ModQkv (m : (ℓ : Loc Cert.ModQkv.nD Cert.ModQkv.τ Cert.ModQkv.sig) → Buf (Elt Bits) ℓ) : Prop :=
  True

def Pre_ModQkvIdeal (m : (ℓ : Loc Cert.ModQkvIdeal.nD Cert.ModQkvIdeal.τ Cert.ModQkvIdeal.sig) → Buf (Elt Ideal) ℓ) : Prop :=
  True

def Pre_ModQkvRefIdeal (m : (ℓ : Loc Cert.ModQkvRefIdeal.nD Cert.ModQkvRefIdeal.τ Cert.ModQkvRefIdeal.sig) → Buf (Elt Ideal) ℓ) : Prop :=
  True

def Pre_GNorm (m : (ℓ : Loc Cert.GNorm.nD Cert.GNorm.τ Cert.GNorm.sig) → Buf (Elt Bits) ℓ) : Prop :=
  True

def Pre_GNormIdeal (m : (ℓ : Loc Cert.GNormIdeal.nD Cert.GNormIdeal.τ Cert.GNormIdeal.sig) → Buf (Elt Ideal) ℓ) : Prop :=
  True

def Pre_GNormRefIdeal (m : (ℓ : Loc Cert.GNormRefIdeal.nD Cert.GNormRefIdeal.τ Cert.GNormRefIdeal.sig) → Buf (Elt Ideal) ℓ) : Prop :=
  True

def Pre_GNormFwd (m : (ℓ : Loc Cert.GNormFwd.nD Cert.GNormFwd.τ Cert.GNormFwd.sig) → Buf (Elt Bits) ℓ) : Prop :=
  True

def Pre_GNormFwdIdeal (m : (ℓ : Loc Cert.GNormFwdIdeal.nD Cert.GNormFwdIdeal.τ Cert.GNormFwdIdeal.sig) → Buf (Elt Ideal) ℓ) : Prop :=
  True

def Pre_GNormFwdRefIdeal (m : (ℓ : Loc Cert.GNormFwdRefIdeal.nD Cert.GNormFwdRefIdeal.τ Cert.GNormFwdRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_scan_finite [hPre_scan_finite : Cert.Pre_scan_finite.Facts] (m : (ℓ : Loc Cert.ScanIdeal.nD Cert.ScanIdeal.τ Cert.ScanIdeal.sig) → Buf (Elt Ideal) ℓ) : Prop :=
  ∀ c : Dev Cert.ScanIdeal.nD,
    (Cert.Pre_scan_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_scan_finite [hPre_scan_finite : Cert.Pre_scan_finite.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_scan_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_regular [hPre_prep_regular : Cert.Pre_prep_regular.Facts] (m : (ℓ : Loc Cert.PrepIdeal.nD Cert.PrepIdeal.τ Cert.PrepIdeal.sig) → Buf (Elt Ideal) ℓ) : Prop :=
  ∀ c : Dev Cert.PrepIdeal.nD,
    (Cert.Pre_prep_regular.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_regular [hPre_prep_regular : Cert.Pre_prep_regular.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_regular.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))) = (fun _ => 1#1)

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWRefIdeal (m : (ℓ : Loc Cert.FfnWRefIdeal.nD Cert.FfnWRefIdeal.τ Cert.FfnWRefIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWRefIdeal (m : (ℓ : Loc Cert.GradWRefIdeal.nD Cert.GradWRefIdeal.τ Cert.GradWRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def quiescent_LnSilu [hLnSilu : Cert.LnSilu.Facts] : Prop :=
  ∀ (m : (ℓ : Loc Cert.LnSilu.nD Cert.LnSilu.τ Cert.LnSilu.sig) → Buf (Elt Bits) ℓ) (g : Dev Cert.LnSilu.nD → PrngReg), Pre_LnSilu m →
    θ_run (Cert.LnSilu.defs (F := Bits)) (onTc (τ := Cert.LnSilu.τ) (Cert.LnSilu.main (F := Bits))) ⟨m, fun _ => 0, g⟩ (fun r => (∀ c : Dev Cert.LnSilu.nD,
      r.2.mem ((c.tc : Thread Cert.LnSilu.nD Cert.LnSilu.τ).loc Cert.LnSilu.main_arg0) = m ((c.tc : Thread Cert.LnSilu.nD Cert.LnSilu.τ).loc Cert.LnSilu.main_arg0)
      ∧ r.2.mem ((c.tc : Thread Cert.LnSilu.nD Cert.LnSilu.τ).loc Cert.LnSilu.main_arg1) = m ((c.tc : Thread Cert.LnSilu.nD Cert.LnSilu.τ).loc Cert.LnSilu.main_arg1)
      ∧ r.2.mem ((c.tc : Thread Cert.LnSilu.nD Cert.LnSilu.τ).loc Cert.LnSilu.main_arg2) = m ((c.tc : Thread Cert.LnSilu.nD Cert.LnSilu.τ).loc Cert.LnSilu.main_arg2)
      ∧ r.2.mem ((c.tc : Thread Cert.LnSilu.nD Cert.LnSilu.τ).loc Cert.LnSilu.main_arg3) = m ((c.tc : Thread Cert.LnSilu.nD Cert.LnSilu.τ).loc Cert.LnSilu.main_arg3))
      ∧ r.2.sem = fun _ => 0)

def quiescent_LnSiluIdeal [hLnSiluIdeal : Cert.LnSiluIdeal.Facts] : Prop :=
  ∀ (m : (ℓ : Loc Cert.LnSiluIdeal.nD Cert.LnSiluIdeal.τ Cert.LnSiluIdeal.sig) → Buf (Elt Ideal) ℓ) (g : Dev Cert.LnSiluIdeal.nD → PrngReg), Pre_LnSiluIdeal m →
    θ_run (Cert.LnSiluIdeal.defs (F := Ideal)) (onTc (τ := Cert.LnSiluIdeal.τ) (Cert.LnSiluIdeal.main (F := Ideal))) ⟨m, fun _ => 0, g⟩ (fun r => (∀ c : Dev Cert.LnSiluIdeal.nD,
      r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
      ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
      ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2)
      ∧ r.2.mem ((c.tc : Thread Cert.LnSiluIdeal.nD Cert.LnSiluIdeal.τ).loc Cert.LnSiluIdeal.main_arg3) = m ((c.tc : Thread Cert.LnSiluIdeal.nD Cert.LnSiluIdeal.τ).loc Cert.LnSiluIdeal.main_arg3))
      ∧ r.2.sem = fun _ => 0)

def quiescent_LnSiluRefIdeal [hLnSiluRefIdeal : Cert.LnSiluRefIdeal.Facts] : Prop :=
  ∀ (m : (ℓ : Loc Cert.LnSiluRefIdeal.nD Cert.LnSiluRefIdeal.τ Cert.LnSiluRefIdeal.sig) → Buf (Elt Ideal) ℓ) (g : Dev Cert.LnSiluRefIdeal.nD → PrngReg), Pre_LnSiluRefIdeal m →
    θ_run (Cert.LnSiluRefIdeal.defs (F := Ideal)) (onTc (τ := Cert.LnSiluRefIdeal.τ) (Cert.LnSiluRefIdeal.main (F := Ideal))) ⟨m, fun _ => 0, g⟩ (fun r => (∀ c : Dev Cert.LnSiluRefIdeal.nD,
      r.2.mem ((c.tc : Thread Cert.LnSiluRefIdeal.nD Cert.LnSiluRefIdeal.τ).loc Cert.LnSiluRefIdeal.main_arg0) = m ((c.tc : Thread Cert.LnSiluRefIdeal.nD Cert.LnSiluRefIdeal.τ).loc Cert.LnSiluRefIdeal.main_arg0)
      ∧ r.2.mem ((c.tc : Thread Cert.LnSiluRefIdeal.nD Cert.LnSiluRefIdeal.τ).loc Cert.LnSiluRefIdeal.main_arg1) = m ((c.tc : Thread Cert.LnSiluRefIdeal.nD Cert.LnSiluRefIdeal.τ).loc Cert.LnSiluRefIdeal.main_arg1)
      ∧ r.2.mem ((c.tc : Thread Cert.LnSiluRefIdeal.nD Cert.LnSiluRefIdeal.τ).loc Cert.LnSiluRefIdeal.main_arg2) = m ((c.tc : Thread Cert.LnSiluRefIdeal.nD Cert.LnSiluRefIdeal.τ).loc Cert.LnSiluRefIdeal.main_arg2)
      ∧ r.2.mem ((c.tc : Thread Cert.LnSiluRefIdeal.nD Cert.LnSiluRefIdeal.τ).loc Cert.LnSiluRefIdeal.main_arg3) = m ((c.tc : Thread Cert.LnSiluRefIdeal.nD Cert.LnSiluRefIdeal.τ).loc Cert.LnSiluRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_ResGate [hResGate : Cert.ResGate.Facts] : Prop :=
  ∀ (m : (ℓ : Loc Cert.ResGate.nD Cert.ResGate.τ Cert.ResGate.sig) → Buf (Elt Bits) ℓ) (g : Dev Cert.ResGate.nD → PrngReg), Pre_ResGate m →
    θ_run (Cert.ResGate.defs (F := Bits)) (onTc (τ := Cert.ResGate.τ) (Cert.ResGate.main (F := Bits))) ⟨m, fun _ => 0, g⟩ (fun r => (∀ c : Dev Cert.ResGate.nD,
      r.2.mem ((c.tc : Thread Cert.ResGate.nD Cert.ResGate.τ).loc Cert.ResGate.main_arg0) = m ((c.tc : Thread Cert.ResGate.nD Cert.ResGate.τ).loc Cert.ResGate.main_arg0)
      ∧ r.2.mem ((c.tc : Thread Cert.ResGate.nD Cert.ResGate.τ).loc Cert.ResGate.main_arg1) = m ((c.tc : Thread Cert.ResGate.nD Cert.ResGate.τ).loc Cert.ResGate.main_arg1)
      ∧ r.2.mem ((c.tc : Thread Cert.ResGate.nD Cert.ResGate.τ).loc Cert.ResGate.main_arg2) = m ((c.tc : Thread Cert.ResGate.nD Cert.ResGate.τ).loc Cert.ResGate.main_arg2)
      ∧ r.2.mem ((c.tc : Thread Cert.ResGate.nD Cert.ResGate.τ).loc Cert.ResGate.main_arg3) = m ((c.tc : Thread Cert.ResGate.nD Cert.ResGate.τ).loc Cert.ResGate.main_arg3)
      ∧ r.2.mem ((c.tc : Thread Cert.ResGate.nD Cert.ResGate.τ).loc Cert.ResGate.main_arg4) = m ((c.tc : Thread Cert.ResGate.nD Cert.ResGate.τ).loc Cert.ResGate.main_arg4)
      ∧ r.2.mem ((c.tc : Thread Cert.ResGate.nD Cert.ResGate.τ).loc Cert.ResGate.main_arg5) = m ((c.tc : Thread Cert.ResGate.nD Cert.ResGate.τ).loc Cert.ResGate.main_arg5))
      ∧ r.2.sem = fun _ => 0)

def quiescent_ResGateIdeal [hResGateIdeal : Cert.ResGateIdeal.Facts] : Prop :=
  ∀ (m : (ℓ : Loc Cert.ResGateIdeal.nD Cert.ResGateIdeal.τ Cert.ResGateIdeal.sig) → Buf (Elt Ideal) ℓ) (g : Dev Cert.ResGateIdeal.nD → PrngReg), Pre_ResGateIdeal m →
    θ_run (Cert.ResGateIdeal.defs (F := Ideal)) (onTc (τ := Cert.ResGateIdeal.τ) (Cert.ResGateIdeal.main (F := Ideal))) ⟨m, fun _ => 0, g⟩ (fun r => (∀ c : Dev Cert.ResGateIdeal.nD,
      r.2.mem ((c.tc : Thread Cert.ResGateIdeal.nD Cert.ResGateIdeal.τ).loc Cert.ResGateIdeal.main_arg0) = m ((c.tc : Thread Cert.ResGateIdeal.nD Cert.ResGateIdeal.τ).loc Cert.ResGateIdeal.main_arg0)
      ∧ r.2.mem ((c.tc : Thread Cert.ResGateIdeal.nD Cert.ResGateIdeal.τ).loc Cert.ResGateIdeal.main_arg1) = m ((c.tc : Thread Cert.ResGateIdeal.nD Cert.ResGateIdeal.τ).loc Cert.ResGateIdeal.main_arg1)
      ∧ r.2.mem ((c.tc : Thread Cert.ResGateIdeal.nD Cert.ResGateIdeal.τ).loc Cert.ResGateIdeal.main_arg2) = m ((c.tc : Thread Cert.ResGateIdeal.nD Cert.ResGateIdeal.τ).loc Cert.ResGateIdeal.main_arg2)
      ∧ r.2.mem ((c.tc : Thread Cert.ResGateIdeal.nD Cert.ResGateIdeal.τ).loc Cert.ResGateIdeal.main_arg3) = m ((c.tc : Thread Cert.ResGateIdeal.nD Cert.ResGateIdeal.τ).loc Cert.ResGateIdeal.main_arg3)
      ∧ r.2.mem ((c.tc : Thread Cert.ResGateIdeal.nD Cert.ResGateIdeal.τ).loc Cert.ResGateIdeal.main_arg4) = m ((c.tc : Thread Cert.ResGateIdeal.nD Cert.ResGateIdeal.τ).loc Cert.ResGateIdeal.main_arg4)
      ∧ r.2.mem ((c.tc : Thread Cert.ResGateIdeal.nD Cert.ResGateIdeal.τ).loc Cert.ResGateIdeal.main_arg5) = m ((c.tc : Thread Cert.ResGateIdeal.nD Cert.ResGateIdeal.τ).loc Cert.ResGateIdeal.main_arg5))
      ∧ r.2.sem = fun _ => 0)

def quiescent_ResGateRefIdeal [hResGateRefIdeal : Cert.ResGateRefIdeal.Facts] : Prop :=
  ∀ (m : (ℓ : Loc Cert.ResGateRefIdeal.nD Cert.ResGateRefIdeal.τ Cert.ResGateRefIdeal.sig) → Buf (Elt Ideal) ℓ) (g : Dev Cert.ResGateRefIdeal.nD → PrngReg), Pre_ResGateRefIdeal m →
    θ_run (Cert.ResGateRefIdeal.defs (F := Ideal)) (onTc (τ := Cert.ResGateRefIdeal.τ) (Cert.ResGateRefIdeal.main (F := Ideal))) ⟨m, fun _ => 0, g⟩ (fun r => (∀ c : Dev Cert.ResGateRefIdeal.nD,
      r.2.mem ((c.tc : Thread Cert.ResGateRefIdeal.nD Cert.ResGateRefIdeal.τ).loc Cert.ResGateRefIdeal.main_arg0) = m ((c.tc : Thread Cert.ResGateRefIdeal.nD Cert.ResGateRefIdeal.τ).loc Cert.ResGateRefIdeal.main_arg0)
      ∧ r.2.mem ((c.tc : Thread Cert.ResGateRefIdeal.nD Cert.ResGateRefIdeal.τ).loc Cert.ResGateRefIdeal.main_arg1) = m ((c.tc : Thread Cert.ResGateRefIdeal.nD Cert.ResGateRefIdeal.τ).loc Cert.ResGateRefIdeal.main_arg1)
      ∧ r.2.mem ((c.tc : Thread Cert.ResGateRefIdeal.nD Cert.ResGateRefIdeal.τ).loc Cert.ResGateRefIdeal.main_arg2) = m ((c.tc : Thread Cert.ResGateRefIdeal.nD Cert.ResGateRefIdeal.τ).loc Cert.ResGateRefIdeal.main_arg2)
      ∧ r.2.mem ((c.tc : Thread Cert.ResGateRefIdeal.nD Cert.ResGateRefIdeal.τ).loc Cert.ResGateRefIdeal.main_arg3) = m ((c.tc : Thread Cert.ResGateRefIdeal.nD Cert.ResGateRefIdeal.τ).loc Cert.ResGateRefIdeal.main_arg3)
      ∧ r.2.mem ((c.tc : Thread Cert.ResGateRefIdeal.nD Cert.ResGateRefIdeal.τ).loc Cert.ResGateRefIdeal.main_arg4) = m ((c.tc : Thread Cert.ResGateRefIdeal.nD Cert.ResGateRefIdeal.τ).loc Cert.ResGateRefIdeal.main_arg4)
      ∧ r.2.mem ((c.tc : Thread Cert.ResGateRefIdeal.nD Cert.ResGateRefIdeal.τ).loc Cert.ResGateRefIdeal.main_arg5) = m ((c.tc : Thread Cert.ResGateRefIdeal.nD Cert.ResGateRefIdeal.τ).loc Cert.ResGateRefIdeal.main_arg5))
      ∧ r.2.sem = fun _ => 0)

def quiescent_ResFwd [hResFwd : Cert.ResFwd.Facts] : Prop :=
  ∀ (m : (ℓ : Loc Cert.ResFwd.nD Cert.ResFwd.τ Cert.ResFwd.sig) → Buf (Elt Bits) ℓ) (g : Dev Cert.ResFwd.nD → PrngReg), Pre_ResFwd m →
    θ_run (Cert.ResFwd.defs (F := Bits)) (onTc (τ := Cert.ResFwd.τ) (Cert.ResFwd.main (F := Bits))) ⟨m, fun _ => 0, g⟩ (fun r => (∀ c : Dev Cert.ResFwd.nD,
      r.2.mem ((c.tc : Thread Cert.ResFwd.nD Cert.ResFwd.τ).loc Cert.ResFwd.main_arg0) = m ((c.tc : Thread Cert.ResFwd.nD Cert.ResFwd.τ).loc Cert.ResFwd.main_arg0)
      ∧ r.2.mem ((c.tc : Thread Cert.ResFwd.nD Cert.ResFwd.τ).loc Cert.ResFwd.main_arg1) = m ((c.tc : Thread Cert.ResFwd.nD Cert.ResFwd.τ).loc Cert.ResFwd.main_arg1)
      ∧ r.2.mem ((c.tc : Thread Cert.ResFwd.nD Cert.ResFwd.τ).loc Cert.ResFwd.main_arg2) = m ((c.tc : Thread Cert.ResFwd.nD Cert.ResFwd.τ).loc Cert.ResFwd.main_arg2)
      ∧ r.2.mem ((c.tc : Thread Cert.ResFwd.nD Cert.ResFwd.τ).loc Cert.ResFwd.main_arg3) = m ((c.tc : Thread Cert.ResFwd.nD Cert.ResFwd.τ).loc Cert.ResFwd.main_arg3)
      ∧ r.2.mem ((c.tc : Thread Cert.ResFwd.nD Cert.ResFwd.τ).loc Cert.ResFwd.main_arg4) = m ((c.tc : Thread Cert.ResFwd.nD Cert.ResFwd.τ).loc Cert.ResFwd.main_arg4))
      ∧ r.2.sem = fun _ => 0)

def quiescent_ResFwdIdeal [hResFwdIdeal : Cert.ResFwdIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg), Pre_ResFwdIdeal m →
    θ_run (Cert.ResFwdIdeal.defs (F := Ideal)) (onTc (τ := Cert.ResFwdIdeal.τ) (Cert.ResFwdIdeal.main (F := Ideal))) ⟨m, fun _ => 0, g⟩ (fun r => (∀ c : Dev Cert.ResFwdIdeal.nD,
      r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
      ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
      ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2)
      ∧ r.2.mem ((c.tc : Thread Cert.ResFwdIdeal.nD Cert.ResFwdIdeal.τ).loc Cert.ResFwdIdeal.main_arg3) = m ((c.tc : Thread Cert.ResFwdIdeal.nD Cert.ResFwdIdeal.τ).loc Cert.ResFwdIdeal.main_arg3)
      ∧ r.2.mem ((c.tc : Thread Cert.ResFwdIdeal.nD Cert.ResFwdIdeal.τ).loc Cert.ResFwdIdeal.main_arg4) = m ((c.tc : Thread Cert.ResFwdIdeal.nD Cert.ResFwdIdeal.τ).loc Cert.ResFwdIdeal.main_arg4))
      ∧ r.2.sem = fun _ => 0)

def quiescent_ResFwdRefIdeal [hResFwdRefIdeal : Cert.ResFwdRefIdeal.Facts] : Prop :=
  ∀ (m : (ℓ : Loc Cert.ResFwdRefIdeal.nD Cert.ResFwdRefIdeal.τ Cert.ResFwdRefIdeal.sig) → Buf (Elt Ideal) ℓ) (g : Dev Cert.ResFwdRefIdeal.nD → PrngReg), Pre_ResFwdRefIdeal m →
    θ_run (Cert.ResFwdRefIdeal.defs (F := Ideal)) (onTc (τ := Cert.ResFwdRefIdeal.τ) (Cert.ResFwdRefIdeal.main (F := Ideal))) ⟨m, fun _ => 0, g⟩ (fun r => (∀ c : Dev Cert.ResFwdRefIdeal.nD,
      r.2.mem ((c.tc : Thread Cert.ResFwdRefIdeal.nD Cert.ResFwdRefIdeal.τ).loc Cert.ResFwdRefIdeal.main_arg0) = m ((c.tc : Thread Cert.ResFwdRefIdeal.nD Cert.ResFwdRefIdeal.τ).loc Cert.ResFwdRefIdeal.main_arg0)
      ∧ r.2.mem ((c.tc : Thread Cert.ResFwdRefIdeal.nD Cert.ResFwdRefIdeal.τ).loc Cert.ResFwdRefIdeal.main_arg1) = m ((c.tc : Thread Cert.ResFwdRefIdeal.nD Cert.ResFwdRefIdeal.τ).loc Cert.ResFwdRefIdeal.main_arg1)
      ∧ r.2.mem ((c.tc : Thread Cert.ResFwdRefIdeal.nD Cert.ResFwdRefIdeal.τ).loc Cert.ResFwdRefIdeal.main_arg2) = m ((c.tc : Thread Cert.ResFwdRefIdeal.nD Cert.ResFwdRefIdeal.τ).loc Cert.ResFwdRefIdeal.main_arg2)
      ∧ r.2.mem ((c.tc : Thread Cert.ResFwdRefIdeal.nD Cert.ResFwdRefIdeal.τ).loc Cert.ResFwdRefIdeal.main_arg3) = m ((c.tc : Thread Cert.ResFwdRefIdeal.nD Cert.ResFwdRefIdeal.τ).loc Cert.ResFwdRefIdeal.main_arg3)
      ∧ r.2.mem ((c.tc : Thread Cert.ResFwdRefIdeal.nD Cert.ResFwdRefIdeal.τ).loc Cert.ResFwdRefIdeal.main_arg4) = m ((c.tc : Thread Cert.ResFwdRefIdeal.nD Cert.ResFwdRefIdeal.τ).loc Cert.ResFwdRefIdeal.main_arg4))
      ∧ r.2.sem = fun _ => 0)

def quiescent_ModGlu [hModGlu : Cert.ModGlu.Facts] : Prop :=
  ∀ (m : (ℓ : Loc Cert.ModGlu.nD Cert.ModGlu.τ Cert.ModGlu.sig) → Buf (Elt Bits) ℓ) (g : Dev Cert.ModGlu.nD → PrngReg), Pre_ModGlu m →
    θ_run (Cert.ModGlu.defs (F := Bits)) (onTc (τ := Cert.ModGlu.τ) (Cert.ModGlu.main (F := Bits))) ⟨m, fun _ => 0, g⟩ (fun r => (∀ c : Dev Cert.ModGlu.nD,
      r.2.mem ((c.tc : Thread Cert.ModGlu.nD Cert.ModGlu.τ).loc Cert.ModGlu.main_arg0) = m ((c.tc : Thread Cert.ModGlu.nD Cert.ModGlu.τ).loc Cert.ModGlu.main_arg0)
      ∧ r.2.mem ((c.tc : Thread Cert.ModGlu.nD Cert.ModGlu.τ).loc Cert.ModGlu.main_arg1) = m ((c.tc : Thread Cert.ModGlu.nD Cert.ModGlu.τ).loc Cert.ModGlu.main_arg1)
      ∧ r.2.mem ((c.tc : Thread Cert.ModGlu.nD Cert.ModGlu.τ).loc Cert.ModGlu.main_arg2) = m ((c.tc : Thread Cert.ModGlu.nD Cert.ModGlu.τ).loc Cert.ModGlu.main_arg2)
      ∧ r.2.mem ((c.tc : Thread Cert.ModGlu.nD Cert.ModGlu.τ).loc Cert.ModGlu.main_arg3) = m ((c.tc : Thread Cert.ModGlu.nD Cert.ModGlu.τ).loc Cert.ModGlu.main_arg3)
      ∧ r.2.mem ((c.tc : Thread Cert.ModGlu.nD Cert.ModGlu.τ).loc Cert.ModGlu.main_arg4) = m ((c.tc : Thread Cert.ModGlu.nD Cert.ModGlu.τ).loc Cert.ModGlu.main_arg4)
      ∧ r.2.mem ((c.tc : Thread Cert.ModGlu.nD Cert.ModGlu.τ).loc Cert.ModGlu.main_arg5) = m ((c.tc : Thread Cert.ModGlu.nD Cert.ModGlu.τ).loc Cert.ModGlu.main_arg5))
      ∧ r.2.sem = fun _ => 0)

def quiescent_ModGluIdeal [hModGluIdeal : Cert.ModGluIdeal.Facts] : Prop :=
  ∀ (m : (ℓ : Loc Cert.ModGluIdeal.nD Cert.ModGluIdeal.τ Cert.ModGluIdeal.sig) → Buf (Elt Ideal) ℓ) (g : Dev Cert.ModGluIdeal.nD → PrngReg), Pre_ModGluIdeal m →
    θ_run (Cert.ModGluIdeal.defs (F := Ideal)) (onTc (τ := Cert.ModGluIdeal.τ) (Cert.ModGluIdeal.main (F := Ideal))) ⟨m, fun _ => 0, g⟩ (fun r => (∀ c : Dev Cert.ModGluIdeal.nD,
      r.2.mem ((c.tc : Thread Cert.ModGluIdeal.nD Cert.ModGluIdeal.τ).loc Cert.ModGluIdeal.main_arg0) = m ((c.tc : Thread Cert.ModGluIdeal.nD Cert.ModGluIdeal.τ).loc Cert.ModGluIdeal.main_arg0)
      ∧ r.2.mem ((c.tc : Thread Cert.ModGluIdeal.nD Cert.ModGluIdeal.τ).loc Cert.ModGluIdeal.main_arg1) = m ((c.tc : Thread Cert.ModGluIdeal.nD Cert.ModGluIdeal.τ).loc Cert.ModGluIdeal.main_arg1)
      ∧ r.2.mem ((c.tc : Thread Cert.ModGluIdeal.nD Cert.ModGluIdeal.τ).loc Cert.ModGluIdeal.main_arg2) = m ((c.tc : Thread Cert.ModGluIdeal.nD Cert.ModGluIdeal.τ).loc Cert.ModGluIdeal.main_arg2)
      ∧ r.2.mem ((c.tc : Thread Cert.ModGluIdeal.nD Cert.ModGluIdeal.τ).loc Cert.ModGluIdeal.main_arg3) = m ((c.tc : Thread Cert.ModGluIdeal.nD Cert.ModGluIdeal.τ).loc Cert.ModGluIdeal.main_arg3)
      ∧ r.2.mem ((c.tc : Thread Cert.ModGluIdeal.nD Cert.ModGluIdeal.τ).loc Cert.ModGluIdeal.main_arg4) = m ((c.tc : Thread Cert.ModGluIdeal.nD Cert.ModGluIdeal.τ).loc Cert.ModGluIdeal.main_arg4)
      ∧ r.2.mem ((c.tc : Thread Cert.ModGluIdeal.nD Cert.ModGluIdeal.τ).loc Cert.ModGluIdeal.main_arg5) = m ((c.tc : Thread Cert.ModGluIdeal.nD Cert.ModGluIdeal.τ).loc Cert.ModGluIdeal.main_arg5))
      ∧ r.2.sem = fun _ => 0)

def quiescent_ModGluRefIdeal [hModGluRefIdeal : Cert.ModGluRefIdeal.Facts] : Prop :=
  ∀ (m : (ℓ : Loc Cert.ModGluRefIdeal.nD Cert.ModGluRefIdeal.τ Cert.ModGluRefIdeal.sig) → Buf (Elt Ideal) ℓ) (g : Dev Cert.ModGluRefIdeal.nD → PrngReg), Pre_ModGluRefIdeal m →
    θ_run (Cert.ModGluRefIdeal.defs (F := Ideal)) (onTc (τ := Cert.ModGluRefIdeal.τ) (Cert.ModGluRefIdeal.main (F := Ideal))) ⟨m, fun _ => 0, g⟩ (fun r => (∀ c : Dev Cert.ModGluRefIdeal.nD,
      r.2.mem ((c.tc : Thread Cert.ModGluRefIdeal.nD Cert.ModGluRefIdeal.τ).loc Cert.ModGluRefIdeal.main_arg0) = m ((c.tc : Thread Cert.ModGluRefIdeal.nD Cert.ModGluRefIdeal.τ).loc Cert.ModGluRefIdeal.main_arg0)
      ∧ r.2.mem ((c.tc : Thread Cert.ModGluRefIdeal.nD Cert.ModGluRefIdeal.τ).loc Cert.ModGluRefIdeal.main_arg1) = m ((c.tc : Thread Cert.ModGluRefIdeal.nD Cert.ModGluRefIdeal.τ).loc Cert.ModGluRefIdeal.main_arg1)
      ∧ r.2.mem ((c.tc : Thread Cert.ModGluRefIdeal.nD Cert.ModGluRefIdeal.τ).loc Cert.ModGluRefIdeal.main_arg2) = m ((c.tc : Thread Cert.ModGluRefIdeal.nD Cert.ModGluRefIdeal.τ).loc Cert.ModGluRefIdeal.main_arg2)
      ∧ r.2.mem ((c.tc : Thread Cert.ModGluRefIdeal.nD Cert.ModGluRefIdeal.τ).loc Cert.ModGluRefIdeal.main_arg3) = m ((c.tc : Thread Cert.ModGluRefIdeal.nD Cert.ModGluRefIdeal.τ).loc Cert.ModGluRefIdeal.main_arg3)
      ∧ r.2.mem ((c.tc : Thread Cert.ModGluRefIdeal.nD Cert.ModGluRefIdeal.τ).loc Cert.ModGluRefIdeal.main_arg4) = m ((c.tc : Thread Cert.ModGluRefIdeal.nD Cert.ModGluRefIdeal.τ).loc Cert.ModGluRefIdeal.main_arg4)
      ∧ r.2.mem ((c.tc : Thread Cert.ModGluRefIdeal.nD Cert.ModGluRefIdeal.τ).loc Cert.ModGluRefIdeal.main_arg5) = m ((c.tc : Thread Cert.ModGluRefIdeal.nD Cert.ModGluRefIdeal.τ).loc Cert.ModGluRefIdeal.main_arg5))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3)
      ∧ r.2.mem ((c.tc : Thread Cert.GluFwd.nD Cert.GluFwd.τ).loc Cert.GluFwd.main_arg4) = m ((c.tc : Thread Cert.GluFwd.nD Cert.GluFwd.τ).loc Cert.GluFwd.main_arg4))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
      ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2)
      ∧ r.2.mem ((c.tc : Thread Cert.GluFwdRefIdeal.nD Cert.GluFwdRefIdeal.τ).loc Cert.GluFwdRefIdeal.main_arg3) = m ((c.tc : Thread Cert.GluFwdRefIdeal.nD Cert.GluFwdRefIdeal.τ).loc Cert.GluFwdRefIdeal.main_arg3)
      ∧ r.2.mem ((c.tc : Thread Cert.GluFwdRefIdeal.nD Cert.GluFwdRefIdeal.τ).loc Cert.GluFwdRefIdeal.main_arg4) = m ((c.tc : Thread Cert.GluFwdRefIdeal.nD Cert.GluFwdRefIdeal.τ).loc Cert.GluFwdRefIdeal.main_arg4))
      ∧ r.2.sem = fun _ => 0)

def quiescent_ModQkv [hModQkv : Cert.ModQkv.Facts] : Prop :=
  ∀ (m : (ℓ : Loc Cert.ModQkv.nD Cert.ModQkv.τ Cert.ModQkv.sig) → Buf (Elt Bits) ℓ) (g : Dev Cert.ModQkv.nD → PrngReg), Pre_ModQkv m →
    θ_run (Cert.ModQkv.defs (F := Bits)) (onTc (τ := Cert.ModQkv.τ) (Cert.ModQkv.main (F := Bits))) ⟨m, fun _ => 0, g⟩ (fun r => (∀ c : Dev Cert.ModQkv.nD,
      r.2.mem ((c.tc : Thread Cert.ModQkv.nD Cert.ModQkv.τ).loc Cert.ModQkv.main_arg0) = m ((c.tc : Thread Cert.ModQkv.nD Cert.ModQkv.τ).loc Cert.ModQkv.main_arg0)
      ∧ r.2.mem ((c.tc : Thread Cert.ModQkv.nD Cert.ModQkv.τ).loc Cert.ModQkv.main_arg1) = m ((c.tc : Thread Cert.ModQkv.nD Cert.ModQkv.τ).loc Cert.ModQkv.main_arg1)
      ∧ r.2.mem ((c.tc : Thread Cert.ModQkv.nD Cert.ModQkv.τ).loc Cert.ModQkv.main_arg2) = m ((c.tc : Thread Cert.ModQkv.nD Cert.ModQkv.τ).loc Cert.ModQkv.main_arg2)
      ∧ r.2.mem ((c.tc : Thread Cert.ModQkv.nD Cert.ModQkv.τ).loc Cert.ModQkv.main_arg3) = m ((c.tc : Thread Cert.ModQkv.nD Cert.ModQkv.τ).loc Cert.ModQkv.main_arg3)
      ∧ r.2.mem ((c.tc : Thread Cert.ModQkv.nD Cert.ModQkv.τ).loc Cert.ModQkv.main_arg4) = m ((c.tc : Thread Cert.ModQkv.nD Cert.ModQkv.τ).loc Cert.ModQkv.main_arg4)
      ∧ r.2.mem ((c.tc : Thread Cert.ModQkv.nD Cert.ModQkv.τ).loc Cert.ModQkv.main_arg5) = m ((c.tc : Thread Cert.ModQkv.nD Cert.ModQkv.τ).loc Cert.ModQkv.main_arg5))
      ∧ r.2.sem = fun _ => 0)

def quiescent_ModQkvIdeal [hModQkvIdeal : Cert.ModQkvIdeal.Facts] : Prop :=
  ∀ (m : (ℓ : Loc Cert.ModQkvIdeal.nD Cert.ModQkvIdeal.τ Cert.ModQkvIdeal.sig) → Buf (Elt Ideal) ℓ) (g : Dev Cert.ModQkvIdeal.nD → PrngReg), Pre_ModQkvIdeal m →
    θ_run (Cert.ModQkvIdeal.defs (F := Ideal)) (onTc (τ := Cert.ModQkvIdeal.τ) (Cert.ModQkvIdeal.main (F := Ideal))) ⟨m, fun _ => 0, g⟩ (fun r => (∀ c : Dev Cert.ModQkvIdeal.nD,
      r.2.mem ((c.tc : Thread Cert.ModQkvIdeal.nD Cert.ModQkvIdeal.τ).loc Cert.ModQkvIdeal.main_arg0) = m ((c.tc : Thread Cert.ModQkvIdeal.nD Cert.ModQkvIdeal.τ).loc Cert.ModQkvIdeal.main_arg0)
      ∧ r.2.mem ((c.tc : Thread Cert.ModQkvIdeal.nD Cert.ModQkvIdeal.τ).loc Cert.ModQkvIdeal.main_arg1) = m ((c.tc : Thread Cert.ModQkvIdeal.nD Cert.ModQkvIdeal.τ).loc Cert.ModQkvIdeal.main_arg1)
      ∧ r.2.mem ((c.tc : Thread Cert.ModQkvIdeal.nD Cert.ModQkvIdeal.τ).loc Cert.ModQkvIdeal.main_arg2) = m ((c.tc : Thread Cert.ModQkvIdeal.nD Cert.ModQkvIdeal.τ).loc Cert.ModQkvIdeal.main_arg2)
      ∧ r.2.mem ((c.tc : Thread Cert.ModQkvIdeal.nD Cert.ModQkvIdeal.τ).loc Cert.ModQkvIdeal.main_arg3) = m ((c.tc : Thread Cert.ModQkvIdeal.nD Cert.ModQkvIdeal.τ).loc Cert.ModQkvIdeal.main_arg3)
      ∧ r.2.mem ((c.tc : Thread Cert.ModQkvIdeal.nD Cert.ModQkvIdeal.τ).loc Cert.ModQkvIdeal.main_arg4) = m ((c.tc : Thread Cert.ModQkvIdeal.nD Cert.ModQkvIdeal.τ).loc Cert.ModQkvIdeal.main_arg4)
      ∧ r.2.mem ((c.tc : Thread Cert.ModQkvIdeal.nD Cert.ModQkvIdeal.τ).loc Cert.ModQkvIdeal.main_arg5) = m ((c.tc : Thread Cert.ModQkvIdeal.nD Cert.ModQkvIdeal.τ).loc Cert.ModQkvIdeal.main_arg5))
      ∧ r.2.sem = fun _ => 0)

def quiescent_ModQkvRefIdeal [hModQkvRefIdeal : Cert.ModQkvRefIdeal.Facts] : Prop :=
  ∀ (m : (ℓ : Loc Cert.ModQkvRefIdeal.nD Cert.ModQkvRefIdeal.τ Cert.ModQkvRefIdeal.sig) → Buf (Elt Ideal) ℓ) (g : Dev Cert.ModQkvRefIdeal.nD → PrngReg), Pre_ModQkvRefIdeal m →
    θ_run (Cert.ModQkvRefIdeal.defs (F := Ideal)) (onTc (τ := Cert.ModQkvRefIdeal.τ) (Cert.ModQkvRefIdeal.main (F := Ideal))) ⟨m, fun _ => 0, g⟩ (fun r => (∀ c : Dev Cert.ModQkvRefIdeal.nD,
      r.2.mem ((c.tc : Thread Cert.ModQkvRefIdeal.nD Cert.ModQkvRefIdeal.τ).loc Cert.ModQkvRefIdeal.main_arg0) = m ((c.tc : Thread Cert.ModQkvRefIdeal.nD Cert.ModQkvRefIdeal.τ).loc Cert.ModQkvRefIdeal.main_arg0)
      ∧ r.2.mem ((c.tc : Thread Cert.ModQkvRefIdeal.nD Cert.ModQkvRefIdeal.τ).loc Cert.ModQkvRefIdeal.main_arg1) = m ((c.tc : Thread Cert.ModQkvRefIdeal.nD Cert.ModQkvRefIdeal.τ).loc Cert.ModQkvRefIdeal.main_arg1)
      ∧ r.2.mem ((c.tc : Thread Cert.ModQkvRefIdeal.nD Cert.ModQkvRefIdeal.τ).loc Cert.ModQkvRefIdeal.main_arg2) = m ((c.tc : Thread Cert.ModQkvRefIdeal.nD Cert.ModQkvRefIdeal.τ).loc Cert.ModQkvRefIdeal.main_arg2)
      ∧ r.2.mem ((c.tc : Thread Cert.ModQkvRefIdeal.nD Cert.ModQkvRefIdeal.τ).loc Cert.ModQkvRefIdeal.main_arg3) = m ((c.tc : Thread Cert.ModQkvRefIdeal.nD Cert.ModQkvRefIdeal.τ).loc Cert.ModQkvRefIdeal.main_arg3)
      ∧ r.2.mem ((c.tc : Thread Cert.ModQkvRefIdeal.nD Cert.ModQkvRefIdeal.τ).loc Cert.ModQkvRefIdeal.main_arg4) = m ((c.tc : Thread Cert.ModQkvRefIdeal.nD Cert.ModQkvRefIdeal.τ).loc Cert.ModQkvRefIdeal.main_arg4)
      ∧ r.2.mem ((c.tc : Thread Cert.ModQkvRefIdeal.nD Cert.ModQkvRefIdeal.τ).loc Cert.ModQkvRefIdeal.main_arg5) = m ((c.tc : Thread Cert.ModQkvRefIdeal.nD Cert.ModQkvRefIdeal.τ).loc Cert.ModQkvRefIdeal.main_arg5))
      ∧ r.2.sem = fun _ => 0)

def quiescent_GNorm [hGNorm : Cert.GNorm.Facts] : Prop :=
  ∀ (m : (ℓ : Loc Cert.GNorm.nD Cert.GNorm.τ Cert.GNorm.sig) → Buf (Elt Bits) ℓ) (g : Dev Cert.GNorm.nD → PrngReg), Pre_GNorm m →
    θ_run (Cert.GNorm.defs (F := Bits)) (onTc (τ := Cert.GNorm.τ) (Cert.GNorm.main (F := Bits))) ⟨m, fun _ => 0, g⟩ (fun r => (∀ c : Dev Cert.GNorm.nD,
      r.2.mem ((c.tc : Thread Cert.GNorm.nD Cert.GNorm.τ).loc Cert.GNorm.main_arg0) = m ((c.tc : Thread Cert.GNorm.nD Cert.GNorm.τ).loc Cert.GNorm.main_arg0)
      ∧ r.2.mem ((c.tc : Thread Cert.GNorm.nD Cert.GNorm.τ).loc Cert.GNorm.main_arg1) = m ((c.tc : Thread Cert.GNorm.nD Cert.GNorm.τ).loc Cert.GNorm.main_arg1)
      ∧ r.2.mem ((c.tc : Thread Cert.GNorm.nD Cert.GNorm.τ).loc Cert.GNorm.main_arg2) = m ((c.tc : Thread Cert.GNorm.nD Cert.GNorm.τ).loc Cert.GNorm.main_arg2)
      ∧ r.2.mem ((c.tc : Thread Cert.GNorm.nD Cert.GNorm.τ).loc Cert.GNorm.main_arg3) = m ((c.tc : Thread Cert.GNorm.nD Cert.GNorm.τ).loc Cert.GNorm.main_arg3))
      ∧ r.2.sem = fun _ => 0)

def quiescent_GNormIdeal [hGNormIdeal : Cert.GNormIdeal.Facts] : Prop :=
  ∀ (m : (ℓ : Loc Cert.GNormIdeal.nD Cert.GNormIdeal.τ Cert.GNormIdeal.sig) → Buf (Elt Ideal) ℓ) (g : Dev Cert.GNormIdeal.nD → PrngReg), Pre_GNormIdeal m →
    θ_run (Cert.GNormIdeal.defs (F := Ideal)) (onTc (τ := Cert.GNormIdeal.τ) (Cert.GNormIdeal.main (F := Ideal))) ⟨m, fun _ => 0, g⟩ (fun r => (∀ c : Dev Cert.GNormIdeal.nD,
      r.2.mem ((c.tc : Thread Cert.GNormIdeal.nD Cert.GNormIdeal.τ).loc Cert.GNormIdeal.main_arg0) = m ((c.tc : Thread Cert.GNormIdeal.nD Cert.GNormIdeal.τ).loc Cert.GNormIdeal.main_arg0)
      ∧ r.2.mem ((c.tc : Thread Cert.GNormIdeal.nD Cert.GNormIdeal.τ).loc Cert.GNormIdeal.main_arg1) = m ((c.tc : Thread Cert.GNormIdeal.nD Cert.GNormIdeal.τ).loc Cert.GNormIdeal.main_arg1)
      ∧ r.2.mem ((c.tc : Thread Cert.GNormIdeal.nD Cert.GNormIdeal.τ).loc Cert.GNormIdeal.main_arg2) = m ((c.tc : Thread Cert.GNormIdeal.nD Cert.GNormIdeal.τ).loc Cert.GNormIdeal.main_arg2)
      ∧ r.2.mem ((c.tc : Thread Cert.GNormIdeal.nD Cert.GNormIdeal.τ).loc Cert.GNormIdeal.main_arg3) = m ((c.tc : Thread Cert.GNormIdeal.nD Cert.GNormIdeal.τ).loc Cert.GNormIdeal.main_arg3))
      ∧ r.2.sem = fun _ => 0)

def quiescent_GNormRefIdeal [hGNormRefIdeal : Cert.GNormRefIdeal.Facts] : Prop :=
  ∀ (m : (ℓ : Loc Cert.GNormRefIdeal.nD Cert.GNormRefIdeal.τ Cert.GNormRefIdeal.sig) → Buf (Elt Ideal) ℓ) (g : Dev Cert.GNormRefIdeal.nD → PrngReg), Pre_GNormRefIdeal m →
    θ_run (Cert.GNormRefIdeal.defs (F := Ideal)) (onTc (τ := Cert.GNormRefIdeal.τ) (Cert.GNormRefIdeal.main (F := Ideal))) ⟨m, fun _ => 0, g⟩ (fun r => (∀ c : Dev Cert.GNormRefIdeal.nD,
      r.2.mem ((c.tc : Thread Cert.GNormRefIdeal.nD Cert.GNormRefIdeal.τ).loc Cert.GNormRefIdeal.main_arg0) = m ((c.tc : Thread Cert.GNormRefIdeal.nD Cert.GNormRefIdeal.τ).loc Cert.GNormRefIdeal.main_arg0)
      ∧ r.2.mem ((c.tc : Thread Cert.GNormRefIdeal.nD Cert.GNormRefIdeal.τ).loc Cert.GNormRefIdeal.main_arg1) = m ((c.tc : Thread Cert.GNormRefIdeal.nD Cert.GNormRefIdeal.τ).loc Cert.GNormRefIdeal.main_arg1)
      ∧ r.2.mem ((c.tc : Thread Cert.GNormRefIdeal.nD Cert.GNormRefIdeal.τ).loc Cert.GNormRefIdeal.main_arg2) = m ((c.tc : Thread Cert.GNormRefIdeal.nD Cert.GNormRefIdeal.τ).loc Cert.GNormRefIdeal.main_arg2)
      ∧ r.2.mem ((c.tc : Thread Cert.GNormRefIdeal.nD Cert.GNormRefIdeal.τ).loc Cert.GNormRefIdeal.main_arg3) = m ((c.tc : Thread Cert.GNormRefIdeal.nD Cert.GNormRefIdeal.τ).loc Cert.GNormRefIdeal.main_arg3))
      ∧ r.2.sem = fun _ => 0)

def quiescent_GNormFwd [hGNormFwd : Cert.GNormFwd.Facts] : Prop :=
  ∀ (m : (ℓ : Loc Cert.GNormFwd.nD Cert.GNormFwd.τ Cert.GNormFwd.sig) → Buf (Elt Bits) ℓ) (g : Dev Cert.GNormFwd.nD → PrngReg), Pre_GNormFwd m →
    θ_run (Cert.GNormFwd.defs (F := Bits)) (onTc (τ := Cert.GNormFwd.τ) (Cert.GNormFwd.main (F := Bits))) ⟨m, fun _ => 0, g⟩ (fun r => (∀ c : Dev Cert.GNormFwd.nD,
      r.2.mem ((c.tc : Thread Cert.GNormFwd.nD Cert.GNormFwd.τ).loc Cert.GNormFwd.main_arg0) = m ((c.tc : Thread Cert.GNormFwd.nD Cert.GNormFwd.τ).loc Cert.GNormFwd.main_arg0)
      ∧ r.2.mem ((c.tc : Thread Cert.GNormFwd.nD Cert.GNormFwd.τ).loc Cert.GNormFwd.main_arg1) = m ((c.tc : Thread Cert.GNormFwd.nD Cert.GNormFwd.τ).loc Cert.GNormFwd.main_arg1)
      ∧ r.2.mem ((c.tc : Thread Cert.GNormFwd.nD Cert.GNormFwd.τ).loc Cert.GNormFwd.main_arg2) = m ((c.tc : Thread Cert.GNormFwd.nD Cert.GNormFwd.τ).loc Cert.GNormFwd.main_arg2))
      ∧ r.2.sem = fun _ => 0)

def quiescent_GNormFwdIdeal [hGNormFwdIdeal : Cert.GNormFwdIdeal.Facts] : Prop :=
  ∀ (m : (ℓ : Loc Cert.GNormFwdIdeal.nD Cert.GNormFwdIdeal.τ Cert.GNormFwdIdeal.sig) → Buf (Elt Ideal) ℓ) (g : Dev Cert.GNormFwdIdeal.nD → PrngReg), Pre_GNormFwdIdeal m →
    θ_run (Cert.GNormFwdIdeal.defs (F := Ideal)) (onTc (τ := Cert.GNormFwdIdeal.τ) (Cert.GNormFwdIdeal.main (F := Ideal))) ⟨m, fun _ => 0, g⟩ (fun r => (∀ c : Dev Cert.GNormFwdIdeal.nD,
      r.2.mem ((c.tc : Thread Cert.GNormFwdIdeal.nD Cert.GNormFwdIdeal.τ).loc Cert.GNormFwdIdeal.main_arg0) = m ((c.tc : Thread Cert.GNormFwdIdeal.nD Cert.GNormFwdIdeal.τ).loc Cert.GNormFwdIdeal.main_arg0)
      ∧ r.2.mem ((c.tc : Thread Cert.GNormFwdIdeal.nD Cert.GNormFwdIdeal.τ).loc Cert.GNormFwdIdeal.main_arg1) = m ((c.tc : Thread Cert.GNormFwdIdeal.nD Cert.GNormFwdIdeal.τ).loc Cert.GNormFwdIdeal.main_arg1)
      ∧ r.2.mem ((c.tc : Thread Cert.GNormFwdIdeal.nD Cert.GNormFwdIdeal.τ).loc Cert.GNormFwdIdeal.main_arg2) = m ((c.tc : Thread Cert.GNormFwdIdeal.nD Cert.GNormFwdIdeal.τ).loc Cert.GNormFwdIdeal.main_arg2))
      ∧ r.2.sem = fun _ => 0)

def quiescent_GNormFwdRefIdeal [hGNormFwdRefIdeal : Cert.GNormFwdRefIdeal.Facts] : Prop :=
  ∀ (m : (ℓ : Loc Cert.GNormFwdRefIdeal.nD Cert.GNormFwdRefIdeal.τ Cert.GNormFwdRefIdeal.sig) → Buf (Elt Ideal) ℓ) (g : Dev Cert.GNormFwdRefIdeal.nD → PrngReg), Pre_GNormFwdRefIdeal m →
    θ_run (Cert.GNormFwdRefIdeal.defs (F := Ideal)) (onTc (τ := Cert.GNormFwdRefIdeal.τ) (Cert.GNormFwdRefIdeal.main (F := Ideal))) ⟨m, fun _ => 0, g⟩ (fun r => (∀ c : Dev Cert.GNormFwdRefIdeal.nD,
      r.2.mem ((c.tc : Thread Cert.GNormFwdRefIdeal.nD Cert.GNormFwdRefIdeal.τ).loc Cert.GNormFwdRefIdeal.main_arg0) = m ((c.tc : Thread Cert.GNormFwdRefIdeal.nD Cert.GNormFwdRefIdeal.τ).loc Cert.GNormFwdRefIdeal.main_arg0)
      ∧ r.2.mem ((c.tc : Thread Cert.GNormFwdRefIdeal.nD Cert.GNormFwdRefIdeal.τ).loc Cert.GNormFwdRefIdeal.main_arg1) = m ((c.tc : Thread Cert.GNormFwdRefIdeal.nD Cert.GNormFwdRefIdeal.τ).loc Cert.GNormFwdRefIdeal.main_arg1)
      ∧ r.2.mem ((c.tc : Thread Cert.GNormFwdRefIdeal.nD Cert.GNormFwdRefIdeal.τ).loc Cert.GNormFwdRefIdeal.main_arg2) = m ((c.tc : Thread Cert.GNormFwdRefIdeal.nD Cert.GNormFwdRefIdeal.τ).loc Cert.GNormFwdRefIdeal.main_arg2))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanIdeal_pre_scan_finite [hScanIdeal : Cert.ScanIdeal.Facts] [hPre_scan_finite : Cert.Pre_scan_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_scan_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_ScanRefIdeal_pre_scan_finite [hScanRefIdeal : Cert.ScanRefIdeal.Facts] [hPre_scan_finite : Cert.Pre_scan_finite.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_scan_finite m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepIdeal_pre_prep_regular [hPrepIdeal : Cert.PrepIdeal.Facts] [hPre_prep_regular : Cert.Pre_prep_regular.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_regular m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_PrepRefIdeal_pre_prep_regular [hPrepRefIdeal : Cert.PrepRefIdeal.Facts] [hPre_prep_regular : Cert.Pre_prep_regular.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_regular m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1)
      ∧ r.2.mem ((c.tc : Thread Cert.FfnW.nD Cert.FfnW.τ).loc Cert.FfnW.main_arg2) = m ((c.tc : Thread Cert.FfnW.nD Cert.FfnW.τ).loc Cert.FfnW.main_arg2)
      ∧ r.2.mem ((c.tc : Thread Cert.FfnW.nD Cert.FfnW.τ).loc Cert.FfnW.main_arg3) = m ((c.tc : Thread Cert.FfnW.nD Cert.FfnW.τ).loc Cert.FfnW.main_arg3))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
      ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3))
      ∧ r.2.sem = fun _ => 0)

def quiescent_FfnWRefIdeal [hFfnWRefIdeal : Cert.FfnWRefIdeal.Facts] : Prop :=
  ∀ (m : (ℓ : Loc Cert.FfnWRefIdeal.nD Cert.FfnWRefIdeal.τ Cert.FfnWRefIdeal.sig) → Buf (Elt Ideal) ℓ) (g : Dev Cert.FfnWRefIdeal.nD → PrngReg), Pre_FfnWRefIdeal m →
    θ_run (Cert.FfnWRefIdeal.defs (F := Ideal)) (onTc (τ := Cert.FfnWRefIdeal.τ) (Cert.FfnWRefIdeal.main (F := Ideal))) ⟨m, fun _ => 0, g⟩ (fun r => (∀ c : Dev Cert.FfnWRefIdeal.nD,
      r.2.mem ((c.tc : Thread Cert.FfnWRefIdeal.nD Cert.FfnWRefIdeal.τ).loc Cert.FfnWRefIdeal.main_arg0) = m ((c.tc : Thread Cert.FfnWRefIdeal.nD Cert.FfnWRefIdeal.τ).loc Cert.FfnWRefIdeal.main_arg0)
      ∧ r.2.mem ((c.tc : Thread Cert.FfnWRefIdeal.nD Cert.FfnWRefIdeal.τ).loc Cert.FfnWRefIdeal.main_arg1) = m ((c.tc : Thread Cert.FfnWRefIdeal.nD Cert.FfnWRefIdeal.τ).loc Cert.FfnWRefIdeal.main_arg1)
      ∧ r.2.mem ((c.tc : Thread Cert.FfnWRefIdeal.nD Cert.FfnWRefIdeal.τ).loc Cert.FfnWRefIdeal.main_arg2) = m ((c.tc : Thread Cert.FfnWRefIdeal.nD Cert.FfnWRefIdeal.τ).loc Cert.FfnWRefIdeal.main_arg2)
      ∧ r.2.mem ((c.tc : Thread Cert.FfnWRefIdeal.nD Cert.FfnWRefIdeal.τ).loc Cert.FfnWRefIdeal.main_arg3) = m ((c.tc : Thread Cert.FfnWRefIdeal.nD Cert.FfnWRefIdeal.τ).loc Cert.FfnWRefIdeal.main_arg3))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ r.2.sem = fun _ => 0)

def quiescent_GradWRefIdeal [hGradWRefIdeal : Cert.GradWRefIdeal.Facts] : Prop :=
  ∀ (m : (ℓ : Loc Cert.GradWRefIdeal.nD Cert.GradWRefIdeal.τ Cert.GradWRefIdeal.sig) → Buf (Elt Ideal) ℓ) (g : Dev Cert.GradWRefIdeal.nD → PrngReg), Pre_GradWRefIdeal m →
    θ_run (Cert.GradWRefIdeal.defs (F := Ideal)) (onTc (τ := Cert.GradWRefIdeal.τ) (Cert.GradWRefIdeal.main (F := Ideal))) ⟨m, fun _ => 0, g⟩ (fun r => (∀ c : Dev Cert.GradWRefIdeal.nD,
      r.2.mem ((c.tc : Thread Cert.GradWRefIdeal.nD Cert.GradWRefIdeal.τ).loc Cert.GradWRefIdeal.main_arg0) = m ((c.tc : Thread Cert.GradWRefIdeal.nD Cert.GradWRefIdeal.τ).loc Cert.GradWRefIdeal.main_arg0)
      ∧ r.2.mem ((c.tc : Thread Cert.GradWRefIdeal.nD Cert.GradWRefIdeal.τ).loc Cert.GradWRefIdeal.main_arg1) = m ((c.tc : Thread Cert.GradWRefIdeal.nD Cert.GradWRefIdeal.τ).loc Cert.GradWRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8)
      ∧ r.2.mem ((c.tc : Thread Cert.Pre.nD Cert.Pre.τ).loc Cert.Pre.main_arg9) = m ((c.tc : Thread Cert.Pre.nD Cert.Pre.τ).loc Cert.Pre.main_arg9)
      ∧ r.2.mem ((c.tc : Thread Cert.Pre.nD Cert.Pre.τ).loc Cert.Pre.main_arg10) = m ((c.tc : Thread Cert.Pre.nD Cert.Pre.τ).loc Cert.Pre.main_arg10))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10))
      ∧ r.2.sem = fun _ => 0)

def preserves_LnSilu_LnSiluIdeal : Prop :=
  True

def algebraic_LnSiluIdeal_LnSiluRefIdeal [hLnSiluIdeal : Cert.LnSiluIdeal.Facts] [hLnSiluRefIdeal : Cert.LnSiluRefIdeal.Facts] : Prop :=
  ∀ (m : (ℓ : Loc Cert.LnSiluIdeal.nD Cert.LnSiluIdeal.τ Cert.LnSiluIdeal.sig) → Buf (Elt Ideal) ℓ) (g : Dev Cert.LnSiluIdeal.nD → PrngReg)
    (m' : (ℓ : Loc Cert.LnSiluRefIdeal.nD Cert.LnSiluRefIdeal.τ Cert.LnSiluRefIdeal.sig) → Buf (Elt Ideal) ℓ) (g' : Dev Cert.LnSiluRefIdeal.nD → PrngReg), Pre_LnSiluIdeal m →
    (∀ c : Dev Cert.LnSiluIdeal.nD,
      m' ((c.tc : Thread Cert.LnSiluRefIdeal.nD Cert.LnSiluRefIdeal.τ).loc Cert.LnSiluRefIdeal.main_arg0) = m ((c.tc : Thread Cert.LnSiluIdeal.nD Cert.LnSiluIdeal.τ).loc Cert.LnSiluIdeal.main_arg0)
      ∧ m' ((c.tc : Thread Cert.LnSiluRefIdeal.nD Cert.LnSiluRefIdeal.τ).loc Cert.LnSiluRefIdeal.main_arg1) = m ((c.tc : Thread Cert.LnSiluIdeal.nD Cert.LnSiluIdeal.τ).loc Cert.LnSiluIdeal.main_arg1)
      ∧ m' ((c.tc : Thread Cert.LnSiluRefIdeal.nD Cert.LnSiluRefIdeal.τ).loc Cert.LnSiluRefIdeal.main_arg2) = m ((c.tc : Thread Cert.LnSiluIdeal.nD Cert.LnSiluIdeal.τ).loc Cert.LnSiluIdeal.main_arg2)
      ∧ m' ((c.tc : Thread Cert.LnSiluRefIdeal.nD Cert.LnSiluRefIdeal.τ).loc Cert.LnSiluRefIdeal.main_arg3) = m ((c.tc : Thread Cert.LnSiluIdeal.nD Cert.LnSiluIdeal.τ).loc Cert.LnSiluIdeal.main_arg3)) →
    ∃ (v0 : (c : Dev Cert.LnSiluIdeal.nD) → Buf (Elt Ideal) ((c.tc : Thread Cert.LnSiluIdeal.nD Cert.LnSiluIdeal.τ).loc Cert.LnSiluIdeal.main_v2_0)) (v1 : (c : Dev Cert.LnSiluIdeal.nD) → Buf (Elt Ideal) ((c.tc : Thread Cert.LnSiluIdeal.nD Cert.LnSiluIdeal.τ).loc Cert.LnSiluIdeal.main_v2_1)),
      θ_run (Cert.LnSiluIdeal.defs (F := Ideal)) (onTc (τ := Cert.LnSiluIdeal.τ) (Cert.LnSiluIdeal.main (F := Ideal))) ⟨m, fun _ => 0, g⟩ (fun r => ∀ c : Dev Cert.LnSiluIdeal.nD,
          r.2.mem ((c.tc : Thread Cert.LnSiluIdeal.nD Cert.LnSiluIdeal.τ).loc Cert.LnSiluIdeal.main_v2_0) = v0 c
          ∧ r.2.mem ((c.tc : Thread Cert.LnSiluIdeal.nD Cert.LnSiluIdeal.τ).loc Cert.LnSiluIdeal.main_v2_1) = v1 c
          ∧ r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
          ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
          ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2)
          ∧ r.2.mem ((c.tc : Thread Cert.LnSiluIdeal.nD Cert.LnSiluIdeal.τ).loc Cert.LnSiluIdeal.main_arg3) = m ((c.tc : Thread Cert.LnSiluIdeal.nD Cert.LnSiluIdeal.τ).loc Cert.LnSiluIdeal.main_arg3))
      ∧ θ_run (Cert.LnSiluRefIdeal.defs (F := Ideal)) (onTc (τ := Cert.LnSiluRefIdeal.τ) (Cert.LnSiluRefIdeal.main (F := Ideal))) ⟨m', fun _ => 0, g'⟩ (fun r => ∀ c : Dev Cert.LnSiluRefIdeal.nD,
          r.2.mem ((c.tc : Thread Cert.LnSiluRefIdeal.nD Cert.LnSiluRefIdeal.τ).loc Cert.LnSiluRefIdeal.main_v57) = v0 c
          ∧ r.2.mem ((c.tc : Thread Cert.LnSiluRefIdeal.nD Cert.LnSiluRefIdeal.τ).loc Cert.LnSiluRefIdeal.main_v60) = v1 c
          ∧ r.2.mem ((c.tc : Thread Cert.LnSiluRefIdeal.nD Cert.LnSiluRefIdeal.τ).loc Cert.LnSiluRefIdeal.main_arg0) = m' ((c.tc : Thread Cert.LnSiluRefIdeal.nD Cert.LnSiluRefIdeal.τ).loc Cert.LnSiluRefIdeal.main_arg0)
          ∧ r.2.mem ((c.tc : Thread Cert.LnSiluRefIdeal.nD Cert.LnSiluRefIdeal.τ).loc Cert.LnSiluRefIdeal.main_arg1) = m' ((c.tc : Thread Cert.LnSiluRefIdeal.nD Cert.LnSiluRefIdeal.τ).loc Cert.LnSiluRefIdeal.main_arg1)
          ∧ r.2.mem ((c.tc : Thread Cert.LnSiluRefIdeal.nD Cert.LnSiluRefIdeal.τ).loc Cert.LnSiluRefIdeal.main_arg2) = m' ((c.tc : Thread Cert.LnSiluRefIdeal.nD Cert.LnSiluRefIdeal.τ).loc Cert.LnSiluRefIdeal.main_arg2)
          ∧ r.2.mem ((c.tc : Thread Cert.LnSiluRefIdeal.nD Cert.LnSiluRefIdeal.τ).loc Cert.LnSiluRefIdeal.main_arg3) = m' ((c.tc : Thread Cert.LnSiluRefIdeal.nD Cert.LnSiluRefIdeal.τ).loc Cert.LnSiluRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v73) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_ResGate_ResGateIdeal : Prop :=
  True

def algebraic_ResGateIdeal_ResGateRefIdeal [hResGateIdeal : Cert.ResGateIdeal.Facts] [hResGateRefIdeal : Cert.ResGateRefIdeal.Facts] : Prop :=
  ∀ (m : (ℓ : Loc Cert.ResGateIdeal.nD Cert.ResGateIdeal.τ Cert.ResGateIdeal.sig) → Buf (Elt Ideal) ℓ) (g : Dev Cert.ResGateIdeal.nD → PrngReg)
    (m' : (ℓ : Loc Cert.ResGateRefIdeal.nD Cert.ResGateRefIdeal.τ Cert.ResGateRefIdeal.sig) → Buf (Elt Ideal) ℓ) (g' : Dev Cert.ResGateRefIdeal.nD → PrngReg), Pre_ResGateIdeal m →
    (∀ c : Dev Cert.ResGateIdeal.nD,
      m' ((c.tc : Thread Cert.ResGateRefIdeal.nD Cert.ResGateRefIdeal.τ).loc Cert.ResGateRefIdeal.main_arg0) = m ((c.tc : Thread Cert.ResGateIdeal.nD Cert.ResGateIdeal.τ).loc Cert.ResGateIdeal.main_arg0)
      ∧ m' ((c.tc : Thread Cert.ResGateRefIdeal.nD Cert.ResGateRefIdeal.τ).loc Cert.ResGateRefIdeal.main_arg1) = m ((c.tc : Thread Cert.ResGateIdeal.nD Cert.ResGateIdeal.τ).loc Cert.ResGateIdeal.main_arg1)
      ∧ m' ((c.tc : Thread Cert.ResGateRefIdeal.nD Cert.ResGateRefIdeal.τ).loc Cert.ResGateRefIdeal.main_arg2) = m ((c.tc : Thread Cert.ResGateIdeal.nD Cert.ResGateIdeal.τ).loc Cert.ResGateIdeal.main_arg2)
      ∧ m' ((c.tc : Thread Cert.ResGateRefIdeal.nD Cert.ResGateRefIdeal.τ).loc Cert.ResGateRefIdeal.main_arg3) = m ((c.tc : Thread Cert.ResGateIdeal.nD Cert.ResGateIdeal.τ).loc Cert.ResGateIdeal.main_arg3)
      ∧ m' ((c.tc : Thread Cert.ResGateRefIdeal.nD Cert.ResGateRefIdeal.τ).loc Cert.ResGateRefIdeal.main_arg4) = m ((c.tc : Thread Cert.ResGateIdeal.nD Cert.ResGateIdeal.τ).loc Cert.ResGateIdeal.main_arg4)
      ∧ m' ((c.tc : Thread Cert.ResGateRefIdeal.nD Cert.ResGateRefIdeal.τ).loc Cert.ResGateRefIdeal.main_arg5) = m ((c.tc : Thread Cert.ResGateIdeal.nD Cert.ResGateIdeal.τ).loc Cert.ResGateIdeal.main_arg5)) →
    ∃ (v0 : (c : Dev Cert.ResGateIdeal.nD) → Buf (Elt Ideal) ((c.tc : Thread Cert.ResGateIdeal.nD Cert.ResGateIdeal.τ).loc Cert.ResGateIdeal.main_v4_0)) (v1 : (c : Dev Cert.ResGateIdeal.nD) → Buf (Elt Ideal) ((c.tc : Thread Cert.ResGateIdeal.nD Cert.ResGateIdeal.τ).loc Cert.ResGateIdeal.main_v4_1)) (v2 : (c : Dev Cert.ResGateIdeal.nD) → Buf (Elt Ideal) ((c.tc : Thread Cert.ResGateIdeal.nD Cert.ResGateIdeal.τ).loc Cert.ResGateIdeal.main_v4_2)) (v3 : (c : Dev Cert.ResGateIdeal.nD) → Buf (Elt Ideal) ((c.tc : Thread Cert.ResGateIdeal.nD Cert.ResGateIdeal.τ).loc Cert.ResGateIdeal.main_v4_3)),
      θ_run (Cert.ResGateIdeal.defs (F := Ideal)) (onTc (τ := Cert.ResGateIdeal.τ) (Cert.ResGateIdeal.main (F := Ideal))) ⟨m, fun _ => 0, g⟩ (fun r => ∀ c : Dev Cert.ResGateIdeal.nD,
          r.2.mem ((c.tc : Thread Cert.ResGateIdeal.nD Cert.ResGateIdeal.τ).loc Cert.ResGateIdeal.main_v4_0) = v0 c
          ∧ r.2.mem ((c.tc : Thread Cert.ResGateIdeal.nD Cert.ResGateIdeal.τ).loc Cert.ResGateIdeal.main_v4_1) = v1 c
          ∧ r.2.mem ((c.tc : Thread Cert.ResGateIdeal.nD Cert.ResGateIdeal.τ).loc Cert.ResGateIdeal.main_v4_2) = v2 c
          ∧ r.2.mem ((c.tc : Thread Cert.ResGateIdeal.nD Cert.ResGateIdeal.τ).loc Cert.ResGateIdeal.main_v4_3) = v3 c
          ∧ r.2.mem ((c.tc : Thread Cert.ResGateIdeal.nD Cert.ResGateIdeal.τ).loc Cert.ResGateIdeal.main_arg0) = m ((c.tc : Thread Cert.ResGateIdeal.nD Cert.ResGateIdeal.τ).loc Cert.ResGateIdeal.main_arg0)
          ∧ r.2.mem ((c.tc : Thread Cert.ResGateIdeal.nD Cert.ResGateIdeal.τ).loc Cert.ResGateIdeal.main_arg1) = m ((c.tc : Thread Cert.ResGateIdeal.nD Cert.ResGateIdeal.τ).loc Cert.ResGateIdeal.main_arg1)
          ∧ r.2.mem ((c.tc : Thread Cert.ResGateIdeal.nD Cert.ResGateIdeal.τ).loc Cert.ResGateIdeal.main_arg2) = m ((c.tc : Thread Cert.ResGateIdeal.nD Cert.ResGateIdeal.τ).loc Cert.ResGateIdeal.main_arg2)
          ∧ r.2.mem ((c.tc : Thread Cert.ResGateIdeal.nD Cert.ResGateIdeal.τ).loc Cert.ResGateIdeal.main_arg3) = m ((c.tc : Thread Cert.ResGateIdeal.nD Cert.ResGateIdeal.τ).loc Cert.ResGateIdeal.main_arg3)
          ∧ r.2.mem ((c.tc : Thread Cert.ResGateIdeal.nD Cert.ResGateIdeal.τ).loc Cert.ResGateIdeal.main_arg4) = m ((c.tc : Thread Cert.ResGateIdeal.nD Cert.ResGateIdeal.τ).loc Cert.ResGateIdeal.main_arg4)
          ∧ r.2.mem ((c.tc : Thread Cert.ResGateIdeal.nD Cert.ResGateIdeal.τ).loc Cert.ResGateIdeal.main_arg5) = m ((c.tc : Thread Cert.ResGateIdeal.nD Cert.ResGateIdeal.τ).loc Cert.ResGateIdeal.main_arg5))
      ∧ θ_run (Cert.ResGateRefIdeal.defs (F := Ideal)) (onTc (τ := Cert.ResGateRefIdeal.τ) (Cert.ResGateRefIdeal.main (F := Ideal))) ⟨m', fun _ => 0, g'⟩ (fun r => ∀ c : Dev Cert.ResGateRefIdeal.nD,
          r.2.mem ((c.tc : Thread Cert.ResGateRefIdeal.nD Cert.ResGateRefIdeal.τ).loc Cert.ResGateRefIdeal.main_v27) = v0 c
          ∧ r.2.mem ((c.tc : Thread Cert.ResGateRefIdeal.nD Cert.ResGateRefIdeal.τ).loc Cert.ResGateRefIdeal.main_v28) = v1 c
          ∧ r.2.mem ((c.tc : Thread Cert.ResGateRefIdeal.nD Cert.ResGateRefIdeal.τ).loc Cert.ResGateRefIdeal.main_v29) = v2 c
          ∧ r.2.mem ((c.tc : Thread Cert.ResGateRefIdeal.nD Cert.ResGateRefIdeal.τ).loc Cert.ResGateRefIdeal.main_v30) = v3 c
          ∧ r.2.mem ((c.tc : Thread Cert.ResGateRefIdeal.nD Cert.ResGateRefIdeal.τ).loc Cert.ResGateRefIdeal.main_arg0) = m' ((c.tc : Thread Cert.ResGateRefIdeal.nD Cert.ResGateRefIdeal.τ).loc Cert.ResGateRefIdeal.main_arg0)
          ∧ r.2.mem ((c.tc : Thread Cert.ResGateRefIdeal.nD Cert.ResGateRefIdeal.τ).loc Cert.ResGateRefIdeal.main_arg1) = m' ((c.tc : Thread Cert.ResGateRefIdeal.nD Cert.ResGateRefIdeal.τ).loc Cert.ResGateRefIdeal.main_arg1)
          ∧ r.2.mem ((c.tc : Thread Cert.ResGateRefIdeal.nD Cert.ResGateRefIdeal.τ).loc Cert.ResGateRefIdeal.main_arg2) = m' ((c.tc : Thread Cert.ResGateRefIdeal.nD Cert.ResGateRefIdeal.τ).loc Cert.ResGateRefIdeal.main_arg2)
          ∧ r.2.mem ((c.tc : Thread Cert.ResGateRefIdeal.nD Cert.ResGateRefIdeal.τ).loc Cert.ResGateRefIdeal.main_arg3) = m' ((c.tc : Thread Cert.ResGateRefIdeal.nD Cert.ResGateRefIdeal.τ).loc Cert.ResGateRefIdeal.main_arg3)
          ∧ r.2.mem ((c.tc : Thread Cert.ResGateRefIdeal.nD Cert.ResGateRefIdeal.τ).loc Cert.ResGateRefIdeal.main_arg4) = m' ((c.tc : Thread Cert.ResGateRefIdeal.nD Cert.ResGateRefIdeal.τ).loc Cert.ResGateRefIdeal.main_arg4)
          ∧ r.2.mem ((c.tc : Thread Cert.ResGateRefIdeal.nD Cert.ResGateRefIdeal.τ).loc Cert.ResGateRefIdeal.main_arg5) = m' ((c.tc : Thread Cert.ResGateRefIdeal.nD Cert.ResGateRefIdeal.τ).loc Cert.ResGateRefIdeal.main_arg5))

def preserves_ResFwd_ResFwdIdeal : Prop :=
  True

def algebraic_ResFwdIdeal_ResFwdRefIdeal [hResFwdIdeal : Cert.ResFwdIdeal.Facts] [hResFwdRefIdeal : Cert.ResFwdRefIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg)
    (m' : (ℓ : Loc Cert.ResFwdRefIdeal.nD Cert.ResFwdRefIdeal.τ Cert.ResFwdRefIdeal.sig) → Buf (Elt Ideal) ℓ) (g' : Dev Cert.ResFwdRefIdeal.nD → PrngReg), Pre_ResFwdIdeal m →
    (∀ c : Dev Cert.ResFwdIdeal.nD,
      m' ((c.tc : Thread Cert.ResFwdRefIdeal.nD Cert.ResFwdRefIdeal.τ).loc Cert.ResFwdRefIdeal.main_arg0) = m ((c.tc : Thread Cert.ResFwdIdeal.nD Cert.ResFwdIdeal.τ).loc Cert.ResFwdIdeal.main_arg0)
      ∧ m' ((c.tc : Thread Cert.ResFwdRefIdeal.nD Cert.ResFwdRefIdeal.τ).loc Cert.ResFwdRefIdeal.main_arg1) = m ((c.tc : Thread Cert.ResFwdIdeal.nD Cert.ResFwdIdeal.τ).loc Cert.ResFwdIdeal.main_arg1)
      ∧ m' ((c.tc : Thread Cert.ResFwdRefIdeal.nD Cert.ResFwdRefIdeal.τ).loc Cert.ResFwdRefIdeal.main_arg2) = m ((c.tc : Thread Cert.ResFwdIdeal.nD Cert.ResFwdIdeal.τ).loc Cert.ResFwdIdeal.main_arg2)
      ∧ m' ((c.tc : Thread Cert.ResFwdRefIdeal.nD Cert.ResFwdRefIdeal.τ).loc Cert.ResFwdRefIdeal.main_arg3) = m ((c.tc : Thread Cert.ResFwdIdeal.nD Cert.ResFwdIdeal.τ).loc Cert.ResFwdIdeal.main_arg3)
      ∧ m' ((c.tc : Thread Cert.ResFwdRefIdeal.nD Cert.ResFwdRefIdeal.τ).loc Cert.ResFwdRefIdeal.main_arg4) = m ((c.tc : Thread Cert.ResFwdIdeal.nD Cert.ResFwdIdeal.τ).loc Cert.ResFwdIdeal.main_arg4)) →
    ∃ (v0 : (c : Dev Cert.ResFwdIdeal.nD) → Buf (Elt Ideal) ((c.tc : Thread Cert.ResFwdIdeal.nD Cert.ResFwdIdeal.τ).loc Cert.ResFwdIdeal.main_v3_0)) (v1 : (c : Dev Cert.ResFwdIdeal.nD) → Buf (Elt Ideal) ((c.tc : Thread Cert.ResFwdIdeal.nD Cert.ResFwdIdeal.τ).loc Cert.ResFwdIdeal.main_v3_1)),
      θ_run (Cert.ResFwdIdeal.defs (F := Ideal)) (onTc (τ := Cert.ResFwdIdeal.τ) (Cert.ResFwdIdeal.main (F := Ideal))) ⟨m, fun _ => 0, g⟩ (fun r => ∀ c : Dev Cert.ResFwdIdeal.nD,
          r.2.mem ((c.tc : Thread Cert.ResFwdIdeal.nD Cert.ResFwdIdeal.τ).loc Cert.ResFwdIdeal.main_v3_0) = v0 c
          ∧ r.2.mem ((c.tc : Thread Cert.ResFwdIdeal.nD Cert.ResFwdIdeal.τ).loc Cert.ResFwdIdeal.main_v3_1) = v1 c
          ∧ r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
          ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
          ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2)
          ∧ r.2.mem ((c.tc : Thread Cert.ResFwdIdeal.nD Cert.ResFwdIdeal.τ).loc Cert.ResFwdIdeal.main_arg3) = m ((c.tc : Thread Cert.ResFwdIdeal.nD Cert.ResFwdIdeal.τ).loc Cert.ResFwdIdeal.main_arg3)
          ∧ r.2.mem ((c.tc : Thread Cert.ResFwdIdeal.nD Cert.ResFwdIdeal.τ).loc Cert.ResFwdIdeal.main_arg4) = m ((c.tc : Thread Cert.ResFwdIdeal.nD Cert.ResFwdIdeal.τ).loc Cert.ResFwdIdeal.main_arg4))
      ∧ θ_run (Cert.ResFwdRefIdeal.defs (F := Ideal)) (onTc (τ := Cert.ResFwdRefIdeal.τ) (Cert.ResFwdRefIdeal.main (F := Ideal))) ⟨m', fun _ => 0, g'⟩ (fun r => ∀ c : Dev Cert.ResFwdRefIdeal.nD,
          r.2.mem ((c.tc : Thread Cert.ResFwdRefIdeal.nD Cert.ResFwdRefIdeal.τ).loc Cert.ResFwdRefIdeal.main_v13) = v0 c
          ∧ r.2.mem ((c.tc : Thread Cert.ResFwdRefIdeal.nD Cert.ResFwdRefIdeal.τ).loc Cert.ResFwdRefIdeal.main_v14) = v1 c
          ∧ r.2.mem ((c.tc : Thread Cert.ResFwdRefIdeal.nD Cert.ResFwdRefIdeal.τ).loc Cert.ResFwdRefIdeal.main_arg0) = m' ((c.tc : Thread Cert.ResFwdRefIdeal.nD Cert.ResFwdRefIdeal.τ).loc Cert.ResFwdRefIdeal.main_arg0)
          ∧ r.2.mem ((c.tc : Thread Cert.ResFwdRefIdeal.nD Cert.ResFwdRefIdeal.τ).loc Cert.ResFwdRefIdeal.main_arg1) = m' ((c.tc : Thread Cert.ResFwdRefIdeal.nD Cert.ResFwdRefIdeal.τ).loc Cert.ResFwdRefIdeal.main_arg1)
          ∧ r.2.mem ((c.tc : Thread Cert.ResFwdRefIdeal.nD Cert.ResFwdRefIdeal.τ).loc Cert.ResFwdRefIdeal.main_arg2) = m' ((c.tc : Thread Cert.ResFwdRefIdeal.nD Cert.ResFwdRefIdeal.τ).loc Cert.ResFwdRefIdeal.main_arg2)
          ∧ r.2.mem ((c.tc : Thread Cert.ResFwdRefIdeal.nD Cert.ResFwdRefIdeal.τ).loc Cert.ResFwdRefIdeal.main_arg3) = m' ((c.tc : Thread Cert.ResFwdRefIdeal.nD Cert.ResFwdRefIdeal.τ).loc Cert.ResFwdRefIdeal.main_arg3)
          ∧ r.2.mem ((c.tc : Thread Cert.ResFwdRefIdeal.nD Cert.ResFwdRefIdeal.τ).loc Cert.ResFwdRefIdeal.main_arg4) = m' ((c.tc : Thread Cert.ResFwdRefIdeal.nD Cert.ResFwdRefIdeal.τ).loc Cert.ResFwdRefIdeal.main_arg4))

def preserves_ModGlu_ModGluIdeal : Prop :=
  True

def algebraic_ModGluIdeal_ModGluRefIdeal [hModGluIdeal : Cert.ModGluIdeal.Facts] [hModGluRefIdeal : Cert.ModGluRefIdeal.Facts] : Prop :=
  ∀ (m : (ℓ : Loc Cert.ModGluIdeal.nD Cert.ModGluIdeal.τ Cert.ModGluIdeal.sig) → Buf (Elt Ideal) ℓ) (g : Dev Cert.ModGluIdeal.nD → PrngReg)
    (m' : (ℓ : Loc Cert.ModGluRefIdeal.nD Cert.ModGluRefIdeal.τ Cert.ModGluRefIdeal.sig) → Buf (Elt Ideal) ℓ) (g' : Dev Cert.ModGluRefIdeal.nD → PrngReg), Pre_ModGluIdeal m →
    (∀ c : Dev Cert.ModGluIdeal.nD,
      m' ((c.tc : Thread Cert.ModGluRefIdeal.nD Cert.ModGluRefIdeal.τ).loc Cert.ModGluRefIdeal.main_arg0) = m ((c.tc : Thread Cert.ModGluIdeal.nD Cert.ModGluIdeal.τ).loc Cert.ModGluIdeal.main_arg0)
      ∧ m' ((c.tc : Thread Cert.ModGluRefIdeal.nD Cert.ModGluRefIdeal.τ).loc Cert.ModGluRefIdeal.main_arg1) = m ((c.tc : Thread Cert.ModGluIdeal.nD Cert.ModGluIdeal.τ).loc Cert.ModGluIdeal.main_arg1)
      ∧ m' ((c.tc : Thread Cert.ModGluRefIdeal.nD Cert.ModGluRefIdeal.τ).loc Cert.ModGluRefIdeal.main_arg2) = m ((c.tc : Thread Cert.ModGluIdeal.nD Cert.ModGluIdeal.τ).loc Cert.ModGluIdeal.main_arg2)
      ∧ m' ((c.tc : Thread Cert.ModGluRefIdeal.nD Cert.ModGluRefIdeal.τ).loc Cert.ModGluRefIdeal.main_arg3) = m ((c.tc : Thread Cert.ModGluIdeal.nD Cert.ModGluIdeal.τ).loc Cert.ModGluIdeal.main_arg3)
      ∧ m' ((c.tc : Thread Cert.ModGluRefIdeal.nD Cert.ModGluRefIdeal.τ).loc Cert.ModGluRefIdeal.main_arg4) = m ((c.tc : Thread Cert.ModGluIdeal.nD Cert.ModGluIdeal.τ).loc Cert.ModGluIdeal.main_arg4)
      ∧ m' ((c.tc : Thread Cert.ModGluRefIdeal.nD Cert.ModGluRefIdeal.τ).loc Cert.ModGluRefIdeal.main_arg5) = m ((c.tc : Thread Cert.ModGluIdeal.nD Cert.ModGluIdeal.τ).loc Cert.ModGluIdeal.main_arg5)) →
    ∃ (v0 : (c : Dev Cert.ModGluIdeal.nD) → Buf (Elt Ideal) ((c.tc : Thread Cert.ModGluIdeal.nD Cert.ModGluIdeal.τ).loc Cert.ModGluIdeal.main_v6_0)) (v1 : (c : Dev Cert.ModGluIdeal.nD) → Buf (Elt Ideal) ((c.tc : Thread Cert.ModGluIdeal.nD Cert.ModGluIdeal.τ).loc Cert.ModGluIdeal.main_v6_1)) (v2 : (c : Dev Cert.ModGluIdeal.nD) → Buf (Elt Ideal) ((c.tc : Thread Cert.ModGluIdeal.nD Cert.ModGluIdeal.τ).loc Cert.ModGluIdeal.main_v6_2)),
      θ_run (Cert.ModGluIdeal.defs (F := Ideal)) (onTc (τ := Cert.ModGluIdeal.τ) (Cert.ModGluIdeal.main (F := Ideal))) ⟨m, fun _ => 0, g⟩ (fun r => ∀ c : Dev Cert.ModGluIdeal.nD,
          r.2.mem ((c.tc : Thread Cert.ModGluIdeal.nD Cert.ModGluIdeal.τ).loc Cert.ModGluIdeal.main_v6_0) = v0 c
          ∧ r.2.mem ((c.tc : Thread Cert.ModGluIdeal.nD Cert.ModGluIdeal.τ).loc Cert.ModGluIdeal.main_v6_1) = v1 c
          ∧ r.2.mem ((c.tc : Thread Cert.ModGluIdeal.nD Cert.ModGluIdeal.τ).loc Cert.ModGluIdeal.main_v6_2) = v2 c
          ∧ r.2.mem ((c.tc : Thread Cert.ModGluIdeal.nD Cert.ModGluIdeal.τ).loc Cert.ModGluIdeal.main_arg0) = m ((c.tc : Thread Cert.ModGluIdeal.nD Cert.ModGluIdeal.τ).loc Cert.ModGluIdeal.main_arg0)
          ∧ r.2.mem ((c.tc : Thread Cert.ModGluIdeal.nD Cert.ModGluIdeal.τ).loc Cert.ModGluIdeal.main_arg1) = m ((c.tc : Thread Cert.ModGluIdeal.nD Cert.ModGluIdeal.τ).loc Cert.ModGluIdeal.main_arg1)
          ∧ r.2.mem ((c.tc : Thread Cert.ModGluIdeal.nD Cert.ModGluIdeal.τ).loc Cert.ModGluIdeal.main_arg2) = m ((c.tc : Thread Cert.ModGluIdeal.nD Cert.ModGluIdeal.τ).loc Cert.ModGluIdeal.main_arg2)
          ∧ r.2.mem ((c.tc : Thread Cert.ModGluIdeal.nD Cert.ModGluIdeal.τ).loc Cert.ModGluIdeal.main_arg3) = m ((c.tc : Thread Cert.ModGluIdeal.nD Cert.ModGluIdeal.τ).loc Cert.ModGluIdeal.main_arg3)
          ∧ r.2.mem ((c.tc : Thread Cert.ModGluIdeal.nD Cert.ModGluIdeal.τ).loc Cert.ModGluIdeal.main_arg4) = m ((c.tc : Thread Cert.ModGluIdeal.nD Cert.ModGluIdeal.τ).loc Cert.ModGluIdeal.main_arg4)
          ∧ r.2.mem ((c.tc : Thread Cert.ModGluIdeal.nD Cert.ModGluIdeal.τ).loc Cert.ModGluIdeal.main_arg5) = m ((c.tc : Thread Cert.ModGluIdeal.nD Cert.ModGluIdeal.τ).loc Cert.ModGluIdeal.main_arg5))
      ∧ θ_run (Cert.ModGluRefIdeal.defs (F := Ideal)) (onTc (τ := Cert.ModGluRefIdeal.τ) (Cert.ModGluRefIdeal.main (F := Ideal))) ⟨m', fun _ => 0, g'⟩ (fun r => ∀ c : Dev Cert.ModGluRefIdeal.nD,
          r.2.mem ((c.tc : Thread Cert.ModGluRefIdeal.nD Cert.ModGluRefIdeal.τ).loc Cert.ModGluRefIdeal.main_v63) = v0 c
          ∧ r.2.mem ((c.tc : Thread Cert.ModGluRefIdeal.nD Cert.ModGluRefIdeal.τ).loc Cert.ModGluRefIdeal.main_v41) = v1 c
          ∧ r.2.mem ((c.tc : Thread Cert.ModGluRefIdeal.nD Cert.ModGluRefIdeal.τ).loc Cert.ModGluRefIdeal.main_v64) = v2 c
          ∧ r.2.mem ((c.tc : Thread Cert.ModGluRefIdeal.nD Cert.ModGluRefIdeal.τ).loc Cert.ModGluRefIdeal.main_arg0) = m' ((c.tc : Thread Cert.ModGluRefIdeal.nD Cert.ModGluRefIdeal.τ).loc Cert.ModGluRefIdeal.main_arg0)
          ∧ r.2.mem ((c.tc : Thread Cert.ModGluRefIdeal.nD Cert.ModGluRefIdeal.τ).loc Cert.ModGluRefIdeal.main_arg1) = m' ((c.tc : Thread Cert.ModGluRefIdeal.nD Cert.ModGluRefIdeal.τ).loc Cert.ModGluRefIdeal.main_arg1)
          ∧ r.2.mem ((c.tc : Thread Cert.ModGluRefIdeal.nD Cert.ModGluRefIdeal.τ).loc Cert.ModGluRefIdeal.main_arg2) = m' ((c.tc : Thread Cert.ModGluRefIdeal.nD Cert.ModGluRefIdeal.τ).loc Cert.ModGluRefIdeal.main_arg2)
          ∧ r.2.mem ((c.tc : Thread Cert.ModGluRefIdeal.nD Cert.ModGluRefIdeal.τ).loc Cert.ModGluRefIdeal.main_arg3) = m' ((c.tc : Thread Cert.ModGluRefIdeal.nD Cert.ModGluRefIdeal.τ).loc Cert.ModGluRefIdeal.main_arg3)
          ∧ r.2.mem ((c.tc : Thread Cert.ModGluRefIdeal.nD Cert.ModGluRefIdeal.τ).loc Cert.ModGluRefIdeal.main_arg4) = m' ((c.tc : Thread Cert.ModGluRefIdeal.nD Cert.ModGluRefIdeal.τ).loc Cert.ModGluRefIdeal.main_arg4)
          ∧ r.2.mem ((c.tc : Thread Cert.ModGluRefIdeal.nD Cert.ModGluRefIdeal.τ).loc Cert.ModGluRefIdeal.main_arg5) = m' ((c.tc : Thread Cert.ModGluRefIdeal.nD Cert.ModGluRefIdeal.τ).loc Cert.ModGluRefIdeal.main_arg5))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)
      ∧ m' ((c.tc : Thread Cert.GluFwdRefIdeal.nD Cert.GluFwdRefIdeal.τ).loc Cert.GluFwdRefIdeal.main_arg3) = m ((c.tc : Thread Cert.GluFwdIdeal.nD Cert.GluFwdIdeal.τ).loc Cert.GluFwdIdeal.main_arg3)
      ∧ m' ((c.tc : Thread Cert.GluFwdRefIdeal.nD Cert.GluFwdRefIdeal.τ).loc Cert.GluFwdRefIdeal.main_arg4) = m ((c.tc : Thread Cert.GluFwdIdeal.nD Cert.GluFwdIdeal.τ).loc Cert.GluFwdIdeal.main_arg4)) →
    ∃ (v0 : (c : Dev Cert.GluFwdIdeal.nD) → Buf (Elt Ideal) ((c.tc : Thread Cert.GluFwdIdeal.nD Cert.GluFwdIdeal.τ).loc Cert.GluFwdIdeal.main_v7_0)) (v1 : (c : Dev Cert.GluFwdIdeal.nD) → Buf (Elt Ideal) ((c.tc : Thread Cert.GluFwdIdeal.nD Cert.GluFwdIdeal.τ).loc Cert.GluFwdIdeal.main_v7_1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v7_0) = v0 c
          ∧ r.2.mem ((c.tc : Thread Cert.GluFwdIdeal.nD Cert.GluFwdIdeal.τ).loc Cert.GluFwdIdeal.main_v7_1) = v1 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
          ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v25) = v0 c
          ∧ r.2.mem ((c.tc : Thread Cert.GluFwdRefIdeal.nD Cert.GluFwdRefIdeal.τ).loc Cert.GluFwdRefIdeal.main_v29) = v1 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2)
          ∧ r.2.mem ((c.tc : Thread Cert.GluFwdRefIdeal.nD Cert.GluFwdRefIdeal.τ).loc Cert.GluFwdRefIdeal.main_arg3) = m' ((c.tc : Thread Cert.GluFwdRefIdeal.nD Cert.GluFwdRefIdeal.τ).loc Cert.GluFwdRefIdeal.main_arg3)
          ∧ r.2.mem ((c.tc : Thread Cert.GluFwdRefIdeal.nD Cert.GluFwdRefIdeal.τ).loc Cert.GluFwdRefIdeal.main_arg4) = m' ((c.tc : Thread Cert.GluFwdRefIdeal.nD Cert.GluFwdRefIdeal.τ).loc Cert.GluFwdRefIdeal.main_arg4))

def preserves_ModQkv_ModQkvIdeal : Prop :=
  True

def algebraic_ModQkvIdeal_ModQkvRefIdeal [hModQkvIdeal : Cert.ModQkvIdeal.Facts] [hModQkvRefIdeal : Cert.ModQkvRefIdeal.Facts] : Prop :=
  ∀ (m : (ℓ : Loc Cert.ModQkvIdeal.nD Cert.ModQkvIdeal.τ Cert.ModQkvIdeal.sig) → Buf (Elt Ideal) ℓ) (g : Dev Cert.ModQkvIdeal.nD → PrngReg)
    (m' : (ℓ : Loc Cert.ModQkvRefIdeal.nD Cert.ModQkvRefIdeal.τ Cert.ModQkvRefIdeal.sig) → Buf (Elt Ideal) ℓ) (g' : Dev Cert.ModQkvRefIdeal.nD → PrngReg), Pre_ModQkvIdeal m →
    (∀ c : Dev Cert.ModQkvIdeal.nD,
      m' ((c.tc : Thread Cert.ModQkvRefIdeal.nD Cert.ModQkvRefIdeal.τ).loc Cert.ModQkvRefIdeal.main_arg0) = m ((c.tc : Thread Cert.ModQkvIdeal.nD Cert.ModQkvIdeal.τ).loc Cert.ModQkvIdeal.main_arg0)
      ∧ m' ((c.tc : Thread Cert.ModQkvRefIdeal.nD Cert.ModQkvRefIdeal.τ).loc Cert.ModQkvRefIdeal.main_arg1) = m ((c.tc : Thread Cert.ModQkvIdeal.nD Cert.ModQkvIdeal.τ).loc Cert.ModQkvIdeal.main_arg1)
      ∧ m' ((c.tc : Thread Cert.ModQkvRefIdeal.nD Cert.ModQkvRefIdeal.τ).loc Cert.ModQkvRefIdeal.main_arg2) = m ((c.tc : Thread Cert.ModQkvIdeal.nD Cert.ModQkvIdeal.τ).loc Cert.ModQkvIdeal.main_arg2)
      ∧ m' ((c.tc : Thread Cert.ModQkvRefIdeal.nD Cert.ModQkvRefIdeal.τ).loc Cert.ModQkvRefIdeal.main_arg3) = m ((c.tc : Thread Cert.ModQkvIdeal.nD Cert.ModQkvIdeal.τ).loc Cert.ModQkvIdeal.main_arg3)
      ∧ m' ((c.tc : Thread Cert.ModQkvRefIdeal.nD Cert.ModQkvRefIdeal.τ).loc Cert.ModQkvRefIdeal.main_arg4) = m ((c.tc : Thread Cert.ModQkvIdeal.nD Cert.ModQkvIdeal.τ).loc Cert.ModQkvIdeal.main_arg4)
      ∧ m' ((c.tc : Thread Cert.ModQkvRefIdeal.nD Cert.ModQkvRefIdeal.τ).loc Cert.ModQkvRefIdeal.main_arg5) = m ((c.tc : Thread Cert.ModQkvIdeal.nD Cert.ModQkvIdeal.τ).loc Cert.ModQkvIdeal.main_arg5)) →
    ∃ (v0 : (c : Dev Cert.ModQkvIdeal.nD) → Buf (Elt Ideal) ((c.tc : Thread Cert.ModQkvIdeal.nD Cert.ModQkvIdeal.τ).loc Cert.ModQkvIdeal.main_v10_0)) (v1 : (c : Dev Cert.ModQkvIdeal.nD) → Buf (Elt Ideal) ((c.tc : Thread Cert.ModQkvIdeal.nD Cert.ModQkvIdeal.τ).loc Cert.ModQkvIdeal.main_v10_1)) (v2 : (c : Dev Cert.ModQkvIdeal.nD) → Buf (Elt Ideal) ((c.tc : Thread Cert.ModQkvIdeal.nD Cert.ModQkvIdeal.τ).loc Cert.ModQkvIdeal.main_v10_2)),
      θ_run (Cert.ModQkvIdeal.defs (F := Ideal)) (onTc (τ := Cert.ModQkvIdeal.τ) (Cert.ModQkvIdeal.main (F := Ideal))) ⟨m, fun _ => 0, g⟩ (fun r => ∀ c : Dev Cert.ModQkvIdeal.nD,
          r.2.mem ((c.tc : Thread Cert.ModQkvIdeal.nD Cert.ModQkvIdeal.τ).loc Cert.ModQkvIdeal.main_v10_0) = v0 c
          ∧ r.2.mem ((c.tc : Thread Cert.ModQkvIdeal.nD Cert.ModQkvIdeal.τ).loc Cert.ModQkvIdeal.main_v10_1) = v1 c
          ∧ r.2.mem ((c.tc : Thread Cert.ModQkvIdeal.nD Cert.ModQkvIdeal.τ).loc Cert.ModQkvIdeal.main_v10_2) = v2 c
          ∧ r.2.mem ((c.tc : Thread Cert.ModQkvIdeal.nD Cert.ModQkvIdeal.τ).loc Cert.ModQkvIdeal.main_arg0) = m ((c.tc : Thread Cert.ModQkvIdeal.nD Cert.ModQkvIdeal.τ).loc Cert.ModQkvIdeal.main_arg0)
          ∧ r.2.mem ((c.tc : Thread Cert.ModQkvIdeal.nD Cert.ModQkvIdeal.τ).loc Cert.ModQkvIdeal.main_arg1) = m ((c.tc : Thread Cert.ModQkvIdeal.nD Cert.ModQkvIdeal.τ).loc Cert.ModQkvIdeal.main_arg1)
          ∧ r.2.mem ((c.tc : Thread Cert.ModQkvIdeal.nD Cert.ModQkvIdeal.τ).loc Cert.ModQkvIdeal.main_arg2) = m ((c.tc : Thread Cert.ModQkvIdeal.nD Cert.ModQkvIdeal.τ).loc Cert.ModQkvIdeal.main_arg2)
          ∧ r.2.mem ((c.tc : Thread Cert.ModQkvIdeal.nD Cert.ModQkvIdeal.τ).loc Cert.ModQkvIdeal.main_arg3) = m ((c.tc : Thread Cert.ModQkvIdeal.nD Cert.ModQkvIdeal.τ).loc Cert.ModQkvIdeal.main_arg3)
          ∧ r.2.mem ((c.tc : Thread Cert.ModQkvIdeal.nD Cert.ModQkvIdeal.τ).loc Cert.ModQkvIdeal.main_arg4) = m ((c.tc : Thread Cert.ModQkvIdeal.nD Cert.ModQkvIdeal.τ).loc Cert.ModQkvIdeal.main_arg4)
          ∧ r.2.mem ((c.tc : Thread Cert.ModQkvIdeal.nD Cert.ModQkvIdeal.τ).loc Cert.ModQkvIdeal.main_arg5) = m ((c.tc : Thread Cert.ModQkvIdeal.nD Cert.ModQkvIdeal.τ).loc Cert.ModQkvIdeal.main_arg5))
      ∧ θ_run (Cert.ModQkvRefIdeal.defs (F := Ideal)) (onTc (τ := Cert.ModQkvRefIdeal.τ) (Cert.ModQkvRefIdeal.main (F := Ideal))) ⟨m', fun _ => 0, g'⟩ (fun r => ∀ c : Dev Cert.ModQkvRefIdeal.nD,
          r.2.mem ((c.tc : Thread Cert.ModQkvRefIdeal.nD Cert.ModQkvRefIdeal.τ).loc Cert.ModQkvRefIdeal.main_v63) = v0 c
          ∧ r.2.mem ((c.tc : Thread Cert.ModQkvRefIdeal.nD Cert.ModQkvRefIdeal.τ).loc Cert.ModQkvRefIdeal.main_v41) = v1 c
          ∧ r.2.mem ((c.tc : Thread Cert.ModQkvRefIdeal.nD Cert.ModQkvRefIdeal.τ).loc Cert.ModQkvRefIdeal.main_v64) = v2 c
          ∧ r.2.mem ((c.tc : Thread Cert.ModQkvRefIdeal.nD Cert.ModQkvRefIdeal.τ).loc Cert.ModQkvRefIdeal.main_arg0) = m' ((c.tc : Thread Cert.ModQkvRefIdeal.nD Cert.ModQkvRefIdeal.τ).loc Cert.ModQkvRefIdeal.main_arg0)
          ∧ r.2.mem ((c.tc : Thread Cert.ModQkvRefIdeal.nD Cert.ModQkvRefIdeal.τ).loc Cert.ModQkvRefIdeal.main_arg1) = m' ((c.tc : Thread Cert.ModQkvRefIdeal.nD Cert.ModQkvRefIdeal.τ).loc Cert.ModQkvRefIdeal.main_arg1)
          ∧ r.2.mem ((c.tc : Thread Cert.ModQkvRefIdeal.nD Cert.ModQkvRefIdeal.τ).loc Cert.ModQkvRefIdeal.main_arg2) = m' ((c.tc : Thread Cert.ModQkvRefIdeal.nD Cert.ModQkvRefIdeal.τ).loc Cert.ModQkvRefIdeal.main_arg2)
          ∧ r.2.mem ((c.tc : Thread Cert.ModQkvRefIdeal.nD Cert.ModQkvRefIdeal.τ).loc Cert.ModQkvRefIdeal.main_arg3) = m' ((c.tc : Thread Cert.ModQkvRefIdeal.nD Cert.ModQkvRefIdeal.τ).loc Cert.ModQkvRefIdeal.main_arg3)
          ∧ r.2.mem ((c.tc : Thread Cert.ModQkvRefIdeal.nD Cert.ModQkvRefIdeal.τ).loc Cert.ModQkvRefIdeal.main_arg4) = m' ((c.tc : Thread Cert.ModQkvRefIdeal.nD Cert.ModQkvRefIdeal.τ).loc Cert.ModQkvRefIdeal.main_arg4)
          ∧ r.2.mem ((c.tc : Thread Cert.ModQkvRefIdeal.nD Cert.ModQkvRefIdeal.τ).loc Cert.ModQkvRefIdeal.main_arg5) = m' ((c.tc : Thread Cert.ModQkvRefIdeal.nD Cert.ModQkvRefIdeal.τ).loc Cert.ModQkvRefIdeal.main_arg5))

def preserves_GNorm_GNormIdeal : Prop :=
  True

def algebraic_GNormIdeal_GNormRefIdeal [hGNormIdeal : Cert.GNormIdeal.Facts] [hGNormRefIdeal : Cert.GNormRefIdeal.Facts] : Prop :=
  ∀ (m : (ℓ : Loc Cert.GNormIdeal.nD Cert.GNormIdeal.τ Cert.GNormIdeal.sig) → Buf (Elt Ideal) ℓ) (g : Dev Cert.GNormIdeal.nD → PrngReg)
    (m' : (ℓ : Loc Cert.GNormRefIdeal.nD Cert.GNormRefIdeal.τ Cert.GNormRefIdeal.sig) → Buf (Elt Ideal) ℓ) (g' : Dev Cert.GNormRefIdeal.nD → PrngReg), Pre_GNormIdeal m →
    (∀ c : Dev Cert.GNormIdeal.nD,
      m' ((c.tc : Thread Cert.GNormRefIdeal.nD Cert.GNormRefIdeal.τ).loc Cert.GNormRefIdeal.main_arg0) = m ((c.tc : Thread Cert.GNormIdeal.nD Cert.GNormIdeal.τ).loc Cert.GNormIdeal.main_arg0)
      ∧ m' ((c.tc : Thread Cert.GNormRefIdeal.nD Cert.GNormRefIdeal.τ).loc Cert.GNormRefIdeal.main_arg1) = m ((c.tc : Thread Cert.GNormIdeal.nD Cert.GNormIdeal.τ).loc Cert.GNormIdeal.main_arg1)
      ∧ m' ((c.tc : Thread Cert.GNormRefIdeal.nD Cert.GNormRefIdeal.τ).loc Cert.GNormRefIdeal.main_arg2) = m ((c.tc : Thread Cert.GNormIdeal.nD Cert.GNormIdeal.τ).loc Cert.GNormIdeal.main_arg2)
      ∧ m' ((c.tc : Thread Cert.GNormRefIdeal.nD Cert.GNormRefIdeal.τ).loc Cert.GNormRefIdeal.main_arg3) = m ((c.tc : Thread Cert.GNormIdeal.nD Cert.GNormIdeal.τ).loc Cert.GNormIdeal.main_arg3)) →
    ∃ (v0 : (c : Dev Cert.GNormIdeal.nD) → Buf (Elt Ideal) ((c.tc : Thread Cert.GNormIdeal.nD Cert.GNormIdeal.τ).loc Cert.GNormIdeal.main_v2_0)) (v1 : (c : Dev Cert.GNormIdeal.nD) → Buf (Elt Ideal) ((c.tc : Thread Cert.GNormIdeal.nD Cert.GNormIdeal.τ).loc Cert.GNormIdeal.main_v2_1)) (v2 : (c : Dev Cert.GNormIdeal.nD) → Buf (Elt Ideal) ((c.tc : Thread Cert.GNormIdeal.nD Cert.GNormIdeal.τ).loc Cert.GNormIdeal.main_v2_2)),
      θ_run (Cert.GNormIdeal.defs (F := Ideal)) (onTc (τ := Cert.GNormIdeal.τ) (Cert.GNormIdeal.main (F := Ideal))) ⟨m, fun _ => 0, g⟩ (fun r => ∀ c : Dev Cert.GNormIdeal.nD,
          r.2.mem ((c.tc : Thread Cert.GNormIdeal.nD Cert.GNormIdeal.τ).loc Cert.GNormIdeal.main_v2_0) = v0 c
          ∧ r.2.mem ((c.tc : Thread Cert.GNormIdeal.nD Cert.GNormIdeal.τ).loc Cert.GNormIdeal.main_v2_1) = v1 c
          ∧ r.2.mem ((c.tc : Thread Cert.GNormIdeal.nD Cert.GNormIdeal.τ).loc Cert.GNormIdeal.main_v2_2) = v2 c
          ∧ r.2.mem ((c.tc : Thread Cert.GNormIdeal.nD Cert.GNormIdeal.τ).loc Cert.GNormIdeal.main_arg0) = m ((c.tc : Thread Cert.GNormIdeal.nD Cert.GNormIdeal.τ).loc Cert.GNormIdeal.main_arg0)
          ∧ r.2.mem ((c.tc : Thread Cert.GNormIdeal.nD Cert.GNormIdeal.τ).loc Cert.GNormIdeal.main_arg1) = m ((c.tc : Thread Cert.GNormIdeal.nD Cert.GNormIdeal.τ).loc Cert.GNormIdeal.main_arg1)
          ∧ r.2.mem ((c.tc : Thread Cert.GNormIdeal.nD Cert.GNormIdeal.τ).loc Cert.GNormIdeal.main_arg2) = m ((c.tc : Thread Cert.GNormIdeal.nD Cert.GNormIdeal.τ).loc Cert.GNormIdeal.main_arg2)
          ∧ r.2.mem ((c.tc : Thread Cert.GNormIdeal.nD Cert.GNormIdeal.τ).loc Cert.GNormIdeal.main_arg3) = m ((c.tc : Thread Cert.GNormIdeal.nD Cert.GNormIdeal.τ).loc Cert.GNormIdeal.main_arg3))
      ∧ θ_run (Cert.GNormRefIdeal.defs (F := Ideal)) (onTc (τ := Cert.GNormRefIdeal.τ) (Cert.GNormRefIdeal.main (F := Ideal))) ⟨m', fun _ => 0, g'⟩ (fun r => ∀ c : Dev Cert.GNormRefIdeal.nD,
          r.2.mem ((c.tc : Thread Cert.GNormRefIdeal.nD Cert.GNormRefIdeal.τ).loc Cert.GNormRefIdeal.main_v47) = v0 c
          ∧ r.2.mem ((c.tc : Thread Cert.GNormRefIdeal.nD Cert.GNormRefIdeal.τ).loc Cert.GNormRefIdeal.main_v48) = v1 c
          ∧ r.2.mem ((c.tc : Thread Cert.GNormRefIdeal.nD Cert.GNormRefIdeal.τ).loc Cert.GNormRefIdeal.main_v49) = v2 c
          ∧ r.2.mem ((c.tc : Thread Cert.GNormRefIdeal.nD Cert.GNormRefIdeal.τ).loc Cert.GNormRefIdeal.main_arg0) = m' ((c.tc : Thread Cert.GNormRefIdeal.nD Cert.GNormRefIdeal.τ).loc Cert.GNormRefIdeal.main_arg0)
          ∧ r.2.mem ((c.tc : Thread Cert.GNormRefIdeal.nD Cert.GNormRefIdeal.τ).loc Cert.GNormRefIdeal.main_arg1) = m' ((c.tc : Thread Cert.GNormRefIdeal.nD Cert.GNormRefIdeal.τ).loc Cert.GNormRefIdeal.main_arg1)
          ∧ r.2.mem ((c.tc : Thread Cert.GNormRefIdeal.nD Cert.GNormRefIdeal.τ).loc Cert.GNormRefIdeal.main_arg2) = m' ((c.tc : Thread Cert.GNormRefIdeal.nD Cert.GNormRefIdeal.τ).loc Cert.GNormRefIdeal.main_arg2)
          ∧ r.2.mem ((c.tc : Thread Cert.GNormRefIdeal.nD Cert.GNormRefIdeal.τ).loc Cert.GNormRefIdeal.main_arg3) = m' ((c.tc : Thread Cert.GNormRefIdeal.nD Cert.GNormRefIdeal.τ).loc Cert.GNormRefIdeal.main_arg3))

def preserves_GNormFwd_GNormFwdIdeal : Prop :=
  True

def algebraic_GNormFwdIdeal_GNormFwdRefIdeal [hGNormFwdIdeal : Cert.GNormFwdIdeal.Facts] [hGNormFwdRefIdeal : Cert.GNormFwdRefIdeal.Facts] : Prop :=
  ∀ (m : (ℓ : Loc Cert.GNormFwdIdeal.nD Cert.GNormFwdIdeal.τ Cert.GNormFwdIdeal.sig) → Buf (Elt Ideal) ℓ) (g : Dev Cert.GNormFwdIdeal.nD → PrngReg)
    (m' : (ℓ : Loc Cert.GNormFwdRefIdeal.nD Cert.GNormFwdRefIdeal.τ Cert.GNormFwdRefIdeal.sig) → Buf (Elt Ideal) ℓ) (g' : Dev Cert.GNormFwdRefIdeal.nD → PrngReg), Pre_GNormFwdIdeal m →
    (∀ c : Dev Cert.GNormFwdIdeal.nD,
      m' ((c.tc : Thread Cert.GNormFwdRefIdeal.nD Cert.GNormFwdRefIdeal.τ).loc Cert.GNormFwdRefIdeal.main_arg0) = m ((c.tc : Thread Cert.GNormFwdIdeal.nD Cert.GNormFwdIdeal.τ).loc Cert.GNormFwdIdeal.main_arg0)
      ∧ m' ((c.tc : Thread Cert.GNormFwdRefIdeal.nD Cert.GNormFwdRefIdeal.τ).loc Cert.GNormFwdRefIdeal.main_arg1) = m ((c.tc : Thread Cert.GNormFwdIdeal.nD Cert.GNormFwdIdeal.τ).loc Cert.GNormFwdIdeal.main_arg1)
      ∧ m' ((c.tc : Thread Cert.GNormFwdRefIdeal.nD Cert.GNormFwdRefIdeal.τ).loc Cert.GNormFwdRefIdeal.main_arg2) = m ((c.tc : Thread Cert.GNormFwdIdeal.nD Cert.GNormFwdIdeal.τ).loc Cert.GNormFwdIdeal.main_arg2)) →
    ∃ (v0 : (c : Dev Cert.GNormFwdIdeal.nD) → Buf (Elt Ideal) ((c.tc : Thread Cert.GNormFwdIdeal.nD Cert.GNormFwdIdeal.τ).loc Cert.GNormFwdIdeal.main_v2)),
      θ_run (Cert.GNormFwdIdeal.defs (F := Ideal)) (onTc (τ := Cert.GNormFwdIdeal.τ) (Cert.GNormFwdIdeal.main (F := Ideal))) ⟨m, fun _ => 0, g⟩ (fun r => ∀ c : Dev Cert.GNormFwdIdeal.nD,
          r.2.mem ((c.tc : Thread Cert.GNormFwdIdeal.nD Cert.GNormFwdIdeal.τ).loc Cert.GNormFwdIdeal.main_v2) = v0 c
          ∧ r.2.mem ((c.tc : Thread Cert.GNormFwdIdeal.nD Cert.GNormFwdIdeal.τ).loc Cert.GNormFwdIdeal.main_arg0) = m ((c.tc : Thread Cert.GNormFwdIdeal.nD Cert.GNormFwdIdeal.τ).loc Cert.GNormFwdIdeal.main_arg0)
          ∧ r.2.mem ((c.tc : Thread Cert.GNormFwdIdeal.nD Cert.GNormFwdIdeal.τ).loc Cert.GNormFwdIdeal.main_arg1) = m ((c.tc : Thread Cert.GNormFwdIdeal.nD Cert.GNormFwdIdeal.τ).loc Cert.GNormFwdIdeal.main_arg1)
          ∧ r.2.mem ((c.tc : Thread Cert.GNormFwdIdeal.nD Cert.GNormFwdIdeal.τ).loc Cert.GNormFwdIdeal.main_arg2) = m ((c.tc : Thread Cert.GNormFwdIdeal.nD Cert.GNormFwdIdeal.τ).loc Cert.GNormFwdIdeal.main_arg2))
      ∧ θ_run (Cert.GNormFwdRefIdeal.defs (F := Ideal)) (onTc (τ := Cert.GNormFwdRefIdeal.τ) (Cert.GNormFwdRefIdeal.main (F := Ideal))) ⟨m', fun _ => 0, g'⟩ (fun r => ∀ c : Dev Cert.GNormFwdRefIdeal.nD,
          r.2.mem ((c.tc : Thread Cert.GNormFwdRefIdeal.nD Cert.GNormFwdRefIdeal.τ).loc Cert.GNormFwdRefIdeal.main_v19) = v0 c
          ∧ r.2.mem ((c.tc : Thread Cert.GNormFwdRefIdeal.nD Cert.GNormFwdRefIdeal.τ).loc Cert.GNormFwdRefIdeal.main_arg0) = m' ((c.tc : Thread Cert.GNormFwdRefIdeal.nD Cert.GNormFwdRefIdeal.τ).loc Cert.GNormFwdRefIdeal.main_arg0)
          ∧ r.2.mem ((c.tc : Thread Cert.GNormFwdRefIdeal.nD Cert.GNormFwdRefIdeal.τ).loc Cert.GNormFwdRefIdeal.main_arg1) = m' ((c.tc : Thread Cert.GNormFwdRefIdeal.nD Cert.GNormFwdRefIdeal.τ).loc Cert.GNormFwdRefIdeal.main_arg1)
          ∧ r.2.mem ((c.tc : Thread Cert.GNormFwdRefIdeal.nD Cert.GNormFwdRefIdeal.τ).loc Cert.GNormFwdRefIdeal.main_arg2) = m' ((c.tc : Thread Cert.GNormFwdRefIdeal.nD Cert.GNormFwdRefIdeal.τ).loc Cert.GNormFwdRefIdeal.main_arg2))

def preserves_Scan_ScanIdeal : Prop :=
  True

def algebraic_ScanIdeal_ScanRefIdeal_pre_scan_finite [hScanIdeal : Cert.ScanIdeal.Facts] [hScanRefIdeal : Cert.ScanRefIdeal.Facts] [hPre_scan_finite : Cert.Pre_scan_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_scan_finite m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)) →
    ∃ (v0 : (c : Dev Cert.ScanIdeal.nD) → Buf (Elt Ideal) ((c.tc : Thread Cert.ScanIdeal.nD Cert.ScanIdeal.τ).loc Cert.ScanIdeal.main_v7_0)) (v1 : (c : Dev Cert.ScanIdeal.nD) → Buf (Elt Ideal) ((c.tc : Thread Cert.ScanIdeal.nD Cert.ScanIdeal.τ).loc Cert.ScanIdeal.main_v8_0)) (v2 : (c : Dev Cert.ScanIdeal.nD) → Buf (Elt Ideal) ((c.tc : Thread Cert.ScanIdeal.nD Cert.ScanIdeal.τ).loc Cert.ScanIdeal.main_v8_1)) (v3 : (c : Dev Cert.ScanIdeal.nD) → Buf (Elt Ideal) ((c.tc : Thread Cert.ScanIdeal.nD Cert.ScanIdeal.τ).loc Cert.ScanIdeal.main_v8_2)) (v4 : (c : Dev Cert.ScanIdeal.nD) → Buf (Elt Ideal) ((c.tc : Thread Cert.ScanIdeal.nD Cert.ScanIdeal.τ).loc Cert.ScanIdeal.main_v8_3)) (v5 : (c : Dev Cert.ScanIdeal.nD) → Buf (Elt Ideal) ((c.tc : Thread Cert.ScanIdeal.nD Cert.ScanIdeal.τ).loc Cert.ScanIdeal.main_v8_4)) (v6 : (c : Dev Cert.ScanIdeal.nD) → Buf (Elt Ideal) ((c.tc : Thread Cert.ScanIdeal.nD Cert.ScanIdeal.τ).loc Cert.ScanIdeal.main_v8_5)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v7_0) = v0 c
          ∧ r.2.mem ((c.tc : Thread Cert.ScanIdeal.nD Cert.ScanIdeal.τ).loc Cert.ScanIdeal.main_v8_0) = v1 c
          ∧ r.2.mem ((c.tc : Thread Cert.ScanIdeal.nD Cert.ScanIdeal.τ).loc Cert.ScanIdeal.main_v8_1) = v2 c
          ∧ r.2.mem ((c.tc : Thread Cert.ScanIdeal.nD Cert.ScanIdeal.τ).loc Cert.ScanIdeal.main_v8_2) = v3 c
          ∧ r.2.mem ((c.tc : Thread Cert.ScanIdeal.nD Cert.ScanIdeal.τ).loc Cert.ScanIdeal.main_v8_3) = v4 c
          ∧ r.2.mem ((c.tc : Thread Cert.ScanIdeal.nD Cert.ScanIdeal.τ).loc Cert.ScanIdeal.main_v8_4) = v5 c
          ∧ r.2.mem ((c.tc : Thread Cert.ScanIdeal.nD Cert.ScanIdeal.τ).loc Cert.ScanIdeal.main_v8_5) = v6 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v18) = v0 c
          ∧ r.2.mem ((c.tc : Thread Cert.ScanRefIdeal.nD Cert.ScanRefIdeal.τ).loc Cert.ScanRefIdeal.main_v36) = v1 c
          ∧ r.2.mem ((c.tc : Thread Cert.ScanRefIdeal.nD Cert.ScanRefIdeal.τ).loc Cert.ScanRefIdeal.main_v38) = v2 c
          ∧ r.2.mem ((c.tc : Thread Cert.ScanRefIdeal.nD Cert.ScanRefIdeal.τ).loc Cert.ScanRefIdeal.main_v40) = v3 c
          ∧ r.2.mem ((c.tc : Thread Cert.ScanRefIdeal.nD Cert.ScanRefIdeal.τ).loc Cert.ScanRefIdeal.main_v32) = v4 c
          ∧ r.2.mem ((c.tc : Thread Cert.ScanRefIdeal.nD Cert.ScanRefIdeal.τ).loc Cert.ScanRefIdeal.main_v34) = v5 c
          ∧ r.2.mem ((c.tc : Thread Cert.ScanRefIdeal.nD Cert.ScanRefIdeal.τ).loc Cert.ScanRefIdeal.main_v43) = v6 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6))

def preserves_Prep_PrepIdeal : Prop :=
  True

def algebraic_PrepIdeal_PrepRefIdeal_pre_prep_regular [hPrepIdeal : Cert.PrepIdeal.Facts] [hPrepRefIdeal : Cert.PrepRefIdeal.Facts] [hPre_prep_regular : Cert.Pre_prep_regular.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_regular m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v5_0)) (v1 : (c : Dev Cert.PrepIdeal.nD) → Buf (Elt Ideal) ((c.tc : Thread Cert.PrepIdeal.nD Cert.PrepIdeal.τ).loc Cert.PrepIdeal.main_v5_1)) (v2 : (c : Dev Cert.PrepIdeal.nD) → Buf (Elt Ideal) ((c.tc : Thread Cert.PrepIdeal.nD Cert.PrepIdeal.τ).loc Cert.PrepIdeal.main_v5_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5_0) = v0 c
          ∧ r.2.mem ((c.tc : Thread Cert.PrepIdeal.nD Cert.PrepIdeal.τ).loc Cert.PrepIdeal.main_v5_1) = v1 c
          ∧ r.2.mem ((c.tc : Thread Cert.PrepIdeal.nD Cert.PrepIdeal.τ).loc Cert.PrepIdeal.main_v5_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v72) = v0 c
          ∧ r.2.mem ((c.tc : Thread Cert.PrepRefIdeal.nD Cert.PrepRefIdeal.τ).loc Cert.PrepRefIdeal.main_v74) = v1 c
          ∧ r.2.mem ((c.tc : Thread Cert.PrepRefIdeal.nD Cert.PrepRefIdeal.τ).loc Cert.PrepRefIdeal.main_v78) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)
      ∧ m' ((c.tc : Thread Cert.AdaBwdRefIdeal.nD Cert.AdaBwdRefIdeal.τ).loc Cert.AdaBwdRefIdeal.main_arg3) = m ((c.tc : Thread Cert.AdaBwdIdeal.nD Cert.AdaBwdIdeal.τ).loc Cert.AdaBwdIdeal.main_arg3)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v9) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v1)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v1) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v5) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)) (v3 : (c : Dev Cert.FfnFwdIdeal.nD) → Buf (Elt Ideal) ((c.tc : Thread Cert.FfnFwdIdeal.nD Cert.FfnFwdIdeal.τ).loc Cert.FfnFwdIdeal.main_v6_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_v6_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v40) = v0 c
          ∧ r.2.mem ((c.tc : Thread Cert.FfnFwdRefIdeal.nD Cert.FfnFwdRefIdeal.τ).loc Cert.FfnFwdRefIdeal.main_v41) = v1 c
          ∧ r.2.mem ((c.tc : Thread Cert.FfnFwdRefIdeal.nD Cert.FfnFwdRefIdeal.τ).loc Cert.FfnFwdRefIdeal.main_v44) = v2 c
          ∧ r.2.mem ((c.tc : Thread Cert.FfnFwdRefIdeal.nD Cert.FfnFwdRefIdeal.τ).loc Cert.FfnFwdRefIdeal.main_v45) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_FfnW_FfnWIdeal : Prop :=
  True

def algebraic_FfnWIdeal_FfnWRefIdeal [hFfnWIdeal : Cert.FfnWIdeal.Facts] [hFfnWRefIdeal : Cert.FfnWRefIdeal.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWRefIdeal.nD Cert.FfnWRefIdeal.τ Cert.FfnWRefIdeal.sig) → Buf (Elt Ideal) ℓ) (g' : Dev Cert.FfnWRefIdeal.nD → PrngReg), Pre_FfnWIdeal m →
    (∀ c : Dev Cert.FfnWIdeal.nD,
      m' ((c.tc : Thread Cert.FfnWRefIdeal.nD Cert.FfnWRefIdeal.τ).loc Cert.FfnWRefIdeal.main_arg0) = m ((c.tc : Thread Cert.FfnWIdeal.nD Cert.FfnWIdeal.τ).loc Cert.FfnWIdeal.main_arg0)
      ∧ m' ((c.tc : Thread Cert.FfnWRefIdeal.nD Cert.FfnWRefIdeal.τ).loc Cert.FfnWRefIdeal.main_arg1) = m ((c.tc : Thread Cert.FfnWIdeal.nD Cert.FfnWIdeal.τ).loc Cert.FfnWIdeal.main_arg1)
      ∧ m' ((c.tc : Thread Cert.FfnWRefIdeal.nD Cert.FfnWRefIdeal.τ).loc Cert.FfnWRefIdeal.main_arg2) = m ((c.tc : Thread Cert.FfnWIdeal.nD Cert.FfnWIdeal.τ).loc Cert.FfnWIdeal.main_arg2)
      ∧ m' ((c.tc : Thread Cert.FfnWRefIdeal.nD Cert.FfnWRefIdeal.τ).loc Cert.FfnWRefIdeal.main_arg3) = m ((c.tc : Thread Cert.FfnWIdeal.nD Cert.FfnWIdeal.τ).loc Cert.FfnWIdeal.main_arg3)) →
    ∃ (v0 : (c : Dev Cert.FfnWIdeal.nD) → Buf (Elt Ideal) ((c.tc : Thread Cert.FfnWIdeal.nD Cert.FfnWIdeal.τ).loc Cert.FfnWIdeal.main_v8_0)) (v1 : (c : Dev Cert.FfnWIdeal.nD) → Buf (Elt Ideal) ((c.tc : Thread Cert.FfnWIdeal.nD Cert.FfnWIdeal.τ).loc Cert.FfnWIdeal.main_v8_1)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v8_0) = v0 c
          ∧ r.2.mem ((c.tc : Thread Cert.FfnWIdeal.nD Cert.FfnWIdeal.τ).loc Cert.FfnWIdeal.main_v8_1) = v1 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
          ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
          ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3))
      ∧ θ_run (Cert.FfnWRefIdeal.defs (F := Ideal)) (onTc (τ := Cert.FfnWRefIdeal.τ) (Cert.FfnWRefIdeal.main (F := Ideal))) ⟨m', fun _ => 0, g'⟩ (fun r => ∀ c : Dev Cert.FfnWRefIdeal.nD,
          r.2.mem ((c.tc : Thread Cert.FfnWRefIdeal.nD Cert.FfnWRefIdeal.τ).loc Cert.FfnWRefIdeal.main_v10) = v0 c
          ∧ r.2.mem ((c.tc : Thread Cert.FfnWRefIdeal.nD Cert.FfnWRefIdeal.τ).loc Cert.FfnWRefIdeal.main_v12) = v1 c
          ∧ r.2.mem ((c.tc : Thread Cert.FfnWRefIdeal.nD Cert.FfnWRefIdeal.τ).loc Cert.FfnWRefIdeal.main_arg0) = m' ((c.tc : Thread Cert.FfnWRefIdeal.nD Cert.FfnWRefIdeal.τ).loc Cert.FfnWRefIdeal.main_arg0)
          ∧ r.2.mem ((c.tc : Thread Cert.FfnWRefIdeal.nD Cert.FfnWRefIdeal.τ).loc Cert.FfnWRefIdeal.main_arg1) = m' ((c.tc : Thread Cert.FfnWRefIdeal.nD Cert.FfnWRefIdeal.τ).loc Cert.FfnWRefIdeal.main_arg1)
          ∧ r.2.mem ((c.tc : Thread Cert.FfnWRefIdeal.nD Cert.FfnWRefIdeal.τ).loc Cert.FfnWRefIdeal.main_arg2) = m' ((c.tc : Thread Cert.FfnWRefIdeal.nD Cert.FfnWRefIdeal.τ).loc Cert.FfnWRefIdeal.main_arg2)
          ∧ r.2.mem ((c.tc : Thread Cert.FfnWRefIdeal.nD Cert.FfnWRefIdeal.τ).loc Cert.FfnWRefIdeal.main_arg3) = m' ((c.tc : Thread Cert.FfnWRefIdeal.nD Cert.FfnWRefIdeal.τ).loc Cert.FfnWRefIdeal.main_arg3))

def preserves_GradW_GradWIdeal : Prop :=
  True

def algebraic_GradWIdeal_GradWRefIdeal [hGradWIdeal : Cert.GradWIdeal.Facts] [hGradWRefIdeal : Cert.GradWRefIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWRefIdeal.nD Cert.GradWRefIdeal.τ Cert.GradWRefIdeal.sig) → Buf (Elt Ideal) ℓ) (g' : Dev Cert.GradWRefIdeal.nD → PrngReg), Pre_GradWIdeal m →
    (∀ c : Dev Cert.GradWIdeal.nD,
      m' ((c.tc : Thread Cert.GradWRefIdeal.nD Cert.GradWRefIdeal.τ).loc Cert.GradWRefIdeal.main_arg0) = m ((c.tc : Thread Cert.GradWIdeal.nD Cert.GradWIdeal.τ).loc Cert.GradWIdeal.main_arg0)
      ∧ m' ((c.tc : Thread Cert.GradWRefIdeal.nD Cert.GradWRefIdeal.τ).loc Cert.GradWRefIdeal.main_arg1) = m ((c.tc : Thread Cert.GradWIdeal.nD Cert.GradWIdeal.τ).loc Cert.GradWIdeal.main_arg1)) →
    ∃ (v0 : (c : Dev Cert.GradWIdeal.nD) → Buf (Elt Ideal) ((c.tc : Thread Cert.GradWIdeal.nD Cert.GradWIdeal.τ).loc Cert.GradWIdeal.main_v2)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v2) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ θ_run (Cert.GradWRefIdeal.defs (F := Ideal)) (onTc (τ := Cert.GradWRefIdeal.τ) (Cert.GradWRefIdeal.main (F := Ideal))) ⟨m', fun _ => 0, g'⟩ (fun r => ∀ c : Dev Cert.GradWRefIdeal.nD,
          r.2.mem ((c.tc : Thread Cert.GradWRefIdeal.nD Cert.GradWRefIdeal.τ).loc Cert.GradWRefIdeal.main_v5) = v0 c
          ∧ r.2.mem ((c.tc : Thread Cert.GradWRefIdeal.nD Cert.GradWRefIdeal.τ).loc Cert.GradWRefIdeal.main_arg0) = m' ((c.tc : Thread Cert.GradWRefIdeal.nD Cert.GradWRefIdeal.τ).loc Cert.GradWRefIdeal.main_arg0)
          ∧ r.2.mem ((c.tc : Thread Cert.GradWRefIdeal.nD Cert.GradWRefIdeal.τ).loc Cert.GradWRefIdeal.main_arg1) = m' ((c.tc : Thread Cert.GradWRefIdeal.nD Cert.GradWRefIdeal.τ).loc Cert.GradWRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg0) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Pre_PreIdeal : Prop :=
  True

def Claim : Prop :=
  ∃ (hLnSilu : Cert.LnSilu.Facts) (hLnSiluIdeal : Cert.LnSiluIdeal.Facts) (hLnSiluRefIdeal : Cert.LnSiluRefIdeal.Facts) (hLoss : Cert.Loss.Facts) (hLossIdeal : Cert.LossIdeal.Facts) (hLossRefIdeal : Cert.LossRefIdeal.Facts) (hResGate : Cert.ResGate.Facts) (hResGateIdeal : Cert.ResGateIdeal.Facts) (hResGateRefIdeal : Cert.ResGateRefIdeal.Facts) (hResFwd : Cert.ResFwd.Facts) (hResFwdIdeal : Cert.ResFwdIdeal.Facts) (hResFwdRefIdeal : Cert.ResFwdRefIdeal.Facts) (hModGlu : Cert.ModGlu.Facts) (hModGluIdeal : Cert.ModGluIdeal.Facts) (hModGluRefIdeal : Cert.ModGluRefIdeal.Facts) (hGluFwd : Cert.GluFwd.Facts) (hGluFwdIdeal : Cert.GluFwdIdeal.Facts) (hGluFwdRefIdeal : Cert.GluFwdRefIdeal.Facts) (hModQkv : Cert.ModQkv.Facts) (hModQkvIdeal : Cert.ModQkvIdeal.Facts) (hModQkvRefIdeal : Cert.ModQkvRefIdeal.Facts) (hGNorm : Cert.GNorm.Facts) (hGNormIdeal : Cert.GNormIdeal.Facts) (hGNormRefIdeal : Cert.GNormRefIdeal.Facts) (hGNormFwd : Cert.GNormFwd.Facts) (hGNormFwdIdeal : Cert.GNormFwdIdeal.Facts) (hGNormFwdRefIdeal : Cert.GNormFwdRefIdeal.Facts) (hScan : Cert.Scan.Facts) (hScanIdeal : Cert.ScanIdeal.Facts) (hScanRefIdeal : Cert.ScanRefIdeal.Facts) (hPrep : Cert.Prep.Facts) (hPrepIdeal : Cert.PrepIdeal.Facts) (hPrepRefIdeal : Cert.PrepRefIdeal.Facts) (hAdaBwd : Cert.AdaBwd.Facts) (hAdaBwdIdeal : Cert.AdaBwdIdeal.Facts) (hAdaBwdRefIdeal : Cert.AdaBwdRefIdeal.Facts) (hAdaFwd : Cert.AdaFwd.Facts) (hAdaFwdIdeal : Cert.AdaFwdIdeal.Facts) (hAdaFwdRefIdeal : Cert.AdaFwdRefIdeal.Facts) (hFfnFwd : Cert.FfnFwd.Facts) (hFfnFwdIdeal : Cert.FfnFwdIdeal.Facts) (hFfnFwdRefIdeal : Cert.FfnFwdRefIdeal.Facts) (hFfnW : Cert.FfnW.Facts) (hFfnWIdeal : Cert.FfnWIdeal.Facts) (hFfnWRefIdeal : Cert.FfnWRefIdeal.Facts) (hGradW : Cert.GradW.Facts) (hGradWIdeal : Cert.GradWIdeal.Facts) (hGradWRefIdeal : Cert.GradWRefIdeal.Facts) (hAdam : Cert.Adam.Facts) (hAdamIdeal : Cert.AdamIdeal.Facts) (hAdamRefIdeal : Cert.AdamRefIdeal.Facts) (hPre : Cert.Pre.Facts) (hPreIdeal : Cert.PreIdeal.Facts) (hPre_scan_finite : Cert.Pre_scan_finite.Facts) (hPre_prep_regular : Cert.Pre_prep_regular.Facts),
    quiescent_LnSilu (hLnSilu := hLnSilu)
    ∧ quiescent_LnSiluIdeal (hLnSiluIdeal := hLnSiluIdeal)
    ∧ quiescent_LnSiluRefIdeal (hLnSiluRefIdeal := hLnSiluRefIdeal)
    ∧ quiescent_Loss (hLoss := hLoss)
    ∧ quiescent_LossIdeal (hLossIdeal := hLossIdeal)
    ∧ quiescent_LossRefIdeal (hLossRefIdeal := hLossRefIdeal)
    ∧ quiescent_ResGate (hResGate := hResGate)
    ∧ quiescent_ResGateIdeal (hResGateIdeal := hResGateIdeal)
    ∧ quiescent_ResGateRefIdeal (hResGateRefIdeal := hResGateRefIdeal)
    ∧ quiescent_ResFwd (hResFwd := hResFwd)
    ∧ quiescent_ResFwdIdeal (hResFwdIdeal := hResFwdIdeal)
    ∧ quiescent_ResFwdRefIdeal (hResFwdRefIdeal := hResFwdRefIdeal)
    ∧ quiescent_ModGlu (hModGlu := hModGlu)
    ∧ quiescent_ModGluIdeal (hModGluIdeal := hModGluIdeal)
    ∧ quiescent_ModGluRefIdeal (hModGluRefIdeal := hModGluRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_ModQkv (hModQkv := hModQkv)
    ∧ quiescent_ModQkvIdeal (hModQkvIdeal := hModQkvIdeal)
    ∧ quiescent_ModQkvRefIdeal (hModQkvRefIdeal := hModQkvRefIdeal)
    ∧ quiescent_GNorm (hGNorm := hGNorm)
    ∧ quiescent_GNormIdeal (hGNormIdeal := hGNormIdeal)
    ∧ quiescent_GNormRefIdeal (hGNormRefIdeal := hGNormRefIdeal)
    ∧ quiescent_GNormFwd (hGNormFwd := hGNormFwd)
    ∧ quiescent_GNormFwdIdeal (hGNormFwdIdeal := hGNormFwdIdeal)
    ∧ quiescent_GNormFwdRefIdeal (hGNormFwdRefIdeal := hGNormFwdRefIdeal)
    ∧ quiescent_Scan (hScan := hScan)
    ∧ quiescent_ScanIdeal (hScanIdeal := hScanIdeal)
    ∧ quiescent_ScanIdeal_pre_scan_finite (hScanIdeal := hScanIdeal) (hPre_scan_finite := hPre_scan_finite)
    ∧ quiescent_ScanRefIdeal (hScanRefIdeal := hScanRefIdeal)
    ∧ quiescent_ScanRefIdeal_pre_scan_finite (hScanRefIdeal := hScanRefIdeal) (hPre_scan_finite := hPre_scan_finite)
    ∧ quiescent_Prep (hPrep := hPrep)
    ∧ quiescent_PrepIdeal (hPrepIdeal := hPrepIdeal)
    ∧ quiescent_PrepIdeal_pre_prep_regular (hPrepIdeal := hPrepIdeal) (hPre_prep_regular := hPre_prep_regular)
    ∧ quiescent_PrepRefIdeal (hPrepRefIdeal := hPrepRefIdeal)
    ∧ quiescent_PrepRefIdeal_pre_prep_regular (hPrepRefIdeal := hPrepRefIdeal) (hPre_prep_regular := hPre_prep_regular)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnW (hFfnW := hFfnW)
    ∧ quiescent_FfnWIdeal (hFfnWIdeal := hFfnWIdeal)
    ∧ quiescent_FfnWRefIdeal (hFfnWRefIdeal := hFfnWRefIdeal)
    ∧ quiescent_GradW (hGradW := hGradW)
    ∧ quiescent_GradWIdeal (hGradWIdeal := hGradWIdeal)
    ∧ quiescent_GradWRefIdeal (hGradWRefIdeal := hGradWRefIdeal)
    ∧ quiescent_Adam (hAdam := hAdam)
    ∧ quiescent_AdamIdeal (hAdamIdeal := hAdamIdeal)
    ∧ quiescent_AdamRefIdeal (hAdamRefIdeal := hAdamRefIdeal)
    ∧ quiescent_Pre (hPre := hPre)
    ∧ quiescent_PreIdeal (hPreIdeal := hPreIdeal)
    ∧ preserves_LnSilu_LnSiluIdeal
    ∧ algebraic_LnSiluIdeal_LnSiluRefIdeal (hLnSiluIdeal := hLnSiluIdeal) (hLnSiluRefIdeal := hLnSiluRefIdeal)
    ∧ preserves_Loss_LossIdeal
    ∧ algebraic_LossIdeal_LossRefIdeal (hLossIdeal := hLossIdeal) (hLossRefIdeal := hLossRefIdeal)
    ∧ preserves_ResGate_ResGateIdeal
    ∧ algebraic_ResGateIdeal_ResGateRefIdeal (hResGateIdeal := hResGateIdeal) (hResGateRefIdeal := hResGateRefIdeal)
    ∧ preserves_ResFwd_ResFwdIdeal
    ∧ algebraic_ResFwdIdeal_ResFwdRefIdeal (hResFwdIdeal := hResFwdIdeal) (hResFwdRefIdeal := hResFwdRefIdeal)
    ∧ preserves_ModGlu_ModGluIdeal
    ∧ algebraic_ModGluIdeal_ModGluRefIdeal (hModGluIdeal := hModGluIdeal) (hModGluRefIdeal := hModGluRefIdeal)
    ∧ preserves_GluFwd_GluFwdIdeal
    ∧ algebraic_GluFwdIdeal_GluFwdRefIdeal (hGluFwdIdeal := hGluFwdIdeal) (hGluFwdRefIdeal := hGluFwdRefIdeal)
    ∧ preserves_ModQkv_ModQkvIdeal
    ∧ algebraic_ModQkvIdeal_ModQkvRefIdeal (hModQkvIdeal := hModQkvIdeal) (hModQkvRefIdeal := hModQkvRefIdeal)
    ∧ preserves_GNorm_GNormIdeal
    ∧ algebraic_GNormIdeal_GNormRefIdeal (hGNormIdeal := hGNormIdeal) (hGNormRefIdeal := hGNormRefIdeal)
    ∧ preserves_GNormFwd_GNormFwdIdeal
    ∧ algebraic_GNormFwdIdeal_GNormFwdRefIdeal (hGNormFwdIdeal := hGNormFwdIdeal) (hGNormFwdRefIdeal := hGNormFwdRefIdeal)
    ∧ preserves_Scan_ScanIdeal
    ∧ algebraic_ScanIdeal_ScanRefIdeal_pre_scan_finite (hScanIdeal := hScanIdeal) (hScanRefIdeal := hScanRefIdeal) (hPre_scan_finite := hPre_scan_finite)
    ∧ preserves_Prep_PrepIdeal
    ∧ algebraic_PrepIdeal_PrepRefIdeal_pre_prep_regular (hPrepIdeal := hPrepIdeal) (hPrepRefIdeal := hPrepRefIdeal) (hPre_prep_regular := hPre_prep_regular)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnW_FfnWIdeal
    ∧ algebraic_FfnWIdeal_FfnWRefIdeal (hFfnWIdeal := hFfnWIdeal) (hFfnWRefIdeal := hFfnWRefIdeal)
    ∧ preserves_GradW_GradWIdeal
    ∧ algebraic_GradWIdeal_GradWRefIdeal (hGradWIdeal := hGradWIdeal) (hGradWRefIdeal := hGradWRefIdeal)
    ∧ preserves_Adam_AdamIdeal
    ∧ algebraic_AdamIdeal_AdamRefIdeal (hAdamIdeal := hAdamIdeal) (hAdamRefIdeal := hAdamRefIdeal)
    ∧ preserves_Pre_PreIdeal
-- ==== Pre_prep_regular.lean ====
abbrev S4096x3072 : Shape := ⟨2, ![4096, 3072]⟩
abbrev S4096x4112 : Shape := ⟨2, ![4096, 4112]⟩
abbrev S8 : Shape := ⟨1, ![8]⟩
abbrev S2x8x2048x128 : Shape := ⟨4, ![2, 8, 2048, 128]⟩
abbrev S4096x8 : Shape := ⟨2, ![4096, 8]⟩
abbrev S_ : Shape := ⟨0, ![]⟩
abbrev S1x8 : Shape := ⟨2, ![1, 8]⟩

class Facts : Prop where
  slices_S4096x4112_S4096x8_0_4096 : S4096x4112.Slices ![0, 4096] S4096x8
  bcast_S_S4096x8 : S_.BroadcastsInDim S4096x8 (![] : Fin 0 → Fin S4096x8.rank)
  reducesTo_S4096x8_S_d0_1 : S4096x8.ReducesTo [0, 1] S_
  h_S_ : 0 < S_.numel
  bcast_S_S8 : S_.BroadcastsInDim S8 (![] : Fin 0 → Fin S8.rank)
  reducesTo_S8_S_d0 : S8.ReducesTo [0] S_
  bcast_S_S2x8x2048x128 : S_.BroadcastsInDim S2x8x2048x128 (![] : Fin 0 → Fin S2x8x2048x128.rank)
  reducesTo_S2x8x2048x128_S_d0_1_2_3 : S2x8x2048x128.ReducesTo [0, 1, 2, 3] S_
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)

variable [Facts]

def fn_part2 {F : FTy → Type} [FloatOps F] (main_v4 : IVec S_ 1) (main_v8 : IVec S_ 1) (main_v12 : IVec S_ 1) (main_v16 : IVec S_ 1) (main_v20 : IVec S_ 1) (main_v24 : IVec S_ 1) (main_v28 : IVec S_ 1) (main_v31 : FVec F S4096x8 .f32) (main_v32 : FVec F S4096x8 .f32) : IVec S_ 1 :=
  let main_v33 : IVec S4096x8 1 := cmpf .une main_v31 main_v32
  let main_c_13 : IVec S_ 1 := constantI S_ 1 1#1
  let main_v34 : IVec S_ 1 := (fun x v => Host.reduce IntOp.andi x v reducesTo_S4096x8_S_d0_1 h_S_) main_v33 main_c_13
  let main_v35 : IVec S_ 1 := andi main_v4 main_v8
  let main_v36 : IVec S_ 1 := andi main_v35 main_v12
  let main_v37 : IVec S_ 1 := andi main_v36 main_v16
  let main_v38 : IVec S_ 1 := andi main_v37 main_v20
  let main_v39 : IVec S_ 1 := andi main_v38 main_v24
  let main_v40 : IVec S_ 1 := andi main_v39 main_v28
  let main_v41 : IVec S_ 1 := andi main_v40 main_v34
  main_v41

def fn_part1 {F : FTy → Type} [FloatOps F] (main_arg3 : FVec F S8 .f32) (main_arg5 : FVec F S2x8x2048x128 .f32) (main_arg6 : FVec F S2x8x2048x128 .f32) (main_arg7 : FVec F S2x8x2048x128 .f32) (main_v0 : FVec F S4096x8 .f32) (main_v4 : IVec S_ 1) (main_v8 : IVec S_ 1) (main_v12 : IVec S_ 1) (main_v15 : IVec S2x8x2048x128 1) (main_c_5 : IVec S_ 1) : IVec S_ 1 :=
  let main_v16 : IVec S_ 1 := (fun x v => Host.reduce IntOp.andi x v reducesTo_S2x8x2048x128_S_d0_1_2_3 h_S_) main_v15 main_c_5
  let main_v17 : FVec F S2x8x2048x128 .f32 := Host.absf main_arg5
  let main_cst_6 : FVec F S_ .f32 := constant S_ .f32 0x7F800000#32
  let main_v18 : FVec F S2x8x2048x128 .f32 := broadcastInDim S2x8x2048x128 ![] bcast_S_S2x8x2048x128 main_cst_6
  let main_v19 : IVec S2x8x2048x128 1 := cmpf .olt main_v17 main_v18
  let main_c_7 : IVec S_ 1 := constantI S_ 1 1#1
  let main_v20 : IVec S_ 1 := (fun x v => Host.reduce IntOp.andi x v reducesTo_S2x8x2048x128_S_d0_1_2_3 h_S_) main_v19 main_c_7
  let main_v21 : FVec F S2x8x2048x128 .f32 := Host.absf main_arg6
  let main_cst_8 : FVec F S_ .f32 := constant S_ .f32 0x7F800000#32
  let main_v22 : FVec F S2x8x2048x128 .f32 := broadcastInDim S2x8x2048x128 ![] bcast_S_S2x8x2048x128 main_cst_8
  let main_v23 : IVec S2x8x2048x128 1 := cmpf .olt main_v21 main_v22
  let main_c_9 : IVec S_ 1 := constantI S_ 1 1#1
  let main_v24 : IVec S_ 1 := (fun x v => Host.reduce IntOp.andi x v reducesTo_S2x8x2048x128_S_d0_1_2_3 h_S_) main_v23 main_c_9
  let main_v25 : FVec F S2x8x2048x128 .f32 := Host.absf main_arg7
  let main_cst_10 : FVec F S_ .f32 := constant S_ .f32 0x7F800000#32
  let main_v26 : FVec F S2x8x2048x128 .f32 := broadcastInDim S2x8x2048x128 ![] bcast_S_S2x8x2048x128 main_cst_10
  let main_v27 : IVec S2x8x2048x128 1 := cmpf .olt main_v25 main_v26
  let main_c_11 : IVec S_ 1 := constantI S_ 1 1#1
  let main_v28 : IVec S_ 1 := (fun x v => Host.reduce IntOp.andi x v reducesTo_S2x8x2048x128_S_d0_1_2_3 h_S_) main_v27 main_c_11
  let main_v29 : FVec F S1x8 .f32 := broadcastInDim S1x8 ![1] bcast_S8_S1x8_1 main_arg3
  let main_v30 : FVec F S4096x8 .f32 := broadcastInDim S4096x8 ![0, 1] bcast_S1x8_S4096x8_0_1 main_v29
  let main_v31 : FVec F S4096x8 .f32 := addf main_v0 main_v30
  let main_cst_12 : FVec F S_ .f32 := constant S_ .f32 0x00000000#32
  let main_v32 : FVec F S4096x8 .f32 := broadcastInDim S4096x8 ![] bcast_S_S4096x8 main_cst_12
  fn_part2 (F := F) main_v4 main_v8 main_v12 main_v16 main_v20 main_v24 main_v28 main_v31 main_v32

def fn {F : FTy → Type} [FloatOps F] (main_arg0 : FVec F S4096x3072 .f32) (main_arg1 : FVec F S4096x4112 .f32) (main_arg2 : FVec F S8 .f32) (main_arg3 : FVec F S8 .f32) (main_arg4 : FVec F S2x8x2048x128 .f32) (main_arg5 : FVec F S2x8x2048x128 .f32) (main_arg6 : FVec F S2x8x2048x128 .f32) (main_arg7 : FVec F S2x8x2048x128 .f32) (main_arg8 : FVec F S2x8x2048x128 .f32) : IVec S_ 1 :=
  let main_v0 : FVec F S4096x8 .f32 := (extractStridedSlice S4096x8 ![0, 4096] · slices_S4096x4112_S4096x8_0_4096) main_arg1
  let main_v1 : FVec F S4096x8 .f32 := Host.absf main_v0
  let main_cst : FVec F S_ .f32 := constant S_ .f32 0x7F800000#32
  let main_v2 : FVec F S4096x8 .f32 := broadcastInDim S4096x8 ![] bcast_S_S4096x8 main_cst
  let main_v3 : IVec S4096x8 1 := cmpf .olt main_v1 main_v2
  let main_c : IVec S_ 1 := constantI S_ 1 1#1
  let main_v4 : IVec S_ 1 := (fun x v => Host.reduce IntOp.andi x v reducesTo_S4096x8_S_d0_1 h_S_) main_v3 main_c
  let main_v5 : FVec F S8 .f32 := Host.absf main_arg2
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : FVec F S2x8x2048x128 .f32 := Host.absf main_arg4
  let main_cst_4 : FVec F S_ .f32 := constant S_ .f32 0x7F800000#32
  let main_v14 : FVec F S2x8x2048x128 .f32 := broadcastInDim S2x8x2048x128 ![] bcast_S_S2x8x2048x128 main_cst_4
  let main_v15 : IVec S2x8x2048x128 1 := cmpf .olt main_v13 main_v14
  let main_c_5 : IVec S_ 1 := constantI S_ 1 1#1
  fn_part1 (F := F) main_arg3 main_arg5 main_arg6 main_arg7 main_v0 main_v4 main_v8 main_v12 main_v15 main_c_5
-- ==== Pre_scan_finite.lean ====
abbrev S2x8x2048x128 : Shape := ⟨4, ![2, 8, 2048, 128]⟩
abbrev S2x8x2048x64 : Shape := ⟨4, ![2, 8, 2048, 64]⟩
abbrev S2x8x32 : Shape := ⟨3, ![2, 8, 32]⟩
abbrev S_ : Shape := ⟨0, ![]⟩

class Facts : Prop where
  bcast_S_S2x8x2048x128 : S_.BroadcastsInDim S2x8x2048x128 (![] : Fin 0 → Fin S2x8x2048x128.rank)
  reducesTo_S2x8x2048x128_S_d0_1_2_3 : S2x8x2048x128.ReducesTo [0, 1, 2, 3] S_
  h_S_ : 0 < S_.numel
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  bcast_S_S2x8x32 : S_.BroadcastsInDim S2x8x32 (![] : Fin 0 → Fin S2x8x32.rank)
  reducesTo_S2x8x32_S_d0_1_2 : S2x8x32.ReducesTo [0, 1, 2] S_

variable [Facts]

def fn_part1 {F : FTy → Type} [FloatOps F] (main_arg4 : FVec F S2x8x2048x64 .f32) (main_arg5 : FVec F S2x8x32 .f32) (main_arg6 : FVec F S2x8x2048x128 .f32) (main_v3 : IVec S_ 1) (main_v7 : IVec S_ 1) (main_v11 : IVec S_ 1) (main_v15 : IVec S_ 1) : IVec S_ 1 :=
  let main_v16 : FVec F S2x8x2048x64 .f32 := Host.absf main_arg4
  let main_cst_6 : FVec F S_ .f32 := constant S_ .f32 0x7F800000#32
  let main_v17 : FVec F S2x8x2048x64 .f32 := broadcastInDim S2x8x2048x64 ![] bcast_S_S2x8x2048x64 main_cst_6
  let main_v18 : IVec S2x8x2048x64 1 := cmpf .olt main_v16 main_v17
  let main_c_7 : IVec S_ 1 := constantI S_ 1 1#1
  let main_v19 : IVec S_ 1 := (fun x v => Host.reduce IntOp.andi x v reducesTo_S2x8x2048x64_S_d0_1_2_3 h_S_) main_v18 main_c_7
  let main_v20 : FVec F S2x8x32 .f32 := Host.absf main_arg5
  let main_cst_8 : FVec F S_ .f32 := constant S_ .f32 0x7F800000#32
  let main_v21 : FVec F S2x8x32 .f32 := broadcastInDim S2x8x32 ![] bcast_S_S2x8x32 main_cst_8
  let main_v22 : IVec S2x8x32 1 := cmpf .olt main_v20 main_v21
  let main_c_9 : IVec S_ 1 := constantI S_ 1 1#1
  let main_v23 : IVec S_ 1 := (fun x v => Host.reduce IntOp.andi x v reducesTo_S2x8x32_S_d0_1_2 h_S_) main_v22 main_c_9
  let main_v24 : FVec F S2x8x2048x128 .f32 := Host.absf main_arg6
  let main_cst_10 : FVec F S_ .f32 := constant S_ .f32 0x7F800000#32
  let main_v25 : FVec F S2x8x2048x128 .f32 := broadcastInDim S2x8x2048x128 ![] bcast_S_S2x8x2048x128 main_cst_10
  let main_v26 : IVec S2x8x2048x128 1 := cmpf .olt main_v24 main_v25
  let main_c_11 : IVec S_ 1 := constantI S_ 1 1#1
  let main_v27 : IVec S_ 1 := (fun x v => Host.reduce IntOp.andi x v reducesTo_S2x8x2048x128_S_d0_1_2_3 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x8x2048x128 .f32) (main_arg1 : FVec F S2x8x2048x128 .f32) (main_arg2 : FVec F S2x8x2048x128 .f32) (main_arg3 : FVec F S2x8x2048x128 .f32) (main_arg4 : FVec F S2x8x2048x64 .f32) (main_arg5 : FVec F S2x8x32 .f32) (main_arg6 : FVec F S2x8x2048x128 .f32) : IVec S_ 1 :=
  let main_v0 : FVec F S2x8x2048x128 .f32 := Host.absf main_arg0
  let main_cst : FVec F S_ .f32 := constant S_ .f32 0x7F800000#32
  let main_v1 : FVec F S2x8x2048x128 .f32 := broadcastInDim S2x8x2048x128 ![] bcast_S_S2x8x2048x128 main_cst
  let main_v2 : IVec S2x8x2048x128 1 := cmpf .olt main_v0 main_v1
  let main_c : IVec S_ 1 := constantI S_ 1 1#1
  let main_v3 : IVec S_ 1 := (fun x v => Host.reduce IntOp.andi x v reducesTo_S2x8x2048x128_S_d0_1_2_3 h_S_) main_v2 main_c
  let main_v4 : FVec F S2x8x2048x128 .f32 := Host.absf main_arg1
  let main_cst_0 : FVec F S_ .f32 := constant S_ .f32 0x7F800000#32
  let main_v5 : FVec F S2x8x2048x128 .f32 := broadcastInDim S2x8x2048x128 ![] bcast_S_S2x8x2048x128 main_cst_0
  let main_v6 : IVec S2x8x2048x128 1 := cmpf .olt main_v4 main_v5
  let main_c_1 : IVec S_ 1 := constantI S_ 1 1#1
  let main_v7 : IVec S_ 1 := (fun x v => Host.reduce IntOp.andi x v reducesTo_S2x8x2048x128_S_d0_1_2_3 h_S_) main_v6 main_c_1
  let main_v8 : FVec F S2x8x2048x128 .f32 := Host.absf main_arg2
  let main_cst_2 : FVec F S_ .f32 := constant S_ .f32 0x7F800000#32
  let main_v9 : FVec F S2x8x2048x128 .f32 := broadcastInDim S2x8x2048x128 ![] bcast_S_S2x8x2048x128 main_cst_2
  let main_v10 : IVec S2x8x2048x128 1 := cmpf .olt main_v8 main_v9
  let main_c_3 : IVec S_ 1 := constantI S_ 1 1#1
  let main_v11 : IVec S_ 1 := (fun x v => Host.reduce IntOp.andi x v reducesTo_S2x8x2048x128_S_d0_1_2_3 h_S_) main_v10 main_c_3
  let main_v12 : FVec F S2x8x2048x128 .f32 := Host.absf main_arg3
  let main_cst_4 : FVec F S_ .f32 := constant S_ .f32 0x7F800000#32
  let main_v13 : FVec F S2x8x2048x128 .f32 := broadcastInDim S2x8x2048x128 ![] bcast_S_S2x8x2048x128 main_cst_4
  let main_v14 : IVec S2x8x2048x128 1 := cmpf .olt main_v12 main_v13
  let main_c_5 : IVec S_ 1 := constantI S_ 1 1#1
  let main_v15 : IVec S_ 1 := (fun x v => Host.reduce IntOp.andi x v reducesTo_S2x8x2048x128_S_d0_1_2_3 h_S_) main_v14 main_c_5
  fn_part1 (F := F) main_arg4 main_arg5 main_arg6 main_v3 main_v7 main_v11 main_v15
-- ==== LnSilu.lean ====
abbrev S4096x1024 : Shape := ⟨2, ![4096, 1024]⟩
abbrev S1024 : Shape := ⟨1, ![1024]⟩
abbrev S1x1024 : Shape := ⟨2, ![1, 1024]⟩
abbrev S2x1024 : Shape := ⟨2, ![2, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LnSiluRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2x1024 : Shape := ⟨2, ![2, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S1x1024, .f32⟩
  | .hbm, ⟨94, _⟩ => ⟨S1x1024, .f32⟩
  | .hbm, ⟨95, _⟩ => ⟨S2x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S2x1024 : Shape := ⟨2, ![2, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2x1024 : Shape := ⟨2, ![2, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S_, .f32⟩
  | .hbm, ⟨95, _⟩ => ⟨S1024, .f32⟩
  | .hbm, ⟨96, _⟩ => ⟨S1024, .f32⟩
  | .hbm, ⟨97, _⟩ => ⟨S1x1024, .f32⟩
  | .hbm, ⟨98, _⟩ => ⟨S1x1024, .f32⟩
  | .hbm, ⟨99, _⟩ => ⟨S2x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_cst_17 : Ref sig .tc := ⟨.hbm, 75, rfl⟩
abbrev main_v54 : Ref sig .tc := ⟨.hbm, 76, rfl⟩
abbrev main_v55 : Ref sig .tc := ⟨.hbm, 77, rfl⟩
abbrev main_cst_18 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_19 : Ref sig .tc := ⟨.hbm, 89, rfl⟩
abbrev main_v66 : Ref sig .tc := ⟨.hbm, 90, rfl⟩
abbrev main_v67 : Ref sig .tc := ⟨.hbm, 91, rfl⟩
abbrev main_cst_20 : Ref sig .tc := ⟨.hbm, 92, rfl⟩
abbrev main_v68 : Ref sig .tc := ⟨.hbm, 93, rfl⟩
abbrev main_cst_21 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== ResGate.lean ====
abbrev S4096x1024 : Shape := ⟨2, ![4096, 1024]⟩
abbrev S2x3x1024 : Shape := ⟨3, ![2, 3, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1x3x1024 : Shape := ⟨3, ![1, 3, 1024]⟩
abbrev S3x1024 : Shape := ⟨2, ![3, 1024]⟩
abbrev S2x1x1024 : Shape := ⟨3, ![2, 1, 1024]⟩
abbrev S1x1x1024 : Shape := ⟨3, ![1, 1, 1024]⟩

abbrev nBuf : Space → Nat
  | .hbm => 15
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x3x1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1024x1024, .bf16⟩
  | .hbm, ⟨7, _⟩ => ⟨S4096x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S2x1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x3x1024, .f32⟩
  | .local _ .vmem, ⟨5, _⟩ => ⟨S1x3x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x3x1024, .f32⟩
  | .local _ .vmem, ⟨17, _⟩ => ⟨S1x3x1024, .f32⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1x1024, .f32⟩
  | .local _ .vmem, ⟨24, _⟩ => ⟨S1x1x1024, .f32⟩
  | .local _ .vmem, ⟨25, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ResGateRefIdeal.lean ====
abbrev S4096x1024 : Shape := ⟨2, ![4096, 1024]⟩
abbrev S2x3x1024 : Shape := ⟨3, ![2, 3, 1024]⟩
abbrev S1024x1024 : Shape := ⟨2, ![1024, 1024]⟩
abbrev S1024 : Shape := ⟨1, ![1024]⟩
abbrev S1x1024 : Shape := ⟨2, ![1, 1024]⟩
abbrev S2x1x1024 : Shape := ⟨3, ![2, 1, 1024]⟩
abbrev S_ : Shape := ⟨0, ![]⟩
abbrev S2x2048x1024 : Shape := ⟨3, ![2, 2048, 1024]⟩
abbrev S2x1024 : Shape := ⟨2, ![2, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x3x1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S2x1x1024, .f32⟩
  | .hbm, ⟨11, _⟩ => ⟨S_, .f32⟩
  | .hbm, ⟨12, _⟩ => ⟨S2x1x1024, .f32⟩
  | .hbm, ⟨13, _⟩ => ⟨S2x1x1024, .f32⟩
  | .hbm, ⟨14, _⟩ => ⟨S_, .f32⟩
  | .hbm, ⟨15, _⟩ => ⟨S2x1x1024, .f32⟩
  | .hbm, ⟨16, _⟩ => ⟨S2x1x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S4096x1024, .f32⟩
  | .hbm, ⟨21, _⟩ => ⟨S4096x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x1024, .f32⟩
  | .hbm, ⟨28, _⟩ => ⟨S2x1x1024, .f32⟩
  | .hbm, ⟨29, _⟩ => ⟨S4096x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S_, .f32⟩
  | .hbm, ⟨34, _⟩ => ⟨S2x3x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S4096x1024, .bf16⟩
  | .hbm, ⟨42, _⟩ => ⟨S2x1x1024, .f32⟩
  | .hbm, ⟨43, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== ResFwd.lean ====
abbrev S4096x1024 : Shape := ⟨2, ![4096, 1024]⟩
abbrev S2x3x1024 : Shape := ⟨3, ![2, 3, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1x3x1024 : Shape := ⟨3, ![1, 3, 1024]⟩
abbrev S3x1024 : Shape := ⟨2, ![3, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x3x1024, .f32⟩
  | .hbm, ⟨3, _⟩ => ⟨S1024x1024, .f32⟩
  | .hbm, ⟨4, _⟩ => ⟨S1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x3x1024, .f32⟩
  | .local _ .vmem, ⟨5, _⟩ => ⟨S1x3x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ResFwdRefIdeal.lean ====
abbrev S4096x1024 : Shape := ⟨2, ![4096, 1024]⟩
abbrev S2x3x1024 : Shape := ⟨3, ![2, 3, 1024]⟩
abbrev S1024x1024 : Shape := ⟨2, ![1024, 1024]⟩
abbrev S1024 : Shape := ⟨1, ![1024]⟩
abbrev S1x1024 : Shape := ⟨2, ![1, 1024]⟩
abbrev S2x1x1024 : Shape := ⟨3, ![2, 1, 1024]⟩
abbrev S_ : Shape := ⟨0, ![]⟩
abbrev S2x2048x1024 : Shape := ⟨3, ![2, 2048, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x3x1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S2x1x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S_, .f32⟩
  | .hbm, ⟨14, _⟩ => ⟨S2x1x1024, .f32⟩
  | .hbm, ⟨15, _⟩ => ⟨S2x1x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== ModGlu.lean ====
abbrev S4096x1024 : Shape := ⟨2, ![4096, 1024]⟩
abbrev S2x3x1024 : Shape := ⟨3, ![2, 3, 1024]⟩
abbrev S4x3x1024 : Shape := ⟨3, ![4, 3, 1024]⟩
abbrev S1024x2048 : Shape := ⟨2, ![1024, 2048]⟩
abbrev S4096x2048 : Shape := ⟨2, ![4096, 2048]⟩
abbrev S1024x8x256 : Shape := ⟨3, ![1024, 8, 256]⟩
abbrev S8x1024x256 : Shape := ⟨3, ![8, 1024, 256]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x3x1024 : Shape := ⟨3, ![1, 3, 1024]⟩
abbrev S512x2048 : Shape := ⟨2, ![512, 2048]⟩
abbrev S512x256 : Shape := ⟨2, ![512, 256]⟩
abbrev S1x1024x256 : Shape := ⟨3, ![1, 1024, 256]⟩
abbrev S1024x256 : Shape := ⟨2, ![1024, 256]⟩
abbrev S3x1024 : Shape := ⟨2, ![3, 1024]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S2x3x1024, .f32⟩
  | .hbm, ⟨2, _⟩ => ⟨S4x3x1024, .f32⟩
  | .hbm, ⟨3, _⟩ => ⟨S1024x2048, .f32⟩
  | .hbm, ⟨4, _⟩ => ⟨S4096x1024, .f32⟩
  | .hbm, ⟨5, _⟩ => ⟨S4096x2048, .bf16⟩
  | .hbm, ⟨6, _⟩ => ⟨S1024x8x256, .f32⟩
  | .hbm, ⟨7, _⟩ => ⟨S8x1024x256, .f32⟩
  | .hbm, ⟨8, _⟩ => ⟨S8x1024x256, .bf16⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S4096x1024, .f32⟩
  | .hbm, ⟨13, _⟩ => ⟨S2x3x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S512x2048, .bf16⟩
  | .local _ .vmem, ⟨8, _⟩ => ⟨S512x2048, .bf16⟩
  | .local _ .vmem, ⟨9, _⟩ => ⟨S8x1024x256, .bf16⟩
  | .local _ .vmem, ⟨10, _⟩ => ⟨S512x1024, .f32⟩
  | .local _ .vmem, ⟨11, _⟩ => ⟨S512x1024, .f32⟩
  | .local _ .vmem, ⟨12, _⟩ => ⟨S1x3x1024, .f32⟩
  | .local _ .vmem, ⟨13, _⟩ => ⟨S1x3x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ModGluRefIdeal.lean ====
abbrev S4096x1024 : Shape := ⟨2, ![4096, 1024]⟩
abbrev S2x3x1024 : Shape := ⟨3, ![2, 3, 1024]⟩
abbrev S4x3x1024 : Shape := ⟨3, ![4, 3, 1024]⟩
abbrev S1024x2048 : Shape := ⟨2, ![1024, 2048]⟩
abbrev S4096x2048 : Shape := ⟨2, ![4096, 2048]⟩
abbrev S1x1x1024 : Shape := ⟨3, ![1, 1, 1024]⟩
abbrev S1024 : Shape := ⟨1, ![1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S2x1x1024 : Shape := ⟨3, ![2, 1, 1024]⟩
abbrev S2x1024 : Shape := ⟨2, ![2, 1024]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x3x1024, .f32⟩
  | .hbm, ⟨2, _⟩ => ⟨S4x3x1024, .f32⟩
  | .hbm, ⟨3, _⟩ => ⟨S1024x2048, .f32⟩
  | .hbm, ⟨4, _⟩ => ⟨S4096x1024, .f32⟩
  | .hbm, ⟨5, _⟩ => ⟨S4096x2048, .bf16⟩
  | .hbm, ⟨6, _⟩ => ⟨S1x1x1024, .f32⟩
  | .hbm, ⟨7, _⟩ => ⟨S1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x1x1024, .f32⟩
  | .hbm, ⟨36, _⟩ => ⟨S2x2048x1024, .f32⟩
  | .hbm, ⟨37, _⟩ => ⟨S2x2048x1024, .f32⟩
  | .hbm, ⟨38, _⟩ => ⟨S4096x1024, .f32⟩
  | .hbm, ⟨39, _⟩ => ⟨S4096x2048, .f32⟩
  | .hbm, ⟨40, _⟩ => ⟨S4096x2048, .f32⟩
  | .hbm, ⟨41, _⟩ => ⟨S4096x1024, .f32⟩
  | .hbm, ⟨42, _⟩ => ⟨S2x2048x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S_, .f32⟩
  | .hbm, ⟨47, _⟩ => ⟨S2x3x1024, .f32⟩
  | .hbm, ⟨48, _⟩ => ⟨S2x2048x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S2x3x1024, .f32⟩
  | .hbm, ⟨56, _⟩ => ⟨S2x3x1024, .f32⟩
  | .hbm, ⟨57, _⟩ => ⟨S2x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S1024, .f32⟩
  | .hbm, ⟨65, _⟩ => ⟨S2x2048x1024, .f32⟩
  | .hbm, ⟨66, _⟩ => ⟨S_, .f32⟩
  | .hbm, ⟨67, _⟩ => ⟨S2x2048, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S2x2048x1, .f32⟩
  | .hbm, ⟨72, _⟩ => ⟨S_, .f32⟩
  | .hbm, ⟨73, _⟩ => ⟨S2x2048x1, .f32⟩
  | .hbm, ⟨74, _⟩ => ⟨S2x2048x1, .f32⟩
  | .hbm, ⟨75, _⟩ => ⟨S_, .f32⟩
  | .hbm, ⟨76, _⟩ => ⟨S2x2048, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S4096x1024, .f32⟩
  | .hbm, ⟨83, _⟩ => ⟨S4096x1024, .f32⟩
  | .hbm, ⟨84, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== GluFwd.lean ====
abbrev S4096x1024 : Shape := ⟨2, ![4096, 1024]⟩
abbrev S2x3x1024 : Shape := ⟨3, ![2, 3, 1024]⟩
abbrev S4x3x1024 : Shape := ⟨3, ![4, 3, 1024]⟩
abbrev S1024x2048 : Shape := ⟨2, ![1024, 2048]⟩
abbrev S2048 : Shape := ⟨1, ![2048]⟩
abbrev S1024x8x256 : Shape := ⟨3, ![1024, 8, 256]⟩
abbrev S8x1024x256 : Shape := ⟨3, ![8, 1024, 256]⟩
abbrev S1x1x1024 : Shape := ⟨3, ![1, 1, 1024]⟩
abbrev S1024 : Shape := ⟨1, ![1024]⟩
abbrev S1x1024 : Shape := ⟨2, ![1, 1024]⟩
abbrev S1x2048 : Shape := ⟨2, ![1, 2048]⟩
abbrev S4096x2048 : Shape := ⟨2, ![4096, 2048]⟩
abbrev S512x1024 : Shape := ⟨2, ![512, 1024]⟩
abbrev S1x3x1024 : Shape := ⟨3, ![1, 3, 1024]⟩
abbrev S512x2048 : Shape := ⟨2, ![512, 2048]⟩
abbrev S3x1024 : Shape := ⟨2, ![3, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 14
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x3x1024, .f32⟩
  | .hbm, ⟨2, _⟩ => ⟨S4x3x1024, .f32⟩
  | .hbm, ⟨3, _⟩ => ⟨S1024x2048, .f32⟩
  | .hbm, ⟨4, _⟩ => ⟨S2048, .f32⟩
  | .hbm, ⟨5, _⟩ => ⟨S1024x8x256, .f32⟩
  | .hbm, ⟨6, _⟩ => ⟨S8x1024x256, .f32⟩
  | .hbm, ⟨7, _⟩ => ⟨S8x1024x256, .bf16⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S1x2048, .f32⟩
  | .hbm, ⟨12, _⟩ => ⟨S4096x1024, .bf16⟩
  | .hbm, ⟨13, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S8x1024x256, .bf16⟩
  | .local _ .vmem, ⟨6, _⟩ => ⟨S1x2048, .f32⟩
  | .local _ .vmem, ⟨7, _⟩ => ⟨S512x1024, .bf16⟩
  | .local _ .vmem, ⟨8, _⟩ => ⟨S512x1024, .bf16⟩
  | .local _ .vmem, ⟨9, _⟩ => ⟨S512x2048, .f32⟩
  | .local _ .vmem, ⟨10, _⟩ => ⟨S512x2048, .f32⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GluFwdRefIdeal.lean ====
abbrev S4096x1024 : Shape := ⟨2, ![4096, 1024]⟩
abbrev S2x3x1024 : Shape := ⟨3, ![2, 3, 1024]⟩
abbrev S4x3x1024 : Shape := ⟨3, ![4, 3, 1024]⟩
abbrev S1024x2048 : Shape := ⟨2, ![1024, 2048]⟩
abbrev S2048 : Shape := ⟨1, ![2048]⟩
abbrev S1x1x1024 : Shape := ⟨3, ![1, 1, 1024]⟩
abbrev S1024 : Shape := ⟨1, ![1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S2x1x1024 : Shape := ⟨3, ![2, 1, 1024]⟩
abbrev S4096x2048 : Shape := ⟨2, ![4096, 2048]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x3x1024, .f32⟩
  | .hbm, ⟨2, _⟩ => ⟨S4x3x1024, .f32⟩
  | .hbm, ⟨3, _⟩ => ⟨S1024x2048, .f32⟩
  | .hbm, ⟨4, _⟩ => ⟨S2048, .f32⟩
  | .hbm, ⟨5, _⟩ => ⟨S1x1x1024, .f32⟩
  | .hbm, ⟨6, _⟩ => ⟨S1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x1x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x2048x1024, .f32⟩
  | .hbm, ⟨29, _⟩ => ⟨S2x2048x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S4096x1024, .f32⟩
  | .hbm, ⟨34, _⟩ => ⟨S4096x1024, .bf16⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== ModQkv.lean ====
abbrev S4096x1024 : Shape := ⟨2, ![4096, 1024]⟩
abbrev S2x3x1024 : Shape := ⟨3, ![2, 3, 1024]⟩
abbrev S4x3x1024 : Shape := ⟨3, ![4, 3, 1024]⟩
abbrev S1024x4112 : Shape := ⟨2, ![1024, 4112]⟩
abbrev S4096x4112 : Shape := ⟨2, ![4096, 4112]⟩
abbrev S4112x1024 : Shape := ⟨2, ![4112, 1024]⟩
abbrev S_ : Shape := ⟨0, ![]⟩
abbrev S4224x1024 : Shape := ⟨2, ![4224, 1024]⟩
abbrev S4096x16 : Shape := ⟨2, ![4096, 16]⟩
abbrev S4096x128 : Shape := ⟨2, ![4096, 128]⟩
abbrev S1x1x1024 : Shape := ⟨3, ![1, 1, 1024]⟩
abbrev S1024 : Shape := ⟨1, ![1024]⟩
abbrev S1x1024 : Shape := ⟨2, ![1, 1024]⟩
abbrev S4096x3072 : Shape := ⟨2, ![4096, 3072]⟩
abbrev S512x1024 : Shape := ⟨2, ![512, 1024]⟩
abbrev S1x3x1024 : Shape := ⟨3, ![1, 3, 1024]⟩
abbrev S512x3072 : Shape := ⟨2, ![512, 3072]⟩
abbrev S512x128 : Shape := ⟨2, ![512, 128]⟩
abbrev S3072x1024 : Shape := ⟨2, ![3072, 1024]⟩
abbrev S1024x1024 : Shape := ⟨2, ![1024, 1024]⟩
abbrev S128x1024 : Shape := ⟨2, ![128, 1024]⟩
abbrev S3x1024 : Shape := ⟨2, ![3, 1024]⟩
abbrev S512 : Shape := ⟨1, ![512]⟩
abbrev S512x1 : Shape := ⟨2, ![512, 1]⟩

abbrev nBuf : Space → Nat
  | .hbm => 23
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S2x3x1024, .f32⟩
  | .hbm, ⟨2, _⟩ => ⟨S4x3x1024, .f32⟩
  | .hbm, ⟨3, _⟩ => ⟨S1024x4112, .f32⟩
  | .hbm, ⟨4, _⟩ => ⟨S4096x1024, .f32⟩
  | .hbm, ⟨5, _⟩ => ⟨S4096x4112, .bf16⟩
  | .hbm, ⟨6, _⟩ => ⟨S4112x1024, .f32⟩
  | .hbm, ⟨7, _⟩ => ⟨S_, .i32⟩
  | .hbm, ⟨8, _⟩ => ⟨S_, .f32⟩
  | .hbm, ⟨9, _⟩ => ⟨S4224x1024, .f32⟩
  | .hbm, ⟨10, _⟩ => ⟨S4224x1024, .bf16⟩
  | .hbm, ⟨11, _⟩ => ⟨S4096x16, .bf16⟩
  | .hbm, ⟨12, _⟩ => ⟨S_, .i32⟩
  | .hbm, ⟨13, _⟩ => ⟨S_, .bf16⟩
  | .hbm, ⟨14, _⟩ => ⟨S4096x128, .bf16⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S4096x3072, .bf16⟩
  | .hbm, ⟨19, _⟩ => ⟨S4096x1024, .bf16⟩
  | .hbm, ⟨20, _⟩ => ⟨S4096x1024, .f32⟩
  | .hbm, ⟨21, _⟩ => ⟨S2x3x1024, .f32⟩
  | .hbm, ⟨22, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S512x3072, .bf16⟩
  | .local _ .vmem, ⟨8, _⟩ => ⟨S512x3072, .bf16⟩
  | .local _ .vmem, ⟨9, _⟩ => ⟨S512x1024, .bf16⟩
  | .local _ .vmem, ⟨10, _⟩ => ⟨S512x1024, .bf16⟩
  | .local _ .vmem, ⟨11, _⟩ => ⟨S512x128, .bf16⟩
  | .local _ .vmem, ⟨12, _⟩ => ⟨S512x128, .bf16⟩
  | .local _ .vmem, ⟨13, _⟩ => ⟨S4224x1024, .bf16⟩
  | .local _ .vmem, ⟨14, _⟩ => ⟨S512x1024, .f32⟩
  | .local _ .vmem, ⟨15, _⟩ => ⟨S512x1024, .f32⟩
  | .local _ .vmem, ⟨16, _⟩ => ⟨S1x3x1024, .f32⟩
  | .local _ .vmem, ⟨17, _⟩ => ⟨S1x3x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4224x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ModQkvRefIdeal.lean ====
abbrev S4096x1024 : Shape := ⟨2, ![4096, 1024]⟩
abbrev S2x3x1024 : Shape := ⟨3, ![2, 3, 1024]⟩
abbrev S4x3x1024 : Shape := ⟨3, ![4, 3, 1024]⟩
abbrev S1024x4112 : Shape := ⟨2, ![1024, 4112]⟩
abbrev S4096x4112 : Shape := ⟨2, ![4096, 4112]⟩
abbrev S1x1x1024 : Shape := ⟨3, ![1, 1, 1024]⟩
abbrev S1024 : Shape := ⟨1, ![1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S2x1x1024 : Shape := ⟨3, ![2, 1, 1024]⟩
abbrev S2x1024 : Shape := ⟨2, ![2, 1024]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x3x1024, .f32⟩
  | .hbm, ⟨2, _⟩ => ⟨S4x3x1024, .f32⟩
  | .hbm, ⟨3, _⟩ => ⟨S1024x4112, .f32⟩
  | .hbm, ⟨4, _⟩ => ⟨S4096x1024, .f32⟩
  | .hbm, ⟨5, _⟩ => ⟨S4096x4112, .bf16⟩
  | .hbm, ⟨6, _⟩ => ⟨S1x1x1024, .f32⟩
  | .hbm, ⟨7, _⟩ => ⟨S1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x1x1024, .f32⟩
  | .hbm, ⟨36, _⟩ => ⟨S2x2048x1024, .f32⟩
  | .hbm, ⟨37, _⟩ => ⟨S2x2048x1024, .f32⟩
  | .hbm, ⟨38, _⟩ => ⟨S4096x1024, .f32⟩
  | .hbm, ⟨39, _⟩ => ⟨S4096x4112, .f32⟩
  | .hbm, ⟨40, _⟩ => ⟨S4096x4112, .f32⟩
  | .hbm, ⟨41, _⟩ => ⟨S4096x1024, .f32⟩
  | .hbm, ⟨42, _⟩ => ⟨S2x2048x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S_, .f32⟩
  | .hbm, ⟨47, _⟩ => ⟨S2x3x1024, .f32⟩
  | .hbm, ⟨48, _⟩ => ⟨S2x2048x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S2x3x1024, .f32⟩
  | .hbm, ⟨56, _⟩ => ⟨S2x3x1024, .f32⟩
  | .hbm, ⟨57, _⟩ => ⟨S2x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S1024, .f32⟩
  | .hbm, ⟨65, _⟩ => ⟨S2x2048x1024, .f32⟩
  | .hbm, ⟨66, _⟩ => ⟨S_, .f32⟩
  | .hbm, ⟨67, _⟩ => ⟨S2x2048, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S2x2048x1, .f32⟩
  | .hbm, ⟨72, _⟩ => ⟨S_, .f32⟩
  | .hbm, ⟨73, _⟩ => ⟨S2x2048x1, .f32⟩
  | .hbm, ⟨74, _⟩ => ⟨S2x2048x1, .f32⟩
  | .hbm, ⟨75, _⟩ => ⟨S_, .f32⟩
  | .hbm, ⟨76, _⟩ => ⟨S2x2048, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S4096x1024, .f32⟩
  | .hbm, ⟨83, _⟩ => ⟨S4096x1024, .f32⟩
  | .hbm, ⟨84, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== GNorm.lean ====
abbrev S2x8x2048x128 : Shape := ⟨4, ![2, 8, 2048, 128]⟩
abbrev S4096x4112 : Shape := ⟨2, ![4096, 4112]⟩
abbrev S128 : Shape := ⟨1, ![128]⟩
abbrev S4096x1024 : Shape := ⟨2, ![4096, 1024]⟩
abbrev S_ : Shape := ⟨0, ![]⟩
abbrev S4096x4224 : Shape := ⟨2, ![4096, 4224]⟩
abbrev S1x128 : Shape := ⟨2, ![1, 128]⟩
abbrev S256x1024 : Shape := ⟨2, ![256, 1024]⟩
abbrev S1x8x256x128 : Shape := ⟨4, ![1, 8, 256, 128]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x8x2048x128, .f32⟩
  | .hbm, ⟨1, _⟩ => ⟨S4096x4112, .f32⟩
  | .hbm, ⟨2, _⟩ => ⟨S128, .f32⟩
  | .hbm, ⟨3, _⟩ => ⟨S4096x1024, .f32⟩
  | .hbm, ⟨4, _⟩ => ⟨S_, .i32⟩
  | .hbm, ⟨5, _⟩ => ⟨S_, .f32⟩
  | .hbm, ⟨6, _⟩ => ⟨S4096x4224, .f32⟩
  | .hbm, ⟨7, _⟩ => ⟨S1x128, .f32⟩
  | .hbm, ⟨8, _⟩ => ⟨S2x8x2048x128, .f32⟩
  | .hbm, ⟨9, _⟩ => ⟨S4096x1024, .bf16⟩
  | .hbm, ⟨10, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x8x256x128, .f32⟩
  | .local _ .vmem, ⟨3, _⟩ => ⟨S1x8x256x128, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S1x8x256x128, .f32⟩
  | .local _ .vmem, ⟨8, _⟩ => ⟨S1x8x256x128, .f32⟩
  | .local _ .vmem, ⟨9, _⟩ => ⟨S256x1024, .bf16⟩
  | .local _ .vmem, ⟨10, _⟩ => ⟨S256x1024, .bf16⟩
  | .local _ .vmem, ⟨11, _⟩ => ⟨S1x128, .f32⟩
  | _, _ => ⟨S2x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GNormRefIdeal.lean ====
abbrev S2x8x2048x128 : Shape := ⟨4, ![2, 8, 2048, 128]⟩
abbrev S4096x4112 : Shape := ⟨2, ![4096, 4112]⟩
abbrev S128 : Shape := ⟨1, ![128]⟩
abbrev S4096x1024 : Shape := ⟨2, ![4096, 1024]⟩
abbrev S2x2048x8x128 : Shape := ⟨4, ![2, 2048, 8, 128]⟩
abbrev S_ : Shape := ⟨0, ![]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S2x8x2048x128, .f32⟩
  | .hbm, ⟨1, _⟩ => ⟨S4096x4112, .f32⟩
  | .hbm, ⟨2, _⟩ => ⟨S128, .f32⟩
  | .hbm, ⟨3, _⟩ => ⟨S4096x1024, .f32⟩
  | .hbm, ⟨4, _⟩ => ⟨S4096x1024, .f32⟩
  | .hbm, ⟨5, _⟩ => ⟨S2x2048x8x128, .f32⟩
  | .hbm, ⟨6, _⟩ => ⟨S2x2048x8x128, .f32⟩
  | .hbm, ⟨7, _⟩ => ⟨S_, .f32⟩
  | .hbm, ⟨8, _⟩ => ⟨S2x2048x8, .f32⟩
  | .hbm, ⟨9, _⟩ => ⟨S2x2048x8x1, .f32⟩
  | .hbm, ⟨10, _⟩ => ⟨S_, .f32⟩
  | .hbm, ⟨11, _⟩ => ⟨S2x2048x8x1, .f32⟩
  | .hbm, ⟨12, _⟩ => ⟨S2x2048x8x1, .f32⟩
  | .hbm, ⟨13, _⟩ => ⟨S_, .f32⟩
  | .hbm, ⟨14, _⟩ => ⟨S2x2048x8x1, .f32⟩
  | .hbm, ⟨15, _⟩ => ⟨S2x2048x8x1, .f32⟩
  | .hbm, ⟨16, _⟩ => ⟨S2x2048x8x1, .f32⟩
  | .hbm, ⟨17, _⟩ => ⟨S2x2048x8x1, .f32⟩
  | .hbm, ⟨18, _⟩ => ⟨S_, .f32⟩
  | .hbm, ⟨19, _⟩ => ⟨S2x2048x8x1, .f32⟩
  | .hbm, ⟨20, _⟩ => ⟨S2x2048x8x1, .f32⟩
  | .hbm, ⟨21, _⟩ => ⟨S2x2048x8x128, .f32⟩
  | .hbm, ⟨22, _⟩ => ⟨S2x2048x8x128, .f32⟩
  | .hbm, ⟨23, _⟩ => ⟨S1x1x1x128, .f32⟩
  | .hbm, ⟨24, _⟩ => ⟨S2x2048x8x128, .f32⟩
  | .hbm, ⟨25, _⟩ => ⟨S2x2048x8x128, .f32⟩
  | .hbm, ⟨26, _⟩ => ⟨S2x2048x8x128, .f32⟩
  | .hbm, ⟨27, _⟩ => ⟨S2x2048x8x128, .f32⟩
  | .hbm, ⟨28, _⟩ => ⟨S2x2048x8x128, .f32⟩
  | .hbm, ⟨29, _⟩ => ⟨S_, .f32⟩
  | .hbm, ⟨30, _⟩ => ⟨S2x2048x8x128, .f32⟩
  | .hbm, ⟨31, _⟩ => ⟨S2x2048x8x128, .f32⟩
  | .hbm, ⟨32, _⟩ => ⟨S_, .f32⟩
  | .hbm, ⟨33, _⟩ => ⟨S2x2048x8x128, .f32⟩
  | .hbm, ⟨34, _⟩ => ⟨S2x2048x8x128, .f32⟩
  | .hbm, ⟨35, _⟩ => ⟨S_, .f32⟩
  | .hbm, ⟨36, _⟩ => ⟨S2x2048x8x128, .f32⟩
  | .hbm, ⟨37, _⟩ => ⟨S2x2048x8x128, .f32⟩
  | .hbm, ⟨38, _⟩ => ⟨S2x2048x8x128, .f32⟩
  | .hbm, ⟨39, _⟩ => ⟨S2x2048x8x128, .f32⟩
  | .hbm, ⟨40, _⟩ => ⟨S2x2048x8x128, .f32⟩
  | .hbm, ⟨41, _⟩ => ⟨S4096x1024, .f32⟩
  | .hbm, ⟨42, _⟩ => ⟨S2x2048x8x128, .f32⟩
  | .hbm, ⟨43, _⟩ => ⟨S2x2048x8x128, .f32⟩
  | .hbm, ⟨44, _⟩ => ⟨S2x2048x8x128, .f32⟩
  | .hbm, ⟨45, _⟩ => ⟨S2x2048x8x128, .f32⟩
  | .hbm, ⟨46, _⟩ => ⟨S2x2048x8x128, .f32⟩
  | .hbm, ⟨47, _⟩ => ⟨S2x2048x8x128, .f32⟩
  | .hbm, ⟨48, _⟩ => ⟨S2x2048x8x128, .f32⟩
  | .hbm, ⟨49, _⟩ => ⟨S4096x1024, .f32⟩
  | .hbm, ⟨50, _⟩ => ⟨S2x2048x8x128, .f32⟩
  | .hbm, ⟨51, _⟩ => ⟨S_, .f32⟩
  | .hbm, ⟨52, _⟩ => ⟨S128, .f32⟩
  | .hbm, ⟨53, _⟩ => ⟨S1x1x1x128, .f32⟩
  | .hbm, ⟨54, _⟩ => ⟨S2x2048x8x128, .f32⟩
  | .hbm, ⟨55, _⟩ => ⟨S2x2048x8x128, .f32⟩
  | .hbm, ⟨56, _⟩ => ⟨S_, .f32⟩
  | .hbm, ⟨57, _⟩ => ⟨S128, .f32⟩
  | .hbm, ⟨58, _⟩ => ⟨S2x2048x8x128, .f32⟩
  | .hbm, ⟨59, _⟩ => ⟨S_, .f32⟩
  | .hbm, ⟨60, _⟩ => ⟨S2x2048x8, .f32⟩
  | .hbm, ⟨61, _⟩ => ⟨S2x2048x8x1, .f32⟩
  | .hbm, ⟨62, _⟩ => ⟨S2x2048x8x128, .f32⟩
  | .hbm, ⟨63, _⟩ => ⟨S2x2048x8x128, .f32⟩
  | .hbm, ⟨64, _⟩ => ⟨S2x2048x8x1, .f32⟩
  | .hbm, ⟨65, _⟩ => ⟨S_, .f32⟩
  | .hbm, ⟨66, _⟩ => ⟨S2x2048x8x1, .f32⟩
  | .hbm, ⟨67, _⟩ => ⟨S2x2048x8x1, .f32⟩
  | .hbm, ⟨68, _⟩ => ⟨S_, .f32⟩
  | .hbm, ⟨69, _⟩ => ⟨S2x2048x8, .f32⟩
  | .hbm, ⟨70, _⟩ => ⟨S2x2048x8x128, .f32⟩
  | .hbm, ⟨71, _⟩ => ⟨S2x2048x8x128, .f32⟩
  | .hbm, ⟨72, _⟩ => ⟨S2x2048x8x128, .f32⟩
  | .hbm, ⟨73, _⟩ => ⟨S2x2048x8x128, .f32⟩
  | .hbm, ⟨74, _⟩ => ⟨S2x2048x8x128, .f32⟩
  | .hbm, ⟨75, _⟩ => ⟨S2x8x2048x128, .f32⟩
  | .hbm, ⟨76, _⟩ => ⟨S4096x1024, .bf16⟩
  | .hbm, ⟨77, _⟩ => ⟨S1x128, .f32⟩
  | _, _ => ⟨S2x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== GNormFwd.lean ====
abbrev S2x8x2048x128 : Shape := ⟨4, ![2, 8, 2048, 128]⟩
abbrev S4096x4112 : Shape := ⟨2, ![4096, 4112]⟩
abbrev S128 : Shape := ⟨1, ![128]⟩
abbrev S_ : Shape := ⟨0, ![]⟩
abbrev S4096x4224 : Shape := ⟨2, ![4096, 4224]⟩
abbrev S1x128 : Shape := ⟨2, ![1, 128]⟩
abbrev S4096x1024 : Shape := ⟨2, ![4096, 1024]⟩
abbrev S1x8x256x128 : Shape := ⟨4, ![1, 8, 256, 128]⟩
abbrev S256x1024 : Shape := ⟨2, ![256, 1024]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S2x8x2048x128, .f32⟩
  | .hbm, ⟨1, _⟩ => ⟨S4096x4112, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S4096x4224, .f32⟩
  | .hbm, ⟨6, _⟩ => ⟨S1x128, .f32⟩
  | .hbm, ⟨7, _⟩ => ⟨S4096x1024, .bf16⟩
  | .local _ .vmem, ⟨0, _⟩ => ⟨S1x8x256x128, .f32⟩
  | .local _ .vmem, ⟨1, _⟩ => ⟨S1x8x256x128, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | _, _ => ⟨S2x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GNormFwdRefIdeal.lean ====
abbrev S2x8x2048x128 : Shape := ⟨4, ![2, 8, 2048, 128]⟩
abbrev S4096x4112 : Shape := ⟨2, ![4096, 4112]⟩
abbrev S128 : Shape := ⟨1, ![128]⟩
abbrev S4096x1024 : Shape := ⟨2, ![4096, 1024]⟩
abbrev S2x2048x8x128 : Shape := ⟨4, ![2, 2048, 8, 128]⟩
abbrev S_ : Shape := ⟨0, ![]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S2x8x2048x128, .f32⟩
  | .hbm, ⟨1, _⟩ => ⟨S4096x4112, .f32⟩
  | .hbm, ⟨2, _⟩ => ⟨S128, .f32⟩
  | .hbm, ⟨3, _⟩ => ⟨S4096x1024, .f32⟩
  | .hbm, ⟨4, _⟩ => ⟨S2x2048x8x128, .f32⟩
  | .hbm, ⟨5, _⟩ => ⟨S2x2048x8x128, .f32⟩
  | .hbm, ⟨6, _⟩ => ⟨S_, .f32⟩
  | .hbm, ⟨7, _⟩ => ⟨S2x2048x8, .f32⟩
  | .hbm, ⟨8, _⟩ => ⟨S2x2048x8x1, .f32⟩
  | .hbm, ⟨9, _⟩ => ⟨S_, .f32⟩
  | .hbm, ⟨10, _⟩ => ⟨S2x2048x8x1, .f32⟩
  | .hbm, ⟨11, _⟩ => ⟨S2x2048x8x1, .f32⟩
  | .hbm, ⟨12, _⟩ => ⟨S_, .f32⟩
  | .hbm, ⟨13, _⟩ => ⟨S2x2048x8x1, .f32⟩
  | .hbm, ⟨14, _⟩ => ⟨S2x2048x8x1, .f32⟩
  | .hbm, ⟨15, _⟩ => ⟨S2x2048x8x1, .f32⟩
  | .hbm, ⟨16, _⟩ => ⟨S2x2048x8x128, .f32⟩
  | .hbm, ⟨17, _⟩ => ⟨S2x2048x8x128, .f32⟩
  | .hbm, ⟨18, _⟩ => ⟨S1x1x1x128, .f32⟩
  | .hbm, ⟨19, _⟩ => ⟨S2x2048x8x128, .f32⟩
  | .hbm, ⟨20, _⟩ => ⟨S2x2048x8x128, .f32⟩
  | .hbm, ⟨21, _⟩ => ⟨S2x2048x8x128, .f32⟩
  | .hbm, ⟨22, _⟩ => ⟨S2x2048x8x128, .f32⟩
  | .hbm, ⟨23, _⟩ => ⟨S2x2048x8x128, .f32⟩
  | .hbm, ⟨24, _⟩ => ⟨S_, .f32⟩
  | .hbm, ⟨25, _⟩ => ⟨S2x2048x8x128, .f32⟩
  | .hbm, ⟨26, _⟩ => ⟨S2x2048x8x128, .f32⟩
  | .hbm, ⟨27, _⟩ => ⟨S_, .f32⟩
  | .hbm, ⟨28, _⟩ => ⟨S2x2048x8x128, .f32⟩
  | .hbm, ⟨29, _⟩ => ⟨S2x2048x8x128, .f32⟩
  | .hbm, ⟨30, _⟩ => ⟨S2x2048x8x128, .f32⟩
  | .hbm, ⟨31, _⟩ => ⟨S2x2048x8x128, .f32⟩
  | .hbm, ⟨32, _⟩ => ⟨S4096x1024, .f32⟩
  | .hbm, ⟨33, _⟩ => ⟨S4096x1024, .bf16⟩
  | _, _ => ⟨S2x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Scan.lean ====
abbrev S2x8x2048x128 : Shape := ⟨4, ![2, 8, 2048, 128]⟩
abbrev S2x8x2048x64 : Shape := ⟨4, ![2, 8, 2048, 64]⟩
abbrev S2x8x32 : Shape := ⟨3, ![2, 8, 32]⟩
abbrev S2x8x32x1x1 : Shape := ⟨5, ![2, 8, 32, 1, 1]⟩
abbrev S2x8x32x8x128 : Shape := ⟨5, ![2, 8, 32, 8, 128]⟩
abbrev S2x8x256x128 : Shape := ⟨4, ![2, 8, 256, 128]⟩
abbrev S2x8x32x128x128 : Shape := ⟨5, ![2, 8, 32, 128, 128]⟩
abbrev S2x8x128x128 : Shape := ⟨4, ![2, 8, 128, 128]⟩
abbrev S2x8x128x64 : Shape := ⟨4, ![2, 8, 128, 64]⟩
abbrev S2x8x16x128 : Shape := ⟨4, ![2, 8, 16, 128]⟩
abbrev S2x8x2x128x128 : Shape := ⟨5, ![2, 8, 2, 128, 128]⟩
abbrev S16x128x128 : Shape := ⟨3, ![16, 128, 128]⟩
abbrev S2x8x1x128x128 : Shape := ⟨5, ![2, 8, 1, 128, 128]⟩
abbrev S2x8x64x128 : Shape := ⟨4, ![2, 8, 64, 128]⟩
abbrev S16x64x128 : Shape := ⟨3, ![16, 64, 128]⟩
abbrev S2x8x64x64 : Shape := ⟨4, ![2, 8, 64, 64]⟩
abbrev S16x64x64 : Shape := ⟨3, ![16, 64, 64]⟩
abbrev S2x8x1x128 : Shape := ⟨4, ![2, 8, 1, 128]⟩
abbrev S16x1x128 : Shape := ⟨3, ![16, 1, 128]⟩
abbrev S16x128 : Shape := ⟨2, ![16, 128]⟩
abbrev S16x128x1 : Shape := ⟨3, ![16, 128, 1]⟩
abbrev S16x1 : Shape := ⟨2, ![16, 1]⟩
abbrev S16x1x1 : Shape := ⟨3, ![16, 1, 1]⟩
abbrev S16x8x128 : Shape := ⟨3, ![16, 8, 128]⟩
abbrev S2x8x8x128 : Shape := ⟨4, ![2, 8, 8, 128]⟩

abbrev nBuf : Space → Nat
  | .hbm => 23
  | .vmem => 48
  | .smem => 0
  | _ => 0

abbrev bufTy : (tb : Table) → Fin (tcTables nBuf tb) → BufTy
  | .hbm, ⟨0, _⟩ => ⟨S2x8x2048x128, .f32⟩
  | .hbm, ⟨1, _⟩ => ⟨S2x8x2048x128, .f32⟩
  | .hbm, ⟨2, _⟩ => ⟨S2x8x2048x128, .f32⟩
  | .hbm, ⟨3, _⟩ => ⟨S2x8x2048x128, .f32⟩
  | .hbm, ⟨4, _⟩ => ⟨S2x8x2048x64, .f32⟩
  | .hbm, ⟨5, _⟩ => ⟨S2x8x32, .f32⟩
  | .hbm, ⟨6, _⟩ => ⟨S2x8x2048x128, .f32⟩
  | .hbm, ⟨7, _⟩ => ⟨S2x8x2048x128, .bf16⟩
  | .hbm, ⟨8, _⟩ => ⟨S2x8x2048x128, .bf16⟩
  | .hbm, ⟨9, _⟩ => ⟨S2x8x2048x128, .bf16⟩
  | .hbm, ⟨10, _⟩ => ⟨S2x8x2048x64, .bf16⟩
  | .hbm, ⟨11, _⟩ => ⟨S2x8x32x1x1, .f32⟩
  | .hbm, ⟨12, _⟩ => ⟨S2x8x32x8x128, .f32⟩
  | .hbm, ⟨13, _⟩ => ⟨S2x8x256x128, .f32⟩
  | .hbm, ⟨14, _⟩ => ⟨S2x8x2048x128, .f32⟩
  | .hbm, ⟨15, _⟩ => ⟨S2x8x2048x128, .f32⟩
  | .hbm, ⟨16, _⟩ => ⟨S2x8x32x128x128, .f32⟩
  | .hbm, ⟨17, _⟩ => ⟨S2x8x2048x128, .f32⟩
  | .hbm, ⟨18, _⟩ => ⟨S2x8x2048x128, .f32⟩
  | .hbm, ⟨19, _⟩ => ⟨S2x8x2048x128, .f32⟩
  | .hbm, ⟨20, _⟩ => ⟨S2x8x2048x128, .f32⟩
  | .hbm, ⟨21, _⟩ => ⟨S2x8x2048x64, .f32⟩
  | .hbm, ⟨22, _⟩ => ⟨S2x8x256x128, .f32⟩
  | .local _ .vmem, ⟨0, _⟩ => ⟨S2x8x128x128, .f32⟩
  | .local _ .vmem, ⟨1, _⟩ => ⟨S2x8x128x128, .f32⟩
  | .local _ .vmem, ⟨2, _⟩ => ⟨S2x8x128x128, .bf16⟩
  | .local _ .vmem, ⟨3, _⟩ => ⟨S2x8x128x128, .bf16⟩
  | .local _ .vmem, ⟨4, _⟩ => ⟨S2x8x128x128, .bf16⟩
  | .local _ .vmem, ⟨5, _⟩ => ⟨S2x8x128x128, .bf16⟩
  | .local _ .vmem, ⟨6, _⟩ => ⟨S2x8x128x128, .bf16⟩
  | .local _ .vmem, ⟨7, _⟩ => ⟨S2x8x128x128, .bf16⟩
  | .local _ .vmem, ⟨8, _⟩ => ⟨S2x8x128x64, .bf16⟩
  | .local _ .vmem, ⟨9, _⟩ => ⟨S2x8x128x64, .bf16⟩
  | .local _ .vmem, ⟨10, _⟩ => ⟨S2x8x16x128, .f32⟩
  | .local _ .vmem, ⟨11, _⟩ => ⟨S2x8x16x128, .f32⟩
  | .local _ .vmem, ⟨12, _⟩ => ⟨S2x8x128x128, .f32⟩
  | .local _ .vmem, ⟨13, _⟩ => ⟨S2x8x128x128, .f32⟩
  | .local _ .vmem, ⟨14, _⟩ => ⟨S2x8x128x128, .f32⟩
  | .local _ .vmem, ⟨15, _⟩ => ⟨S2x8x128x128, .f32⟩
  | .local _ .vmem, ⟨16, _⟩ => ⟨S2x8x2x128x128, .f32⟩
  | .local _ .vmem, ⟨17, _⟩ => ⟨S2x8x2x128x128, .f32⟩
  | .local _ .vmem, ⟨18, _⟩ => ⟨S16x128x128, .f32⟩
  | .local _ .vmem, ⟨19, _⟩ => ⟨S2x8x128x128, .f32⟩
  | .local _ .vmem, ⟨20, _⟩ => ⟨S2x8x128x128, .f32⟩
  | .local _ .vmem, ⟨21, _⟩ => ⟨S2x8x128x128, .bf16⟩
  | .local _ .vmem, ⟨22, _⟩ => ⟨S2x8x128x128, .bf16⟩
  | .local _ .vmem, ⟨23, _⟩ => ⟨S2x8x128x128, .bf16⟩
  | .local _ .vmem, ⟨24, _⟩ => ⟨S2x8x128x128, .bf16⟩
  | .local _ .vmem, ⟨25, _⟩ => ⟨S2x8x128x128, .bf16⟩
  | .local _ .vmem, ⟨26, _⟩ => ⟨S2x8x128x128, .bf16⟩
  | .local _ .vmem, ⟨27, _⟩ => ⟨S2x8x128x64, .bf16⟩
  | .local _ .vmem, ⟨28, _⟩ => ⟨S2x8x128x64, .bf16⟩
  | .local _ .vmem, ⟨29, _⟩ => ⟨S2x8x16x128, .f32⟩
  | .local _ .vmem, ⟨30, _⟩ => ⟨S2x8x16x128, .f32⟩
  | .local _ .vmem, ⟨31, _⟩ => ⟨S2x8x128x128, .f32⟩
  | .local _ .vmem, ⟨32, _⟩ => ⟨S2x8x128x128, .f32⟩
  | .local _ .vmem, ⟨33, _⟩ => ⟨S2x8x2x128x128, .f32⟩
  | .local _ .vmem, ⟨34, _⟩ => ⟨S2x8x2x128x128, .f32⟩
  | .local _ .vmem, ⟨35, _⟩ => ⟨S2x8x128x128, .f32⟩
  | .local _ .vmem, ⟨36, _⟩ => ⟨S2x8x128x128, .f32⟩
  | .local _ .vmem, ⟨37, _⟩ => ⟨S2x8x128x128, .f32⟩
  | .local _ .vmem, ⟨38, _⟩ => ⟨S2x8x128x128, .f32⟩
  | .local _ .vmem, ⟨39, _⟩ => ⟨S2x8x128x128, .f32⟩
  | .local _ .vmem, ⟨40, _⟩ => ⟨S2x8x128x128, .f32⟩
  | .local _ .vmem, ⟨41, _⟩ => ⟨S2x8x128x128, .f32⟩
  | .local _ .vmem, ⟨42, _⟩ => ⟨S2x8x128x128, .f32⟩
  | .local _ .vmem, ⟨43, _⟩ => ⟨S2x8x128x64, .f32⟩
  | .local _ .vmem, ⟨44, _⟩ => ⟨S2x8x128x64, .f32⟩
  | .local _ .vmem, ⟨45, _⟩ => ⟨S2x8x16x128, .f32⟩
  | .local _ .vmem, ⟨46, _⟩ => ⟨S2x8x16x128, .f32⟩
  | .local _ .vmem, ⟨47, _⟩ => ⟨S16x128x128, .f32⟩
  | _, _ => ⟨S2x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S2x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x2x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_1 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_2 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_3 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_4 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_5 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_6 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_7 (i : grid1.Coords) : Fin 5 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v0.toNat, c0_i32_1.toNat, c0_i32_2.toNat]

def cc1_transform_8 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_9 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_10 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_11 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_12 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc1_transform_13 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

abbrev stage1_0 : Fin 2 → Memref sig .tc .vmem S2x8x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x8x128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x8x128x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x8x128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x8x128x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x8x16x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x8x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2x8x2x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2x8x128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2x8x128x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2x8x128x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2x8x128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2x8x128x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S2x8x16x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ScanRefIdeal.lean ====
abbrev S2x8x2048x128 : Shape := ⟨4, ![2, 8, 2048, 128]⟩
abbrev S2x8x2048x64 : Shape := ⟨4, ![2, 8, 2048, 64]⟩
abbrev S2x8x32 : Shape := ⟨3, ![2, 8, 32]⟩
abbrev S_ : Shape := ⟨0, ![]⟩
abbrev S2x8x128x128 : Shape := ⟨4, ![2, 8, 128, 128]⟩
abbrev S2x8x32x64x128 : Shape := ⟨5, ![2, 8, 32, 64, 128]⟩
abbrev S32x2x8x64x128 : Shape := ⟨5, ![32, 2, 8, 64, 128]⟩
abbrev S2x8x32x64x64 : Shape := ⟨5, ![2, 8, 32, 64, 64]⟩
abbrev S32x2x8x64x64 : Shape := ⟨5, ![32, 2, 8, 64, 64]⟩
abbrev S32x2x8 : Shape := ⟨3, ![32, 2, 8]⟩
abbrev S32x2x8x128x128 : Shape := ⟨5, ![32, 2, 8, 128, 128]⟩
abbrev S32x2x8x1x1 : Shape := ⟨5, ![32, 2, 8, 1, 1]⟩
abbrev S1x2x8x64x128 : Shape := ⟨5, ![1, 2, 8, 64, 128]⟩
abbrev S2x8x64x128 : Shape := ⟨4, ![2, 8, 64, 128]⟩
abbrev S1x2x8x64x64 : Shape := ⟨5, ![1, 2, 8, 64, 64]⟩
abbrev S2x8x64x64 : Shape := ⟨4, ![2, 8, 64, 64]⟩
abbrev S1x2x8 : Shape := ⟨3, ![1, 2, 8]⟩
abbrev S2x8 : Shape := ⟨2, ![2, 8]⟩
abbrev S2x8x1x1 : Shape := ⟨4, ![2, 8, 1, 1]⟩
abbrev S1x2x8x128x128 : Shape := ⟨5, ![1, 2, 8, 128, 128]⟩
abbrev S1x2x8x1x1 : Shape := ⟨5, ![1, 2, 8, 1, 1]⟩
abbrev S2x8x128x64 : Shape := ⟨4, ![2, 8, 128, 64]⟩
abbrev S2x8x32x1x1 : Shape := ⟨5, ![2, 8, 32, 1, 1]⟩
abbrev S2x8x32x8x128 : Shape := ⟨5, ![2, 8, 32, 8, 128]⟩
abbrev S2x8x256x128 : Shape := ⟨4, ![2, 8, 256, 128]⟩

abbrev nBuf : Space → Nat
  | .hbm => 279
  | .vmem => 0
  | .smem => 0
  | _ => 0

abbrev hbmTy0_0 (i : Nat) : BufTy := match i % 128 with
  | 0 => ⟨S2x8x2048x128, .f32⟩
  | 1 => ⟨S2x8x2048x128, .f32⟩
  | 2 => ⟨S2x8x2048x128, .f32⟩
  | 3 => ⟨S2x8x2048x128, .f32⟩
  | 4 => ⟨S2x8x2048x64, .f32⟩
  | 5 => ⟨S2x8x32, .f32⟩
  | 6 => ⟨S2x8x2048x128, .f32⟩
  | 7 => ⟨S_, .f32⟩
  | 8 => ⟨S2x8x128x128, .f32⟩
  | 9 => ⟨S2x8x32x64x128, .f32⟩
  | 10 => ⟨S32x2x8x64x128, .f32⟩
  | 11 => ⟨S2x8x32x64x128, .f32⟩
  | 12 => ⟨S32x2x8x64x128, .f32⟩
  | 13 => ⟨S2x8x32x64x128, .f32⟩
  | 14 => ⟨S32x2x8x64x128, .f32⟩
  | 15 => ⟨S2x8x32x64x64, .f32⟩
  | 16 => ⟨S32x2x8x64x64, .f32⟩
  | 17 => ⟨S2x8x32x64x128, .f32⟩
  | 18 => ⟨S32x2x8x64x128, .f32⟩
  | 19 => ⟨S32x2x8, .f32⟩
  | 20 => ⟨S_, .f32⟩
  | 21 => ⟨S32x2x8x64x128, .f32⟩
  | 22 => ⟨S_, .f32⟩
  | 23 => ⟨S32x2x8x128x128, .f32⟩
  | 24 => ⟨S_, .f32⟩
  | 25 => ⟨S32x2x8x64x128, .f32⟩
  | 26 => ⟨S_, .f32⟩
  | 27 => ⟨S32x2x8x1x1, .f32⟩
  | 28 => ⟨S_, .i32⟩
  | 29 => ⟨S32x2x8x64x128, .f32⟩
  | 30 => ⟨S32x2x8x64x128, .f32⟩
  | 31 => ⟨S32x2x8x64x128, .f32⟩
  | 32 => ⟨S32x2x8x64x64, .f32⟩
  | 33 => ⟨S32x2x8x64x128, .f32⟩
  | 34 => ⟨S32x2x8, .f32⟩
  | 35 => ⟨S_, .i32⟩
  | 36 => ⟨S2x8x128x128, .f32⟩
  | 37 => ⟨S32x2x8x64x128, .f32⟩
  | 38 => ⟨S32x2x8x128x128, .f32⟩
  | 39 => ⟨S32x2x8x64x128, .f32⟩
  | 40 => ⟨S32x2x8x1x1, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1x2x8x64x128, .f32⟩
  | 48 => ⟨S2x8x64x128, .f32⟩
  | 49 => ⟨S_, .i32⟩
  | 50 => ⟨S_, .i32⟩
  | 51 => ⟨S_, .i32⟩
  | 52 => ⟨S_, .i32⟩
  | 53 => ⟨S1x2x8x64x128, .f32⟩
  | 54 => ⟨S2x8x64x128, .f32⟩
  | 55 => ⟨S_, .i32⟩
  | 56 => ⟨S_, .i32⟩
  | 57 => ⟨S_, .i32⟩
  | 58 => ⟨S_, .i32⟩
  | 59 => ⟨S1x2x8x64x128, .f32⟩
  | 60 => ⟨S2x8x64x128, .f32⟩
  | 61 => ⟨S_, .i32⟩
  | 62 => ⟨S_, .i32⟩
  | 63 => ⟨S_, .i32⟩
  | 64 => ⟨S_, .i32⟩
  | 65 => ⟨S1x2x8x64x64, .f32⟩
  | 66 => ⟨S2x8x64x64, .f32⟩
  | 67 => ⟨S_, .i32⟩
  | 68 => ⟨S_, .i32⟩
  | 69 => ⟨S_, .i32⟩
  | 70 => ⟨S_, .i32⟩
  | 71 => ⟨S1x2x8x64x128, .f32⟩
  | 72 => ⟨S2x8x64x128, .f32⟩
  | 73 => ⟨S_, .i32⟩
  | 74 => ⟨S_, .i32⟩
  | 75 => ⟨S1x2x8, .f32⟩
  | 76 => ⟨S2x8, .f32⟩
  | 77 => ⟨S2x8x64x128, .f32⟩
  | 78 => ⟨S2x8x64x128, .f32⟩
  | 79 => ⟨S2x8x64x128, .f32⟩
  | 80 => ⟨S2x8x64x128, .f32⟩
  | 81 => ⟨S2x8x64x128, .f32⟩
  | 82 => ⟨S2x8x1x1, .f32⟩
  | 83 => ⟨S2x8x128x128, .f32⟩
  | 84 => ⟨S2x8x128x128, .f32⟩
  | 85 => ⟨S2x8x128x128, .f32⟩
  | 86 => ⟨S2x8x128x128, .f32⟩
  | 87 => ⟨S1x2x8x64x128, .f32⟩
  | 88 => ⟨S_, .i32⟩
  | 89 => ⟨S_, .i32⟩
  | 90 => ⟨S_, .i32⟩
  | 91 => ⟨S_, .i32⟩
  | 92 => ⟨S32x2x8x64x128, .f32⟩
  | 93 => ⟨S1x2x8x128x128, .f32⟩
  | 94 => ⟨S_, .i32⟩
  | 95 => ⟨S_, .i32⟩
  | 96 => ⟨S_, .i32⟩
  | 97 => ⟨S_, .i32⟩
  | 98 => ⟨S32x2x8x128x128, .f32⟩
  | 99 => ⟨S1x2x8x64x128, .f32⟩
  | 100 => ⟨S_, .i32⟩
  | 101 => ⟨S_, .i32⟩
  | 102 => ⟨S_, .i32⟩
  | 103 => ⟨S_, .i32⟩
  | 104 => ⟨S32x2x8x64x128, .f32⟩
  | 105 => ⟨S1x2x8x1x1, .f32⟩
  | 106 => ⟨S_, .i32⟩
  | 107 => ⟨S_, .i32⟩
  | 108 => ⟨S_, .i32⟩
  | 109 => ⟨S_, .i32⟩
  | 110 => ⟨S32x2x8x1x1, .f32⟩
  | 111 => ⟨S_, .i32⟩
  | 112 => ⟨S_, .i32⟩
  | 113 => ⟨S2x8x32x64x128, .f32⟩
  | 114 => ⟨S2x8x2048x128, .f32⟩
  | 115 => ⟨S_, .f32⟩
  | 116 => ⟨S2x8x128x128, .f32⟩
  | 117 => ⟨S2x8x32x64x128, .f32⟩
  | 118 => ⟨S32x2x8x64x128, .f32⟩
  | 119 => ⟨S_, .f32⟩
  | 120 => ⟨S2x8x128x128, .f32⟩
  | 121 => ⟨S_, .f32⟩
  | 122 => ⟨S32x2x8x64x128, .f32⟩
  | 123 => ⟨S_, .f32⟩
  | 124 => ⟨S32x2x8x64x128, .f32⟩
  | 125 => ⟨S_, .f32⟩
  | 126 => ⟨S32x2x8x64x128, .f32⟩
  | 127 => ⟨S_, .f32⟩
  | _ => ⟨S2x8x2048x128, .f32⟩

abbrev hbmTy0_1 (i : Nat) : BufTy := match i % 128 with
  | 0 => ⟨S32x2x8x64x64, .f32⟩
  | 1 => ⟨S_, .f32⟩
  | 2 => ⟨S32x2x8x64x128, .f32⟩
  | 3 => ⟨S_, .f32⟩
  | 4 => ⟨S32x2x8, .f32⟩
  | 5 => ⟨S_, .i32⟩
  | 6 => ⟨S32x2x8x64x128, .f32⟩
  | 7 => ⟨S32x2x8x128x128, .f32⟩
  | 8 => ⟨S32x2x8x64x128, .f32⟩
  | 9 => ⟨S32x2x8x64x128, .f32⟩
  | 10 => ⟨S32x2x8x64x128, .f32⟩
  | 11 => ⟨S32x2x8x64x64, .f32⟩
  | 12 => ⟨S32x2x8x1x1, .f32⟩
  | 13 => ⟨S32x2x8x64x128, .f32⟩
  | 14 => ⟨S_, .i32⟩
  | 15 => ⟨S2x8x128x128, .f32⟩
  | 16 => ⟨S32x2x8x64x128, .f32⟩
  | 17 => ⟨S32x2x8x64x128, .f32⟩
  | 18 => ⟨S32x2x8x64x128, .f32⟩
  | 19 => ⟨S32x2x8x64x64, .f32⟩
  | 20 => ⟨S32x2x8x64x128, .f32⟩
  | 21 => ⟨S32x2x8, .f32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S1x2x8x64x128, .f32⟩
  | 33 => ⟨S2x8x64x128, .f32⟩
  | 34 => ⟨S_, .i32⟩
  | 35 => ⟨S_, .i32⟩
  | 36 => ⟨S_, .i32⟩
  | 37 => ⟨S_, .i32⟩
  | 38 => ⟨S1x2x8x128x128, .f32⟩
  | 39 => ⟨S2x8x128x128, .f32⟩
  | 40 => ⟨S_, .i32⟩
  | 41 => ⟨S_, .i32⟩
  | 42 => ⟨S_, .i32⟩
  | 43 => ⟨S_, .i32⟩
  | 44 => ⟨S1x2x8x64x128, .f32⟩
  | 45 => ⟨S2x8x64x128, .f32⟩
  | 46 => ⟨S_, .i32⟩
  | 47 => ⟨S_, .i32⟩
  | 48 => ⟨S_, .i32⟩
  | 49 => ⟨S_, .i32⟩
  | 50 => ⟨S1x2x8x64x128, .f32⟩
  | 51 => ⟨S2x8x64x128, .f32⟩
  | 52 => ⟨S_, .i32⟩
  | 53 => ⟨S_, .i32⟩
  | 54 => ⟨S_, .i32⟩
  | 55 => ⟨S_, .i32⟩
  | 56 => ⟨S1x2x8x64x128, .f32⟩
  | 57 => ⟨S2x8x64x128, .f32⟩
  | 58 => ⟨S_, .i32⟩
  | 59 => ⟨S_, .i32⟩
  | 60 => ⟨S_, .i32⟩
  | 61 => ⟨S_, .i32⟩
  | 62 => ⟨S1x2x8x64x64, .f32⟩
  | 63 => ⟨S2x8x64x64, .f32⟩
  | 64 => ⟨S_, .i32⟩
  | 65 => ⟨S_, .i32⟩
  | 66 => ⟨S_, .i32⟩
  | 67 => ⟨S_, .i32⟩
  | 68 => ⟨S1x2x8x1x1, .f32⟩
  | 69 => ⟨S2x8x1x1, .f32⟩
  | 70 => ⟨S_, .i32⟩
  | 71 => ⟨S_, .i32⟩
  | 72 => ⟨S_, .i32⟩
  | 73 => ⟨S_, .i32⟩
  | 74 => ⟨S1x2x8x64x128, .f32⟩
  | 75 => ⟨S2x8x64x128, .f32⟩
  | 76 => ⟨S2x8x128x64, .f32⟩
  | 77 => ⟨S2x8x64x128, .f32⟩
  | 78 => ⟨S2x8x128x64, .f32⟩
  | 79 => ⟨S2x8x64x128, .f32⟩
  | 80 => ⟨S2x8x128x128, .f32⟩
  | 81 => ⟨S_, .f32⟩
  | 82 => ⟨S2x8, .f32⟩
  | 83 => ⟨S2x8x1x1, .f32⟩
  | 84 => ⟨S2x8x128x128, .f32⟩
  | 85 => ⟨S2x8x128x128, .f32⟩
  | 86 => ⟨S_, .f32⟩
  | 87 => ⟨S2x8, .f32⟩
  | 88 => ⟨S2x8x128x64, .f32⟩
  | 89 => ⟨S2x8x64x128, .f32⟩
  | 90 => ⟨S2x8x64x128, .f32⟩
  | 91 => ⟨S2x8x64x64, .f32⟩
  | 92 => ⟨S2x8x128x128, .f32⟩
  | 93 => ⟨S2x8x128x128, .f32⟩
  | 94 => ⟨S2x8x128x128, .f32⟩
  | 95 => ⟨S2x8x64x128, .f32⟩
  | 96 => ⟨S2x8x64x128, .f32⟩
  | 97 => ⟨S2x8x128x128, .f32⟩
  | 98 => ⟨S2x8x128x128, .f32⟩
  | 99 => ⟨S2x8x128x128, .f32⟩
  | 100 => ⟨S2x8x64x128, .f32⟩
  | 101 => ⟨S1x2x8x64x128, .f32⟩
  | 102 => ⟨S_, .i32⟩
  | 103 => ⟨S_, .i32⟩
  | 104 => ⟨S_, .i32⟩
  | 105 => ⟨S_, .i32⟩
  | 106 => ⟨S32x2x8x64x128, .f32⟩
  | 107 => ⟨S1x2x8x64x128, .f32⟩
  | 108 => ⟨S_, .i32⟩
  | 109 => ⟨S_, .i32⟩
  | 110 => ⟨S_, .i32⟩
  | 111 => ⟨S_, .i32⟩
  | 112 => ⟨S32x2x8x64x128, .f32⟩
  | 113 => ⟨S1x2x8x64x128, .f32⟩
  | 114 => ⟨S_, .i32⟩
  | 115 => ⟨S_, .i32⟩
  | 116 => ⟨S_, .i32⟩
  | 117 => ⟨S_, .i32⟩
  | 118 => ⟨S32x2x8x64x128, .f32⟩
  | 119 => ⟨S1x2x8x64x64, .f32⟩
  | 120 => ⟨S_, .i32⟩
  | 121 => ⟨S_, .i32⟩
  | 122 => ⟨S_, .i32⟩
  | 123 => ⟨S_, .i32⟩
  | 124 => ⟨S32x2x8x64x64, .f32⟩
  | 125 => ⟨S1x2x8x64x128, .f32⟩
  | 126 => ⟨S_, .i32⟩
  | 127 => ⟨S_, .i32⟩
  | _ => ⟨S2x8x2048x128, .f32⟩

abbrev hbmTy0_2 (i : Nat) : BufTy := match i % 128 with
  | 0 => ⟨S_, .i32⟩
  | 1 => ⟨S_, .i32⟩
  | 2 => ⟨S32x2x8x64x128, .f32⟩
  | 3 => ⟨S1x2x8, .f32⟩
  | 4 => ⟨S_, .i32⟩
  | 5 => ⟨S_, .i32⟩
  | 6 => ⟨S32x2x8, .f32⟩
  | 7 => ⟨S_, .i32⟩
  | 8 => ⟨S_, .i32⟩
  | 9 => ⟨S2x8x32, .f32⟩
  | 10 => ⟨S2x8x32x64x128, .f32⟩
  | 11 => ⟨S2x8x2048x128, .f32⟩
  | 12 => ⟨S2x8x32x64x64, .f32⟩
  | 13 => ⟨S2x8x2048x64, .f32⟩
  | 14 => ⟨S2x8x32x64x128, .f32⟩
  | 15 => ⟨S2x8x2048x128, .f32⟩
  | 16 => ⟨S2x8x32x64x128, .f32⟩
  | 17 => ⟨S2x8x2048x128, .f32⟩
  | 18 => ⟨S2x8x32x64x128, .f32⟩
  | 19 => ⟨S2x8x2048x128, .f32⟩
  | 20 => ⟨S2x8x32x1x1, .f32⟩
  | 21 => ⟨S2x8x32x8x128, .f32⟩
  | 22 => ⟨S2x8x256x128, .f32⟩
  | _ => ⟨S2x8x2048x128, .f32⟩

abbrev hbmTy (i : Nat) : BufTy := match i / 128 with
  | 0 => hbmTy0_0 i
  | 1 => hbmTy0_1 i
  | 2 => hbmTy0_2 i
  | _ => ⟨S2x8x2048x128, .f32⟩

abbrev bufTy : (tb : Table) → Fin (tcTables nBuf tb) → BufTy
  | .hbm, ⟨i, _⟩ => hbmTy i
  | _, _ => ⟨S2x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev main_v16_5 : Ref sig .tc := ⟨.hbm, 34, rfl⟩
abbrev main_v16_6 : Ref sig .tc := ⟨.hbm, 35, rfl⟩
abbrev main_v16_7 : Ref sig .tc := ⟨.hbm, 36, rfl⟩
abbrev main_v16_8 : Ref sig .tc := ⟨.hbm, 37, rfl⟩
abbrev main_v16_9 : Ref sig .tc := ⟨.hbm, 38, rfl⟩
abbrev main_v16_10 : Ref sig .tc := ⟨.hbm, 39, rfl⟩
abbrev main_v16_11 : Ref sig .tc := ⟨.hbm, 40, rfl⟩
abbrev main_while0c_c_24 : Ref sig .tc := ⟨.hbm, 41, rfl⟩
abbrev main_while0c_v44 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_c_1 : Ref sig .tc := ⟨.hbm, 45, rfl⟩
abbrev main_while0b_call0_c_2 : Ref sig .tc := ⟨.hbm, 46, rfl⟩
abbrev main_while0b_call0_v0 : Ref sig .tc := ⟨.hbm, 47, rfl⟩
abbrev main_while0b_v44 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_c_2 : Ref sig .tc := ⟨.hbm, 52, rfl⟩
abbrev main_while0b_call1_v0 : Ref sig .tc := ⟨.hbm, 53, rfl⟩
abbrev main_while0b_v45 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_c_2 : Ref sig .tc := ⟨.hbm, 58, rfl⟩
abbrev main_while0b_call2_v0 : Ref sig .tc := ⟨.hbm, 59, rfl⟩
abbrev main_while0b_v46 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_c_2 : Ref sig .tc := ⟨.hbm, 64, rfl⟩
abbrev main_while0b_call3_v0 : Ref sig .tc := ⟨.hbm, 65, rfl⟩
abbrev main_while0b_v47 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_c_2 : Ref sig .tc := ⟨.hbm, 70, rfl⟩
abbrev main_while0b_call4_v0 : Ref sig .tc := ⟨.hbm, 71, rfl⟩
abbrev main_while0b_v48 : Ref sig .tc := ⟨.hbm, 72, rfl⟩
abbrev main_while0b_call5_c : Ref sig .tc := ⟨.hbm, 73, rfl⟩
abbrev main_while0b_call5_c_0 : Ref sig .tc := ⟨.hbm, 74, rfl⟩
abbrev main_while0b_call5_v0 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_v55 : Ref sig .tc := ⟨.hbm, 82, rfl⟩
abbrev main_while0b_v56 : Ref sig .tc := ⟨.hbm, 83, rfl⟩
abbrev main_while0b_v57 : Ref sig .tc := ⟨.hbm, 84, rfl⟩
abbrev main_while0b_v58 : Ref sig .tc := ⟨.hbm, 85, rfl⟩
abbrev main_while0b_v59 : Ref sig .tc := ⟨.hbm, 86, rfl⟩
abbrev main_while0b_call6_v0 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_call6_c_2 : Ref sig .tc := ⟨.hbm, 91, rfl⟩
abbrev main_while0b_v60 : Ref sig .tc := ⟨.hbm, 92, rfl⟩
abbrev main_while0b_call7_v0 : Ref sig .tc := ⟨.hbm, 93, rfl⟩
abbrev main_while0b_call7_c : Ref sig .tc := ⟨.hbm, 94, rfl⟩
abbrev main_while0b_call7_c_0 : Ref sig .tc := ⟨.hbm, 95, rfl⟩
abbrev main_while0b_call7_c_1 : Ref sig .tc := ⟨.hbm, 96, rfl⟩
abbrev main_while0b_call7_c_2 : Ref sig .tc := ⟨.hbm, 97, rfl⟩
abbrev main_while0b_v61 : Ref sig .tc := ⟨.hbm, 98, rfl⟩
abbrev main_while0b_call8_v0 : Ref sig .tc := ⟨.hbm, 99, rfl⟩
abbrev main_while0b_call8_c : Ref sig .tc := ⟨.hbm, 100, rfl⟩
abbrev main_while0b_call8_c_0 : Ref sig .tc := ⟨.hbm, 101, rfl⟩
abbrev main_while0b_call8_c_1 : Ref sig .tc := ⟨.hbm, 102, rfl⟩
abbrev main_while0b_call8_c_2 : Ref sig .tc := ⟨.hbm, 103, rfl⟩
abbrev main_while0b_v62 : Ref sig .tc := ⟨.hbm, 104, rfl⟩
abbrev main_while0b_call9_v0 : Ref sig .tc := ⟨.hbm, 105, rfl⟩
abbrev main_while0b_call9_c : Ref sig .tc := ⟨.hbm, 106, rfl⟩
abbrev main_while0b_call9_c_0 : Ref sig .tc := ⟨.hbm, 107, rfl⟩
abbrev main_while0b_call9_c_1 : Ref sig .tc := ⟨.hbm, 108, rfl⟩
abbrev main_while0b_call9_c_2 : Ref sig .tc := ⟨.hbm, 109, rfl⟩
abbrev main_while0b_v63 : Ref sig .tc := ⟨.hbm, 110, rfl⟩
abbrev main_while0b_c_24 : Ref sig .tc := ⟨.hbm, 111, rfl⟩
abbrev main_while0b_v64 : Ref sig .tc := ⟨.hbm, 112, rfl⟩
abbrev main_v17 : Ref sig .tc := ⟨.hbm, 113, rfl⟩
abbrev main_v18 : Ref sig .tc := ⟨.hbm, 114, rfl⟩
abbrev main_cst_4 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_cst_5 : Ref sig .tc := ⟨.hbm, 119, rfl⟩
abbrev main_v22 : Ref sig .tc := ⟨.hbm, 120, rfl⟩
abbrev main_cst_6 : Ref sig .tc := ⟨.hbm, 121, rfl⟩
abbrev main_v23 : Ref sig .tc := ⟨.hbm, 122, rfl⟩
abbrev main_cst_7 : Ref sig .tc := ⟨.hbm, 123, rfl⟩
abbrev main_v24 : Ref sig .tc := ⟨.hbm, 124, rfl⟩
abbrev main_cst_8 : Ref sig .tc := ⟨.hbm, 125, rfl⟩
abbrev main_v25 : Ref sig .tc := ⟨.hbm, 126, rfl⟩
abbrev main_cst_9 : Ref sig .tc := ⟨.hbm, 127, rfl⟩
abbrev main_v26 : Ref sig .tc := ⟨.hbm, 128, rfl⟩
abbrev main_cst_10 : Ref sig .tc := ⟨.hbm, 129, rfl⟩
abbrev main_v27 : Ref sig .tc := ⟨.hbm, 130, rfl⟩
abbrev main_cst_11 : Ref sig .tc := ⟨.hbm, 131, rfl⟩
abbrev main_v28 : Ref sig .tc := ⟨.hbm, 132, rfl⟩
abbrev main_c_12 : Ref sig .tc := ⟨.hbm, 133, rfl⟩
abbrev main_v29_0 : Ref sig .tc := ⟨.hbm, 134, rfl⟩
abbrev main_v29_1 : Ref sig .tc := ⟨.hbm, 135, rfl⟩
abbrev main_v29_2 : Ref sig .tc := ⟨.hbm, 136, rfl⟩
abbrev main_v29_3 : Ref sig .tc := ⟨.hbm, 137, rfl⟩
abbrev main_v29_4 : Ref sig .tc := ⟨.hbm, 138, rfl⟩
abbrev main_v29_5 : Ref sig .tc := ⟨.hbm, 139, rfl⟩
abbrev main_v29_6 : Ref sig .tc := ⟨.hbm, 140, rfl⟩
abbrev main_v29_7 : Ref sig .tc := ⟨.hbm, 141, rfl⟩
abbrev main_v29_8 : Ref sig .tc := ⟨.hbm, 142, rfl⟩
abbrev main_v29_9 : Ref sig .tc := ⟨.hbm, 143, rfl⟩
abbrev main_v29_10 : Ref sig .tc := ⟨.hbm, 144, rfl⟩
abbrev main_v29_11 : Ref sig .tc := ⟨.hbm, 145, rfl⟩
abbrev main_v29_12 : Ref sig .tc := ⟨.hbm, 146, rfl⟩
abbrev main_v29_13 : Ref sig .tc := ⟨.hbm, 147, rfl⟩
abbrev main_v29_14 : Ref sig .tc := ⟨.hbm, 148, rfl⟩
abbrev main_v29_15 : Ref sig .tc := ⟨.hbm, 149, rfl⟩
abbrev main_while1c_c_28 : Ref sig .tc := ⟨.hbm, 150, rfl⟩
abbrev main_while1c_v44 : Ref sig .tc := ⟨.hbm, 151, rfl⟩
abbrev main_while1b_c_28 : Ref sig .tc := ⟨.hbm, 152, rfl⟩
abbrev main_while1b_v44 : Ref sig .tc := ⟨.hbm, 153, rfl⟩
abbrev main_while1b_c_29 : Ref sig .tc := ⟨.hbm, 154, rfl⟩
abbrev main_while1b_v45 : Ref sig .tc := ⟨.hbm, 155, rfl⟩
abbrev main_while1b_call10_c : Ref sig .tc := ⟨.hbm, 156, rfl⟩
abbrev main_while1b_call10_c_0 : Ref sig .tc := ⟨.hbm, 157, rfl⟩
abbrev main_while1b_call10_c_1 : Ref sig .tc := ⟨.hbm, 158, rfl⟩
abbrev main_while1b_call10_c_2 : Ref sig .tc := ⟨.hbm, 159, rfl⟩
abbrev main_while1b_call10_v0 : Ref sig .tc := ⟨.hbm, 160, rfl⟩
abbrev main_while1b_v46 : Ref sig .tc := ⟨.hbm, 161, rfl⟩
abbrev main_while1b_call11_c : Ref sig .tc := ⟨.hbm, 162, rfl⟩
abbrev main_while1b_call11_c_0 : Ref sig .tc := ⟨.hbm, 163, rfl⟩
abbrev main_while1b_call11_c_1 : Ref sig .tc := ⟨.hbm, 164, rfl⟩
abbrev main_while1b_call11_c_2 : Ref sig .tc := ⟨.hbm, 165, rfl⟩
abbrev main_while1b_call11_v0 : Ref sig .tc := ⟨.hbm, 166, rfl⟩
abbrev main_while1b_v47 : Ref sig .tc := ⟨.hbm, 167, rfl⟩
abbrev main_while1b_call12_c : Ref sig .tc := ⟨.hbm, 168, rfl⟩
abbrev main_while1b_call12_c_0 : Ref sig .tc := ⟨.hbm, 169, rfl⟩
abbrev main_while1b_call12_c_1 : Ref sig .tc := ⟨.hbm, 170, rfl⟩
abbrev main_while1b_call12_c_2 : Ref sig .tc := ⟨.hbm, 171, rfl⟩
abbrev main_while1b_call12_v0 : Ref sig .tc := ⟨.hbm, 172, rfl⟩
abbrev main_while1b_v48 : Ref sig .tc := ⟨.hbm, 173, rfl⟩
abbrev main_while1b_call13_c : Ref sig .tc := ⟨.hbm, 174, rfl⟩
abbrev main_while1b_call13_c_0 : Ref sig .tc := ⟨.hbm, 175, rfl⟩
abbrev main_while1b_call13_c_1 : Ref sig .tc := ⟨.hbm, 176, rfl⟩
abbrev main_while1b_call13_c_2 : Ref sig .tc := ⟨.hbm, 177, rfl⟩
abbrev main_while1b_call13_v0 : Ref sig .tc := ⟨.hbm, 178, rfl⟩
abbrev main_while1b_v49 : Ref sig .tc := ⟨.hbm, 179, rfl⟩
abbrev main_while1b_call14_c : Ref sig .tc := ⟨.hbm, 180, rfl⟩
abbrev main_while1b_call14_c_0 : Ref sig .tc := ⟨.hbm, 181, rfl⟩
abbrev main_while1b_call14_c_1 : Ref sig .tc := ⟨.hbm, 182, rfl⟩
abbrev main_while1b_call14_c_2 : Ref sig .tc := ⟨.hbm, 183, rfl⟩
abbrev main_while1b_call14_v0 : Ref sig .tc := ⟨.hbm, 184, rfl⟩
abbrev main_while1b_v50 : Ref sig .tc := ⟨.hbm, 185, rfl⟩
abbrev main_while1b_call15_c : Ref sig .tc := ⟨.hbm, 186, rfl⟩
abbrev main_while1b_call15_c_0 : Ref sig .tc := ⟨.hbm, 187, rfl⟩
abbrev main_while1b_call15_c_1 : Ref sig .tc := ⟨.hbm, 188, rfl⟩
abbrev main_while1b_call15_c_2 : Ref sig .tc := ⟨.hbm, 189, rfl⟩
abbrev main_while1b_call15_v0 : Ref sig .tc := ⟨.hbm, 190, rfl⟩
abbrev main_while1b_v51 : Ref sig .tc := ⟨.hbm, 191, rfl⟩
abbrev main_while1b_call16_c : Ref sig .tc := ⟨.hbm, 192, rfl⟩
abbrev main_while1b_call16_c_0 : Ref sig .tc := ⟨.hbm, 193, rfl⟩
abbrev main_while1b_call16_c_1 : Ref sig .tc := ⟨.hbm, 194, rfl⟩
abbrev main_while1b_call16_c_2 : Ref sig .tc := ⟨.hbm, 195, rfl⟩
abbrev main_while1b_call16_v0 : Ref sig .tc := ⟨.hbm, 196, rfl⟩
abbrev main_while1b_v52 : Ref sig .tc := ⟨.hbm, 197, rfl⟩
abbrev main_while1b_call17_c : Ref sig .tc := ⟨.hbm, 198, rfl⟩
abbrev main_while1b_call17_c_0 : Ref sig .tc := ⟨.hbm, 199, rfl⟩
abbrev main_while1b_call17_c_1 : Ref sig .tc := ⟨.hbm, 200, rfl⟩
abbrev main_while1b_call17_c_2 : Ref sig .tc := ⟨.hbm, 201, rfl⟩
abbrev main_while1b_call17_v0 : Ref sig .tc := ⟨.hbm, 202, rfl⟩
abbrev main_while1b_v53 : Ref sig .tc := ⟨.hbm, 203, rfl⟩
abbrev main_while1b_v54 : Ref sig .tc := ⟨.hbm, 204, rfl⟩
abbrev main_while1b_v55 : Ref sig .tc := ⟨.hbm, 205, rfl⟩
abbrev main_while1b_v56 : Ref sig .tc := ⟨.hbm, 206, rfl⟩
abbrev main_while1b_v57 : Ref sig .tc := ⟨.hbm, 207, rfl⟩
abbrev main_while1b_v58 : Ref sig .tc := ⟨.hbm, 208, rfl⟩
abbrev main_while1b_cst_30 : Ref sig .tc := ⟨.hbm, 209, rfl⟩
abbrev main_while1b_v59 : Ref sig .tc := ⟨.hbm, 210, rfl⟩
abbrev main_while1b_v60 : Ref sig .tc := ⟨.hbm, 211, rfl⟩
abbrev main_while1b_v61 : Ref sig .tc := ⟨.hbm, 212, rfl⟩
abbrev main_while1b_v62 : Ref sig .tc := ⟨.hbm, 213, rfl⟩
abbrev main_while1b_cst_31 : Ref sig .tc := ⟨.hbm, 214, rfl⟩
abbrev main_while1b_v63 : Ref sig .tc := ⟨.hbm, 215, rfl⟩
abbrev main_while1b_v64 : Ref sig .tc := ⟨.hbm, 216, rfl⟩
abbrev main_while1b_v65 : Ref sig .tc := ⟨.hbm, 217, rfl⟩
abbrev main_while1b_v66 : Ref sig .tc := ⟨.hbm, 218, rfl⟩
abbrev main_while1b_v67 : Ref sig .tc := ⟨.hbm, 219, rfl⟩
abbrev main_while1b_v68 : Ref sig .tc := ⟨.hbm, 220, rfl⟩
abbrev main_while1b_v69 : Ref sig .tc := ⟨.hbm, 221, rfl⟩
abbrev main_while1b_v70 : Ref sig .tc := ⟨.hbm, 222, rfl⟩
abbrev main_while1b_v71 : Ref sig .tc := ⟨.hbm, 223, rfl⟩
abbrev main_while1b_v72 : Ref sig .tc := ⟨.hbm, 224, rfl⟩
abbrev main_while1b_v73 : Ref sig .tc := ⟨.hbm, 225, rfl⟩
abbrev main_while1b_v74 : Ref sig .tc := ⟨.hbm, 226, rfl⟩
abbrev main_while1b_v75 : Ref sig .tc := ⟨.hbm, 227, rfl⟩
abbrev main_while1b_v76 : Ref sig .tc := ⟨.hbm, 228, rfl⟩
abbrev main_while1b_call18_v0 : Ref sig .tc := ⟨.hbm, 229, rfl⟩
abbrev main_while1b_call18_c : Ref sig .tc := ⟨.hbm, 230, rfl⟩
abbrev main_while1b_call18_c_0 : Ref sig .tc := ⟨.hbm, 231, rfl⟩
abbrev main_while1b_call18_c_1 : Ref sig .tc := ⟨.hbm, 232, rfl⟩
abbrev main_while1b_call18_c_2 : Ref sig .tc := ⟨.hbm, 233, rfl⟩
abbrev main_while1b_v77 : Ref sig .tc := ⟨.hbm, 234, rfl⟩
abbrev main_while1b_call19_v0 : Ref sig .tc := ⟨.hbm, 235, rfl⟩
abbrev main_while1b_call19_c : Ref sig .tc := ⟨.hbm, 236, rfl⟩
abbrev main_while1b_call19_c_0 : Ref sig .tc := ⟨.hbm, 237, rfl⟩
abbrev main_while1b_call19_c_1 : Ref sig .tc := ⟨.hbm, 238, rfl⟩
abbrev main_while1b_call19_c_2 : Ref sig .tc := ⟨.hbm, 239, rfl⟩
abbrev main_while1b_v78 : Ref sig .tc := ⟨.hbm, 240, rfl⟩
abbrev main_while1b_call20_v0 : Ref sig .tc := ⟨.hbm, 241, rfl⟩
abbrev main_while1b_call20_c : Ref sig .tc := ⟨.hbm, 242, rfl⟩
abbrev main_while1b_call20_c_0 : Ref sig .tc := ⟨.hbm, 243, rfl⟩
abbrev main_while1b_call20_c_1 : Ref sig .tc := ⟨.hbm, 244, rfl⟩
abbrev main_while1b_call20_c_2 : Ref sig .tc := ⟨.hbm, 245, rfl⟩
abbrev main_while1b_v79 : Ref sig .tc := ⟨.hbm, 246, rfl⟩
abbrev main_while1b_call21_v0 : Ref sig .tc := ⟨.hbm, 247, rfl⟩
abbrev main_while1b_call21_c : Ref sig .tc := ⟨.hbm, 248, rfl⟩
abbrev main_while1b_call21_c_0 : Ref sig .tc := ⟨.hbm, 249, rfl⟩
abbrev main_while1b_call21_c_1 : Ref sig .tc := ⟨.hbm, 250, rfl⟩
abbrev main_while1b_call21_c_2 : Ref sig .tc := ⟨.hbm, 251, rfl⟩
abbrev main_while1b_v80 : Ref sig .tc := ⟨.hbm, 252, rfl⟩
abbrev main_while1b_call22_v0 : Ref sig .tc := ⟨.hbm, 253, rfl⟩
abbrev main_while1b_call22_c : Ref sig .tc := ⟨.hbm, 254, rfl⟩
abbrev main_while1b_call22_c_0 : Ref sig .tc := ⟨.hbm, 255, rfl⟩
abbrev main_while1b_call22_c_1 : Ref sig .tc := ⟨.hbm, 256, rfl⟩
abbrev main_while1b_call22_c_2 : Ref sig .tc := ⟨.hbm, 257, rfl⟩
abbrev main_while1b_v81 : Ref sig .tc := ⟨.hbm, 258, rfl⟩
abbrev main_while1b_call23_v0 : Ref sig .tc := ⟨.hbm, 259, rfl⟩
abbrev main_while1b_call23_c : Ref sig .tc := ⟨.hbm, 260, rfl⟩
abbrev main_while1b_call23_c_0 : Ref sig .tc := ⟨.hbm, 261, rfl⟩
abbrev main_while1b_v82 : Ref sig .tc := ⟨.hbm, 262, rfl⟩
abbrev main_while1b_c_32 : Ref sig .tc := ⟨.hbm, 263, rfl⟩
abbrev main_while1b_v83 : Ref sig .tc := ⟨.hbm, 264, rfl⟩
abbrev main_v30 : Ref sig .tc := ⟨.hbm, 265, rfl⟩
abbrev main_v31 : Ref sig .tc := ⟨.hbm, 266, rfl⟩
abbrev main_v32 : Ref sig .tc := ⟨.hbm, 267, rfl⟩
abbrev main_v33 : Ref sig .tc := ⟨.hbm, 268, rfl⟩
abbrev main_v34 : Ref sig .tc := ⟨.hbm, 269, rfl⟩
abbrev main_v35 : Ref sig .tc := ⟨.hbm, 270, rfl⟩
abbrev main_v36 : Ref sig .tc := ⟨.hbm, 271, rfl⟩
abbrev main_v37 : Ref sig .tc := ⟨.hbm, 272, rfl⟩
abbrev main_v38 : Ref sig .tc := ⟨.hbm, 273, rfl⟩
abbrev main_v39 : Ref sig .tc := ⟨.hbm, 274, rfl⟩
abbrev main_v40 : Ref sig .tc := ⟨.hbm, 275, rfl⟩
abbrev main_v41 : Ref sig .tc := ⟨.hbm, 276, rfl⟩
abbrev main_v42 : Ref sig .tc := ⟨.hbm, 277, rfl⟩
abbrev main_v43 : Ref sig .tc := ⟨.hbm, 278, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Prep.lean ====
abbrev S4096x3072 : Shape := ⟨2, ![4096, 3072]⟩
abbrev S4096x4112 : Shape := ⟨2, ![4096, 4112]⟩
abbrev S8 : Shape := ⟨1, ![8]⟩
abbrev S2x8x2048x128 : Shape := ⟨4, ![2, 8, 2048, 128]⟩
abbrev S_ : Shape := ⟨0, ![]⟩
abbrev S4096x4224 : Shape := ⟨2, ![4096, 4224]⟩
abbrev S128 : Shape := ⟨1, ![128]⟩
abbrev S1x128 : Shape := ⟨2, ![1, 128]⟩
abbrev S4096x128 : Shape := ⟨2, ![4096, 128]⟩
abbrev S2x128 : Shape := ⟨2, ![2, 128]⟩
abbrev S1x8x256x128 : Shape := ⟨4, ![1, 8, 256, 128]⟩
abbrev S256x3072 : Shape := ⟨2, ![256, 3072]⟩
abbrev S256x128 : Shape := ⟨2, ![256, 128]⟩
abbrev S1x1x256x128 : Shape := ⟨4, ![1, 1, 256, 128]⟩
abbrev S256 : Shape := ⟨1, ![256]⟩
abbrev S256x1 : Shape := ⟨2, ![256, 1]⟩

abbrev nBuf : Space → Nat
  | .hbm => 23
  | .vmem => 21
  | .smem => 0
  | _ => 0

abbrev bufTy : (tb : Table) → Fin (tcTables nBuf tb) → BufTy
  | .hbm, ⟨0, _⟩ => ⟨S4096x3072, .f32⟩
  | .hbm, ⟨1, _⟩ => ⟨S4096x4112, .f32⟩
  | .hbm, ⟨2, _⟩ => ⟨S8, .f32⟩
  | .hbm, ⟨3, _⟩ => ⟨S8, .f32⟩
  | .hbm, ⟨4, _⟩ => ⟨S2x8x2048x128, .f32⟩
  | .hbm, ⟨5, _⟩ => ⟨S2x8x2048x128, .f32⟩
  | .hbm, ⟨6, _⟩ => ⟨S2x8x2048x128, .f32⟩
  | .hbm, ⟨7, _⟩ => ⟨S2x8x2048x128, .f32⟩
  | .hbm, ⟨8, _⟩ => ⟨S2x8x2048x128, .f32⟩
  | .hbm, ⟨9, _⟩ => ⟨S_, .i32⟩
  | .hbm, ⟨10, _⟩ => ⟨S_, .f32⟩
  | .hbm, ⟨11, _⟩ => ⟨S4096x4224, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S4096x3072, .f32⟩
  | .hbm, ⟨21, _⟩ => ⟨S4096x128, .bf16⟩
  | .hbm, ⟨22, _⟩ => ⟨S2x128, .f32⟩
  | .local _ .vmem, ⟨0, _⟩ => ⟨S1x8x256x128, .f32⟩
  | .local _ .vmem, ⟨1, _⟩ => ⟨S1x8x256x128, .f32⟩
  | .local _ .vmem, ⟨2, _⟩ => ⟨S1x8x256x128, .f32⟩
  | .local _ .vmem, ⟨3, _⟩ => ⟨S1x8x256x128, .f32⟩
  | .local _ .vmem, ⟨4, _⟩ => ⟨S1x8x256x128, .f32⟩
  | .local _ .vmem, ⟨5, _⟩ => ⟨S1x8x256x128, .f32⟩
  | .local _ .vmem, ⟨6, _⟩ => ⟨S1x8x256x128, .f32⟩
  | .local _ .vmem, ⟨7, _⟩ => ⟨S1x8x256x128, .f32⟩
  | .local _ .vmem, ⟨8, _⟩ => ⟨S1x8x256x128, .f32⟩
  | .local _ .vmem, ⟨9, _⟩ => ⟨S1x8x256x128, .f32⟩
  | .local _ .vmem, ⟨10, _⟩ => ⟨S256x3072, .f32⟩
  | .local _ .vmem, ⟨11, _⟩ => ⟨S256x3072, .f32⟩
  | .local _ .vmem, ⟨12, _⟩ => ⟨S256x128, .f32⟩
  | .local _ .vmem, ⟨13, _⟩ => ⟨S256x128, .f32⟩
  | .local _ .vmem, ⟨14, _⟩ => ⟨S1x128, .f32⟩
  | .local _ .vmem, ⟨15, _⟩ => ⟨S1x128, .f32⟩
  | .local _ .vmem, ⟨16, _⟩ => ⟨S256x3072, .f32⟩
  | .local _ .vmem, ⟨17, _⟩ => ⟨S256x3072, .f32⟩
  | .local _ .vmem, ⟨18, _⟩ => ⟨S256x128, .bf16⟩
  | .local _ .vmem, ⟨19, _⟩ => ⟨S256x128, .bf16⟩
  | .local _ .vmem, ⟨20, _⟩ => ⟨S2x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_call2_v0 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let c0_i32 : BitVec 32 := 0#32
  ![v1.toNat, c32_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== PrepRefIdeal.lean ====
abbrev S4096x3072 : Shape := ⟨2, ![4096, 3072]⟩
abbrev S4096x4112 : Shape := ⟨2, ![4096, 4112]⟩
abbrev S8 : Shape := ⟨1, ![8]⟩
abbrev S2x8x2048x128 : Shape := ⟨4, ![2, 8, 2048, 128]⟩
abbrev S4096x16 : Shape := ⟨2, ![4096, 16]⟩
abbrev S_ : Shape := ⟨0, ![]⟩
abbrev S4096x1024 : Shape := ⟨2, ![4096, 1024]⟩
abbrev S2x2048x8x128 : Shape := ⟨4, ![2, 2048, 8, 128]⟩
abbrev S4096x8 : Shape := ⟨2, ![4096, 8]⟩
abbrev S1x8 : Shape := ⟨2, ![1, 8]⟩
abbrev S2x2048x8 : Shape := ⟨3, ![2, 2048, 8]⟩
abbrev S2x8x2048 : Shape := ⟨3, ![2, 8, 2048]⟩
abbrev S2x8x2048x1 : Shape := ⟨4, ![2, 8, 2048, 1]⟩
abbrev S4096x128 : Shape := ⟨2, ![4096, 128]⟩
abbrev S2x8 : Shape := ⟨2, ![2, 8]⟩
abbrev S2x128 : Shape := ⟨2, ![2, 128]⟩

abbrev nBuf : Space → Nat
  | .hbm => 165
  | .vmem => 0
  | .smem => 0
  | _ => 0

abbrev hbmTy0_0 (i : Nat) : BufTy := match i % 128 with
  | 0 => ⟨S4096x3072, .f32⟩
  | 1 => ⟨S4096x4112, .f32⟩
  | 2 => ⟨S8, .f32⟩
  | 3 => ⟨S8, .f32⟩
  | 4 => ⟨S2x8x2048x128, .f32⟩
  | 5 => ⟨S2x8x2048x128, .f32⟩
  | 6 => ⟨S2x8x2048x128, .f32⟩
  | 7 => ⟨S2x8x2048x128, .f32⟩
  | 8 => ⟨S2x8x2048x128, .f32⟩
  | 9 => ⟨S4096x16, .f32⟩
  | 10 => ⟨S4096x3072, .f32⟩
  | 11 => ⟨S4096x3072, .f32⟩
  | 12 => ⟨S_, .f32⟩
  | 13 => ⟨S4096x3072, .f32⟩
  | 14 => ⟨S4096x3072, .f32⟩
  | 15 => ⟨S_, .f32⟩
  | 16 => ⟨S4096x3072, .f32⟩
  | 17 => ⟨S4096x3072, .f32⟩
  | 18 => ⟨S_, .f32⟩
  | 19 => ⟨S4096x3072, .f32⟩
  | 20 => ⟨S4096x3072, .f32⟩
  | 21 => ⟨S4096x3072, .f32⟩
  | 22 => ⟨S4096x3072, .f32⟩
  | 23 => ⟨S4096x1024, .f32⟩
  | 24 => ⟨S4096x1024, .f32⟩
  | 25 => ⟨S4096x1024, .f32⟩
  | 26 => ⟨S2x2048x8x128, .f32⟩
  | 27 => ⟨S2x8x2048x128, .f32⟩
  | 28 => ⟨S2x2048x8x128, .f32⟩
  | 29 => ⟨S2x8x2048x128, .f32⟩
  | 30 => ⟨S2x2048x8x128, .f32⟩
  | 31 => ⟨S2x8x2048x128, .f32⟩
  | 32 => ⟨S8, .f32⟩
  | 33 => ⟨S8, .f32⟩
  | 34 => ⟨S4096x8, .f32⟩
  | 35 => ⟨S1x8, .f32⟩
  | 36 => ⟨S4096x8, .f32⟩
  | 37 => ⟨S4096x8, .f32⟩
  | 38 => ⟨S_, .f32⟩
  | 39 => ⟨S4096x8, .f32⟩
  | 40 => ⟨S4096x8, .f32⟩
  | 41 => ⟨S4096x8, .f32⟩
  | 42 => ⟨S4096x8, .f32⟩
  | 43 => ⟨S4096x8, .i1⟩
  | 44 => ⟨S4096x8, .f32⟩
  | 45 => ⟨S4096x8, .f32⟩
  | 46 => ⟨S4096x8, .f32⟩
  | 47 => ⟨S4096x8, .f32⟩
  | 48 => ⟨S4096x8, .f32⟩
  | 49 => ⟨S4096x8, .f32⟩
  | 50 => ⟨S4096x8, .f32⟩
  | 51 => ⟨S4096x8, .f32⟩
  | 52 => ⟨S_, .f32⟩
  | 53 => ⟨S4096x8, .f32⟩
  | 54 => ⟨S4096x8, .i1⟩
  | 55 => ⟨S_, .f32⟩
  | 56 => ⟨S4096x8, .f32⟩
  | 57 => ⟨S4096x8, .f32⟩
  | 58 => ⟨S_, .f32⟩
  | 59 => ⟨S4096x8, .f32⟩
  | 60 => ⟨S4096x8, .i1⟩
  | 61 => ⟨S_, .f32⟩
  | 62 => ⟨S4096x8, .f32⟩
  | 63 => ⟨S4096x8, .f32⟩
  | 64 => ⟨S4096x8, .f32⟩
  | 65 => ⟨S4096x8, .f32⟩
  | 66 => ⟨S_, .f32⟩
  | 67 => ⟨S_, .f32⟩
  | 68 => ⟨S_, .i1⟩
  | 69 => ⟨S_, .f32⟩
  | 70 => ⟨S_, .f32⟩
  | 71 => ⟨S_, .f32⟩
  | 72 => ⟨S_, .f32⟩
  | 73 => ⟨S4096x8, .f32⟩
  | 74 => ⟨S4096x8, .i1⟩
  | 75 => ⟨S_, .f32⟩
  | 76 => ⟨S4096x8, .f32⟩
  | 77 => ⟨S4096x8, .f32⟩
  | 78 => ⟨S4096x8, .f32⟩
  | 79 => ⟨S4096x8, .f32⟩
  | 80 => ⟨S4096x8, .f32⟩
  | 81 => ⟨S_, .f32⟩
  | 82 => ⟨S4096x8, .f32⟩
  | 83 => ⟨S4096x8, .f32⟩
  | 84 => ⟨S1x8, .f32⟩
  | 85 => ⟨S4096x8, .f32⟩
  | 86 => ⟨S4096x8, .f32⟩
  | 87 => ⟨S4096x8, .f32⟩
  | 88 => ⟨S4096x8, .f32⟩
  | 89 => ⟨S4096x8, .f32⟩
  | 90 => ⟨S_, .f32⟩
  | 91 => ⟨S4096x8, .f32⟩
  | 92 => ⟨S4096x8, .f32⟩
  | 93 => ⟨S_, .f32⟩
  | 94 => ⟨S4096x8, .f32⟩
  | 95 => ⟨S4096x8, .f32⟩
  | 96 => ⟨S_, .f32⟩
  | 97 => ⟨S4096x8, .f32⟩
  | 98 => ⟨S4096x8, .f32⟩
  | 99 => ⟨S4096x8, .f32⟩
  | 100 => ⟨S2x2048x8, .f32⟩
  | 101 => ⟨S2x8x2048, .f32⟩
  | 102 => ⟨S2x8x2048x1, .f32⟩
  | 103 => ⟨S2x8x2048x128, .f32⟩
  | 104 => ⟨S2x2048x8, .f32⟩
  | 105 => ⟨S2x8x2048, .f32⟩
  | 106 => ⟨S2x8x2048x1, .f32⟩
  | 107 => ⟨S2x8x2048x128, .f32⟩
  | 108 => ⟨S_, .f32⟩
  | 109 => ⟨S2x8x2048, .f32⟩
  | 110 => ⟨S2x8x2048x1, .f32⟩
  | 111 => ⟨S_, .f32⟩
  | 112 => ⟨S2x8x2048, .f32⟩
  | 113 => ⟨S2x2048x8, .f32⟩
  | 114 => ⟨S4096x8, .f32⟩
  | 115 => ⟨S_, .f32⟩
  | 116 => ⟨S2x8x2048, .f32⟩
  | 117 => ⟨S2x8x2048x1, .f32⟩
  | 118 => ⟨S_, .f32⟩
  | 119 => ⟨S2x8x2048, .f32⟩
  | 120 => ⟨S2x2048x8, .f32⟩
  | 121 => ⟨S4096x8, .f32⟩
  | 122 => ⟨S4096x8, .f32⟩
  | 123 => ⟨S_, .f32⟩
  | 124 => ⟨S4096x16, .f32⟩
  | 125 => ⟨S4096x8, .f32⟩
  | 126 => ⟨S4096x8, .f32⟩
  | 127 => ⟨S4096x8, .f32⟩
  | _ => ⟨S4096x3072, .f32⟩

abbrev hbmTy0_1 (i : Nat) : BufTy := match i % 128 with
  | 0 => ⟨S_, .f32⟩
  | 1 => ⟨S8, .f32⟩
  | 2 => ⟨S1x8, .f32⟩
  | 3 => ⟨S_, .f32⟩
  | 4 => ⟨S8, .f32⟩
  | 5 => ⟨S4096x8, .f32⟩
  | 6 => ⟨S_, .f32⟩
  | 7 => ⟨S8, .f32⟩
  | 8 => ⟨S1x8, .f32⟩
  | 9 => ⟨S_, .f32⟩
  | 10 => ⟨S8, .f32⟩
  | 11 => ⟨S_, .f32⟩
  | 12 => ⟨S4096x16, .f32⟩
  | 13 => ⟨S4096x16, .f32⟩
  | 14 => ⟨S8, .f32⟩
  | 15 => ⟨S8, .f32⟩
  | 16 => ⟨S2x2048x8x128, .f32⟩
  | 17 => ⟨S4096x1024, .f32⟩
  | 18 => ⟨S2x2048x8x128, .f32⟩
  | 19 => ⟨S4096x1024, .f32⟩
  | 20 => ⟨S2x2048x8x128, .f32⟩
  | 21 => ⟨S4096x1024, .f32⟩
  | 22 => ⟨S4096x3072, .f32⟩
  | 23 => ⟨S4096x3072, .f32⟩
  | 24 => ⟨S4096x3072, .f32⟩
  | 25 => ⟨S4096x3072, .f32⟩
  | 26 => ⟨S4096x3072, .f32⟩
  | 27 => ⟨S_, .i32⟩
  | 28 => ⟨S_, .f32⟩
  | 29 => ⟨S4096x128, .f32⟩
  | 30 => ⟨S4096x128, .bf16⟩
  | 31 => ⟨S1x8, .f32⟩
  | 32 => ⟨S1x8, .f32⟩
  | 33 => ⟨S2x8, .f32⟩
  | 34 => ⟨S_, .i32⟩
  | 35 => ⟨S_, .f32⟩
  | 36 => ⟨S2x128, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v1_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v1_1 : Ref sig .tc := ⟨.hbm, 21, rfl⟩
abbrev main_v1_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_v17_0 : Ref sig .tc := ⟨.hbm, 51, rfl⟩
abbrev main_call1_cst_0 : Ref sig .tc := ⟨.hbm, 52, rfl⟩
abbrev main_call1_v13 : Ref sig .tc := ⟨.hbm, 53, rfl⟩
abbrev main_call1_v14 : Ref sig .tc := ⟨.hbm, 54, rfl⟩
abbrev main_call1_cst_1 : Ref sig .tc := ⟨.hbm, 55, rfl⟩
abbrev main_call1_v15 : Ref sig .tc := ⟨.hbm, 56, rfl⟩
abbrev main_call1_v16 : Ref sig .tc := ⟨.hbm, 57, rfl⟩
abbrev main_call1_cst_2 : Ref sig .tc := ⟨.hbm, 58, rfl⟩
abbrev main_call1_v17 : Ref sig .tc := ⟨.hbm, 59, rfl⟩
abbrev main_call1_v18 : Ref sig .tc := ⟨.hbm, 60, rfl⟩
abbrev main_call1_cst_3 : Ref sig .tc := ⟨.hbm, 61, rfl⟩
abbrev main_call1_v19 : Ref sig .tc := ⟨.hbm, 62, rfl⟩
abbrev main_call1_v20 : Ref sig .tc := ⟨.hbm, 63, rfl⟩
abbrev main_call1_v21 : Ref sig .tc := ⟨.hbm, 64, rfl⟩
abbrev main_v17_1 : Ref sig .tc := ⟨.hbm, 65, rfl⟩
abbrev main_call1_cst_4 : Ref sig .tc := ⟨.hbm, 66, rfl⟩
abbrev main_call1_cst_5 : Ref sig .tc := ⟨.hbm, 67, rfl⟩
abbrev main_call1_v23 : Ref sig .tc := ⟨.hbm, 68, rfl⟩
abbrev main_call1_cst_6 : Ref sig .tc := ⟨.hbm, 69, rfl⟩
abbrev main_call1_cst_7 : Ref sig .tc := ⟨.hbm, 70, rfl⟩
abbrev main_call1_v24 : Ref sig .tc := ⟨.hbm, 71, rfl⟩
abbrev main_call1_cst_8 : Ref sig .tc := ⟨.hbm, 72, rfl⟩
abbrev main_call1_v25 : Ref sig .tc := ⟨.hbm, 73, rfl⟩
abbrev main_call1_v26 : Ref sig .tc := ⟨.hbm, 74, rfl⟩
abbrev main_call1_cst_9 : Ref sig .tc := ⟨.hbm, 75, rfl⟩
abbrev main_call1_v27 : Ref sig .tc := ⟨.hbm, 76, rfl⟩
abbrev main_call1_v28 : Ref sig .tc := ⟨.hbm, 77, rfl⟩
abbrev main_call1_v29 : Ref sig .tc := ⟨.hbm, 78, rfl⟩
abbrev main_call1_v30 : Ref sig .tc := ⟨.hbm, 79, rfl⟩
abbrev main_call1_v31 : Ref sig .tc := ⟨.hbm, 80, rfl⟩
abbrev main_call1_cst_10 : Ref sig .tc := ⟨.hbm, 81, rfl⟩
abbrev main_call1_v32 : Ref sig .tc := ⟨.hbm, 82, rfl⟩
abbrev main_v17_2 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_cst : Ref sig .tc := ⟨.hbm, 90, rfl⟩
abbrev main_v24 : Ref sig .tc := ⟨.hbm, 91, rfl⟩
abbrev main_v25 : Ref sig .tc := ⟨.hbm, 92, rfl⟩
abbrev main_cst_0 : Ref sig .tc := ⟨.hbm, 93, rfl⟩
abbrev main_v26 : Ref sig .tc := ⟨.hbm, 94, rfl⟩
abbrev main_v27 : Ref sig .tc := ⟨.hbm, 95, rfl⟩
abbrev main_cst_1 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_cst_2 : Ref sig .tc := ⟨.hbm, 108, rfl⟩
abbrev main_v39 : Ref sig .tc := ⟨.hbm, 109, rfl⟩
abbrev main_v40 : Ref sig .tc := ⟨.hbm, 110, rfl⟩
abbrev main_cst_3 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_cst_4 : Ref sig .tc := ⟨.hbm, 115, rfl⟩
abbrev main_v44 : Ref sig .tc := ⟨.hbm, 116, rfl⟩
abbrev main_v45 : Ref sig .tc := ⟨.hbm, 117, rfl⟩
abbrev main_cst_5 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_cst_6 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_cst_7 : Ref sig .tc := ⟨.hbm, 128, rfl⟩
abbrev main_v54 : Ref sig .tc := ⟨.hbm, 129, rfl⟩
abbrev main_v55 : Ref sig .tc := ⟨.hbm, 130, rfl⟩
abbrev main_cst_8 : Ref sig .tc := ⟨.hbm, 131, rfl⟩
abbrev main_v56 : Ref sig .tc := ⟨.hbm, 132, rfl⟩
abbrev main_v57 : Ref sig .tc := ⟨.hbm, 133, rfl⟩
abbrev main_cst_9 : Ref sig .tc := ⟨.hbm, 134, rfl⟩
abbrev main_v58 : Ref sig .tc := ⟨.hbm, 135, rfl⟩
abbrev main_v59 : Ref sig .tc := ⟨.hbm, 136, rfl⟩
abbrev main_cst_10 : Ref sig .tc := ⟨.hbm, 137, rfl⟩
abbrev main_v60 : Ref sig .tc := ⟨.hbm, 138, rfl⟩
abbrev main_cst_11 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_v72 : Ref sig .tc := ⟨.hbm, 154, rfl⟩
abbrev main_c : Ref sig .tc := ⟨.hbm, 155, rfl⟩
abbrev main_call4_v0 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_c_12 : Ref sig .tc := ⟨.hbm, 162, rfl⟩
abbrev main_call5_v0 : Ref sig .tc := ⟨.hbm, 163, rfl⟩
abbrev main_v78 : Ref sig .tc := ⟨.hbm, 164, rfl⟩

abbrev nD : Nat := 1
abbrev τ : Topo := Topo.v7x

variable {F : FTy → Type} [FloatOps F]
-- ==== AdaBwd.lean ====
abbrev S16x1024 : Shape := ⟨2, ![16, 1024]⟩
abbrev S4x1024x1152 : Shape := ⟨3, ![4, 1024, 1152]⟩
abbrev S4x1152 : Shape := ⟨2, ![4, 1152]⟩
abbrev S4x16x1152 : Shape := ⟨3, ![4, 16, 1152]⟩
abbrev S1x4096x1152 : Shape := ⟨3, ![1, 4096, 1152]⟩
abbrev S1x16x1152 : Shape := ⟨3, ![1, 16, 1152]⟩
abbrev S1x1024x1152 : Shape := ⟨3, ![1, 1024, 1152]⟩
abbrev S16x1152 : Shape := ⟨2, ![16, 1152]⟩
abbrev S1024x1152 : Shape := ⟨2, ![1024, 1152]⟩

abbrev nBuf : Space → Nat
  | .hbm => 5
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x1024x1152, .f32⟩
  | .hbm, ⟨2, _⟩ => ⟨S4x1152, .f32⟩
  | .hbm, ⟨3, _⟩ => ⟨S4x16x1152, .f32⟩
  | .hbm, ⟨4, _⟩ => ⟨S1x4096x1152, .f32⟩
  | .local _ .vmem, ⟨0, _⟩ => ⟨S16x1024, .f32⟩
  | .local _ .vmem, ⟨1, _⟩ => ⟨S1x16x1152, .f32⟩
  | .local _ .vmem, ⟨2, _⟩ => ⟨S1x16x1152, .f32⟩
  | .local _ .vmem, ⟨3, _⟩ => ⟨S1x1024x1152, .f32⟩
  | .local _ .vmem, ⟨4, _⟩ => ⟨S1x1024x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaBwdRefIdeal.lean ====
abbrev S16x1024 : Shape := ⟨2, ![16, 1024]⟩
abbrev S4x1024x1152 : Shape := ⟨3, ![4, 1024, 1152]⟩
abbrev S4x1152 : Shape := ⟨2, ![4, 1152]⟩
abbrev S4x16x1152 : Shape := ⟨3, ![4, 16, 1152]⟩
abbrev S_ : Shape := ⟨0, ![]⟩
abbrev S4x1152x16 : Shape := ⟨3, ![4, 1152, 16]⟩
abbrev S4x1x1152 : Shape := ⟨3, ![4, 1, 1152]⟩
abbrev S4x1152x1024 : Shape := ⟨3, ![4, 1152, 1024]⟩
abbrev S1x4096x1152 : Shape := ⟨3, ![1, 4096, 1152]⟩

abbrev nBuf : Space → Nat
  | .hbm => 22
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x1152, .f32⟩
  | .hbm, ⟨2, _⟩ => ⟨S4x1152, .f32⟩
  | .hbm, ⟨3, _⟩ => ⟨S4x16x1152, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S4x1152x16, .f32⟩
  | .hbm, ⟨14, _⟩ => ⟨S4x16x1152, .f32⟩
  | .hbm, ⟨15, _⟩ => ⟨S4x1x1152, .f32⟩
  | .hbm, ⟨16, _⟩ => ⟨S4x16x1152, .f32⟩
  | .hbm, ⟨17, _⟩ => ⟨S4x16x1152, .f32⟩
  | .hbm, ⟨18, _⟩ => ⟨S4x1152x16, .f32⟩
  | .hbm, ⟨19, _⟩ => ⟨S4x1152x1024, .f32⟩
  | .hbm, ⟨20, _⟩ => ⟨S4x1024x1152, .f32⟩
  | .hbm, ⟨21, _⟩ => ⟨S1x4096x1152, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== AdaFwd.lean ====
abbrev S16x1024 : Shape := ⟨2, ![16, 1024]⟩
abbrev S4x1024x1152 : Shape := ⟨3, ![4, 1024, 1152]⟩
abbrev S4x1152 : Shape := ⟨2, ![4, 1152]⟩
abbrev S4x1x1152 : Shape := ⟨3, ![4, 1, 1152]⟩
abbrev S4x16x1152 : Shape := ⟨3, ![4, 16, 1152]⟩
abbrev S1x1024x1152 : Shape := ⟨3, ![1, 1024, 1152]⟩
abbrev S1x1x1152 : Shape := ⟨3, ![1, 1, 1152]⟩
abbrev S1x16x1152 : Shape := ⟨3, ![1, 16, 1152]⟩
abbrev S1024x1152 : Shape := ⟨2, ![1024, 1152]⟩
abbrev S16x1152 : Shape := ⟨2, ![16, 1152]⟩
abbrev S1x1152 : Shape := ⟨2, ![1, 1152]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x1152, .f32⟩
  | .hbm, ⟨2, _⟩ => ⟨S4x1152, .f32⟩
  | .hbm, ⟨3, _⟩ => ⟨S4x1x1152, .f32⟩
  | .hbm, ⟨4, _⟩ => ⟨S4x16x1152, .f32⟩
  | .local _ .vmem, ⟨0, _⟩ => ⟨S16x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x16x1152, .f32⟩
  | .local _ .vmem, ⟨6, _⟩ => ⟨S1x16x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S16x1024 : Shape := ⟨2, ![16, 1024]⟩
abbrev S4x1024x1152 : Shape := ⟨3, ![4, 1024, 1152]⟩
abbrev S4x1152 : Shape := ⟨2, ![4, 1152]⟩
abbrev S_ : Shape := ⟨0, ![]⟩
abbrev S4x1152x16 : Shape := ⟨3, ![4, 1152, 16]⟩
abbrev S4x16x1152 : Shape := ⟨3, ![4, 16, 1152]⟩
abbrev S4x1x1152 : Shape := ⟨3, ![4, 1, 1152]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x1152, .f32⟩
  | .hbm, ⟨2, _⟩ => ⟨S4x1152, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x1152x16, .f32⟩
  | .hbm, ⟨13, _⟩ => ⟨S4x16x1152, .f32⟩
  | .hbm, ⟨14, _⟩ => ⟨S4x1x1152, .f32⟩
  | .hbm, ⟨15, _⟩ => ⟨S4x16x1152, .f32⟩
  | .hbm, ⟨16, _⟩ => ⟨S4x16x1152, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== FfnFwd.lean ====
abbrev S4096x1024 : Shape := ⟨2, ![4096, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x4x704x1024 : Shape := ⟨4, ![2, 4, 704, 1024]⟩
abbrev S1x1024 : Shape := ⟨2, ![1, 1024]⟩
abbrev S4x704x1024 : Shape := ⟨3, ![4, 704, 1024]⟩
abbrev S2x4x4096x704 : Shape := ⟨4, ![2, 4, 4096, 704]⟩
abbrev S4x4096x704 : Shape := ⟨3, ![4, 4096, 704]⟩
abbrev S512x1024 : Shape := ⟨2, ![512, 1024]⟩
abbrev S1x3x1024 : Shape := ⟨3, ![1, 3, 1024]⟩
abbrev S2x1x704x1024 : Shape := ⟨4, ![2, 1, 704, 1024]⟩
abbrev S1x704x1024 : Shape := ⟨3, ![1, 704, 1024]⟩
abbrev S2x1x512x704 : Shape := ⟨4, ![2, 1, 512, 704]⟩
abbrev S1x512x704 : Shape := ⟨3, ![1, 512, 704]⟩
abbrev S3x1024 : Shape := ⟨2, ![3, 1024]⟩
abbrev S512 : Shape := ⟨1, ![512]⟩
abbrev S512x1 : Shape := ⟨2, ![512, 1]⟩
abbrev S1x1x704x1024 : Shape := ⟨4, ![1, 1, 704, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 15
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S2x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S5632x1024, .f32⟩
  | .hbm, ⟨6, _⟩ => ⟨S2x4x704x1024, .f32⟩
  | .hbm, ⟨7, _⟩ => ⟨S2x4x704x1024, .bf16⟩
  | .hbm, ⟨8, _⟩ => ⟨S1x1024, .f32⟩
  | .hbm, ⟨9, _⟩ => ⟨S4x704x1024, .f32⟩
  | .hbm, ⟨10, _⟩ => ⟨S4x704x1024, .bf16⟩
  | .hbm, ⟨11, _⟩ => ⟨S4096x1024, .f32⟩
  | .hbm, ⟨12, _⟩ => ⟨S2x4x4096x704, .bf16⟩
  | .hbm, ⟨13, _⟩ => ⟨S4x4096x704, .bf16⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S2x1x704x1024, .bf16⟩
  | .local _ .vmem, ⟨6, _⟩ => ⟨S2x1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S2x1x512x704, .bf16⟩
  | .local _ .vmem, ⟨12, _⟩ => ⟨S2x1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_29 : BitVec 32 := 0#32
  let v35 : BitVec 1 := Scalar.cmpi .ne v34 c0_i32_29
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnFwdRefIdeal.lean ====
abbrev S4096x1024 : Shape := ⟨2, ![4096, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S4096x5632 : Shape := ⟨2, ![4096, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩
abbrev S4096x4x704 : Shape := ⟨3, ![4096, 4, 704]⟩
abbrev S4x4096x704 : Shape := ⟨3, ![4, 4096, 704]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x2048x1024, .f32⟩
  | .hbm, ⟨27, _⟩ => ⟨S2x2048x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S4096x1024, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S4096x2x4x704, .f32⟩
  | .hbm, ⟨47, _⟩ => ⟨S2x4x4096x704, .f32⟩
  | .hbm, ⟨48, _⟩ => ⟨S2x1x1024, .f32⟩
  | .hbm, ⟨49, _⟩ => ⟨S_, .f32⟩
  | .hbm, ⟨50, _⟩ => ⟨S2x1x1024, .f32⟩
  | .hbm, ⟨51, _⟩ => ⟨S2x1x1024, .f32⟩
  | .hbm, ⟨52, _⟩ => ⟨S_, .f32⟩
  | .hbm, ⟨53, _⟩ => ⟨S2x1x1024, .f32⟩
  | .hbm, ⟨54, _⟩ => ⟨S2x1x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S4096x1024, .f32⟩
  | .hbm, ⟨59, _⟩ => ⟨S4096x1024, .f32⟩
  | .hbm, ⟨60, _⟩ => ⟨S2x4x4096x704, .bf16⟩
  | .hbm, ⟨61, _⟩ => ⟨S4096x4x704, .f32⟩
  | .hbm, ⟨62, _⟩ => ⟨S4x4096x704, .f32⟩
  | .hbm, ⟨63, _⟩ => ⟨S4x4096x704, .bf16⟩
  | .hbm, ⟨64, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== FfnW.lean ====
abbrev S4096x1024 : Shape := ⟨2, ![4096, 1024]⟩
abbrev S4096x2816 : Shape := ⟨2, ![4096, 2816]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S4096x4x704 : Shape := ⟨3, ![4096, 4, 704]⟩
abbrev S4x4096x704 : Shape := ⟨3, ![4, 4096, 704]⟩
abbrev S2x4x704x1024 : Shape := ⟨4, ![2, 4, 704, 1024]⟩
abbrev S4x704x1024 : Shape := ⟨3, ![4, 704, 1024]⟩
abbrev S1024x1024 : Shape := ⟨2, ![1024, 1024]⟩
abbrev S2x1x1024x704 : Shape := ⟨4, ![2, 1, 1024, 704]⟩
abbrev S1x1024x704 : Shape := ⟨3, ![1, 1024, 704]⟩
abbrev S2x1x704x1024 : Shape := ⟨4, ![2, 1, 704, 1024]⟩
abbrev S1x704x1024 : Shape := ⟨3, ![1, 704, 1024]⟩
abbrev S704x1024 : Shape := ⟨2, ![704, 1024]⟩
abbrev S1x1x1024x704 : Shape := ⟨4, ![1, 1, 1024, 704]⟩
abbrev S1024x704 : Shape := ⟨2, ![1024, 704]⟩
abbrev S1x1x704x1024 : Shape := ⟨4, ![1, 1, 704, 1024]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x5632, .f32⟩
  | .hbm, ⟨3, _⟩ => ⟨S4096x1024, .f32⟩
  | .hbm, ⟨4, _⟩ => ⟨S4096x2x4x704, .f32⟩
  | .hbm, ⟨5, _⟩ => ⟨S2x4x4096x704, .f32⟩
  | .hbm, ⟨6, _⟩ => ⟨S2x4x4096x704, .bf16⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x1024, .bf16⟩
  | .hbm, ⟨11, _⟩ => ⟨S4096x1024, .bf16⟩
  | .hbm, ⟨12, _⟩ => ⟨S2x4x704x1024, .bf16⟩
  | .hbm, ⟨13, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S2x1x1024x704, .bf16⟩
  | .local _ .vmem, ⟨3, _⟩ => ⟨S2x1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x1024, .bf16⟩
  | .local _ .vmem, ⟨7, _⟩ => ⟨S1024x1024, .bf16⟩
  | .local _ .vmem, ⟨8, _⟩ => ⟨S2x1x704x1024, .bf16⟩
  | .local _ .vmem, ⟨9, _⟩ => ⟨S2x1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S704x1024, .f32⟩
  | .local _ .vmem, ⟨13, _⟩ => ⟨S704x1024, .f32⟩
  | .local _ .vmem, ⟨14, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_28 : BitVec 32 := 0#32
  let v33 : BitVec 1 := Scalar.cmpi .ne v32 c0_i32_28
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnWRefIdeal.lean ====
abbrev S4096x1024 : Shape := ⟨2, ![4096, 1024]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S2816x1024 : Shape := ⟨2, ![2816, 1024]⟩
abbrev S1024x2816 : Shape := ⟨2, ![1024, 2816]⟩
abbrev S2x4x704x1024 : Shape := ⟨4, ![2, 4, 704, 1024]⟩
abbrev S4x704x1024 : Shape := ⟨3, ![4, 704, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x5632, .f32⟩
  | .hbm, ⟨3, _⟩ => ⟨S4096x1024, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S_, .f32⟩
  | .hbm, ⟨10, _⟩ => ⟨S2816x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S5632x1024, .f32⟩
  | .hbm, ⟨15, _⟩ => ⟨S2x4x704x1024, .f32⟩
  | .hbm, ⟨16, _⟩ => ⟨S2x4x704x1024, .bf16⟩
  | .hbm, ⟨17, _⟩ => ⟨S4x704x1024, .f32⟩
  | .hbm, ⟨18, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== GradW.lean ====
abbrev S4096x1024 : Shape := ⟨2, ![4096, 1024]⟩
abbrev S4096x3072 : Shape := ⟨2, ![4096, 3072]⟩
abbrev S3072x1024 : Shape := ⟨2, ![3072, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x3072, .bf16⟩
  | .hbm, ⟨3, _⟩ => ⟨S4096x1024, .bf16⟩
  | .hbm, ⟨4, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S3072x1024, .f32⟩
  | .hbm, ⟨8, _⟩ => ⟨S3072x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Adam.lean ====
abbrev S4096x1152 : Shape := ⟨2, ![4096, 1152]⟩
abbrev S1x4096x1152 : Shape := ⟨3, ![1, 4096, 1152]⟩
abbrev S1x256x1152 : Shape := ⟨3, ![1, 256, 1152]⟩
abbrev S256x1152 : Shape := ⟨2, ![256, 1152]⟩

abbrev nBuf : Space → Nat
  | .hbm => 9
  | .vmem => 16
  | .smem => 0
  | _ => 0

abbrev bufTy : (tb : Table) → Fin (tcTables nBuf tb) → BufTy
  | .hbm, ⟨0, _⟩ => ⟨S4096x1152, .f32⟩
  | .hbm, ⟨1, _⟩ => ⟨S4096x1152, .f32⟩
  | .hbm, ⟨2, _⟩ => ⟨S4096x1152, .f32⟩
  | .hbm, ⟨3, _⟩ => ⟨S4096x1152, .f32⟩
  | .hbm, ⟨4, _⟩ => ⟨S1x4096x1152, .f32⟩
  | .hbm, ⟨5, _⟩ => ⟨S4096x1152, .f32⟩
  | .hbm, ⟨6, _⟩ => ⟨S4096x1152, .f32⟩
  | .hbm, ⟨7, _⟩ => ⟨S4096x1152, .f32⟩
  | .hbm, ⟨8, _⟩ => ⟨S4096x1152, .f32⟩
  | .local _ .vmem, ⟨0, _⟩ => ⟨S1x256x1152, .f32⟩
  | .local _ .vmem, ⟨1, _⟩ => ⟨S1x256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S4096x1152 : Shape := ⟨2, ![4096, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1152, .f32⟩
  | .hbm, ⟨1, _⟩ => ⟨S4096x1152, .f32⟩
  | .hbm, ⟨2, _⟩ => ⟨S4096x1152, .f32⟩
  | .hbm, ⟨3, _⟩ => ⟨S4096x1152, .f32⟩
  | .hbm, ⟨4, _⟩ => ⟨S_, .f32⟩
  | .hbm, ⟨5, _⟩ => ⟨S4096x1152, .f32⟩
  | .hbm, ⟨6, _⟩ => ⟨S4096x1152, .f32⟩
  | .hbm, ⟨7, _⟩ => ⟨S_, .f32⟩
  | .hbm, ⟨8, _⟩ => ⟨S4096x1152, .f32⟩
  | .hbm, ⟨9, _⟩ => ⟨S4096x1152, .f32⟩
  | .hbm, ⟨10, _⟩ => ⟨S4096x1152, .f32⟩
  | .hbm, ⟨11, _⟩ => ⟨S_, .f32⟩
  | .hbm, ⟨12, _⟩ => ⟨S4096x1152, .f32⟩
  | .hbm, ⟨13, _⟩ => ⟨S4096x1152, .f32⟩
  | .hbm, ⟨14, _⟩ => ⟨S4096x1152, .f32⟩
  | .hbm, ⟨15, _⟩ => ⟨S_, .f32⟩
  | .hbm, ⟨16, _⟩ => ⟨S4096x1152, .f32⟩
  | .hbm, ⟨17, _⟩ => ⟨S4096x1152, .f32⟩
  | .hbm, ⟨18, _⟩ => ⟨S4096x1152, .f32⟩
  | .hbm, ⟨19, _⟩ => ⟨S_, .f32⟩
  | .hbm, ⟨20, _⟩ => ⟨S4096x1152, .f32⟩
  | .hbm, ⟨21, _⟩ => ⟨S4096x1152, .f32⟩
  | .hbm, ⟨22, _⟩ => ⟨S_, .f32⟩
  | .hbm, ⟨23, _⟩ => ⟨S4096x1152, .f32⟩
  | .hbm, ⟨24, _⟩ => ⟨S4096x1152, .f32⟩
  | .hbm, ⟨25, _⟩ => ⟨S4096x1152, .f32⟩
  | .hbm, ⟨26, _⟩ => ⟨S_, .f32⟩
  | .hbm, ⟨27, _⟩ => ⟨S4096x1152, .f32⟩
  | .hbm, ⟨28, _⟩ => ⟨S4096x1152, .f32⟩
  | .hbm, ⟨29, _⟩ => ⟨S4096x1152, .f32⟩
  | .hbm, ⟨30, _⟩ => ⟨S_, .f32⟩
  | .hbm, ⟨31, _⟩ => ⟨S4096x1152, .f32⟩
  | .hbm, ⟨32, _⟩ => ⟨S4096x1152, .f32⟩
  | .hbm, ⟨33, _⟩ => ⟨S4096x1152, .f32⟩
  | .hbm, ⟨34, _⟩ => ⟨S_, .f32⟩
  | .hbm, ⟨35, _⟩ => ⟨S4096x1152, .f32⟩
  | .hbm, ⟨36, _⟩ => ⟨S4096x1152, .f32⟩
  | _, _ => ⟨S4096x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Pre.lean ====
abbrev S2x8x2048x128 : Shape := ⟨4, ![2, 8, 2048, 128]⟩
abbrev S2x8x2048 : Shape := ⟨3, ![2, 8, 2048]⟩
abbrev S2x8x2048x64 : Shape := ⟨4, ![2, 8, 2048, 64]⟩
abbrev S2x8x32 : Shape := ⟨3, ![2, 8, 32]⟩
abbrev S2x8x2048x1 : Shape := ⟨4, ![2, 8, 2048, 1]⟩
abbrev S2x8x256x128 : Shape := ⟨4, ![2, 8, 256, 128]⟩
abbrev S1x1x1024x128 : Shape := ⟨4, ![1, 1, 1024, 128]⟩
abbrev S1x1x1024x64 : Shape := ⟨4, ![1, 1, 1024, 64]⟩
abbrev S1x1x128x128 : Shape := ⟨4, ![1, 1, 128, 128]⟩
abbrev S1024x128 : Shape := ⟨2, ![1024, 128]⟩
abbrev S16x64x128 : Shape := ⟨3, ![16, 64, 128]⟩
abbrev S16x64x64 : Shape := ⟨3, ![16, 64, 64]⟩
abbrev S16x64 : Shape := ⟨2, ![16, 64]⟩
abbrev S16x64x1 : Shape := ⟨3, ![16, 64, 1]⟩
abbrev S16x1x128 : Shape := ⟨3, ![16, 1, 128]⟩
abbrev S16x8x128 : Shape := ⟨3, ![16, 8, 128]⟩
abbrev S1024x64 : Shape := ⟨2, ![1024, 64]⟩
abbrev S128x128 : Shape := ⟨2, ![128, 128]⟩
abbrev S2x8x32x1x1 : Shape := ⟨5, ![2, 8, 32, 1, 1]⟩
abbrev S2x8x32x8x128 : Shape := ⟨5, ![2, 8, 32, 8, 128]⟩
abbrev S16x128 : Shape := ⟨2, ![16, 128]⟩
abbrev S16x63x128 : Shape := ⟨3, ![16, 63, 128]⟩
abbrev S_ : Shape := ⟨0, ![]⟩

abbrev nBuf : Space → Nat
  | .hbm => 34
  | .vmem => 58
  | .smem => 0
  | _ => 0

abbrev bufTy : (tb : Table) → Fin (tcTables nBuf tb) → BufTy
  | .hbm, ⟨0, _⟩ => ⟨S2x8x2048x128, .f32⟩
  | .hbm, ⟨1, _⟩ => ⟨S2x8x2048x128, .f32⟩
  | .hbm, ⟨2, _⟩ => ⟨S2x8x2048x128, .f32⟩
  | .hbm, ⟨3, _⟩ => ⟨S2x8x2048, .f32⟩
  | .hbm, ⟨4, _⟩ => ⟨S2x8x2048, .f32⟩
  | .hbm, ⟨5, _⟩ => ⟨S2x8x2048x128, .f32⟩
  | .hbm, ⟨6, _⟩ => ⟨S2x8x2048x128, .f32⟩
  | .hbm, ⟨7, _⟩ => ⟨S2x8x2048x128, .f32⟩
  | .hbm, ⟨8, _⟩ => ⟨S2x8x2048x128, .f32⟩
  | .hbm, ⟨9, _⟩ => ⟨S2x8x2048x64, .f32⟩
  | .hbm, ⟨10, _⟩ => ⟨S2x8x32, .f32⟩
  | .hbm, ⟨11, _⟩ => ⟨S2x8x2048x1, .f32⟩
  | .hbm, ⟨12, _⟩ => ⟨S2x8x2048x128, .f32⟩
  | .hbm, ⟨13, _⟩ => ⟨S2x8x2048x1, .f32⟩
  | .hbm, ⟨14, _⟩ => ⟨S2x8x2048x128, .f32⟩
  | .hbm, ⟨15, _⟩ => ⟨S2x8x2048x128, .f32⟩
  | .hbm, ⟨16, _⟩ => ⟨S2x8x2048x128, .bf16⟩
  | .hbm, ⟨17, _⟩ => ⟨S2x8x2048x128, .bf16⟩
  | .hbm, ⟨18, _⟩ => ⟨S2x8x2048x128, .bf16⟩
  | .hbm, ⟨19, _⟩ => ⟨S2x8x2048x64, .bf16⟩
  | .hbm, ⟨20, _⟩ => ⟨S2x8x256x128, .f32⟩
  | .hbm, ⟨21, _⟩ => ⟨S2x8x2048x64, .f32⟩
  | .hbm, ⟨22, _⟩ => ⟨S2x8x32x1x1, .f32⟩
  | .hbm, ⟨23, _⟩ => ⟨S2x8x32x8x128, .f32⟩
  | .hbm, ⟨24, _⟩ => ⟨S2x8x256x128, .f32⟩
  | .hbm, ⟨25, _⟩ => ⟨S2x8x2048x128, .f32⟩
  | .hbm, ⟨26, _⟩ => ⟨S2x8x2048x128, .f32⟩
  | .hbm, ⟨27, _⟩ => ⟨S2x8x2048x128, .f32⟩
  | .hbm, ⟨28, _⟩ => ⟨S2x8x2048x128, .f32⟩
  | .hbm, ⟨29, _⟩ => ⟨S2x8x2048x128, .f32⟩
  | .hbm, ⟨30, _⟩ => ⟨S_, .f32⟩
  | .hbm, ⟨31, _⟩ => ⟨S2x8x2048, .f32⟩
  | .hbm, ⟨32, _⟩ => ⟨S_, .f32⟩
  | .hbm, ⟨33, _⟩ => ⟨S2x8x2048, .f32⟩
  | .local _ .vmem, ⟨0, _⟩ => ⟨S1x1x1024x128, .f32⟩
  | .local _ .vmem, ⟨1, _⟩ => ⟨S1x1x1024x128, .f32⟩
  | .local _ .vmem, ⟨2, _⟩ => ⟨S1x1x1024x128, .f32⟩
  | .local _ .vmem, ⟨3, _⟩ => ⟨S1x1x1024x128, .f32⟩
  | .local _ .vmem, ⟨4, _⟩ => ⟨S1x1x1024x128, .f32⟩
  | .local _ .vmem, ⟨5, _⟩ => ⟨S1x1x1024x128, .f32⟩
  | .local _ .vmem, ⟨6, _⟩ => ⟨S1x1x1024x128, .f32⟩
  | .local _ .vmem, ⟨7, _⟩ => ⟨S1x1x1024x128, .f32⟩
  | .local _ .vmem, ⟨8, _⟩ => ⟨S1x1x1024x128, .f32⟩
  | .local _ .vmem, ⟨9, _⟩ => ⟨S1x1x1024x128, .f32⟩
  | .local _ .vmem, ⟨10, _⟩ => ⟨S1x1x1024x128, .f32⟩
  | .local _ .vmem, ⟨11, _⟩ => ⟨S1x1x1024x128, .f32⟩
  | .local _ .vmem, ⟨12, _⟩ => ⟨S1x1x1024x128, .bf16⟩
  | .local _ .vmem, ⟨13, _⟩ => ⟨S1x1x1024x128, .bf16⟩
  | .local _ .vmem, ⟨14, _⟩ => ⟨S1x1x1024x128, .bf16⟩
  | .local _ .vmem, ⟨15, _⟩ => ⟨S1x1x1024x128, .bf16⟩
  | .local _ .vmem, ⟨16, _⟩ => ⟨S1x1x1024x128, .bf16⟩
  | .local _ .vmem, ⟨17, _⟩ => ⟨S1x1x1024x128, .bf16⟩
  | .local _ .vmem, ⟨18, _⟩ => ⟨S1x1x1024x64, .bf16⟩
  | .local _ .vmem, ⟨19, _⟩ => ⟨S1x1x1024x64, .bf16⟩
  | .local _ .vmem, ⟨20, _⟩ => ⟨S1x1x128x128, .f32⟩
  | .local _ .vmem, ⟨21, _⟩ => ⟨S1x1x128x128, .f32⟩
  | .local _ .vmem, ⟨22, _⟩ => ⟨S1x1x1024x64, .f32⟩
  | .local _ .vmem, ⟨23, _⟩ => ⟨S1x1x1024x64, .f32⟩
  | .local _ .vmem, ⟨24, _⟩ => ⟨S1x1x1024x128, .f32⟩
  | .local _ .vmem, ⟨25, _⟩ => ⟨S1x1x1024x128, .f32⟩
  | .local _ .vmem, ⟨26, _⟩ => ⟨S1x1x1024x128, .f32⟩
  | .local _ .vmem, ⟨27, _⟩ => ⟨S1x1x1024x128, .f32⟩
  | .local _ .vmem, ⟨28, _⟩ => ⟨S1x1x1024x128, .f32⟩
  | .local _ .vmem, ⟨29, _⟩ => ⟨S1x1x1024x128, .f32⟩
  | .local _ .vmem, ⟨30, _⟩ => ⟨S1x1x1024x128, .f32⟩
  | .local _ .vmem, ⟨31, _⟩ => ⟨S1x1x1024x128, .f32⟩
  | .local _ .vmem, ⟨32, _⟩ => ⟨S1x1x1024x128, .f32⟩
  | .local _ .vmem, ⟨33, _⟩ => ⟨S1x1x1024x128, .f32⟩
  | .local _ .vmem, ⟨34, _⟩ => ⟨S1x1x1024x64, .f32⟩
  | .local _ .vmem, ⟨35, _⟩ => ⟨S1x1x1024x64, .f32⟩
  | .local _ .vmem, ⟨36, _⟩ => ⟨S1x1x1024x128, .f32⟩
  | .local _ .vmem, ⟨37, _⟩ => ⟨S1x1x1024x128, .f32⟩
  | .local _ .vmem, ⟨38, _⟩ => ⟨S1x1x1024x128, .f32⟩
  | .local _ .vmem, ⟨39, _⟩ => ⟨S1x1x1024x128, .f32⟩
  | .local _ .vmem, ⟨40, _⟩ => ⟨S1x1x1024x128, .f32⟩
  | .local _ .vmem, ⟨41, _⟩ => ⟨S1x1x1024x128, .f32⟩
  | .local _ .vmem, ⟨42, _⟩ => ⟨S1x1x1024x128, .f32⟩
  | .local _ .vmem, ⟨43, _⟩ => ⟨S1x1x1024x128, .f32⟩
  | .local _ .vmem, ⟨44, _⟩ => ⟨S1x1x1024x64, .f32⟩
  | .local _ .vmem, ⟨45, _⟩ => ⟨S1x1x1024x64, .f32⟩
  | .local _ .vmem, ⟨46, _⟩ => ⟨S1x1x128x128, .f32⟩
  | .local _ .vmem, ⟨47, _⟩ => ⟨S1x1x128x128, .f32⟩
  | .local _ .vmem, ⟨48, _⟩ => ⟨S1x1x1024x128, .f32⟩
  | .local _ .vmem, ⟨49, _⟩ => ⟨S1x1x1024x128, .f32⟩
  | .local _ .vmem, ⟨50, _⟩ => ⟨S1x1x1024x128, .f32⟩
  | .local _ .vmem, ⟨51, _⟩ => ⟨S1x1x1024x128, .f32⟩
  | .local _ .vmem, ⟨52, _⟩ => ⟨S1x1x1024x128, .f32⟩
  | .local _ .vmem, ⟨53, _⟩ => ⟨S1x1x1024x128, .f32⟩
  | .local _ .vmem, ⟨54, _⟩ => ⟨S1x1x1024x128, .f32⟩
  | .local _ .vmem, ⟨55, _⟩ => ⟨S1x1x1024x128, .f32⟩
  | .local _ .vmem, ⟨56, _⟩ => ⟨S1x1x1024x128, .f32⟩
  | .local _ .vmem, ⟨57, _⟩ => ⟨S1x1x1024x128, .f32⟩
  | _, _ => ⟨S2x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v8_3 : Ref sig .tc := ⟨.hbm, 28, rfl⟩
abbrev main_v8_4 : Ref sig .tc := ⟨.hbm, 29, rfl⟩
abbrev main_cst : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg6_1 : Ref sig .tc := ⟨.vmem, 37, rfl⟩
abbrev cc1_stg7_0 : Ref sig .tc := ⟨.vmem, 38, rfl⟩
abbrev cc1_stg7_1 : Ref sig .tc := ⟨.vmem, 39, rfl⟩
abbrev cc1_stg8_0 : Ref sig .tc := ⟨.vmem, 40, rfl⟩
abbrev cc1_stg8_1 : Ref sig .tc := ⟨.vmem, 41, rfl⟩
abbrev cc1_stg9_0 : Ref sig .tc := ⟨.vmem, 42, rfl⟩
abbrev cc1_stg9_1 : Ref sig .tc := ⟨.vmem, 43, rfl⟩
abbrev cc1_stg10_0 : Ref sig .tc := ⟨.vmem, 44, rfl⟩
abbrev cc1_stg10_1 : Ref sig .tc := ⟨.vmem, 45, rfl⟩
abbrev cc1_stg11_0 : Ref sig .tc := ⟨.vmem, 46, rfl⟩
abbrev cc1_stg11_1 : Ref sig .tc := ⟨.vmem, 47, rfl⟩
abbrev cc1_stg12_0 : Ref sig .tc := ⟨.vmem, 48, rfl⟩
abbrev cc1_stg12_1 : Ref sig .tc := ⟨.vmem, 49, rfl⟩
abbrev cc1_stg13_0 : Ref sig .tc := ⟨.vmem, 50, rfl⟩
abbrev cc1_stg13_1 : Ref sig .tc := ⟨.vmem, 51, rfl⟩
abbrev cc1_stg14_0 : Ref sig .tc := ⟨.vmem, 52, rfl⟩
abbrev cc1_stg14_1 : Ref sig .tc := ⟨.vmem, 53, rfl⟩
abbrev cc1_stg15_0 : Ref sig .tc := ⟨.vmem, 54, rfl⟩
abbrev cc1_stg15_1 : Ref sig .tc := ⟨.vmem, 55, rfl⟩
abbrev cc1_stg16_0 : Ref sig .tc := ⟨.vmem, 56, rfl⟩
abbrev cc1_stg16_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37
abbrev cc1_sem7_0 : DmaSem sig := 38
abbrev cc1_sem7_1 : DmaSem sig := 39
abbrev cc1_sem8_0 : DmaSem sig := 40
abbrev cc1_sem8_1 : DmaSem sig := 41
abbrev cc1_sem9_0 : DmaSem sig := 42
abbrev cc1_sem9_1 : DmaSem sig := 43
abbrev cc1_sem10_0 : DmaSem sig := 44
abbrev cc1_sem10_1 : DmaSem sig := 45
abbrev cc1_sem11_0 : DmaSem sig := 46
abbrev cc1_sem11_1 : DmaSem sig := 47
abbrev cc1_sem12_0 : DmaSem sig := 48
abbrev cc1_sem12_1 : DmaSem sig := 49
abbrev cc1_sem13_0 : DmaSem sig := 50
abbrev cc1_sem13_1 : DmaSem sig := 51
abbrev cc1_sem14_0 : DmaSem sig := 52
abbrev cc1_sem14_1 : DmaSem sig := 53
abbrev cc1_sem15_0 : DmaSem sig := 54
abbrev cc1_sem15_1 : DmaSem sig := 55
abbrev cc1_sem16_0 : DmaSem sig := 56
abbrev cc1_sem16_1 : DmaSem sig := 57

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev grid1 : Pipeline.Grid := ⟨3, ![2, 8, 2], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_8 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_9 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_10 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_11 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_12 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_13 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_14 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_15 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_16 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1x1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x1x1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x1x1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S1x1x1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S1x1x1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

abbrev stage1_10 : Fin 2 → Memref sig .tc .vmem S1x1x1024x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]

abbrev stage1_11 : Fin 2 → Memref sig .tc .vmem S1x1x128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, true]

abbrev stage1_12 : Fin 2 → Memref sig .tc .vmem S1x1x1024x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true, true]

abbrev stage1_13 : Fin 2 → Memref sig .tc .vmem S1x1x1024x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true, true]

abbrev stage1_14 : Fin 2 → Memref sig .tc .vmem S1x1x1024x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true, true]

abbrev stage1_15 : Fin 2 → Memref sig .tc .vmem S1x1x1024x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true, true]

abbrev stage1_16 : Fin 2 → Memref sig .tc .vmem S1x1x1024x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true, true]
-- ==== Proof.LnSiluRow.lean ====
module

public import Idealize.ShloMosaic.Lib.Pipeline.ValueKit

/-! One row of the layer norm with its silu, and one row of that pair's gradient, over the extended reals.
    `u` is the row, `g` and `b` the norm's scale and shift, `ct` the cotangent. -/

@[expose] public section

noncomputable section

open Idealize.ShloMosaic

namespace Cert.LnSiluRow

/-- The length of a row. -/
abbrev len : EReal := Ideal.ofBits FTy.f32 1149239296#32

variable (u g b ct : Fin 1024 → EReal)

/-- The row less its mean. -/
def cen (k : Fin 1024) : EReal := u k - Ideal.div (∑ x, u x) len
/-- The variance with the constant under the root. -/
def var : EReal := Ideal.div (∑ x, cen u x * cen u x) len + Ideal.ofBits FTy.f32 897988541#32
/-- The reciprocal of the deviation. -/
def rstd : EReal := Ideal.rsqrt (var u)
/-- The derivative of the reciprocal root. -/
def drstd : EReal := Ideal.ofBits FTy.f32 3204448256#32 * Ideal.div (rstd u) (var u)
/-- The normalized row. -/
def hat (k : Fin 1024) : EReal := cen u k * rstd u
/-- The argument of the silu. -/
def pre (k : Fin 1024) : EReal := hat u k * g k + b k
/-- The cotangent of the silu's argument. -/
def dpre (k : Fin 1024) : EReal :=
  ct k * Ideal.logistic (pre u g b k)
    + pre u g b k * ct k * (Ideal.logistic (pre u g b k) * (Ideal.ofBits FTy.f32 1065353216#32 - Ideal.logistic (pre u g b k)))
/-- The cotangent of the variance's mean. -/
def dvar : EReal := Ideal.div ((∑ x, cen u x * (dpre u g b ct x * g x)) * drstd u) len
/-- The cotangent of the centred row. -/
def dcen (k : Fin 1024) : EReal :=
  dpre u g b ct k * g k * rstd u + cen u k * dvar u g b ct + dvar u g b ct * cen u k
/-- The cotangent of the row. -/
def du (k : Fin 1024) : EReal := dcen u g b ct k + Ideal.div (∑ x, - dcen u g b ct x) len

end Cert.LnSiluRow

end

end
-- ==== Proof.LnSiluKernel.lean ====
module

public import proofs.«01_k».proof.Proof.Gen.LnSiluIdeal.Value
public import proofs.«01_k».proof.Proof.LnSiluRow

/-! The kernel's payloads, one row at a time, are the row functions of LnSiluRow.lean. -/

@[expose] public section

set_option maxRecDepth 16384

noncomputable section

open Idealize.ShloMosaic Idealize.ShloMosaic.TcCoe Idealize.SL.Sem
open Idealize.ShloMosaic.Pipeline (Dat)

namespace Cert.LnSiluIdeal.Val
open Cert.LnSiluIdeal Cert.LnSiluIdeal.Gen Cert.LnSiluRow

variable (v0 v32 : FVec Ideal S256x1024 .f32) (v1 v3 : FVec Ideal S1x1024 .f32) (r : Fin 256) (k : Fin 1024) (q : Fin 1)

theorem pay1 : k0_pay1 (F := Ideal) v1 (ix2 0 k) = v1 (ix2 0 k) := by pointwise [k0_pay1]
theorem pay2 : k0_pay2 (F := Ideal) v0 (ix2 r k) = cen (fun x => v0 (ix2 r x)) k := by pointwise [k0_pay2, cen]
theorem pay3 : k0_pay3 (F := Ideal) v0 (ix2 r q) = var (fun x => v0 (ix2 r x)) := by pointwise [k0_pay3, pay2, var]
theorem pay4 : k0_pay4 (F := Ideal) v0 (ix2 r q) = rstd (fun x => v0 (ix2 r x)) := by pointwise [k0_pay4, pay3, rstd]
theorem pay5 : k0_pay5 (F := Ideal) v0 (ix2 r q) = drstd (fun x => v0 (ix2 r x)) := by pointwise [k0_pay5, pay3, pay4, drstd]
theorem pay6 : k0_pay6 (F := Ideal) v0 (ix2 r k) = hat (fun x => v0 (ix2 r x)) k := by pointwise [k0_pay6, pay2, pay4, hat]
theorem pay7 : k0_pay7 (F := Ideal) v0 v1 v3 v32 (ix2 r k)
    = dpre (fun x => v0 (ix2 r x)) (fun x => v1 (ix2 0 x)) (fun x => v3 (ix2 0 x)) (fun x => v32 (ix2 r x)) k := by
  pointwise [k0_pay7, pay1, pay6, dpre, pre]
theorem pay8 : k0_pay8 (F := Ideal) v0 v1 v3 v32 (ix2 0 k)
    = ∑ r, dpre (fun x => v0 (ix2 r x)) (fun x => v1 (ix2 0 x)) (fun x => v3 (ix2 0 x)) (fun x => v32 (ix2 r x)) k := by
  pointwise [k0_pay8, pay7]
theorem pay9 : k0_pay9 (F := Ideal) v0 v1 v3 v32 (ix2 0 k)
    = ∑ r, hat (fun x => v0 (ix2 r x)) k
        * dpre (fun x => v0 (ix2 r x)) (fun x => v1 (ix2 0 x)) (fun x => v3 (ix2 0 x)) (fun x => v32 (ix2 r x)) k := by
  pointwise [k0_pay9, pay7, pay6]
theorem pay10 : k0_pay10 (F := Ideal) (k0_pay1 v1) (k0_pay2 v0) (k0_pay4 v0) (k0_pay5 v0) (k0_pay7 v0 v1 v3 v32) (ix2 r k)
    = du (fun x => v0 (ix2 r x)) (fun x => v1 (ix2 0 x)) (fun x => v3 (ix2 0 x)) (fun x => v32 (ix2 r x)) k := by
  pointwise [k0_pay10, pay1, pay2, pay4, pay5, pay7, du, dcen, dvar, Finset.univ_unique, Finset.sum_singleton, zero_sub]

end Cert.LnSiluIdeal.Val

end

end
-- ==== Proof.LnSiluRef.lean ====
module

public import proofs.«01_k».proof.Proof.Gen.LnSiluRefIdeal.Read
public import proofs.«01_k».proof.Proof.LnSiluRow

/-! The reference's stages, one row at a time, are the row functions of LnSiluRow.lean. -/

@[expose] public section

set_option maxRecDepth 16384

noncomputable section

open Idealize.ShloMosaic Idealize.ShloMosaic.TcCoe Idealize.SL.Sem

namespace Cert.LnSiluRefIdeal.Val
open Cert.LnSiluRefIdeal Cert.LnSiluRefIdeal.Read Cert.LnSiluRow

/-- A matrix of this program's arguments. -/
abbrev Mat := (⟨S4096x1024, .f32⟩ : BufTy).Contents (Elt Ideal)
/-- A vector of this program's arguments. -/
abbrev Row := (⟨S1024, .f32⟩ : BufTy).Contents (Elt Ideal)

variable (x0 x3 : Mat) (x1 x2 : Row) (r : Fin 4096) (k : Fin 1024) (q : Fin 1)

theorem v5 : val_main_v5 (F := Ideal) x0 (ix2 r k) = cen (fun x => x0 (ix2 r x)) k := by
  pointwise [val_main_v5, val_main_v4, val_main_v3, val_main_v2, val_main_v1, val_main_v0, val_main_cst, val_main_cst_0, cen]
theorem v12 : val_main_v12 (F := Ideal) x0 (ix2 r q) = var (fun x => x0 (ix2 r x)) := by
  pointwise [val_main_v12, val_main_v11, val_main_v10, val_main_v9, val_main_v8, val_main_v7, val_main_v6, val_main_cst_1, val_main_cst_2, val_main_cst_3, v5, var]
theorem v13 : val_main_v13 (F := Ideal) x0 (ix2 r q) = rstd (fun x => x0 (ix2 r x)) := by pointwise [val_main_v13, v12, rstd]
theorem v16 : val_main_v16 (F := Ideal) x0 (ix2 r q) = drstd (fun x => x0 (ix2 r x)) := by
  pointwise [val_main_v16, val_main_v15, val_main_v14, val_main_cst_4, v12, v13, drstd]
theorem v18 : val_main_v18 (F := Ideal) x0 (ix2 r k) = hat (fun x => x0 (ix2 r x)) k := by pointwise [val_main_v18, val_main_v17, v5, v13, hat]
theorem v24 : val_main_v24 (F := Ideal) x0 x1 x2 (ix2 r k) = pre (fun x => x0 (ix2 r x)) (fun x => x1 (ix1 x)) (fun x => x2 (ix1 x)) k := by
  pointwise [val_main_v24, val_main_v23, val_main_v22, val_main_v21, val_main_v20, val_main_v19, v18, pre]
theorem v25 : val_main_v25_2 (F := Ideal) x0 x1 x2 (ix2 r k)
    = Ideal.logistic (pre (fun x => x0 (ix2 r x)) (fun x => x1 (ix1 x)) (fun x => x2 (ix1 x)) k) := by
  pointwise [val_main_v25_2, val_main_call0_v4, val_main_call0_v3, val_main_call0_v2, val_main_call0_v1, val_main_call0_v0, val_main_call0_cst,
    val_main_call0_cst_0, v24, Ideal.logistic]
theorem v26 : val_main_v26 (F := Ideal) x0 x1 x2 x3 (ix2 r k)
    = dpre (fun x => x0 (ix2 r x)) (fun x => x1 (ix1 x)) (fun x => x2 (ix1 x)) (fun x => x3 (ix2 r x)) k := by
  pointwise [val_main_v26, val_main_call1_v2, val_main_call1_v1, val_main_call1_v0, val_main_v25_1, val_main_call0_v7, val_main_call0_v6, val_main_call0_cst_1,
    v24, v25, dpre]
theorem v34 : val_main_v34 (F := Ideal) x0 x1 x2 x3 (ix2 r k)
    = dpre (fun x => x0 (ix2 r x)) (fun x => x1 (ix1 x)) (fun x => x2 (ix1 x)) (fun x => x3 (ix2 r x)) k * x1 (ix1 k) := by
  pointwise [val_main_v34, val_main_v33, val_main_v19, v26]
theorem v44 : val_main_v44 (F := Ideal) x0 x1 x2 x3 (ix1 r)
    = dvar (fun x => x0 (ix2 r x)) (fun x => x1 (ix1 x)) (fun x => x2 (ix1 x)) (fun x => x3 (ix2 r x)) := by
  pointwise [val_main_v44, val_main_v43, val_main_v42, val_main_v41, val_main_v38, val_main_v37, val_main_v36, val_main_cst_9, val_main_cst_10, val_main_cst_11,
    v34, v5, v16, dvar, Finset.univ_unique, Finset.sum_singleton]
theorem v49 : val_main_v49 (F := Ideal) x0 x1 x2 x3 (ix2 r k)
    = dcen (fun x => x0 (ix2 r x)) (fun x => x1 (ix1 x)) (fun x => x2 (ix1 x)) (fun x => x3 (ix2 r x)) k := by
  pointwise [val_main_v49, val_main_v48, val_main_v47, val_main_v46, val_main_v45, val_main_v40, val_main_v39, v44, v34, v5, v13, dcen]
theorem v57 : val_main_v57 (F := Ideal) x0 x1 x2 x3 (ix2 r k)
    = du (fun x => x0 (ix2 r x)) (fun x => x1 (ix1 x)) (fun x => x2 (ix1 x)) (fun x => x3 (ix2 r x)) k := by
  pointwise [val_main_v57, val_main_v56, val_main_v55, val_main_v54, val_main_v53, val_main_v52, val_main_v51, val_main_v50, val_main_cst_12, val_main_cst_13,
    val_main_cst_14, v49, du, Finset.univ_unique, Finset.sum_singleton]
theorem v58 : val_main_v58 (F := Ideal) x0 x1 x2 x3 (ix2 0 k)
    = ∑ r, hat (fun x => x0 (ix2 r x)) k * dpre (fun x => x0 (ix2 r x)) (fun x => x1 (ix1 x)) (fun x => x2 (ix1 x)) (fun x => x3 (ix2 r x)) k := by
  pointwise [val_main_v58, val_main_v35, val_main_v32, val_main_v31, val_main_v30, val_main_cst_7, val_main_cst_8, v18, v26, Finset.univ_unique, Finset.sum_singleton]
theorem v59 : val_main_v59 (F := Ideal) x0 x1 x2 x3 (ix2 0 k)
    = ∑ r, dpre (fun x => x0 (ix2 r x)) (fun x => x1 (ix1 x)) (fun x => x2 (ix1 x)) (fun x => x3 (ix2 r x)) k := by
  pointwise [val_main_v59, val_main_v29, val_main_v28, val_main_v27, val_main_cst_5, val_main_cst_6, v26, Finset.univ_unique, Finset.sum_singleton]
/-- The two rows of the norm's gradient, one above the other. -/
theorem v60_0 : val_main_v60 (F := Ideal) x0 x1 x2 x3 (ix2 0 k)
    = ∑ r, hat (fun x => x0 (ix2 r x)) k * dpre (fun x => x0 (ix2 r x)) (fun x => x1 (ix1 x)) (fun x => x2 (ix1 x)) (fun x => x3 (ix2 r x)) k := by
  pointwise [val_main_v60, v58]
theorem v60_1 : val_main_v60 (F := Ideal) x0 x1 x2 x3 (ix2 1 k)
    = ∑ r, dpre (fun x => x0 (ix2 r x)) (fun x => x1 (ix1 x)) (fun x => x2 (ix1 x)) (fun x => x3 (ix2 r x)) k := by
  pointwise [val_main_v60, v59]

end Cert.LnSiluRefIdeal.Val

end

end
-- ==== Proof.Sums.lean ====
module

public import Idealize.ShloMosaic.Lib.Pipeline.ValueKit

/-! A sum over all rows, block by block. -/

@[expose] public section

noncomputable section

namespace Cert.Sums

/-- A sum over `T * n` rows is the sum over `T` blocks of `n` rows each. -/
theorem blocks {T n N : ℕ} (hN : N = T * n) (f : Fin N → EReal) (row : Fin T → Fin n → Fin N) (hrow : ∀ t r, (row t r).val = n * t.val + r.val) :
    ∑ t : Fin T, ∑ r : Fin n, f (row t r) = ∑ R : Fin N, f R := by
  subst hN
  rw [← Fintype.sum_prod_type']
  refine Fintype.sum_equiv finProdFinEquiv _ _ fun p => ?_
  congr 1
  apply Fin.ext
  rw [hrow]
  simp [finProdFinEquiv, Nat.add_comm]

end Cert.Sums

end

end
-- ==== Proof.LnSiluValue.lean ====
module

public import proofs.«01_k».proof.Proof.LnSiluKernel
public import proofs.«01_k».proof.Proof.LnSiluRef
public import proofs.«01_k».proof.Proof.Sums
public import Idealize.ShloMosaic.Lib.Pipeline.ReadBack

/-! The two output arrays of the layer norm and silu's gradient are the reference's. -/

@[expose] public section

set_option maxRecDepth 16384

noncomputable section

open Idealize.ShloMosaic Idealize.ShloMosaic.TcCoe Idealize.SL.Sem
open Idealize.ShloMosaic.Pipeline (Dat)

namespace Cert.LnSiluIdeal.Val
open Cert.LnSiluIdeal Cert.LnSiluIdeal.Gen Cert.LnSiluRow
open Cert.LnSiluRefIdeal.Val (Mat Row)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] :=
  (by decide +kernel : ∀ t : Fin grid0.N, _)

/-- The arguments on the device. -/
abbrev U : Mat := m ((c.tc : Thread nD τ).loc main_arg0)
abbrev G : Row := m ((c.tc : Thread nD τ).loc main_arg1)
abbrev B : Row := m ((c.tc : Thread nD τ).loc main_arg2)
abbrev CT : Mat := m ((c.tc : Thread nD τ).loc main_arg3)

theorem lt16 (t : Fin cfg0.N) : t.val < 16 := lt_of_lt_of_eq t.isLt N_0

/-- The row of the whole array that row `r` of block `t` is. -/
abbrev row (t : Fin cfg0.N) (r : Fin 256) : Fin 4096 := ⟨256 * t.val + r.val, by have := lt16 t; have := r.isLt; omega⟩

theorem blk0 (t : Fin cfg0.N) (r : Fin 256) (x : Fin 1024) : iblk m c 0 t (ix2 r x) = CT m c (ix2 (row t r) x) := by
  blk_point [iblk, V, idx t]
theorem blk1 (t : Fin cfg0.N) (r : Fin 256) (x : Fin 1024) : iblk m c 1 t (ix2 r x) = U m c (ix2 (row t r) x) := by
  blk_point [iblk, V, idx t]
theorem blk2 (t : Fin cfg0.N) (x : Fin 1024) : iblk m c 2 t (ix2 0 x) = G m c (ix1 x) := by
  blk_point [iblk, V, idx t]
theorem blk3 (t : Fin cfg0.N) (x : Fin 1024) : iblk m c 3 t (ix2 0 x) = B m c (ix1 x) := by
  blk_point [iblk, V, idx t]
theorem emb4 (t : Fin cfg0.N) (r : Fin 256) (x : Fin 1024) : ((View.whole main_v2_0).slice (win0_4.rect t)).emb (ix2 r x) = ix2 (row t r) x := by
  blk_ext [idx t]

/-- The gradient of the rows. -/
theorem final4 : (dats m 0 c).arrAt 4 cfg0.N = Cert.LnSiluRefIdeal.Read.val_main_v57 (F := Ideal) (U m c) (G m c) (B m c) (CT m c) := by
  refine (dats m 0 c).arrAt_eq_of_covers 4 _ (by decide +kernel) fun t hf y => ?_
  blk_simp
  rw [after0_4]
  by_cases h : t.val % 16 = 0
  · rw [outsAt0_A m c t h]
    frame_out
    idx_vars y
    rw [pay10, emb4, Cert.LnSiluRefIdeal.Val.v57]
    simp only [blk0, blk1, blk2, blk3]
  · rw [outsAt0_B m c t h]
    frame_out
    idx_vars y
    rw [pay10, emb4, Cert.LnSiluRefIdeal.Val.v57]
    simp only [blk0, blk1, blk2, blk3]

/-- Block `t`'s part of the two sums over the rows. -/
def part (t : Fin cfg0.N) (j : S2x1024.Idx) : EReal :=
  if (j 0).val = 0 then k0_pay9 (F := Ideal) (iblk m c 1 t) (iblk m c 2 t) (iblk m c 3 t) (iblk m c 0 t) (ix2 0 (j 1))
  else k0_pay8 (F := Ideal) (iblk m c 1 t) (iblk m c 2 t) (iblk m c 3 t) (iblk m c 0 t) (ix2 0 (j 1))

theorem part_0 (t : Fin cfg0.N) (k : Fin 1024) :
    part m c t (ix2 0 k) = k0_pay9 (F := Ideal) (iblk m c 1 t) (iblk m c 2 t) (iblk m c 3 t) (iblk m c 0 t) (ix2 0 k) := if_pos rfl
theorem part_1 (t : Fin cfg0.N) (k : Fin 1024) :
    part m c t (ix2 1 k) = k0_pay8 (F := Ideal) (iblk m c 1 t) (iblk m c 2 t) (iblk m c 3 t) (iblk m c 0 t) (ix2 0 k) := if_neg Nat.one_ne_zero

/-- Two stores of one row each, the lower after the upper, leave the sum of what was there and the part. -/
theorem rows_add (t : Fin cfg0.N) (x : FVec Ideal S2x1024 .f32) (L : List (View.Piece (Elt Ideal) S2x1024 .f32)) (j : S2x1024.Idx) :
    View.canon (⟨Rect.unit ![1, 0] ![1, 1024] inb_S2x1024_S1x1024_1_0,
        k0_pay13 (k0_pay8 (iblk m c 1 t) (iblk m c 2 t) (iblk m c 3 t) (iblk m c 0 t))
          (View.ld (Val := Elt Ideal) (e' := .f32) (S := S2x1024) x (Rect.unit ![1, 0] ![1, 1024] inb_S2x1024_S1x1024_1_0))⟩ ::
      ⟨Rect.unit ![0, 0] ![1, 1024] inb_S2x1024_S1x1024_0_0,
        k0_pay12 (k0_pay9 (iblk m c 1 t) (iblk m c 2 t) (iblk m c 3 t) (iblk m c 0 t))
          (View.ld (Val := Elt Ideal) (e' := .f32) (S := S2x1024) x (Rect.unit ![0, 0] ![1, 1024] inb_S2x1024_S1x1024_0_0))⟩ :: L) j = x j + part m c t j := by
  refine View.canon_append_of_piecesOf (fun j => x j + part m c t j) L [_, _] ⟨fun y => ?_, fun y => ?_, trivial⟩ j ?_
  · idx_vars y
    have e : (Rect.unit (s := S2x1024) ![1, 0] ![1, 1024] inb_S2x1024_S1x1024_1_0).emb (ix2 y0 y1) = ix2 1 y1 := by blk_ext []
    obtain rfl : y0 = 0 := Subsingleton.elim _ _
    pointwise [k0_pay13, e]
    exact congrArg (x (ix2 1 y1) + ·) (part_1 m c t y1).symm
  · idx_vars y
    have e : (Rect.unit (s := S2x1024) ![0, 0] ![1, 1024] inb_S2x1024_S1x1024_0_0).emb (ix2 y0 y1) = ix2 0 y1 := by blk_ext []
    obtain rfl : y0 = 0 := Subsingleton.elim _ _
    pointwise [k0_pay12, e]
    exact congrArg (x (ix2 0 y1) + ·) (part_0 m c t y1).symm
  · idx_vars j
    by_cases h : j0 = 0
    · subst h
      exact ⟨_, .tail _ (.head _), (Rect.mem_set_unit (inb := inb_S2x1024_S1x1024_0_0)).2 fun a => by match a with | 0 => simp | 1 => simp⟩
    · obtain rfl : j0 = 1 := by omega
      exact ⟨_, .head _, (Rect.mem_set_unit (inb := inb_S2x1024_S1x1024_1_0)).2 fun a => by match a with | 0 => simp | 1 => simp⟩

theorem sum_part0 (k : Fin 1024) : (∑ t : Fin cfg0.N, part m c t (ix2 0 k))
    = ∑ R : Fin 4096, hat (fun x => U m c (ix2 R x)) k
        * dpre (fun x => U m c (ix2 R x)) (fun x => G m c (ix1 x)) (fun x => B m c (ix1 x)) (fun x => CT m c (ix2 R x)) k := by
  rw [← Sums.blocks (T := cfg0.N) (n := 256) (by rw [show cfg0.N = 16 from N_0]) _ row (fun _ _ => rfl)]
  refine Finset.sum_congr rfl fun t _ => ?_
  rw [part_0]
  exact (pay9 _ _ _ _ k).trans (by simp only [blk0, blk1, blk2, blk3])

theorem sum_part1 (k : Fin 1024) : (∑ t : Fin cfg0.N, part m c t (ix2 1 k))
    = ∑ R : Fin 4096,
        dpre (fun x => U m c (ix2 R x)) (fun x => G m c (ix1 x)) (fun x => B m c (ix1 x)) (fun x => CT m c (ix2 R x)) k := by
  rw [← Sums.blocks (T := cfg0.N) (n := 256) (by rw [show cfg0.N = 16 from N_0]) _ row (fun _ _ => rfl)]
  refine Finset.sum_congr rfl fun t _ => ?_
  rw [part_1]
  exact (pay8 _ _ _ _ k).trans (by simp only [blk0, blk1, blk2, blk3])

/-- The gradients of the norm's scale and shift. -/
theorem final5 : (dats m 0 c).arrAt 5 cfg0.N = Cert.LnSiluRefIdeal.Read.val_main_v60 (F := Ideal) (U m c) (G m c) (B m c) (CT m c) := by
  refine (dats m 0 c).arrAt_eq_of_after_last 5 t0_15 (by decide +kernel) _ fun j => ?_
  blk_simp
  rw [after0_5, Pipeline.eq_sum_fin_of_reset_step_apply_last (fun n h => (outsAt0 m c n h).2) 16 (fun _ => 0) (part m c)
    (fun t h j => by
      rw [outsAt0_A m c t h]; frame_open
      simp (disch := decide) only [↓ View.readCov_skip, ↓ View.readCov_cons_toLoadRect, ↓ View.readCov_fill]
      frame_out
      rw [rows_add m c t k0_pay11 [_] j]
      congr 1
      idx_vars j
      pointwise [k0_pay11])
    (fun t h j => by rw [outsAt0_B m c t h]; frame_out; exact rows_add m c t _ [] j) (le_of_eq N_0) t0_15 rfl j]
  rw [zero_add]
  idx_vars j
  by_cases h0 : j0 = 0
  · subst h0
    exact (sum_part0 m c j1).trans (Cert.LnSiluRefIdeal.Val.v60_0 _ _ _ _ j1).symm
  · obtain rfl : j0 = 1 := by omega
    exact (sum_part1 m c j1).trans (Cert.LnSiluRefIdeal.Val.v60_1 _ _ _ _ j1).symm

end Cert.LnSiluIdeal.Val

end

end
-- ==== Proof.LnSiluClaim.lean ====
module

public import proofs.«01_k».proof.Defs
public import proofs.«01_k».proof.Proof.Gen.LnSilu.Frame
public import proofs.«01_k».proof.Proof.LnSiluValue

/-! The claims about the layer norm and silu's gradient. -/

@[expose] public section

noncomputable section

open Idealize.ShloMosaic Idealize.ShloMosaic.TcCoe Idealize.SL.Sem

namespace Cert.LnSiluIdeal.Val
open Cert.LnSiluIdeal Cert.LnSiluIdeal.Gen

theorem frame_kernel : Cert.quiescent_LnSilu := fun m ρ _ => Cert.LnSilu.Gen.frame m ρ
theorem frame_ideal : Cert.quiescent_LnSiluIdeal := fun m ρ _ => Cert.LnSiluIdeal.Gen.frame m ρ

/-- The reference is a straight line of host operations and declares no semaphore. -/
theorem frame_reference : Cert.quiescent_LnSiluRefIdeal := fun m ρ _ =>
  (θ_run Cert.LnSiluRefIdeal.defs _ _).mono (fun r h => ⟨fun c => (h c).2.2, sem_eq_zero_of_no_sems (by decide) r.2⟩) (Cert.LnSiluRefIdeal.Value.run m ρ)

/-- The two programs end with equal results. -/
theorem equal : Cert.algebraic_LnSiluIdeal_LnSiluRefIdeal := fun m ρ m' ρ' _ hag =>
  ⟨fun c => Cert.LnSiluRefIdeal.Read.val_main_v57 (F := Ideal) (U m c) (G m c) (B m c) (CT m c),
    fun c => Cert.LnSiluRefIdeal.Read.val_main_v60 (F := Ideal) (U m c) (G m c) (B m c) (CT m c),
    (θ_run _ _ _).mono (fun _ h c => ⟨(h c).1.trans (final4 m c), (h c).2.1.trans (final5 m c), (h c).2.2⟩) (Cert.LnSiluIdeal.Value.run_blocks m ρ),
    (θ_run _ _ _).mono (fun _ h c => ⟨(h c).1.trans ((Cert.LnSiluRefIdeal.Read.val_main_v57_eq m' c).trans (by
        rw [(hag c).1, (hag c).2.1, (hag c).2.2.1, (hag c).2.2.2])),
      (h c).2.1.trans ((Cert.LnSiluRefIdeal.Read.val_main_v60_eq m' c).trans (by
        rw [(hag c).1, (hag c).2.1, (hag c).2.2.1, (hag c).2.2.2])), (h c).2.2⟩) (Cert.LnSiluRefIdeal.Value.run m' ρ')⟩

end Cert.LnSiluIdeal.Val

end

end
-- ==== Proof.Consts.lean ====
module

public import Idealize.ShloMosaic.Lib.Pipeline.ValueKit
public import Idealize.ShloMosaic.Lib.IdealHost

/-! The values of a few float words, and sums that a finite factor passes through. -/

@[expose] public section

noncomputable section

open Idealize.ShloMosaic

namespace Cert.Consts

theorem f_1024 : Ideal.ofBits FTy.f32 1149239296#32 = ((1024 : ℝ) : EReal) := by
  simp [Ideal.ofBits, Ideal.ieee, -EReal.coe_mul]; norm_num
theorem f_inv_1024 : Ideal.ofBits FTy.f32 981467136#32 = ((1 / 1024 : ℝ) : EReal) := by
  simp [Ideal.ofBits, Ideal.ieee, -EReal.coe_mul]; norm_num
theorem f_half : Ideal.ofBits FTy.f32 1056964608#32 = ((1 / 2 : ℝ) : EReal) := by
  simp [Ideal.ofBits, Ideal.ieee, -EReal.coe_mul]; norm_num
theorem f_one : Ideal.ofBits FTy.f32 1065353216#32 = ((1 : ℝ) : EReal) := by
  simp [Ideal.ofBits, Ideal.ieee, -EReal.coe_mul]; norm_num
theorem f_two : Ideal.ofBits FTy.f32 1073741824#32 = ((2 : ℝ) : EReal) := by
  simp [Ideal.ofBits, Ideal.ieee, -EReal.coe_mul]; norm_num

theorem f_neg_half : Ideal.ofBits FTy.f32 3204448256#32 = ((-1 / 2 : ℝ) : EReal) := by
  simp [Ideal.ofBits, Ideal.ieee, -EReal.coe_mul]; norm_num
theorem f_eps : Ideal.ofBits FTy.f32 897988541#32 = ((8796093 / 8796093022208 : ℝ) : EReal) := by
  simp [Ideal.ofBits, Ideal.ieee, -EReal.coe_mul]; norm_num

/-- A factor that is finite and not negative passes through a sum of extended reals. -/
theorem mul_sum {ι : Type*} (s : Finset ι) {a : ℝ} (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (EReal.coe_nonneg.2 ha) (EReal.coe_ne_top a), ih]

/-- Twice a term is the term added to itself. -/
theorem two_mul (x : EReal) : ((2 : ℝ) : EReal) * x = x + x := by
  induction x with
  | bot => rw [EReal.coe_mul_bot_of_pos (by norm_num)]; rfl
  | top => rw [EReal.coe_mul_top_of_pos (by norm_num)]; rfl
  | coe x => exact_mod_cast (show (2 : ℝ) * x = x + x by ring)

end Cert.Consts

end

end
-- ==== Proof.LossRow.lean ====
module

public import proofs.«01_k».proof.Proof.Consts

/-! One row of the final norm and its squared error, and one row of their gradient, over the extended reals.
    `x` is the row, `y` the target's row, `g` the norm's scale. -/

@[expose] public section

noncomputable section

open Idealize.ShloMosaic

namespace Cert.LossRow

/-- The length of a row. -/
abbrev len : EReal := Ideal.ofBits FTy.f32 1149239296#32

variable (x y g : Fin 1024 → EReal)

/-- The mean square with the constant under the root. -/
def ms : EReal := Ideal.div (∑ k, x k * x k) len + Ideal.ofBits FTy.f32 897988541#32
/-- The reciprocal of the root mean square. -/
def rms : EReal := Ideal.rsqrt (ms x)
/-- The derivative of the reciprocal root. -/
def drms : EReal := Ideal.ofBits FTy.f32 3204448256#32 * Ideal.div (rms x) (ms x)
/-- The normalized row. -/
def hat (k : Fin 1024) : EReal := x k * rms x
/-- The error of the row. -/
def err (k : Fin 1024) : EReal := hat x k * g k - y k
/-- The cotangent of the error. -/
def derr (k : Fin 1024) : EReal :=
  Ideal.div (Ideal.ofBits FTy.f32 1056964608#32 * Ideal.ofBits FTy.f32 1065353216#32) len * (Ideal.ofBits FTy.f32 1073741824#32 * err x y g k)
/-- The cotangent of the mean square. -/
def dms : EReal := Ideal.div ((∑ k, x k * (derr x y g k * g k)) * drms x) len
/-- The cotangent of the row. -/
def dx (k : Fin 1024) : EReal := derr x y g k * g k * rms x + x k * dms x y g + dms x y g * x k

/-- The weight of an error on both sides of its square. -/
theorem weight (e : EReal) :
    e * (Ideal.ofBits FTy.f32 1056964608#32 * Ideal.ofBits FTy.f32 981467136#32)
      + (Ideal.ofBits FTy.f32 1056964608#32 * Ideal.ofBits FTy.f32 981467136#32) * e
    = Ideal.div (Ideal.ofBits FTy.f32 1056964608#32 * Ideal.ofBits FTy.f32 1065353216#32) len * (Ideal.ofBits FTy.f32 1073741824#32 * e) := by
  unfold len
  rw [Consts.f_1024, Consts.f_half, Consts.f_one, Consts.f_two, Consts.f_inv_1024, Ideal.div_coe (by norm_num), Consts.two_mul]
  simp only [← EReal.coe_mul]
  rw [EReal.left_distrib_of_nonneg_of_ne_top (EReal.coe_nonneg.2 (by norm_num)) (EReal.coe_ne_top _), mul_comm e]
  norm_num

end Cert.LossRow

end

end
-- ==== Proof.LossKernel.lean ====
module

public import proofs.«01_k».proof.Proof.Gen.LossIdeal.Value
public import proofs.«01_k».proof.Proof.Gen.LossRefIdeal.Read
public import proofs.«01_k».proof.Proof.LossRow

/-! The kernel's payloads and the reference's stages, one row at a time, are the row functions of LossRow.lean. -/

@[expose] public section

set_option maxRecDepth 16384

noncomputable section

open Idealize.ShloMosaic Idealize.ShloMosaic.TcCoe Idealize.SL.Sem
open Cert.LossRow

namespace Cert.LossIdeal.Val
open Cert.LossIdeal Cert.LossIdeal.Gen

variable (v0 v1 : FVec Ideal S512x1024 .f32) (v2 v3 : FVec Ideal S1x1024 .f32) (r : Fin 512) (k : Fin 1024) (q : Fin 1)

theorem pay3 : k0_pay3 (F := Ideal) v2 v3 (ix2 0 k) = v3 (ix2 0 k) + v2 (ix2 0 k) := by pointwise [k0_pay3]
theorem pay4 : k0_pay4 (F := Ideal) v2 v3 (ix2 0 k) = v3 (ix2 0 k) + v2 (ix2 0 k) := by pointwise [k0_pay4]
theorem pay5 : k0_pay5 (F := Ideal) v2 (ix2 0 k) = v2 (ix2 0 k) := by pointwise [k0_pay5]
theorem pay6 : k0_pay6 (F := Ideal) v1 (ix2 r q) = ms (fun x => v1 (ix2 r x)) := by pointwise [k0_pay6, ms]
theorem pay7 : k0_pay7 (F := Ideal) v1 (ix2 r q) = rms (fun x => v1 (ix2 r x)) := by pointwise [k0_pay7, pay6, rms]
theorem pay8 : k0_pay8 (F := Ideal) v1 (ix2 r q) = drms (fun x => v1 (ix2 r x)) := by pointwise [k0_pay8, pay6, pay7, drms]
theorem pay9 : k0_pay9 (F := Ideal) v1 (ix2 r k) = hat (fun x => v1 (ix2 r x)) k := by pointwise [k0_pay9, pay7, hat]
theorem pay10 : k0_pay10 (F := Ideal) v0 v1 v2 (ix2 r k) = err (fun x => v1 (ix2 r x)) (fun x => v0 (ix2 r x)) (fun x => v2 (ix2 0 x)) k := by
  pointwise [k0_pay10, pay9, pay5, err]
theorem pay12 : k0_pay12 (F := Ideal) v0 v1 v2 (ix2 r k) = derr (fun x => v1 (ix2 r x)) (fun x => v0 (ix2 r x)) (fun x => v2 (ix2 0 x)) k := by
  pointwise [k0_pay12, pay10, Finset.univ_unique, Finset.sum_singleton]
  exact weight _
theorem pay11 : k0_pay11 (F := Ideal) v0 v1 v2 (ix2 0 k)
    = Ideal.ofBits FTy.f32 1056964608#32 * (∑ r, err (fun x => v1 (ix2 r x)) (fun x => v0 (ix2 r x)) (fun x => v2 (ix2 0 x)) k
        * err (fun x => v1 (ix2 r x)) (fun x => v0 (ix2 r x)) (fun x => v2 (ix2 0 x)) k) * Ideal.ofBits FTy.f32 981467136#32 := by
  pointwise [k0_pay11, pay10]
theorem pay13 : k0_pay13 (F := Ideal) v0 v1 v2 (ix2 0 k)
    = ∑ r, hat (fun x => v1 (ix2 r x)) k * derr (fun x => v1 (ix2 r x)) (fun x => v0 (ix2 r x)) (fun x => v2 (ix2 0 x)) k := by
  pointwise [k0_pay13, pay9, pay12]
theorem pay1 : k0_pay1 (F := Ideal) v1 (k0_pay5 v2) (k0_pay7 v1) (k0_pay8 v1) (k0_pay12 v0 v1 v2) (ix2 r k)
    = dx (fun x => v1 (ix2 r x)) (fun x => v0 (ix2 r x)) (fun x => v2 (ix2 0 x)) k := by
  pointwise [k0_pay1, pay5, pay7, pay8, pay12, dx, dms, Finset.univ_unique, Finset.sum_singleton]

end Cert.LossIdeal.Val

namespace Cert.LossRefIdeal.Val
open Cert.LossRefIdeal Cert.LossRefIdeal.Read

/-- A matrix of this program's arguments. -/
abbrev Mat := (⟨S4096x1024, .f32⟩ : BufTy).Contents (Elt Ideal)
/-- A vector of this program's arguments. -/
abbrev Row := (⟨S1024, .f32⟩ : BufTy).Contents (Elt Ideal)

variable (x0 x1 : Mat) (x2 : Row) (r : Fin 4096) (k : Fin 1024) (q : Fin 1)

theorem v6 : val_main_v6 (F := Ideal) x0 (ix2 r q) = ms (fun x => x0 (ix2 r x)) := by
  pointwise [val_main_v6, val_main_v5, val_main_v4, val_main_v3, val_main_v2, val_main_v1, val_main_v0, val_main_cst, val_main_cst_0, val_main_cst_1, ms]
theorem v7 : val_main_v7 (F := Ideal) x0 (ix2 r q) = rms (fun x => x0 (ix2 r x)) := by pointwise [val_main_v7, v6, rms]
theorem v10 : val_main_v10 (F := Ideal) x0 (ix2 r q) = drms (fun x => x0 (ix2 r x)) := by
  pointwise [val_main_v10, val_main_v9, val_main_v8, val_main_cst_2, v6, v7, drms]
theorem v12 : val_main_v12 (F := Ideal) x0 (ix2 r k) = hat (fun x => x0 (ix2 r x)) k := by pointwise [val_main_v12, val_main_v11, v7, hat]
theorem v16 : val_main_v16 (F := Ideal) x0 x1 x2 (ix2 r k) = err (fun x => x0 (ix2 r x)) (fun x => x1 (ix2 r x)) (fun x => x2 (ix1 x)) k := by
  pointwise [val_main_v16, val_main_v15, val_main_v14, val_main_v13, v12, err]
theorem v30 : val_main_v30 (F := Ideal) x0 x1 x2 (ix2 r k) = derr (fun x => x0 (ix2 r x)) (fun x => x1 (ix2 r x)) (fun x => x2 (ix1 x)) k := by
  pointwise [val_main_v30, val_main_v29, val_main_v28, val_main_v27, val_main_v26, val_main_v25, val_main_v19, val_main_v18, val_main_cst_3, val_main_cst_8,
    val_main_cst_9, val_main_cst_10, v16, derr]
theorem v35 : val_main_v35 (F := Ideal) x0 x1 x2 (ix2 r k)
    = derr (fun x => x0 (ix2 r x)) (fun x => x1 (ix2 r x)) (fun x => x2 (ix1 x)) k * x2 (ix1 k) := by
  pointwise [val_main_v35, val_main_v34, val_main_v13, v30]
theorem v45 : val_main_v45 (F := Ideal) x0 x1 x2 (ix1 r) = dms (fun x => x0 (ix2 r x)) (fun x => x1 (ix2 r x)) (fun x => x2 (ix1 x)) := by
  pointwise [val_main_v45, val_main_v44, val_main_v43, val_main_v42, val_main_v39, val_main_v38, val_main_v37, val_main_cst_13, val_main_cst_14, val_main_cst_15,
    v35, v10, dms, Finset.univ_unique, Finset.sum_singleton]
/-- The gradient of the rows. -/
theorem v50 : val_main_v50 (F := Ideal) x0 x1 x2 (ix2 r k) = dx (fun x => x0 (ix2 r x)) (fun x => x1 (ix2 r x)) (fun x => x2 (ix1 x)) k := by
  pointwise [val_main_v50, val_main_v49, val_main_v48, val_main_v47, val_main_v46, val_main_v41, val_main_v40, v45, v35, v7, dx]
/-- The gradient of the scale. -/
theorem v73_0 : val_main_v73 (F := Ideal) x0 x1 x2 (ix2 0 k)
    = ∑ r, hat (fun x => x0 (ix2 r x)) k * derr (fun x => x0 (ix2 r x)) (fun x => x1 (ix2 r x)) (fun x => x2 (ix1 x)) k := by
  pointwise [val_main_v73, val_main_v71, val_main_v36, val_main_v33, val_main_v32, val_main_v31, val_main_cst_11, val_main_cst_12, v12, v30,
    Finset.univ_unique, Finset.sum_singleton]
theorem v57 : val_main_v57 (F := Ideal) x0 (ix2 r q) = ms (fun x => x0 (ix2 r x)) := by
  pointwise [val_main_v57, val_main_v56, val_main_v55, val_main_v54, val_main_v53, val_main_v52, val_main_v51, val_main_cst_16, val_main_cst_17, val_main_cst_18, ms]
theorem v64 : val_main_v64 (F := Ideal) x0 x1 x2 (ix2 r k) = err (fun x => x0 (ix2 r x)) (fun x => x1 (ix2 r x)) (fun x => x2 (ix1 x)) k := by
  pointwise [val_main_v64, val_main_v63, val_main_v62, val_main_v61, val_main_v60, val_main_v59, val_main_v58, v57, err, hat, rms]
/-- The loss, lane by lane. -/
theorem v73_1 : val_main_v73 (F := Ideal) x0 x1 x2 (ix2 1 k)
    = Ideal.ofBits FTy.f32 1056964608#32 * ∑ r, Ideal.div (err (fun x => x0 (ix2 r x)) (fun x => x1 (ix2 r x)) (fun x => x2 (ix1 x)) k
        * err (fun x => x0 (ix2 r x)) (fun x => x1 (ix2 r x)) (fun x => x2 (ix1 x)) k) len := by
  pointwise [val_main_v73, val_main_v72, val_main_v70, val_main_v69, val_main_v68, val_main_v67, val_main_v66, val_main_v65, val_main_cst_19, val_main_cst_20,
    val_main_cst_21, v64]

end Cert.LossRefIdeal.Val

end

end
-- ==== Proof.LossValue.lean ====
module

public import proofs.«01_k».proof.Proof.LossKernel
public import proofs.«01_k».proof.Proof.Sums
public import Idealize.ShloMosaic.Lib.Pipeline.ReadBack

/-! The two output arrays of the loss's gradient are the reference's. -/

@[expose] public section

set_option maxRecDepth 16384

noncomputable section

open Idealize.ShloMosaic Idealize.ShloMosaic.TcCoe Idealize.SL.Sem
open Idealize.ShloMosaic.Pipeline (Dat)

namespace Cert.LossIdeal.Val
open Cert.LossIdeal Cert.LossIdeal.Gen Cert.LossRow
open Cert.LossRefIdeal.Val (Mat Row)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0]
    ∧ win0_4.index t = ![0, 0] :=
  (by decide +kernel : ∀ t : Fin grid0.N, _)

/-- The arguments on the device. -/
abbrev X : Mat := m ((c.tc : Thread nD τ).loc main_arg0)
abbrev Y : Mat := m ((c.tc : Thread nD τ).loc main_arg1)
abbrev G : Row := m ((c.tc : Thread nD τ).loc main_arg2)

theorem lt8 (t : Fin cfg0.N) : t.val < 8 := lt_of_lt_of_eq t.isLt N_0

/-- The row of the whole array that row `r` of block `t` is. -/
abbrev row (t : Fin cfg0.N) (r : Fin 512) : Fin 4096 := ⟨512 * t.val + r.val, by have := lt8 t; have := r.isLt; omega⟩

theorem blk0 (t : Fin cfg0.N) (r : Fin 512) (x : Fin 1024) : iblk m c 0 t (ix2 r x) = X m c (ix2 (row t r) x) := by
  blk_point [iblk, V, idx t]
theorem blk1 (t : Fin cfg0.N) (r : Fin 512) (x : Fin 1024) : iblk m c 1 t (ix2 r x) = Y m c (ix2 (row t r) x) := by
  blk_point [iblk, V, idx t]
theorem blk2 (t : Fin cfg0.N) (x : Fin 1024) : iblk m c 2 t (ix2 0 x) = G m c (ix1 x) := by
  blk_point [iblk, V, idx t]
theorem emb3 (t : Fin cfg0.N) (r : Fin 512) (x : Fin 1024) : ((View.whole main_v1_0).slice (win0_3.rect t)).emb (ix2 r x) = ix2 (row t r) x := by
  blk_ext [idx t]

/-- The gradient of the rows. -/
theorem final3 : (dats m 0 c).arrAt 3 cfg0.N = Cert.LossRefIdeal.Read.val_main_v50 (F := Ideal) (X m c) (Y m c) (G m c) := by
  refine (dats m 0 c).arrAt_eq_of_covers 3 _ (by decide +kernel) fun t hf y => ?_
  blk_simp
  rw [after0_3]
  by_cases h : t.val % 8 = 0
  · rw [outsAt0_A m c t h]
    frame_out
    idx_vars y
    rw [pay1, emb3, Cert.LossRefIdeal.Val.v50]
    simp only [blk0, blk1, blk2]
  · rw [outsAt0_B m c t h]
    frame_out
    idx_vars y
    rw [pay1, emb3, Cert.LossRefIdeal.Val.v50]
    simp only [blk0, blk1, blk2]

/-- Block `t`'s part of the two sums over the rows. -/
def part (t : Fin cfg0.N) (j : S2x1024.Idx) : EReal :=
  if (j 0).val = 0 then k0_pay13 (F := Ideal) (iblk m c 1 t) (iblk m c 0 t) (iblk m c 2 t) (ix2 0 (j 1))
  else k0_pay11 (F := Ideal) (iblk m c 1 t) (iblk m c 0 t) (iblk m c 2 t) (ix2 0 (j 1))

theorem part_0 (t : Fin cfg0.N) (k : Fin 1024) :
    part m c t (ix2 0 k) = k0_pay13 (F := Ideal) (iblk m c 1 t) (iblk m c 0 t) (iblk m c 2 t) (ix2 0 k) := if_pos rfl
theorem part_1 (t : Fin cfg0.N) (k : Fin 1024) :
    part m c t (ix2 1 k) = k0_pay11 (F := Ideal) (iblk m c 1 t) (iblk m c 0 t) (iblk m c 2 t) (ix2 0 k) := if_neg Nat.one_ne_zero

/-- Two stores of one row each, the lower after the upper, leave the sum of what was there and the part. -/
theorem rows_add (t : Fin cfg0.N) (x : FVec Ideal S2x1024 .f32) (L : List (View.Piece (Elt Ideal) S2x1024 .f32)) (j : S2x1024.Idx) :
    View.canon (⟨Rect.unit ![1, 0] ![1, 1024] inb_S2x1024_S1x1024_1_0,
        k0_pay4 (k0_pay11 (iblk m c 1 t) (iblk m c 0 t) (iblk m c 2 t))
          (View.ld (Val := Elt Ideal) (e' := .f32) (S := S2x1024) x (Rect.unit ![1, 0] ![1, 1024] inb_S2x1024_S1x1024_1_0))⟩ ::
      ⟨Rect.unit ![0, 0] ![1, 1024] inb_S2x1024_S1x1024_0_0,
        k0_pay3 (k0_pay13 (iblk m c 1 t) (iblk m c 0 t) (iblk m c 2 t))
          (View.ld (Val := Elt Ideal) (e' := .f32) (S := S2x1024) x (Rect.unit ![0, 0] ![1, 1024] inb_S2x1024_S1x1024_0_0))⟩ :: L) j = x j + part m c t j := by
  refine View.canon_append_of_piecesOf (fun j => x j + part m c t j) L [_, _] ⟨fun y => ?_, fun y => ?_, trivial⟩ j ?_
  · idx_vars y
    have e : (Rect.unit (s := S2x1024) ![1, 0] ![1, 1024] inb_S2x1024_S1x1024_1_0).emb (ix2 y0 y1) = ix2 1 y1 := by blk_ext []
    obtain rfl : y0 = 0 := Subsingleton.elim _ _
    pointwise [k0_pay4, e]
    exact congrArg (x (ix2 1 y1) + ·) (part_1 m c t y1).symm
  · idx_vars y
    have e : (Rect.unit (s := S2x1024) ![0, 0] ![1, 1024] inb_S2x1024_S1x1024_0_0).emb (ix2 y0 y1) = ix2 0 y1 := by blk_ext []
    obtain rfl : y0 = 0 := Subsingleton.elim _ _
    pointwise [k0_pay3, e]
    exact congrArg (x (ix2 0 y1) + ·) (part_0 m c t y1).symm
  · idx_vars j
    by_cases h : j0 = 0
    · subst h
      exact ⟨_, .tail _ (.head _), (Rect.mem_set_unit (inb := inb_S2x1024_S1x1024_0_0)).2 fun a => by match a with | 0 => simp | 1 => simp⟩
    · obtain rfl : j0 = 1 := by omega
      exact ⟨_, .head _, (Rect.mem_set_unit (inb := inb_S2x1024_S1x1024_1_0)).2 fun a => by match a with | 0 => simp | 1 => simp⟩

theorem sum_part0 (k : Fin 1024) : (∑ t : Fin cfg0.N, part m c t (ix2 0 k))
    = ∑ R : Fin 4096, hat (fun x => X m c (ix2 R x)) k
        * derr (fun x => X m c (ix2 R x)) (fun x => Y m c (ix2 R x)) (fun x => G m c (ix1 x)) k := by
  rw [← Sums.blocks (T := cfg0.N) (n := 512) (by rw [show cfg0.N = 8 from N_0]) _ row (fun _ _ => rfl)]
  refine Finset.sum_congr rfl fun t _ => ?_
  rw [part_0]
  exact (pay13 _ _ _ k).trans (by simp only [blk0, blk1, blk2])

/-- Half a sum of squares times the reciprocal length is half the sum of the quotients. -/
theorem half_mean {ι : Type} (s : Finset ι) (f : ι → EReal) :
    Ideal.ofBits FTy.f32 1056964608#32 * (∑ i ∈ s, f i) * Ideal.ofBits FTy.f32 981467136#32
      = Ideal.ofBits FTy.f32 1056964608#32 * ∑ i ∈ s, Ideal.div (f i) len := by
  unfold len
  rw [Consts.f_inv_1024, Consts.f_1024, mul_assoc, mul_comm (∑ i ∈ s, f i), Consts.mul_sum s (by norm_num)]
  congr 1
  exact Finset.sum_congr rfl fun i _ => by rw [Ideal.div_coe (by norm_num), mul_comm]

theorem sum_part1 (k : Fin 1024) : (∑ t : Fin cfg0.N, part m c t (ix2 1 k))
    = Ideal.ofBits FTy.f32 1056964608#32 * ∑ R : Fin 4096, Ideal.div (err (fun x => X m c (ix2 R x)) (fun x => Y m c (ix2 R x)) (fun x => G m c (ix1 x)) k
        * err (fun x => X m c (ix2 R x)) (fun x => Y m c (ix2 R x)) (fun x => G m c (ix1 x)) k) len := by
  rw [← Sums.blocks (T := cfg0.N) (n := 512) (by rw [show cfg0.N = 8 from N_0]) _ row (fun _ _ => rfl), Consts.f_half, Consts.mul_sum _ (by norm_num),
    ← Consts.f_half]
  refine Finset.sum_congr rfl fun t _ => ?_
  rw [part_1]
  exact (pay11 _ _ _ k).trans ((half_mean _ _).trans (by simp only [blk0, blk1, blk2]))

/-- The gradient of the scale, and the loss lane by lane. -/
theorem final4 : (dats m 0 c).arrAt 4 cfg0.N = Cert.LossRefIdeal.Read.val_main_v73 (F := Ideal) (X m c) (Y m c) (G m c) := by
  refine (dats m 0 c).arrAt_eq_of_after_last 4 t0_7 (by decide +kernel) _ fun j => ?_
  blk_simp
  rw [after0_4, Pipeline.eq_sum_fin_of_reset_step_apply_last (fun n h => (outsAt0 m c n h).2) 8 (fun _ => 0) (part m c)
    (fun t h j => by
      rw [outsAt0_A m c t h]; frame_open
      simp (disch := decide) only [↓ View.readCov_skip, ↓ View.readCov_cons_toLoadRect, ↓ View.readCov_fill]
      frame_out
      rw [rows_add m c t k0_pay2 [_] j]
      congr 1
      idx_vars j
      pointwise [k0_pay2])
    (fun t h j => by rw [outsAt0_B m c t h]; frame_out; exact rows_add m c t _ [] j) (le_of_eq N_0) t0_7 rfl j]
  rw [zero_add]
  idx_vars j
  by_cases h0 : j0 = 0
  · subst h0
    exact (sum_part0 m c j1).trans (Cert.LossRefIdeal.Val.v73_0 _ _ _ j1).symm
  · obtain rfl : j0 = 1 := by omega
    exact (sum_part1 m c j1).trans (Cert.LossRefIdeal.Val.v73_1 _ _ _ j1).symm

end Cert.LossIdeal.Val

end

end
-- ==== Proof.LossClaim.lean ====
module

public import proofs.«01_k».proof.Defs
public import proofs.«01_k».proof.Proof.Gen.Loss.Frame
public import proofs.«01_k».proof.Proof.LossValue

/-! The claims about the final norm, the loss and their gradient. -/

@[expose] public section

noncomputable section

open Idealize.ShloMosaic Idealize.ShloMosaic.TcCoe Idealize.SL.Sem

namespace Cert.LossIdeal.Val
open Cert.LossIdeal Cert.LossIdeal.Gen

theorem frame_kernel : Cert.quiescent_Loss := fun m ρ _ => Cert.Loss.Gen.frame m ρ
theorem frame_ideal : Cert.quiescent_LossIdeal := fun m ρ _ => Cert.LossIdeal.Gen.frame m ρ

/-- The reference is a straight line of host operations and declares no semaphore. -/
theorem frame_reference : Cert.quiescent_LossRefIdeal := fun m ρ _ =>
  (θ_run Cert.LossRefIdeal.defs _ _).mono (fun r h => ⟨fun c => (h c).2.2, sem_eq_zero_of_no_sems (by decide) r.2⟩) (Cert.LossRefIdeal.Value.run m ρ)

/-- The two programs end with equal results. -/
theorem equal : Cert.algebraic_LossIdeal_LossRefIdeal := fun m ρ m' ρ' _ hag =>
  ⟨fun c => Cert.LossRefIdeal.Read.val_main_v50 (F := Ideal) (X m c) (Y m c) (G m c),
    fun c => Cert.LossRefIdeal.Read.val_main_v73 (F := Ideal) (X m c) (Y m c) (G m c),
    (θ_run _ _ _).mono (fun _ h c => ⟨(h c).1.trans (final3 m c), (h c).2.1.trans (final4 m c), (h c).2.2⟩) (Cert.LossIdeal.Value.run_blocks m ρ),
    (θ_run _ _ _).mono (fun _ h c => ⟨(h c).1.trans ((Cert.LossRefIdeal.Read.val_main_v50_eq m' c).trans (by rw [(hag c).1, (hag c).2.1, (hag c).2.2])),
      (h c).2.1.trans ((Cert.LossRefIdeal.Read.val_main_v73_eq _ _ _).trans (by rw [(hag c).1, (hag c).2.1, (hag c).2.2])), (h c).2.2⟩)
      (Cert.LossRefIdeal.Value.run m' ρ')⟩

end Cert.LossIdeal.Val

end

end
-- ==== Proof.ResGateRun.lean ====
module

public import proofs.«01_k».proof.Proof.Gen.ResGateIdeal.Frame

/-! The run of the product's forward call and its gradient, with the contents of the gradient's outputs. -/

@[expose] public section

set_option maxRecDepth 16384

noncomputable section

namespace Cert.ResGateIdeal.Val

open Cert.ResGateIdeal Cert.ResGateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Both calls run to their end: the gradient's four arrays, and every argument as it was. -/
theorem run : θ_run defs (onTc (τ := τ) (main (F := F))) ⟨m, fun _ => 0, ρ⟩ (fun r => (∀ c : Dev nD,
      (r.2.mem ((c.tc : Thread nD τ).loc main_v4_0) = (dat1 (V2 m ρ) c).arrAt 4 cfg1.N
      ∧ r.2.mem ((c.tc : Thread nD τ).loc main_v4_1) = (dat1 (V2 m ρ) c).arrAt 5 cfg1.N
      ∧ r.2.mem ((c.tc : Thread nD τ).loc main_v4_2) = (dat1 (V2 m ρ) c).arrAt 6 cfg1.N
      ∧ r.2.mem ((c.tc : Thread nD τ).loc main_v4_3) = (dat1 (V2 m ρ) c).arrAt 7 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨⟨(h c _ (mem_uc main_v4_0 (by decide))).trans (W3_arr m ρ c 4),
       (h c _ (mem_uc main_v4_1 (by decide))).trans (W3_arr m ρ c 5),
       (h c _ (mem_uc main_v4_2 (by decide))).trans (W3_arr m ρ c 6),
       (h c _ (mem_uc main_v4_3 (by decide))).trans (W3_arr m ρ c 7)⟩,
       (h c _ (mem_uc main_arg0 (by decide))).trans (W3_args m ρ c main_arg0 (by decide)),
       (h c _ (mem_uc main_arg1 (by decide))).trans (W3_args m ρ c main_arg1 (by decide)),
       (h c _ (mem_uc main_arg2 (by decide))).trans (W3_args m ρ c main_arg2 (by decide)),
       (h c _ (mem_uc main_arg3 (by decide))).trans (W3_args m ρ c main_arg3 (by decide)),
       (h c _ (mem_uc main_arg4 (by decide))).trans (W3_args m ρ c main_arg4 (by decide)),
       (h c _ (mem_uc main_arg5 (by decide))).trans (W3_args m ρ c main_arg5 (by decide))⟩), funext fun g => hz g (.inr (no_unscoped g.2))⟩)

end Cert.ResGateIdeal.Val

end

end
-- ==== Proof.ResGateKernel.lean ====
module

public import proofs.«01_k».proof.Proof.Gen.ResGateIdeal.Frame
public import proofs.«01_k».proof.Proof.Gen.ResGateRefIdeal.Read
public import Idealize.ShloMosaic.Lib.Pipeline.ValueKit

/-! The output product under its gate, entry by entry: the two kernels' payloads and the reference's stages. -/

@[expose] public section

set_option maxRecDepth 16384

noncomputable section

open Idealize.ShloMosaic Idealize.ShloMosaic.TcCoe Idealize.SL.Sem

namespace Cert.ResGateIdeal.Val
open Cert.ResGateIdeal Cert.ResGateIdeal.Gen

section Kernel

variable (a : Vec Ideal S512x1024 .bf16) (w : Vec Ideal S1024x1024 .bf16) (b : Vec Ideal S1x1024 .f32) (ct : Vec Ideal S512x1024 .f32)
  (g : Vec Ideal S1x3x1024 .f32) (p : FVec Ideal S1x1024 .f32) (d : FVec Ideal S512x1024 .f32) (r : Fin 512) (k : Fin 1024)

theorem y_pay : k0_pay2 (F := Ideal) a w b (ix2 r k) = (∑ x : Fin 1024, a (ix2 r x) * w (ix2 x k)) + b (ix2 0 k) := by
  pointwise [k0_pay2, k0_pay1]
theorem dy_pay5 : k1_pay5 (F := Ideal) ct g (ix2 r k) = (1 + g (ix3 0 2 k)) * ct (ix2 r k) := by
  pointwise [k1_pay5]
theorem dy_pay : k1_pay6 (F := Ideal) ct g (ix2 r k) = (1 + g (ix3 0 2 k)) * ct (ix2 r k) := by
  pointwise [k1_pay6, dy_pay5]
theorem da_pay : k1_pay7 (F := Ideal) ct g w (ix2 r k) = ∑ x : Fin 1024, (1 + g (ix3 0 2 x)) * ct (ix2 r x) * w (ix2 k x) := by
  pointwise [k1_pay7, dy_pay]
theorem gate_pay : k1_pay8 (F := Ideal) ct a (ix2 0 k) = ∑ x : Fin 512, ct (ix2 x k) * a (ix2 x k) := by
  pointwise [k1_pay8]
theorem gate_add : k1_pay2 (F := Ideal) p b (ix2 0 k) = b (ix2 0 k) + p (ix2 0 k) := by
  pointwise [k1_pay2]
theorem bias_add : k1_pay4 (F := Ideal) d b (ix2 0 k) = b (ix2 0 k) + ∑ x : Fin 512, d (ix2 x k) := by
  pointwise [k1_pay4]

end Kernel

section Reference
open Cert.ResGateRefIdeal Cert.ResGateRefIdeal.Read

/-- The types of this program's arguments. -/
abbrev Mat := (⟨S4096x1024, .f32⟩ : BufTy).Contents (Elt Ideal)
abbrev Sq := (⟨S1024x1024, .f32⟩ : BufTy).Contents (Elt Ideal)
abbrev Mods := (⟨S2x3x1024, .f32⟩ : BufTy).Contents (Elt Ideal)
abbrev Row := (⟨S1024, .f32⟩ : BufTy).Contents (Elt Ideal)

variable (x1 x5 : Mat) (x2 : Mods) (x3 : Sq) (x4 : Row) (r : Fin 4096) (b : Fin 2) (t : Fin 2048) (k : Fin 1024)

/-- The sequence a row belongs to. -/
abbrev seqOf (r : Fin 4096) : Fin 2 := ⟨r.val / 2048, by omega⟩
/-- Row `t` of sequence `b`. -/
abbrev rowOf (b : Fin 2) (t : Fin 2048) : Fin 4096 := ⟨b.val * 2048 + t.val, by omega⟩

theorem v3 : val_main_v3 (F := Ideal) x1 x3 x4 (ix2 r k) = (∑ x : Fin 1024, x1 (ix2 r x) * x3 (ix2 x k)) + x4 (ix1 k) := by
  pointwise [val_main_v3, val_main_v2, val_main_v1, val_main_v0]
theorem v8 : val_main_v8 (F := Ideal) x2 (ix3 b 0 k) = 1 + x2 (ix3 b 2 k) := by
  pointwise [val_main_v8, val_main_v7, val_main_v6, val_main_v5, val_main_v4, val_main_cst, val_main_cst_0]
theorem v20 : val_main_v20 (F := Ideal) x2 x5 (ix2 r k) = (1 + x2 (ix3 (seqOf r) 2 k)) * x5 (ix2 r k) := by
  pointwise [val_main_v20, val_main_v16, val_main_v15, val_main_v14, v8]
theorem v28 : val_main_v28 (F := Ideal) x2 x5 (ix2 r k) = (1 + x2 (ix3 (seqOf r) 2 k)) * x5 (ix2 r k) := by
  pointwise [val_main_v28, v20]
theorem v27 : val_main_v27 (F := Ideal) x2 x3 x5 (ix2 r k) = ∑ x : Fin 1024, (1 + x2 (ix3 (seqOf r) 2 x)) * x5 (ix2 r x) * x3 (ix2 k x) := by
  pointwise [val_main_v27, v20]
theorem v18 : val_main_v18 (F := Ideal) x1 x3 x4 x5 (ix2 b k)
    = ∑ t : Fin 2048, x5 (ix2 (rowOf b t) k) * ((∑ x : Fin 1024, x1 (ix2 (rowOf b t) x) * x3 (ix2 x k)) + x4 (ix1 k)) := by
  pointwise [val_main_v18, val_main_v17, val_main_v14, val_main_v9, val_main_cst_1, v3]
theorem v29 : val_main_v29 (F := Ideal) x1 x3 x4 x5 (ix3 b 0 k)
    = ∑ t : Fin 2048, x5 (ix2 (rowOf b t) k) * ((∑ x : Fin 1024, x1 (ix2 (rowOf b t) x) * x3 (ix2 x k)) + x4 (ix1 k)) := by
  pointwise [val_main_v29, val_main_v23, val_main_v22, val_main_v21, val_main_v19, val_main_cst_2, val_main_cst_3, v18]
theorem v30 : val_main_v30 (F := Ideal) x2 x5 (ix2 0 k) = ∑ r : Fin 4096, (1 + x2 (ix3 (seqOf r) 2 k)) * x5 (ix2 r k) := by
  pointwise [val_main_v30, val_main_v26, val_main_v25, val_main_v24, val_main_cst_4, val_main_cst_5, v20, Finset.univ_unique, Finset.sum_singleton]

end Reference

end Cert.ResGateIdeal.Val

end

end
-- ==== Proof.ResGateValue.lean ====
module

public import proofs.«01_k».proof.Proof.ResGateKernel
public import proofs.«01_k».proof.Proof.Sums
public import Idealize.ShloMosaic.Lib.Pipeline.ReadBack

/-! The output arrays of the product's gradient under its gate are the reference's. -/

@[expose] public section

set_option maxRecDepth 16384

noncomputable section

open Idealize.ShloMosaic Idealize.ShloMosaic.TcCoe Idealize.SL.Sem
open Idealize.ShloMosaic.Pipeline (Dat)

namespace Cert.ResGateIdeal.Val
open Cert.ResGateIdeal Cert.ResGateIdeal.Gen

variable (m : (ℓ : Loc nD τ sig) → Buf (Elt Ideal) ℓ) (ρ : Dev nD → PrngReg) (c : Dev nD)

theorem idx0 : ∀ t : Fin cfg0.N, win0_1.index t = ![t.val, 0] ∧ win0_3.index t = ![0, 0] ∧ win0_4.index t = ![0, 0] ∧ win0_6.index t = ![t.val, 0] :=
  (by decide +kernel : ∀ t : Fin grid0.N, _)
theorem idx1 : ∀ t : Fin cfg1.N, win1_0.index t = ![t.val, 0] ∧ win1_1.index t = ![t.val, 0] ∧ win1_2.index t = ![t.val / 4, 0, 0] ∧ win1_3.index t = ![0, 0]
    ∧ win1_4.index t = ![t.val, 0] ∧ win1_5.index t = ![t.val, 0] ∧ win1_6.index t = ![t.val / 4, 0, 0] ∧ win1_7.index t = ![0, 0] :=
  (by decide +kernel : ∀ t : Fin grid1.N, _)

/-- The arguments on the device. -/
abbrev A : Mat := m ((c.tc : Thread nD τ).loc main_arg1)
abbrev G : Mods := m ((c.tc : Thread nD τ).loc main_arg2)
abbrev M : Sq := m ((c.tc : Thread nD τ).loc main_arg3)
abbrev B : Row := m ((c.tc : Thread nD τ).loc main_arg4)
abbrev CT : Mat := m ((c.tc : Thread nD τ).loc main_arg5)

theorem lt0 (t : Fin cfg0.N) : t.val < 8 := lt_of_lt_of_eq t.isLt N_0
theorem lt1 (t : Fin cfg1.N) : t.val < 8 := lt_of_lt_of_eq t.isLt N_1

/-- The row of the whole array that row `r` of block `t` is. -/
abbrev row0 (t : Fin cfg0.N) (r : Fin 512) : Fin 4096 := ⟨512 * t.val + r.val, by have := lt0 t; have := r.isLt; omega⟩
abbrev row (t : Fin cfg1.N) (r : Fin 512) : Fin 4096 := ⟨512 * t.val + r.val, by have := lt1 t; have := r.isLt; omega⟩
/-- The sequence block `t` belongs to. -/
abbrev sq (t : Fin cfg1.N) : Fin 2 := ⟨t.val / 4, by have := lt1 t; omega⟩

/-! ## The saved product -/

theorem a_blk (t : Fin cfg0.N) (r : Fin 512) (x : Fin 1024) : iblk0 (V1 m ρ) c 1 t (ix2 r x) = A m c (ix2 (row0 t r) x) := by
  blk_point [iblk0, V1, W1, W0, hostOps0, idx0 t]
theorem w_blk (t : Fin cfg0.N) (y x : Fin 1024) : iblk0 (V1 m ρ) c 3 t (ix2 y x) = M m c (ix2 y x) := by
  blk_point [iblk0, V1, W1, W0, hostOps0, idx0 t]
theorem b_blk (t : Fin cfg0.N) (x : Fin 1024) : iblk0 (V1 m ρ) c 4 t (ix2 0 x) = B m c (ix1 x) := by
  blk_point [iblk0, V1, W1, W0, hostOps0, idx0 t]
theorem y_emb (t : Fin cfg0.N) (r : Fin 512) (x : Fin 1024) : ((View.whole main_v3_1).slice (win0_6.rect t)).emb (ix2 r x) = ix2 (row0 t r) x := by
  blk_ext [idx0 t]

/-- The product the forward call saves. -/
def prod : Mat := fun j => (∑ x : Fin 1024, A m c (ix2 (j 0) x) * M m c (ix2 x (j 1))) + B m c (ix1 (j 1))

theorem prod_arr : (dat0 (V1 m ρ) c).arrAt 6 cfg0.N = prod m c := by
  refine (dat0 (V1 m ρ) c).arrAt_eq_of_covers 6 _ (by decide +kernel) fun t hf y => ?_
  blk_simp
  rw [after0_6]
  frame_out
  idx_vars y
  rw [y_pay, y_emb]
  simp only [a_blk, w_blk, b_blk]
  rfl

/-! ## The gradient -/

theorem W2_y : W2 m ρ c (Proc.devRef .tc main_v3_1) = prod m c := (W2_arr m ρ c 6).trans (prod_arr m ρ c)
theorem W2_w : W2 m ρ c (Proc.devRef .tc main_v0) = W1 m ρ c (Proc.devRef .tc main_v0) := W2_of m ρ c main_v0 (by decide)

theorem blk0 (t : Fin cfg1.N) (r : Fin 512) (x : Fin 1024) : iblk1 (V2 m ρ) c 0 t (ix2 r x) = CT m c (ix2 (row t r) x) := by
  blk_point [iblk1, V2, W2_args m ρ c main_arg5 (by decide), idx1 t]
theorem blk1 (t : Fin cfg1.N) (r : Fin 512) (x : Fin 1024) : iblk1 (V2 m ρ) c 1 t (ix2 r x) = prod m c (ix2 (row t r) x) := by
  have h := W2_y m ρ c
  generalize prod m c = P at h ⊢
  blk_point [iblk1, V2, h, idx1 t]
theorem blk2 (t : Fin cfg1.N) (x : Fin 1024) : iblk1 (V2 m ρ) c 2 t (ix3 0 2 x) = G m c (ix3 (sq t) 2 x) := by
  blk_point [iblk1, V2, W2_args m ρ c main_arg2 (by decide), idx1 t]
theorem blk3 (t : Fin cfg1.N) (y x : Fin 1024) : iblk1 (V2 m ρ) c 3 t (ix2 y x) = M m c (ix2 y x) := by
  blk_point [iblk1, V2, W2_w m ρ c, W1, W0, hostOps0, idx1 t]
theorem emb4 (t : Fin cfg1.N) (r : Fin 512) (x : Fin 1024) : ((View.whole main_v4_0).slice (win1_4.rect t)).emb (ix2 r x) = ix2 (row t r) x := by
  blk_ext [idx1 t]
theorem emb5 (t : Fin cfg1.N) (r : Fin 512) (x : Fin 1024) : ((View.whole main_v4_1).slice (win1_5.rect t)).emb (ix2 r x) = ix2 (row t r) x := by
  blk_ext [idx1 t]
theorem emb6 (t : Fin cfg1.N) (x : Fin 1024) : ((View.whole main_v4_2).slice (win1_6.rect t)).emb (ix3 0 0 x) = ix3 (sq t) 0 x := by
  blk_ext [idx1 t]
theorem seq_row (t : Fin cfg1.N) (r : Fin 512) : seqOf (row t r) = sq t := by
  apply Fin.ext; have := r.isLt; simp only [seqOf, row, sq]; omega

/-- What every point leaves in the two tiled outputs. -/
theorem tiles (t : Fin cfg1.N) : (outsAt1 (V2 m ρ) c t.val t.isLt).1 = k1_pay7 (F := Ideal) (iblk1 (V2 m ρ) c 0 t) (iblk1 (V2 m ρ) c 2 t) (iblk1 (V2 m ρ) c 3 t)
    ∧ (outsAt1 (V2 m ρ) c t.val t.isLt).2.1 = k1_pay6 (F := Ideal) (iblk1 (V2 m ρ) c 0 t) (iblk1 (V2 m ρ) c 2 t) := by
  by_cases h0 : t.val % 4 = 0
  · by_cases h1 : t.val % 8 = 0
    · rw [outsAt1_A (V2 m ρ) c t h0 h1]; constructor <;> frame_out
    · rw [outsAt1_C (V2 m ρ) c t h0 h1]; constructor <;> frame_out
  · rw [outsAt1_B (V2 m ρ) c t h0 (by omega)]; constructor <;> frame_out

/-- The gradient of the product's left factor. -/
theorem final4 : (dat1 (V2 m ρ) c).arrAt 4 cfg1.N = Cert.ResGateRefIdeal.Read.val_main_v27 (F := Ideal) (G m c) (M m c) (CT m c) := by
  refine (dat1 (V2 m ρ) c).arrAt_eq_of_covers 4 _ (by decide +kernel) fun t hf y => ?_
  blk_simp
  rw [after1_4, (tiles m ρ c t).1]
  idx_vars y
  rw [da_pay, emb4, v27]
  simp only [blk0, blk2, blk3, seq_row]

/-- The cotangent of the product. -/
theorem final5 : (dat1 (V2 m ρ) c).arrAt 5 cfg1.N = Cert.ResGateRefIdeal.Read.val_main_v28 (F := Ideal) (G m c) (CT m c) := by
  refine (dat1 (V2 m ρ) c).arrAt_eq_of_covers 5 _ (by decide +kernel) fun t hf y => ?_
  blk_simp
  rw [after1_5, (tiles m ρ c t).2]
  idx_vars y
  rw [dy_pay, emb5, v28]
  simp only [blk0, blk2, seq_row]

/-- Block `t`'s part of the gate's gradient. -/
def gatePart (t : Fin cfg1.N) (j : S1x1x1024.Idx) : EReal := ∑ r : Fin 512, CT m c (ix2 (row t r) (j 2)) * prod m c (ix2 (row t r) (j 2))

theorem gate_part (t : Fin cfg1.N) (k : Fin 1024) :
    k1_pay8 (F := Ideal) (iblk1 (V2 m ρ) c 0 t) (iblk1 (V2 m ρ) c 1 t) (ix2 0 k) = gatePart m c t (ix3 0 0 k) := by
  rw [gate_pay]
  simp only [blk0, blk1]
  rfl

/-- Block `t`'s part of the bias's gradient. -/
def biasPart (t : Fin cfg1.N) (j : S1x1024.Idx) : EReal := ∑ r : Fin 512, (1 + G m c (ix3 (sq t) 2 (j 1))) * CT m c (ix2 (row t r) (j 1))

theorem bias_part (t : Fin cfg1.N) (k : Fin 1024) :
    ∑ r : Fin 512, k1_pay5 (F := Ideal) (iblk1 (V2 m ρ) c 0 t) (iblk1 (V2 m ρ) c 2 t) (ix2 r k) = biasPart m c t (ix2 0 k) := by
  simp only [dy_pay5, blk0, blk2]
  rfl

theorem bias_step (t : Fin cfg1.N) (j : S1x1024.Idx) (b : Vec Ideal S1x1024 .f32) :
    k1_pay4 (F := Ideal) (k1_pay5 (iblk1 (V2 m ρ) c 0 t) (iblk1 (V2 m ρ) c 2 t)) b j = b j + biasPart m c t j := by
  idx_vars j
  obtain rfl : j0 = 0 := Subsingleton.elim _ _
  exact (bias_add _ _ j1).trans (congrArg (b (ix2 0 j1) + ·) (bias_part m ρ c t j1))

theorem sum_bias (k : Fin 1024) : (∑ t : Fin cfg1.N, biasPart m c t (ix2 0 k)) = ∑ r : Fin 4096, (1 + G m c (ix3 (seqOf r) 2 k)) * CT m c (ix2 r k) := by
  rw [← Sums.blocks (T := cfg1.N) (n := 512) (by rw [show cfg1.N = 8 from N_1]) _ row (fun _ _ => rfl)]
  refine Finset.sum_congr rfl fun t _ => ?_
  simp only [biasPart, seq_row]
  rfl

/-- The gradient of the bias. -/
theorem final7 : (dat1 (V2 m ρ) c).arrAt 7 cfg1.N = Cert.ResGateRefIdeal.Read.val_main_v30 (F := Ideal) (G m c) (CT m c) := by
  refine (dat1 (V2 m ρ) c).arrAt_eq_of_after_last 7 t1_7 (by decide +kernel) _ fun j => ?_
  blk_simp
  rw [after1_7, Pipeline.eq_sum_fin_of_reset_step_apply_last (fun n h => (outsAt1 (V2 m ρ) c n h).2.2.2) 8 (fun _ => 0) (biasPart m c)
    (fun t h j => by
      rw [outsAt1_A (V2 m ρ) c t (by omega) h]; frame_out
      rw [bias_step]
      congr 1
      idx_vars j
      pointwise [k1_pay3])
    (fun t h j => by
      by_cases h0 : t.val % 4 = 0
      · rw [outsAt1_C (V2 m ρ) c t h0 h]; frame_out; exact bias_step m ρ c t j _
      · rw [outsAt1_B (V2 m ρ) c t h0 h]; frame_out; exact bias_step m ρ c t j _) (le_of_eq N_1) t1_7 rfl j]
  rw [zero_add]
  idx_vars j
  obtain rfl : j0 = 0 := Subsingleton.elim _ _
  exact (sum_bias m c j1).trans (v30 (CT m c) (G m c) j1).symm

theorem gate_step (t : Fin cfg1.N) (k : Fin 1024) (b : Vec Ideal S1x1024 .f32) :
    k1_pay2 (F := Ideal) (k1_pay8 (iblk1 (V2 m ρ) c 0 t) (iblk1 (V2 m ρ) c 1 t)) b (ix2 0 k) = b (ix2 0 k) + gatePart m c t (ix3 0 0 k) :=
  (gate_add _ _ k).trans (congrArg (b (ix2 0 k) + ·) (gate_part m ρ c t k))

/-- The newest store of a list, read where it was made. -/
theorem canon_at {s : Shape} {e : EltTy} (r : Rect s) (w : r.shape.Idx → Elt Ideal e) (L : List (View.Piece (Elt Ideal) s e)) (x : r.shape.Idx) (y : s.Idx)
    (h : r.emb x = y) : View.canon (⟨r, w⟩ :: L) y = w x := by
  subst h; exact View.canon_cons_emb r w L x

theorem gate_zero (x : S1x1x1024.Idx) : k1_pay1 (F := Ideal) x = 0 := by
  idx_vars x
  pointwise [k1_pay1]

/-- A store of `b` plus the block's part through the slice without its first axis leaves, at every entry, the old entry plus the part. -/
theorem gate_store (t : Fin cfg1.N) (L : List (View.Piece (Elt Ideal) S1x1x1024 .f32)) (b : Vec Ideal S1x1024 .f32) (j : S1x1x1024.Idx) (x : EReal)
    (hb : b (ix2 0 (j 2)) = x) :
    View.canon (⟨(Rect.unit (s := S1x1x1024) ![0, 0, 0] S1x1x1024.size inb_S1x1x1024_S1x1x1024_0_0_0).within
      ((Rect.unit (s := S1x1024) ![0, 0] S1x1024.size inb_S1x1024_S1x1024_0_0).consLift S1x1x1024.size rfl (fun _ => rfl)) (fun _ => rfl),
      Rect.payAlong (Rect.numel_consLift (Rect.unit (s := S1x1024) ![0, 0] S1x1024.size inb_S1x1024_S1x1024_0_0) S1x1x1024.size rfl (fun _ => rfl)) (k1_pay2 (F := Ideal) (k1_pay8 (iblk1 (V2 m ρ) c 0 t) (iblk1 (V2 m ρ) c 1 t)) b)⟩ :: L) j
      = x + gatePart m c t j := by
  subst hb
  idx_vars j
  obtain rfl : j0 = 0 := Subsingleton.elim _ _
  obtain rfl : j1 = 0 := Subsingleton.elim _ _
  refine (canon_at _ _ L (ix3 0 0 j2 : S1x1x1024.Idx) _ (Rect.emb_eq_of_coords _ _ _ fun a => ?_)).trans ?_
  · fin_cases a
    · rfl
    · rfl
    · show j2.val = 0 + 0 + 1 * j2.val
      omega
  · exact (Rect.payAlong_consLift (Rect.unit (s := S1x1024) ![0, 0] S1x1024.size inb_S1x1024_S1x1024_0_0) S1x1x1024.size rfl (fun _ => rfl) _ _
      (ix3 0 0 j2 : S1x1x1024.Idx) (ix2 0 j2 : S1x1024.Idx) (fun a => by fin_cases a <;> rfl)).trans (gate_step m ρ c t j2 b)

theorem gate_first (t : Fin cfg1.N) (h0 : t.val % 4 = 0) (j : S1x1x1024.Idx) : (outsAt1 (V2 m ρ) c t.val t.isLt).2.2.1 j = 0 + gatePart m c t j := by
  by_cases h1 : t.val % 8 = 0
  · rw [outsAt1_A (V2 m ρ) c t h0 h1]; frame_out
    refine gate_store m ρ c t _ _ j _ ?_
    rw [View.readCov_eq_canon', View.canon_cons_unit_lit' _ _ _ (by decide)]
    exact gate_zero _
  · rw [outsAt1_C (V2 m ρ) c t h0 h1]; frame_out
    refine gate_store m ρ c t _ _ j _ ?_
    rw [View.readCov_eq_canon', View.canon_cons_unit_lit' _ _ _ (by decide)]
    exact gate_zero _
theorem gate_next (t : Fin cfg1.N) (h0 : ¬ t.val % 4 = 0) (j : S1x1x1024.Idx) : (outsAt1 (V2 m ρ) c t.val t.isLt).2.2.1 j
    = (outsAt1 (V2 m ρ) c (t.val - 1) (Nat.lt_of_le_of_lt (Nat.sub_le _ _) t.isLt)).2.2.1 j + gatePart m c t j := by
  rw [outsAt1_B (V2 m ρ) c t h0 (by omega)]; frame_out
  refine gate_store m ρ c t _ _ j _ ?_
  refine (View.readAt_apply _ _ _).trans ?_
  rw [Memref.IsWhole.read_unread]
  refine congrArg (outsAt1 (V2 m ρ) c (t.val - 1) _).2.2.1 (funext fun a => Fin.ext ?_)
  refine (congrArg (fun z => ((LoadRect.idx _ z) a).val) (Shape.reshapeEquiv_cons_one (d := ![1, 1024]) _ (ix2 0 (j 2) : S1x1024.Idx))).trans ?_
  fin_cases a
  · have : (j 0).val < 1 := (j 0).isLt; show 0 = (j 0).val; omega
  · have : (j 1).val < 1 := (j 1).isLt; show 0 = (j 1).val; omega
  · show 0 + 0 + 1 * (j 2).val = (j 2).val; omega

/-- The four blocks of a sequence together are its rows. -/
theorem sum_gate (b : Fin 2) (k : Fin 1024) (h : ∀ s : Fin 4, 4 * b.val + s.val < cfg1.N) :
    (∑ s : Fin 4, gatePart m c ⟨4 * b.val + s.val, h s⟩ (ix3 0 0 k)) = ∑ x : Fin 2048, CT m c (ix2 (rowOf b x) k) * prod m c (ix2 (rowOf b x) k) :=
  Sums.blocks (T := 4) (n := 512) rfl (fun x : Fin 2048 => CT m c (ix2 (rowOf b x) k) * prod m c (ix2 (rowOf b x) k))
    (fun s r => ⟨512 * s.val + r.val, by omega⟩) (fun _ _ => rfl) |> fun h' => by
      rw [← h']
      refine Finset.sum_congr rfl fun s _ => Finset.sum_congr rfl fun r _ => ?_
      have e : row ⟨4 * b.val + s.val, h s⟩ r = rowOf b ⟨512 * s.val + r.val, by omega⟩ := by
        apply Fin.ext; simp only [row, rowOf]; omega
      show CT m c (ix2 (row _ r) k) * prod m c (ix2 (row _ r) k) = _
      rw [e]

/-- The gate's gradient. -/
theorem final6 : (dat1 (V2 m ρ) c).arrAt 6 cfg1.N = Cert.ResGateRefIdeal.Read.val_main_v29 (F := Ideal) (A m c) (M m c) (B m c) (CT m c) := by
  refine (dat1 (V2 m ρ) c).arrAt_eq_of_covers 6 _ (by decide +kernel) fun t hf y => ?_
  blk_simp
  rw [after1_6, Pipeline.eq_sum_fin_of_reset_step_apply_of_flush (fun n h => (outsAt1 (V2 m ρ) c n h).2.2.1) 4 (fun _ => 0) (gatePart m c)
    (gate_first m ρ c) (gate_next m ρ c) t ((flush1_6 t).mp hf) y]
  rw [zero_add]
  idx_vars y
  obtain rfl : y0 = 0 := Subsingleton.elim _ _
  obtain rfl : y1 = 0 := Subsingleton.elim _ _
  rw [emb6]
  exact (sum_gate m c (sq t) y2 _).trans (v29 (A m c) (CT m c) (M m c) (B m c) (sq t) y2).symm

end Cert.ResGateIdeal.Val

end

end
-- ==== Proof.ResGateClaim.lean ====
module

public import proofs.«01_k».proof.Defs
public import proofs.«01_k».proof.Proof.Gen.ResGate.Frame
public import proofs.«01_k».proof.Proof.ResGateRun
public import proofs.«01_k».proof.Proof.ResGateValue

/-! The claims about the product's gradient under its gate. -/

@[expose] public section

noncomputable section

open Idealize.ShloMosaic Idealize.ShloMosaic.TcCoe Idealize.SL.Sem

namespace Cert.ResGateIdeal.Val
open Cert.ResGateIdeal Cert.ResGateIdeal.Gen

theorem frame_kernel : Cert.quiescent_ResGate := fun m ρ _ => Cert.ResGate.Gen.frame m ρ
theorem frame_ideal : Cert.quiescent_ResGateIdeal := fun m ρ _ => Cert.ResGateIdeal.Gen.frame m ρ

/-- The reference is a straight line of host operations and declares no semaphore. -/
theorem frame_reference : Cert.quiescent_ResGateRefIdeal := fun m ρ _ =>
  (θ_run Cert.ResGateRefIdeal.defs _ _).mono (fun r h => ⟨fun c => (h c).2.2.2.2, sem_eq_zero_of_no_sems (by decide) r.2⟩) (Cert.ResGateRefIdeal.Value.run m ρ)

/-- The two programs end with equal results. -/
theorem equal : Cert.algebraic_ResGateIdeal_ResGateRefIdeal := fun m ρ m' ρ' _ hag =>
  ⟨fun c => Cert.ResGateRefIdeal.Read.val_main_v27 (F := Ideal) (G m c) (M m c) (CT m c),
    fun c => Cert.ResGateRefIdeal.Read.val_main_v28 (F := Ideal) (G m c) (CT m c),
    fun c => Cert.ResGateRefIdeal.Read.val_main_v29 (F := Ideal) (A m c) (M m c) (B m c) (CT m c),
    fun c => Cert.ResGateRefIdeal.Read.val_main_v30 (F := Ideal) (G m c) (CT m c),
    (θ_run _ _ _).mono (fun _ h c => ⟨(h.1 c).1.1.trans (final4 m ρ c), (h.1 c).1.2.1.trans (final5 m ρ c), (h.1 c).1.2.2.1.trans (final6 m ρ c),
      (h.1 c).1.2.2.2.trans (final7 m ρ c), (h.1 c).2⟩) (run m ρ),
    (θ_run _ _ _).mono (fun _ h c => ⟨(h c).1.trans ((Cert.ResGateRefIdeal.Read.val_main_v27_eq _ _ _).trans (by rw [(hag c).2.2.1, (hag c).2.2.2.1, (hag c).2.2.2.2.2])),
      (h c).2.1.trans ((Cert.ResGateRefIdeal.Read.val_main_v28_eq _ _).trans (by rw [(hag c).2.2.1, (hag c).2.2.2.2.2])),
      (h c).2.2.1.trans ((Cert.ResGateRefIdeal.Read.val_main_v29_eq _ _ _ _).trans (by rw [(hag c).2.1, (hag c).2.2.2.1, (hag c).2.2.2.2.1, (hag c).2.2.2.2.2])),
      (h c).2.2.2.1.trans ((Cert.ResGateRefIdeal.Read.val_main_v30_eq _ _).trans (by rw [(hag c).2.2.1, (hag c).2.2.2.2.2])), (h c).2.2.2.2⟩)
      (Cert.ResGateRefIdeal.Value.run m' ρ')⟩

end Cert.ResGateIdeal.Val

end

end
-- ==== Proof.ResFwdValue.lean ====
module

public import proofs.«01_k».proof.Proof.Gen.ResFwdIdeal.Value
public import proofs.«01_k».proof.Proof.Gen.ResFwdRefIdeal.Read
public import Idealize.ShloMosaic.Lib.Pipeline.ValueKit
public import Idealize.ShloMosaic.Lib.Pipeline.ReadBack

/-! The forward call of the residual: the product and the gated sum are the reference's. -/

@[expose] public section

set_option maxRecDepth 16384

noncomputable section

open Idealize.ShloMosaic Idealize.ShloMosaic.TcCoe Idealize.SL.Sem
open Idealize.ShloMosaic.Pipeline (Dat)

namespace Cert.ResFwdIdeal.Val
open Cert.ResFwdIdeal Cert.ResFwdIdeal.Gen

section Kernel

variable (a : Vec Ideal S512x1024 .bf16) (w : Vec Ideal S1024x1024 .bf16) (b : Vec Ideal S1x1024 .f32) (x : Vec Ideal S512x1024 .f32)
  (g : Vec Ideal S1x3x1024 .f32) (r : Fin 512) (k : Fin 1024)

theorem pay1 : k0_pay1 (F := Ideal) a w b (ix2 r k) = (∑ y : Fin 1024, a (ix2 r y) * w (ix2 y k)) + b (ix2 0 k) := by
  pointwise [k0_pay1]
theorem pay2 : k0_pay2 (F := Ideal) a w b (ix2 r k) = (∑ y : Fin 1024, a (ix2 r y) * w (ix2 y k)) + b (ix2 0 k) := by
  pointwise [k0_pay2, pay1]
theorem pay3 : k0_pay3 (F := Ideal) a w b x g (ix2 r k)
    = x (ix2 r k) + (1 + g (ix3 0 2 k)) * ((∑ y : Fin 1024, a (ix2 r y) * w (ix2 y k)) + b (ix2 0 k)) := by
  pointwise [k0_pay3, pay1]

end Kernel

/-- The types of this program's arguments. -/
abbrev Mat := (⟨S4096x1024, .f32⟩ : BufTy).Contents (Elt Ideal)
abbrev Sq := (⟨S1024x1024, .f32⟩ : BufTy).Contents (Elt Ideal)
abbrev Mods := (⟨S2x3x1024, .f32⟩ : BufTy).Contents (Elt Ideal)
abbrev Row := (⟨S1024, .f32⟩ : BufTy).Contents (Elt Ideal)

/-- The sequence a row belongs to. -/
abbrev seqOf (r : Fin 4096) : Fin 2 := ⟨r.val / 2048, by omega⟩

section Reference
open Cert.ResFwdRefIdeal.Read

variable (x0 x1 : Mat) (x2 : Mods) (x3 : Sq) (x4 : Row) (r : Fin 4096) (b : Fin 2) (k : Fin 1024)

theorem v3 : val_main_v3 (F := Ideal) x1 x3 x4 (ix2 r k) = (∑ x : Fin 1024, x1 (ix2 r x) * x3 (ix2 x k)) + x4 (ix1 k) := by
  pointwise [val_main_v3, val_main_v2, val_main_v1, val_main_v0]
theorem v14 : val_main_v14 (F := Ideal) x1 x3 x4 (ix2 r k) = (∑ x : Fin 1024, x1 (ix2 r x) * x3 (ix2 x k)) + x4 (ix1 k) := by
  pointwise [val_main_v14, v3]
theorem v8 : val_main_v8 (F := Ideal) x2 (ix3 b 0 k) = 1 + x2 (ix3 b 2 k) := by
  pointwise [val_main_v8, val_main_v7, val_main_v6, val_main_v5, val_main_v4, val_main_cst, val_main_cst_0]
theorem v13 : val_main_v13 (F := Ideal) x0 x1 x2 x3 x4 (ix2 r k)
    = x0 (ix2 r k) + (1 + x2 (ix3 (seqOf r) 2 k)) * ((∑ x : Fin 1024, x1 (ix2 r x) * x3 (ix2 x k)) + x4 (ix1 k)) := by
  pointwise [val_main_v13, val_main_v12, val_main_v11, val_main_v10, val_main_v9, v8, v3]

end Reference

variable (m : (ℓ : Loc nD τ sig) → Buf (Elt Ideal) ℓ) (ρ : Dev nD → PrngReg) (c : Dev nD)

theorem idx : ∀ t : Fin cfg0.N, win0_0.index t = ![t.val, 0] ∧ win0_1.index t = ![t.val, 0] ∧ win0_2.index t = ![t.val / 4, 0, 0] ∧ win0_3.index t = ![0, 0]
    ∧ win0_4.index t = ![0, 0] ∧ win0_5.index t = ![t.val, 0] ∧ win0_6.index t = ![t.val, 0] :=
  (by decide +kernel : ∀ t : Fin grid0.N, _)

/-- The arguments on the device. -/
abbrev X : Mat := m ((c.tc : Thread nD τ).loc main_arg0)
abbrev A : Mat := m ((c.tc : Thread nD τ).loc main_arg1)
abbrev G : Mods := m ((c.tc : Thread nD τ).loc main_arg2)
abbrev M : Sq := m ((c.tc : Thread nD τ).loc main_arg3)
abbrev B : Row := m ((c.tc : Thread nD τ).loc main_arg4)

theorem lt (t : Fin cfg0.N) : t.val < 8 := lt_of_lt_of_eq t.isLt N_0

/-- The row of the whole array that row `r` of block `t` is. -/
abbrev row (t : Fin cfg0.N) (r : Fin 512) : Fin 4096 := ⟨512 * t.val + r.val, by have := lt t; have := r.isLt; omega⟩
/-- The sequence block `t` belongs to. -/
abbrev sq (t : Fin cfg0.N) : Fin 2 := ⟨t.val / 4, by have := lt t; omega⟩
theorem seq_row (t : Fin cfg0.N) (r : Fin 512) : seqOf (row t r) = sq t := by
  apply Fin.ext; have := r.isLt; simp only [seqOf, row, sq]; omega

theorem blk0 (t : Fin cfg0.N) (r : Fin 512) (x : Fin 1024) : iblk m c 0 t (ix2 r x) = X m c (ix2 (row t r) x) := by
  blk_point [iblk, V, idx t]
theorem blk1 (t : Fin cfg0.N) (r : Fin 512) (x : Fin 1024) : iblk m c 1 t (ix2 r x) = A m c (ix2 (row t r) x) := by
  blk_point [iblk, V, idx t]
theorem blk2 (t : Fin cfg0.N) (x : Fin 1024) : iblk m c 2 t (ix3 0 2 x) = G m c (ix3 (sq t) 2 x) := by
  blk_point [iblk, V, idx t]
theorem blk3 (t : Fin cfg0.N) (y x : Fin 1024) : iblk m c 3 t (ix2 y x) = M m c (ix2 y x) := by
  blk_point [iblk, V, idx t]
theorem blk4 (t : Fin cfg0.N) (x : Fin 1024) : iblk m c 4 t (ix2 0 x) = B m c (ix1 x) := by
  blk_point [iblk, V, idx t]
theorem emb5 (t : Fin cfg0.N) (r : Fin 512) (x : Fin 1024) : ((View.whole main_v3_0).slice (win0_5.rect t)).emb (ix2 r x) = ix2 (row t r) x := by
  blk_ext [idx t]
theorem emb6 (t : Fin cfg0.N) (r : Fin 512) (x : Fin 1024) : ((View.whole main_v3_1).slice (win0_6.rect t)).emb (ix2 r x) = ix2 (row t r) x := by
  blk_ext [idx t]

/-- The residual. -/
theorem final5 : (dats m 0 c).arrAt 5 cfg0.N = Cert.ResFwdRefIdeal.Read.val_main_v13 (F := Ideal) (X m c) (A m c) (G m c) (M m c) (B m c) := by
  refine (dats m 0 c).arrAt_eq_of_covers 5 _ (by decide +kernel) fun t hf y => ?_
  blk_simp
  rw [after0_5]
  frame_out
  idx_vars y
  rw [pay3, emb5, v13]
  simp only [blk0, blk1, blk2, blk3, blk4, seq_row]

/-- The product. -/
theorem final6 : (dats m 0 c).arrAt 6 cfg0.N = Cert.ResFwdRefIdeal.Read.val_main_v14 (F := Ideal) (A m c) (M m c) (B m c) := by
  refine (dats m 0 c).arrAt_eq_of_covers 6 _ (by decide +kernel) fun t hf y => ?_
  blk_simp
  rw [after0_6]
  frame_out
  idx_vars y
  rw [pay2, emb6, v14]
  simp only [blk1, blk3, blk4]

end Cert.ResFwdIdeal.Val

end

end
-- ==== Proof.ResFwdClaim.lean ====
module

public import proofs.«01_k».proof.Defs
public import proofs.«01_k».proof.Proof.Gen.ResFwd.Frame
public import proofs.«01_k».proof.Proof.Gen.ResFwdIdeal.Value
public import proofs.«01_k».proof.Proof.Gen.ResFwdRefIdeal.Run
public import proofs.«01_k».proof.Proof.ResFwdValue

/-! The claims about the forward call of the residual. -/

@[expose] public section

noncomputable section

open Idealize.ShloMosaic Idealize.ShloMosaic.TcCoe Idealize.SL.Sem

namespace Cert.ResFwdIdeal.Val
open Cert.ResFwdIdeal Cert.ResFwdIdeal.Gen

theorem frame_kernel : Cert.quiescent_ResFwd := fun m ρ _ => Cert.ResFwd.Gen.frame m ρ
theorem frame_ideal : Cert.quiescent_ResFwdIdeal := fun m ρ _ => Cert.ResFwdIdeal.Gen.frame m ρ

/-- The reference is a straight line of host operations and declares no semaphore. -/
theorem frame_reference : Cert.quiescent_ResFwdRefIdeal := fun m ρ _ =>
  (θ_run Cert.ResFwdRefIdeal.defs _ _).mono (fun r h => ⟨fun c => (h c).2.2, sem_eq_zero_of_no_sems (by decide) r.2⟩) (Cert.ResFwdRefIdeal.Value.run m ρ)

/-- The two programs end with equal results. -/
theorem equal : Cert.algebraic_ResFwdIdeal_ResFwdRefIdeal := fun m ρ m' ρ' _ hag =>
  ⟨fun c => Cert.ResFwdRefIdeal.Read.val_main_v13 (F := Ideal) (X m c) (A m c) (G m c) (M m c) (B m c),
    fun c => Cert.ResFwdRefIdeal.Read.val_main_v14 (F := Ideal) (A m c) (M m c) (B m c),
    (θ_run _ _ _).mono (fun _ h c => ⟨(h c).1.trans (final5 m c), (h c).2.1.trans (final6 m c), (h c).2.2⟩) (Cert.ResFwdIdeal.Value.run_blocks m ρ),
    (θ_run _ _ _).mono (fun _ h c => ⟨(h c).1.trans ((Cert.ResFwdRefIdeal.Read.val_main_v13_eq _ _ _ _ _).trans (by
        rw [(hag c).1, (hag c).2.1, (hag c).2.2.1, (hag c).2.2.2.1, (hag c).2.2.2.2])),
      (h c).2.1.trans ((Cert.ResFwdRefIdeal.Read.val_main_v14_eq _ _ _).trans (by rw [(hag c).2.1, (hag c).2.2.2.1, (hag c).2.2.2.2])), (h c).2.2⟩)
      (Cert.ResFwdRefIdeal.Value.run m' ρ')⟩

end Cert.ResFwdIdeal.Val

end

end
-- ==== Proof.RmsRow.lean ====
module

public import proofs.«01_k».proof.Proof.Consts

/-! One row of a root-mean-square norm and of its gradient, over the extended reals. `x` is the row and `w` the cotangent of the
    normalized row. The two ways to write the gradient agree for every row, infinite entries included. -/

@[expose] public section

noncomputable section

open Idealize.ShloMosaic

namespace Cert.RmsRow

/-- The length of a row. -/
abbrev len : EReal := Ideal.ofBits FTy.f32 1149239296#32

variable (x w : Fin 1024 → EReal)

/-- The mean square with the constant under the root. -/
def ms : EReal := Ideal.div (∑ k, x k * x k) len + Ideal.ofBits FTy.f32 897988541#32
/-- The reciprocal of the root mean square. -/
def rms : EReal := Ideal.rsqrt (ms x)
/-- The derivative of the reciprocal root. -/
def drms : EReal := Ideal.ofBits FTy.f32 3204448256#32 * Ideal.div (rms x) (ms x)
/-- The normalized row. -/
def hat (k : Fin 1024) : EReal := x k * rms x
/-- The cotangent of the mean square, by the chain rule. -/
def dms : EReal := Ideal.div ((∑ k, x k * w k) * drms x) len
/-- The cotangent of the row, by the chain rule. -/
def dx (k : Fin 1024) : EReal := w k * rms x + x k * dms x w + dms x w * x k
/-- The cotangent of the row, with the normalized row taken out. -/
def dxHat (k : Fin 1024) : EReal := rms x * (w k - hat x k * Ideal.div (∑ j, w j * hat x j) len)

/-- The mean square is infinite, or positive and finite. -/
theorem ms_cases : ms x = ⊤ ∨ ∃ v : ℝ, 0 < v ∧ ms x = (v : EReal) := by
  have h0 : 0 ≤ ∑ k, x k * x k := Finset.sum_nonneg fun k _ => by
    rcases le_total 0 (x k) with h | h
    · exact mul_nonneg h h
    · have := mul_nonneg (EReal.neg_nonneg.2 h) (EReal.neg_nonneg.2 h)
      rwa [neg_mul_neg] at this
  unfold ms len
  rw [Consts.f_1024, Consts.f_eps, Ideal.div_coe (by norm_num)]
  generalize (∑ k, x k * x k) = s at h0
  induction s with
  | bot => exact absurd h0 (by simp)
  | top => left; rw [EReal.top_mul_coe_of_pos (by norm_num)]; rfl
  | coe s =>
    right
    have hs : 0 ≤ s := by exact_mod_cast h0
    exact ⟨s * (1 / 1024) + 8796093 / 8796093022208, by positivity, by push_cast; rfl⟩

/-- The two ways to write the gradient agree. -/
theorem dx_eq (k : Fin 1024) : dxHat x w k = dx x w k := by
  rcases ms_cases x with h | ⟨v, hv, h⟩
  · have hr : rms x = 0 := by rw [rms, h]; rfl
    have hd : drms x = 0 := by
      rw [drms, hr, h, Ideal.div, if_neg (by simp), zero_mul, mul_zero]
    have hm : dms x w = 0 := by
      rw [dms, hd, mul_zero, len, Consts.f_1024, Ideal.div_coe (by norm_num), zero_mul]
    rw [dxHat, dx, hr, hm]
    simp
  · obtain ⟨r, hr0, hrv, hr⟩ : ∃ r : ℝ, 0 < r ∧ r * r * v = 1 ∧ rms x = (r : EReal) := by
      refine ⟨(Real.sqrt v)⁻¹, by positivity, ?_, ?_⟩
      · have := Real.mul_self_sqrt hv.le
        have h' : Real.sqrt v ≠ 0 := by positivity
        field_simp
        nlinarith
      · rw [rms, h, Ideal.rsqrt_coe, if_neg hv.not_gt, if_neg hv.ne']
    have hsum : (∑ j, w j * hat x j) = (r : EReal) * ∑ j, x j * w j := by
      rw [Consts.mul_sum _ hr0.le]
      exact Finset.sum_congr rfl fun j _ => by rw [hat, hr]; ac_rfl
    have hd : drms x = ((-(r * r * r) / 2 : ℝ) : EReal) := by
      rw [drms, hr, h, Ideal.div_coe hv.ne', Consts.f_neg_half, ← EReal.coe_mul, ← EReal.coe_mul]
      congr 1
      have : 1 / v = r * r := by field_simp; linarith
      rw [this]; ring
    rw [dxHat, dx, dms, hsum, hd, hat, hr, len, Consts.f_1024, Ideal.div_coe (by norm_num), Ideal.div_coe (by norm_num)]
    generalize (∑ j, x j * w j) = S
    have e1 : x k * (S * ((-(r * r * r) / 2 : ℝ) : EReal) * ((1 / 1024 : ℝ) : EReal)) = -(x k * S * ((r * r * r / 2048 : ℝ) : EReal)) := by
      have hn : -(x k * S * ((r * r * r / 2048 : ℝ) : EReal)) = x k * S * ((-(r * r * r / 2048) : ℝ) : EReal) := by rw [EReal.coe_neg, mul_neg]
      rw [hn, mul_assoc S, ← EReal.coe_mul, ← mul_assoc]
      congr 2; ring
    have e2 : (S * ((-(r * r * r) / 2 : ℝ) : EReal) * ((1 / 1024 : ℝ) : EReal)) * x k = -(x k * S * ((r * r * r / 2048 : ℝ) : EReal)) := by
      rw [mul_comm, e1]
    rw [e1, e2, sub_eq_add_neg, EReal.left_distrib_of_nonneg_of_ne_top (EReal.coe_nonneg.2 hr0.le) (EReal.coe_ne_top r), add_assoc]
    rw [← Consts.two_mul, mul_neg, mul_neg]
    congr 1
    · exact mul_comm _ _
    · congr 1
      have e3 : (r : EReal) * (x k * (r : EReal) * ((r : EReal) * S * ((1 / 1024 : ℝ) : EReal)))
          = x k * S * ((r : EReal) * (r : EReal) * (r : EReal) * ((1 / 1024 : ℝ) : EReal)) := by ac_rfl
      have e4 : ((2 : ℝ) : EReal) * (x k * S * ((r * r * r / 2048 : ℝ) : EReal)) = x k * S * (((2 : ℝ) : EReal) * ((r * r * r / 2048 : ℝ) : EReal)) := by ac_rfl
      rw [e3, e4]
      simp only [← EReal.coe_mul]
      congr 2; ring

end Cert.RmsRow

end

end
-- ==== Proof.SumRows.lean ====
module

public import Idealize.ShloMosaic.Lib.Pipeline.ValueKit

/-! A host sum over the first two of three axes, as a double sum. -/

@[expose] public section

noncomputable section

open Idealize.ShloMosaic

namespace Cert.Sums

variable {a b c : ℕ}

/-- The indices that drop to `k` are those whose last coordinate is `k`. -/
theorem drop_rows (h : (⟨3, ![a, b, c]⟩ : Shape).ReducesTo [0, 1] ⟨1, ![c]⟩) (k : Fin c) (i : (⟨3, ![a, b, c]⟩ : Shape).Idx) :
    h.drop i = (ix1 k : (⟨1, ![c]⟩ : Shape).Idx) ↔ ∃ p : Fin a × Fin b, (ix3 p.1 p.2 k : (⟨3, ![a, b, c]⟩ : Shape).Idx) = i := by
  constructor
  · intro e
    refine ⟨(i 0, i 1), ?_⟩
    funext x; apply Fin.ext
    match x with
    | ⟨0, _⟩ => rfl
    | ⟨1, _⟩ => rfl
    | ⟨2, _⟩ => exact (congrArg Fin.val (congrFun e ⟨0, Nat.zero_lt_one⟩)).symm
  · rintro ⟨p, rfl⟩
    funext x
    apply Fin.ext
    match x with
    | ⟨0, _⟩ => rfl

/-- The host's sum over the rows of every sequence. -/
theorem reduce_rows (h : (⟨3, ![a, b, c]⟩ : Shape).ReducesTo [0, 1] ⟨1, ![c]⟩) (v : (⟨3, ![a, b, c]⟩ : Shape).Idx → EReal) (init : EReal) (k : Fin c) :
    Ideal.hostReduceAdd h v init (ix1 k) = init + ∑ i : Fin a, ∑ j : Fin b, v (ix3 i j k) := by
  refine congrArg (init + ·) ((Finset.sum_filter_eq_sum_of_fiber _ (fun p : Fin a × Fin b => (ix3 p.1 p.2 k : (⟨3, ![a, b, c]⟩ : Shape).Idx))
    (fun _ _ e => Prod.ext (congrFun e 0) (congrFun e 1)) (drop_rows h k) v).trans ?_)
  simp only [Fintype.sum_prod_type]

end Cert.Sums

end

end
-- ==== Proof.ModGluKernel.lean ====
module

public import proofs.«01_k».proof.Proof.Gen.ModGluIdeal.Frame
public import proofs.«01_k».proof.Proof.Gen.ModGluRefIdeal.Read
public import proofs.«01_k».proof.Proof.RmsRow
public import proofs.«01_k».proof.Proof.SumRows
public import Idealize.ShloMosaic.Lib.Pipeline.ValueKit

/-! The gradient of the modulated norm before the gated product, entry by entry: the kernel's payloads and the reference's stages. -/

@[expose] public section

set_option maxRecDepth 16384

noncomputable section

open Idealize.ShloMosaic Idealize.ShloMosaic.TcCoe Idealize.SL.Sem
open Cert.RmsRow

namespace Cert.ModGluIdeal.Val
open Cert.ModGluIdeal Cert.ModGluIdeal.Gen

section Kernel

variable (D : Vec Ideal S512x2048 .bf16) (W : Vec Ideal S8x1024x256 .bf16) (p0 p1 p2 p3 p4 p5 p6 p7 : Vec Ideal S1x1024x256 .bf16)
  (x dx h : FVec Ideal S512x1024 .f32) (s : Vec Ideal S1x3x1024 .f32) (g b q : Vec Ideal S1x1024 .f32) (v31 : FVec Ideal S512x1024 .f32)
  (r : Fin 512) (k : Fin 1024)

/-- One of the eight parts of a row times the product's matrix. -/
def shard (j : Fin 8) (p : Vec Ideal S1x1024x256 .bf16) : EReal := ∑ x : Fin 256, D (ix2 r ⟨256 * j.val + x.val, by omega⟩) * p (ix3 0 k x)

theorem pay1 : k0_pay1 (F := Ideal) D p0 p1 p2 p3 p4 p5 (ix2 r k)
    = shard D r k 0 p0 + shard D r k 1 p1 + shard D r k 2 p2 + shard D r k 3 p3 + shard D r k 4 p4 + shard D r k 5 p5 := by
  pointwise [k0_pay1, shard]
theorem pay2 : k0_pay2 (F := Ideal) D v31 p6 p7 (ix2 r k) = v31 (ix2 r k) + shard D r k 6 p6 + shard D r k 7 p7 := by
  pointwise [k0_pay2, shard]
theorem pay4 (q : Fin 1) : k0_pay4 (F := Ideal) x (ix2 r q) = rms (fun y => x (ix2 r y)) := by
  pointwise [k0_pay4, rms, ms, len]
theorem pay5 : k0_pay5 (F := Ideal) x (ix2 r k) = hat (fun y => x (ix2 r y)) k := by
  pointwise [k0_pay5, pay4, hat]
theorem pay6 : k0_pay6 (F := Ideal) x g (ix2 r k) = hat (fun y => x (ix2 r y)) k * g (ix2 0 k) := by
  pointwise [k0_pay6, k0_pay3, pay5]
theorem pay7 : k0_pay7 (F := Ideal) D v31 p6 p7 s (ix2 r k) = k0_pay2 (F := Ideal) D v31 p6 p7 (ix2 r k) * (1 + s (ix3 0 1 k)) := by
  pointwise [k0_pay7]
theorem pay8 : k0_pay8 (F := Ideal) D v31 p6 p7 s g (ix2 r k) = k0_pay2 (F := Ideal) D v31 p6 p7 (ix2 r k) * (1 + s (ix3 0 1 k)) * g (ix2 0 k) := by
  pointwise [k0_pay8, k0_pay3, pay7]

/-- The cotangent of the normalized row. -/
abbrev cot (h : Fin 1024 → EReal) (s g : Fin 1024 → EReal) (k : Fin 1024) : EReal := h k * (1 + s k) * g k

theorem pay9 (q : Fin 1) : k0_pay9 (F := Ideal) D v31 p6 p7 s x g (ix2 r q)
    = Ideal.div (∑ j, cot (fun y => k0_pay2 (F := Ideal) D v31 p6 p7 (ix2 r y)) (fun y => s (ix3 0 1 y)) (fun y => g (ix2 0 y)) j
        * hat (fun y => x (ix2 r y)) j) len := by
  pointwise [k0_pay9, pay8, pay5, len]
theorem pay12 : k0_pay12 (F := Ideal) (k0_pay4 x) (k0_pay5 x) (k0_pay8 D v31 p6 p7 s g) (k0_pay9 D v31 p6 p7 s x g) dx (ix2 r k)
    = dx (ix2 r k) + dxHat (fun y => x (ix2 r y))
        (cot (fun y => k0_pay2 (F := Ideal) D v31 p6 p7 (ix2 r y)) (fun y => s (ix3 0 1 y)) (fun y => g (ix2 0 y))) k := by
  pointwise [k0_pay12, pay4, pay5, pay8, pay9, dxHat]
theorem pay10 : k0_pay10 (F := Ideal) (k0_pay5 x) (k0_pay7 D v31 p6 p7 s) (ix2 0 k)
    = ∑ r : Fin 512, k0_pay2 (F := Ideal) D v31 p6 p7 (ix2 r k) * (1 + s (ix3 0 1 k)) * hat (fun y => x (ix2 r y)) k := by
  pointwise [k0_pay10, pay5, pay7]
theorem pay11 : k0_pay11 (F := Ideal) h (k0_pay6 x g) (ix2 0 k) = ∑ r : Fin 512, h (ix2 r k) * (hat (fun y => x (ix2 r y)) k * g (ix2 0 k)) := by
  pointwise [k0_pay11, pay6]
theorem pay15 : k0_pay15 (F := Ideal) h b (ix2 0 k) = b (ix2 0 k) + ∑ r : Fin 512, h (ix2 r k) := by
  pointwise [k0_pay15]
theorem pay16 : k0_pay16 (F := Ideal) q b (ix2 0 k) = b (ix2 0 k) + q (ix2 0 k) := by
  pointwise [k0_pay16]
theorem pay17 : k0_pay17 (F := Ideal) k0_pay13 b (ix2 0 k) = b (ix2 0 k) := by
  pointwise [k0_pay17, k0_pay13]
theorem pay19 : k0_pay19 (F := Ideal) q b (ix2 0 k) = b (ix2 0 k) + q (ix2 0 k) := by
  pointwise [k0_pay19]
theorem pay14 (j : S1x3x1024.Idx) : k0_pay14 (F := Ideal) j = 0 := by
  idx_vars j
  pointwise [k0_pay14]
theorem pay18 (j : S1x1024.Idx) : k0_pay18 (F := Ideal) j = 0 := by
  idx_vars j
  pointwise [k0_pay18]

end Kernel

section Reference
open Cert.ModGluRefIdeal Cert.ModGluRefIdeal.Read

/-- The types of this program's arguments. -/
abbrev Mat := (⟨S4096x1024, .f32⟩ : BufTy).Contents (Elt Ideal)
abbrev Mods := (⟨S2x3x1024, .f32⟩ : BufTy).Contents (Elt Ideal)
abbrev Norms := (⟨S4x3x1024, .f32⟩ : BufTy).Contents (Elt Ideal)
abbrev Wide := (⟨S1024x2048, .f32⟩ : BufTy).Contents (Elt Ideal)
abbrev Cot := (⟨S4096x2048, .bf16⟩ : BufTy).Contents (Elt Ideal)

variable (x0 x4 : Mat) (x1 : Mods) (x2 : Norms) (x3 : Wide) (x5 : Cot) (r : Fin 4096) (b : Fin 2) (t : Fin 2048) (k : Fin 1024)

/-- The sequence a row belongs to. -/
abbrev seqOf (r : Fin 4096) : Fin 2 := ⟨r.val / 2048, by omega⟩
/-- Row `t` of sequence `b`. -/
abbrev rowOf (b : Fin 2) (t : Fin 2048) : Fin 4096 := ⟨b.val * 2048 + t.val, by omega⟩

/-- The cotangent of the modulated row. -/
def dh : EReal := ∑ y : Fin 2048, x5 (ix2 r y) * x3 (ix2 k y)

theorem v1 : val_main_v1 (F := Ideal) x2 (ix1 k) = x2 (ix3 0 1 k) := by
  pointwise [val_main_v1, val_main_v0]
theorem v10 (q : Fin 1) : val_main_v10 (F := Ideal) x0 (ix3 b t q) = rms (fun y => x0 (ix2 (rowOf b t) y)) := by
  pointwise [val_main_v10, val_main_v9, val_main_v8, val_main_v7, val_main_v6, val_main_v5, val_main_v4, val_main_v3, val_main_v2, val_main_cst, val_main_cst_0, val_main_cst_1, rms, ms, len]
theorem v13 (q : Fin 1) : val_main_v13 (F := Ideal) x0 (ix3 b t q) = drms (fun y => x0 (ix2 (rowOf b t) y)) := by
  pointwise [val_main_v13, val_main_v12, val_main_v11, v10, val_main_v9, val_main_v8, val_main_v7, val_main_v6, val_main_v5, val_main_v4, val_main_v3, val_main_v2, val_main_cst, val_main_cst_0, val_main_cst_1, val_main_cst_2, drms, ms, len]
theorem v15 : val_main_v15 (F := Ideal) x0 (ix3 b t k) = hat (fun y => x0 (ix2 (rowOf b t) y)) k := by
  pointwise [val_main_v15, val_main_v14, val_main_v2, v10, hat]
theorem v18 : val_main_v18 (F := Ideal) x0 x2 (ix3 b t k) = hat (fun y => x0 (ix2 (rowOf b t) y)) k * x2 (ix3 0 1 k) := by
  pointwise [val_main_v18, val_main_v17, val_main_v16, v15, v1]
theorem v21 : val_main_v21 (F := Ideal) x1 (ix3 b 0 k) = 1 + x1 (ix3 b 1 k) := by
  pointwise [val_main_v21, val_main_v20, val_main_v19, val_main_cst_3]
theorem v31 : val_main_v31 (F := Ideal) x3 x5 (ix3 b t k) = dh x3 x5 (rowOf b t) k := by
  pointwise [val_main_v31, val_main_v30, val_main_v29, dh]
theorem v39 : val_main_v39 (F := Ideal) x1 x3 x5 (ix3 b t k) = dh x3 x5 (rowOf b t) k * (1 + x1 (ix3 b 1 k)) := by
  pointwise [val_main_v39, val_main_v38, v31, v21]
theorem v46 : val_main_v46 (F := Ideal) x1 x2 x3 x5 (ix3 b t k)
    = cot (dh x3 x5 (rowOf b t)) (fun y => x1 (ix3 b 1 y)) (fun y => x2 (ix3 0 1 y)) k := by
  pointwise [val_main_v46, val_main_v45, val_main_v16, v39, v1]
theorem v55 (q : Fin 1) : val_main_v55 (F := Ideal) x0 x1 x2 x3 x5 (ix3 b t q)
    = dms (fun y => x0 (ix2 (rowOf b t) y)) (cot (dh x3 x5 (rowOf b t)) (fun y => x1 (ix3 b 1 y)) (fun y => x2 (ix3 0 1 y))) := by
  pointwise [val_main_v55, val_main_v54, val_main_v53, val_main_v50, val_main_v49, val_main_v48, val_main_v2, v46, v13, val_main_cst_10, val_main_cst_11, dms, len]
theorem v61 : val_main_v61 (F := Ideal) x0 x1 x2 x3 x5 (ix3 b t k)
    = dx (fun y => x0 (ix2 (rowOf b t) y)) (cot (dh x3 x5 (rowOf b t)) (fun y => x1 (ix3 b 1 y)) (fun y => x2 (ix3 0 1 y))) k := by
  pointwise [val_main_v61, val_main_v60, val_main_v59, val_main_v58, val_main_v57, val_main_v56, val_main_v52, val_main_v51, val_main_v2, v46, v10, v55, val_main_cst_12, dx, Finset.univ_unique, Finset.sum_singleton]
theorem v63 : val_main_v63 (F := Ideal) x0 x1 x2 x3 x4 x5 (ix2 r k)
    = x4 (ix2 r k) + dx (fun y => x0 (ix2 r y)) (cot (dh x3 x5 r) (fun y => x1 (ix3 (seqOf r) 1 y)) (fun y => x2 (ix3 0 1 y))) k := by
  have e : rowOf (seqOf r) ⟨r.val % 2048, Nat.mod_lt _ (by decide)⟩ = r := by apply Fin.ext; simp only [rowOf, seqOf]; omega
  pointwise [val_main_v63, val_main_v62, v61]
  rw [e]
theorem v32 : val_main_v32 (F := Ideal) x3 x5 (ix2 b k) = ∑ t : Fin 2048, dh x3 x5 (rowOf b t) k := by
  pointwise [val_main_v32, v31, val_main_cst_4]
theorem v36 : val_main_v36 (F := Ideal) x0 x2 x3 x5 (ix2 b k)
    = ∑ t : Fin 2048, hat (fun y => x0 (ix2 (rowOf b t) y)) k * x2 (ix3 0 1 k) * dh x3 x5 (rowOf b t) k := by
  pointwise [val_main_v36, val_main_v35, v18, v31, val_main_cst_6]
theorem v41_0 : val_main_v41 (F := Ideal) x0 x2 x3 x5 (ix3 b 0 k) = ∑ t : Fin 2048, dh x3 x5 (rowOf b t) k := by
  pointwise [val_main_v41, val_main_v40, val_main_v34, val_main_v33, val_main_v37, v32, v36, val_main_cst_5, val_main_cst_7]
theorem v41_1 : val_main_v41 (F := Ideal) x0 x2 x3 x5 (ix3 b 1 k)
    = ∑ t : Fin 2048, hat (fun y => x0 (ix2 (rowOf b t) y)) k * x2 (ix3 0 1 k) * dh x3 x5 (rowOf b t) k := by
  pointwise [val_main_v41, val_main_v40, val_main_v34, val_main_v33, val_main_v37, v32, v36, val_main_cst_5, val_main_cst_7]
theorem v41_2 : val_main_v41 (F := Ideal) x0 x2 x3 x5 (ix3 b 2 k) = 0 := by
  pointwise [val_main_v41, val_main_v40, val_main_v34, val_main_v33, val_main_v37, v32, v36, val_main_cst_5, val_main_cst_7]
theorem v64 : val_main_v64 (F := Ideal) x0 x1 x3 x5 (ix2 0 k)
    = ∑ b : Fin 2, ∑ t : Fin 2048, hat (fun y => x0 (ix2 (rowOf b t) y)) k * (dh x3 x5 (rowOf b t) k * (1 + x1 (ix3 b 1 k))) := by
  pointwise [val_main_v64, val_main_v47, val_main_v44, val_main_v43, val_main_v42, v15, v39, val_main_cst_8, val_main_cst_9, Sums.reduce_rows, Finset.univ_unique, Finset.sum_singleton]

end Reference

end Cert.ModGluIdeal.Val

end

end
-- ==== Proof.ThreeRows.lean ====
module

public import Idealize.ShloMosaic.Lib.Pipeline.ValueKit
public import Idealize.ShloMosaic.Lib.Pipeline.ReadBack

/-! A block of three rows, stored and loaded one row at a time through the slice without its leading axis. -/

@[expose] public section

noncomputable section

open Idealize.ShloMosaic Idealize.ShloMosaic.TcCoe

namespace Cert.ThreeRows

/-- One row, three rows, and the block of three rows. -/
abbrev R1 : Shape := ⟨2, ![1, 1024]⟩
abbrev R3 : Shape := ⟨2, ![3, 1024]⟩
abbrev B3 : Shape := ⟨3, ![1, 3, 1024]⟩

variable (i : ℕ) (hi : i < 3) (inb0 : ∀ a, (![0, 0, 0] : Fin 3 → ℕ) a + B3.size a ≤ B3.size a) (inb : ∀ a, (![i, 0] : Fin 2 → ℕ) a + R1.size a ≤ R3.size a)

/-- The rectangle of row `i` of the block. -/
abbrev slot : Rect B3 :=
  (Rect.unit (s := B3) ![0, 0, 0] B3.size inb0).within ((Rect.unit (s := R3) ![i, 0] R1.size inb).consLift B3.size rfl (fun _ => rfl)) (fun _ => rfl)

/-- The store of a row. -/
abbrev put (w : R1.Idx → EReal) : View.Piece (Elt Ideal) B3 .f32 :=
  ⟨slot i inb0 inb, Rect.payAlong (Rect.numel_consLift (Rect.unit (s := R3) ![i, 0] R1.size inb) B3.size rfl (fun _ => rfl)) w⟩

/-- The box of row `i` as a load reads it. -/
abbrev box : LoadRect B3 :=
  (Rect.unit (s := B3) ![0, 0, 0] B3.size inb0).withinL ((Rect.unit (s := R3) ![i, 0] R1.size inb).consLift B3.size rfl (fun _ => rfl)).toLoadRect (fun _ => rfl)

theorem slot_emb (k : Fin 1024) : (slot i inb0 inb).emb (ix3 0 0 k : (⟨3, ![1, 1, 1024]⟩ : Shape).Idx) = (ix3 0 ⟨i, hi⟩ k : B3.Idx) := by
  refine Rect.emb_eq_of_coords _ _ _ fun a => ?_
  fin_cases a
  · rfl
  · show i = 0 + i + 1 * 0
    omega
  · show k.val = 0 + 0 + 1 * k.val
    omega

/-- A stored row reads as it was stored. -/
theorem put_same (w : R1.Idx → EReal) (L : List (View.Piece (Elt Ideal) B3 .f32)) (k : Fin 1024) :
    View.canon (put i inb0 inb w :: L) (ix3 0 ⟨i, hi⟩ k : B3.Idx) = w (ix2 0 k) := by
  rw [← slot_emb i hi inb0 inb k]
  refine (View.canon_cons_emb _ _ _ _).trans ?_
  exact Rect.payAlong_consLift (Rect.unit (s := R3) ![i, 0] R1.size inb) B3.size rfl (fun _ => rfl) _ _
      (ix3 0 0 k : (⟨3, ![1, 1, 1024]⟩ : Shape).Idx) (ix2 0 k : R1.Idx) (fun a => by fin_cases a <;> rfl)

/-- The other rows stay. -/
theorem put_other (w : R1.Idx → EReal) (L : List (View.Piece (Elt Ideal) B3 .f32)) (j : Fin 3) (h : j.val ≠ i) (k : Fin 1024) :
    View.canon (put i inb0 inb w :: L) (ix3 0 j k : B3.Idx) = View.canon L (ix3 0 j k : B3.Idx) := by
  refine View.canon_cons_of_not_mem _ _ (Rect.not_mem_set_of_axis _ _ (1 : Fin 3) i 1 ?_ rfl rfl ?_)
  · show 0 + i = i
    omega
  · show j.val < i ∨ i + 1 ≤ j.val
    omega

theorem box_idx (k : Fin 1024) (h) : (box i inb0 inb).idx (Shape.reshapeEquiv h (ix2 0 k : R1.Idx)) = (ix3 0 ⟨i, hi⟩ k : B3.Idx) := by
  funext a
  apply Fin.ext
  refine (congrArg (fun z => ((LoadRect.idx (box i inb0 inb) z) a).val) (Shape.reshapeEquiv_cons_one (d := ![1, 1024]) _ (ix2 0 k : R1.Idx))).trans ?_
  fin_cases a
  · rfl
  · show 0 + i + 1 * 0 = i
    omega
  · show 0 + 0 + 1 * k.val = k.val
    omega

/-- A load of row `i` after a list of stores. -/
theorem get_cov {sig : RefSig} {κ : Kind} {sp : Space} (v : View sig κ sp B3 .f32) (L : List (View.Piece (Elt Ideal) B3 .f32)) (h) (k : Fin 1024) :
    LoadRect.valAlong (lr := (Rect.unit (s := R3) ![i, 0] R1.size inb).toLoadRect) h (v.readCov L (box i inb0 inb)) (ix2 0 k : R1.Idx)
      = View.canon L (ix3 0 ⟨i, hi⟩ k : B3.Idx) := by
  rw [View.readCov_eq_canon']
  exact congrArg (View.canon L) (box_idx i hi inb0 inb k h)

end Cert.ThreeRows

end

end
-- ==== Proof.ModGluValue.lean ====
module

public import proofs.«01_k».proof.Proof.ModGluKernel
public import proofs.«01_k».proof.Proof.ThreeRows
public import proofs.«01_k».proof.Proof.Sums

/-! The output arrays of the modulated norm's gradient before the gated product are the reference's. -/

@[expose] public section

set_option maxRecDepth 16384

noncomputable section

open Idealize.ShloMosaic Idealize.ShloMosaic.TcCoe Idealize.SL.Sem
open Idealize.ShloMosaic.Pipeline (Dat)
open Cert.RmsRow

namespace Cert.ModGluIdeal.Val
open Cert.ModGluIdeal Cert.ModGluIdeal.Gen

variable (m : (ℓ : Loc nD τ sig) → Buf (Elt Ideal) ℓ) (ρ : Dev nD → PrngReg) (c : Dev nD)

theorem idx : ∀ t : Fin cfg0.N, win0_0.index t = ![t.val, 0] ∧ win0_1.index t = ![t.val, 0] ∧ win0_2.index t = ![t.val / 4, 0, 0] ∧ win0_3.index t = ![0, 0]
    ∧ win0_4.index t = ![t.val, 0] ∧ win0_5.index t = ![0, 0, 0] ∧ win0_6.index t = ![t.val, 0] ∧ win0_7.index t = ![t.val / 4, 0, 0] ∧ win0_8.index t = ![0, 0] :=
  (by decide +kernel : ∀ t : Fin grid0.N, _)

/-- The arguments on the device. -/
abbrev X : Mat := m ((c.tc : Thread nD τ).loc main_arg0)
abbrev S : Mods := m ((c.tc : Thread nD τ).loc main_arg1)
abbrev G : Norms := m ((c.tc : Thread nD τ).loc main_arg2)
abbrev M : Wide := m ((c.tc : Thread nD τ).loc main_arg3)
abbrev DX : Mat := m ((c.tc : Thread nD τ).loc main_arg4)
abbrev CT : Cot := m ((c.tc : Thread nD τ).loc main_arg5)

theorem lt8 (t : Fin cfg0.N) : t.val < 8 := lt_of_lt_of_eq t.isLt N_0

/-- The row of the whole array that row `r` of block `t` is. -/
abbrev row (t : Fin cfg0.N) (r : Fin 512) : Fin 4096 := ⟨512 * t.val + r.val, by have := lt8 t; have := r.isLt; omega⟩
/-- The sequence block `t` belongs to. -/
abbrev sq (t : Fin cfg0.N) : Fin 2 := ⟨t.val / 4, by have := lt8 t; omega⟩
theorem seq_row (t : Fin cfg0.N) (r : Fin 512) : seqOf (row t r) = sq t := by
  apply Fin.ext; have := r.isLt; simp only [seqOf, row, sq]; omega

theorem blk0 (t : Fin cfg0.N) (r : Fin 512) (x : Fin 1024) : iblk m c 0 t (ix2 r x) = X m c (ix2 (row t r) x) := by
  blk_point [iblk, V, idx t]
theorem blk1 (t : Fin cfg0.N) (r : Fin 512) (x : Fin 1024) : iblk m c 1 t (ix2 r x) = DX m c (ix2 (row t r) x) := by
  blk_point [iblk, V, idx t]
theorem blk2 (t : Fin cfg0.N) (i : Fin 3) (x : Fin 1024) : iblk m c 2 t (ix3 0 i x) = S m c (ix3 (sq t) i x) := by
  blk_point [iblk, V, idx t]
theorem blk3 (t : Fin cfg0.N) (x : Fin 1024) : iblk m c 3 t (ix2 0 x) = G m c (ix3 0 1 x) := by
  blk_point [iblk, V, idx t]
theorem blk4 (t : Fin cfg0.N) (r : Fin 512) (x : Fin 2048) : iblk m c 4 t (ix2 r x) = CT m c (ix2 (row t r) x) := by
  blk_point [iblk, V, idx t]
theorem blk5 (t : Fin cfg0.N) (j : Fin 8) (k : Fin 1024) (x : Fin 256) : iblk m c 5 t (ix3 j k x) = M m c (ix2 k ⟨256 * j.val + x.val, by omega⟩) := by
  blk_point [iblk, V, idx t]
theorem emb6 (t : Fin cfg0.N) (r : Fin 512) (x : Fin 1024) : ((View.whole main_v6_0).slice (win0_6.rect t)).emb (ix2 r x) = ix2 (row t r) x := by
  blk_ext [idx t]
theorem emb7 (t : Fin cfg0.N) (i : Fin 3) (x : Fin 1024) : ((View.whole main_v6_1).slice (win0_7.rect t)).emb (ix3 0 i x) = ix3 (sq t) i x := by
  blk_ext [idx t]

/-! ## The cotangent of the modulated row -/

/-- One of the eight parts the product's matrix is kept in. -/
abbrev cut (t : Fin cfg0.N) (j : ℕ) (inb : ∀ a, (![j, 0, 0] : Fin 3 → ℕ) a + S1x1024x256.size a ≤ S8x1024x256.size a) : Vec Ideal S1x1024x256 .bf16 :=
  View.ld (Val := Elt Ideal) (e' := .bf16) (S := S8x1024x256) (iblk m c 5 t) (Rect.unit ![j, 0, 0] ![1, 1024, 256] inb)
/-- The first six parts of the product. -/
abbrev six (t : Fin cfg0.N) : FVec Ideal S512x1024 .f32 :=
  k0_pay1 (F := Ideal) (iblk m c 4 t) (cut m c t 0 inb_S8x1024x256_S1x1024x256_0_0_0) (cut m c t 1 inb_S8x1024x256_S1x1024x256_1_0_0)
    (cut m c t 2 inb_S8x1024x256_S1x1024x256_2_0_0) (cut m c t 3 inb_S8x1024x256_S1x1024x256_3_0_0) (cut m c t 4 inb_S8x1024x256_S1x1024x256_4_0_0)
    (cut m c t 5 inb_S8x1024x256_S1x1024x256_5_0_0)
abbrev c6 (t : Fin cfg0.N) := cut m c t 6 inb_S8x1024x256_S1x1024x256_6_0_0
abbrev c7 (t : Fin cfg0.N) := cut m c t 7 inb_S8x1024x256_S1x1024x256_7_0_0

theorem shard_cut (t : Fin cfg0.N) (r : Fin 512) (k : Fin 1024) (j : Fin 8) (inb) :
    shard (iblk m c 4 t) r k j (cut m c t j.val inb)
      = ∑ x : Fin 256, CT m c (ix2 (row t r) ⟨256 * j.val + x.val, by omega⟩) * M m c (ix2 k ⟨256 * j.val + x.val, by omega⟩) := by
  refine Finset.sum_congr rfl fun x _ => congrArg₂ _ (blk4 m c t r _) ?_
  have e : (Rect.unit (s := S8x1024x256) ![j.val, 0, 0] ![1, 1024, 256] inb).emb (ix3 0 k x) = ix3 j k x := by blk_ext []
  exact (congrArg (iblk m c 5 t) e).trans (blk5 m c t j k x)

theorem dh_blk (t : Fin cfg0.N) (r : Fin 512) (k : Fin 1024) :
    k0_pay2 (F := Ideal) (iblk m c 4 t) (six m c t) (c6 m c t) (c7 m c t) (ix2 r k) = dh (M m c) (CT m c) (row t r) k := by
  have h := Sums.blocks (T := 8) (n := 256) rfl (fun x : Fin 2048 => CT m c (ix2 (row t r) x) * M m c (ix2 k x))
    (fun s r => ⟨256 * s.val + r.val, by omega⟩) (fun _ _ => rfl)
  rw [pay2, show six m c t (ix2 r k) = _ from pay1 _ _ _ _ _ _ _ _ _, dh, ← h, Fin.sum_univ_eight]
  exact congrArg₂ _ (congrArg₂ _ (congrArg₂ _ (congrArg₂ _ (congrArg₂ _ (congrArg₂ _ (congrArg₂ _ (shard_cut m c t r k 0 _) (shard_cut m c t r k 1 _))
    (shard_cut m c t r k 2 _)) (shard_cut m c t r k 3 _)) (shard_cut m c t r k 4 _)) (shard_cut m c t r k 5 _)) (shard_cut m c t r k 6 _)) (shard_cut m c t r k 7 _)

/-! ## The gradient of the rows -/

/-- What a point leaves in the tile of the rows' gradient. -/
abbrev tile (t : Fin cfg0.N) : FVec Ideal S512x1024 .f32 :=
  k0_pay12 (F := Ideal) (k0_pay4 (iblk m c 0 t)) (k0_pay5 (iblk m c 0 t)) (k0_pay8 (iblk m c 4 t) (six m c t) (c6 m c t) (c7 m c t) (iblk m c 2 t) (iblk m c 3 t))
    (k0_pay9 (iblk m c 4 t) (six m c t) (c6 m c t) (c7 m c t) (iblk m c 2 t) (iblk m c 0 t) (iblk m c 3 t)) (iblk m c 1 t)

theorem tiles (t : Fin cfg0.N) : (outsAt0 m c t.val t.isLt).1 = tile m c t := by
  by_cases h0 : t.val % 4 = 0
  · by_cases h1 : t.val % 8 = 0
    · rw [outsAt0_A m c t h0 h1]; frame_out; rfl
    · rw [outsAt0_C m c t h0 h1]; frame_out; rfl
  · rw [outsAt0_B m c t h0 (by omega)]; frame_out; rfl

theorem final6 : (dats m 0 c).arrAt 6 cfg0.N = Cert.ModGluRefIdeal.Read.val_main_v63 (F := Ideal) (X m c) (S m c) (G m c) (M m c) (DX m c) (CT m c) := by
  refine (dats m 0 c).arrAt_eq_of_covers 6 _ (by decide +kernel) fun t hf y => ?_
  blk_simp
  rw [after0_6, tiles]
  idx_vars y
  refine (pay12 _ _ _ _ _ _ _ _ _ _).trans ?_
  rw [emb6, v63, dx_eq]
  simp only [blk0, blk1, blk2, blk3, dh_blk, seq_row]

/-! ## The gradient of the norm's scale -/

/-- Block `t`'s part of the gradient of the norm's scale. -/
def normPart (t : Fin cfg0.N) (j : S1x1024.Idx) : EReal :=
  ∑ r : Fin 512, dh (M m c) (CT m c) (row t r) (j 1) * (1 + S m c (ix3 (sq t) 1 (j 1))) * hat (fun y => X m c (ix2 (row t r) y)) (j 1)

theorem norm_step (t : Fin cfg0.N) (j : S1x1024.Idx) (b : Vec Ideal S1x1024 .f32) :
    k0_pay19 (F := Ideal) (k0_pay10 (k0_pay5 (iblk m c 0 t)) (k0_pay7 (iblk m c 4 t) (six m c t) (c6 m c t) (c7 m c t) (iblk m c 2 t))) b j
      = b j + normPart m c t j := by
  idx_vars j
  obtain rfl : j0 = 0 := Subsingleton.elim _ _
  rw [pay19, pay10]
  simp only [blk0, blk2, dh_blk]
  rfl

theorem sum_norm (k : Fin 1024) : (∑ t : Fin cfg0.N, normPart m c t (ix2 0 k))
    = ∑ b : Fin 2, ∑ t : Fin 2048, hat (fun y => X m c (ix2 (rowOf b t) y)) k * (dh (M m c) (CT m c) (rowOf b t) k * (1 + S m c (ix3 b 1 k))) := by
  have e (b : Fin 2) (t : Fin 2048) : seqOf (rowOf b t) = b := by apply Fin.ext; simp only [seqOf, rowOf]; omega
  have h := Sums.blocks (T := 2) (n := 2048) (N := 4096) rfl
    (fun R => hat (fun y => X m c (ix2 R y)) k * (dh (M m c) (CT m c) R k * (1 + S m c (ix3 (seqOf R) 1 k)))) rowOf (fun b t => by simp only [rowOf]; omega)
  simp only [e] at h
  rw [h]
  rw [← Sums.blocks (T := cfg0.N) (n := 512) (by rw [show cfg0.N = 8 from N_0]) _ row (fun _ _ => rfl)]
  refine Finset.sum_congr rfl fun t _ => Finset.sum_congr rfl fun r _ => ?_
  rw [seq_row]
  exact mul_comm _ _

theorem final8 : (dats m 0 c).arrAt 8 cfg0.N = Cert.ModGluRefIdeal.Read.val_main_v64 (F := Ideal) (X m c) (S m c) (M m c) (CT m c) := by
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => 0) (normPart m c)
    (fun t h j => by
      rw [outsAt0_A m c t (by omega) h]; frame_out
      exact (norm_step m c t j _).trans (by rw [pay18]))
    (fun t h j => by
      by_cases h0 : t.val % 4 = 0
      · rw [outsAt0_C m c t h0 h]; frame_out; exact norm_step m c t j _
      · rw [outsAt0_B m c t h0 h]; frame_out; exact norm_step m c t j _) (le_of_eq N_0) t0_7 rfl j]
  rw [zero_add]
  idx_vars j
  obtain rfl : j0 = 0 := Subsingleton.elim _ _
  exact (sum_norm m c j1).trans (v64 (X m c) (S m c) (M m c) (CT m c) j1).symm

/-! ## The gradient of the modulation -/

/-- Block `t`'s part of the gradients of the shift and the scale; the gate's row is none of this product's. -/
def modPart (t : Fin cfg0.N) (j : S1x3x1024.Idx) : EReal :=
  if (j 1).val = 0 then ∑ r : Fin 512, dh (M m c) (CT m c) (row t r) (j 2)
  else if (j 1).val = 1 then ∑ r : Fin 512, dh (M m c) (CT m c) (row t r) (j 2) * (hat (fun y => X m c (ix2 (row t r) y)) (j 2) * G m c (ix3 0 1 (j 2)))
  else 0

/-- The three stores of a point leave, at every entry, the old entry plus the part. -/
theorem mod_store (t : Fin cfg0.N) (L : List (View.Piece (Elt Ideal) S1x3x1024 .f32)) (b0 b1 b2 : Vec Ideal S1x1024 .f32) (j : S1x3x1024.Idx) (x : EReal)
    (h0 : (j 1).val = 0 → b0 (ix2 0 (j 2)) = x) (h1 : (j 1).val = 1 → b1 (ix2 0 (j 2)) = x) (h2 : (j 1).val = 2 → b2 (ix2 0 (j 2)) = x) :
    View.canon (ThreeRows.put 2 inb_S1x3x1024_S1x3x1024_0_0_0 inb_S3x1024_S1x1024_2_0 (k0_pay17 (F := Ideal) k0_pay13 b2)
      :: ThreeRows.put 1 inb_S1x3x1024_S1x3x1024_0_0_0 inb_S3x1024_S1x1024_1_0
        (k0_pay16 (F := Ideal) (k0_pay11 (k0_pay2 (iblk m c 4 t) (six m c t) (c6 m c t) (c7 m c t)) (k0_pay6 (iblk m c 0 t) (iblk m c 3 t))) b1)
      :: ThreeRows.put 0 inb_S1x3x1024_S1x3x1024_0_0_0 inb_S3x1024_S1x1024_0_0
        (k0_pay15 (F := Ideal) (k0_pay2 (iblk m c 4 t) (six m c t) (c6 m c t) (c7 m c t)) b0) :: L) j
      = x + modPart m c t j := by
  idx_vars j
  obtain rfl : j0 = 0 := Subsingleton.elim _ _
  obtain ⟨i, hi⟩ := j1
  match i, hi with
  | 0, hi =>
    rw [ThreeRows.put_other _ _ _ _ _ _ (by simp), ThreeRows.put_other _ _ _ _ _ _ (by simp), ThreeRows.put_same 0 hi, pay15, h0 rfl]
    simp only [dh_blk]
    rfl
  | 1, hi =>
    rw [ThreeRows.put_other _ _ _ _ _ _ (by simp), ThreeRows.put_same 1 hi, pay16, pay11, h1 rfl]
    simp only [dh_blk, blk0, blk3]
    rfl
  | 2, hi =>
    rw [ThreeRows.put_same 2 hi, pay17, h2 rfl]
    exact (add_zero x).symm

/-- The zero fill. -/
abbrev fill : List (View.Piece (Elt Ideal) S1x3x1024 .f32) :=
  [⟨Rect.unit ![0, 0, 0] S1x3x1024.size inb_S1x3x1024_S1x3x1024_0_0_0, k0_pay14 (F := Ideal)⟩]
theorem fill_zero (j : S1x3x1024.Idx) : View.canon fill j = 0 := by
  rw [View.canon_cons_unit_lit' _ _ _ (by decide)]
  exact pay14 j

/-- The old entries of a point that starts a sequence: zero in every row, whatever was stored to the rows before. -/
theorem old_zero (i : ℕ) (hi : i < 3) (j : S1x3x1024.Idx) (h : (j 1).val = i) (L : List (View.Piece (Elt Ideal) S1x3x1024 .f32)) (inb hR)
    (v : View sig .tc .vmem S1x3x1024 .f32) (hL : View.canon L (ix3 0 ⟨i, hi⟩ (j 2) : S1x3x1024.Idx) = 0) :
    LoadRect.valAlong (lr := (Rect.unit (s := S3x1024) ![i, 0] S1x1024.size inb).toLoadRect) hR
      (v.readCov L (ThreeRows.box i inb_S1x3x1024_S1x3x1024_0_0_0 inb)) (ix2 0 (j 2) : S1x1024.Idx) = 0 :=
  (ThreeRows.get_cov i hi _ inb v L hR (j 2)).trans hL

theorem mod_first (t : Fin cfg0.N) (h0 : t.val % 4 = 0) (j : S1x3x1024.Idx) : (outsAt0 m c t.val t.isLt).2.1 j = 0 + modPart m c t j := by
  by_cases h1 : t.val % 8 = 0
  · rw [outsAt0_A m c t h0 h1]; frame_out
    refine mod_store m c t fill _ _ _ j _ (fun h => ?_) (fun h => ?_) (fun h => ?_)
    · exact old_zero 0 (by decide) j h _ _ _ _ (fill_zero _)
    · exact old_zero 1 (by decide) j h _ _ _ _ ((ThreeRows.put_other _ _ _ _ _ _ (by simp) _).trans (fill_zero _))
    · exact old_zero 2 (by decide) j h _ _ _ _ ((ThreeRows.put_other _ _ _ _ _ _ (by simp) _).trans
        ((ThreeRows.put_other _ _ _ _ _ _ (by simp) _).trans (fill_zero _)))
  · rw [outsAt0_C m c t h0 h1]; frame_out
    refine mod_store m c t fill _ _ _ j _ (fun h => ?_) (fun h => ?_) (fun h => ?_)
    · exact old_zero 0 (by decide) j h _ _ _ _ (fill_zero _)
    · exact old_zero 1 (by decide) j h _ _ _ _ ((ThreeRows.put_other _ _ _ _ _ _ (by simp) _).trans (fill_zero _))
    · exact old_zero 2 (by decide) j h _ _ _ _ ((ThreeRows.put_other _ _ _ _ _ _ (by simp) _).trans
        ((ThreeRows.put_other _ _ _ _ _ _ (by simp) _).trans (fill_zero _)))

theorem mod_next (t : Fin cfg0.N) (h0 : ¬ t.val % 4 = 0) (j : S1x3x1024.Idx) : (outsAt0 m c t.val t.isLt).2.1 j
    = (outsAt0 m c (t.val - 1) (Nat.lt_of_le_of_lt (Nat.sub_le _ _) t.isLt)).2.1 j + modPart m c t j := by
  have e (i : ℕ) (hi : i < 3) (h : (j 1).val = i) : (ix3 0 ⟨i, hi⟩ (j 2) : S1x3x1024.Idx) = j := by
    subst h; idx_vars j; obtain rfl : j0 = 0 := Subsingleton.elim _ _; rfl
  rw [outsAt0_B m c t h0 (by omega)]; frame_out
  refine mod_store m c t [] _ _ _ j _ (fun h => ?_) (fun h => ?_) (fun h => ?_)
  · refine (View.readAt_apply _ _ _).trans ?_
    rw [Memref.IsWhole.read_unread]
    exact congrArg (outsAt0 m c (t.val - 1) _).2.1 ((ThreeRows.box_idx 0 (by decide) _ inb_S3x1024_S1x1024_0_0 (j 2) _).trans (e 0 (by decide) h))
  · refine (View.readAt_apply _ _ _).trans ?_
    rw [Memref.IsWhole.read_unread]
    exact congrArg (outsAt0 m c (t.val - 1) _).2.1 ((ThreeRows.box_idx 1 (by decide) _ inb_S3x1024_S1x1024_1_0 (j 2) _).trans (e 1 (by decide) h))
  · refine (View.readAt_apply _ _ _).trans ?_
    rw [Memref.IsWhole.read_unread]
    exact congrArg (outsAt0 m c (t.val - 1) _).2.1 ((ThreeRows.box_idx 2 (by decide) _ inb_S3x1024_S1x1024_2_0 (j 2) _).trans (e 2 (by decide) h))

/-- The four blocks of a sequence together are its rows. -/
theorem sum_seq (b : Fin 2) (f : Fin 4096 → EReal) (h : ∀ s : Fin 4, 4 * b.val + s.val < cfg0.N) :
    (∑ s : Fin 4, ∑ r : Fin 512, f (row ⟨4 * b.val + s.val, h s⟩ r)) = ∑ x : Fin 2048, f (rowOf b x) := by
  rw [← Sums.blocks (T := 4) (n := 512) rfl (fun x : Fin 2048 => f (rowOf b x)) (fun s r => ⟨512 * s.val + r.val, by omega⟩) (fun _ _ => rfl)]
  refine Finset.sum_congr rfl fun s _ => Finset.sum_congr rfl fun r _ => congrArg f ?_
  apply Fin.ext; simp only [row, rowOf]; omega

theorem final7 : (dats m 0 c).arrAt 7 cfg0.N = Cert.ModGluRefIdeal.Read.val_main_v41 (F := Ideal) (X m c) (G m c) (M m c) (CT m c) := by
  refine (dats m 0 c).arrAt_eq_of_covers 7 _ (by decide +kernel) fun t hf y => ?_
  blk_simp
  rw [after0_7, Pipeline.eq_sum_fin_of_reset_step_apply_of_flush (fun n h => (outsAt0 m c n h).2.1) 4 (fun _ => 0) (modPart m c)
    (mod_first m c) (mod_next m c) t ((flush0_7 t).mp hf) y]
  rw [zero_add]
  idx_vars y
  obtain rfl : y0 = 0 := Subsingleton.elim _ _
  rw [emb7]
  obtain ⟨i, hi⟩ := y1
  match i, hi with
  | 0, hi => exact (sum_seq (sq t) (fun R => dh (M m c) (CT m c) R y2) _).trans (v41_0 (X m c) (G m c) (M m c) (CT m c) (sq t) y2).symm
  | 1, hi =>
    refine (sum_seq (sq t) (fun R => dh (M m c) (CT m c) R y2 * (hat (fun y => X m c (ix2 R y)) y2 * G m c (ix3 0 1 y2))) _).trans
      ((Finset.sum_congr rfl fun _ _ => mul_comm _ _).trans (v41_1 (X m c) (G m c) (M m c) (CT m c) (sq t) y2).symm)
  | 2, hi => exact (show (∑ s : Fin 4, (0 : EReal)) = 0 from Finset.sum_const_zero).trans (v41_2 (X m c) (G m c) (M m c) (CT m c) (sq t) y2).symm

end Cert.ModGluIdeal.Val

end

end
-- ==== Proof.ModGluClaim.lean ====
module

public import proofs.«01_k».proof.Defs
public import proofs.«01_k».proof.Proof.Gen.ModGlu.Frame
public import proofs.«01_k».proof.Proof.Gen.ModGluIdeal.Value
public import proofs.«01_k».proof.Proof.Gen.ModGluRefIdeal.Run
public import proofs.«01_k».proof.Proof.ModGluValue

/-! The claims about the gradient of the modulated norm before the gated product. -/

@[expose] public section

noncomputable section

open Idealize.ShloMosaic Idealize.ShloMosaic.TcCoe Idealize.SL.Sem

namespace Cert.ModGluIdeal.Val
open Cert.ModGluIdeal Cert.ModGluIdeal.Gen

theorem frame_kernel : Cert.quiescent_ModGlu := fun m ρ _ => Cert.ModGlu.Gen.frame m ρ
theorem frame_ideal : Cert.quiescent_ModGluIdeal := fun m ρ _ => Cert.ModGluIdeal.Gen.frame m ρ

/-- The reference is a straight line of host operations and declares no semaphore. -/
theorem frame_reference : Cert.quiescent_ModGluRefIdeal := fun m ρ _ =>
  (θ_run Cert.ModGluRefIdeal.defs _ _).mono (fun r h => ⟨fun c => (h c).2.2.2, sem_eq_zero_of_no_sems (by decide) r.2⟩) (Cert.ModGluRefIdeal.Value.run m ρ)

/-- The two programs end with equal results. -/
theorem equal : Cert.algebraic_ModGluIdeal_ModGluRefIdeal := fun m ρ m' ρ' _ hag =>
  ⟨fun c => Cert.ModGluRefIdeal.Read.val_main_v63 (F := Ideal) (X m c) (S m c) (G m c) (M m c) (DX m c) (CT m c),
    fun c => Cert.ModGluRefIdeal.Read.val_main_v41 (F := Ideal) (X m c) (G m c) (M m c) (CT m c),
    fun c => Cert.ModGluRefIdeal.Read.val_main_v64 (F := Ideal) (X m c) (S m c) (M m c) (CT m c),
    (θ_run _ _ _).mono (fun _ h c => ⟨(h c).1.trans (final6 m c), (h c).2.1.trans (final7 m c), (h c).2.2.1.trans (final8 m c), (h c).2.2.2⟩)
      (Cert.ModGluIdeal.Value.run_blocks m ρ),
    (θ_run _ _ _).mono (fun _ h c => ⟨(h c).1.trans ((Cert.ModGluRefIdeal.Read.val_main_v63_eq _ _).trans (by
        rw [(hag c).1, (hag c).2.1, (hag c).2.2.1, (hag c).2.2.2.1, (hag c).2.2.2.2.1, (hag c).2.2.2.2.2])),
      (h c).2.1.trans ((Cert.ModGluRefIdeal.Read.val_main_v41_eq _ _ _ _).trans (by rw [(hag c).1, (hag c).2.2.1, (hag c).2.2.2.1, (hag c).2.2.2.2.2])),
      (h c).2.2.1.trans ((Cert.ModGluRefIdeal.Read.val_main_v64_eq _ _ _ _).trans (by rw [(hag c).1, (hag c).2.1, (hag c).2.2.2.1, (hag c).2.2.2.2.2])), (h c).2.2.2⟩)
      (Cert.ModGluRefIdeal.Value.run m' ρ')⟩

end Cert.ModGluIdeal.Val

end

end
-- ==== Proof.GluFwdValue.lean ====
module

public import proofs.«01_k».proof.Proof.Gen.GluFwdIdeal.Value
public import proofs.«01_k».proof.Proof.Gen.GluFwdRefIdeal.Read
public import proofs.«01_k».proof.Proof.RmsRow
public import Idealize.ShloMosaic.Lib.Pipeline.ValueKit
public import Idealize.ShloMosaic.Lib.Pipeline.ReadBack

/-! The forward call of the modulated norm with its product: both outputs are the reference's. -/

@[expose] public section

set_option maxRecDepth 16384

noncomputable section

open Idealize.ShloMosaic Idealize.ShloMosaic.TcCoe Idealize.SL.Sem
open Idealize.ShloMosaic.Pipeline (Dat)
open Cert.RmsRow

namespace Cert.GluFwdIdeal.Val

/-- The arguments' contents. -/
abbrev Mat := (⟨S4096x1024, .f32⟩ : BufTy).Contents (Elt Ideal)
abbrev Mods := (⟨S2x3x1024, .f32⟩ : BufTy).Contents (Elt Ideal)
abbrev Norms := (⟨S4x3x1024, .f32⟩ : BufTy).Contents (Elt Ideal)
abbrev Wide := (⟨S1024x2048, .f32⟩ : BufTy).Contents (Elt Ideal)
abbrev Bias := (⟨S2048, .f32⟩ : BufTy).Contents (Elt Ideal)

/-- The sequence a row belongs to. -/
abbrev seqOf (r : Fin 4096) : Fin 2 := ⟨r.val / 2048, by omega⟩
/-- Row `t` of sequence `b`. -/
abbrev rowOf (b : Fin 2) (t : Fin 2048) : Fin 4096 := ⟨b.val * 2048 + t.val, by omega⟩

/-- A normalized row with the norm's scale `g`, the modulation's scale `s` and its shift `a`. -/
def modulated (x g s a : Fin 1024 → EReal) (k : Fin 1024) : EReal := hat x k * g k * (1 + s k) + a k

section Kernel
open Cert.GluFwdIdeal Cert.GluFwdIdeal.Gen

variable (s : Vec Ideal S1x3x1024 .f32) (x : Vec Ideal S512x1024 .f32) (g : Vec Ideal S1x1024 .f32) (r : Fin 512) (k : Fin 1024)

theorem pay3 : k0_pay3 (F := Ideal) s x g (ix2 r k)
    = modulated (fun y => x (ix2 r y)) (fun y => g (ix2 0 y)) (fun y => s (ix3 0 1 y)) (fun y => s (ix3 0 0 y)) k := by
  pointwise [k0_pay3, modulated, rms, hat, ms, len]
theorem pay4 : k0_pay4 (F := Ideal) s x g (ix2 r k) = k0_pay3 (F := Ideal) s x g (ix2 r k) := by
  pointwise [k0_pay4]

end Kernel

section Reference
open Cert.GluFwdRefIdeal Cert.GluFwdRefIdeal.Read

variable (x0 : Mat) (x1 : Mods) (x2 : Norms) (x3 : Wide) (x4 : Bias) (r : Fin 4096) (b : Fin 2) (t : Fin 2048) (k : Fin 1024)

/-- The modulated row `r` of the arguments. -/
abbrev row0 : Fin 1024 → EReal :=
  modulated (fun y => x0 (ix2 r y)) (fun y => x2 (ix3 0 1 y)) (fun y => x1 (ix3 (seqOf r) 1 y)) (fun y => x1 (ix3 (seqOf r) 0 y))

theorem v1 : val_main_v1 (F := Ideal) x2 (ix1 k) = x2 (ix3 0 1 k) := by
  pointwise [val_main_v1, val_main_v0]
theorem v10 (q : Fin 1) : val_main_v10 (F := Ideal) x0 (ix3 b t q) = rms (fun y => x0 (ix2 (rowOf b t) y)) := by
  pointwise [val_main_v10, val_main_v9, val_main_v8, val_main_v7, val_main_v6, val_main_v5, val_main_v4, val_main_v3, val_main_v2, val_main_cst, val_main_cst_0, val_main_cst_1, rms, ms, len]
theorem v15 : val_main_v15 (F := Ideal) x0 x2 (ix3 b t k) = hat (fun y => x0 (ix2 (rowOf b t) y)) k * x2 (ix3 0 1 k) := by
  pointwise [val_main_v15, val_main_v14, val_main_v13, val_main_v12, val_main_v11, val_main_v2, v10, v1, hat]
theorem v18 : val_main_v18 (F := Ideal) x1 (ix3 b 0 k) = 1 + x1 (ix3 b 1 k) := by
  pointwise [val_main_v18, val_main_v17, val_main_v16, val_main_cst_2]
theorem v23 : val_main_v23 (F := Ideal) x0 x1 x2 (ix3 b t k)
    = modulated (fun y => x0 (ix2 (rowOf b t) y)) (fun y => x2 (ix3 0 1 y)) (fun y => x1 (ix3 b 1 y)) (fun y => x1 (ix3 b 0 y)) k := by
  pointwise [val_main_v23, val_main_v22, val_main_v21, val_main_v20, val_main_v19, v15, v18, modulated]
theorem v24 : val_main_v24 (F := Ideal) x0 x1 x2 (ix2 r k) = row0 x0 x1 x2 r k := by
  have e : rowOf (seqOf r) ⟨r.val % 2048, Nat.mod_lt _ (by decide)⟩ = r := by apply Fin.ext; simp only [rowOf, seqOf]; omega
  pointwise [val_main_v24, v23]
  rw [e]
theorem v25 : val_main_v25 (F := Ideal) x0 x1 x2 (ix2 r k) = row0 x0 x1 x2 r k := by
  pointwise [val_main_v25, v24]
theorem v29 (q : Fin 2048) : val_main_v29 (F := Ideal) x0 x1 x2 x3 x4 (ix2 r q)
    = (∑ k : Fin 1024, row0 x0 x1 x2 r k * x3 (ix2 k q)) + x4 (ix1 q) := by
  pointwise [val_main_v29, val_main_v28, val_main_v27, val_main_v26, v24]

end Reference

open Cert.GluFwdIdeal Cert.GluFwdIdeal.Gen

variable (m : (ℓ : Loc nD τ sig) → Buf (Elt Ideal) ℓ) (ρ : Dev nD → PrngReg) (c : Dev nD)

theorem idx : ∀ t : Fin cfg0.N, win0_0.index t = ![t.val, 0] ∧ win0_1.index t = ![t.val / 4, 0, 0] ∧ win0_2.index t = ![0, 0]
    ∧ win0_3.index t = ![0, 0, 0] ∧ win0_4.index t = ![0, 0] ∧ win0_5.index t = ![t.val, 0] ∧ win0_6.index t = ![t.val, 0] :=
  (by decide +kernel : ∀ t : Fin grid0.N, _)

/-- The arguments on the device. -/
abbrev X : Mat := m ((c.tc : Thread nD τ).loc main_arg0)
abbrev S : Mods := m ((c.tc : Thread nD τ).loc main_arg1)
abbrev G : Norms := m ((c.tc : Thread nD τ).loc main_arg2)
abbrev M : Wide := m ((c.tc : Thread nD τ).loc main_arg3)
abbrev B : Bias := m ((c.tc : Thread nD τ).loc main_arg4)

theorem lt8 (t : Fin cfg0.N) : t.val < 8 := lt_of_lt_of_eq t.isLt N_0

/-- The row of the whole array that row `r` of block `t` is. -/
abbrev row (t : Fin cfg0.N) (r : Fin 512) : Fin 4096 := ⟨512 * t.val + r.val, by have := lt8 t; have := r.isLt; omega⟩
/-- The sequence block `t` belongs to. -/
abbrev sq (t : Fin cfg0.N) : Fin 2 := ⟨t.val / 4, by have := lt8 t; omega⟩
theorem seq_row (t : Fin cfg0.N) (r : Fin 512) : seqOf (row t r) = sq t := by
  apply Fin.ext; have := r.isLt; simp only [seqOf, row, sq]; omega
/-- Column `k` of the product's part `n`. -/
abbrev col (n : Fin 8) (k : Fin 256) : Fin 2048 := ⟨256 * n.val + k.val, by omega⟩

theorem blk0 (t : Fin cfg0.N) (r : Fin 512) (x : Fin 1024) : iblk m c 0 t (ix2 r x) = X m c (ix2 (row t r) x) := by
  blk_point [iblk, V, idx t]
theorem blk1 (t : Fin cfg0.N) (i : Fin 3) (x : Fin 1024) : iblk m c 1 t (ix3 0 i x) = S m c (ix3 (sq t) i x) := by
  blk_point [iblk, V, idx t]
theorem blk2 (t : Fin cfg0.N) (x : Fin 1024) : iblk m c 2 t (ix2 0 x) = G m c (ix3 0 1 x) := by
  blk_point [iblk, V, idx t]
theorem blk3 (t : Fin cfg0.N) (n : Fin 8) (k : Fin 1024) (x : Fin 256) : iblk m c 3 t (ix3 n k x) = M m c (ix2 k (col n x)) := by
  blk_point [iblk, V, idx t]
theorem blk4 (t : Fin cfg0.N) (x : Fin 2048) : iblk m c 4 t (ix2 0 x) = B m c (ix1 x) := by
  blk_point [iblk, V, idx t]
theorem emb5 (t : Fin cfg0.N) (r : Fin 512) (x : Fin 1024) : ((View.whole main_v7_0).slice (win0_5.rect t)).emb (ix2 r x) = ix2 (row t r) x := by
  blk_ext [idx t]
theorem emb6 (t : Fin cfg0.N) (r : Fin 512) (x : Fin 2048) : ((View.whole main_v7_1).slice (win0_6.rect t)).emb (ix2 r x) = ix2 (row t r) x := by
  blk_ext [idx t]

/-- The modulated rows. -/
theorem final5 : (dats m 0 c).arrAt 5 cfg0.N = Cert.GluFwdRefIdeal.Read.val_main_v25 (F := Ideal) (X m c) (S m c) (G m c) := by
  refine (dats m 0 c).arrAt_eq_of_covers 5 _ (by decide +kernel) fun t hf y => ?_
  blk_simp
  rw [after0_5]
  unfold outsAt0
  frame_out
  idx_vars y
  rw [pay3, emb5, v25]
  simp only [blk0, blk1, blk2, row0, seq_row]

/-- One part of the product of block `t`. -/
theorem out (t : Fin cfg0.N) (n : Fin 8) (r : Fin 512) (k : Fin 256) : (outsAt0 m c t).2 (ix2 r (col n k))
    = (∑ y : Fin 1024, k0_pay4 (F := Ideal) (iblk m c 1 t) (iblk m c 0 t) (iblk m c 2 t) (ix2 r y) * iblk m c 3 t (ix3 n y k)) + iblk m c 4 t (ix2 0 (col n k)) := by
  unfold outsAt0
  frame_out
  generalize k0_pay4 (F := Ideal) (iblk m c 1 t) (iblk m c 0 t) (iblk m c 2 t) = H
  generalize iblk m c 3 t = B3, iblk m c 4 t = B4
  canon_tiles x h
  all_goals
    idx_vars x
    open_payloads; pointwise []
    blk_point []

/-- The product. -/
theorem final6 : (dats m 0 c).arrAt 6 cfg0.N = Cert.GluFwdRefIdeal.Read.val_main_v29 (F := Ideal) (X m c) (S m c) (G m c) (M m c) (B m c) := by
  refine (dats m 0 c).arrAt_eq_of_covers 6 _ (by decide +kernel) fun t hf y => ?_
  blk_simp
  rw [after0_6]
  idx_vars y
  obtain ⟨n, k, rfl⟩ : ∃ n k, y1 = col n k := ⟨⟨y1.val / 256, by omega⟩, ⟨y1.val % 256, by omega⟩, by apply Fin.ext; simp only [col]; omega⟩
  rw [out, emb6, v29]
  simp only [pay4, pay3, blk0, blk1, blk2, blk3, blk4, row0, seq_row]

end Cert.GluFwdIdeal.Val

end

end
-- ==== Proof.GluFwdClaim.lean ====
module

public import proofs.«01_k».proof.Defs
public import proofs.«01_k».proof.Proof.Gen.GluFwd.Frame
public import proofs.«01_k».proof.Proof.Gen.GluFwdIdeal.Value
public import proofs.«01_k».proof.Proof.Gen.GluFwdRefIdeal.Run
public import proofs.«01_k».proof.Proof.GluFwdValue

/-! The claims about the forward call of the modulated norm with its product. -/

@[expose] public section

noncomputable section

open Idealize.ShloMosaic Idealize.ShloMosaic.TcCoe Idealize.SL.Sem

namespace Cert.GluFwdIdeal.Val
open Cert.GluFwdIdeal Cert.GluFwdIdeal.Gen

theorem frame_kernel : Cert.quiescent_GluFwd := fun m ρ _ => Cert.GluFwd.Gen.frame m ρ
theorem frame_ideal : Cert.quiescent_GluFwdIdeal := fun m ρ _ => Cert.GluFwdIdeal.Gen.frame m ρ

/-- The reference is a straight line of host operations and declares no semaphore. -/
theorem frame_reference : Cert.quiescent_GluFwdRefIdeal := fun m ρ _ =>
  (θ_run Cert.GluFwdRefIdeal.defs _ _).mono (fun r h => ⟨fun c => (h c).2.2, sem_eq_zero_of_no_sems (by decide) r.2⟩) (Cert.GluFwdRefIdeal.Value.run m ρ)

/-- The two programs end with equal results. -/
theorem equal : Cert.algebraic_GluFwdIdeal_GluFwdRefIdeal := fun m ρ m' ρ' _ hag =>
  ⟨fun c => Cert.GluFwdRefIdeal.Read.val_main_v25 (F := Ideal) (X m c) (S m c) (G m c),
    fun c => Cert.GluFwdRefIdeal.Read.val_main_v29 (F := Ideal) (X m c) (S m c) (G m c) (M m c) (B m c),
    (θ_run _ _ _).mono (fun _ h c => ⟨(h c).1.trans (final5 m c), (h c).2.1.trans (final6 m c), (h c).2.2⟩) (Cert.GluFwdIdeal.Value.run_blocks m ρ),
    (θ_run _ _ _).mono (fun _ h c => ⟨(h c).1.trans ((Cert.GluFwdRefIdeal.Read.val_main_v25_eq _ _ _).trans (by rw [(hag c).1, (hag c).2.1, (hag c).2.2.1])),
      (h c).2.1.trans ((Cert.GluFwdRefIdeal.Read.val_main_v29_eq _ _ _ _ _).trans (by
        rw [(hag c).1, (hag c).2.1, (hag c).2.2.1, (hag c).2.2.2.1, (hag c).2.2.2.2])), (h c).2.2⟩)
      (Cert.GluFwdRefIdeal.Value.run m' ρ')⟩

end Cert.GluFwdIdeal.Val

end

end
-- ==== Proof.ModQkvKernel.lean ====
module

public import proofs.«01_k».proof.Proof.Gen.ModQkvIdeal.Frame
public import proofs.«01_k».proof.Proof.Gen.ModQkvRefIdeal.Read
public import proofs.«01_k».proof.Proof.RmsRow
public import proofs.«01_k».proof.Proof.SumRows
public import Idealize.ShloMosaic.Lib.Pipeline.ValueKit

/-! The gradient of the modulated norm before the products that start the delta rule, entry by entry: the kernel's payloads and the reference's stages. -/

@[expose] public section

set_option maxRecDepth 16384

noncomputable section

open Idealize.ShloMosaic Idealize.ShloMosaic.TcCoe Idealize.SL.Sem
open Cert.RmsRow

namespace Cert.ModQkvIdeal.Val
open Cert.ModQkvIdeal Cert.ModQkvIdeal.Gen

section Kernel

variable (d0 : Vec Ideal S512x3072 .bf16) (w0 : Vec Ideal S3072x1024 .bf16) (d1 : Vec Ideal S512x1024 .bf16) (w1 : Vec Ideal S1024x1024 .bf16)
  (d2 : Vec Ideal S512x128 .bf16) (w2 : Vec Ideal S128x1024 .bf16)
  (x dx h : FVec Ideal S512x1024 .f32) (s : Vec Ideal S1x3x1024 .f32) (g b q : Vec Ideal S1x1024 .f32)
  (r : Fin 512) (k : Fin 1024)

theorem pay3 : k0_pay3 (F := Ideal) d0 w0 d1 w1 d2 w2 (ix2 r k)
    = (∑ y, d0 (ix2 r y) * w0 (ix2 y k)) + (∑ y, d1 (ix2 r y) * w1 (ix2 y k)) + ∑ y, d2 (ix2 r y) * w2 (ix2 y k) := by
  pointwise [k0_pay3]
theorem pay4 (q : Fin 1) : k0_pay4 (F := Ideal) g (ix2 q k) = g (ix2 0 k) := by
  obtain rfl : q = 0 := Subsingleton.elim _ _
  pointwise [k0_pay4]
theorem pay5 (q : Fin 1) : k0_pay5 (F := Ideal) s (ix2 q k) = s (ix3 0 1 k) := by
  obtain rfl : q = 0 := Subsingleton.elim _ _
  pointwise [k0_pay5]
theorem pay6 (q : Fin 1) : k0_pay6 (F := Ideal) x (ix2 r q) = rms (fun y => x (ix2 r y)) := by
  pointwise [k0_pay6, rms, ms, len]
theorem pay7 : k0_pay7 (F := Ideal) x (k0_pay6 x) (ix2 r k) = hat (fun y => x (ix2 r y)) k := by
  pointwise [k0_pay7, pay6, hat]
theorem pay8 : k0_pay8 (F := Ideal) h (k0_pay5 s) (ix2 r k) = h (ix2 r k) * (1 + s (ix3 0 1 k)) := by
  pointwise [k0_pay8, pay5]

/-- The cotangent of the normalized row. -/
abbrev cot (h : Fin 1024 → EReal) (s g : Fin 1024 → EReal) (k : Fin 1024) : EReal := h k * (1 + s k) * g k

theorem pay9 : k0_pay9 (F := Ideal) h x (k0_pay5 s) (k0_pay6 x) (ix2 0 k)
    = ∑ r : Fin 512, h (ix2 r k) * (1 + s (ix3 0 1 k)) * hat (fun y => x (ix2 r y)) k := by
  pointwise [k0_pay9, pay8, pay7]
theorem pay10 : k0_pay10 (F := Ideal) h x (k0_pay4 g) (k0_pay6 x) (ix2 0 k) = ∑ r : Fin 512, h (ix2 r k) * (hat (fun y => x (ix2 r y)) k * g (ix2 0 k)) := by
  pointwise [k0_pay10, pay4, pay7]
theorem pay11 : k0_pay11 (F := Ideal) h (ix2 0 k) = ∑ r : Fin 512, h (ix2 r k) := by
  pointwise [k0_pay11]
theorem pay12 : k0_pay12 (F := Ideal) h x (k0_pay4 g) (k0_pay5 s) (k0_pay6 x) dx (ix2 r k)
    = dx (ix2 r k) + dxHat (fun y => x (ix2 r y)) (cot (fun y => h (ix2 r y)) (fun y => s (ix3 0 1 y)) (fun y => g (ix2 0 y))) k := by
  pointwise [k0_pay12, pay4, pay6, pay7, pay8, dxHat, len]
theorem pay14 : k0_pay14 (F := Ideal) q b (ix2 0 k) = b (ix2 0 k) + q (ix2 0 k) := by
  pointwise [k0_pay14]
theorem pay15 : k0_pay15 (F := Ideal) q b (ix2 0 k) = b (ix2 0 k) + q (ix2 0 k) := by
  pointwise [k0_pay15]
theorem pay16 : k0_pay16 (F := Ideal) b (ix2 0 k) = b (ix2 0 k) := by
  pointwise [k0_pay16]
theorem pay2 : k0_pay2 (F := Ideal) q b (ix2 0 k) = b (ix2 0 k) + q (ix2 0 k) := by
  pointwise [k0_pay2]
theorem pay13 (j : S1x3x1024.Idx) : k0_pay13 (F := Ideal) j = 0 := by
  idx_vars j
  pointwise [k0_pay13]
theorem pay1 (j : S1x1024.Idx) : k0_pay1 (F := Ideal) j = 0 := by
  idx_vars j
  pointwise [k0_pay1]

end Kernel

section Reference
open Cert.ModQkvRefIdeal Cert.ModQkvRefIdeal.Read

/-- The types of this program's arguments. -/
abbrev Mat := (⟨S4096x1024, .f32⟩ : BufTy).Contents (Elt Ideal)
abbrev Mods := (⟨S2x3x1024, .f32⟩ : BufTy).Contents (Elt Ideal)
abbrev Norms := (⟨S4x3x1024, .f32⟩ : BufTy).Contents (Elt Ideal)
abbrev Wide := (⟨S1024x4112, .f32⟩ : BufTy).Contents (Elt Ideal)
abbrev Cot := (⟨S4096x4112, .bf16⟩ : BufTy).Contents (Elt Ideal)

variable (x0 x4 : Mat) (x1 : Mods) (x2 : Norms) (x3 : Wide) (x5 : Cot) (r : Fin 4096) (b : Fin 2) (t : Fin 2048) (k : Fin 1024)

/-- The sequence a row belongs to. -/
abbrev seqOf (r : Fin 4096) : Fin 2 := ⟨r.val / 2048, by omega⟩
/-- Row `t` of sequence `b`. -/
abbrev rowOf (b : Fin 2) (t : Fin 2048) : Fin 4096 := ⟨b.val * 2048 + t.val, by omega⟩

/-- The cotangent of the modulated row. -/
def dh : EReal := ∑ y : Fin 4112, x5 (ix2 r y) * x3 (ix2 k y)

theorem v1 : val_main_v1 (F := Ideal) x2 (ix1 k) = x2 (ix3 1 1 k) := by
  pointwise [val_main_v1, val_main_v0]
theorem v10 (q : Fin 1) : val_main_v10 (F := Ideal) x0 (ix3 b t q) = rms (fun y => x0 (ix2 (rowOf b t) y)) := by
  pointwise [val_main_v10, val_main_v9, val_main_v8, val_main_v7, val_main_v6, val_main_v5, val_main_v4, val_main_v3, val_main_v2, val_main_cst, val_main_cst_0, val_main_cst_1, rms, ms, len]
theorem v13 (q : Fin 1) : val_main_v13 (F := Ideal) x0 (ix3 b t q) = drms (fun y => x0 (ix2 (rowOf b t) y)) := by
  pointwise [val_main_v13, val_main_v12, val_main_v11, v10, val_main_v9, val_main_v8, val_main_v7, val_main_v6, val_main_v5, val_main_v4, val_main_v3, val_main_v2, val_main_cst, val_main_cst_0, val_main_cst_1, val_main_cst_2, drms, ms, len]
theorem v15 : val_main_v15 (F := Ideal) x0 (ix3 b t k) = hat (fun y => x0 (ix2 (rowOf b t) y)) k := by
  pointwise [val_main_v15, val_main_v14, val_main_v2, v10, hat]
theorem v18 : val_main_v18 (F := Ideal) x0 x2 (ix3 b t k) = hat (fun y => x0 (ix2 (rowOf b t) y)) k * x2 (ix3 1 1 k) := by
  pointwise [val_main_v18, val_main_v17, val_main_v16, v15, v1]
theorem v21 : val_main_v21 (F := Ideal) x1 (ix3 b 0 k) = 1 + x1 (ix3 b 1 k) := by
  pointwise [val_main_v21, val_main_v20, val_main_v19, val_main_cst_3]
theorem v31 : val_main_v31 (F := Ideal) x3 x5 (ix3 b t k) = dh x3 x5 (rowOf b t) k := by
  pointwise [val_main_v31, val_main_v30, val_main_v29, dh]
theorem v39 : val_main_v39 (F := Ideal) x1 x3 x5 (ix3 b t k) = dh x3 x5 (rowOf b t) k * (1 + x1 (ix3 b 1 k)) := by
  pointwise [val_main_v39, val_main_v38, v31, v21]
theorem v46 : val_main_v46 (F := Ideal) x1 x2 x3 x5 (ix3 b t k)
    = cot (dh x3 x5 (rowOf b t)) (fun y => x1 (ix3 b 1 y)) (fun y => x2 (ix3 1 1 y)) k := by
  pointwise [val_main_v46, val_main_v45, val_main_v16, v39, v1]
theorem v55 (q : Fin 1) : val_main_v55 (F := Ideal) x0 x1 x2 x3 x5 (ix3 b t q)
    = dms (fun y => x0 (ix2 (rowOf b t) y)) (cot (dh x3 x5 (rowOf b t)) (fun y => x1 (ix3 b 1 y)) (fun y => x2 (ix3 1 1 y))) := by
  pointwise [val_main_v55, val_main_v54, val_main_v53, val_main_v50, val_main_v49, val_main_v48, val_main_v2, v46, v13, val_main_cst_10, val_main_cst_11, dms, len]
theorem v61 : val_main_v61 (F := Ideal) x0 x1 x2 x3 x5 (ix3 b t k)
    = dx (fun y => x0 (ix2 (rowOf b t) y)) (cot (dh x3 x5 (rowOf b t)) (fun y => x1 (ix3 b 1 y)) (fun y => x2 (ix3 1 1 y))) k := by
  pointwise [val_main_v61, val_main_v60, val_main_v59, val_main_v58, val_main_v57, val_main_v56, val_main_v52, val_main_v51, val_main_v2, v46, v10, v55, val_main_cst_12, dx, Finset.univ_unique, Finset.sum_singleton]
theorem v63 : val_main_v63 (F := Ideal) x0 x1 x2 x3 x4 x5 (ix2 r k)
    = x4 (ix2 r k) + dx (fun y => x0 (ix2 r y)) (cot (dh x3 x5 r) (fun y => x1 (ix3 (seqOf r) 1 y)) (fun y => x2 (ix3 1 1 y))) k := by
  have e : rowOf (seqOf r) ⟨r.val % 2048, Nat.mod_lt _ (by decide)⟩ = r := by apply Fin.ext; simp only [rowOf, seqOf]; omega
  pointwise [val_main_v63, val_main_v62, v61]
  rw [e]
theorem v32 : val_main_v32 (F := Ideal) x3 x5 (ix2 b k) = ∑ t : Fin 2048, dh x3 x5 (rowOf b t) k := by
  pointwise [val_main_v32, v31, val_main_cst_4]
theorem v36 : val_main_v36 (F := Ideal) x0 x2 x3 x5 (ix2 b k)
    = ∑ t : Fin 2048, hat (fun y => x0 (ix2 (rowOf b t) y)) k * x2 (ix3 1 1 k) * dh x3 x5 (rowOf b t) k := by
  pointwise [val_main_v36, val_main_v35, v18, v31, val_main_cst_6]
theorem v41_0 : val_main_v41 (F := Ideal) x0 x2 x3 x5 (ix3 b 0 k) = ∑ t : Fin 2048, dh x3 x5 (rowOf b t) k := by
  pointwise [val_main_v41, val_main_v40, val_main_v34, val_main_v33, val_main_v37, v32, v36, val_main_cst_5, val_main_cst_7]
theorem v41_1 : val_main_v41 (F := Ideal) x0 x2 x3 x5 (ix3 b 1 k)
    = ∑ t : Fin 2048, hat (fun y => x0 (ix2 (rowOf b t) y)) k * x2 (ix3 1 1 k) * dh x3 x5 (rowOf b t) k := by
  pointwise [val_main_v41, val_main_v40, val_main_v34, val_main_v33, val_main_v37, v32, v36, val_main_cst_5, val_main_cst_7]
theorem v41_2 : val_main_v41 (F := Ideal) x0 x2 x3 x5 (ix3 b 2 k) = 0 := by
  pointwise [val_main_v41, val_main_v40, val_main_v34, val_main_v33, val_main_v37, v32, v36, val_main_cst_5, val_main_cst_7]
theorem v64 : val_main_v64 (F := Ideal) x0 x1 x3 x5 (ix2 0 k)
    = ∑ b : Fin 2, ∑ t : Fin 2048, hat (fun y => x0 (ix2 (rowOf b t) y)) k * (dh x3 x5 (rowOf b t) k * (1 + x1 (ix3 b 1 k))) := by
  pointwise [val_main_v64, val_main_v47, val_main_v44, val_main_v43, val_main_v42, v15, v39, val_main_cst_8, val_main_cst_9, Sums.reduce_rows, Finset.univ_unique, Finset.sum_singleton]

end Reference

end Cert.ModQkvIdeal.Val

end

end
-- ==== Proof.ModQkvValue.lean ====
module

public import proofs.«01_k».proof.Proof.ModQkvKernel
public import proofs.«01_k».proof.Proof.ThreeRows
public import proofs.«01_k».proof.Proof.Sums

/-! The output arrays of the modulated norm's gradient before the products that start the delta rule are the reference's. -/

@[expose] public section

set_option maxRecDepth 16384

noncomputable section

open Idealize.ShloMosaic Idealize.ShloMosaic.TcCoe Idealize.SL.Sem
open Idealize.ShloMosaic.Pipeline (Dat)
open Cert.RmsRow

namespace Cert.ModQkvIdeal.Val
open Cert.ModQkvIdeal Cert.ModQkvIdeal.Gen

variable (m : (ℓ : Loc nD τ sig) → Buf (Elt Ideal) ℓ) (ρ : Dev nD → PrngReg) (c : Dev nD)

theorem idx : ∀ t : Fin cfg0.N, win0_0.index t = ![t.val, 0] ∧ win0_1.index t = ![t.val, 0] ∧ win0_2.index t = ![t.val / 4, 0, 0] ∧ win0_3.index t = ![0, 0]
    ∧ win0_4.index t = ![t.val, 0] ∧ win0_5.index t = ![t.val, 0] ∧ win0_6.index t = ![t.val, 0] ∧ win0_7.index t = ![0, 0] ∧ win0_8.index t = ![t.val, 0]
    ∧ win0_9.index t = ![t.val / 4, 0, 0] ∧ win0_10.index t = ![0, 0] :=
  (by decide +kernel : ∀ t : Fin grid0.N, _)

/-- The arguments on the device. -/
abbrev X : Mat := m ((c.tc : Thread nD τ).loc main_arg0)
abbrev S : Mods := m ((c.tc : Thread nD τ).loc main_arg1)
abbrev G : Norms := m ((c.tc : Thread nD τ).loc main_arg2)
abbrev M : Wide := m ((c.tc : Thread nD τ).loc main_arg3)
abbrev DX : Mat := m ((c.tc : Thread nD τ).loc main_arg4)
abbrev CT : Cot := m ((c.tc : Thread nD τ).loc main_arg5)

theorem lt8 (t : Fin cfg0.N) : t.val < 8 := lt_of_lt_of_eq t.isLt N_0

/-- The row of the whole array that row `r` of block `t` is. -/
abbrev row (t : Fin cfg0.N) (r : Fin 512) : Fin 4096 := ⟨512 * t.val + r.val, by have := lt8 t; have := r.isLt; omega⟩
/-- The sequence block `t` belongs to. -/
abbrev sq (t : Fin cfg0.N) : Fin 2 := ⟨t.val / 4, by have := lt8 t; omega⟩
theorem seq_row (t : Fin cfg0.N) (r : Fin 512) : seqOf (row t r) = sq t := by
  apply Fin.ext; have := r.isLt; simp only [seqOf, row, sq]; omega

theorem blk0 (t : Fin cfg0.N) (r : Fin 512) (x : Fin 1024) : iblk m c 0 t (ix2 r x) = X m c (ix2 (row t r) x) := by
  blk_point [iblk, V, idx t]
theorem blk1 (t : Fin cfg0.N) (r : Fin 512) (x : Fin 1024) : iblk m c 1 t (ix2 r x) = DX m c (ix2 (row t r) x) := by
  blk_point [iblk, V, idx t]
theorem blk2 (t : Fin cfg0.N) (i : Fin 3) (x : Fin 1024) : iblk m c 2 t (ix3 0 i x) = S m c (ix3 (sq t) i x) := by
  blk_point [iblk, V, idx t]
/-- The norm's scale and the two wide parts of the cotangent, as the region finds them. -/
theorem host3 : (V m c main_v7 : (⟨S1x1024, .f32⟩ : BufTy).Contents (Elt Ideal))
    = broadcastInDim S1x1024 ![1] bcast_S1024_S1x1024_1 (shapeCast S1024 (extractStridedSlice S1x1x1024 ![1, 1, 0] (G m c) slices_S4x3x1024_S1x1x1024_1_1_0) shapeCasts_S1x1x1024_S1024) := by rfl
theorem host4 : (V m c main_v8 : (⟨S4096x3072, .bf16⟩ : BufTy).Contents (Elt Ideal)) = extractStridedSlice S4096x3072 ![0, 0] (CT m c) slices_S4096x4112_S4096x3072_0_0 := by rfl
theorem host5 : (V m c main_v9 : (⟨S4096x1024, .bf16⟩ : BufTy).Contents (Elt Ideal)) = extractStridedSlice S4096x1024 ![0, 3072] (CT m c) slices_S4096x4112_S4096x1024_0_3072 := by rfl
theorem blk3 (t : Fin cfg0.N) (x : Fin 1024) : iblk m c 3 t (ix2 0 x) = G m c (ix3 1 1 x) := by
  have e : ((View.whole main_v7).slice (win0_3.rect t)).emb (ix2 0 x) = ix2 0 x := by blk_ext [idx t]
  refine (congrArg (V m c main_v7) e).trans ((congrFun (host3 m c) _).trans ?_)
  pointwise []
theorem blk4 (t : Fin cfg0.N) (r : Fin 512) (x : Fin 3072) : iblk m c 4 t (ix2 r x) = CT m c (ix2 (row t r) ⟨x.val, by omega⟩) := by
  have e : ((View.whole main_v8).slice (win0_4.rect t)).emb (ix2 r x) = ix2 (row t r) x := by blk_ext [idx t]
  refine (congrArg (V m c main_v8) e).trans ((congrFun (host4 m c) _).trans ?_)
  pointwise []
theorem blk5 (t : Fin cfg0.N) (r : Fin 512) (x : Fin 1024) : iblk m c 5 t (ix2 r x) = CT m c (ix2 (row t r) ⟨3072 + x.val, by omega⟩) := by
  have e : ((View.whole main_v9).slice (win0_5.rect t)).emb (ix2 r x) = ix2 (row t r) x := by blk_ext [idx t]
  refine (congrArg (V m c main_v9) e).trans ((congrFun (host5 m c) _).trans ?_)
  pointwise []
/-- The last sixteen columns of the cotangent, as the region finds them, widened with zero columns. -/
theorem host6 : (V m c main_v4 : (⟨S4096x128, .bf16⟩ : BufTy).Contents (Elt Ideal))
    = pad S4096x128 ![0, 0] ![0, 112] ![0, 0] (extractStridedSlice S4096x16 ![0, 4096] (CT m c) slices_S4096x4112_S4096x16_0_4096)
      (sitofp (F := Ideal) .bf16 (constantI S_ 32 0#32)) pads_S4096x16_S4096x128_000_01120 h_S_ := by rfl
/-- The transposed matrix of the product, widened with zero rows. -/
theorem host7 : (V m c main_v2 : (⟨S4224x1024, .bf16⟩ : BufTy).Contents (Elt Ideal))
    = (truncf .bf16 · bitsLt_bf16_f32) (pad S4224x1024 ![0, 0] ![112, 0] ![0, 0] (transpose S4112x1024 [1, 0] (M m c) transposes_S1024x4112_S4112x1024_1_0)
      (sitofp (F := Ideal) .f32 (constantI S_ 32 0#32)) pads_S4112x1024_S4224x1024_01120_000 h_S_) := by rfl
theorem blk6 (t : Fin cfg0.N) (r : Fin 512) (x : Fin 128) (h : x.val < 16) : iblk m c 6 t (ix2 r x) = CT m c (ix2 (row t r) ⟨4096 + x.val, by omega⟩) := by
  have e : ((View.whole main_v4).slice (win0_6.rect t)).emb (ix2 r x) = ix2 (row t r) x := by blk_ext [idx t]
  refine (congrArg (V m c main_v4) e).trans ((congrFun (host6 m c) _).trans ?_)
  pointwise []
  exact dif_pos ⟨(row t r).isLt, h⟩
theorem blk6_zero (t : Fin cfg0.N) (r : Fin 512) (x : Fin 128) (h : ¬ x.val < 16) : iblk m c 6 t (ix2 r x) = (0 : EReal) := by
  have e : ((View.whole main_v4).slice (win0_6.rect t)).emb (ix2 r x) = ix2 (row t r) x := by blk_ext [idx t]
  refine (congrArg (V m c main_v4) e).trans ((congrFun (host6 m c) _).trans ?_)
  pointwise []
  exact (dif_neg fun hc => h hc.2).trans (by simp [FloatOps.sitofp])
theorem blk7 (t : Fin cfg0.N) (y : Fin 4224) (k : Fin 1024) (h : y.val < 4112) : iblk m c 7 t (ix2 y k) = M m c (ix2 k ⟨y.val, h⟩) := by
  have e : ((View.whole main_v2).slice (win0_7.rect t)).emb (ix2 y k) = ix2 y k := by blk_ext [idx t]
  refine (congrArg (V m c main_v2) e).trans ((congrFun (host7 m c) _).trans ?_)
  pointwise []
  exact dif_pos h
theorem emb8 (t : Fin cfg0.N) (r : Fin 512) (x : Fin 1024) : ((View.whole main_v10_0).slice (win0_8.rect t)).emb (ix2 r x) = ix2 (row t r) x := by
  blk_ext [idx t]
theorem emb9 (t : Fin cfg0.N) (i : Fin 3) (x : Fin 1024) : ((View.whole main_v10_1).slice (win0_9.rect t)).emb (ix3 0 i x) = ix3 (sq t) i x := by
  blk_ext [idx t]

/-! ## The cotangent of the modulated row -/

/-- The three products together. -/
abbrev prod (t : Fin cfg0.N) : FVec Ideal S512x1024 .f32 :=
  k0_pay3 (F := Ideal) (iblk m c 4 t) (View.ld (Val := Elt Ideal) (e' := .bf16) (S := S4224x1024) (iblk m c 7 t) (Rect.unit ![0, 0] ![3072, 1024] inb_S4224x1024_S3072x1024_0_0))
    (iblk m c 5 t) (View.ld (Val := Elt Ideal) (e' := .bf16) (S := S4224x1024) (iblk m c 7 t) (Rect.unit ![3072, 0] ![1024, 1024] inb_S4224x1024_S1024x1024_3072_0))
    (iblk m c 6 t) (View.ld (Val := Elt Ideal) (e' := .bf16) (S := S4224x1024) (iblk m c 7 t) (Rect.unit ![4096, 0] ![128, 1024] inb_S4224x1024_S128x1024_4096_0))

/-- One part of the product's matrix: rows `o` on. -/
theorem part_at (t : Fin cfg0.N) (o n : ℕ) (inb) (y : Fin n) (k : Fin 1024) (h : o + y.val < 4112) :
    View.ld (Val := Elt Ideal) (e' := .bf16) (S := S4224x1024) (iblk m c 7 t) (Rect.unit ![o, 0] ![n, 1024] inb) (ix2 y k) = M m c (ix2 k ⟨o + y.val, h⟩) := by
  have e : (Rect.unit (s := S4224x1024) ![o, 0] ![n, 1024] inb).emb (ix2 y k) = ix2 (⟨o + y.val, by omega⟩ : Fin 4224) k := by blk_ext []
  exact (congrArg (iblk m c 7 t) e).trans (blk7 m c t _ k h)

/-- A sum over the columns of the three products, the last one's zero columns left out. -/
theorem columns (f : Fin 4112 → EReal) : (∑ y : Fin 4112, f y)
    = (∑ y : Fin 3072, f ⟨y.val, by omega⟩) + (∑ y : Fin 1024, f ⟨3072 + y.val, by omega⟩) + ∑ y : Fin 16, f ⟨4096 + y.val, by omega⟩ := by
  rw [show (∑ y : Fin 4112, f y) = ∑ y : Fin (3072 + 1024 + 16), f y from rfl, Fin.sum_univ_add, Fin.sum_univ_add]
  rfl
theorem widened (f : Fin 128 → EReal) (h : ∀ y : Fin 128, ¬ y.val < 16 → f y = 0) : (∑ y : Fin 128, f y) = ∑ y : Fin 16, f ⟨y.val, by omega⟩ := by
  rw [show (∑ y : Fin 128, f y) = ∑ y : Fin (16 + 112), f y from rfl, Fin.sum_univ_add]
  exact (congrArg _ (Finset.sum_eq_zero fun y _ => h _ (by simp))).trans (add_zero _)

theorem dh_blk (t : Fin cfg0.N) (r : Fin 512) (k : Fin 1024) : prod m c t (ix2 r k) = dh (M m c) (CT m c) (row t r) k := by
  refine (pay3 _ _ _ _ _ _ _ _).trans ?_
  rw [dh, columns, widened _ (fun y hy => (congrArg (fun z : EReal => z * _) (blk6_zero m c t r y hy)).trans (zero_mul _))]
  refine congrArg₂ _ (congrArg₂ _ (Finset.sum_congr rfl fun y _ => congrArg₂ _ (blk4 m c t r y) ?_) (Finset.sum_congr rfl fun y _ => congrArg₂ _ (blk5 m c t r y) ?_))
    (Finset.sum_congr rfl fun y _ => congrArg₂ _ (blk6 m c t r _ y.isLt) ?_)
  · refine (part_at m c t 0 3072 _ y k (by omega)).trans (congrArg (M m c) ?_)
    blk_ext []
  · exact part_at m c t 3072 1024 _ y k (by omega)
  · exact part_at m c t 4096 128 _ ⟨y.val, by omega⟩ k (by simp only; omega)

/-! ## The gradient of the rows -/

/-- What a point leaves in the tile of the rows' gradient. -/
abbrev tile (t : Fin cfg0.N) : FVec Ideal S512x1024 .f32 :=
  k0_pay12 (F := Ideal) (prod m c t) (iblk m c 0 t) (k0_pay4 (iblk m c 3 t)) (k0_pay5 (iblk m c 2 t)) (k0_pay6 (iblk m c 0 t)) (iblk m c 1 t)

theorem tiles (t : Fin cfg0.N) : (outsAt0 m c t.val t.isLt).1 = tile m c t := by
  by_cases h0 : t.val % 4 = 0
  · by_cases h1 : t.val % 8 = 0
    · rw [outsAt0_A m c t h0 h1]; frame_out
    · rw [outsAt0_C m c t h0 h1]; frame_out
  · rw [outsAt0_B m c t h0 (by omega)]; frame_out

theorem final8 : (dats m 0 c).arrAt 8 cfg0.N = Cert.ModQkvRefIdeal.Read.val_main_v63 (F := Ideal) (X m c) (S m c) (G m c) (M m c) (DX m c) (CT m c) := by
  refine (dats m 0 c).arrAt_eq_of_covers 8 _ (by decide +kernel) fun t hf y => ?_
  blk_simp
  rw [after0_8, tiles]
  idx_vars y
  refine (pay12 _ _ _ _ _ _ _).trans ?_
  rw [emb8, v63, dx_eq]
  simp only [blk0, blk1, blk2, blk3, dh_blk, seq_row]

/-! ## The gradient of the norm's scale -/

/-- Block `t`'s part of the gradient of the norm's scale. -/
def normPart (t : Fin cfg0.N) (j : S1x1024.Idx) : EReal :=
  ∑ r : Fin 512, dh (M m c) (CT m c) (row t r) (j 1) * (1 + S m c (ix3 (sq t) 1 (j 1))) * hat (fun y => X m c (ix2 (row t r) y)) (j 1)

theorem norm_step (t : Fin cfg0.N) (j : S1x1024.Idx) (b : Vec Ideal S1x1024 .f32) :
    k0_pay2 (F := Ideal) (k0_pay9 (prod m c t) (iblk m c 0 t) (k0_pay5 (iblk m c 2 t)) (k0_pay6 (iblk m c 0 t))) b j
      = b j + normPart m c t j := by
  idx_vars j
  obtain rfl : j0 = 0 := Subsingleton.elim _ _
  rw [pay2, pay9]
  simp only [blk0, blk2, dh_blk]
  rfl

theorem sum_norm (k : Fin 1024) : (∑ t : Fin cfg0.N, normPart m c t (ix2 0 k))
    = ∑ b : Fin 2, ∑ t : Fin 2048, hat (fun y => X m c (ix2 (rowOf b t) y)) k * (dh (M m c) (CT m c) (rowOf b t) k * (1 + S m c (ix3 b 1 k))) := by
  have e (b : Fin 2) (t : Fin 2048) : seqOf (rowOf b t) = b := by apply Fin.ext; simp only [seqOf, rowOf]; omega
  have h := Sums.blocks (T := 2) (n := 2048) (N := 4096) rfl
    (fun R => hat (fun y => X m c (ix2 R y)) k * (dh (M m c) (CT m c) R k * (1 + S m c (ix3 (seqOf R) 1 k)))) rowOf (fun b t => by simp only [rowOf]; omega)
  simp only [e] at h
  rw [h]
  rw [← Sums.blocks (T := cfg0.N) (n := 512) (by rw [show cfg0.N = 8 from N_0]) _ row (fun _ _ => rfl)]
  refine Finset.sum_congr rfl fun t _ => Finset.sum_congr rfl fun r _ => ?_
  rw [seq_row]
  exact mul_comm _ _

theorem final10 : (dats m 0 c).arrAt 10 cfg0.N = Cert.ModQkvRefIdeal.Read.val_main_v64 (F := Ideal) (X m c) (S m c) (M m c) (CT m c) := by
  refine (dats m 0 c).arrAt_eq_of_after_last 10 t0_7 (by decide +kernel) _ fun j => ?_
  blk_simp
  rw [after0_10, Pipeline.eq_sum_fin_of_reset_step_apply_last (fun n h => (outsAt0 m c n h).2.2) 8 (fun _ => 0) (normPart m c)
    (fun t h j => by
      rw [outsAt0_A m c t (by omega) h]; frame_out
      exact (norm_step m c t j _).trans (by rw [pay1]))
    (fun t h j => by
      by_cases h0 : t.val % 4 = 0
      · rw [outsAt0_C m c t h0 h]; frame_out; exact norm_step m c t j _
      · rw [outsAt0_B m c t h0 h]; frame_out; exact norm_step m c t j _) (le_of_eq N_0) t0_7 rfl j]
  rw [zero_add]
  idx_vars j
  obtain rfl : j0 = 0 := Subsingleton.elim _ _
  exact (sum_norm m c j1).trans (v64 (X m c) (S m c) (M m c) (CT m c) j1).symm

/-! ## The gradient of the modulation -/

/-- Block `t`'s part of the gradients of the shift and the scale; the gate's row is none of this product's. -/
def modPart (t : Fin cfg0.N) (j : S1x3x1024.Idx) : EReal :=
  if (j 1).val = 0 then ∑ r : Fin 512, dh (M m c) (CT m c) (row t r) (j 2)
  else if (j 1).val = 1 then ∑ r : Fin 512, dh (M m c) (CT m c) (row t r) (j 2) * (hat (fun y => X m c (ix2 (row t r) y)) (j 2) * G m c (ix3 1 1 (j 2)))
  else 0

/-- The three stores of a point leave, at every entry, the old entry plus the part. -/
theorem mod_store (t : Fin cfg0.N) (L : List (View.Piece (Elt Ideal) S1x3x1024 .f32)) (b0 b1 b2 : Vec Ideal S1x1024 .f32) (j : S1x3x1024.Idx) (x : EReal)
    (h0 : (j 1).val = 0 → b0 (ix2 0 (j 2)) = x) (h1 : (j 1).val = 1 → b1 (ix2 0 (j 2)) = x) (h2 : (j 1).val = 2 → b2 (ix2 0 (j 2)) = x) :
    View.canon (ThreeRows.put 2 inb_S1x3x1024_S1x3x1024_0_0_0 inb_S3x1024_S1x1024_2_0 (k0_pay16 (F := Ideal) b2)
      :: ThreeRows.put 1 inb_S1x3x1024_S1x3x1024_0_0_0 inb_S3x1024_S1x1024_1_0
        (k0_pay15 (F := Ideal) (k0_pay10 (prod m c t) (iblk m c 0 t) (k0_pay4 (iblk m c 3 t)) (k0_pay6 (iblk m c 0 t))) b1)
      :: ThreeRows.put 0 inb_S1x3x1024_S1x3x1024_0_0_0 inb_S3x1024_S1x1024_0_0
        (k0_pay14 (F := Ideal) (k0_pay11 (prod m c t)) b0) :: L) j
      = x + modPart m c t j := by
  idx_vars j
  obtain rfl : j0 = 0 := Subsingleton.elim _ _
  obtain ⟨i, hi⟩ := j1
  match i, hi with
  | 0, hi =>
    rw [ThreeRows.put_other _ _ _ _ _ _ (by simp), ThreeRows.put_other _ _ _ _ _ _ (by simp), ThreeRows.put_same 0 hi, pay14, pay11, h0 rfl]
    simp only [dh_blk]
    rfl
  | 1, hi =>
    rw [ThreeRows.put_other _ _ _ _ _ _ (by simp), ThreeRows.put_same 1 hi, pay15, pay10, h1 rfl]
    simp only [dh_blk, blk0, blk3]
    rfl
  | 2, hi =>
    rw [ThreeRows.put_same 2 hi, pay16, h2 rfl]
    exact (add_zero x).symm

/-- The zero fill. -/
abbrev fill : List (View.Piece (Elt Ideal) S1x3x1024 .f32) :=
  [⟨Rect.unit ![0, 0, 0] S1x3x1024.size inb_S1x3x1024_S1x3x1024_0_0_0, k0_pay13 (F := Ideal)⟩]
theorem fill_zero (j : S1x3x1024.Idx) : View.canon fill j = 0 := by
  rw [View.canon_cons_unit_lit' _ _ _ (by decide)]
  exact pay13 j

/-- The old entries of a point that starts a sequence: zero in every row, whatever was stored to the rows before. -/
theorem old_zero (i : ℕ) (hi : i < 3) (j : S1x3x1024.Idx) (h : (j 1).val = i) (L : List (View.Piece (Elt Ideal) S1x3x1024 .f32)) (inb hR)
    (v : View sig .tc .vmem S1x3x1024 .f32) (hL : View.canon L (ix3 0 ⟨i, hi⟩ (j 2) : S1x3x1024.Idx) = 0) :
    LoadRect.valAlong (lr := (Rect.unit (s := S3x1024) ![i, 0] S1x1024.size inb).toLoadRect) hR
      (v.readCov L (ThreeRows.box i inb_S1x3x1024_S1x3x1024_0_0_0 inb)) (ix2 0 (j 2) : S1x1024.Idx) = 0 :=
  (ThreeRows.get_cov i hi _ inb v L hR (j 2)).trans hL

theorem mod_first (t : Fin cfg0.N) (h0 : t.val % 4 = 0) (j : S1x3x1024.Idx) : (outsAt0 m c t.val t.isLt).2.1 j = 0 + modPart m c t j := by
  by_cases h1 : t.val % 8 = 0
  · rw [outsAt0_A m c t h0 h1]; frame_out
    refine mod_store m c t fill _ _ _ j _ (fun h => ?_) (fun h => ?_) (fun h => ?_)
    · exact old_zero 0 (by decide) j h _ _ _ _ (fill_zero _)
    · exact old_zero 1 (by decide) j h _ _ _ _ ((ThreeRows.put_other _ _ _ _ _ _ (by simp) _).trans (fill_zero _))
    · exact old_zero 2 (by decide) j h _ _ _ _ ((ThreeRows.put_other _ _ _ _ _ _ (by simp) _).trans
        ((ThreeRows.put_other _ _ _ _ _ _ (by simp) _).trans (fill_zero _)))
  · rw [outsAt0_C m c t h0 h1]; frame_out
    refine mod_store m c t fill _ _ _ j _ (fun h => ?_) (fun h => ?_) (fun h => ?_)
    · exact old_zero 0 (by decide) j h _ _ _ _ (fill_zero _)
    · exact old_zero 1 (by decide) j h _ _ _ _ ((ThreeRows.put_other _ _ _ _ _ _ (by simp) _).trans (fill_zero _))
    · exact old_zero 2 (by decide) j h _ _ _ _ ((ThreeRows.put_other _ _ _ _ _ _ (by simp) _).trans
        ((ThreeRows.put_other _ _ _ _ _ _ (by simp) _).trans (fill_zero _)))

theorem mod_next (t : Fin cfg0.N) (h0 : ¬ t.val % 4 = 0) (j : S1x3x1024.Idx) : (outsAt0 m c t.val t.isLt).2.1 j
    = (outsAt0 m c (t.val - 1) (Nat.lt_of_le_of_lt (Nat.sub_le _ _) t.isLt)).2.1 j + modPart m c t j := by
  have e (i : ℕ) (hi : i < 3) (h : (j 1).val = i) : (ix3 0 ⟨i, hi⟩ (j 2) : S1x3x1024.Idx) = j := by
    subst h; idx_vars j; obtain rfl : j0 = 0 := Subsingleton.elim _ _; rfl
  rw [outsAt0_B m c t h0 (by omega)]; frame_out
  refine mod_store m c t [] _ _ _ j _ (fun h => ?_) (fun h => ?_) (fun h => ?_)
  · refine (View.readAt_apply _ _ _).trans ?_
    rw [Memref.IsWhole.read_unread]
    exact congrArg (outsAt0 m c (t.val - 1) _).2.1 ((ThreeRows.box_idx 0 (by decide) _ inb_S3x1024_S1x1024_0_0 (j 2) _).trans (e 0 (by decide) h))
  · refine (View.readAt_apply _ _ _).trans ?_
    rw [Memref.IsWhole.read_unread]
    exact congrArg (outsAt0 m c (t.val - 1) _).2.1 ((ThreeRows.box_idx 1 (by decide) _ inb_S3x1024_S1x1024_1_0 (j 2) _).trans (e 1 (by decide) h))
  · refine (View.readAt_apply _ _ _).trans ?_
    rw [Memref.IsWhole.read_unread]
    exact congrArg (outsAt0 m c (t.val - 1) _).2.1 ((ThreeRows.box_idx 2 (by decide) _ inb_S3x1024_S1x1024_2_0 (j 2) _).trans (e 2 (by decide) h))

/-- The four blocks of a sequence together are its rows. -/
theorem sum_seq (b : Fin 2) (f : Fin 4096 → EReal) (h : ∀ s : Fin 4, 4 * b.val + s.val < cfg0.N) :
    (∑ s : Fin 4, ∑ r : Fin 512, f (row ⟨4 * b.val + s.val, h s⟩ r)) = ∑ x : Fin 2048, f (rowOf b x) := by
  rw [← Sums.blocks (T := 4) (n := 512) rfl (fun x : Fin 2048 => f (rowOf b x)) (fun s r => ⟨512 * s.val + r.val, by omega⟩) (fun _ _ => rfl)]
  refine Finset.sum_congr rfl fun s _ => Finset.sum_congr rfl fun r _ => congrArg f ?_
  apply Fin.ext; simp only [row, rowOf]; omega

theorem final9 : (dats m 0 c).arrAt 9 cfg0.N = Cert.ModQkvRefIdeal.Read.val_main_v41 (F := Ideal) (X m c) (G m c) (M m c) (CT m c) := by
  refine (dats m 0 c).arrAt_eq_of_covers 9 _ (by decide +kernel) fun t hf y => ?_
  blk_simp
  rw [after0_9, Pipeline.eq_sum_fin_of_reset_step_apply_of_flush (fun n h => (outsAt0 m c n h).2.1) 4 (fun _ => 0) (modPart m c)
    (mod_first m c) (mod_next m c) t ((flush0_9 t).mp hf) y]
  rw [zero_add]
  idx_vars y
  obtain rfl : y0 = 0 := Subsingleton.elim _ _
  rw [emb9]
  obtain ⟨i, hi⟩ := y1
  match i, hi with
  | 0, hi => exact (sum_seq (sq t) (fun R => dh (M m c) (CT m c) R y2) _).trans (v41_0 (X m c) (G m c) (M m c) (CT m c) (sq t) y2).symm
  | 1, hi =>
    refine (sum_seq (sq t) (fun R => dh (M m c) (CT m c) R y2 * (hat (fun y => X m c (ix2 R y)) y2 * G m c (ix3 1 1 y2))) _).trans
      ((Finset.sum_congr rfl fun _ _ => mul_comm _ _).trans (v41_1 (X m c) (G m c) (M m c) (CT m c) (sq t) y2).symm)
  | 2, hi => exact (show (∑ s : Fin 4, (0 : EReal)) = 0 from Finset.sum_const_zero).trans (v41_2 (X m c) (G m c) (M m c) (CT m c) (sq t) y2).symm

end Cert.ModQkvIdeal.Val

end

end
-- ==== Proof.ModQkvClaim.lean ====
module

public import proofs.«01_k».proof.Defs
public import proofs.«01_k».proof.Proof.Gen.ModQkv.Frame
public import proofs.«01_k».proof.Proof.Gen.ModQkvIdeal.Value
public import proofs.«01_k».proof.Proof.Gen.ModQkvRefIdeal.Run
public import proofs.«01_k».proof.Proof.ModQkvValue

/-! The claims about the gradient of the modulated norm before the products that start the delta rule. -/

@[expose] public section

noncomputable section

open Idealize.ShloMosaic Idealize.ShloMosaic.TcCoe Idealize.SL.Sem

namespace Cert.ModQkvIdeal.Val
open Cert.ModQkvIdeal Cert.ModQkvIdeal.Gen

theorem frame_kernel : Cert.quiescent_ModQkv := fun m ρ _ => Cert.ModQkv.Gen.frame m ρ
theorem frame_ideal : Cert.quiescent_ModQkvIdeal := fun m ρ _ => Cert.ModQkvIdeal.Gen.frame m ρ

/-- The reference is a straight line of host operations and declares no semaphore. -/
theorem frame_reference : Cert.quiescent_ModQkvRefIdeal := fun m ρ _ =>
  (θ_run Cert.ModQkvRefIdeal.defs _ _).mono (fun r h => ⟨fun c => (h c).2.2.2, sem_eq_zero_of_no_sems (by decide) r.2⟩) (Cert.ModQkvRefIdeal.Value.run m ρ)

/-- The two programs end with equal results. -/
theorem equal : Cert.algebraic_ModQkvIdeal_ModQkvRefIdeal := fun m ρ m' ρ' _ hag =>
  ⟨fun c => Cert.ModQkvRefIdeal.Read.val_main_v63 (F := Ideal) (X m c) (S m c) (G m c) (M m c) (DX m c) (CT m c),
    fun c => Cert.ModQkvRefIdeal.Read.val_main_v41 (F := Ideal) (X m c) (G m c) (M m c) (CT m c),
    fun c => Cert.ModQkvRefIdeal.Read.val_main_v64 (F := Ideal) (X m c) (S m c) (M m c) (CT m c),
    (θ_run _ _ _).mono (fun _ h c => ⟨(h c).1.trans (final8 m c), (h c).2.1.trans (final9 m c), (h c).2.2.1.trans (final10 m c), (h c).2.2.2⟩)
      (Cert.ModQkvIdeal.Value.run_blocks m ρ),
    (θ_run _ _ _).mono (fun _ h c => ⟨(h c).1.trans ((Cert.ModQkvRefIdeal.Read.val_main_v63_eq _ _).trans (by
        rw [(hag c).1, (hag c).2.1, (hag c).2.2.1, (hag c).2.2.2.1, (hag c).2.2.2.2.1, (hag c).2.2.2.2.2])),
      (h c).2.1.trans ((Cert.ModQkvRefIdeal.Read.val_main_v41_eq _ _ _ _).trans (by rw [(hag c).1, (hag c).2.2.1, (hag c).2.2.2.1, (hag c).2.2.2.2.2])),
      (h c).2.2.1.trans ((Cert.ModQkvRefIdeal.Read.val_main_v64_eq _ _ _ _).trans (by rw [(hag c).1, (hag c).2.1, (hag c).2.2.2.1, (hag c).2.2.2.2.2])), (h c).2.2.2⟩)
      (Cert.ModQkvRefIdeal.Value.run m' ρ')⟩

end Cert.ModQkvIdeal.Val

end

end
-- ==== Proof.HeadRow.lean ====
module

public import Idealize.ShloMosaic.Lib.Pipeline.ValueKit

/-! One head's row of the gated norm: the norm over 128 entries, the gate, and the gradients of the row, the gate and the scale. -/

@[expose] public section

noncomputable section

open Idealize.ShloMosaic

namespace Cert.HeadRow

/-- The length of a head's row. -/
abbrev len : EReal := Ideal.ofBits FTy.f32 1124073472#32

variable (o z d g : Fin 128 → EReal)

/-- The mean square with the constant under the root. -/
def ms : EReal := Ideal.div (∑ k, o k * o k) len + Ideal.ofBits FTy.f32 897988541#32
/-- The reciprocal of the root mean square. -/
def rms : EReal := Ideal.rsqrt (ms o)
/-- The derivative of the reciprocal root. -/
def drms : EReal := Ideal.ofBits FTy.f32 3204448256#32 * Ideal.div (rms o) (ms o)
/-- The normalized row. -/
def hat (k : Fin 128) : EReal := o k * rms o
/-- The cotangent of the scaled row: the cotangent times the gate's silu. -/
def scaled (k : Fin 128) : EReal := d k * (z k * Ideal.logistic (z k))
/-- The cotangent of the normalized row. -/
def cot (k : Fin 128) : EReal := scaled z d k * g k
/-- The cotangent of the mean square. -/
def dms : EReal := Ideal.div ((∑ k, o k * cot z d g k) * drms o) len
/-- The gradient of the row. -/
def dRow (k : Fin 128) : EReal := cot z d g k * rms o + o k * dms o z d g + dms o z d g * o k
/-- The cotangent of the gate's silu. -/
def gated (k : Fin 128) : EReal := hat o k * g k * d k
/-- The gradient of the gate. -/
def dGate (k : Fin 128) : EReal :=
  gated o d g k * Ideal.logistic (z k) + z k * gated o d g k * (Ideal.logistic (z k) * (1 - Ideal.logistic (z k)))
/-- One row's part of the gradient of the scale. -/
def dScale (k : Fin 128) : EReal := hat o k * scaled z d k

end Cert.HeadRow

end

end
-- ==== Proof.GNormKernel.lean ====
module

public import proofs.«01_k».proof.Proof.Gen.GNormIdeal.Frame
public import proofs.«01_k».proof.Proof.Gen.GNormRefIdeal.Read
public import proofs.«01_k».proof.Proof.HeadRow
public import proofs.«01_k».proof.Proof.Sums
public import Idealize.ShloMosaic.Lib.Pipeline.ValueKit

/-! The reference of the gated norm's gradient, entry by entry. -/

@[expose] public section

set_option maxRecDepth 16384

noncomputable section

open Idealize.ShloMosaic Idealize.ShloMosaic.TcCoe Idealize.SL.Sem
open Cert.HeadRow

namespace Cert.GNormIdeal.Val
open Cert.GNormRefIdeal Cert.GNormRefIdeal.Read

/-- The arguments' contents. -/
abbrev Heads := (⟨S2x8x2048x128, .f32⟩ : BufTy).Contents (Elt Ideal)
abbrev Proj := (⟨S4096x4112, .f32⟩ : BufTy).Contents (Elt Ideal)
abbrev Scale := (⟨S128, .f32⟩ : BufTy).Contents (Elt Ideal)
abbrev Mat := (⟨S4096x1024, .f32⟩ : BufTy).Contents (Elt Ideal)

/-- The row of the flattened array that holds position `t` of sequence `b`. -/
abbrev rowOf (b : Fin 2) (t : Fin 2048) : Fin 4096 := ⟨b.val * 2048 + t.val, by omega⟩
/-- Column `k` of head `h`. -/
abbrev col (h : Fin 8) (k : Fin 128) : Fin 1024 := ⟨h.val * 128 + k.val, by omega⟩
/-- The gate's column in the projection. -/
abbrev gcol (h : Fin 8) (k : Fin 128) : Fin 4112 := ⟨3072 + (h.val * 128 + k.val), by omega⟩

variable (o : Heads) (p : Proj) (s : Scale) (d : Mat)

/-- One head's rows of the arguments. -/
abbrev oRow (b : Fin 2) (h : Fin 8) (t : Fin 2048) (x : Fin 128) : EReal := o (ix4 b h t x)
abbrev zRow (b : Fin 2) (h : Fin 8) (t : Fin 2048) (x : Fin 128) : EReal := p (ix2 (rowOf b t) (gcol h x))
abbrev dRowOf (b : Fin 2) (h : Fin 8) (t : Fin 2048) (x : Fin 128) : EReal := d (ix2 (rowOf b t) (col h x))
abbrev sRow (x : Fin 128) : EReal := s (ix1 x)

theorem v8 (b : Fin 2) (t : Fin 2048) (h : Fin 8) (q : Fin 1) : val_main_v8 (F := Ideal) o (ix4 b t h q) = ms (oRow o b h t) := by
  pointwise [val_main_v8, val_main_v7, val_main_v6, val_main_v5, val_main_v4, val_main_v3, val_main_v2, val_main_v1, val_main_cst, val_main_cst_0, val_main_cst_1, ms, len]
theorem v9 (b : Fin 2) (t : Fin 2048) (h : Fin 8) (q : Fin 1) : val_main_v9 (F := Ideal) o (ix4 b t h q) = rms (oRow o b h t) := by
  pointwise [val_main_v9, v8, rms]
theorem v12 (b : Fin 2) (t : Fin 2048) (h : Fin 8) (q : Fin 1) : val_main_v12 (F := Ideal) o (ix4 b t h q) = drms (oRow o b h t) := by
  pointwise [val_main_v12, val_main_v11, val_main_v10, val_main_cst_2, v8, v9, drms]
theorem v14 (b : Fin 2) (t : Fin 2048) (h : Fin 8) (k : Fin 128) : val_main_v14 (F := Ideal) o (ix4 b t h k) = hat (oRow o b h t) k := by
  pointwise [val_main_v14, val_main_v13, val_main_v1, v9, hat]
theorem v17 (b : Fin 2) (t : Fin 2048) (h : Fin 8) (k : Fin 128) : val_main_v17 (F := Ideal) o s (ix4 b t h k) = hat (oRow o b h t) k * s (ix1 k) := by
  pointwise [val_main_v17, val_main_v16, val_main_v15, v14]
theorem v18 (b : Fin 2) (t : Fin 2048) (h : Fin 8) (k : Fin 128) : val_main_v18 (F := Ideal) p (ix4 b t h k) = zRow p b h t k := by
  pointwise [val_main_v18, val_main_v0]
theorem v22 (b : Fin 2) (t : Fin 2048) (h : Fin 8) (k : Fin 128) : val_main_v22 (F := Ideal) d (ix4 b t h k) = dRowOf d b h t k := by
  pointwise [val_main_v22]
theorem v19_2 (b : Fin 2) (t : Fin 2048) (h : Fin 8) (k : Fin 128) : val_main_v19_2 (F := Ideal) p (ix4 b t h k) = Ideal.logistic (zRow p b h t k) := by
  pointwise [val_main_v19_2, val_main_call0_v4, val_main_call0_cst_0, val_main_call0_v3, val_main_call0_v2, val_main_call0_cst, val_main_call0_v1, val_main_call0_v0, v18, Ideal.logistic]
theorem v24 (b : Fin 2) (t : Fin 2048) (h : Fin 8) (k : Fin 128) : val_main_v24 (F := Ideal) p d (ix4 b t h k) = scaled (zRow p b h t) (dRowOf d b h t) k := by
  pointwise [val_main_v24, val_main_v19_0, v19_2, v22, v18, scaled]
theorem v25 (b : Fin 2) (t : Fin 2048) (h : Fin 8) (k : Fin 128) : val_main_v25 (F := Ideal) o p s d (ix4 b t h k)
    = dGate (oRow o b h t) (zRow p b h t) (dRowOf d b h t) (sRow s) k := by
  pointwise [val_main_v25, val_main_call1_v2, val_main_call1_v1, val_main_call1_v0, val_main_v23, val_main_v19_1, val_main_call0_v7, val_main_call0_v6, val_main_call0_cst_1,
    v17, v18, v19_2, v22, dGate, gated]
theorem v31 (b : Fin 2) (t : Fin 2048) (h : Fin 8) (k : Fin 128) : val_main_v31 (F := Ideal) p s d (ix4 b t h k)
    = cot (zRow p b h t) (dRowOf d b h t) (sRow s) k := by
  pointwise [val_main_v31, val_main_v30, val_main_v15, v24, cot]
theorem v42 (b : Fin 2) (t : Fin 2048) (h : Fin 8) (k : Fin 128) : val_main_v42 (F := Ideal) o p s d (ix4 b t h k)
    = dms (oRow o b h t) (zRow p b h t) (dRowOf d b h t) (sRow s) := by
  pointwise [val_main_v42, val_main_v41, val_main_v40, val_main_v39, val_main_cst_6, val_main_v38, val_main_v35, val_main_v34, val_main_v33, val_main_v1, val_main_cst_5, val_main_cst_7,
    v12, v31, dms, len, Finset.univ_unique, Finset.sum_singleton]
/-- The gradient of the rows. -/
theorem v47 (b : Fin 2) (h : Fin 8) (t : Fin 2048) (k : Fin 128) : val_main_v47 (F := Ideal) o p s d (ix4 b h t k)
    = dRow (oRow o b h t) (zRow p b h t) (dRowOf d b h t) (sRow s) k := by
  pointwise [val_main_v47, val_main_v46, val_main_v45, val_main_v44, val_main_v43, val_main_v37, val_main_v36, val_main_v1, v9, v31, v42, dRow]
/-- The gradient of the gate. -/
theorem v48 (b : Fin 2) (h : Fin 8) (t : Fin 2048) (k : Fin 128) : val_main_v48 (F := Ideal) o p s d (ix2 (rowOf b t) (col h k))
    = dGate (oRow o b h t) (zRow p b h t) (dRowOf d b h t) (sRow s) k := by
  refine Eq.trans ?_ (v25 o p s d b t h k)
  pointwise [val_main_v48, val_main_v26]
  exact congrArg (val_main_v25 o p s d) (by congr 1 <;> apply Fin.ext <;> simp only <;> omega)

variable {a b c n : ℕ}
/-- The indices that drop to `k` are those whose last coordinate is `k`. -/
theorem drop_three (h : (⟨4, ![a, b, c, n]⟩ : Shape).ReducesTo [0, 1, 2] ⟨1, ![n]⟩) (k : Fin n) (i : (⟨4, ![a, b, c, n]⟩ : Shape).Idx) :
    h.drop i = (ix1 k : (⟨1, ![n]⟩ : Shape).Idx) ↔ ∃ p : Fin a × Fin b × Fin c, (ix4 p.1 p.2.1 p.2.2 k : (⟨4, ![a, b, c, n]⟩ : Shape).Idx) = i := by
  constructor
  · intro e
    refine ⟨(i 0, i 1, i 2), ?_⟩
    funext x; apply Fin.ext
    match x with
    | ⟨0, _⟩ => rfl
    | ⟨1, _⟩ => rfl
    | ⟨2, _⟩ => rfl
    | ⟨3, _⟩ => exact (congrArg Fin.val (congrFun e ⟨0, Nat.zero_lt_one⟩)).symm
  · rintro ⟨p, rfl⟩
    funext x
    apply Fin.ext
    match x with
    | ⟨0, _⟩ => rfl
/-- The host's sum over all but the last axis. -/
theorem reduce_three (h : (⟨4, ![a, b, c, n]⟩ : Shape).ReducesTo [0, 1, 2] ⟨1, ![n]⟩) (v : (⟨4, ![a, b, c, n]⟩ : Shape).Idx → EReal) (init : EReal) (k : Fin n) :
    Ideal.hostReduceAdd h v init (ix1 k) = init + ∑ i : Fin a, ∑ j : Fin b, ∑ l : Fin c, v (ix4 i j l k) := by
  refine congrArg (init + ·) ((Finset.sum_filter_eq_sum_of_fiber _ (fun p : Fin a × Fin b × Fin c => (ix4 p.1 p.2.1 p.2.2 k : (⟨4, ![a, b, c, n]⟩ : Shape).Idx))
    (fun _ _ e => Prod.ext (congrFun e 0) (Prod.ext (congrFun e 1) (congrFun e 2))) (drop_three h k) v).trans ?_)
  simp only [Fintype.sum_prod_type]

/-- The gradient of the scale. -/
theorem v49 (q : Fin 1) (k : Fin 128) : val_main_v49 (F := Ideal) o p d (ix2 q k)
    = ∑ b : Fin 2, ∑ t : Fin 2048, ∑ h : Fin 8, dScale (oRow o b h t) (zRow p b h t) (dRowOf d b h t) k := by
  pointwise [val_main_v49, val_main_v32, val_main_v29, val_main_v28, val_main_v27, val_main_cst_3, val_main_cst_4, reduce_three, v14, v24, dScale,
    Finset.univ_unique, Finset.sum_singleton]

end Cert.GNormIdeal.Val

end

end
-- ==== Proof.GNormValue.lean ====
module

public import proofs.«01_k».proof.Proof.GNormKernel

/-! The output arrays of the gated norm's gradient are the reference's. -/

@[expose] public section

set_option maxRecDepth 16384

noncomputable section

open Idealize.ShloMosaic Idealize.ShloMosaic.TcCoe Idealize.SL.Sem
open Idealize.ShloMosaic.Pipeline (Dat)
open Cert.HeadRow

namespace Cert.GNormIdeal.Val
open Cert.GNormIdeal Cert.GNormIdeal.Gen

variable (m : (ℓ : Loc nD τ sig) → Buf (Elt Ideal) ℓ) (ρ : Dev nD → PrngReg) (c : Dev nD)

theorem idx : ∀ t : Fin cfg0.N, win0_0.index t = ![t.val, 0] ∧ win0_1.index t = ![t.val / 8, 0, t.val % 8, 0] ∧ win0_2.index t = ![t.val, 3] ∧ win0_3.index t = ![0, 0]
    ∧ win0_4.index t = ![t.val / 8, 0, t.val % 8, 0] ∧ win0_5.index t = ![t.val, 0] ∧ win0_6.index t = ![0, 0] :=
  (by decide +kernel : ∀ t : Fin grid0.N, _)

/-- The arguments on the device. -/
abbrev O : Heads := m ((c.tc : Thread nD τ).loc main_arg0)
abbrev P : Proj := m ((c.tc : Thread nD τ).loc main_arg1)
abbrev S : Scale := m ((c.tc : Thread nD τ).loc main_arg2)
abbrev CT : Mat := m ((c.tc : Thread nD τ).loc main_arg3)

theorem lt16 (t : Fin cfg0.N) : t.val < 16 := lt_of_lt_of_eq t.isLt N_0

/-- The sequence block `t` belongs to, and the position of its row `r` there. -/
abbrev sq (t : Fin cfg0.N) : Fin 2 := ⟨t.val / 8, by have := lt16 t; omega⟩
abbrev pos (t : Fin cfg0.N) (r : Fin 256) : Fin 2048 := ⟨256 * (t.val % 8) + r.val, by have := r.isLt; omega⟩
/-- The row of the flattened array. -/
abbrev row (t : Fin cfg0.N) (r : Fin 256) : Fin 4096 := ⟨256 * t.val + r.val, by have := lt16 t; have := r.isLt; omega⟩
theorem row_eq (t : Fin cfg0.N) (r : Fin 256) : row t r = rowOf (sq t) (pos t r) := by
  apply Fin.ext; have := r.isLt; simp only [row, rowOf, sq, pos]; omega

/-- The projection and the norm's scale, as the region finds them. -/
theorem host2 : (V m c main_v0 : (⟨S4096x4224, .f32⟩ : BufTy).Contents (Elt Ideal))
    = pad S4096x4224 ![0, 0] ![0, 112] ![0, 0] (P m c) (sitofp (F := Ideal) .f32 (constantI S_ 32 0#32)) pads_S4096x4112_S4096x4224_000_01120 h_S_ := by rfl
theorem host3 : (V m c main_v1 : (⟨S1x128, .f32⟩ : BufTy).Contents (Elt Ideal)) = broadcastInDim S1x128 ![1] bcast_S128_S1x128_1 (S m c) := by rfl

theorem blk0 (t : Fin cfg0.N) (r : Fin 256) (h : Fin 8) (x : Fin 128) : iblk m c 0 t (ix2 r (col h x)) = dRowOf (CT m c) (sq t) h (pos t r) x := by
  have e : iblk m c 0 t (ix2 r (col h x)) = CT m c (ix2 (row t r) (col h x)) := by blk_point [iblk, V, idx t]
  rw [e, row_eq]
theorem blk1 (t : Fin cfg0.N) (h : Fin 8) (r : Fin 256) (x : Fin 128) : iblk m c 1 t (ix4 0 h r x) = oRow (O m c) (sq t) h (pos t r) x := by
  blk_point [iblk, V, idx t]
theorem blk2 (t : Fin cfg0.N) (r : Fin 256) (h : Fin 8) (x : Fin 128) : X0_2 m c t (ix2 r (col h x)) = zRow (P m c) (sq t) h (pos t r) x := by
  have e : X0_2 m c t (ix2 r (col h x)) = V m c main_v0 (ix2 (row t r) ⟨3072 + (h.val * 128 + x.val), by omega⟩) := by
    unfold X0_2 Pipeline.Window.fill
    rw [dif_pos (moved0_2 t _)]
    refine congrArg (V m c main_v0) (?_ : ((View.whole main_v0).slice (win0_2.rect t)).emb _ = _)
    blk_ext [idx t]
  refine e.trans ((congrFun (host2 m c) _).trans ?_)
  rw [row_eq]
  pointwise []
  exact dif_pos ⟨(rowOf (sq t) (pos t r)).isLt, by omega⟩
theorem blk3 (t : Fin cfg0.N) (x : Fin 128) : iblk m c 3 t (ix2 0 x) = sRow (S m c) x := by
  have e : ((View.whole main_v1).slice (win0_3.rect t)).emb (ix2 0 x) = ix2 0 x := by blk_ext [idx t]
  refine (congrArg (V m c main_v1) e).trans ((congrFun (host3 m c) _).trans ?_)
  pointwise []
theorem emb4 (t : Fin cfg0.N) (h : Fin 8) (r : Fin 256) (x : Fin 128) : ((View.whole main_v2_0).slice (win0_4.rect t)).emb (ix4 0 h r x) = ix4 (sq t) h (pos t r) x := by
  blk_ext [idx t]
theorem emb5 (t : Fin cfg0.N) (r : Fin 256) (x : Fin 1024) : ((View.whole main_v2_1).slice (win0_5.rect t)).emb (ix2 r x) = ix2 (row t r) x := by
  blk_ext [idx t]

/-! ## What a point leaves -/

theorem out_row (t : Fin cfg0.N) (q : Fin 1) (n : Fin 8) (r : Fin 256) (k : Fin 128) : (outsAt0 m c t.val t.isLt).1 (ix4 q n r k)
    = dRow (fun k => iblk m c 1 t (ix4 0 n r k)) (fun k => X0_2 m c t (ix2 r (col n k))) (fun k => iblk m c 0 t (ix2 r (col n k))) (fun k => iblk m c 3 t (ix2 0 k)) k := by
  by_cases g0 : t.val % 16 = 0
  · rw [outsAt0_A m c t g0]; frame_out
    generalize iblk m c 0 t = B0, iblk m c 1 t = B1, X0_2 m c t = B2, iblk m c 3 t = B3
    clear g0
    canon_tiles x h
    all_goals
      idx_vars x
      open_payloads; pointwise [dRow, rms, hat, drms, cot, scaled, dms, ms, len, Finset.univ_unique, Finset.sum_singleton]
      blk_point []
  · rw [outsAt0_B m c t g0]; frame_out
    generalize iblk m c 0 t = B0, iblk m c 1 t = B1, X0_2 m c t = B2, iblk m c 3 t = B3
    clear g0
    canon_tiles x h
    all_goals
      idx_vars x
      open_payloads; pointwise [dRow, rms, hat, drms, cot, scaled, dms, ms, len, Finset.univ_unique, Finset.sum_singleton]
      blk_point []

theorem out_gate (t : Fin cfg0.N) (n : Fin 8) (r : Fin 256) (k : Fin 128) : (outsAt0 m c t.val t.isLt).2.1 (ix2 r (col n k))
    = dGate (fun k => iblk m c 1 t (ix4 0 n r k)) (fun k => X0_2 m c t (ix2 r (col n k))) (fun k => iblk m c 0 t (ix2 r (col n k))) (fun k => iblk m c 3 t (ix2 0 k)) k := by
  by_cases g0 : t.val % 16 = 0
  · rw [outsAt0_A m c t g0]; frame_out
    generalize iblk m c 0 t = B0, iblk m c 1 t = B1, X0_2 m c t = B2, iblk m c 3 t = B3
    clear g0
    canon_tiles x h
    all_goals
      idx_vars x
      open_payloads; pointwise [dGate, gated, rms, hat, ms, len, Finset.univ_unique, Finset.sum_singleton]
      blk_point []
  · rw [outsAt0_B m c t g0]; frame_out
    generalize iblk m c 0 t = B0, iblk m c 1 t = B1, X0_2 m c t = B2, iblk m c 3 t = B3
    clear g0
    canon_tiles x h
    all_goals
      idx_vars x
      open_payloads; pointwise [dGate, gated, rms, hat, ms, len, Finset.univ_unique, Finset.sum_singleton]
      blk_point []

/-- Block `t`'s part of the gradient of the scale. -/
def scalePart (t : Fin cfg0.N) (j : S1x128.Idx) : EReal :=
  ∑ n : Fin 8, ∑ r : Fin 256, dScale (fun k => iblk m c 1 t (ix4 0 n r k)) (fun k => X0_2 m c t (ix2 r (col n k))) (fun k => iblk m c 0 t (ix2 r (col n k))) (j 1)

theorem scale_next (t : Fin cfg0.N) (h0 : ¬ t.val % 16 = 0) (j : S1x128.Idx) : (outsAt0 m c t.val t.isLt).2.2 j
    = (outsAt0 m c (t.val - 1) (Nat.lt_of_le_of_lt (Nat.sub_le _ _) t.isLt)).2.2 j + scalePart m c t j := by
  idx_vars j
  obtain rfl : j0 = 0 := Subsingleton.elim _ _
  rw [outsAt0_B m c t h0]; frame_out
  rw [scalePart, Fin.sum_univ_eight]
  simp only [dScale, hat, rms, ms, scaled, len, col]
  generalize iblk m c 0 t = B0, iblk m c 1 t = B1, X0_2 m c t = B2, (outsAt0 m c (t.val - 1) _).2.2 = B4
  open_payloads
  pointwise [dScale, hat, rms, ms, scaled, len]

theorem scale_first (t : Fin cfg0.N) (h0 : t.val % 16 = 0) (j : S1x128.Idx) : (outsAt0 m c t.val t.isLt).2.2 j = 0 + scalePart m c t j := by
  idx_vars j
  obtain rfl : j0 = 0 := Subsingleton.elim _ _
  rw [outsAt0_A m c t h0]; frame_out
  rw [scalePart, Fin.sum_univ_eight]
  simp only [dScale, hat, rms, ms, scaled, len, col]
  generalize iblk m c 0 t = B0, iblk m c 1 t = B1, X0_2 m c t = B2
  open_payloads
  pointwise [dScale, hat, rms, ms, scaled, len]

/-! ## The output arrays -/

theorem final4 : (dats m 0 c).arrAt 4 cfg0.N = Cert.GNormRefIdeal.Read.val_main_v47 (F := Ideal) (O m c) (P m c) (S m c) (CT m c) := by
  refine (dats m 0 c).arrAt_eq_of_covers 4 _ (by decide +kernel) fun t hf y => ?_
  blk_simp
  rw [after0_4]
  idx_vars y
  obtain rfl : y0 = 0 := Subsingleton.elim _ _
  rw [emb4, v47]
  refine (out_row m c t 0 y1 y2 y3).trans ?_
  simp only [blk0, blk1, blk2, blk3]

theorem final5 : (dats m 0 c).arrAt 5 cfg0.N = Cert.GNormRefIdeal.Read.val_main_v48 (F := Ideal) (O m c) (P m c) (S m c) (CT m c) := by
  refine (dats m 0 c).arrAt_eq_of_covers 5 _ (by decide +kernel) fun t hf y => ?_
  blk_simp
  rw [after0_5]
  idx_vars y
  obtain ⟨n, k, rfl⟩ : ∃ (n : Fin 8) (k : Fin 128), y1 = col n k :=
    ⟨⟨y1.val / 128, by omega⟩, ⟨y1.val % 128, by omega⟩, Fin.ext (by simp only [col]; omega)⟩
  rw [emb5, row_eq, v48]
  refine (out_gate m c t n y0 k).trans ?_
  simp only [blk0, blk1, blk2, blk3]

theorem sum_scale (k : Fin 128) : (∑ t : Fin cfg0.N, scalePart m c t (ix2 0 k))
    = ∑ b : Fin 2, ∑ t : Fin 2048, ∑ h : Fin 8, dScale (oRow (O m c) b h t) (zRow (P m c) b h t) (dRowOf (CT m c) b h t) k := by
  have at_row (t : Fin cfg0.N) : scalePart m c t (ix2 0 k)
      = ∑ r : Fin 256, ∑ h : Fin 8, dScale (oRow (O m c) (sq t) h (pos t r)) (zRow (P m c) (sq t) h (pos t r)) (dRowOf (CT m c) (sq t) h (pos t r)) k := by
    rw [scalePart, Finset.sum_comm]
    simp only [blk0, blk1, blk2]
    rfl
  simp only [at_row]
  let g (b : Fin 2) (t : Fin 2048) : EReal := ∑ h : Fin 8, dScale (oRow (O m c) b h t) (zRow (P m c) b h t) (dRowOf (CT m c) b h t) k
  let f (R : Fin 4096) : EReal := g ⟨R.val / 2048, by omega⟩ ⟨R.val % 2048, by omega⟩
  have e1 : (∑ b : Fin 2, ∑ t : Fin 2048, g b t) = ∑ R : Fin 4096, f R := by
    rw [← Sums.blocks (T := 2) (n := 2048) (N := 4096) rfl f rowOf (fun b t => by simp only [rowOf]; omega)]
    refine Finset.sum_congr rfl fun b _ => Finset.sum_congr rfl fun t _ => ?_
    simp only [f]
    congr 1 <;> apply Fin.ext <;> simp only [rowOf] <;> omega
  refine Eq.trans ?_ e1.symm
  rw [← Sums.blocks (T := cfg0.N) (n := 256) (by rw [show cfg0.N = 16 from N_0]) f row (fun _ _ => rfl)]
  refine Finset.sum_congr rfl fun t _ => Finset.sum_congr rfl fun r _ => ?_
  show g (sq t) (pos t r) = f (row t r)
  simp only [f]
  have := lt16 t
  have := r.isLt
  congr 1 <;> apply Fin.ext <;> simp only [row, sq, pos] <;> omega

theorem final6 : (dats m 0 c).arrAt 6 cfg0.N = Cert.GNormRefIdeal.Read.val_main_v49 (F := Ideal) (O m c) (P m c) (CT m c) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0) (scalePart m c)
    (scale_first m c) (scale_next m c) (le_of_eq N_0) t0_15 rfl j]
  rw [zero_add]
  idx_vars j
  obtain rfl : j0 = 0 := Subsingleton.elim _ _
  exact (sum_scale m c j1).trans (v49 (O m c) (P m c) (CT m c) 0 j1).symm

end Cert.GNormIdeal.Val

end

end
-- ==== Proof.GNormClaim.lean ====
module

public import proofs.«01_k».proof.Defs
public import proofs.«01_k».proof.Proof.Gen.GNorm.Frame
public import proofs.«01_k».proof.Proof.Gen.GNormIdeal.Value
public import proofs.«01_k».proof.Proof.Gen.GNormRefIdeal.Run
public import proofs.«01_k».proof.Proof.GNormValue

/-! The claims about the gradient of the gated norm. -/

@[expose] public section

noncomputable section

open Idealize.ShloMosaic Idealize.ShloMosaic.TcCoe Idealize.SL.Sem

namespace Cert.GNormIdeal.Val
open Cert.GNormIdeal Cert.GNormIdeal.Gen

theorem frame_kernel : Cert.quiescent_GNorm := fun m ρ _ => Cert.GNorm.Gen.frame m ρ
theorem frame_ideal : Cert.quiescent_GNormIdeal := fun m ρ _ => Cert.GNormIdeal.Gen.frame m ρ

/-- The reference is a straight line of host operations and declares no semaphore. -/
theorem frame_reference : Cert.quiescent_GNormRefIdeal := fun m ρ _ =>
  (θ_run Cert.GNormRefIdeal.defs _ _).mono (fun r h => ⟨fun c => (h c).2.2.2, sem_eq_zero_of_no_sems (by decide) r.2⟩) (Cert.GNormRefIdeal.Value.run m ρ)

/-- The two programs end with equal results. -/
theorem equal : Cert.algebraic_GNormIdeal_GNormRefIdeal := fun m ρ m' ρ' _ hag =>
  ⟨fun c => Cert.GNormRefIdeal.Read.val_main_v47 (F := Ideal) (O m c) (P m c) (S m c) (CT m c),
    fun c => Cert.GNormRefIdeal.Read.val_main_v48 (F := Ideal) (O m c) (P m c) (S m c) (CT m c),
    fun c => Cert.GNormRefIdeal.Read.val_main_v49 (F := Ideal) (O m c) (P m c) (CT m c),
    (θ_run _ _ _).mono (fun _ h c => ⟨(h c).1.trans (final4 m c), (h c).2.1.trans (final5 m c), (h c).2.2.1.trans (final6 m c), (h c).2.2.2⟩)
      (Cert.GNormIdeal.Value.run_blocks m ρ),
    (θ_run _ _ _).mono (fun _ h c => ⟨(h c).1.trans ((Cert.GNormRefIdeal.Read.val_main_v47_eq _ _).trans (by
        rw [(hag c).1, (hag c).2.1, (hag c).2.2.1, (hag c).2.2.2])),
      (h c).2.1.trans ((Cert.GNormRefIdeal.Read.val_main_v48_eq _ _ _ _).trans (by rw [(hag c).1, (hag c).2.1, (hag c).2.2.1, (hag c).2.2.2])),
      (h c).2.2.1.trans ((Cert.GNormRefIdeal.Read.val_main_v49_eq _ _ _).trans (by rw [(hag c).1, (hag c).2.1, (hag c).2.2.2])), (h c).2.2.2⟩)
      (Cert.GNormRefIdeal.Value.run m' ρ')⟩

end Cert.GNormIdeal.Val

end

end
-- ==== Proof.GNormFwdValue.lean ====
module

public import proofs.«01_k».proof.Proof.Gen.GNormFwdIdeal.Value
public import proofs.«01_k».proof.Proof.Gen.GNormFwdRefIdeal.Read
public import proofs.«01_k».proof.Proof.HeadRow
public import Idealize.ShloMosaic.Lib.Pipeline.ValueKit
public import Idealize.ShloMosaic.Lib.Pipeline.ReadBack

/-! The forward call of the gated norm of each head: its output is the reference's. -/

@[expose] public section

set_option maxRecDepth 16384

noncomputable section

open Idealize.ShloMosaic Idealize.ShloMosaic.TcCoe Idealize.SL.Sem
open Idealize.ShloMosaic.Pipeline (Dat)
open Cert.HeadRow

namespace Cert.GNormFwdIdeal.Val

/-- The arguments' contents. -/
abbrev Heads := (⟨S2x8x2048x128, .f32⟩ : BufTy).Contents (Elt Ideal)
abbrev Proj := (⟨S4096x4112, .f32⟩ : BufTy).Contents (Elt Ideal)
abbrev Scale := (⟨S128, .f32⟩ : BufTy).Contents (Elt Ideal)

/-- The row of the flattened array that holds position `t` of sequence `b`. -/
abbrev rowOf (b : Fin 2) (t : Fin 2048) : Fin 4096 := ⟨b.val * 2048 + t.val, by omega⟩
/-- Column `k` of head `h`. -/
abbrev col (h : Fin 8) (k : Fin 128) : Fin 1024 := ⟨h.val * 128 + k.val, by omega⟩
/-- The gate's column in the projection. -/
abbrev gcol (h : Fin 8) (k : Fin 128) : Fin 4112 := ⟨3072 + (h.val * 128 + k.val), by omega⟩

/-- The gated norm of one head's row. -/
def gatedNorm (o z g : Fin 128 → EReal) (k : Fin 128) : EReal := hat o k * g k * (z k * Ideal.logistic (z k))

section Reference
open Cert.GNormFwdRefIdeal Cert.GNormFwdRefIdeal.Read

variable (o : Heads) (p : Proj) (s : Scale)

/-- One head's rows of the arguments. -/
abbrev oRow (b : Fin 2) (h : Fin 8) (t : Fin 2048) (x : Fin 128) : EReal := o (ix4 b h t x)
abbrev zRow (b : Fin 2) (h : Fin 8) (t : Fin 2048) (x : Fin 128) : EReal := p (ix2 (rowOf b t) (gcol h x))
abbrev sRow (x : Fin 128) : EReal := s (ix1 x)

theorem v9 (b : Fin 2) (t : Fin 2048) (h : Fin 8) (q : Fin 1) : val_main_v9 (F := Ideal) o (ix4 b t h q) = rms (oRow o b h t) := by
  pointwise [val_main_v9, val_main_v8, val_main_v7, val_main_v6, val_main_v5, val_main_v4, val_main_v3, val_main_v2, val_main_v1, val_main_cst, val_main_cst_0, val_main_cst_1, rms, ms, len]
theorem v14 (b : Fin 2) (t : Fin 2048) (h : Fin 8) (k : Fin 128) : val_main_v14 (F := Ideal) o s (ix4 b t h k) = hat (oRow o b h t) k * s (ix1 k) := by
  pointwise [val_main_v14, val_main_v13, val_main_v12, val_main_v11, val_main_v10, val_main_v1, v9, hat]
theorem v15 (b : Fin 2) (t : Fin 2048) (h : Fin 8) (k : Fin 128) : val_main_v15 (F := Ideal) p (ix4 b t h k) = zRow p b h t k := by
  pointwise [val_main_v15, val_main_v0]
theorem v16 (b : Fin 2) (t : Fin 2048) (h : Fin 8) (k : Fin 128) : val_main_v16 (F := Ideal) p (ix4 b t h k) = zRow p b h t k * Ideal.logistic (zRow p b h t k) := by
  pointwise [val_main_v16, val_main_call0_v5, val_main_call0_v4, val_main_call0_cst_0, val_main_call0_v3, val_main_call0_v2, val_main_call0_cst, val_main_call0_v1, val_main_call0_v0, v15, Ideal.logistic]
theorem v17 (b : Fin 2) (t : Fin 2048) (h : Fin 8) (k : Fin 128) : val_main_v17 (F := Ideal) o p s (ix4 b t h k)
    = gatedNorm (oRow o b h t) (zRow p b h t) (sRow s) k := by
  pointwise [val_main_v17, v14, v16, gatedNorm]
theorem v19 (b : Fin 2) (h : Fin 8) (t : Fin 2048) (k : Fin 128) : val_main_v19 (F := Ideal) o p s (ix2 (rowOf b t) (col h k))
    = gatedNorm (oRow o b h t) (zRow p b h t) (sRow s) k := by
  refine Eq.trans ?_ (v17 o p s b t h k)
  pointwise [val_main_v19, val_main_v18]
  exact congrArg (val_main_v17 o p s) (by congr 1 <;> apply Fin.ext <;> simp only <;> omega)

end Reference

open Cert.GNormFwdIdeal Cert.GNormFwdIdeal.Gen

variable (m : (ℓ : Loc nD τ sig) → Buf (Elt Ideal) ℓ) (ρ : Dev nD → PrngReg) (c : Dev nD)

theorem idx : ∀ t : Fin cfg0.N, win0_0.index t = ![t.val / 8, 0, t.val % 8, 0] ∧ win0_1.index t = ![t.val, 3] ∧ win0_2.index t = ![0, 0] ∧ win0_3.index t = ![t.val, 0] :=
  (by decide +kernel : ∀ t : Fin grid0.N, _)

/-- The arguments on the device. -/
abbrev O : Heads := m ((c.tc : Thread nD τ).loc main_arg0)
abbrev P : Proj := m ((c.tc : Thread nD τ).loc main_arg1)
abbrev S : Scale := m ((c.tc : Thread nD τ).loc main_arg2)

theorem lt16 (t : Fin cfg0.N) : t.val < 16 := lt_of_lt_of_eq t.isLt N_0

/-- The sequence block `t` belongs to, and the position of its row `r` there. -/
abbrev sq (t : Fin cfg0.N) : Fin 2 := ⟨t.val / 8, by have := lt16 t; omega⟩
abbrev pos (t : Fin cfg0.N) (r : Fin 256) : Fin 2048 := ⟨256 * (t.val % 8) + r.val, by have := r.isLt; omega⟩
/-- The row of the flattened array. -/
abbrev row (t : Fin cfg0.N) (r : Fin 256) : Fin 4096 := ⟨256 * t.val + r.val, by have := lt16 t; have := r.isLt; omega⟩
theorem row_eq (t : Fin cfg0.N) (r : Fin 256) : row t r = rowOf (sq t) (pos t r) := by
  apply Fin.ext; have := r.isLt; simp only [row, rowOf, sq, pos]; omega

/-- The projection and the norm's scale, as the region finds them. -/
theorem host1 : (V m c main_v0 : (⟨S4096x4224, .f32⟩ : BufTy).Contents (Elt Ideal))
    = pad S4096x4224 ![0, 0] ![0, 112] ![0, 0] (P m c) (sitofp (F := Ideal) .f32 (constantI S_ 32 0#32)) pads_S4096x4112_S4096x4224_000_01120 h_S_ := by rfl
theorem host2 : (V m c main_v1 : (⟨S1x128, .f32⟩ : BufTy).Contents (Elt Ideal)) = broadcastInDim S1x128 ![1] bcast_S128_S1x128_1 (S m c) := by rfl

theorem blk0 (t : Fin cfg0.N) (h : Fin 8) (r : Fin 256) (x : Fin 128) : iblk m c 0 t (ix4 0 h r x) = oRow (O m c) (sq t) h (pos t r) x := by
  blk_point [iblk, V, idx t]
theorem blk1 (t : Fin cfg0.N) (r : Fin 256) (h : Fin 8) (x : Fin 128) : X0_1 m c t (ix2 r (col h x)) = zRow (P m c) (sq t) h (pos t r) x := by
  have e : X0_1 m c t (ix2 r (col h x)) = V m c main_v0 (ix2 (row t r) ⟨3072 + (h.val * 128 + x.val), by omega⟩) := by
    unfold X0_1 Pipeline.Window.fill
    rw [dif_pos (moved0_1 t _)]
    refine congrArg (V m c main_v0) (?_ : ((View.whole main_v0).slice (win0_1.rect t)).emb _ = _)
    blk_ext [idx t]
  refine e.trans ((congrFun (host1 m c) _).trans ?_)
  rw [row_eq]
  pointwise []
  exact dif_pos ⟨(rowOf (sq t) (pos t r)).isLt, by omega⟩
theorem blk2 (t : Fin cfg0.N) (x : Fin 128) : iblk m c 2 t (ix2 0 x) = sRow (S m c) x := by
  have e : ((View.whole main_v1).slice (win0_2.rect t)).emb (ix2 0 x) = ix2 0 x := by blk_ext [idx t]
  refine (congrArg (V m c main_v1) e).trans ((congrFun (host2 m c) _).trans ?_)
  pointwise []
theorem emb3 (t : Fin cfg0.N) (r : Fin 256) (x : Fin 1024) : ((View.whole main_v2).slice (win0_3.rect t)).emb (ix2 r x) = ix2 (row t r) x := by
  blk_ext [idx t]

theorem out (t : Fin cfg0.N) (n : Fin 8) (r : Fin 256) (k : Fin 128) : outsAt0 m c t (ix2 r (col n k))
    = gatedNorm (fun k => iblk m c 0 t (ix4 0 n r k)) (fun k => X0_1 m c t (ix2 r (col n k))) (fun k => iblk m c 2 t (ix2 0 k)) k := by
  unfold outsAt0
  frame_out
  generalize iblk m c 0 t = B0, X0_1 m c t = B1, iblk m c 2 t = B2
  canon_tiles x h
  all_goals
    idx_vars x
    open_payloads; pointwise [gatedNorm, rms, hat, ms, len, Finset.univ_unique, Finset.sum_singleton]
    blk_point []

/-- The output. -/
theorem final3 : (dats m 0 c).arrAt 3 cfg0.N = Cert.GNormFwdRefIdeal.Read.val_main_v19 (F := Ideal) (O m c) (P m c) (S m c) := by
  refine (dats m 0 c).arrAt_eq_of_covers 3 _ (by decide +kernel) fun t hf y => ?_
  blk_simp
  rw [after0_3]
  idx_vars y
  obtain ⟨n, k, rfl⟩ : ∃ n k, y1 = col n k := ⟨⟨y1.val / 128, by omega⟩, ⟨y1.val % 128, by omega⟩, by apply Fin.ext; simp only [col]; omega⟩
  rw [out, emb3, row_eq, v19]
  simp only [blk0, blk1, blk2]

end Cert.GNormFwdIdeal.Val

end

end
-- ==== Proof.GNormFwdClaim.lean ====
module

public import proofs.«01_k».proof.Defs
public import proofs.«01_k».proof.Proof.Gen.GNormFwd.Frame
public import proofs.«01_k».proof.Proof.Gen.GNormFwdIdeal.Value
public import proofs.«01_k».proof.Proof.Gen.GNormFwdRefIdeal.Run
public import proofs.«01_k».proof.Proof.GNormFwdValue

/-! The claims about the forward call of the gated norm. -/

@[expose] public section

noncomputable section

open Idealize.ShloMosaic Idealize.ShloMosaic.TcCoe Idealize.SL.Sem

namespace Cert.GNormFwdIdeal.Val
open Cert.GNormFwdIdeal Cert.GNormFwdIdeal.Gen

theorem frame_kernel : Cert.quiescent_GNormFwd := fun m ρ _ => Cert.GNormFwd.Gen.frame m ρ
theorem frame_ideal : Cert.quiescent_GNormFwdIdeal := fun m ρ _ => Cert.GNormFwdIdeal.Gen.frame m ρ

/-- The reference is a straight line of host operations and declares no semaphore. -/
theorem frame_reference : Cert.quiescent_GNormFwdRefIdeal := fun m ρ _ =>
  (θ_run Cert.GNormFwdRefIdeal.defs _ _).mono (fun r h => ⟨fun c => (h c).2, sem_eq_zero_of_no_sems (by decide) r.2⟩) (Cert.GNormFwdRefIdeal.Value.run m ρ)

/-- The two programs end with equal results. -/
theorem equal : Cert.algebraic_GNormFwdIdeal_GNormFwdRefIdeal := fun m ρ m' ρ' _ hag =>
  ⟨fun c => Cert.GNormFwdRefIdeal.Read.val_main_v19 (F := Ideal) (O m c) (P m c) (S m c),
    (θ_run _ _ _).mono (fun _ h c => ⟨(h c).1.trans (final3 m c), (h c).2⟩) (Cert.GNormFwdIdeal.Value.run_blocks m ρ),
    (θ_run _ _ _).mono (fun _ h c => ⟨(h c).1.trans ((Cert.GNormFwdRefIdeal.Read.val_main_v19_eq _ _ _).trans (by
        rw [(hag c).1, (hag c).2.1, (hag c).2.2])), (h c).2⟩) (Cert.GNormFwdRefIdeal.Value.run m' ρ')⟩

end Cert.GNormFwdIdeal.Val

end

end
-- ==== Proof.ScanMath.lean ====
module

public import Idealize.ShloMosaic.PureOps.Ideal.Laws

/-! The scan over a sequence's chunks, one head at a time, as sums of products: the state before each chunk, what a chunk
    returns, and the gradient of the state after each chunk, from the last chunk down. -/

@[expose] public section

noncomputable section

namespace Cert.ScanMath

/-- A matrix of extended reals. -/
abbrev Mx (p q : ℕ) := Fin p → Fin q → EReal

/-- One head's sequence, cut into 32 chunks of 64 rows. -/
structure Seq where
  u : Fin 32 → Mx 64 128
  w : Fin 32 → Mx 64 128
  q : Fin 32 → Mx 64 128
  k : Fin 32 → Mx 64 128
  i : Fin 32 → Mx 64 64
  e : Fin 32 → EReal
  ct : Fin 32 → Mx 64 128

/-- A chunk's new values: its values less what the state already holds for its keys. -/
def newv (u w : Mx 64 128) (s : Mx 128 128) : Mx 64 128 := fun t d => u t d - ∑ j, w t j * s j d

/-- A chunk's output. -/
def out (q : Mx 64 128) (i : Mx 64 64) (s : Mx 128 128) (v : Mx 64 128) : Mx 64 128 :=
  fun t d => (∑ j, q t j * s j d) + ∑ a, i t a * v a d

/-- The state after a chunk. -/
def next (s : Mx 128 128) (e : EReal) (k v : Mx 64 128) : Mx 128 128 := fun j d => s j d * e + ∑ t, k t j * v t d

/-- The gradient of a chunk's new values. -/
def dv (i : Mx 64 64) (k ct : Mx 64 128) (g : Mx 128 128) : Mx 64 128 :=
  fun t d => (∑ a, i a t * ct a d) + ∑ j, k t j * g j d

/-- The gradient of the state before a chunk. -/
def prev (g : Mx 128 128) (e : EReal) (q ct w y : Mx 64 128) : Mx 128 128 :=
  fun j d => (g j d * e + ∑ t, q t j * ct t d) - ∑ t, w t j * y t d

/-- The gradient of the matrix inside a chunk. -/
def di (ct v : Mx 64 128) : Mx 64 64 := fun t a => ∑ d, ct t d * v a d

/-- Rows times the transpose of a state: the gradients of the queries and of the keys. -/
def rows (x : Mx 64 128) (s : Mx 128 128) : Mx 64 128 := fun t j => ∑ d, x t d * s j d

/-- The gradient of the rows the state is read with. -/
def dw (y : Mx 64 128) (s : Mx 128 128) : Mx 64 128 := fun t j => 0 - ∑ d, y t d * s j d

/-- The gradient of the decay. -/
def de (g s : Mx 128 128) : EReal := ∑ j, ∑ d, g j d * s j d

namespace Seq

variable (A : Seq)

/-- The state before chunk `n`. -/
def state : ℕ → Mx 128 128
  | 0 => fun _ _ => 0
  | n + 1 => if h : n < 32 then next (state n) (A.e ⟨n, h⟩) (A.k ⟨n, h⟩) (newv (A.u ⟨n, h⟩) (A.w ⟨n, h⟩) (state n)) else state n

/-- Chunk `n`'s new values. -/
def vs (n : Fin 32) : Mx 64 128 := newv (A.u n) (A.w n) (A.state n.val)

/-- Chunk `n`'s output. -/
def outs (n : Fin 32) : Mx 64 128 := out (A.q n) (A.i n) (A.state n.val) (A.vs n)

theorem state_succ (n : Fin 32) : A.state (n.val + 1) = next (A.state n.val) (A.e n) (A.k n) (A.vs n) := by
  rw [state, dif_pos n.isLt]; rfl

/-- The gradient of the state after all but the last `n` chunks. -/
def grad : ℕ → Mx 128 128
  | 0 => fun _ _ => 0
  | n + 1 => if _h : n < 32 then
      prev (grad n) (A.e ⟨31 - n, by omega⟩) (A.q ⟨31 - n, by omega⟩) (A.ct ⟨31 - n, by omega⟩) (A.w ⟨31 - n, by omega⟩)
        (dv (A.i ⟨31 - n, by omega⟩) (A.k ⟨31 - n, by omega⟩) (A.ct ⟨31 - n, by omega⟩) (grad n)) else grad n

/-- The gradient of the state after chunk `n`. -/
def after (n : Fin 32) : Mx 128 128 := A.grad (31 - n.val)

/-- The gradient of chunk `n`'s new values. -/
def dvs (n : Fin 32) : Mx 64 128 := dv (A.i n) (A.k n) (A.ct n) (A.after n)

theorem grad_succ (n : Fin 32) : A.grad (31 - n.val + 1) = prev (A.after n) (A.e n) (A.q n) (A.ct n) (A.w n) (A.dvs n) := by
  have e : (⟨31 - (31 - n.val), by omega⟩ : Fin 32) = n := Fin.ext (by simp only; omega)
  rw [grad, dif_pos (by omega), e]; rfl

end Seq

/-! ## Real numbers stay real -/

/-- An extended real that is a real number. -/
def Re (x : EReal) : Prop := ∃ r : ℝ, x = (r : EReal)

theorem Re.add {x y : EReal} : Re x → Re y → Re (x + y)
  | ⟨a, ha⟩, ⟨b, hb⟩ => ⟨a + b, by rw [ha, hb, EReal.coe_add]⟩

theorem Re.sub {x y : EReal} : Re x → Re y → Re (x - y)
  | ⟨a, ha⟩, ⟨b, hb⟩ => ⟨a - b, by rw [ha, hb, EReal.coe_sub]⟩

theorem Re.mul {x y : EReal} : Re x → Re y → Re (x * y)
  | ⟨a, ha⟩, ⟨b, hb⟩ => ⟨a * b, by rw [ha, hb, EReal.coe_mul]⟩

theorem Re.zero : Re 0 := ⟨0, rfl⟩

theorem Re.sum {ι : Type} (s : Finset ι) (f : ι → EReal) (h : ∀ a, Re (f a)) : Re (∑ a ∈ s, f a) := by
  classical
  induction s using Finset.induction_on with
  | empty => rw [Finset.sum_empty]; exact Re.zero
  | insert a s ha ih => rw [Finset.sum_insert ha]; exact (h a).add ih

/-- A sum of products of a negated real factor is the negated sum. -/
theorem neg_sum {ι : Type} (s : Finset ι) (f g : ι → EReal) (hf : ∀ a, Re (f a)) (hg : ∀ a, Re (g a)) :
    ∑ a ∈ s, -(f a) * g a = -∑ a ∈ s, f a * g a := by
  classical
  induction s using Finset.induction_on with
  | empty => simp
  | insert a s ha ih =>
    rw [Finset.sum_insert ha, Finset.sum_insert ha, ih, EReal.neg_mul]
    obtain ⟨x, hx⟩ := (hf a).mul (hg a)
    obtain ⟨y, hy⟩ := Re.sum s (fun a => f a * g a) fun a => (hf a).mul (hg a)
    rw [hx, hy, ← EReal.coe_add, ← EReal.coe_neg, ← EReal.coe_neg, ← EReal.coe_neg, ← EReal.coe_add, neg_add]

/-- Every entry of a sequence is a real number. -/
structure Seq.Real (A : Seq) : Prop where
  u : ∀ n t d, Re (A.u n t d)
  w : ∀ n t d, Re (A.w n t d)
  q : ∀ n t d, Re (A.q n t d)
  k : ∀ n t d, Re (A.k n t d)
  i : ∀ n t d, Re (A.i n t d)
  e : ∀ n, Re (A.e n)
  ct : ∀ n t d, Re (A.ct n t d)

namespace Seq.Real

variable {A : Seq} (H : A.Real)
include H

theorem state : ∀ n j d, Re (A.state n j d)
  | 0, _, _ => Re.zero
  | n + 1, j, d => by
    unfold Seq.state
    split
    · exact ((state n j d).mul (H.e _)).add (Re.sum _ _ fun t => (H.k _ t j).mul ((H.u _ t d).sub (Re.sum _ _ fun a => (H.w _ t a).mul (state n a d))))
    · exact state n j d

theorem dvOf (n : Fin 32) (g : Mx 128 128) (hg : ∀ j d, Re (g j d)) (t d) : Re (dv (A.i n) (A.k n) (A.ct n) g t d) :=
  (Re.sum _ _ fun a => (H.i n a t).mul (H.ct n a d)).add (Re.sum _ _ fun j => (H.k n t j).mul (hg j d))

theorem grad : ∀ n j d, Re (A.grad n j d)
  | 0, _, _ => Re.zero
  | n + 1, j, d => by
    unfold Seq.grad
    split
    · exact (((grad n j d).mul (H.e _)).add (Re.sum _ _ fun t => (H.q _ t j).mul (H.ct _ t d))).sub
        (Re.sum _ _ fun t => (H.w _ t j).mul (H.dvOf _ _ (grad n) t d))
    · exact grad n j d

theorem dvs (n t d) : Re (A.dvs n t d) := H.dvOf n _ (H.grad _) t d

/-- The reference's form of the gradient of the state before a chunk. -/
theorem prev_eq (n : Fin 32) (j d) : prev (A.after n) (A.e n) (A.q n) (A.ct n) (A.w n) (A.dvs n) j d
    = (A.after n j d * A.e n + ∑ t, A.ct n t d * A.q n t j) + ∑ t, -(A.dvs n t d) * A.w n t j := by
  rw [neg_sum _ _ _ (fun t => H.dvs n t d) fun t => H.w n t j, prev, sub_eq_add_neg]
  have e1 : ∑ t, A.q n t j * A.ct n t d = ∑ t, A.ct n t d * A.q n t j := Finset.sum_congr rfl fun t _ => mul_comm _ _
  have e2 : ∑ t, A.w n t j * A.dvs n t d = ∑ t, A.dvs n t d * A.w n t j := Finset.sum_congr rfl fun t _ => mul_comm _ _
  rw [e1, e2]

/-- The reference's form of the gradient of the rows the state is read with. -/
theorem dw_eq (n : Fin 32) (t j) : dw (A.dvs n) (A.state n.val) t j = ∑ d, -(A.dvs n t d) * A.state n.val j d := by
  rw [neg_sum _ _ _ (fun d => H.dvs n t d) fun d => H.state n.val j d, dw, zero_sub]

end Seq.Real

/-! ## Arrays -/

/-- The row of a sequence that is row `t` of chunk `n`. -/
abbrev row (n : Fin 32) (t : Fin 64) : Fin 2048 := ⟨n.val * 64 + t.val, by omega⟩

/-- The seven arrays of the call, by sequence, head, row and lane. -/
structure Arrays where
  u : Fin 2 → Fin 8 → Fin 2048 → Fin 128 → EReal
  w : Fin 2 → Fin 8 → Fin 2048 → Fin 128 → EReal
  q : Fin 2 → Fin 8 → Fin 2048 → Fin 128 → EReal
  k : Fin 2 → Fin 8 → Fin 2048 → Fin 128 → EReal
  i : Fin 2 → Fin 8 → Fin 2048 → Fin 64 → EReal
  e : Fin 2 → Fin 8 → Fin 32 → EReal
  ct : Fin 2 → Fin 8 → Fin 2048 → Fin 128 → EReal

/-- Head `h` of sequence `b`, chunk by chunk. -/
abbrev Arrays.seq (X : Arrays) (b : Fin 2) (h : Fin 8) : Seq where
  u n t d := X.u b h (row n t) d
  w n t d := X.w b h (row n t) d
  q n t d := X.q b h (row n t) d
  k n t d := X.k b h (row n t) d
  i n t d := X.i b h (row n t) d
  e n := X.e b h n
  ct n t d := X.ct b h (row n t) d

/-- Every row of a sequence is a row of a chunk. -/
theorem row_split (r : Fin 2048) : ∃ n t, r = row n t :=
  ⟨⟨r.val / 64, by omega⟩, ⟨r.val % 64, by omega⟩, Fin.ext (by simp only; omega)⟩

end Cert.ScanMath

end

end
-- ==== Proof.Finite.lean ====
module

public import proofs.«01_k».proof.Proof.ScanMath
public import Idealize.ShloMosaic.Lib.ReduceAll
public import Idealize.ShloMosaic.Lib.Affine
public import Idealize.ShloMosaic.Lib.StableHlo

/-! What a precondition's test for finiteness says of an array's entries. -/

@[expose] public section

noncomputable section

namespace Cert.ScanMath

open Idealize.ShloMosaic

/-- An extended real whose absolute value is below infinity is a real number. -/
theorem re_of_lt (x : EReal) (h : max x (-x) < ⊤) : Re x := by
  induction x with
  | bot => simp at h
  | coe r => exact ⟨r, rfl⟩
  | top => simp at h

theorem inf_word : Ideal.ofBits .f32 0x7F800000#32 = ⊤ := by simp [Ideal.ofBits, Ideal.ieee]

/-- Every entry of an array that passes the test is a real number. -/
theorem all_re {s : Shape} {axes : List (Fin s.rank)} {z : Shape} [Subsingleton z.Idx] (x : FVec Ideal s .f32) (dims : Fin z.rank → Fin s.rank) (hb : z.BroadcastsInDim s dims)
    (v : IVec z 1) (hr : s.ReducesTo axes z) (h0 : 0 < z.numel) (j : z.Idx)
    (h : Host.reduce IntOp.andi (cmpf .olt (Host.absf x) (broadcastInDim s dims hb (constant (F := Ideal) z .f32 0x7F800000#32))) v hr h0 j = 1#1) (i : s.Idx) :
    Re (x i) := by
  have e := Host.reduce_andi_all _ _ _ _ j h i
  have e' : Ideal.cmp .olt (max (x i) (-(x i))) (Ideal.ofBits .f32 0x7F800000#32) = 1#1 := e
  rw [inf_word] at e'
  refine re_of_lt _ ?_
  by_contra hn
  simp [Ideal.cmp, hn] at e'

end Cert.ScanMath

end

end
-- ==== Proof.ScanKernel.lean ====
module

public import proofs.«01_k».proof.Proof.Gen.ScanIdeal.Skeleton
public import proofs.«01_k».proof.Proof.Gen.ScanIdeal.Launch
public import proofs.«01_k».proof.Proof.ScanMath
public import Idealize.ShloMosaic.Lib.Pipeline.ValueKit

/-! The values the scan's two calls compute at a point, one head at a time. -/

@[expose] public section

set_option maxRecDepth 16384

noncomputable section

open Idealize.ShloMosaic Idealize.ShloMosaic.TcCoe Idealize.SL.Sem
open Cert.ScanMath

namespace Cert.ScanIdeal.Val
open Cert.ScanIdeal Cert.ScanIdeal.Gen

/-- The place of head `h` of sequence `b` among the 16. -/
abbrev hd (b : Fin 2) (h : Fin 8) : Fin 16 := ⟨b.val * 8 + h.val, by omega⟩

theorem hd_div (b : Fin 2) (h : Fin 8) (p : (b.val * 8 + h.val) / 8 < 2) : (⟨(b.val * 8 + h.val) / 8, p⟩ : Fin 2) = b := by
  apply Fin.ext; show _ / 8 = b.val; omega

theorem hd_mod (b : Fin 2) (h : Fin 8) (p : (b.val * 8 + h.val) % 8 < 8) : (⟨(b.val * 8 + h.val) % 8, p⟩ : Fin 8) = h := by
  apply Fin.ext; show _ % 8 = h.val; omega

/-- One head's matrix of an array by sequence and head. -/
abbrev m4 {p q : ℕ} (v : (⟨4, ![2, 8, p, q]⟩ : Shape).Idx → EReal) (b : Fin 2) (h : Fin 8) : Mx p q := fun t d => v (ix4 b h t d)

/-- One head's matrix of an array by place. -/
abbrev m3 {p q : ℕ} (v : (⟨3, ![16, p, q]⟩ : Shape).Idx → EReal) (b : Fin 2) (h : Fin 8) : Mx p q := fun t d => v (ix3 (hd b h) t d)

section Forward

variable (b : Fin 2) (h : Fin 8)

theorem f2 (j d : Fin 128) : k0_pay2 (F := Ideal) (ix3 (hd b h) j d) = 0 := by pointwise [k0_pay2, m3, m4, hd_div, hd_mod]

theorem f3 (s : Vec Ideal S16x128x128 .f32) (q : Fin 1) (j d : Fin 128) : k0_pay3 (F := Ideal) s (ix5 b h q j d) = m3 s b h j d := by
  obtain rfl : q = 0 := Subsingleton.elim _ _
  pointwise [k0_pay3, m3, m4, hd_div, hd_mod]

theorem f4 (s : Vec Ideal S16x128x128 .f32) (u : Vec Ideal S2x8x64x128 .f32) (w : Vec Ideal S2x8x64x128 .bf16) (t : Fin 64) (d : Fin 128) :
    k0_pay4 (F := Ideal) s u w (ix3 (hd b h) t d) = newv (m4 u b h) (m4 w b h) (m3 s b h) t d := by pointwise [k0_pay4, newv, m3, m4, hd_div, hd_mod]

theorem f5 (s : Vec Ideal S16x128x128 .f32) (u : Vec Ideal S2x8x64x128 .f32) (w q : Vec Ideal S2x8x64x128 .bf16) (i : Vec Ideal S2x8x64x64 .bf16)
    (t : Fin 64) (d : Fin 128) :
    k0_pay5 (F := Ideal) s u w q i (ix3 (hd b h) t d) = out (m4 q b h) (m4 i b h) (m3 s b h) (newv (m4 u b h) (m4 w b h) (m3 s b h)) t d := by
  pointwise [k0_pay5, f4, out, m3, m4, hd_div, hd_mod]

theorem f6 (s : Vec Ideal S16x128x128 .f32) (v : FVec Ideal S16x64x128 .f32) (e : Vec Ideal S2x8x1x128 .f32) (k : Vec Ideal S2x8x64x128 .bf16)
    (x : EReal) (he : ∀ d, e (ix4 b h 0 d) = x) (j d : Fin 128) :
    k0_pay6 (F := Ideal) s v e k (ix3 (hd b h) j d) = next (m3 s b h) x (m4 k b h) (m3 v b h) j d := by
  pointwise [k0_pay6, next, he, m3, m4, hd_div, hd_mod]

theorem f7 (v : FVec Ideal S16x64x128 .f32) (t : Fin 64) (d : Fin 128) : k0_pay7 (F := Ideal) v (ix4 b h t d) = m3 v b h t d := by pointwise [k0_pay7, m3, m4, hd_div, hd_mod]

theorem f8 (v : FVec Ideal S16x64x128 .f32) (t : Fin 64) (d : Fin 128) : k0_pay8 (F := Ideal) v (ix4 b h t d) = m3 v b h t d := by pointwise [k0_pay8, m3, m4, hd_div, hd_mod]

theorem f1 (v : FVec Ideal S16x64x128 .f32) (t : Fin 64) (d : Fin 128) : k0_pay1 (F := Ideal) v (ix4 b h t d) = m3 v b h t d := by pointwise [k0_pay1, m3, m4, hd_div, hd_mod]

theorem f9 (s : Vec Ideal S16x128x128 .f32) (q : Fin 1) (j d : Fin 128) : k0_pay9 (F := Ideal) s (ix5 b h q j d) = m3 s b h j d := by
  obtain rfl : q = 0 := Subsingleton.elim _ _
  pointwise [k0_pay9, m3, m4, hd_div, hd_mod]

theorem f10 (u : Vec Ideal S2x8x64x128 .f32) (t : Fin 64) (d : Fin 128) : k0_pay10 (F := Ideal) u (ix3 (hd b h) t d) = m4 u b h t d := by
  pointwise [k0_pay10, m3, m4, hd_div, hd_mod]

theorem f11 (s : Vec Ideal S16x128x128 .f32) (u : FVec Ideal S16x64x128 .f32) (w : Vec Ideal S2x8x64x128 .bf16) (t : Fin 64) (d : Fin 128) :
    k0_pay11 (F := Ideal) s u w (ix3 (hd b h) t d) = newv (m3 u b h) (m4 w b h) (m3 s b h) t d := by pointwise [k0_pay11, newv, m3, m4, hd_div, hd_mod]

theorem f12 (s : Vec Ideal S16x128x128 .f32) (u : FVec Ideal S16x64x128 .f32) (w q : Vec Ideal S2x8x64x128 .bf16) (i : Vec Ideal S2x8x64x64 .bf16)
    (t : Fin 64) (d : Fin 128) :
    k0_pay12 (F := Ideal) s u w q i (ix3 (hd b h) t d) = out (m4 q b h) (m4 i b h) (m3 s b h) (newv (m3 u b h) (m4 w b h) (m3 s b h)) t d := by
  pointwise [k0_pay12, f11, out, m3, m4, hd_div, hd_mod]

theorem f13 (s : Vec Ideal S16x128x128 .f32) (u : FVec Ideal S16x64x128 .f32) (w : Vec Ideal S2x8x64x128 .bf16) (e : Vec Ideal S2x8x1x128 .f32)
    (k : Vec Ideal S2x8x64x128 .bf16) (x : EReal) (he : ∀ d, e (ix4 b h 0 d) = x) (j d : Fin 128) :
    k0_pay13 (F := Ideal) s u w e k (ix3 (hd b h) j d) = next (m3 s b h) x (m4 k b h) (newv (m3 u b h) (m4 w b h) (m3 s b h)) j d := by
  pointwise [k0_pay13, next, f11, he, m3, m4, hd_div, hd_mod]

theorem f14 (s : Vec Ideal S16x128x128 .f32) (u : FVec Ideal S16x64x128 .f32) (w : Vec Ideal S2x8x64x128 .bf16) (t : Fin 64) (d : Fin 128) :
    k0_pay14 (F := Ideal) s u w (ix4 b h t d) = newv (m3 u b h) (m4 w b h) (m3 s b h) t d := by pointwise [k0_pay14, f11, m3, m4, hd_div, hd_mod]

end Forward

section Backward

variable (b : Fin 2) (h : Fin 8)

theorem b2 (j d : Fin 128) : k1_pay2 (F := Ideal) (ix3 (hd b h) j d) = 0 := by pointwise [k1_pay2, m3, m4, hd_div, hd_mod]

theorem b3 (s : Vec Ideal S2x8x1x128x128 .f32) (j d : Fin 128) : k1_pay3 (F := Ideal) s (ix3 (hd b h) j d) = s (ix5 b h 0 j d) := by pointwise [k1_pay3, m3, m4, hd_div, hd_mod]
theorem b18 (s : Vec Ideal S2x8x1x128x128 .f32) (j d : Fin 128) : k1_pay18 (F := Ideal) s (ix3 (hd b h) j d) = s (ix5 b h 0 j d) := by pointwise [k1_pay18, m3, m4, hd_div, hd_mod]

theorem b4 (v : Vec Ideal S2x8x64x128 .f32) (t : Fin 64) (d : Fin 128) : k1_pay4 (F := Ideal) v (ix3 (hd b h) t d) = m4 v b h t d := by pointwise [k1_pay4, m3, m4, hd_div, hd_mod]
theorem b5 (v : Vec Ideal S2x8x64x128 .f32) (t : Fin 64) (d : Fin 128) : k1_pay5 (F := Ideal) v (ix3 (hd b h) t d) = m4 v b h t d := by pointwise [k1_pay5, m3, m4, hd_div, hd_mod]
theorem b6 (v : Vec Ideal S2x8x64x128 .bf16) (t : Fin 64) (d : Fin 128) : k1_pay6 (F := Ideal) v (ix3 (hd b h) t d) = m4 v b h t d := by pointwise [k1_pay6, m3, m4, hd_div, hd_mod]
theorem b7 (v : Vec Ideal S2x8x64x128 .bf16) (t : Fin 64) (d : Fin 128) : k1_pay7 (F := Ideal) v (ix3 (hd b h) t d) = m4 v b h t d := by pointwise [k1_pay7, m3, m4, hd_div, hd_mod]
theorem b8 (v : Vec Ideal S2x8x64x128 .bf16) (t : Fin 64) (d : Fin 128) : k1_pay8 (F := Ideal) v (ix3 (hd b h) t d) = m4 v b h t d := by pointwise [k1_pay8, m3, m4, hd_div, hd_mod]
theorem b9 (v : Vec Ideal S2x8x64x64 .bf16) (t : Fin 64) (d : Fin 64) : k1_pay9 (F := Ideal) v (ix3 (hd b h) t d) = m4 v b h t d := by pointwise [k1_pay9, m3, m4, hd_div, hd_mod]
theorem b19 (v : Vec Ideal S2x8x64x128 .f32) (t : Fin 64) (d : Fin 128) : k1_pay19 (F := Ideal) v (ix3 (hd b h) t d) = m4 v b h t d := by pointwise [k1_pay19, m3, m4, hd_div, hd_mod]
theorem b20 (v : Vec Ideal S2x8x64x128 .f32) (t : Fin 64) (d : Fin 128) : k1_pay20 (F := Ideal) v (ix3 (hd b h) t d) = m4 v b h t d := by pointwise [k1_pay20, m3, m4, hd_div, hd_mod]
theorem b21 (v : Vec Ideal S2x8x64x128 .bf16) (t : Fin 64) (d : Fin 128) : k1_pay21 (F := Ideal) v (ix3 (hd b h) t d) = m4 v b h t d := by pointwise [k1_pay21, m3, m4, hd_div, hd_mod]
theorem b22 (v : Vec Ideal S2x8x64x128 .bf16) (t : Fin 64) (d : Fin 128) : k1_pay22 (F := Ideal) v (ix3 (hd b h) t d) = m4 v b h t d := by pointwise [k1_pay22, m3, m4, hd_div, hd_mod]

theorem b10 (g : FVec Ideal S16x128x128 .f32) (ct : FVec Ideal S16x64x128 .f32) (k : FVec Ideal S16x64x128 .bf16) (i : FVec Ideal S16x64x64 .bf16)
    (t : Fin 64) (d : Fin 128) : k1_pay10 (F := Ideal) g ct k i (ix3 (hd b h) t d) = dv (m3 i b h) (m3 k b h) (m3 ct b h) (m3 g b h) t d := by
  pointwise [k1_pay10, dv, m3, m4, hd_div, hd_mod]

theorem b11 (ct v : FVec Ideal S16x64x128 .f32) (t a : Fin 64) : k1_pay11 (F := Ideal) ct v (ix4 b h t a) = di (m3 ct b h) (m3 v b h) t a := by
  pointwise [k1_pay11, di, m3, m4, hd_div, hd_mod]

theorem b12 (s : FVec Ideal S16x128x128 .f32) (ct : FVec Ideal S16x64x128 .f32) (t : Fin 64) (d : Fin 128) :
    k1_pay12 (F := Ideal) s ct (ix4 b h t d) = rows (m3 ct b h) (m3 s b h) t d := by pointwise [k1_pay12, rows, m3, m4, hd_div, hd_mod]

theorem b13 (g : FVec Ideal S16x128x128 .f32) (v : FVec Ideal S16x64x128 .f32) (t : Fin 64) (d : Fin 128) :
    k1_pay13 (F := Ideal) g v (ix4 b h t d) = rows (m3 v b h) (m3 g b h) t d := by pointwise [k1_pay13, rows, m3, m4, hd_div, hd_mod]

theorem b14 (g : FVec Ideal S16x128x128 .f32) (ct : FVec Ideal S16x64x128 .f32) (k : FVec Ideal S16x64x128 .bf16) (i : FVec Ideal S16x64x64 .bf16)
    (t : Fin 64) (d : Fin 128) : k1_pay14 (F := Ideal) g ct k i (ix4 b h t d) = dv (m3 i b h) (m3 k b h) (m3 ct b h) (m3 g b h) t d := by
  pointwise [k1_pay14, b10, m3, m4, hd_div, hd_mod]

theorem b15 (s g : FVec Ideal S16x128x128 .f32) (ct : FVec Ideal S16x64x128 .f32) (k : FVec Ideal S16x64x128 .bf16) (i : FVec Ideal S16x64x64 .bf16)
    (t : Fin 64) (d : Fin 128) :
    k1_pay15 (F := Ideal) s g ct k i (ix4 b h t d) = dw (dv (m3 i b h) (m3 k b h) (m3 ct b h) (m3 g b h)) (m3 s b h) t d := by
  pointwise [k1_pay15, b10, dw, m3, m4, hd_div, hd_mod]

theorem b16 (s g : FVec Ideal S16x128x128 .f32) (y : Fin 8) (d : Fin 128) :
    k1_pay16 (F := Ideal) s g (ix4 b h y d) = de (m3 g b h) (m3 s b h) := by pointwise [k1_pay16, de, m3, m4, hd_div, hd_mod]

theorem b17 (g : FVec Ideal S16x128x128 .f32) (ct : FVec Ideal S16x64x128 .f32) (w q : FVec Ideal S16x64x128 .bf16) (y : FVec Ideal S16x64x128 .f32)
    (e : Vec Ideal S2x8x1x128 .f32) (x : EReal) (he : ∀ d, e (ix4 b h 0 d) = x) (j d : Fin 128) :
    k1_pay17 (F := Ideal) g ct w q y e (ix3 (hd b h) j d) = prev (m3 g b h) x (m3 q b h) (m3 ct b h) (m3 w b h) (m3 y b h) j d := by
  pointwise [k1_pay17, prev, he, m3, m4, hd_div, hd_mod]

theorem b23 (g : FVec Ideal S16x128x128 .f32) (ct : FVec Ideal S16x64x128 .f32) (k : Vec Ideal S2x8x64x128 .bf16) (i : Vec Ideal S2x8x64x64 .bf16)
    (t : Fin 64) (d : Fin 128) : k1_pay23 (F := Ideal) g ct k i (ix3 (hd b h) t d) = dv (m4 i b h) (m4 k b h) (m3 ct b h) (m3 g b h) t d := by
  pointwise [k1_pay23, dv, m3, m4, hd_div, hd_mod]

theorem b24 (ct : FVec Ideal S16x64x128 .f32) (v : Vec Ideal S2x8x64x128 .f32) (t a : Fin 64) :
    k1_pay24 (F := Ideal) ct v (ix4 b h t a) = di (m3 ct b h) (m4 v b h) t a := by
  pointwise [k1_pay24, b20, di, m3, m4, hd_div, hd_mod]

theorem b25 (s : FVec Ideal S16x128x128 .f32) (ct : FVec Ideal S16x64x128 .f32) (t : Fin 64) (d : Fin 128) :
    k1_pay25 (F := Ideal) s ct (ix4 b h t d) = rows (m3 ct b h) (m3 s b h) t d := by pointwise [k1_pay25, rows, m3, m4, hd_div, hd_mod]

theorem b26 (g : FVec Ideal S16x128x128 .f32) (v : FVec Ideal S16x64x128 .f32) (t : Fin 64) (d : Fin 128) :
    k1_pay26 (F := Ideal) g v (ix4 b h t d) = rows (m3 v b h) (m3 g b h) t d := by pointwise [k1_pay26, rows, m3, m4, hd_div, hd_mod]

theorem b27 (y : FVec Ideal S16x64x128 .f32) (t : Fin 64) (d : Fin 128) : k1_pay27 (F := Ideal) y (ix4 b h t d) = m3 y b h t d := by pointwise [k1_pay27, m3, m4, hd_div, hd_mod]

theorem b28 (s : FVec Ideal S16x128x128 .f32) (y : FVec Ideal S16x64x128 .f32) (t : Fin 64) (d : Fin 128) :
    k1_pay28 (F := Ideal) s y (ix4 b h t d) = dw (m3 y b h) (m3 s b h) t d := by
  pointwise [k1_pay28, dw, m3, m4, hd_div, hd_mod]

theorem b29 (s g : FVec Ideal S16x128x128 .f32) (y : Fin 8) (d : Fin 128) :
    k1_pay29 (F := Ideal) s g (ix4 b h y d) = de (m3 g b h) (m3 s b h) := by pointwise [k1_pay29, de, m3, m4, hd_div, hd_mod]

theorem b30 (g : FVec Ideal S16x128x128 .f32) (e : Vec Ideal S2x8x1x128 .f32) (x : EReal) (he : ∀ d, e (ix4 b h 0 d) = x) (j d : Fin 128) :
    k1_pay30 (F := Ideal) g e (ix3 (hd b h) j d) = m3 g b h j d * x := by pointwise [k1_pay30, he, m3, m4, hd_div, hd_mod]

theorem b1 (g : FVec Ideal S16x128x128 .f32) (e : Vec Ideal S2x8x1x128 .f32) (ct : FVec Ideal S16x64x128 .f32) (w q : FVec Ideal S16x64x128 .bf16)
    (y : FVec Ideal S16x64x128 .f32) (x : EReal) (he : ∀ d, e (ix4 b h 0 d) = x) (j d : Fin 128) :
    k1_pay1 (F := Ideal) ct w q y (k1_pay30 g e) (ix3 (hd b h) j d) = prev (m3 g b h) x (m3 q b h) (m3 ct b h) (m3 w b h) (m3 y b h) j d := by
  pointwise [k1_pay1, prev, fun j d => b30 b h g e x he j d, m3, m4, hd_div, hd_mod]

end Backward

end Cert.ScanIdeal.Val

end

end
-- ==== Proof.ScanBase.lean ====
module

public import proofs.«01_k».proof.Proof.Gen.ScanIdeal.Skeleton
public import proofs.«01_k».proof.Proof.Gen.ScanIdeal.Launch
public import proofs.«01_k».proof.Proof.Gen.ScanIdeal.Points
public import Idealize.ShloMosaic.Lib.Pipeline.FrameBody
public import Idealize.ShloMosaic.Lib.Ring
public import Idealize.ShloMosaic.Lib.Tactic
public import Idealize.ShloMosaic.Lib.WordCmp

/-! What the two calls of the state's scan and its gradient work on: the blocks one grid point reads, the buffers
    they are staged in, and the assertions that own them. -/

@[expose] public section

noncomputable section

namespace Cert.ScanIdeal.Scan

open Cert.ScanIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources both calls are proved over. -/
abbrev Res (F : FTy → Type) : Type := MT nD τ sig Unit (Elt F) ℕ (UR sig nD τ) ℕ

/-- A buffer of a call: a memref in the vector memory. -/
abbrev Mref (s : Shape) (e : EltTy) : Type := Memref sig .tc .vmem s e

/-- A whole memref owned at its contents. -/
abbrev held {s : Shape} {e : EltTy} (c : Dev nD) (a : Mref s e) (x : Vec F s e) : sProp (Res F) :=
  owns (c : Thread nD τ) a fullShare x

/-- A whole memref owned at some contents. -/
abbrev some_ {s : Shape} {e : EltTy} (c : Dev nD) (a : Mref s e) : sProp (Res F) :=
  iprop(∃ d, owns (c : Thread nD τ) a fullShare d)

/-- A memref's elements owned after the pieces `L` were stored over some contents. -/
abbrev wrote {s : Shape} {e : EltTy} (c : Dev nD) (a : Mref s e) (L : List (View.Piece (Elt F) s e)) : sProp (Res F) :=
  iprop(∃ f, a.view.loc (c : Thread nD τ) ↦[a.view.set]{fullShare} a.view.writes (Elt F) f L)

/-- A whole memref's elements at the contents that read back as `x` are elements that read back as `x`. -/
theorem held_unread {s : Shape} {e : EltTy} (c : Dev nD) (a : Mref s e) (h : a.IsWhole) (x : Vec F s e) :
    (a.view.loc (c : Thread nD τ) ↦[a.view.set]{fullShare} h.unread x : sProp (Res F))
      ⊢ iprop(∃ f, ⌜View.read (Elt F) a.view f = x⌝ ∗ a.view.loc (c : Thread nD τ) ↦[a.view.set]{fullShare} f) := by
  iintro H
  iexists _; isplitr; · ipureintro; exact h.read_unread _
  iexact H

/-- The stored pieces, when they fill the buffer, are the buffer held at their read-back. -/
theorem held_of_wrote {s : Shape} {e : EltTy} (c : Dev nD) (a : Mref s e) (L : List (View.Piece (Elt F) s e))
    (h : ∀ y, ∃ p ∈ L, y ∈ p.1.set) : (wrote c a L : sProp (Res F)) ⊢ held c a (View.canon L) := by
  unfold wrote held owns
  iintro ⟨%f, H⟩
  iexists _; isplitr
  swap; · iexact H
  ipureintro; exact View.read_writes_eq_canon _ _ _ h

/-- The blocks of two chunks that both calls read: `u`, `w`, `q`, `k`, the chunk's own products and the decays. -/
structure Blocks (F : FTy → Type) where
  u : Vec F S2x8x128x128 .f32
  w : Vec F S2x8x128x128 .bf16
  q : Vec F S2x8x128x128 .bf16
  k : Vec F S2x8x128x128 .bf16
  i : Vec F S2x8x128x64 .bf16
  e : Vec F S2x8x16x128 .f32

end Cert.ScanIdeal.Scan
-- ==== Proof.ScanFwdRun.lean ====
module

public import proofs.«01_k».proof.Proof.ScanBase

/-! One grid point of the scan's forward call: what its body stores, found by running it once with the state reset
    (the first point) and once with the state the point before left. -/

@[expose] public section

set_option maxRecDepth 16384

noncomputable section

namespace Cert.ScanIdeal.Scan.Fwd

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The buffers the body is called with, each whole. -/
structure Bufs where
  u : Mref S2x8x128x128 .f32
  w : Mref S2x8x128x128 .bf16
  q : Mref S2x8x128x128 .bf16
  k : Mref S2x8x128x128 .bf16
  i : Mref S2x8x128x64 .bf16
  e : Mref S2x8x16x128 .f32
  o : Mref S2x8x128x128 .f32
  v : Mref S2x8x128x128 .f32
  z : Mref S2x8x2x128x128 .f32
  s : Mref S16x128x128 .f32
  hu : u.IsWhole
  hw : w.IsWhole
  hq : q.IsWhole
  hk : k.IsWhole
  hi : i.IsWhole
  he : e.IsWhole
  ho : o.IsWhole
  hv : v.IsWhole
  hz : z.IsWhole
  hs : s.IsWhole

/-- The body on these buffers. -/
abbrev Bufs.body (M : Bufs) (g : grid0.Coords) : Prog (TpuEff nD τ sig (Elt F) Λ₀ .tc) PUnit :=
  cc0_dn_scan_fwd g M.u M.hu M.w M.hw M.q M.hq M.k M.hk M.i M.hi M.e M.he M.o M.ho M.v M.hv M.z M.hz M.s M.hs

/-- The input buffers hold the blocks. -/
abbrev Bufs.ins (M : Bufs) (c : Dev nD) (X : Blocks F) : sProp (Res F) :=
  iprop(held c M.u X.u ∗ held c M.w X.w ∗ held c M.q X.q ∗ held c M.k X.k ∗ held c M.i X.i ∗ held c M.e X.e)

/-- What a point stores: into the outputs `o`, `vn`, `s0` and into the carried state. -/
structure Stores (F : FTy → Type) where
  o : List (View.Piece (Elt F) S2x8x128x128 .f32)
  v : List (View.Piece (Elt F) S2x8x128x128 .f32)
  z : List (View.Piece (Elt F) S2x8x2x128x128 .f32)
  s : List (View.Piece (Elt F) S16x128x128 .f32)

/-- The output and state buffers after a point's stores. -/
abbrev Bufs.outs (M : Bufs) (c : Dev nD) (L : Stores F) : sProp (Res F) :=
  iprop(wrote c M.o L.o ∗ wrote c M.v L.v ∗ wrote c M.z L.z ∗ wrote c M.s L.s)

/-- The body's first branch is taken: the point is the grid's first. -/
abbrev first (g : grid0.Coords) : Prop :=
  (Scalar.cmpi .ne (Scalar.extui (Scalar.cmpi .eq (BitVec.ofNat 32 (g 0).val) 0#32)) 0#32) = 1#1

theorem first_iff : ∀ t : Fin cfg0.N, first (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val % 16 = 0)

set_option maxHeartbeats 1000000 in
/-- The first point's run: the state is reset, so what its buffer held does not matter. -/
def runA (c : Dev nD) (g : grid0.Coords) (M : Bufs) (hc : first g) (X : Blocks F) :
    { L : Stores F // ∀ (E : Set ℕ) (K : PUnit → sProp (Res F)),
        iprop(M.ins c X ∗ (some_ c M.o ∗ some_ c M.v ∗ some_ c M.z) ∗ some_ c M.s
            ∗ (iprop(M.ins c X ∗ M.outs c L) -∗ K ⟨⟩))
          ⊢ wp frame (wpE (defs₀ (F := F)) Variants.none c none) E (M.body g) K } := by
  refine ⟨⟨?_, ?_, ?_, ?_⟩, fun E K => ?run⟩
  case run =>
    simp only [Bufs.body, cc0_dn_scan_fwd_eq_skeleton]; unfold cc0_dn_scan_fwd_skel
    simp only [k0_part1_eq_skeleton, k0_part2_eq_skeleton, k0_part3_eq_skeleton]
    simp only [Bufs.ins, Bufs.outs, held, some_, wrote]
    unfold owns
    iintro ⟨⟨⟨%f0, %h0, H0⟩, ⟨%f1, %h1, H1⟩, ⟨%f2, %h2, H2⟩, ⟨%f3, %h3, H3⟩, ⟨%f4, %h4, H4⟩, ⟨%f5, %h5, H5⟩⟩,
      ⟨⟨%d6, %f6, -, H6⟩, ⟨%d7, %f7, -, H7⟩, ⟨%d8, %f8, -, H8⟩⟩, ⟨%ds, %fs, -, HS⟩, Hk⟩
    obtain rfl := M.hu.eq_unread h0; obtain rfl := M.hw.eq_unread h1; obtain rfl := M.hq.eq_unread h2
    obtain rfl := M.hk.eq_unread h3; obtain rfl := M.hi.eq_unread h4; obtain rfl := M.he.eq_unread h5
    sl_exec (disch := first | sl_exact hc)
    sl_step
    iapply Hk
    isplitl [H0 H1 H2 H3 H4 H5]
    · isplitl [H0]; · iapply held_unread c M.u M.hu; iexact H0
      isplitl [H1]; · iapply held_unread c M.w M.hw; iexact H1
      isplitl [H2]; · iapply held_unread c M.q M.hq; iexact H2
      isplitl [H3]; · iapply held_unread c M.k M.hk; iexact H3
      isplitl [H4]; · iapply held_unread c M.i M.hi; iexact H4
      iapply held_unread c M.e M.he; iexact H5
    isplitl [H6]; · iexists _; iexact H6
    isplitl [H7]; · iexists _; iexact H7
    isplitl [H8]; · iexists _; iexact H8
    iexists _; iexact HS

set_option maxHeartbeats 1000000 in
/-- A later point's run, from the state the point before left. -/
def runB (c : Dev nD) (g : grid0.Coords) (M : Bufs) (hc : ¬ first g) (X : Blocks F) (x : Vec F S16x128x128 .f32) :
    { L : Stores F // ∀ (E : Set ℕ) (K : PUnit → sProp (Res F)),
        iprop(M.ins c X ∗ (some_ c M.o ∗ some_ c M.v ∗ some_ c M.z) ∗ held c M.s x
            ∗ (iprop(M.ins c X ∗ M.outs c L) -∗ K ⟨⟩))
          ⊢ wp frame (wpE (defs₀ (F := F)) Variants.none c none) E (M.body g) K } := by
  refine ⟨⟨?_, ?_, ?_, ?_⟩, fun E K => ?run⟩
  case run =>
    simp only [Bufs.body, cc0_dn_scan_fwd_eq_skeleton]; unfold cc0_dn_scan_fwd_skel
    simp only [k0_part1_eq_skeleton, k0_part2_eq_skeleton, k0_part3_eq_skeleton]
    simp only [Bufs.ins, Bufs.outs, held, some_, wrote]
    unfold owns
    iintro ⟨⟨⟨%f0, %h0, H0⟩, ⟨%f1, %h1, H1⟩, ⟨%f2, %h2, H2⟩, ⟨%f3, %h3, H3⟩, ⟨%f4, %h4, H4⟩, ⟨%f5, %h5, H5⟩⟩,
      ⟨⟨%d6, %f6, -, H6⟩, ⟨%d7, %f7, -, H7⟩, ⟨%d8, %f8, -, H8⟩⟩, ⟨%fs, %hs, HS⟩, Hk⟩
    obtain rfl := M.hu.eq_unread h0; obtain rfl := M.hw.eq_unread h1; obtain rfl := M.hq.eq_unread h2
    obtain rfl := M.hk.eq_unread h3; obtain rfl := M.hi.eq_unread h4; obtain rfl := M.he.eq_unread h5; obtain rfl := M.hs.eq_unread hs
    sl_exec (disch := first | sl_exact hc)
    sl_step
    iapply Hk
    isplitl [H0 H1 H2 H3 H4 H5]
    · isplitl [H0]; · iapply held_unread c M.u M.hu; iexact H0
      isplitl [H1]; · iapply held_unread c M.w M.hw; iexact H1
      isplitl [H2]; · iapply held_unread c M.q M.hq; iexact H2
      isplitl [H3]; · iapply held_unread c M.k M.hk; iexact H3
      isplitl [H4]; · iapply held_unread c M.i M.hi; iexact H4
      iapply held_unread c M.e M.he; iexact H5
    isplitl [H6]; · iexists _; iexact H6
    isplitl [H7]; · iexists _; iexact H7
    isplitl [H8]; · iexists _; iexact H8
    iexists _; iexact HS

end Cert.ScanIdeal.Scan.Fwd
-- ==== Proof.ScanFwd.lean ====
module

public import proofs.«01_k».proof.Proof.ScanFwdRun

/-! The scan's forward call over its grid: the state is carried from point to point in a buffer of the call's own. -/

@[expose] public section

set_option maxRecDepth 16384

noncomputable section

namespace Cert.ScanIdeal.Scan.Fwd

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What a point's stores leave in the outputs and in the state. -/
structure Outs (F : FTy → Type) where
  o : Vec F S2x8x128x128 .f32
  v : Vec F S2x8x128x128 .f32
  z : Vec F S2x8x2x128x128 .f32
  s : Vec F S16x128x128 .f32

/-- The stored pieces read back. -/
abbrev Stores.read (L : Stores F) : Outs F := ⟨View.canon L.o, View.canon L.v, View.canon L.z, View.canon L.s⟩

/-- The pieces fill their buffers. -/
structure Stores.Full (L : Stores F) : Prop where
  o : ∀ y, ∃ p ∈ L.o, y ∈ p.1.set
  v : ∀ y, ∃ p ∈ L.v, y ∈ p.1.set
  z : ∀ y, ∃ p ∈ L.z, y ∈ p.1.set
  s : ∀ y, ∃ p ∈ L.s, y ∈ p.1.set

theorem fullA (c : Dev nD) (g : grid0.Coords) (M : Bufs) (hc : first g) (X : Blocks F) : (runA c g M hc X).1.Full :=
  ⟨View.cover_of_tiledL _ S2x8x64x128.size (by sl_kernel_rfl), View.cover_of_tiledL _ S2x8x64x128.size (by sl_kernel_rfl),
    View.cover_of_tiledL _ S2x8x1x128x128.size (by sl_kernel_rfl), View.cover_of_tiledL _ S16x128x128.size (by sl_kernel_rfl)⟩

theorem fullB (c : Dev nD) (g : grid0.Coords) (M : Bufs) (hc : ¬ first g) (X : Blocks F) (x : Vec F S16x128x128 .f32) :
    (runB c g M hc X x).1.Full :=
  ⟨View.cover_of_tiledL _ S2x8x64x128.size (by sl_kernel_rfl), View.cover_of_tiledL _ S2x8x64x128.size (by sl_kernel_rfl),
    View.cover_of_tiledL _ S2x8x1x128x128.size (by sl_kernel_rfl), View.cover_of_tiledL _ S16x128x128.size (by sl_kernel_rfl)⟩

/-- The buffers of point `t`: each window's current one, and the carried state's. -/
abbrev bufs (t : Fin cfg0.N) : Bufs where
  u := win0_0.stage (cfg0.slots t 0)
  w := win0_1.stage (cfg0.slots t 1)
  q := win0_2.stage (cfg0.slots t 2)
  k := win0_3.stage (cfg0.slots t 3)
  i := win0_4.stage (cfg0.slots t 4)
  e := win0_5.stage (cfg0.slots t 5)
  o := win0_6.stage (cfg0.slots t 6)
  v := win0_7.stage (cfg0.slots t 7)
  z := win0_8.stage (cfg0.slots t 8)
  s := Memref.whole cc0_scratch0
  hu := hstage0_0 ((cfg0.slots t 0).cast nbuf0_0)
  hw := hstage0_1 ((cfg0.slots t 1).cast nbuf0_1)
  hq := hstage0_2 ((cfg0.slots t 2).cast nbuf0_2)
  hk := hstage0_3 ((cfg0.slots t 3).cast nbuf0_3)
  hi := hstage0_4 ((cfg0.slots t 4).cast nbuf0_4)
  he := hstage0_5 ((cfg0.slots t 5).cast nbuf0_5)
  ho := hstage0_6 ((cfg0.slots t 6).cast nbuf0_6)
  hv := hstage0_7 ((cfg0.slots t 7).cast nbuf0_7)
  hz := hstage0_8 ((cfg0.slots t 8).cast nbuf0_8)
  hs := Memref.isWhole_whole _

section Data

variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks point `t` reads. -/
abbrev blocks (c : Dev nD) (t : Fin cfg0.N) : Blocks F :=
  ⟨iblk V c 0 t, iblk V c 1 t, iblk V c 2 t, iblk V c 3 t, iblk V c 4 t, iblk V c 5 t⟩

theorem not_first (n : ℕ) (h : n + 1 < cfg0.N) : ¬ first (grid0.coords ⟨n + 1, h⟩) := fun hf => by
  have h1 := (first_iff ⟨n + 1, h⟩).1 hf
  have h2 : n + 1 < 16 := lt_of_lt_of_eq h N_0
  simp only at h1; omega

/-- What each point leaves, from the first on. -/
def outs (c : Dev nD) : (n : ℕ) → n < cfg0.N → Outs F
  | 0, h => (runA c (grid0.coords ⟨0, h⟩) (bufs ⟨0, h⟩) ((first_iff ⟨0, h⟩).2 rfl) (blocks V c ⟨0, h⟩)).1.read
  | n + 1, h => (runB c (grid0.coords ⟨n + 1, h⟩) (bufs ⟨n + 1, h⟩) (not_first n h) (blocks V c ⟨n + 1, h⟩)
      (outs c n (Nat.lt_of_succ_lt h)).s).1.read

/-- The call's own resources before point `n`: anything in the state's buffer at the start, then what the point before left. -/
def inv (c : Dev nD) : (n : ℕ) → n ≤ cfg0.N → sProp (Res F)
  | 0, _ => iprop(some_ c (Memref.whole cc0_scratch0) ∗ (∃ r, prngReg c r)
      ∗ Pipeline.scopedRestBut (Ix := Unit) (Name := ℕ) (U := UR sig nD τ) (Lvl := ℕ) (Val := Elt F) spec0 c [cc0_scratch0])
  | n + 1, h => iprop(held c (Memref.whole cc0_scratch0) (outs V c n h).s ∗ (∃ r, prngReg c r)
      ∗ Pipeline.scopedRestBut (Ix := Unit) (Name := ℕ) (U := UR sig nD τ) (Lvl := ℕ) (Val := Elt F) spec0 c [cc0_scratch0])

/-- The call's proof data. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outs V c t.val t.isLt).o
    | ⟨7, _⟩ => (outs V c t.val t.isLt).v
    | ⟨8, _⟩ => (outs V c t.val t.isLt).z
  Φ t := inv V c t.val (Nat.le_of_lt_succ t.isLt)
  q _ := fullShare
  owed _ := 0

theorem A_eq (c : Dev nD) (w : Fin cfg0.W) : (dat V c).A w = V c (Pipeline.arrRef spec0 w) := by dsimp only [dat]

theorem after_in (c : Dev nD) (t : Fin cfg0.N) : (dat V c).after 0 t = iblk V c 0 t ∧ (dat V c).after 1 t = iblk V c 1 t
    ∧ (dat V c).after 2 t = iblk V c 2 t ∧ (dat V c).after 3 t = iblk V c 3 t ∧ (dat V c).after 4 t = iblk V c 4 t
    ∧ (dat V c).after 5 t = iblk V c 5 t := ⟨rfl, rfl, rfl, rfl, rfl, rfl⟩
theorem after_6 (c : Dev nD) (t : Fin cfg0.N) : (dat V c).after 6 t = (outs V c t.val t.isLt).o := by dsimp only [dat]
theorem after_7 (c : Dev nD) (t : Fin cfg0.N) : (dat V c).after 7 t = (outs V c t.val t.isLt).v := by dsimp only [dat]
theorem after_8 (c : Dev nD) (t : Fin cfg0.N) : (dat V c).after 8 t = (outs V c t.val t.isLt).z := by dsimp only [dat]

theorem before_0 (c : Dev nD) (t : Fin cfg0.N) (d) : (dat V c).before 0 t d = iblk V c 0 t :=
  ((dat V c).before_in_eq_fetched 0 rfl (fun _ => rfl) (fun _ _ _ => rfl) (fun _ => rfl) t d).trans rfl
theorem before_1 (c : Dev nD) (t : Fin cfg0.N) (d) : (dat V c).before 1 t d = iblk V c 1 t :=
  ((dat V c).before_in_eq_fetched 1 rfl (fun _ => rfl) (fun _ _ _ => rfl) (fun _ => rfl) t d).trans rfl
theorem before_2 (c : Dev nD) (t : Fin cfg0.N) (d) : (dat V c).before 2 t d = iblk V c 2 t :=
  ((dat V c).before_in_eq_fetched 2 rfl (fun _ => rfl) (fun _ _ _ => rfl) (fun _ => rfl) t d).trans rfl
theorem before_3 (c : Dev nD) (t : Fin cfg0.N) (d) : (dat V c).before 3 t d = iblk V c 3 t :=
  ((dat V c).before_in_eq_fetched 3 rfl (fun _ => rfl) (fun _ _ _ => rfl) (fun _ => rfl) t d).trans rfl
theorem before_4 (c : Dev nD) (t : Fin cfg0.N) (d) : (dat V c).before 4 t d = iblk V c 4 t :=
  ((dat V c).before_in_eq_fetched 4 rfl (fun _ => rfl) (fun _ _ _ => rfl) (fun _ => rfl) t d).trans rfl
theorem before_5 (c : Dev nD) (t : Fin cfg0.N) (d) : (dat V c).before 5 t d = iblk V c 5 t :=
  ((dat V c).before_in_eq_fetched 5 rfl (fun _ => rfl) (fun _ _ _ => rfl) (fun _ => rfl) t d).trans rfl

/-! ## The body obligation, at any point -/

/-- The outputs' and the state's buffers after a point. -/
abbrev Bufs.left (M : Bufs) (c : Dev nD) (o : Outs F) : sProp (Res F) :=
  iprop(held c M.o o.o ∗ held c M.v o.v ∗ held c M.z o.z ∗ held c M.s o.s)

theorem left_of_outs (M : Bufs) (c : Dev nD) (L : Stores F) (h : L.Full) : (M.outs c L : sProp (Res F)) ⊢ M.left c L.read := by
  unfold Bufs.outs Bufs.left
  iintro ⟨H0, H1, H2, H3⟩
  isplitl [H0]; · iapply held_of_wrote c M.o L.o h.o; iexact H0
  isplitl [H1]; · iapply held_of_wrote c M.v L.v h.v; iexact H1
  isplitl [H2]; · iapply held_of_wrote c M.z L.z h.z; iexact H2
  iapply held_of_wrote c M.s L.s h.s; iexact H3

/-- The body at point `n` turns the state's buffer and the outputs' into what `outs` says. -/
theorem step (c : Dev nD) (t : Fin cfg0.N) (R : sProp (Res F)) :
    iprop((bufs t).ins c (blocks V c t) ∗ (some_ c (bufs t).o ∗ some_ c (bufs t).v ∗ some_ c (bufs t).z)
        ∗ inv V c t.val (Nat.le_of_lt t.isLt) ∗ R)
      ⊢ wp frame (wpE (defs₀ (F := F)) Variants.none c none) Set.univ (bodyAt0 t)
          (fun _ => iprop((bufs t).ins c (blocks V c t) ∗ (held c (bufs t).o (outs V c t.val t.isLt).o
            ∗ held c (bufs t).v (outs V c t.val t.isLt).v ∗ held c (bufs t).z (outs V c t.val t.isLt).z)
            ∗ inv V c (t.val + 1) t.isLt ∗ R)) := by
  obtain ⟨n, hn⟩ := t
  cases n with
  | zero =>
    dsimp only [inv]
    have hf := left_of_outs (bufs ⟨0, hn⟩) c _ (fullA c (grid0.coords ⟨0, hn⟩) (bufs ⟨0, hn⟩) ((first_iff ⟨0, hn⟩).2 rfl) (blocks V c ⟨0, hn⟩))
    iintro ⟨Hi, Ho, ⟨Hs, Hg⟩, HR⟩
    iapply ((runA c (grid0.coords ⟨0, hn⟩) (bufs ⟨0, hn⟩) ((first_iff ⟨0, hn⟩).2 rfl) (blocks V c ⟨0, hn⟩)).2 Set.univ _)
    isplitl [Hi]; · iexact Hi
    isplitl [Ho]; · iexact Ho
    isplitl [Hs]; · iexact Hs
    iintro ⟨Hi, Ho⟩
    ihave H := hf $$ Ho
    icases H with ⟨H0, H1, H2, H3⟩
    isplitl [Hi]; · iexact Hi
    isplitl [H0 H1 H2]
    · isplitl [H0]; · iexact H0
      isplitl [H1]; · iexact H1
      iexact H2
    isplitl [H3 Hg]
    · isplitl [H3]; · iexact H3
      iexact Hg
    iexact HR
  | succ n =>
    dsimp only [inv]
    have hf := left_of_outs (bufs ⟨n + 1, hn⟩) c _ (fullB c (grid0.coords ⟨n + 1, hn⟩) (bufs ⟨n + 1, hn⟩) (not_first n hn) (blocks V c ⟨n + 1, hn⟩)
      (outs V c n (Nat.lt_of_succ_lt hn)).s)
    iintro ⟨Hi, Ho, ⟨Hs, Hg⟩, HR⟩
    iapply ((runB c (grid0.coords ⟨n + 1, hn⟩) (bufs ⟨n + 1, hn⟩) (not_first n hn) (blocks V c ⟨n + 1, hn⟩)
      (outs V c n (Nat.lt_of_succ_lt hn)).s).2 Set.univ _)
    isplitl [Hi]; · iexact Hi
    isplitl [Ho]; · iexact Ho
    isplitl [Hs]; · iexact Hs
    iintro ⟨Hi, Ho⟩
    ihave H := hf $$ Ho
    icases H with ⟨H0, H1, H2, H3⟩
    isplitl [Hi]; · iexact Hi
    isplitl [H0 H1 H2]
    · isplitl [H0]; · iexact H0
      isplitl [H1]; · iexact H1
      iexact H2
    isplitl [H3 Hg]
    · isplitl [H3]; · iexact H3
      iexact Hg
    iexact HR

/-- What the body is called with at point `t`, and what it returns. -/
abbrev pre (c : Dev nD) (t : Fin cfg0.N) : sProp (Res F) :=
  iprop((dat V c).Φ t.castSucc ∗ (dat V c).owesAt () t.castSucc
    ∗ (∃ d, held c (bufs t).u ((dat V c).before 0 t d)) ∗ (∃ d, held c (bufs t).w ((dat V c).before 1 t d))
    ∗ (∃ d, held c (bufs t).q ((dat V c).before 2 t d)) ∗ (∃ d, held c (bufs t).k ((dat V c).before 3 t d))
    ∗ (∃ d, held c (bufs t).i ((dat V c).before 4 t d)) ∗ (∃ d, held c (bufs t).e ((dat V c).before 5 t d))
    ∗ (∃ d, held c (bufs t).o ((dat V c).before 6 t d)) ∗ (∃ d, held c (bufs t).v ((dat V c).before 7 t d))
    ∗ (∃ d, held c (bufs t).z ((dat V c).before 8 t d)))
abbrev post (c : Dev nD) (t : Fin cfg0.N) : sProp (Res F) :=
  iprop((dat V c).Φ t.succ ∗ (dat V c).owesAt () t.succ
    ∗ held c (bufs t).u ((dat V c).after 0 t) ∗ held c (bufs t).w ((dat V c).after 1 t)
    ∗ held c (bufs t).q ((dat V c).after 2 t) ∗ held c (bufs t).k ((dat V c).after 3 t)
    ∗ held c (bufs t).i ((dat V c).after 4 t) ∗ held c (bufs t).e ((dat V c).after 5 t)
    ∗ held c (bufs t).o ((dat V c).after 6 t) ∗ held c (bufs t).v ((dat V c).after 7 t)
    ∗ held c (bufs t).z ((dat V c).after 8 t))

theorem inv_castSucc (c : Dev nD) (t : Fin cfg0.N) : (dat V c).Φ t.castSucc = inv V c t.val (Nat.le_of_lt t.isLt) := by
  dsimp only [dat]; exact Pipeline.Dat.Φ_castSucc (inv V c) t
theorem inv_succ (c : Dev nD) (t : Fin cfg0.N) : (dat V c).Φ t.succ = inv V c (t.val + 1) t.isLt := rfl

theorem sound (c : Dev nD) (t : Fin cfg0.N) :
    pre V c t ⊢ wp frame (wpE (defs₀ (F := F)) Variants.none c none) Set.univ (bodyAt0 t) (fun _ => post V c t) := by
  refine triple_restated (step V c t ((dat V c).owesAt () t.castSucc)) rfl ?_ fun _ => ?_
  · unfold pre
    rw [inv_castSucc]
    simp only [before_0, before_1, before_2, before_3, before_4, before_5]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8]
    · isplitl [H6]; · iexists _; iexact H6
      isplitl [H7]; · iexists _; iexact H7
      iexists _; iexact H8
    isplitl [HΦ]; · iexact HΦ
    iexact HO
  · unfold post
    rw [inv_succ, show (dat V c).owesAt () t.succ = (dat V c).owesAt () t.castSucc from rfl, after_6, after_7, after_8,
      (after_in V c t).1, (after_in V c t).2.1, (after_in V c t).2.2.1, (after_in V c t).2.2.2.1, (after_in V c t).2.2.2.2.1,
      (after_in V c t).2.2.2.2.2]
    iintro ⟨⟨H0, H1, H2, H3, H4, H5⟩, ⟨H6, H7, H8⟩, HΦ, HO⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body (c : Dev nD) : BodyObligation (dat (F := F) V c) (defs₀ (F := F)) Variants.none () Set.univ := fun t => by
  have hrow : defs₀ (F := F) .tc cfg0.body (cfg0.bodyArgs t (cfg0.slots t)) = bodyAt0 t := by unfold defs₀; rw [Defs.onTc_tc]
  rw [bigSep_W0, bigSep_W0, hrow]
  exact triple_restated (sound V c t) rfl .rfl fun _ => .rfl

/-- What the launch hands the call is the invariant at the start, and the invariant at the end gives it back. -/
theorem inv_in (c : Dev nD) :
    iprop((∃ r, prngReg c r) ∗ Pipeline.scopedRest (Ix := Unit) (Name := ℕ) (U := UR sig nD τ) (Lvl := ℕ) (Val := Elt F) spec0 c)
      ⊢ (dat V c).Φ 0 := by
  rw [show (dat V c).Φ 0 = inv V c 0 (Nat.zero_le _) from rfl,
    scopedRest0_split c]
  dsimp only [inv]
  simp only [some_, owns_whole]
  iintro ⟨Hp, ⟨Hs, Hr⟩⟩
  isplitl [Hs]; · iexact Hs
  isplitl [Hp]; · iexact Hp
  iexact Hr

theorem inv_out (c : Dev nD) :
    (dat V c).Φ (Fin.last cfg0.N) ⊢ iprop((∃ r, prngReg c r)
      ∗ Pipeline.scopedRest (Ix := Unit) (Name := ℕ) (U := UR sig nD τ) (Lvl := ℕ) (Val := Elt F) spec0 c) := by
  have h15 : cfg0.N = 15 + 1 := N_0
  have e : (dat V c).Φ (Fin.last cfg0.N) = inv V c (15 + 1) (le_of_eq h15.symm) := by
    dsimp only [dat]; congr 1
  rw [e, scopedRest0_split c]
  dsimp only [inv]
  simp only [held, owns_whole]
  iintro ⟨Hs, Hp, Hr⟩
  isplitl [Hp]; · iexact Hp
  isplitl [Hs]; · iexists _; iexact Hs
  iexact Hr

end Data

end Cert.ScanIdeal.Scan.Fwd
-- ==== Proof.ScanFwdPoint.lean ====
module

public import proofs.«01_k».proof.Proof.ScanKernel
public import proofs.«01_k».proof.Proof.ScanFwd

/-! What a point of the scan's forward call leaves: the outputs of its two chunks and the state after them. -/

@[expose] public section

set_option maxRecDepth 16384

noncomputable section

open Idealize.ShloMosaic Idealize.ShloMosaic.TcCoe Idealize.SL.Sem
open Cert.ScanMath

namespace Cert.ScanIdeal.Val
open Cert.ScanIdeal Cert.ScanIdeal.Gen Cert.ScanIdeal.Scan

/-- A block's rows of its first and of its second chunk. -/
abbrev lo {e : EltTy} (v : Vec Ideal S2x8x128x128 e) : Vec Ideal S2x8x64x128 e :=
  View.ld v (Rect.unit ![0, 0, 0, 0] ![2, 8, 64, 128] inb_S2x8x128x128_S2x8x64x128_0_0_0_0)
abbrev up {e : EltTy} (v : Vec Ideal S2x8x128x128 e) : Vec Ideal S2x8x64x128 e :=
  View.ld v (Rect.unit ![0, 0, 64, 0] ![2, 8, 64, 128] inb_S2x8x128x128_S2x8x64x128_0_0_64_0)
abbrev loI (v : Vec Ideal S2x8x128x64 .bf16) : Vec Ideal S2x8x64x64 .bf16 :=
  View.ld v (Rect.unit ![0, 0, 0, 0] ![2, 8, 64, 64] inb_S2x8x128x64_S2x8x64x64_0_0_0_0)
abbrev upI (v : Vec Ideal S2x8x128x64 .bf16) : Vec Ideal S2x8x64x64 .bf16 :=
  View.ld v (Rect.unit ![0, 0, 64, 0] ![2, 8, 64, 64] inb_S2x8x128x64_S2x8x64x64_0_0_64_0)
abbrev loE (v : Vec Ideal S2x8x16x128 .f32) : Vec Ideal S2x8x1x128 .f32 :=
  View.ld v (Rect.unit ![0, 0, 0, 0] ![2, 8, 1, 128] inb_S2x8x16x128_S2x8x1x128_0_0_0_0)
abbrev upE (v : Vec Ideal S2x8x16x128 .f32) : Vec Ideal S2x8x1x128 .f32 :=
  View.ld v (Rect.unit ![0, 0, 8, 0] ![2, 8, 1, 128] inb_S2x8x16x128_S2x8x1x128_0_0_8_0)

/-- Chunk `p` of point `n`. -/
abbrev ch (n : Fin 16) (p : Fin 2) : Fin 32 := ⟨n.val * 2 + p.val, by omega⟩

/-- Row `t` of chunk `p` in a point's block. -/
abbrev r2 (p : Fin 2) (t : Fin 64) : Fin 128 := ⟨p.val * 64 + t.val, by omega⟩

/-- A point's blocks hold its two chunks of every head. -/
structure Holds (X : Blocks Ideal) (A : Fin 2 → Fin 8 → Seq) (n : Fin 16) : Prop where
  u : ∀ b h p t d, X.u (ix4 b h (r2 p t) d) = (A b h).u (ch n p) t d
  w : ∀ b h p t d, X.w (ix4 b h (r2 p t) d) = (A b h).w (ch n p) t d
  q : ∀ b h p t d, X.q (ix4 b h (r2 p t) d) = (A b h).q (ch n p) t d
  k : ∀ b h p t d, X.k (ix4 b h (r2 p t) d) = (A b h).k (ch n p) t d
  i : ∀ b h p t d, X.i (ix4 b h (r2 p t) d) = (A b h).i (ch n p) t d
  e : ∀ b h (p : Fin 2) d, X.e (ix4 b h ⟨p.val * 8, by omega⟩ d) = (A b h).e (ch n p)

/-- A block of rows, from its two chunks. -/
def rowBlock (f : Fin 2 → Fin 8 → Fin 2 → Fin 64 → Fin 128 → EReal) : S2x8x128x128.Idx → EReal :=
  fun y => f (y 0) (y 1) ⟨(y 2).val / 64, by have : (y 2).val < 128 := (y 2).isLt; omega⟩ ⟨(y 2).val % 64, by omega⟩ (y 3)

theorem rowBlock_at (f : Fin 2 → Fin 8 → Fin 2 → Fin 64 → Fin 128 → EReal) (b : Fin 2) (h : Fin 8) (p : Fin 2) (t : Fin 64) (d : Fin 128) : rowBlock f (ix4 b h (r2 p t) d) = f b h p t d := by
  have e1 : ∀ q, (⟨(p.val * 64 + t.val) / 64, q⟩ : Fin 2) = p := fun q => Fin.ext (by simp only; omega)
  have e2 : ∀ q, (⟨(p.val * 64 + t.val) % 64, q⟩ : Fin 64) = t := fun q => Fin.ext (by simp only; omega)
  exact congr (congr (congrArg (f b h) (e1 _)) (e2 _)) rfl

/-- Two states, from a point's two chunks. -/
def stateBlock (f : Fin 2 → Fin 8 → Fin 2 → Fin 128 → Fin 128 → EReal) : S2x8x2x128x128.Idx → EReal :=
  fun y => f (y 0) (y 1) (y 2) (y 3) (y 4)

theorem ix4_of (y : S2x8x128x128.Idx) (b : Fin 2) (h : Fin 8) (r d : Fin 128) (h0 : (y 0).val = b.val) (h1 : (y 1).val = h.val)
    (h2 : (y 2).val = r.val) (h3 : (y 3).val = d.val) : y = ix4 b h r d := by
  funext a; fin_cases a
  · exact Fin.ext h0
  · exact Fin.ext h1
  · exact Fin.ext h2
  · exact Fin.ext h3

theorem ix5_of (y : S2x8x2x128x128.Idx) (b : Fin 2) (h : Fin 8) (p : Fin 2) (j d : Fin 128) (h0 : (y 0).val = b.val) (h1 : (y 1).val = h.val)
    (h2 : (y 2).val = p.val) (h3 : (y 3).val = j.val) (h4 : (y 4).val = d.val) : y = ix5 b h p j d := by
  funext a; fin_cases a
  · exact Fin.ext h0
  · exact Fin.ext h1
  · exact Fin.ext h2
  · exact Fin.ext h3
  · exact Fin.ext h4

theorem lo_at {e : EltTy} (v : Vec Ideal S2x8x128x128 e) (b h t d) : lo v (ix4 b h t d) = v (ix4 b h (r2 0 t) d) := by
  refine congrArg v (ix4_of _ b h _ d ?_ ?_ ?_ ?_) <;> simp [Rect.idx_unit_val]
theorem up_at {e : EltTy} (v : Vec Ideal S2x8x128x128 e) (b h t d) : up v (ix4 b h t d) = v (ix4 b h (r2 1 t) d) := by
  refine congrArg v (ix4_of _ b h _ d ?_ ?_ ?_ ?_) <;> simp [Rect.idx_unit_val]
theorem loI_at (v : Vec Ideal S2x8x128x64 .bf16) (b h t d) : loI v (ix4 b h t d) = v (ix4 b h (r2 0 t) d) := by
  refine congrArg v (?_ : _ = (ix4 b h (r2 0 t) d : S2x8x128x64.Idx)); funext a; apply Fin.ext; fin_cases a <;> simp [Rect.idx_unit_val]
theorem upI_at (v : Vec Ideal S2x8x128x64 .bf16) (b h t d) : upI v (ix4 b h t d) = v (ix4 b h (r2 1 t) d) := by
  refine congrArg v (?_ : _ = (ix4 b h (r2 1 t) d : S2x8x128x64.Idx)); funext a; apply Fin.ext; fin_cases a <;> simp [Rect.idx_unit_val]
theorem loE_at (v : Vec Ideal S2x8x16x128 .f32) (b h d) : loE v (ix4 b h 0 d) = v (ix4 b h ⟨(0 : Fin 2).val * 8, by decide⟩ d) := by
  refine congrArg v (?_ : _ = (ix4 b h ⟨(0 : Fin 2).val * 8, by decide⟩ d : S2x8x16x128.Idx)); funext a; apply Fin.ext; fin_cases a <;> simp [Rect.idx_unit_val]
theorem upE_at (v : Vec Ideal S2x8x16x128 .f32) (b h d) : upE v (ix4 b h 0 d) = v (ix4 b h ⟨(1 : Fin 2).val * 8, by decide⟩ d) := by
  refine congrArg v (?_ : _ = (ix4 b h ⟨(1 : Fin 2).val * 8, by decide⟩ d : S2x8x16x128.Idx)); funext a; apply Fin.ext; fin_cases a <;> simp [Rect.idx_unit_val]

/-- The state after a point's first chunk, and after both. -/
abbrev mid (X : Blocks Ideal) (x : Vec Ideal S16x128x128 .f32) : Vec Ideal S16x128x128 .f32 :=
  k0_pay6 x (k0_pay4 x (lo X.u) (lo X.w)) (loE X.e) (lo X.k)
abbrev fin (X : Blocks Ideal) (x : Vec Ideal S16x128x128 .f32) : Vec Ideal S16x128x128 .f32 :=
  k0_pay13 (mid X x) (k0_pay10 (up X.u)) (up X.w) (upE X.e) (up X.k)

section Point

variable (X : Blocks Ideal) (A : Fin 2 → Fin 8 → Seq) (n : Fin 16) (H : Holds X A n)
variable (x : Vec Ideal S16x128x128 .f32) (hx : ∀ b h, m3 x b h = (A b h).state (n.val * 2))
include H hx

omit hx in
theorem halves (b : Fin 2) (h : Fin 8) : (m4 (lo X.u) b h = (A b h).u (ch n 0) ∧ m4 (lo X.w) b h = (A b h).w (ch n 0) ∧ m4 (lo X.q) b h = (A b h).q (ch n 0)
      ∧ m4 (lo X.k) b h = (A b h).k (ch n 0) ∧ m4 (loI X.i) b h = (A b h).i (ch n 0))
    ∧ m4 (up X.u) b h = (A b h).u (ch n 1) ∧ m4 (up X.w) b h = (A b h).w (ch n 1) ∧ m4 (up X.q) b h = (A b h).q (ch n 1)
      ∧ m4 (up X.k) b h = (A b h).k (ch n 1) ∧ m4 (upI X.i) b h = (A b h).i (ch n 1) := by
  refine ⟨⟨?_, ?_, ?_, ?_, ?_⟩, ?_, ?_, ?_, ?_, ?_⟩ <;> funext t d
  · exact (lo_at _ b h t d).trans (H.u b h 0 t d)
  · exact (lo_at _ b h t d).trans (H.w b h 0 t d)
  · exact (lo_at _ b h t d).trans (H.q b h 0 t d)
  · exact (lo_at _ b h t d).trans (H.k b h 0 t d)
  · exact (loI_at _ b h t d).trans (H.i b h 0 t d)
  · exact (up_at _ b h t d).trans (H.u b h 1 t d)
  · exact (up_at _ b h t d).trans (H.w b h 1 t d)
  · exact (up_at _ b h t d).trans (H.q b h 1 t d)
  · exact (up_at _ b h t d).trans (H.k b h 1 t d)
  · exact (upI_at _ b h t d).trans (H.i b h 1 t d)

theorem v_lo (b : Fin 2) (h : Fin 8) : m3 (k0_pay4 (F := Ideal) x (lo X.u) (lo X.w)) b h = (A b h).vs (ch n 0) := by
  obtain ⟨⟨hu, hw, -, -, -⟩, -⟩ := halves X A n H b h
  funext t d
  refine (f4 b h x _ _ t d).trans ?_
  rw [hu, hw, hx]; rfl

theorem mid_eq (b : Fin 2) (h : Fin 8) : m3 (mid X x) b h = (A b h).state (n.val * 2 + 1) := by
  obtain ⟨⟨-, -, -, hk, -⟩, -⟩ := halves X A n H b h
  funext j d
  refine (f6 b h x _ _ _ _ (fun d => (loE_at _ b h d).trans (H.e b h 0 d)) j d).trans ?_
  rw [v_lo X A n H x hx, hk, hx]
  exact (congrFun (congrFun ((A b h).state_succ (ch n 0)) j) d).symm

theorem o_lo (b : Fin 2) (h : Fin 8) : m3 (k0_pay5 (F := Ideal) x (lo X.u) (lo X.w) (lo X.q) (loI X.i)) b h = (A b h).outs (ch n 0) := by
  obtain ⟨⟨hu, hw, hq, -, hi⟩, -⟩ := halves X A n H b h
  funext t d
  refine (f5 b h x _ _ _ _ t d).trans ?_
  rw [hu, hw, hq, hi, hx]; rfl

omit hx in
theorem u_up (b : Fin 2) (h : Fin 8) : m3 (k0_pay10 (F := Ideal) (up X.u)) b h = (A b h).u (ch n 1) := by
  funext t d
  exact (f10 b h _ t d).trans (congrFun (congrFun (halves X A n H b h).2.1 t) d)

theorem v_up (b : Fin 2) (h : Fin 8) : m3 (k0_pay11 (F := Ideal) (mid X x) (k0_pay10 (up X.u)) (up X.w)) b h = (A b h).vs (ch n 1) := by
  obtain ⟨-, -, hw, -⟩ := halves X A n H b h
  funext t d
  refine (f11 b h (mid X x) _ _ t d).trans ?_
  rw [u_up X A n H, hw, mid_eq X A n H x hx]; rfl

theorem o_up (b : Fin 2) (h : Fin 8) :
    m3 (k0_pay12 (F := Ideal) (mid X x) (k0_pay10 (up X.u)) (up X.w) (up X.q) (upI X.i)) b h = (A b h).outs (ch n 1) := by
  obtain ⟨-, -, hw, hq, -, hi⟩ := halves X A n H b h
  funext t d
  refine (f12 b h (mid X x) _ _ _ _ t d).trans ?_
  rw [u_up X A n H, hw, hq, hi, mid_eq X A n H x hx]; rfl

theorem fin_eq (b : Fin 2) (h : Fin 8) : m3 (fin X x) b h = (A b h).state (n.val * 2 + 2) := by
  obtain ⟨-, -, hw, -, hk, -⟩ := halves X A n H b h
  funext j d
  refine (f13 b h (mid X x) _ _ _ _ _ (fun d => (upE_at _ b h d).trans (H.e b h 1 d)) j d).trans ?_
  rw [u_up X A n H, hw, hk, mid_eq X A n H x hx]
  exact (congrFun (congrFun ((A b h).state_succ (ch n 1)) j) d).symm

end Point

/-- What a point leaves, from the state before it. -/
def point (X : Blocks Ideal) (x : Vec Ideal S16x128x128 .f32) : Fwd.Outs Ideal where
  o := View.canon [⟨Rect.unit ![0, 0, 64, 0] ![2, 8, 64, 128] inb_S2x8x128x128_S2x8x64x128_0_0_64_0,
      k0_pay1 (k0_pay12 (mid X x) (k0_pay10 (up X.u)) (up X.w) (up X.q) (upI X.i))⟩,
    ⟨Rect.unit ![0, 0, 0, 0] ![2, 8, 64, 128] inb_S2x8x128x128_S2x8x64x128_0_0_0_0, k0_pay8 (k0_pay5 x (lo X.u) (lo X.w) (lo X.q) (loI X.i))⟩]
  v := View.canon [⟨Rect.unit ![0, 0, 64, 0] ![2, 8, 64, 128] inb_S2x8x128x128_S2x8x64x128_0_0_64_0,
      k0_pay14 (mid X x) (k0_pay10 (up X.u)) (up X.w)⟩,
    ⟨Rect.unit ![0, 0, 0, 0] ![2, 8, 64, 128] inb_S2x8x128x128_S2x8x64x128_0_0_0_0, k0_pay7 (k0_pay4 x (lo X.u) (lo X.w))⟩]
  z := View.canon [⟨Rect.unit ![0, 0, 1, 0, 0] ![2, 8, 1, 128, 128] inb_S2x8x2x128x128_S2x8x1x128x128_0_0_1_0_0, k0_pay9 (mid X x)⟩,
    ⟨Rect.unit ![0, 0, 0, 0, 0] ![2, 8, 1, 128, 128] inb_S2x8x2x128x128_S2x8x1x128x128_0_0_0_0_0, k0_pay3 x⟩]
  s := fin X x

theorem runB_eq (c : Dev nD) (g : grid0.Coords) (M : Fwd.Bufs) (hc : ¬ Fwd.first g) (X : Blocks Ideal) (x : Vec Ideal S16x128x128 .f32) :
    (Fwd.runB c g M hc X x).1.read = point X x := by
  unfold Fwd.runB; dsimp only [Fwd.Stores.read]; frame_out; rfl

theorem runA_eq (c : Dev nD) (g : grid0.Coords) (M : Fwd.Bufs) (hc : Fwd.first g) (X : Blocks Ideal) :
    (Fwd.runA c g M hc X).1.read = point X (k0_pay2 (F := Ideal)) := by
  unfold Fwd.runA; dsimp only [Fwd.Stores.read]; frame_out; rfl

/-- What a point is to leave. -/
structure Leaves (L : Fwd.Outs Ideal) (A : Fin 2 → Fin 8 → Seq) (n : Fin 16) : Prop where
  o : L.o = rowBlock fun b h p => (A b h).outs (ch n p)
  v : L.v = rowBlock fun b h p => (A b h).vs (ch n p)
  z : L.z = stateBlock fun b h p => (A b h).state (ch n p).val
  s : ∀ b h, m3 L.s b h = (A b h).state (n.val * 2 + 2)

variable (X : Blocks Ideal) (A : Fin 2 → Fin 8 → Seq) (n : Fin 16) (H : Holds X A n)

include H in
theorem leaves (x : Vec Ideal S16x128x128 .f32) (hx : ∀ b h, m3 x b h = (A b h).state (n.val * 2)) : Leaves (point X x) A n := by
  unfold point
  refine ⟨?_, ?_, ?_, fun b h => ?_⟩
  · funext y
    canon_tiles a h <;> idx_vars a
    · obtain rfl := ix4_of y a0 a1 (r2 1 a2) a3 (by omega) (by omega) (by simp only [r2]; omega) (by omega)
      refine (f1 a0 a1 _ a2 a3).trans ((congrFun (congrFun (o_up X A n H x hx a0 a1) a2) a3).trans ?_)
      exact (rowBlock_at (fun b h p => (A b h).outs (ch n p)) a0 a1 1 a2 a3).symm
    · obtain rfl := ix4_of y a0 a1 (r2 0 a2) a3 (by omega) (by omega) (by simp only [r2]; omega) (by omega)
      refine (f8 a0 a1 _ a2 a3).trans ((congrFun (congrFun (o_lo X A n H x hx a0 a1) a2) a3).trans ?_)
      exact (rowBlock_at (fun b h p => (A b h).outs (ch n p)) a0 a1 0 a2 a3).symm
  · funext y
    canon_tiles a h <;> idx_vars a
    · obtain rfl := ix4_of y a0 a1 (r2 1 a2) a3 (by omega) (by omega) (by simp only [r2]; omega) (by omega)
      refine (f14 a0 a1 (mid X x) _ _ a2 a3).trans ((f11 a0 a1 (mid X x) _ _ a2 a3).symm.trans ?_)
      refine (congrFun (congrFun (v_up X A n H x hx a0 a1) a2) a3).trans ?_
      exact (rowBlock_at (fun b h p => (A b h).vs (ch n p)) a0 a1 1 a2 a3).symm
    · obtain rfl := ix4_of y a0 a1 (r2 0 a2) a3 (by omega) (by omega) (by simp only [r2]; omega) (by omega)
      refine (f7 a0 a1 _ a2 a3).trans ((congrFun (congrFun (v_lo X A n H x hx a0 a1) a2) a3).trans ?_)
      exact (rowBlock_at (fun b h p => (A b h).vs (ch n p)) a0 a1 0 a2 a3).symm
  · funext y
    canon_tiles a h <;> idx_vars a
    · obtain rfl := ix5_of y a0 a1 1 a3 a4 (by omega) (by omega) (by simp only [Fin.val_one]; omega) (by omega) (by omega)
      exact (f9 a0 a1 (mid X x) a2 a3 a4).trans (congrFun (congrFun (mid_eq X A n H x hx a0 a1) a3) a4)
    · obtain rfl := ix5_of y a0 a1 0 a3 a4 (by omega) (by omega) (by simp only [Fin.val_zero]; omega) (by omega) (by omega)
      exact (f3 a0 a1 x a2 a3 a4).trans (congrFun (congrFun (hx a0 a1) a3) a4)
  · exact fin_eq X A n H x hx b h

end Cert.ScanIdeal.Val

end

end
-- ==== Proof.ScanBwdRun.lean ====
module

public import proofs.«01_k».proof.Proof.ScanBase

/-! One grid point of the scan's gradient: what its body stores, found by running it once with the state reset
    (the first point) and once with the state the point before left. -/

@[expose] public section

set_option maxRecDepth 16384

noncomputable section

namespace Cert.ScanIdeal.Scan.Bwd

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What one point reads: the cotangent's blocks, the forward's operands, and the two arrays the forward saved. -/
structure In (F : FTy → Type) where
  c : Vec F S2x8x128x128 .f32
  b : Blocks F
  v : Vec F S2x8x128x128 .f32
  z : Vec F S2x8x2x128x128 .f32

/-- The buffers the body is called with, each whole. -/
structure Bufs where
  c : Mref S2x8x128x128 .f32
  w : Mref S2x8x128x128 .bf16
  q : Mref S2x8x128x128 .bf16
  k : Mref S2x8x128x128 .bf16
  i : Mref S2x8x128x64 .bf16
  e : Mref S2x8x16x128 .f32
  v : Mref S2x8x128x128 .f32
  z : Mref S2x8x2x128x128 .f32
  du : Mref S2x8x128x128 .f32
  dw : Mref S2x8x128x128 .f32
  dq : Mref S2x8x128x128 .f32
  dk : Mref S2x8x128x128 .f32
  di : Mref S2x8x128x64 .f32
  de : Mref S2x8x16x128 .f32
  s : Mref S16x128x128 .f32
  hc : c.IsWhole
  hw : w.IsWhole
  hq : q.IsWhole
  hk : k.IsWhole
  hi : i.IsWhole
  he : e.IsWhole
  hv : v.IsWhole
  hz : z.IsWhole
  hdu : du.IsWhole
  hdw : dw.IsWhole
  hdq : dq.IsWhole
  hdk : dk.IsWhole
  hdi : di.IsWhole
  hde : de.IsWhole
  hs : s.IsWhole

/-- The body on these buffers. -/
abbrev Bufs.body (M : Bufs) (g : grid1.Coords) : Prog (TpuEff nD τ sig (Elt F) Λ₀ .tc) PUnit :=
  cc1_dn_scan_bwd g M.c M.hc M.w M.hw M.q M.hq M.k M.hk M.i M.hi M.e M.he M.v M.hv M.z M.hz
    M.du M.hdu M.dw M.hdw M.dq M.hdq M.dk M.hdk M.di M.hdi M.de M.hde M.s M.hs

/-- The input buffers hold the blocks. -/
abbrev Bufs.ins (M : Bufs) (d : Dev nD) (X : In F) : sProp (Res F) :=
  iprop(held d M.c X.c ∗ held d M.w X.b.w ∗ held d M.q X.b.q ∗ held d M.k X.b.k ∗ held d M.i X.b.i ∗ held d M.e X.b.e
    ∗ held d M.v X.v ∗ held d M.z X.z)

/-- The output buffers at some contents. -/
abbrev Bufs.room (M : Bufs) (d : Dev nD) : sProp (Res F) :=
  iprop(some_ d M.du ∗ some_ d M.dw ∗ some_ d M.dq ∗ some_ d M.dk ∗ some_ d M.di ∗ some_ d M.de)

/-- What a point stores: the six gradients' blocks and the carried gradient of the state. -/
structure Stores (F : FTy → Type) where
  du : List (View.Piece (Elt F) S2x8x128x128 .f32)
  dw : List (View.Piece (Elt F) S2x8x128x128 .f32)
  dq : List (View.Piece (Elt F) S2x8x128x128 .f32)
  dk : List (View.Piece (Elt F) S2x8x128x128 .f32)
  di : List (View.Piece (Elt F) S2x8x128x64 .f32)
  de : List (View.Piece (Elt F) S2x8x16x128 .f32)
  s : List (View.Piece (Elt F) S16x128x128 .f32)

/-- The output and state buffers after a point's stores. -/
abbrev Bufs.outs (M : Bufs) (d : Dev nD) (L : Stores F) : sProp (Res F) :=
  iprop(wrote d M.du L.du ∗ wrote d M.dw L.dw ∗ wrote d M.dq L.dq ∗ wrote d M.dk L.dk ∗ wrote d M.di L.di
    ∗ wrote d M.de L.de ∗ wrote d M.s L.s)

/-- The body's first branch is taken: the point is the grid's first. -/
abbrev first (g : grid1.Coords) : Prop :=
  (Scalar.cmpi .ne (Scalar.extui (Scalar.cmpi .eq (BitVec.ofNat 32 (g 0).val) 0#32)) 0#32) = 1#1

theorem first_iff : ∀ t : Fin cfg1.N, first (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [first, e0]
    word_cmp
   : ∀ t : Fin grid1.N, first (grid1.coords t) ↔ t.val % 16 = 0)

set_option maxHeartbeats 4000000 in
/-- The first point's run: the state's gradient is reset, so what its buffer held does not matter. -/
def runA (d : Dev nD) (g : grid1.Coords) (M : Bufs) (hc : first g) (X : In F) :
    { L : Stores F // ∀ (E : Set ℕ) (K : PUnit → sProp (Res F)),
        iprop(M.ins d X ∗ M.room d ∗ some_ d M.s
            ∗ (iprop(M.ins d X ∗ M.outs d L) -∗ K ⟨⟩))
          ⊢ wp frame (wpE (defs₀ (F := F)) Variants.none d none) E (M.body g) K } := by
  refine ⟨⟨?_, ?_, ?_, ?_, ?_, ?_, ?_⟩, fun E K => ?run⟩
  case run =>
    simp only [Bufs.body, cc1_dn_scan_bwd_eq_skeleton]; unfold cc1_dn_scan_bwd_skel
    simp only [k1_part1_eq_skeleton, k1_part2_eq_skeleton, k1_part3_eq_skeleton, k1_part4_eq_skeleton, k1_part5_eq_skeleton]
    simp only [Bufs.ins, Bufs.outs, Bufs.room, held, some_, wrote]
    unfold owns
    iintro ⟨⟨⟨%f0, %h0, H0⟩, ⟨%f1, %h1, H1⟩, ⟨%f2, %h2, H2⟩, ⟨%f3, %h3, H3⟩, ⟨%f4, %h4, H4⟩, ⟨%f5, %h5, H5⟩,
        ⟨%f6, %h6, H6⟩, ⟨%f7, %h7, H7⟩⟩,
      ⟨⟨%d8, %f8, -, H8⟩, ⟨%d9, %f9, -, H9⟩, ⟨%d10, %f10, -, H10⟩, ⟨%d11, %f11, -, H11⟩, ⟨%d12, %f12, -, H12⟩,
        ⟨%d13, %f13, -, H13⟩⟩, ⟨%ds, %fs, -, HS⟩, Hk⟩
    obtain rfl := M.hc.eq_unread h0; obtain rfl := M.hw.eq_unread h1; obtain rfl := M.hq.eq_unread h2
    obtain rfl := M.hk.eq_unread h3; obtain rfl := M.hi.eq_unread h4; obtain rfl := M.he.eq_unread h5
    obtain rfl := M.hv.eq_unread h6; obtain rfl := M.hz.eq_unread h7
    sl_exec (disch := first | sl_exact hc)
    sl_step
    iapply Hk
    isplitl [H0 H1 H2 H3 H4 H5 H6 H7]
    · isplitl [H0]; · iapply held_unread d M.c M.hc; iexact H0
      isplitl [H1]; · iapply held_unread d M.w M.hw; iexact H1
      isplitl [H2]; · iapply held_unread d M.q M.hq; iexact H2
      isplitl [H3]; · iapply held_unread d M.k M.hk; iexact H3
      isplitl [H4]; · iapply held_unread d M.i M.hi; iexact H4
      isplitl [H5]; · iapply held_unread d M.e M.he; iexact H5
      isplitl [H6]; · iapply held_unread d M.v M.hv; iexact H6
      iapply held_unread d M.z M.hz; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS

set_option maxHeartbeats 4000000 in
/-- A later point's run, from the gradient of the state the point before left. -/
def runB (d : Dev nD) (g : grid1.Coords) (M : Bufs) (hc : ¬ first g) (X : In F) (x : Vec F S16x128x128 .f32) :
    { L : Stores F // ∀ (E : Set ℕ) (K : PUnit → sProp (Res F)),
        iprop(M.ins d X ∗ M.room d ∗ held d M.s x
            ∗ (iprop(M.ins d X ∗ M.outs d L) -∗ K ⟨⟩))
          ⊢ wp frame (wpE (defs₀ (F := F)) Variants.none d none) E (M.body g) K } := by
  refine ⟨⟨?_, ?_, ?_, ?_, ?_, ?_, ?_⟩, fun E K => ?run⟩
  case run =>
    simp only [Bufs.body, cc1_dn_scan_bwd_eq_skeleton]; unfold cc1_dn_scan_bwd_skel
    simp only [k1_part1_eq_skeleton, k1_part2_eq_skeleton, k1_part3_eq_skeleton, k1_part4_eq_skeleton, k1_part5_eq_skeleton]
    simp only [Bufs.ins, Bufs.outs, Bufs.room, held, some_, wrote]
    unfold owns
    iintro ⟨⟨⟨%f0, %h0, H0⟩, ⟨%f1, %h1, H1⟩, ⟨%f2, %h2, H2⟩, ⟨%f3, %h3, H3⟩, ⟨%f4, %h4, H4⟩, ⟨%f5, %h5, H5⟩,
        ⟨%f6, %h6, H6⟩, ⟨%f7, %h7, H7⟩⟩,
      ⟨⟨%d8, %f8, -, H8⟩, ⟨%d9, %f9, -, H9⟩, ⟨%d10, %f10, -, H10⟩, ⟨%d11, %f11, -, H11⟩, ⟨%d12, %f12, -, H12⟩,
        ⟨%d13, %f13, -, H13⟩⟩, ⟨%fs, %hs, HS⟩, Hk⟩
    obtain rfl := M.hc.eq_unread h0; obtain rfl := M.hw.eq_unread h1; obtain rfl := M.hq.eq_unread h2
    obtain rfl := M.hk.eq_unread h3; obtain rfl := M.hi.eq_unread h4; obtain rfl := M.he.eq_unread h5
    obtain rfl := M.hv.eq_unread h6; obtain rfl := M.hz.eq_unread h7; obtain rfl := M.hs.eq_unread hs
    sl_exec (disch := first | sl_exact hc)
    sl_step
    iapply Hk
    isplitl [H0 H1 H2 H3 H4 H5 H6 H7]
    · isplitl [H0]; · iapply held_unread d M.c M.hc; iexact H0
      isplitl [H1]; · iapply held_unread d M.w M.hw; iexact H1
      isplitl [H2]; · iapply held_unread d M.q M.hq; iexact H2
      isplitl [H3]; · iapply held_unread d M.k M.hk; iexact H3
      isplitl [H4]; · iapply held_unread d M.i M.hi; iexact H4
      isplitl [H5]; · iapply held_unread d M.e M.he; iexact H5
      isplitl [H6]; · iapply held_unread d M.v M.hv; iexact H6
      iapply held_unread d M.z M.hz; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS

end Cert.ScanIdeal.Scan.Bwd
-- ==== Proof.ScanBwd.lean ====
module

public import proofs.«01_k».proof.Proof.ScanBwdRun

/-! The scan's gradient over its grid: the gradient of the state is carried from point to point in a buffer of the
    call's own. -/

@[expose] public section

set_option maxRecDepth 16384

noncomputable section

namespace Cert.ScanIdeal.Scan.Bwd

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What a point's stores leave in the outputs and in the state's gradient. -/
structure Outs (F : FTy → Type) where
  du : Vec F S2x8x128x128 .f32
  dw : Vec F S2x8x128x128 .f32
  dq : Vec F S2x8x128x128 .f32
  dk : Vec F S2x8x128x128 .f32
  di : Vec F S2x8x128x64 .f32
  de : Vec F S2x8x16x128 .f32
  s : Vec F S16x128x128 .f32

/-- The stored pieces read back. -/
abbrev Stores.read (L : Stores F) : Outs F := ⟨View.canon L.du, View.canon L.dw, View.canon L.dq, View.canon L.dk, View.canon L.di, View.canon L.de, View.canon L.s⟩

/-- The pieces fill their buffers. -/
structure Stores.Full (L : Stores F) : Prop where
  du : ∀ y, ∃ p ∈ L.du, y ∈ p.1.set
  dw : ∀ y, ∃ p ∈ L.dw, y ∈ p.1.set
  dq : ∀ y, ∃ p ∈ L.dq, y ∈ p.1.set
  dk : ∀ y, ∃ p ∈ L.dk, y ∈ p.1.set
  di : ∀ y, ∃ p ∈ L.di, y ∈ p.1.set
  de : ∀ y, ∃ p ∈ L.de, y ∈ p.1.set
  s : ∀ y, ∃ p ∈ L.s, y ∈ p.1.set

theorem fullA (d : Dev nD) (g : grid1.Coords) (M : Bufs) (hc : first g) (X : In F) : (runA d g M hc X).1.Full :=
  ⟨View.cover_of_tiledL _ S2x8x64x128.size (by sl_kernel_rfl),
    View.cover_of_tiledL _ S2x8x64x128.size (by sl_kernel_rfl),
    View.cover_of_tiledL _ S2x8x64x128.size (by sl_kernel_rfl),
    View.cover_of_tiledL _ S2x8x64x128.size (by sl_kernel_rfl),
    View.cover_of_tiledL _ S2x8x64x64.size (by sl_kernel_rfl),
    View.cover_of_tiledL _ S2x8x8x128.size (by sl_kernel_rfl),
    View.cover_of_tiledL _ S16x128x128.size (by sl_kernel_rfl)⟩

theorem fullB (d : Dev nD) (g : grid1.Coords) (M : Bufs) (hc : ¬ first g) (X : In F) (x : Vec F S16x128x128 .f32) :
    (runB d g M hc X x).1.Full :=
  ⟨View.cover_of_tiledL _ S2x8x64x128.size (by sl_kernel_rfl),
    View.cover_of_tiledL _ S2x8x64x128.size (by sl_kernel_rfl),
    View.cover_of_tiledL _ S2x8x64x128.size (by sl_kernel_rfl),
    View.cover_of_tiledL _ S2x8x64x128.size (by sl_kernel_rfl),
    View.cover_of_tiledL _ S2x8x64x64.size (by sl_kernel_rfl),
    View.cover_of_tiledL _ S2x8x8x128.size (by sl_kernel_rfl),
    View.cover_of_tiledL _ S16x128x128.size (by sl_kernel_rfl)⟩

/-- The buffers of point `t`: each window's current one, and the carried gradient's. -/
abbrev bufs (t : Fin cfg1.N) : Bufs where
  c := win1_0.stage (cfg1.slots t 0)
  w := win1_1.stage (cfg1.slots t 1)
  q := win1_2.stage (cfg1.slots t 2)
  k := win1_3.stage (cfg1.slots t 3)
  i := win1_4.stage (cfg1.slots t 4)
  e := win1_5.stage (cfg1.slots t 5)
  v := win1_6.stage (cfg1.slots t 6)
  z := win1_7.stage (cfg1.slots t 7)
  du := win1_8.stage (cfg1.slots t 8)
  dw := win1_9.stage (cfg1.slots t 9)
  dq := win1_10.stage (cfg1.slots t 10)
  dk := win1_11.stage (cfg1.slots t 11)
  di := win1_12.stage (cfg1.slots t 12)
  de := win1_13.stage (cfg1.slots t 13)
  s := Memref.whole cc1_scratch0
  hc := hstage1_0 ((cfg1.slots t 0).cast nbuf1_0)
  hw := hstage1_1 ((cfg1.slots t 1).cast nbuf1_1)
  hq := hstage1_2 ((cfg1.slots t 2).cast nbuf1_2)
  hk := hstage1_3 ((cfg1.slots t 3).cast nbuf1_3)
  hi := hstage1_4 ((cfg1.slots t 4).cast nbuf1_4)
  he := hstage1_5 ((cfg1.slots t 5).cast nbuf1_5)
  hv := hstage1_6 ((cfg1.slots t 6).cast nbuf1_6)
  hz := hstage1_7 ((cfg1.slots t 7).cast nbuf1_7)
  hdu := hstage1_8 ((cfg1.slots t 8).cast nbuf1_8)
  hdw := hstage1_9 ((cfg1.slots t 9).cast nbuf1_9)
  hdq := hstage1_10 ((cfg1.slots t 10).cast nbuf1_10)
  hdk := hstage1_11 ((cfg1.slots t 11).cast nbuf1_11)
  hdi := hstage1_12 ((cfg1.slots t 12).cast nbuf1_12)
  hde := hstage1_13 ((cfg1.slots t 13).cast nbuf1_13)
  hs := Memref.isWhole_whole _

section Data

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks point `t` reads. The call does not read the forward's first operand. -/
abbrev blocks (c : Dev nD) (t : Fin cfg1.N) : In F :=
  ⟨iblk V c 0 t, ⟨iblk V c 0 t, iblk V c 1 t, iblk V c 2 t, iblk V c 3 t, iblk V c 4 t, iblk V c 5 t⟩, iblk V c 6 t, iblk V c 7 t⟩

theorem not_first (n : ℕ) (h : n + 1 < cfg1.N) : ¬ first (grid1.coords ⟨n + 1, h⟩) := fun hf => by
  have h1 := (first_iff ⟨n + 1, h⟩).1 hf
  have h2 : n + 1 < 16 := lt_of_lt_of_eq h N_1
  simp only at h1; omega

/-- What each point leaves, from the first on. -/
def outs (c : Dev nD) : (n : ℕ) → n < cfg1.N → Outs F
  | 0, h => (runA c (grid1.coords ⟨0, h⟩) (bufs ⟨0, h⟩) ((first_iff ⟨0, h⟩).2 rfl) (blocks V c ⟨0, h⟩)).1.read
  | n + 1, h => (runB c (grid1.coords ⟨n + 1, h⟩) (bufs ⟨n + 1, h⟩) (not_first n h) (blocks V c ⟨n + 1, h⟩)
      (outs c n (Nat.lt_of_succ_lt h)).s).1.read

/-- The call's own resources before point `n`: anything in the state's buffer at the start, then what the point before left. -/
def inv (c : Dev nD) : (n : ℕ) → n ≤ cfg1.N → sProp (Res F)
  | 0, _ => iprop(some_ c (Memref.whole cc1_scratch0) ∗ (∃ r, prngReg c r)
      ∗ Pipeline.scopedRestBut (Ix := Unit) (Name := ℕ) (U := UR sig nD τ) (Lvl := ℕ) (Val := Elt F) spec1 c [cc1_scratch0])
  | n + 1, h => iprop(held c (Memref.whole cc1_scratch0) (outs V c n h).s ∗ (∃ r, prngReg c r)
      ∗ Pipeline.scopedRestBut (Ix := Unit) (Name := ℕ) (U := UR sig nD τ) (Lvl := ℕ) (Val := Elt F) spec1 c [cc1_scratch0])

/-- The call's proof data. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outs V c t.val t.isLt).du
    | ⟨9, _⟩ => (outs V c t.val t.isLt).dw
    | ⟨10, _⟩ => (outs V c t.val t.isLt).dq
    | ⟨11, _⟩ => (outs V c t.val t.isLt).dk
    | ⟨12, _⟩ => (outs V c t.val t.isLt).di
    | ⟨13, _⟩ => (outs V c t.val t.isLt).de
  Φ t := inv V c t.val (Nat.le_of_lt_succ t.isLt)
  q _ := fullShare
  owed _ := 0

theorem A_eq (c : Dev nD) (w : Fin cfg1.W) : (dat V c).A w = V c (Pipeline.arrRef spec1 w) := by dsimp only [dat]

theorem after_in (c : Dev nD) (t : Fin cfg1.N) : (dat V c).after 0 t = iblk V c 0 t
    ∧ (dat V c).after 1 t = iblk V c 1 t
    ∧ (dat V c).after 2 t = iblk V c 2 t
    ∧ (dat V c).after 3 t = iblk V c 3 t
    ∧ (dat V c).after 4 t = iblk V c 4 t
    ∧ (dat V c).after 5 t = iblk V c 5 t
    ∧ (dat V c).after 6 t = iblk V c 6 t
    ∧ (dat V c).after 7 t = iblk V c 7 t :=
  ⟨rfl, rfl, rfl, rfl, rfl, rfl, rfl, rfl⟩
theorem after_8 (c : Dev nD) (t : Fin cfg1.N) : (dat V c).after 8 t = (outs V c t.val t.isLt).du := by dsimp only [dat]
theorem after_9 (c : Dev nD) (t : Fin cfg1.N) : (dat V c).after 9 t = (outs V c t.val t.isLt).dw := by dsimp only [dat]
theorem after_10 (c : Dev nD) (t : Fin cfg1.N) : (dat V c).after 10 t = (outs V c t.val t.isLt).dq := by dsimp only [dat]
theorem after_11 (c : Dev nD) (t : Fin cfg1.N) : (dat V c).after 11 t = (outs V c t.val t.isLt).dk := by dsimp only [dat]
theorem after_12 (c : Dev nD) (t : Fin cfg1.N) : (dat V c).after 12 t = (outs V c t.val t.isLt).di := by dsimp only [dat]
theorem after_13 (c : Dev nD) (t : Fin cfg1.N) : (dat V c).after 13 t = (outs V c t.val t.isLt).de := by dsimp only [dat]

theorem before_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before_2 (c : Dev nD) (t : Fin cfg1.N) (d) : (dat V c).before 2 t d = iblk V c 2 t :=
  ((dat V c).before_in_eq_fetched 2 rfl (fun _ => rfl) (fun _ _ _ => rfl) (fun _ => rfl) t d).trans rfl
theorem before_3 (c : Dev nD) (t : Fin cfg1.N) (d) : (dat V c).before 3 t d = iblk V c 3 t :=
  ((dat V c).before_in_eq_fetched 3 rfl (fun _ => rfl) (fun _ _ _ => rfl) (fun _ => rfl) t d).trans rfl
theorem before_4 (c : Dev nD) (t : Fin cfg1.N) (d) : (dat V c).before 4 t d = iblk V c 4 t :=
  ((dat V c).before_in_eq_fetched 4 rfl (fun _ => rfl) (fun _ _ _ => rfl) (fun _ => rfl) t d).trans rfl
theorem before_5 (c : Dev nD) (t : Fin cfg1.N) (d) : (dat V c).before 5 t d = iblk V c 5 t :=
  ((dat V c).before_in_eq_fetched 5 rfl (fun _ => rfl) (fun _ _ _ => rfl) (fun _ => rfl) t d).trans rfl
theorem before_6 (c : Dev nD) (t : Fin cfg1.N) (d) : (dat V c).before 6 t d = iblk V c 6 t :=
  ((dat V c).before_in_eq_fetched 6 rfl (fun _ => rfl) (fun _ _ _ => rfl) (fun _ => rfl) t d).trans rfl
theorem before_7 (c : Dev nD) (t : Fin cfg1.N) (d) : (dat V c).before 7 t d = iblk V c 7 t :=
  ((dat V c).before_in_eq_fetched 7 rfl (fun _ => rfl) (fun _ _ _ => rfl) (fun _ => rfl) t d).trans rfl

/-! ## The body obligation, at any point -/

/-- The outputs' buffers after a point. -/
abbrev Bufs.left (M : Bufs) (c : Dev nD) (o : Outs F) : sProp (Res F) :=
  iprop(held c M.du o.du ∗ held c M.dw o.dw ∗ held c M.dq o.dq ∗ held c M.dk o.dk ∗ held c M.di o.di ∗ held c M.de o.de)

theorem left_of_outs (M : Bufs) (c : Dev nD) (L : Stores F) (h : L.Full) :
    (M.outs c L : sProp (Res F)) ⊢ iprop(M.left c L.read ∗ held c M.s L.read.s) := by
  unfold Bufs.outs Bufs.left
  iintro ⟨H0, H1, H2, H3, H4, H5, H6⟩
  isplitr [H6]
  · isplitl [H0]; · iapply held_of_wrote c M.du L.du h.du; iexact H0
    isplitl [H1]; · iapply held_of_wrote c M.dw L.dw h.dw; iexact H1
    isplitl [H2]; · iapply held_of_wrote c M.dq L.dq h.dq; iexact H2
    isplitl [H3]; · iapply held_of_wrote c M.dk L.dk h.dk; iexact H3
    isplitl [H4]; · iapply held_of_wrote c M.di L.di h.di; iexact H4
    iapply held_of_wrote c M.de L.de h.de; iexact H5
  iapply held_of_wrote c M.s L.s h.s; iexact H6

/-- The body at point `n` turns the carried buffer and the outputs' into what `outs` says. -/
theorem step (c : Dev nD) (t : Fin cfg1.N) (R : sProp (Res F)) :
    iprop((bufs t).ins c (blocks V c t) ∗ (bufs t).room c ∗ inv V c t.val (Nat.le_of_lt t.isLt) ∗ R)
      ⊢ wp frame (wpE (defs₀ (F := F)) Variants.none c none) Set.univ (bodyAt1 t)
          (fun _ => iprop((bufs t).ins c (blocks V c t) ∗ (bufs t).left c (outs V c t.val t.isLt)
            ∗ inv V c (t.val + 1) t.isLt ∗ R)) := by
  obtain ⟨n, hn⟩ := t
  cases n with
  | zero =>
    dsimp only [inv]
    have hf := left_of_outs (bufs ⟨0, hn⟩) c _ (fullA c (grid1.coords ⟨0, hn⟩) (bufs ⟨0, hn⟩) ((first_iff ⟨0, hn⟩).2 rfl) (blocks V c ⟨0, hn⟩))
    iintro ⟨Hi, Ho, ⟨Hs, Hg⟩, HR⟩
    iapply ((runA c (grid1.coords ⟨0, hn⟩) (bufs ⟨0, hn⟩) ((first_iff ⟨0, hn⟩).2 rfl) (blocks V c ⟨0, hn⟩)).2 Set.univ _)
    isplitl [Hi]; · iexact Hi
    isplitl [Ho]; · iexact Ho
    isplitl [Hs]; · iexact Hs
    iintro ⟨Hi, Ho⟩
    ihave H := hf $$ Ho
    icases H with ⟨H0, H3⟩
    isplitl [Hi]; · iexact Hi
    isplitl [H0]; · iexact H0
    isplitl [H3 Hg]
    · isplitl [H3]; · iexact H3
      iexact Hg
    iexact HR
  | succ n =>
    dsimp only [inv]
    have hf := left_of_outs (bufs ⟨n + 1, hn⟩) c _ (fullB c (grid1.coords ⟨n + 1, hn⟩) (bufs ⟨n + 1, hn⟩) (not_first n hn) (blocks V c ⟨n + 1, hn⟩)
      (outs V c n (Nat.lt_of_succ_lt hn)).s)
    iintro ⟨Hi, Ho, ⟨Hs, Hg⟩, HR⟩
    iapply ((runB c (grid1.coords ⟨n + 1, hn⟩) (bufs ⟨n + 1, hn⟩) (not_first n hn) (blocks V c ⟨n + 1, hn⟩)
      (outs V c n (Nat.lt_of_succ_lt hn)).s).2 Set.univ _)
    isplitl [Hi]; · iexact Hi
    isplitl [Ho]; · iexact Ho
    isplitl [Hs]; · iexact Hs
    iintro ⟨Hi, Ho⟩
    ihave H := hf $$ Ho
    icases H with ⟨H0, H3⟩
    isplitl [Hi]; · iexact Hi
    isplitl [H0]; · iexact H0
    isplitl [H3 Hg]
    · isplitl [H3]; · iexact H3
      iexact Hg
    iexact HR

/-- What the body is called with at point `t`, and what it returns. -/
abbrev pre (c : Dev nD) (t : Fin cfg1.N) : sProp (Res F) :=
  iprop((dat V c).Φ t.castSucc ∗ (dat V c).owesAt () t.castSucc
    ∗ (∃ d, held c (bufs t).c ((dat V c).before 0 t d))
    ∗ (∃ d, held c (bufs t).w ((dat V c).before 1 t d))
    ∗ (∃ d, held c (bufs t).q ((dat V c).before 2 t d))
    ∗ (∃ d, held c (bufs t).k ((dat V c).before 3 t d))
    ∗ (∃ d, held c (bufs t).i ((dat V c).before 4 t d))
    ∗ (∃ d, held c (bufs t).e ((dat V c).before 5 t d))
    ∗ (∃ d, held c (bufs t).v ((dat V c).before 6 t d))
    ∗ (∃ d, held c (bufs t).z ((dat V c).before 7 t d))
    ∗ (∃ d, held c (bufs t).du ((dat V c).before 8 t d))
    ∗ (∃ d, held c (bufs t).dw ((dat V c).before 9 t d))
    ∗ (∃ d, held c (bufs t).dq ((dat V c).before 10 t d))
    ∗ (∃ d, held c (bufs t).dk ((dat V c).before 11 t d))
    ∗ (∃ d, held c (bufs t).di ((dat V c).before 12 t d))
    ∗ (∃ d, held c (bufs t).de ((dat V c).before 13 t d)))
abbrev post (c : Dev nD) (t : Fin cfg1.N) : sProp (Res F) :=
  iprop((dat V c).Φ t.succ ∗ (dat V c).owesAt () t.succ
    ∗ held c (bufs t).c ((dat V c).after 0 t)
    ∗ held c (bufs t).w ((dat V c).after 1 t)
    ∗ held c (bufs t).q ((dat V c).after 2 t)
    ∗ held c (bufs t).k ((dat V c).after 3 t)
    ∗ held c (bufs t).i ((dat V c).after 4 t)
    ∗ held c (bufs t).e ((dat V c).after 5 t)
    ∗ held c (bufs t).v ((dat V c).after 6 t)
    ∗ held c (bufs t).z ((dat V c).after 7 t)
    ∗ held c (bufs t).du ((dat V c).after 8 t)
    ∗ held c (bufs t).dw ((dat V c).after 9 t)
    ∗ held c (bufs t).dq ((dat V c).after 10 t)
    ∗ held c (bufs t).dk ((dat V c).after 11 t)
    ∗ held c (bufs t).di ((dat V c).after 12 t)
    ∗ held c (bufs t).de ((dat V c).after 13 t))

theorem inv_castSucc (c : Dev nD) (t : Fin cfg1.N) : (dat V c).Φ t.castSucc = inv V c t.val (Nat.le_of_lt t.isLt) := by
  dsimp only [dat]; exact Pipeline.Dat.Φ_castSucc (inv V c) t
theorem inv_succ (c : Dev nD) (t : Fin cfg1.N) : (dat V c).Φ t.succ = inv V c (t.val + 1) t.isLt := rfl

theorem sound (c : Dev nD) (t : Fin cfg1.N) :
    pre V c t ⊢ wp frame (wpE (defs₀ (F := F)) Variants.none c none) Set.univ (bodyAt1 t) (fun _ => post V c t) := by
  obtain ⟨a0, a1, a2, a3, a4, a5, a6, a7⟩ := after_in V c t
  refine triple_restated (step V c t ((dat V c).owesAt () t.castSucc)) rfl ?_ fun _ => ?_
  · unfold pre Bufs.ins Bufs.room
    rw [inv_castSucc]
    simp only [before_0, before_1, before_2, before_3, before_4, before_5, before_6, before_7]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12 H13]
    · isplitl [H8]; · iexists _; iexact H8
      isplitl [H9]; · iexists _; iexact H9
      isplitl [H10]; · iexists _; iexact H10
      isplitl [H11]; · iexists _; iexact H11
      isplitl [H12]; · iexists _; iexact H12
      iexists _; iexact H13
    isplitl [HΦ]; · iexact HΦ
    iexact HO
  · unfold post
    rw [inv_succ, show (dat V c).owesAt () t.succ = (dat V c).owesAt () t.castSucc from rfl, after_8, after_9, after_10, after_11, after_12, after_13,
      a0, a1, a2, a3, a4, a5, a6, a7]
    iintro ⟨⟨H0, H1, H2, H3, H4, H5, H6, H7⟩, ⟨H8, H9, H10, H11, H12, H13⟩, HΦ, HO⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem body (c : Dev nD) : BodyObligation (dat (F := F) V c) (defs₀ (F := F)) Variants.none () Set.univ := fun t => by
  have hrow : defs₀ (F := F) .tc cfg1.body (cfg1.bodyArgs t (cfg1.slots t)) = bodyAt1 t := by unfold defs₀; rw [Defs.onTc_tc]
  rw [bigSep_W1, bigSep_W1, hrow]
  exact triple_restated (sound V c t) rfl .rfl fun _ => .rfl

/-- The scratch of the launch, split at the carried buffer. -/
theorem rest_split (c : Dev nD) :
    (Pipeline.scopedRest (Ix := Unit) (Name := ℕ) (U := UR sig nD τ) (Lvl := ℕ) (Val := Elt F) spec1 c : sProp (Res F))
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the launch hands the call is the invariant at the start, and the invariant at the end gives it back. -/
theorem inv_in (c : Dev nD) :
    iprop((∃ r, prngReg c r) ∗ Pipeline.scopedRest (Ix := Unit) (Name := ℕ) (U := UR sig nD τ) (Lvl := ℕ) (Val := Elt F) spec1 c)
      ⊢ (dat V c).Φ 0 := by
  rw [show (dat V c).Φ 0 = inv V c 0 (Nat.zero_le _) from rfl, rest_split c]
  dsimp only [inv]
  simp only [some_, owns_whole]
  iintro ⟨Hp, ⟨Hs, Hr⟩⟩
  isplitl [Hs]; · iexact Hs
  isplitl [Hp]; · iexact Hp
  iexact Hr

theorem inv_out (c : Dev nD) :
    (dat V c).Φ (Fin.last cfg1.N) ⊢ iprop((∃ r, prngReg c r)
      ∗ Pipeline.scopedRest (Ix := Unit) (Name := ℕ) (U := UR sig nD τ) (Lvl := ℕ) (Val := Elt F) spec1 c) := by
  have h15 : cfg1.N = 15 + 1 := N_1
  have e : (dat V c).Φ (Fin.last cfg1.N) = inv V c (15 + 1) (le_of_eq h15.symm) := by
    dsimp only [dat]; congr 1
  rw [e, rest_split c]
  dsimp only [inv]
  simp only [held, owns_whole]
  iintro ⟨Hs, Hp, Hr⟩
  isplitl [Hp]; · iexact Hp
  isplitl [Hs]; · iexists _; iexact Hs
  iexact Hr

end Data

end Cert.ScanIdeal.Scan.Bwd
-- ==== Proof.ScanBwdPoint.lean ====
module

public import proofs.«01_k».proof.Proof.ScanFwdPoint
public import proofs.«01_k».proof.Proof.ScanBwd

/-! What a point of the scan's gradient leaves: the gradients of its two chunks, the later one first, and the gradient of
    the state before them. -/

@[expose] public section

set_option maxRecDepth 16384

noncomputable section

open Idealize.ShloMosaic Idealize.ShloMosaic.TcCoe Idealize.SL.Sem
open Cert.ScanMath

namespace Cert.ScanIdeal.Val
open Cert.ScanIdeal Cert.ScanIdeal.Gen Cert.ScanIdeal.Scan

/-- The saved states of a point's first and second chunk. -/
abbrev loZ (v : Vec Ideal S2x8x2x128x128 .f32) : Vec Ideal S2x8x1x128x128 .f32 :=
  View.ld v (Rect.unit ![0, 0, 0, 0, 0] ![2, 8, 1, 128, 128] inb_S2x8x2x128x128_S2x8x1x128x128_0_0_0_0_0)
abbrev upZ (v : Vec Ideal S2x8x2x128x128 .f32) : Vec Ideal S2x8x1x128x128 .f32 :=
  View.ld v (Rect.unit ![0, 0, 1, 0, 0] ![2, 8, 1, 128, 128] inb_S2x8x2x128x128_S2x8x1x128x128_0_0_1_0_0)

theorem loZ_at (v : Vec Ideal S2x8x2x128x128 .f32) (b : Fin 2) (h : Fin 8) (j d : Fin 128) : loZ v (ix5 b h 0 j d) = v (ix5 b h 0 j d) := by
  refine congrArg v (ix5_of _ b h _ j d ?_ ?_ ?_ ?_ ?_) <;> simp [Rect.idx_unit_val]
theorem upZ_at (v : Vec Ideal S2x8x2x128x128 .f32) (b : Fin 2) (h : Fin 8) (j d : Fin 128) : upZ v (ix5 b h 0 j d) = v (ix5 b h 1 j d) := by
  refine congrArg v (ix5_of _ b h _ j d ?_ ?_ ?_ ?_ ?_) <;> simp [Rect.idx_unit_val]

/-- A point's blocks hold the chunks of pair `n`, and what the forward call saved of them. -/
structure HoldsB (X : Bwd.In Ideal) (A : Fin 2 → Fin 8 → Seq) (n : Fin 16) : Prop where
  c : ∀ b h p t d, X.c (ix4 b h (r2 p t) d) = (A b h).ct (ch n p) t d
  w : ∀ b h p t d, X.b.w (ix4 b h (r2 p t) d) = (A b h).w (ch n p) t d
  q : ∀ b h p t d, X.b.q (ix4 b h (r2 p t) d) = (A b h).q (ch n p) t d
  k : ∀ b h p t d, X.b.k (ix4 b h (r2 p t) d) = (A b h).k (ch n p) t d
  i : ∀ b h p t d, X.b.i (ix4 b h (r2 p t) d) = (A b h).i (ch n p) t d
  e : ∀ b h (p : Fin 2) d, X.b.e (ix4 b h ⟨p.val * 8, by omega⟩ d) = (A b h).e (ch n p)
  v : ∀ b h p t d, X.v (ix4 b h (r2 p t) d) = (A b h).vs (ch n p) t d
  z : ∀ b h p j d, X.z (ix5 b h p j d) = (A b h).state (ch n p).val j d

/-- A block of square matrices, from its two chunks. -/
def mixBlock (f : Fin 2 → Fin 8 → Fin 2 → Fin 64 → Fin 64 → EReal) : S2x8x128x64.Idx → EReal :=
  fun y => f (y 0) (y 1) ⟨(y 2).val / 64, by have : (y 2).val < 128 := (y 2).isLt; omega⟩ ⟨(y 2).val % 64, by omega⟩ (y 3)

theorem mixBlock_at (f : Fin 2 → Fin 8 → Fin 2 → Fin 64 → Fin 64 → EReal) (b : Fin 2) (h : Fin 8) (p : Fin 2) (t d : Fin 64) :
    mixBlock f (ix4 b h (r2 p t) d) = f b h p t d := by
  have e1 : ∀ q, (⟨(p.val * 64 + t.val) / 64, q⟩ : Fin 2) = p := fun q => Fin.ext (by simp only; omega)
  have e2 : ∀ q, (⟨(p.val * 64 + t.val) % 64, q⟩ : Fin 64) = t := fun q => Fin.ext (by simp only; omega)
  exact congr (congr (congrArg (f b h) (e1 _)) (e2 _)) rfl

/-- Eight equal rows for each of two chunks. -/
def numBlock (f : Fin 2 → Fin 8 → Fin 2 → EReal) : S2x8x16x128.Idx → EReal :=
  fun y => f (y 0) (y 1) ⟨(y 2).val / 8, by have : (y 2).val < 16 := (y 2).isLt; omega⟩

/-- The operands of a point's two chunks, the later one's first. -/
structure Ops where
  ct : FVec Ideal S16x64x128 .f32
  v : FVec Ideal S16x64x128 .f32
  k : FVec Ideal S16x64x128 .bf16
  w : FVec Ideal S16x64x128 .bf16
  q : FVec Ideal S16x64x128 .bf16
  i : FVec Ideal S16x64x64 .bf16
  s : FVec Ideal S16x128x128 .f32

abbrev upOps (X : Bwd.In Ideal) : Ops :=
  ⟨k1_pay4 (up X.c), k1_pay5 (up X.v), k1_pay6 (up X.b.k), k1_pay7 (up X.b.w), k1_pay8 (up X.b.q), k1_pay9 (upI X.b.i), k1_pay3 (upZ X.z)⟩

/-- The gradient of the state between a point's two chunks, the gradient of the earlier chunk's new values, and the
    gradient of the state before the point's chunks. -/
abbrev midB (X : Bwd.In Ideal) (x : Vec Ideal S16x128x128 .f32) : FVec Ideal S16x128x128 .f32 :=
  k1_pay17 x (k1_pay4 (up X.c)) (k1_pay7 (up X.b.w)) (k1_pay8 (up X.b.q))
    (k1_pay10 x (k1_pay4 (up X.c)) (k1_pay6 (up X.b.k)) (k1_pay9 (upI X.b.i))) (upE X.b.e)
abbrev dvB (X : Bwd.In Ideal) (x : Vec Ideal S16x128x128 .f32) : FVec Ideal S16x64x128 .f32 :=
  k1_pay23 (midB X x) (k1_pay19 (lo X.c)) (lo X.b.k) (loI X.b.i)
abbrev finB (X : Bwd.In Ideal) (x : Vec Ideal S16x128x128 .f32) : Vec Ideal S16x128x128 .f32 :=
  k1_pay1 (k1_pay19 (lo X.c)) (k1_pay21 (lo X.b.w)) (k1_pay22 (lo X.b.q)) (dvB X x) (k1_pay30 (midB X x) (loE X.b.e))

/-- What a point leaves, from the gradient of the state after it. -/
def pointB (X : Bwd.In Ideal) (x : Vec Ideal S16x128x128 .f32) : Bwd.Outs Ideal where
  du := View.canon [⟨Rect.unit ![0, 0, 0, 0] ![2, 8, 64, 128] inb_S2x8x128x128_S2x8x64x128_0_0_0_0, k1_pay27 (dvB X x)⟩,
    ⟨Rect.unit ![0, 0, 64, 0] ![2, 8, 64, 128] inb_S2x8x128x128_S2x8x64x128_0_0_64_0,
      k1_pay14 x (k1_pay4 (up X.c)) (k1_pay6 (up X.b.k)) (k1_pay9 (upI X.b.i))⟩]
  dw := View.canon [⟨Rect.unit ![0, 0, 0, 0] ![2, 8, 64, 128] inb_S2x8x128x128_S2x8x64x128_0_0_0_0, k1_pay28 (k1_pay18 (loZ X.z)) (dvB X x)⟩,
    ⟨Rect.unit ![0, 0, 64, 0] ![2, 8, 64, 128] inb_S2x8x128x128_S2x8x64x128_0_0_64_0,
      k1_pay15 (k1_pay3 (upZ X.z)) x (k1_pay4 (up X.c)) (k1_pay6 (up X.b.k)) (k1_pay9 (upI X.b.i))⟩]
  dq := View.canon [⟨Rect.unit ![0, 0, 0, 0] ![2, 8, 64, 128] inb_S2x8x128x128_S2x8x64x128_0_0_0_0, k1_pay25 (k1_pay18 (loZ X.z)) (k1_pay19 (lo X.c))⟩,
    ⟨Rect.unit ![0, 0, 64, 0] ![2, 8, 64, 128] inb_S2x8x128x128_S2x8x64x128_0_0_64_0, k1_pay12 (k1_pay3 (upZ X.z)) (k1_pay4 (up X.c))⟩]
  dk := View.canon [⟨Rect.unit ![0, 0, 0, 0] ![2, 8, 64, 128] inb_S2x8x128x128_S2x8x64x128_0_0_0_0, k1_pay26 (midB X x) (k1_pay20 (lo X.v))⟩,
    ⟨Rect.unit ![0, 0, 64, 0] ![2, 8, 64, 128] inb_S2x8x128x128_S2x8x64x128_0_0_64_0, k1_pay13 x (k1_pay5 (up X.v))⟩]
  di := View.canon [⟨Rect.unit ![0, 0, 0, 0] ![2, 8, 64, 64] inb_S2x8x128x64_S2x8x64x64_0_0_0_0, k1_pay24 (k1_pay19 (lo X.c)) (lo X.v)⟩,
    ⟨Rect.unit ![0, 0, 64, 0] ![2, 8, 64, 64] inb_S2x8x128x64_S2x8x64x64_0_0_64_0, k1_pay11 (k1_pay4 (up X.c)) (k1_pay5 (up X.v))⟩]
  de := View.canon [⟨Rect.unit ![0, 0, 0, 0] ![2, 8, 8, 128] inb_S2x8x16x128_S2x8x8x128_0_0_0_0, k1_pay29 (k1_pay18 (loZ X.z)) (midB X x)⟩,
    ⟨Rect.unit ![0, 0, 8, 0] ![2, 8, 8, 128] inb_S2x8x16x128_S2x8x8x128_0_0_8_0, k1_pay16 (k1_pay3 (upZ X.z)) x⟩]
  s := finB X x

theorem runB_eqB (c : Dev nD) (g : grid1.Coords) (M : Bwd.Bufs) (hc : ¬ Bwd.first g) (X : Bwd.In Ideal) (x : Vec Ideal S16x128x128 .f32) :
    (Bwd.runB c g M hc X x).1.read = pointB X x := by
  unfold Bwd.runB; dsimp only [Bwd.Stores.read]; frame_out; rfl

theorem runA_eqB (c : Dev nD) (g : grid1.Coords) (M : Bwd.Bufs) (hc : Bwd.first g) (X : Bwd.In Ideal) :
    (Bwd.runA c g M hc X).1.read = pointB X (k1_pay2 (F := Ideal)) := by
  unfold Bwd.runA; dsimp only [Bwd.Stores.read]; frame_out; rfl

section Point

variable (X : Bwd.In Ideal) (A : Fin 2 → Fin 8 → Seq) (n : Fin 16) (H : HoldsB X A n)
variable (x : Vec Ideal S16x128x128 .f32) (hx : ∀ b h, m3 x b h = (A b h).after (ch n 1))
variable (b : Fin 2) (h : Fin 8)

/-- A chunk's operands, head by head. -/
structure OpsAt (O : Ops) (B : Seq) (c : Fin 32) : Prop where
  ct : m3 O.ct b h = B.ct c
  v : m3 O.v b h = B.vs c
  k : m3 O.k b h = B.k c
  w : m3 O.w b h = B.w c
  q : m3 O.q b h = B.q c
  i : m3 O.i b h = B.i c
  s : m3 O.s b h = B.state c.val

include H

theorem upOps_at : OpsAt b h (upOps X) (A b h) (ch n 1) := by
  constructor <;> funext t d
  · exact (b4 b h _ t d).trans ((up_at _ b h t d).trans (H.c b h 1 t d))
  · exact (b5 b h _ t d).trans ((up_at _ b h t d).trans (H.v b h 1 t d))
  · exact (b6 b h _ t d).trans ((up_at _ b h t d).trans (H.k b h 1 t d))
  · exact (b7 b h _ t d).trans ((up_at _ b h t d).trans (H.w b h 1 t d))
  · exact (b8 b h _ t d).trans ((up_at _ b h t d).trans (H.q b h 1 t d))
  · exact (b9 b h _ t d).trans ((upI_at _ b h t d).trans (H.i b h 1 t d))
  · exact (b3 b h _ t d).trans ((upZ_at _ b h t d).trans (H.z b h 1 t d))

/-- The earlier chunk's operands: two of them stay blocks. -/
theorem lo_ct : m3 (k1_pay19 (F := Ideal) (lo X.c)) b h = (A b h).ct (ch n 0) := by
  funext t d; exact (b19 b h _ t d).trans ((lo_at _ b h t d).trans (H.c b h 0 t d))
theorem lo_v : m3 (k1_pay20 (F := Ideal) (lo X.v)) b h = (A b h).vs (ch n 0) := by
  funext t d; exact (b20 b h _ t d).trans ((lo_at _ b h t d).trans (H.v b h 0 t d))
theorem lo_v4 : m4 (lo X.v) b h = (A b h).vs (ch n 0) := by
  funext t d; exact (lo_at _ b h t d).trans (H.v b h 0 t d)
theorem lo_w : m3 (k1_pay21 (F := Ideal) (lo X.b.w)) b h = (A b h).w (ch n 0) := by
  funext t d; exact (b21 b h _ t d).trans ((lo_at _ b h t d).trans (H.w b h 0 t d))
theorem lo_q : m3 (k1_pay22 (F := Ideal) (lo X.b.q)) b h = (A b h).q (ch n 0) := by
  funext t d; exact (b22 b h _ t d).trans ((lo_at _ b h t d).trans (H.q b h 0 t d))
theorem lo_k : m4 (lo X.b.k) b h = (A b h).k (ch n 0) := by
  funext t d; exact (lo_at _ b h t d).trans (H.k b h 0 t d)
theorem lo_i : m4 (loI X.b.i) b h = (A b h).i (ch n 0) := by
  funext t d; exact (loI_at _ b h t d).trans (H.i b h 0 t d)
theorem lo_s : m3 (k1_pay18 (F := Ideal) (loZ X.z)) b h = (A b h).state (ch n 0).val := by
  funext t d; exact (b18 b h _ t d).trans ((loZ_at _ b h t d).trans (H.z b h 0 t d))

include hx

theorem dv_up : m3 (k1_pay10 (F := Ideal) x (k1_pay4 (up X.c)) (k1_pay6 (up X.b.k)) (k1_pay9 (upI X.b.i))) b h = (A b h).dvs (ch n 1) := by
  have O := upOps_at X A n H b h
  funext t d
  refine (b10 b h x _ _ _ t d).trans ?_
  rw [O.ct, O.k, O.i, hx]; rfl

theorem mid_eqB : m3 (midB X x) b h = (A b h).after (ch n 0) := by
  have O := upOps_at X A n H b h
  have hn : (A b h).after (ch n 0) = (A b h).grad (31 - (ch n 1).val + 1) := by
    unfold Seq.after; congr 1; show 31 - (n.val * 2 + 0) = 31 - (n.val * 2 + 1) + 1; omega
  rw [hn, (A b h).grad_succ (ch n 1)]
  funext j d
  refine (b17 b h x _ _ _ _ _ _ (fun d => (upE_at _ b h d).trans (H.e b h 1 d)) j d).trans ?_
  rw [O.ct, O.w, O.q, hx, dv_up X A n H x hx]

theorem dv_lo : m3 (dvB X x) b h = (A b h).dvs (ch n 0) := by
  funext t d
  refine (b23 b h (midB X x) _ _ _ t d).trans ?_
  rw [lo_i X A n H, lo_k X A n H, lo_ct X A n H, mid_eqB X A n H x hx]; rfl

theorem fin_eqB : m3 (finB X x) b h = (A b h).grad (31 - (ch n 0).val + 1) := by
  rw [(A b h).grad_succ (ch n 0)]
  funext j d
  refine (b1 b h (midB X x) _ _ _ _ _ _ (fun d => (loE_at _ b h d).trans (H.e b h 0 d)) j d).trans ?_
  rw [lo_ct X A n H, lo_w X A n H, lo_q X A n H, mid_eqB X A n H x hx, dv_lo X A n H x hx]

end Point

/-- What a point is to leave. -/
structure LeavesB (L : Bwd.Outs Ideal) (A : Fin 2 → Fin 8 → Seq) (n : Fin 16) : Prop where
  du : L.du = rowBlock fun b h p => (A b h).dvs (ch n p)
  dw : L.dw = rowBlock fun b h p => dw ((A b h).dvs (ch n p)) ((A b h).state (ch n p).val)
  dq : L.dq = rowBlock fun b h p => rows ((A b h).ct (ch n p)) ((A b h).state (ch n p).val)
  dk : L.dk = rowBlock fun b h p => rows ((A b h).vs (ch n p)) ((A b h).after (ch n p))
  di : L.di = mixBlock fun b h p => di ((A b h).ct (ch n p)) ((A b h).vs (ch n p))
  de : L.de = numBlock fun b h p => de ((A b h).after (ch n p)) ((A b h).state (ch n p).val)
  s : ∀ b h, m3 L.s b h = (A b h).grad (31 - (ch n 0).val + 1)

/-- Two pieces of rows, the later chunk's below the earlier one's. -/
theorem rows_of_pieces (P Q : Vec Ideal S2x8x64x128 .f32) (f : Fin 2 → Fin 8 → Fin 2 → Fin 64 → Fin 128 → EReal)
    (hP : ∀ b h t d, P (ix4 b h t d) = f b h 0 t d) (hQ : ∀ b h t d, Q (ix4 b h t d) = f b h 1 t d) :
    (View.canon ([⟨Rect.unit ![0, 0, 0, 0] ![2, 8, 64, 128] inb_S2x8x128x128_S2x8x64x128_0_0_0_0, P⟩,
      ⟨Rect.unit ![0, 0, 64, 0] ![2, 8, 64, 128] inb_S2x8x128x128_S2x8x64x128_0_0_64_0, Q⟩] : List (View.Piece (Elt Ideal) S2x8x128x128 .f32)) :
      Vec Ideal S2x8x128x128 .f32) = rowBlock f := by
  funext y
  canon_tiles a h <;> idx_vars a
  · obtain rfl := ix4_of y a0 a1 (r2 0 a2) a3 (by omega) (by omega) (by simp only [r2]; omega) (by omega)
    exact (hP a0 a1 a2 a3).trans (rowBlock_at f a0 a1 0 a2 a3).symm
  · obtain rfl := ix4_of y a0 a1 (r2 1 a2) a3 (by omega) (by omega) (by simp only [r2]; omega) (by omega)
    exact (hQ a0 a1 a2 a3).trans (rowBlock_at f a0 a1 1 a2 a3).symm

/-- An index of a block of square matrices, and of a block of numbers, by its coordinates. -/
theorem ix4_ofI (y : S2x8x128x64.Idx) (b : Fin 2) (h : Fin 8) (r : Fin 128) (d : Fin 64) (h0 : (y 0).val = b.val) (h1 : (y 1).val = h.val)
    (h2 : (y 2).val = r.val) (h3 : (y 3).val = d.val) : y = ix4 b h r d := by
  funext a; fin_cases a
  · exact Fin.ext h0
  · exact Fin.ext h1
  · exact Fin.ext h2
  · exact Fin.ext h3

theorem numBlock_of (f : Fin 2 → Fin 8 → Fin 2 → EReal) (y : S2x8x16x128.Idx) (b : Fin 2) (h : Fin 8) (p : Fin 2) (t : ℕ) (ht : t < 8)
    (h0 : (y 0).val = b.val) (h1 : (y 1).val = h.val) (h2 : (y 2).val = p.val * 8 + t) : numBlock f y = f b h p := by
  have e0 : y 0 = b := Fin.ext h0
  have e1 : y 1 = h := Fin.ext h1
  unfold numBlock
  rw [e0, e1]
  congr 1
  apply Fin.ext; simp only; omega

set_option maxHeartbeats 1000000 in
theorem leavesB (X : Bwd.In Ideal) (A : Fin 2 → Fin 8 → Seq) (n : Fin 16) (H : HoldsB X A n) (x : Vec Ideal S16x128x128 .f32)
    (hx : ∀ b h, m3 x b h = (A b h).after (ch n 1)) : LeavesB (pointB X x) A n := by
  have O := upOps_at X A n H
  refine ⟨?_, ?_, ?_, ?_, ?_, ?_, fun b h => fin_eqB X A n H x hx b h⟩
  · dsimp only [pointB]
    refine rows_of_pieces _ _ _ (fun b h t d => ?_) fun b h t d => ?_
    · exact (b27 b h _ t d).trans (congrFun (congrFun (dv_lo X A n H x hx b h) t) d)
    · refine (b14 b h x _ _ _ t d).trans ?_
      rw [(O b h).ct, (O b h).k, (O b h).i, hx]; rfl
  · dsimp only [pointB]
    refine rows_of_pieces _ _ _ (fun b h t d => ?_) fun b h t d => ?_
    · refine (b28 b h _ _ t d).trans ?_
      rw [dv_lo X A n H x hx, lo_s X A n H]
    · refine (b15 b h _ x _ _ _ t d).trans ?_
      rw [(O b h).ct, (O b h).k, (O b h).i, (O b h).s, hx]; rfl
  · dsimp only [pointB]
    refine rows_of_pieces _ _ _ (fun b h t d => ?_) fun b h t d => ?_
    · refine (b25 b h _ _ t d).trans ?_
      rw [lo_ct X A n H, lo_s X A n H]
    · refine (b12 b h _ _ t d).trans ?_
      rw [(O b h).ct, (O b h).s]
  · dsimp only [pointB]
    refine rows_of_pieces _ _ _ (fun b h t d => ?_) fun b h t d => ?_
    · refine (b26 b h _ _ t d).trans ?_
      rw [lo_v X A n H, mid_eqB X A n H x hx]
    · refine (b13 b h _ _ t d).trans ?_
      rw [(O b h).v, hx]
  · funext y
    unfold pointB
    canon_tiles a h <;> idx_vars a
    · obtain rfl := ix4_ofI y a0 a1 (r2 0 a2) a3 (by omega) (by omega) (by simp only [r2]; omega) (by omega)
      refine (b24 a0 a1 _ _ a2 a3).trans (Eq.trans ?_ (mixBlock_at _ a0 a1 0 a2 a3).symm)
      rw [lo_ct X A n H, lo_v4 X A n H]
    · obtain rfl := ix4_ofI y a0 a1 (r2 1 a2) a3 (by omega) (by omega) (by simp only [r2]; omega) (by omega)
      refine (b11 a0 a1 _ _ a2 a3).trans (Eq.trans ?_ (mixBlock_at _ a0 a1 1 a2 a3).symm)
      rw [(O a0 a1).ct, (O a0 a1).v]
  · funext y
    unfold pointB
    canon_tiles a h <;> idx_vars a
    · refine (b29 a0 a1 _ _ a2 a3).trans (Eq.trans ?_ (numBlock_of _ y a0 a1 0 a2.val a2.isLt (by omega) (by omega) (by simp only [Fin.val_zero]; omega)).symm)
      rw [lo_s X A n H, mid_eqB X A n H x hx]
    · refine (b16 a0 a1 _ _ a2 a3).trans (Eq.trans ?_ (numBlock_of _ y a0 a1 1 a2.val a2.isLt (by omega) (by omega) (by simp only [Fin.val_one]; omega)).symm)
      rw [(O a0 a1).s, hx]

end Cert.ScanIdeal.Val

end

end
-- ==== Proof.ScanArrays.lean ====
module

public import proofs.«01_k».proof.Proof.ScanMath
public import Idealize.ShloMosaic.Lib.Pipeline.ValueKit

/-! Arrays by sequence, head, row and lane, put together from their chunks. -/

@[expose] public section

noncomputable section

namespace Cert.ScanMath

open Idealize.ShloMosaic

/-- The seven arrays read off their buffers' contents. -/
abbrev arrays (u w q k : (⟨4, ![2, 8, 2048, 128]⟩ : Shape).Idx → EReal) (i : (⟨4, ![2, 8, 2048, 64]⟩ : Shape).Idx → EReal)
    (e : (⟨3, ![2, 8, 32]⟩ : Shape).Idx → EReal) (ct : (⟨4, ![2, 8, 2048, 128]⟩ : Shape).Idx → EReal) : Arrays where
  u b h r d := u (ix4 b h r d)
  w b h r d := w (ix4 b h r d)
  q b h r d := q (ix4 b h r d)
  k b h r d := k (ix4 b h r d)
  i b h r d := i (ix4 b h r d)
  e b h n := e (ix3 b h n)
  ct b h r d := ct (ix4 b h r d)

/-- An array of rows from its chunks'. -/
def rowArr {l : ℕ} (f : Fin 2 → Fin 8 → Fin 32 → Fin 64 → Fin l → EReal) : (⟨4, ![2, 8, 2048, l]⟩ : Shape).Idx → EReal :=
  fun y => f (y 0) (y 1) ⟨(y 2).val / 64, by have : (y 2).val < 2048 := (y 2).isLt; omega⟩ ⟨(y 2).val % 64, by omega⟩ (y 3)

theorem rowArr_at {l : ℕ} (f : Fin 2 → Fin 8 → Fin 32 → Fin 64 → Fin l → EReal) (b : Fin 2) (h : Fin 8) (n : Fin 32) (t : Fin 64) (d : Fin l) :
    rowArr f (ix4 b h (row n t) d) = f b h n t d := by
  have e1 : ∀ q, (⟨(n.val * 64 + t.val) / 64, q⟩ : Fin 32) = n := fun q => Fin.ext (by simp only; omega)
  have e2 : ∀ q, (⟨(n.val * 64 + t.val) % 64, q⟩ : Fin 64) = t := fun q => Fin.ext (by simp only; omega)
  exact congr (congr (congrArg (f b h) (e1 _)) (e2 _)) rfl

/-- Two arrays of rows agree when they do at every chunk's rows. -/
theorem rows_ext {l : ℕ} (x : (⟨4, ![2, 8, 2048, l]⟩ : Shape).Idx → EReal) (f : Fin 2 → Fin 8 → Fin 32 → Fin 64 → Fin l → EReal)
    (H : ∀ b h n t d, x (ix4 b h (row n t) d) = f b h n t d) : x = rowArr f := by
  funext y
  obtain ⟨b, h, r, d, rfl⟩ : ∃ b h r d, y = ix4 b h r d := ⟨y 0, y 1, y 2, y 3, by funext a; fin_cases a <;> rfl⟩
  obtain ⟨n, t, rfl⟩ := row_split r
  rw [H, rowArr_at]

/-- The states of every chunk. -/
def stateArr (f : Fin 2 → Fin 8 → Fin 32 → Fin 128 → Fin 128 → EReal) : (⟨5, ![2, 8, 32, 128, 128]⟩ : Shape).Idx → EReal :=
  fun y => f (y 0) (y 1) (y 2) (y 3) (y 4)

/-- Eight equal rows for each chunk. -/
def numArr (f : Fin 2 → Fin 8 → Fin 32 → EReal) : (⟨4, ![2, 8, 256, 128]⟩ : Shape).Idx → EReal :=
  fun y => f (y 0) (y 1) ⟨(y 2).val / 8, by have : (y 2).val < 256 := (y 2).isLt; omega⟩

end Cert.ScanMath

end

end
-- ==== Proof.ScanRun.lean ====
module

public import proofs.«01_k».proof.Proof.ScanFwd
public import proofs.«01_k».proof.Proof.ScanBwd
public import proofs.«01_k».proof.Proof.Gen.ScanIdeal.Regions
public import Idealize.ShloMosaic.Lib.Pipeline.RegionsLoop
public import Idealize.ShloMosaic.Lib.Pipeline.FrameSuffix

/-! The scan's two calls run one after the other: what the host operations, the forward call and its gradient leave in
    every buffer, and that the run ends. -/

@[expose] public section

set_option maxRecDepth 16384

noncomputable section

namespace Cert.ScanIdeal.Scan

open Cert.ScanIdeal.Gen hiding V0 V1 V2 V3 V1_of V2_of V3_of adm segs V3_main_arg0 V3_main_arg1 V3_main_arg2 V3_main_arg3 V3_main_arg4 V3_main_arg5 V3_main_arg6
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments, as references. -/
abbrev argRefs : List (Ref sig .tc) := [main_arg0, main_arg1, main_arg2, main_arg3, main_arg4, main_arg5, main_arg6]
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (Fwd.dat (V1 m ρ) c).arrAt w cfg0.N
theorem W2_arr (c : Dev nD) (w : Fin cfg0.W) :
    W2 m ρ c (Proc.devRef .tc (Pipeline.arrRef spec0 w)) = (Fwd.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Fwd.dat (V1 m ρ) c).arrAt_in w (h w rfl) _).trans (Fwd.A_eq (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (Fwd.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (Bwd.dat (V2 m ρ) c).arrAt w cfg1.N
theorem W3_arr (c : Dev nD) (w : Fin cfg1.W) :
    W3 m ρ c (Proc.devRef .tc (Pipeline.arrRef spec1 w)) = (Bwd.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((Bwd.dat (V2 m ρ) c).arrAt_in w (h w rfl) _).trans (Bwd.A_eq (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (Bwd.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => Fwd.dat (V1 m ρ) c
  | ⟨1, _⟩ => fun c => Bwd.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the call's
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Fwd.body (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (Fwd.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Fwd.inv_in (V1 m ρ) c)
    iintro ⟨Hp, -, Hr⟩
    isplitl [Hp]; · iexact Hp
    iexact Hr
  hout c := by
    rw [Pipeline.ownSems0_none]
    refine (Fwd.inv_out (V1 m ρ) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the call's
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Bwd.body (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (Bwd.A_eq (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Bwd.inv_in (V2 m ρ) c)
    iintro ⟨Hp, -, Hr⟩
    isplitl [Hp]; · iexact Hp
    iexact Hr
  hout c := by
    rw [Pipeline.ownSems0_none]
    refine (Bwd.inv_out (V2 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
set_option backward.isDefEq.respectTransparency.types false in
/-- The run: it ends with the forward's first result and the six gradients at what the calls' write-backs leave, the
    arguments as launched and every counter at zero. -/
theorem run : θ_run defs (onTc (τ := τ) (main (F := F))) ⟨m, fun _ => 0, ρ⟩ (fun r => (∀ c : Dev nD,
      (r.2.mem ((c.tc : Thread nD τ).loc main_v7_0) = (Fwd.dat (V1 m ρ) c).arrAt 6 cfg0.N
      ∧ r.2.mem ((c.tc : Thread nD τ).loc main_v8_0) = (Bwd.dat (V2 m ρ) c).arrAt 8 cfg1.N
      ∧ r.2.mem ((c.tc : Thread nD τ).loc main_v8_1) = (Bwd.dat (V2 m ρ) c).arrAt 9 cfg1.N
      ∧ r.2.mem ((c.tc : Thread nD τ).loc main_v8_2) = (Bwd.dat (V2 m ρ) c).arrAt 10 cfg1.N
      ∧ r.2.mem ((c.tc : Thread nD τ).loc main_v8_3) = (Bwd.dat (V2 m ρ) c).arrAt 11 cfg1.N
      ∧ r.2.mem ((c.tc : Thread nD τ).loc main_v8_4) = (Bwd.dat (V2 m ρ) c).arrAt 12 cfg1.N
      ∧ r.2.mem ((c.tc : Thread nD τ).loc main_v8_5) = (Bwd.dat (V2 m ρ) c).arrAt 13 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨⟨(h c _ (mem_uc main_v7_0 (by decide))).trans ((W3_of m ρ c main_v7_0 (by decide)).trans (W2_arr m ρ c 6)),
       (h c _ (mem_uc main_v8_0 (by decide))).trans (W3_arr m ρ c 8),
       (h c _ (mem_uc main_v8_1 (by decide))).trans (W3_arr m ρ c 9),
       (h c _ (mem_uc main_v8_2 (by decide))).trans (W3_arr m ρ c 10),
       (h c _ (mem_uc main_v8_3 (by decide))).trans (W3_arr m ρ c 11),
       (h c _ (mem_uc main_v8_4 (by decide))).trans (W3_arr m ρ c 12),
       (h c _ (mem_uc main_v8_5 (by decide))).trans (W3_arr m ρ c 13)⟩,
       (h c _ (mem_uc main_arg0 (by decide))).trans (W3_args m ρ c main_arg0 (by decide)),
       (h c _ (mem_uc main_arg1 (by decide))).trans (W3_args m ρ c main_arg1 (by decide)),
       (h c _ (mem_uc main_arg2 (by decide))).trans (W3_args m ρ c main_arg2 (by decide)),
       (h c _ (mem_uc main_arg3 (by decide))).trans (W3_args m ρ c main_arg3 (by decide)),
       (h c _ (mem_uc main_arg4 (by decide))).trans (W3_args m ρ c main_arg4 (by decide)),
       (h c _ (mem_uc main_arg5 (by decide))).trans (W3_args m ρ c main_arg5 (by decide)),
       (h c _ (mem_uc main_arg6 (by decide))).trans (W3_args m ρ c main_arg6 (by decide))⟩), funext fun g => hz g (.inr (no_unscoped g.2))⟩)

end Cert.ScanIdeal.Scan
-- ==== Proof.ScanFwdValue.lean ====
module

public import proofs.«01_k».proof.Proof.ScanBwdPoint
public import proofs.«01_k».proof.Proof.ScanArrays
public import proofs.«01_k».proof.Proof.ScanRun
public import Idealize.ShloMosaic.Lib.Pipeline.ReadBack

/-! The arrays the scan's forward call leaves. -/

@[expose] public section

set_option maxRecDepth 16384

noncomputable section

open Idealize.ShloMosaic Idealize.ShloMosaic.TcCoe Idealize.SL.Sem
open Idealize.ShloMosaic.Pipeline (Dat)
open Cert.ScanMath

namespace Cert.ScanIdeal.Val
open Cert.ScanIdeal Cert.ScanIdeal.Scan
open Cert.ScanIdeal.Gen hiding V0 V1 V2 V3 V1_of V2_of V3_of adm segs V3_main_arg0 V3_main_arg1 V3_main_arg2 V3_main_arg3 V3_main_arg4 V3_main_arg5 V3_main_arg6

variable (m : (ℓ : Loc nD τ sig) → Buf (Elt Ideal) ℓ) (ρ : Dev nD → PrngReg) (c : Dev nD)

theorem idx0 : ∀ t : Fin cfg0.N, win0_0.index t = ![0, 0, t.val, 0] ∧ win0_1.index t = ![0, 0, t.val, 0] ∧ win0_2.index t = ![0, 0, t.val, 0]
    ∧ win0_3.index t = ![0, 0, t.val, 0] ∧ win0_4.index t = ![0, 0, t.val, 0] ∧ win0_5.index t = ![0, 0, t.val, 0]
    ∧ win0_6.index t = ![0, 0, t.val, 0] ∧ win0_7.index t = ![0, 0, t.val, 0] ∧ win0_8.index t = ![0, 0, t.val, 0, 0] :=
  (by decide +kernel : ∀ t : Fin grid0.N, _)

/-- The arguments on the device, head by head. -/
abbrev arg0 : (⟨S2x8x2048x128, .f32⟩ : BufTy).Contents (Elt Ideal) := m ((c.tc : Thread nD τ).loc main_arg0)
abbrev arg1 : (⟨S2x8x2048x128, .f32⟩ : BufTy).Contents (Elt Ideal) := m ((c.tc : Thread nD τ).loc main_arg1)
abbrev arg2 : (⟨S2x8x2048x128, .f32⟩ : BufTy).Contents (Elt Ideal) := m ((c.tc : Thread nD τ).loc main_arg2)
abbrev arg3 : (⟨S2x8x2048x128, .f32⟩ : BufTy).Contents (Elt Ideal) := m ((c.tc : Thread nD τ).loc main_arg3)
abbrev arg4 : (⟨S2x8x2048x64, .f32⟩ : BufTy).Contents (Elt Ideal) := m ((c.tc : Thread nD τ).loc main_arg4)
abbrev arg5 : (⟨S2x8x32, .f32⟩ : BufTy).Contents (Elt Ideal) := m ((c.tc : Thread nD τ).loc main_arg5)
abbrev arg6 : (⟨S2x8x2048x128, .f32⟩ : BufTy).Contents (Elt Ideal) := m ((c.tc : Thread nD τ).loc main_arg6)
abbrev Sq : Fin 2 → Fin 8 → Seq :=
  (arrays (arg0 m c) (arg1 m c) (arg2 m c) (arg3 m c) (arg4 m c) (arg5 m c) (arg6 m c)).seq

/-- Row `r` of the block of pair `n`. -/
abbrev bRow (n : Fin 16) (r : Fin 128) : Fin 2048 := ⟨n.val * 128 + r.val, by omega⟩
theorem bRow_eq (n : Fin 16) (p : Fin 2) (t : Fin 64) : bRow n (r2 p t) = row (ch n p) t := Fin.ext (by simp only [bRow, r2, row, ch]; omega)
theorem r2_split (r : Fin 128) : ∃ p t, r = r2 p t := ⟨⟨r.val / 64, by omega⟩, ⟨r.val % 64, by omega⟩, Fin.ext (by simp only; omega)⟩

/-- The pair of chunks of point `t`. -/
abbrev pt0 (t : Fin cfg0.N) : Fin 16 := ⟨t.val, lt_of_lt_of_eq t.isLt N_0⟩

section Blocks

variable (t : Fin cfg0.N) (b : Fin 2) (h : Fin 8) (r : Fin 128)

theorem u_blk (d : Fin 128) : Fwd.iblk (V1 m ρ) c 0 t (ix4 b h r d) = arg0 m c (ix4 b h (bRow (pt0 t) r) d) := by
  blk_point [Fwd.iblk, V1, W1, W0, hostOps0, idx0 t]
theorem w_blk (d : Fin 128) : Fwd.iblk (V1 m ρ) c 1 t (ix4 b h r d) = arg1 m c (ix4 b h (bRow (pt0 t) r) d) := by
  blk_point [Fwd.iblk, V1, W1, W0, hostOps0, idx0 t]
theorem q_blk (d : Fin 128) : Fwd.iblk (V1 m ρ) c 2 t (ix4 b h r d) = arg2 m c (ix4 b h (bRow (pt0 t) r) d) := by
  blk_point [Fwd.iblk, V1, W1, W0, hostOps0, idx0 t]
theorem k_blk (d : Fin 128) : Fwd.iblk (V1 m ρ) c 3 t (ix4 b h r d) = arg3 m c (ix4 b h (bRow (pt0 t) r) d) := by
  blk_point [Fwd.iblk, V1, W1, W0, hostOps0, idx0 t]
theorem i_blk (d : Fin 64) : Fwd.iblk (V1 m ρ) c 4 t (ix4 b h r d) = arg4 m c (ix4 b h (bRow (pt0 t) r) d) := by
  blk_point [Fwd.iblk, V1, W1, W0, hostOps0, idx0 t]
theorem e_host : (V1 m ρ c main_v6 : (⟨S2x8x256x128, .f32⟩ : BufTy).Contents (Elt Ideal))
    = shapeCast S2x8x256x128 (broadcastInDim S2x8x32x8x128 ![0, 1, 2, 3, 4] bcast_S2x8x32x1x1_S2x8x32x8x128_0_1_2_3_4
        (broadcastInDim S2x8x32x1x1 ![0, 1, 2] bcast_S2x8x32_S2x8x32x1x1_0_1_2 (arg5 m c))) shapeCasts_S2x8x32x8x128_S2x8x256x128 := by rfl
theorem e_at (n : Fin 256) (d : Fin 128) : (V1 m ρ c main_v6 : (⟨S2x8x256x128, .f32⟩ : BufTy).Contents (Elt Ideal)) (ix4 b h n d)
    = arg5 m c (ix3 b h ⟨n.val / 8, by omega⟩) := by
  refine (congrFun (e_host m ρ c) _).trans ?_
  pointwise []
theorem e_blk (p : Fin 2) (d : Fin 128) : Fwd.iblk (V1 m ρ) c 5 t (ix4 b h ⟨p.val * 8, by omega⟩ d) = arg5 m c (ix3 b h (ch (pt0 t) p)) := by
  have e : ((View.whole main_v6).slice (win0_5.rect t)).emb (ix4 b h ⟨p.val * 8, by omega⟩ d) = ix4 b h ⟨(ch (pt0 t) p).val * 8, by omega⟩ d := by
    blk_ext [idx0 t, pt0, ch]
  refine (congrArg (V1 m ρ c main_v6) e).trans ((e_at m ρ c b h _ d).trans (congrArg (fun n => arg5 m c (ix3 b h n)) (Fin.ext ?_)))
  simp only; omega

end Blocks

theorem holds (t : Fin cfg0.N) : Holds (Fwd.blocks (V1 m ρ) c t) (Sq m c) (pt0 t) where
  u b h p s d := (u_blk m ρ c t b h _ d).trans (by rw [bRow_eq])
  w b h p s d := (w_blk m ρ c t b h _ d).trans (by rw [bRow_eq])
  q b h p s d := (q_blk m ρ c t b h _ d).trans (by rw [bRow_eq])
  k b h p s d := (k_blk m ρ c t b h _ d).trans (by rw [bRow_eq])
  i b h p s d := (i_blk m ρ c t b h _ d).trans (by rw [bRow_eq])
  e b h p d := e_blk m ρ c t b h p d

/-- Every point leaves its chunks' outputs. -/
theorem points : ∀ (n : ℕ) (hn : n < cfg0.N), Leaves (Fwd.outs (V1 m ρ) c n hn) (Sq m c) (pt0 ⟨n, hn⟩)
  | 0, hn => by
    unfold Fwd.outs
    rw [runA_eq]
    exact leaves _ _ (pt0 ⟨0, hn⟩) (holds m ρ c ⟨0, hn⟩) _ fun b h => by funext j d; exact f2 b h j d
  | n + 1, hn => by
    unfold Fwd.outs
    rw [runB_eq]
    refine leaves _ _ (pt0 ⟨n + 1, hn⟩) (holds m ρ c ⟨n + 1, hn⟩) _ fun b h => ?_
    refine ((points n (Nat.lt_of_succ_lt hn)).s b h).trans (congrArg _ ?_)
    simp only [pt0]; omega

/-! ## The three arrays -/

theorem emb6 (t : Fin cfg0.N) (b : Fin 2) (h : Fin 8) (r d : Fin 128) :
    ((View.whole main_v7_0).slice (win0_6.rect t)).emb (ix4 b h r d) = ix4 b h (bRow (pt0 t) r) d := by blk_ext [idx0 t]
theorem emb7 (t : Fin cfg0.N) (b : Fin 2) (h : Fin 8) (r d : Fin 128) :
    ((View.whole main_v7_1).slice (win0_7.rect t)).emb (ix4 b h r d) = ix4 b h (bRow (pt0 t) r) d := by blk_ext [idx0 t]
theorem emb8 (t : Fin cfg0.N) (b : Fin 2) (h : Fin 8) (p : Fin 2) (j d : Fin 128) :
    ((View.whole main_v7_2).slice (win0_8.rect t)).emb (ix5 b h p j d) = ix5 b h (ch (pt0 t) p) j d := by blk_ext [idx0 t]

theorem o_arr : (Fwd.dat (V1 m ρ) c).arrAt 6 cfg0.N = rowArr fun b h => (Sq m c b h).outs := by
  refine (Fwd.dat (V1 m ρ) c).arrAt_eq_of_covers 6 _ (by decide +kernel) fun t hf y => ?_
  blk_simp
  rw [Fwd.after_6, (points m ρ c t.val t.isLt).o]
  idx_vars y
  obtain ⟨p, s, rfl⟩ := r2_split y2
  rw [emb6, bRow_eq, rowBlock_at, rowArr_at]

theorem v_arr : (Fwd.dat (V1 m ρ) c).arrAt 7 cfg0.N = rowArr fun b h => (Sq m c b h).vs := by
  refine (Fwd.dat (V1 m ρ) c).arrAt_eq_of_covers 7 _ (by decide +kernel) fun t hf y => ?_
  blk_simp
  rw [Fwd.after_7, (points m ρ c t.val t.isLt).v]
  idx_vars y
  obtain ⟨p, s, rfl⟩ := r2_split y2
  rw [emb7, bRow_eq, rowBlock_at, rowArr_at]

theorem z_arr : (Fwd.dat (V1 m ρ) c).arrAt 8 cfg0.N = stateArr fun b h n => (Sq m c b h).state n.val := by
  refine (Fwd.dat (V1 m ρ) c).arrAt_eq_of_covers 8 _ (by decide +kernel) fun t hf y => ?_
  blk_simp
  rw [Fwd.after_8, (points m ρ c t.val t.isLt).z]
  idx_vars y
  rw [emb8]
  rfl

end Cert.ScanIdeal.Val

end

end
-- ==== Proof.ScanBwdValue.lean ====
module

public import proofs.«01_k».proof.Proof.ScanFwdValue

/-! The arrays the scan's gradient leaves. -/

@[expose] public section

set_option maxRecDepth 16384

noncomputable section

open Idealize.ShloMosaic Idealize.ShloMosaic.TcCoe Idealize.SL.Sem
open Idealize.ShloMosaic.Pipeline (Dat)
open Cert.ScanMath

namespace Cert.ScanIdeal.Val
open Cert.ScanIdeal Cert.ScanIdeal.Scan
open Cert.ScanIdeal.Gen hiding V0 V1 V2 V3 V1_of V2_of V3_of adm segs V3_main_arg0 V3_main_arg1 V3_main_arg2 V3_main_arg3 V3_main_arg4 V3_main_arg5 V3_main_arg6

variable (m : (ℓ : Loc nD τ sig) → Buf (Elt Ideal) ℓ) (ρ : Dev nD → PrngReg) (c : Dev nD)

theorem idx1 : ∀ t : Fin cfg1.N, win1_0.index t = ![0, 0, 15 - t.val, 0] ∧ win1_1.index t = ![0, 0, 15 - t.val, 0] ∧ win1_2.index t = ![0, 0, 15 - t.val, 0]
    ∧ win1_3.index t = ![0, 0, 15 - t.val, 0] ∧ win1_4.index t = ![0, 0, 15 - t.val, 0] ∧ win1_5.index t = ![0, 0, 15 - t.val, 0]
    ∧ win1_6.index t = ![0, 0, 15 - t.val, 0] ∧ win1_7.index t = ![0, 0, 15 - t.val, 0, 0] ∧ win1_8.index t = ![0, 0, 15 - t.val, 0]
    ∧ win1_9.index t = ![0, 0, 15 - t.val, 0] ∧ win1_10.index t = ![0, 0, 15 - t.val, 0] ∧ win1_11.index t = ![0, 0, 15 - t.val, 0]
    ∧ win1_12.index t = ![0, 0, 15 - t.val, 0] ∧ win1_13.index t = ![0, 0, 15 - t.val, 0] :=
  (by decide +kernel : ∀ t : Fin grid1.N, _)

/-- The pair of chunks of point `t`: from the last pair down. -/
abbrev pt1 (t : Fin cfg1.N) : Fin 16 := ⟨15 - t.val, by omega⟩

theorem W2_v0 : W2 m ρ c (Proc.devRef .tc main_v0) = W1 m ρ c (Proc.devRef .tc main_v0) := W2_of m ρ c main_v0 (by decide)
theorem W2_v1 : W2 m ρ c (Proc.devRef .tc main_v1) = W1 m ρ c (Proc.devRef .tc main_v1) := W2_of m ρ c main_v1 (by decide)
theorem W2_v2 : W2 m ρ c (Proc.devRef .tc main_v2) = W1 m ρ c (Proc.devRef .tc main_v2) := W2_of m ρ c main_v2 (by decide)
theorem W2_v3 : W2 m ρ c (Proc.devRef .tc main_v3) = W1 m ρ c (Proc.devRef .tc main_v3) := W2_of m ρ c main_v3 (by decide)
theorem W2_v6 : W2 m ρ c (Proc.devRef .tc main_v6) = W1 m ρ c (Proc.devRef .tc main_v6) := W2_of m ρ c main_v6 (by decide)
theorem W2_vn : W2 m ρ c (Proc.devRef .tc main_v7_1) = (rowArr fun b h => (Sq m c b h).vs : S2x8x2048x128.Idx → EReal) :=
  (W2_arr m ρ c 7).trans (v_arr m ρ c)
theorem W2_s0 : W2 m ρ c (Proc.devRef .tc main_v7_2) = (stateArr fun b h n => (Sq m c b h).state n.val : S2x8x32x128x128.Idx → EReal) :=
  (W2_arr m ρ c 8).trans (z_arr m ρ c)

section Blocks

variable (t : Fin cfg1.N) (b : Fin 2) (h : Fin 8) (r : Fin 128)

theorem ct_blk1 (d : Fin 128) : Bwd.iblk (V2 m ρ) c 0 t (ix4 b h r d) = arg6 m c (ix4 b h (bRow (pt1 t) r) d) := by
  blk_point [Bwd.iblk, V2, W2_args m ρ c main_arg6 (by decide), idx1 t]
theorem w_blk1 (d : Fin 128) : Bwd.iblk (V2 m ρ) c 1 t (ix4 b h r d) = arg1 m c (ix4 b h (bRow (pt1 t) r) d) := by
  blk_point [Bwd.iblk, V2, W2_v0 m ρ c, W1, W0, hostOps0, idx1 t]
theorem q_blk1 (d : Fin 128) : Bwd.iblk (V2 m ρ) c 2 t (ix4 b h r d) = arg2 m c (ix4 b h (bRow (pt1 t) r) d) := by
  blk_point [Bwd.iblk, V2, W2_v1 m ρ c, W1, W0, hostOps0, idx1 t]
theorem k_blk1 (d : Fin 128) : Bwd.iblk (V2 m ρ) c 3 t (ix4 b h r d) = arg3 m c (ix4 b h (bRow (pt1 t) r) d) := by
  blk_point [Bwd.iblk, V2, W2_v2 m ρ c, W1, W0, hostOps0, idx1 t]
theorem i_blk1 (d : Fin 64) : Bwd.iblk (V2 m ρ) c 4 t (ix4 b h r d) = arg4 m c (ix4 b h (bRow (pt1 t) r) d) := by
  blk_point [Bwd.iblk, V2, W2_v3 m ρ c, W1, W0, hostOps0, idx1 t]
theorem e_blk1 (p : Fin 2) (d : Fin 128) : Bwd.iblk (V2 m ρ) c 5 t (ix4 b h ⟨p.val * 8, by omega⟩ d) = arg5 m c (ix3 b h (ch (pt1 t) p)) := by
  have e : ((View.whole main_v6).slice (win1_5.rect t)).emb (ix4 b h ⟨p.val * 8, by omega⟩ d) = ix4 b h ⟨(ch (pt1 t) p).val * 8, by omega⟩ d := by
    blk_ext [idx1 t, pt1, ch]
  refine (congrArg (V2 m ρ c main_v6) e).trans ((congrFun (W2_v6 m ρ c) _).trans ((e_at m ρ c b h _ d).trans
    (congrArg (fun n => arg5 m c (ix3 b h n)) (Fin.ext ?_))))
  simp only; omega
theorem v_blk1 (d : Fin 128) : Bwd.iblk (V2 m ρ) c 6 t (ix4 b h r d) = rowArr (fun b h => (Sq m c b h).vs) (ix4 b h (bRow (pt1 t) r) d) := by
  have hv := W2_vn m ρ c
  generalize (rowArr fun b h => (Sq m c b h).vs : S2x8x2048x128.Idx → EReal) = P at hv ⊢
  blk_point [Bwd.iblk, V2, hv, idx1 t]
theorem z_blk1 (p : Fin 2) (j d : Fin 128) : Bwd.iblk (V2 m ρ) c 7 t (ix5 b h p j d)
    = stateArr (fun b h n => (Sq m c b h).state n.val) (ix5 b h (ch (pt1 t) p) j d) := by
  have hv := W2_s0 m ρ c
  generalize (stateArr fun b h n => (Sq m c b h).state n.val : S2x8x32x128x128.Idx → EReal) = P at hv ⊢
  blk_point [Bwd.iblk, V2, hv, idx1 t]

end Blocks

theorem holdsB (t : Fin cfg1.N) : HoldsB (Bwd.blocks (V2 m ρ) c t) (Sq m c) (pt1 t) where
  c b h p s d := (ct_blk1 m ρ c t b h _ d).trans (by rw [bRow_eq])
  w b h p s d := (w_blk1 m ρ c t b h _ d).trans (by rw [bRow_eq])
  q b h p s d := (q_blk1 m ρ c t b h _ d).trans (by rw [bRow_eq])
  k b h p s d := (k_blk1 m ρ c t b h _ d).trans (by rw [bRow_eq])
  i b h p s d := (i_blk1 m ρ c t b h _ d).trans (by rw [bRow_eq])
  e b h p d := e_blk1 m ρ c t b h p d
  v b h p s d := (v_blk1 m ρ c t b h _ d).trans (by rw [bRow_eq, rowArr_at])
  z b h p j d := z_blk1 m ρ c t b h p j d

/-- Every point leaves its chunks' gradients. -/
theorem pointsB : ∀ (n : ℕ) (hn : n < cfg1.N), LeavesB (Bwd.outs (V2 m ρ) c n hn) (Sq m c) (pt1 ⟨n, hn⟩)
  | 0, hn => by
    unfold Bwd.outs
    rw [runA_eqB]
    exact leavesB _ _ (pt1 ⟨0, hn⟩) (holdsB m ρ c ⟨0, hn⟩) _ fun b h => by funext j d; exact b2 b h j d
  | n + 1, hn => by
    have h16 : n + 1 < 16 := lt_of_lt_of_eq hn N_1
    unfold Bwd.outs
    rw [runB_eqB]
    refine leavesB _ _ (pt1 ⟨n + 1, hn⟩) (holdsB m ρ c ⟨n + 1, hn⟩) _ fun b h => ?_
    refine ((pointsB n (Nat.lt_of_succ_lt hn)).s b h).trans (congrArg _ ?_)
    show 31 - ((15 - n) * 2 + 0) + 1 = 31 - ((15 - (n + 1)) * 2 + 1)
    omega

/-! ## The six arrays -/

theorem embB8 (t : Fin cfg1.N) (b : Fin 2) (h : Fin 8) (r d : Fin 128) :
    ((View.whole main_v8_0).slice (win1_8.rect t)).emb (ix4 b h r d) = ix4 b h (bRow (pt1 t) r) d := by blk_ext [idx1 t]
theorem embB9 (t : Fin cfg1.N) (b : Fin 2) (h : Fin 8) (r d : Fin 128) :
    ((View.whole main_v8_1).slice (win1_9.rect t)).emb (ix4 b h r d) = ix4 b h (bRow (pt1 t) r) d := by blk_ext [idx1 t]
theorem embB10 (t : Fin cfg1.N) (b : Fin 2) (h : Fin 8) (r d : Fin 128) :
    ((View.whole main_v8_2).slice (win1_10.rect t)).emb (ix4 b h r d) = ix4 b h (bRow (pt1 t) r) d := by blk_ext [idx1 t]
theorem embB11 (t : Fin cfg1.N) (b : Fin 2) (h : Fin 8) (r d : Fin 128) :
    ((View.whole main_v8_3).slice (win1_11.rect t)).emb (ix4 b h r d) = ix4 b h (bRow (pt1 t) r) d := by blk_ext [idx1 t]
theorem embB12 (t : Fin cfg1.N) (b : Fin 2) (h : Fin 8) (r : Fin 128) (d : Fin 64) :
    ((View.whole main_v8_4).slice (win1_12.rect t)).emb (ix4 b h r d) = ix4 b h (bRow (pt1 t) r) d := by blk_ext [idx1 t]
theorem embB13 (t : Fin cfg1.N) (b : Fin 2) (h : Fin 8) (r : Fin 16) (d : Fin 128) :
    ((View.whole main_v8_5).slice (win1_13.rect t)).emb (ix4 b h r d) = ix4 b h ⟨(pt1 t).val * 16 + r.val, by omega⟩ d := by blk_ext [idx1 t]

theorem du_arr : (Bwd.dat (V2 m ρ) c).arrAt 8 cfg1.N = rowArr fun b h => (Sq m c b h).dvs := by
  refine (Bwd.dat (V2 m ρ) c).arrAt_eq_of_covers 8 _ (by decide +kernel) fun t hf y => ?_
  blk_simp
  rw [Bwd.after_8, (pointsB m ρ c t.val t.isLt).du]
  idx_vars y
  obtain ⟨p, s, rfl⟩ := r2_split y2
  rw [embB8, bRow_eq, rowBlock_at, rowArr_at]

theorem dw_arr : (Bwd.dat (V2 m ρ) c).arrAt 9 cfg1.N = rowArr fun b h n => dw ((Sq m c b h).dvs n) ((Sq m c b h).state n.val) := by
  refine (Bwd.dat (V2 m ρ) c).arrAt_eq_of_covers 9 _ (by decide +kernel) fun t hf y => ?_
  blk_simp
  rw [Bwd.after_9, (pointsB m ρ c t.val t.isLt).dw]
  idx_vars y
  obtain ⟨p, s, rfl⟩ := r2_split y2
  rw [embB9, bRow_eq, rowBlock_at, rowArr_at]

theorem dq_arr : (Bwd.dat (V2 m ρ) c).arrAt 10 cfg1.N = rowArr fun b h n => rows ((Sq m c b h).ct n) ((Sq m c b h).state n.val) := by
  refine (Bwd.dat (V2 m ρ) c).arrAt_eq_of_covers 10 _ (by decide +kernel) fun t hf y => ?_
  blk_simp
  rw [Bwd.after_10, (pointsB m ρ c t.val t.isLt).dq]
  idx_vars y
  obtain ⟨p, s, rfl⟩ := r2_split y2
  rw [embB10, bRow_eq, rowBlock_at, rowArr_at]

theorem dk_arr : (Bwd.dat (V2 m ρ) c).arrAt 11 cfg1.N = rowArr fun b h n => rows ((Sq m c b h).vs n) ((Sq m c b h).after n) := by
  refine (Bwd.dat (V2 m ρ) c).arrAt_eq_of_covers 11 _ (by decide +kernel) fun t hf y => ?_
  blk_simp
  rw [Bwd.after_11, (pointsB m ρ c t.val t.isLt).dk]
  idx_vars y
  obtain ⟨p, s, rfl⟩ := r2_split y2
  rw [embB11, bRow_eq, rowBlock_at, rowArr_at]

theorem di_arr : (Bwd.dat (V2 m ρ) c).arrAt 12 cfg1.N = rowArr fun b h n => di ((Sq m c b h).ct n) ((Sq m c b h).vs n) := by
  refine (Bwd.dat (V2 m ρ) c).arrAt_eq_of_covers 12 _ (by decide +kernel) fun t hf y => ?_
  blk_simp
  rw [Bwd.after_12, (pointsB m ρ c t.val t.isLt).di]
  idx_vars y
  obtain ⟨p, s, rfl⟩ := r2_split y2
  rw [embB12, bRow_eq, mixBlock_at, rowArr_at]

theorem de_arr : (Bwd.dat (V2 m ρ) c).arrAt 13 cfg1.N = numArr fun b h n => de ((Sq m c b h).after n) ((Sq m c b h).state n.val) := by
  refine (Bwd.dat (V2 m ρ) c).arrAt_eq_of_covers 13 _ (by decide +kernel) fun t hf y => ?_
  blk_simp
  rw [Bwd.after_13, (pointsB m ρ c t.val t.isLt).de]
  idx_vars y
  rw [embB13]
  have e : ∀ q q', ch (pt1 t) ⟨y2.val / 8, q⟩ = (⟨((pt1 t).val * 16 + y2.val) / 8, q'⟩ : Fin 32) := fun q q' => Fin.ext (by simp only [ch]; omega)
  exact congrArg (fun n => de ((Sq m c y0 y1).after n) ((Sq m c y0 y1).state n.val)) (e _ _)

end Cert.ScanIdeal.Val

end

end
-- ==== Proof.ScanRefOps.lean ====
module

public import proofs.«01_k».proof.Proof.Gen.ScanRefIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The reference of the state's scan as operations in order: the stretches before, between and after its two counted
    loops, each loop's body, and each loop's condition. The loops read and write one entry of a stacked array by calls
    (`getRows`, `setRows`, …), so a body is the calls and what stands between them. -/

@[expose] public section

noncomputable section

namespace Cert.ScanRefIdeal.Loops

open Cert.ScanRefIdeal Cert.ScanRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.StableHlo

variable {F : FTy → Type} [FloatOps F]

/-- A float32 array of shape `S`. -/
abbrev C (F : FTy → Type) [FloatOps F] (S : Shape) := (⟨S, .f32⟩ : BufTy).Contents (Elt F)

/-- Entry `arg1` of `arg0`, over one call's buffers. -/
abbrev getRows (arg0 : TRef sig ⟨S32x2x8x64x128, .f32⟩) (arg1 : TRef sig ⟨S_, .i32⟩) (φ : fn_dynamic_index_in_dim.Bufs) : List (HloOp τ sig (Elt F)) :=
  [ TRef.nullary φ.c (constantI S_ 32 0#32),
    TRef.nullary φ.c_0 (constantI S_ 32 0#32),
    TRef.nullary φ.c_1 (constantI S_ 32 0#32),
    TRef.nullary φ.c_2 (constantI S_ 32 0#32),
    TRef.unaryIndexed arg0 ![arg1, φ.c, φ.c_0, φ.c_1, φ.c_2] φ.v0 (fun x i => Host.dynamicSlice S1x2x8x64x128 x (fun k => (i k (Shape.Idx.first h_S_)).toInt) sliceFits_S32x2x8x64x128_S1x2x8x64x128),
    TRef.reshape φ.v0 φ.v1 (rfl : (.f32 : EltTy) = .f32) shapeCasts_S1x2x8x64x128_S2x8x64x128 ]

/-- Entry `arg1` of `arg0`, over one call's buffers. -/
abbrev getMix (arg0 : TRef sig ⟨S32x2x8x64x64, .f32⟩) (arg1 : TRef sig ⟨S_, .i32⟩) (φ : fn_dynamic_index_in_dim_0.Bufs) : List (HloOp τ sig (Elt F)) :=
  [ TRef.nullary φ.c (constantI S_ 32 0#32),
    TRef.nullary φ.c_0 (constantI S_ 32 0#32),
    TRef.nullary φ.c_1 (constantI S_ 32 0#32),
    TRef.nullary φ.c_2 (constantI S_ 32 0#32),
    TRef.unaryIndexed arg0 ![arg1, φ.c, φ.c_0, φ.c_1, φ.c_2] φ.v0 (fun x i => Host.dynamicSlice S1x2x8x64x64 x (fun k => (i k (Shape.Idx.first h_S_)).toInt) sliceFits_S32x2x8x64x64_S1x2x8x64x64),
    TRef.reshape φ.v0 φ.v1 (rfl : (.f32 : EltTy) = .f32) shapeCasts_S1x2x8x64x64_S2x8x64x64 ]

/-- Entry `arg1` of `arg0`, over one call's buffers. -/
abbrev getScalar (arg0 : TRef sig ⟨S32x2x8, .f32⟩) (arg1 : TRef sig ⟨S_, .i32⟩) (φ : fn_dynamic_index_in_dim_1.Bufs) : List (HloOp τ sig (Elt F)) :=
  [ TRef.nullary φ.c (constantI S_ 32 0#32),
    TRef.nullary φ.c_0 (constantI S_ 32 0#32),
    TRef.unaryIndexed arg0 ![arg1, φ.c, φ.c_0] φ.v0 (fun x i => Host.dynamicSlice S1x2x8 x (fun k => (i k (Shape.Idx.first h_S_)).toInt) sliceFits_S32x2x8_S1x2x8),
    TRef.reshape φ.v0 φ.v1 (rfl : (.f32 : EltTy) = .f32) shapeCasts_S1x2x8_S2x8 ]

/-- Entry `arg1` of `arg0`, over one call's buffers. -/
abbrev getState (arg0 : TRef sig ⟨S32x2x8x128x128, .f32⟩) (arg1 : TRef sig ⟨S_, .i32⟩) (φ : fn_dynamic_index_in_dim_4.Bufs) : List (HloOp τ sig (Elt F)) :=
  [ TRef.nullary φ.c (constantI S_ 32 0#32),
    TRef.nullary φ.c_0 (constantI S_ 32 0#32),
    TRef.nullary φ.c_1 (constantI S_ 32 0#32),
    TRef.nullary φ.c_2 (constantI S_ 32 0#32),
    TRef.unaryIndexed arg0 ![arg1, φ.c, φ.c_0, φ.c_1, φ.c_2] φ.v0 (fun x i => Host.dynamicSlice S1x2x8x128x128 x (fun k => (i k (Shape.Idx.first h_S_)).toInt) sliceFits_S32x2x8x128x128_S1x2x8x128x128),
    TRef.reshape φ.v0 φ.v1 (rfl : (.f32 : EltTy) = .f32) shapeCasts_S1x2x8x128x128_S2x8x128x128 ]

/-- Entry `arg1` of `arg0`, over one call's buffers. -/
abbrev getOne (arg0 : TRef sig ⟨S32x2x8x1x1, .f32⟩) (arg1 : TRef sig ⟨S_, .i32⟩) (φ : fn_dynamic_index_in_dim_5.Bufs) : List (HloOp τ sig (Elt F)) :=
  [ TRef.nullary φ.c (constantI S_ 32 0#32),
    TRef.nullary φ.c_0 (constantI S_ 32 0#32),
    TRef.nullary φ.c_1 (constantI S_ 32 0#32),
    TRef.nullary φ.c_2 (constantI S_ 32 0#32),
    TRef.unaryIndexed arg0 ![arg1, φ.c, φ.c_0, φ.c_1, φ.c_2] φ.v0 (fun x i => Host.dynamicSlice S1x2x8x1x1 x (fun k => (i k (Shape.Idx.first h_S_)).toInt) sliceFits_S32x2x8x1x1_S1x2x8x1x1),
    TRef.reshape φ.v0 φ.v1 (rfl : (.f32 : EltTy) = .f32) shapeCasts_S1x2x8x1x1_S2x8x1x1 ]

/-- Entry `arg2` of `arg0` replaced by `arg1`, over one call's buffers. -/
abbrev setRows (arg0 : TRef sig ⟨S32x2x8x64x128, .f32⟩) (arg1 : TRef sig ⟨S2x8x64x128, .f32⟩) (arg2 : TRef sig ⟨S_, .i32⟩) (φ : fn_dynamic_update_index_in_dim.Bufs) : List (HloOp τ sig (Elt F)) :=
  [ TRef.unary arg1 φ.v0 (broadcastInDim S1x2x8x64x128 ![1, 2, 3, 4] bcast_S2x8x64x128_S1x2x8x64x128_1_2_3_4),
    TRef.nullary φ.c (constantI S_ 32 0#32),
    TRef.nullary φ.c_0 (constantI S_ 32 0#32),
    TRef.nullary φ.c_1 (constantI S_ 32 0#32),
    TRef.nullary φ.c_2 (constantI S_ 32 0#32),
    TRef.binaryIndexed arg0 φ.v0 ![arg2, φ.c, φ.c_0, φ.c_1, φ.c_2] φ.v1 (fun x u i => Host.dynamicUpdateSlice x u (fun k => (i k (Shape.Idx.first h_S_)).toInt) updateFits_S32x2x8x64x128_S1x2x8x64x128) ]

/-- Entry `arg2` of `arg0` replaced by `arg1`, over one call's buffers. -/
abbrev setState (arg0 : TRef sig ⟨S32x2x8x128x128, .f32⟩) (arg1 : TRef sig ⟨S2x8x128x128, .f32⟩) (arg2 : TRef sig ⟨S_, .i32⟩) (φ : fn_dynamic_update_index_in_dim_2.Bufs) : List (HloOp τ sig (Elt F)) :=
  [ TRef.unary arg1 φ.v0 (broadcastInDim S1x2x8x128x128 ![1, 2, 3, 4] bcast_S2x8x128x128_S1x2x8x128x128_1_2_3_4),
    TRef.nullary φ.c (constantI S_ 32 0#32),
    TRef.nullary φ.c_0 (constantI S_ 32 0#32),
    TRef.nullary φ.c_1 (constantI S_ 32 0#32),
    TRef.nullary φ.c_2 (constantI S_ 32 0#32),
    TRef.binaryIndexed arg0 φ.v0 ![arg2, φ.c, φ.c_0, φ.c_1, φ.c_2] φ.v1 (fun x u i => Host.dynamicUpdateSlice x u (fun k => (i k (Shape.Idx.first h_S_)).toInt) updateFits_S32x2x8x128x128_S1x2x8x128x128) ]

/-- Entry `arg2` of `arg0` replaced by `arg1`, over one call's buffers. -/
abbrev setOne (arg0 : TRef sig ⟨S32x2x8x1x1, .f32⟩) (arg1 : TRef sig ⟨S2x8x1x1, .f32⟩) (arg2 : TRef sig ⟨S_, .i32⟩) (φ : fn_dynamic_update_index_in_dim_3.Bufs) : List (HloOp τ sig (Elt F)) :=
  [ TRef.unary arg1 φ.v0 (broadcastInDim S1x2x8x1x1 ![1, 2, 3, 4] bcast_S2x8x1x1_S1x2x8x1x1_1_2_3_4),
    TRef.nullary φ.c (constantI S_ 32 0#32),
    TRef.nullary φ.c_0 (constantI S_ 32 0#32),
    TRef.nullary φ.c_1 (constantI S_ 32 0#32),
    TRef.nullary φ.c_2 (constantI S_ 32 0#32),
    TRef.binaryIndexed arg0 φ.v0 ![arg2, φ.c, φ.c_0, φ.c_1, φ.c_2] φ.v1 (fun x u i => Host.dynamicUpdateSlice x u (fun k => (i k (Shape.Idx.first h_S_)).toInt) updateFits_S32x2x8x1x1_S1x2x8x1x1) ]

/-- Entry `arg2` of `arg0` replaced by `arg1`, over one call's buffers. -/
abbrev setMix (arg0 : TRef sig ⟨S32x2x8x64x64, .f32⟩) (arg1 : TRef sig ⟨S2x8x64x64, .f32⟩) (arg2 : TRef sig ⟨S_, .i32⟩) (φ : fn_dynamic_update_index_in_dim_6.Bufs) : List (HloOp τ sig (Elt F)) :=
  [ TRef.unary arg1 φ.v0 (broadcastInDim S1x2x8x64x64 ![1, 2, 3, 4] bcast_S2x8x64x64_S1x2x8x64x64_1_2_3_4),
    TRef.nullary φ.c (constantI S_ 32 0#32),
    TRef.nullary φ.c_0 (constantI S_ 32 0#32),
    TRef.nullary φ.c_1 (constantI S_ 32 0#32),
    TRef.nullary φ.c_2 (constantI S_ 32 0#32),
    TRef.binaryIndexed arg0 φ.v0 ![arg2, φ.c, φ.c_0, φ.c_1, φ.c_2] φ.v1 (fun x u i => Host.dynamicUpdateSlice x u (fun k => (i k (Shape.Idx.first h_S_)).toInt) updateFits_S32x2x8x64x64_S1x2x8x64x64) ]

/-- Entry `arg2` of `arg0` replaced by `arg1`, over one call's buffers. -/
abbrev setScalar (arg0 : TRef sig ⟨S32x2x8, .f32⟩) (arg1 : TRef sig ⟨S2x8, .f32⟩) (arg2 : TRef sig ⟨S_, .i32⟩) (φ : fn_dynamic_update_index_in_dim_7.Bufs) : List (HloOp τ sig (Elt F)) :=
  [ TRef.unary arg1 φ.v0 (broadcastInDim S1x2x8 ![1, 2] bcast_S2x8_S1x2x8_1_2),
    TRef.nullary φ.c (constantI S_ 32 0#32),
    TRef.nullary φ.c_0 (constantI S_ 32 0#32),
    TRef.binaryIndexed arg0 φ.v0 ![arg2, φ.c, φ.c_0] φ.v1 (fun x u i => Host.dynamicUpdateSlice x u (fun k => (i k (Shape.Idx.first h_S_)).toInt) updateFits_S32x2x8_S1x2x8) ]

/-- Operations of the first loop's body between its calls, in order. -/
abbrev trip0Ops : List (HloOp τ sig (Elt F)) :=
  [ binary main_while0b_v45 main_v16_7 main_while0b_v50 ((fun l r => Host.dotGeneral dot_S2x8x64x128_S2x8x128x128_S2x8x64x128_3_2_2_3_01_01 none l r) : C F S2x8x64x128 → C F S2x8x128x128 → C F S2x8x64x128),
    binary main_while0b_v46 main_while0b_v50 main_while0b_v51 (subf : C F S2x8x64x128 → C F S2x8x64x128 → C F S2x8x64x128),
    binary main_while0b_v44 main_v16_7 main_while0b_v52 ((fun l r => Host.dotGeneral dot_S2x8x64x128_S2x8x128x128_S2x8x64x128_3_2_2_3_01_01 none l r) : C F S2x8x64x128 → C F S2x8x128x128 → C F S2x8x64x128),
    binary main_while0b_v47 main_while0b_v51 main_while0b_v53 ((fun l r => Host.dotGeneral dot_S2x8x64x64_S2x8x64x128_S2x8x64x128_3_2_2_3_01_01 none l r) : C F S2x8x64x64 → C F S2x8x64x128 → C F S2x8x64x128),
    binary main_while0b_v52 main_while0b_v53 main_while0b_v54 (addf : C F S2x8x64x128 → C F S2x8x64x128 → C F S2x8x64x128),
    unary main_while0b_v49 main_while0b_v55 (broadcastInDim S2x8x1x1 ![0, 1] bcast_S2x8_S2x8x1x1_0_1 : C F S2x8 → C F S2x8x1x1),
    unary main_while0b_v55 main_while0b_v56 (broadcastInDim S2x8x128x128 ![0, 1, 2, 3] bcast_S2x8x1x1_S2x8x128x128_0_1_2_3 : C F S2x8x1x1 → C F S2x8x128x128),
    binary main_v16_7 main_while0b_v56 main_while0b_v57 (mulf : C F S2x8x128x128 → C F S2x8x128x128 → C F S2x8x128x128),
    binary main_while0b_v48 main_while0b_v51 main_while0b_v58 ((fun l r => Host.dotGeneral dot_S2x8x64x128_S2x8x64x128_S2x8x128x128_2_2_3_3_01_01 none l r) : C F S2x8x64x128 → C F S2x8x64x128 → C F S2x8x128x128),
    binary main_while0b_v57 main_while0b_v58 main_while0b_v59 (addf : C F S2x8x128x128 → C F S2x8x128x128 → C F S2x8x128x128) ]

/-- Operations of the first loop's body between its calls, in order. -/
abbrev trip0Ops1 : List (HloOp τ sig (Elt F)) :=
  [ nullary main_while0b_c_24 (constantI S_ 32 1#32),
    binary main_v16_6 main_while0b_c_24 main_while0b_v64 (addi),
    unary main_while0b_v64 main_v16_6 id,
    unary main_while0b_v59 main_v16_7 id,
    unary main_while0b_v60 main_v16_8 id,
    unary main_while0b_v61 main_v16_9 id,
    unary main_while0b_v62 main_v16_10 id,
    unary main_while0b_v63 main_v16_11 id ]

/-- Operations of the second loop's body between its calls, in order. -/
abbrev trip1Ops : List (HloOp τ sig (Elt F)) :=
  [ nullary main_while1b_c_28 (constantI S_ 32 32#32),
    binary main_while1b_c_28 main_v29_8 main_while1b_v44 (subi),
    nullary main_while1b_c_29 (constantI S_ 32 1#32),
    binary main_while1b_v44 main_while1b_c_29 main_while1b_v45 (subi) ]

/-- Operations of the second loop's body between its calls, in order. -/
abbrev trip1Ops1 : List (HloOp τ sig (Elt F)) :=
  [ binary main_v29_9 main_while1b_v53 main_while1b_v54 ((fun l r => Host.dotGeneral dot_S2x8x128x128_S2x8x64x128_S2x8x128x64_2_3_3_2_01_01 none l r) : C F S2x8x128x128 → C F S2x8x64x128 → C F S2x8x128x64),
    unary main_while1b_v54 main_while1b_v55 ((transpose S2x8x64x128 [0, 1, 3, 2] · transposes_S2x8x128x64_S2x8x64x128_0_1_3_2) : C F S2x8x128x64 → C F S2x8x64x128),
    binary main_v29_9 main_while1b_v50 main_while1b_v56 ((fun l r => Host.dotGeneral dot_S2x8x128x128_S2x8x64x128_S2x8x128x64_3_3_2_2_01_01 none l r) : C F S2x8x128x128 → C F S2x8x64x128 → C F S2x8x128x64),
    unary main_while1b_v56 main_while1b_v57 ((transpose S2x8x64x128 [0, 1, 3, 2] · transposes_S2x8x128x64_S2x8x64x128_0_1_3_2) : C F S2x8x128x64 → C F S2x8x64x128),
    binary main_while1b_v47 main_v29_9 main_while1b_v58 (mulf : C F S2x8x128x128 → C F S2x8x128x128 → C F S2x8x128x128),
    nullary main_while1b_cst_30 (constant S_ .f32 0x00000000#32),
    binary main_while1b_v58 main_while1b_cst_30 main_while1b_v59 ((fun x v => Host.reduceAdd x v reducesTo_S2x8x128x128_S2x8_d2_3 h_S_) : C F S2x8x128x128 → C F S_ → C F S2x8),
    reshape main_while1b_v59 main_while1b_v60 (rfl : (.f32 : EltTy) = .f32) shapeCasts_S2x8_S2x8x1x1,
    unary main_while1b_v52 main_while1b_v61 (broadcastInDim S2x8x128x128 ![0, 1, 2, 3] bcast_S2x8x1x1_S2x8x128x128_0_1_2_3 : C F S2x8x1x1 → C F S2x8x128x128),
    binary main_v29_9 main_while1b_v61 main_while1b_v62 (mulf : C F S2x8x128x128 → C F S2x8x128x128 → C F S2x8x128x128),
    nullary main_while1b_cst_31 (constant S_ .f32 0x00000000#32),
    binary main_while1b_v60 main_while1b_cst_31 main_while1b_v63 ((fun x v => Host.reduceAdd x v reducesTo_S2x8x1x1_S2x8_d2_3 h_S_) : C F S2x8x1x1 → C F S_ → C F S2x8),
    binary main_while1b_v46 main_while1b_v51 main_while1b_v64 ((fun l r => Host.dotGeneral dot_S2x8x64x128_S2x8x64x64_S2x8x128x64_2_2_3_3_01_01 none l r) : C F S2x8x64x128 → C F S2x8x64x64 → C F S2x8x128x64),
    unary main_while1b_v64 main_while1b_v65 ((transpose S2x8x64x128 [0, 1, 3, 2] · transposes_S2x8x128x64_S2x8x64x128_0_1_3_2) : C F S2x8x128x64 → C F S2x8x64x128),
    binary main_while1b_v55 main_while1b_v65 main_while1b_v66 (addf : C F S2x8x64x128 → C F S2x8x64x128 → C F S2x8x64x128),
    binary main_while1b_v46 main_while1b_v50 main_while1b_v67 ((fun l r => Host.dotGeneral dot_S2x8x64x128_S2x8x64x128_S2x8x64x64_3_3_2_2_01_01 none l r) : C F S2x8x64x128 → C F S2x8x64x128 → C F S2x8x64x64),
    binary main_while1b_v46 main_while1b_v49 main_while1b_v68 ((fun l r => Host.dotGeneral dot_S2x8x64x128_S2x8x64x128_S2x8x128x128_2_2_3_3_01_01 none l r) : C F S2x8x64x128 → C F S2x8x64x128 → C F S2x8x128x128),
    unary main_while1b_v68 main_while1b_v69 ((transpose S2x8x128x128 [0, 1, 3, 2] · transposes_S2x8x128x128_S2x8x128x128_0_1_3_2) : C F S2x8x128x128 → C F S2x8x128x128),
    binary main_while1b_v62 main_while1b_v69 main_while1b_v70 (addf : C F S2x8x128x128 → C F S2x8x128x128 → C F S2x8x128x128),
    binary main_while1b_v46 main_while1b_v47 main_while1b_v71 ((fun l r => Host.dotGeneral dot_S2x8x64x128_S2x8x128x128_S2x8x64x128_3_3_2_2_01_01 none l r) : C F S2x8x64x128 → C F S2x8x128x128 → C F S2x8x64x128),
    unary main_while1b_v66 main_while1b_v72 (Host.negf : C F S2x8x64x128 → C F S2x8x64x128),
    binary main_while1b_v72 main_while1b_v48 main_while1b_v73 ((fun l r => Host.dotGeneral dot_S2x8x64x128_S2x8x64x128_S2x8x128x128_2_2_3_3_01_01 none l r) : C F S2x8x64x128 → C F S2x8x64x128 → C F S2x8x128x128),
    unary main_while1b_v73 main_while1b_v74 ((transpose S2x8x128x128 [0, 1, 3, 2] · transposes_S2x8x128x128_S2x8x128x128_0_1_3_2) : C F S2x8x128x128 → C F S2x8x128x128),
    binary main_while1b_v70 main_while1b_v74 main_while1b_v75 (addf : C F S2x8x128x128 → C F S2x8x128x128 → C F S2x8x128x128),
    binary main_while1b_v72 main_while1b_v47 main_while1b_v76 ((fun l r => Host.dotGeneral dot_S2x8x64x128_S2x8x128x128_S2x8x64x128_3_3_2_2_01_01 none l r) : C F S2x8x64x128 → C F S2x8x128x128 → C F S2x8x64x128) ]

/-- Operations of the second loop's body between its calls, in order. -/
abbrev trip1Ops2 : List (HloOp τ sig (Elt F)) :=
  [ nullary main_while1b_c_32 (constantI S_ 32 1#32),
    binary main_v29_8 main_while1b_c_32 main_while1b_v83 (addi),
    unary main_while1b_v83 main_v29_8 id,
    unary main_while1b_v75 main_v29_9 id,
    unary main_while1b_v77 main_v29_10 id,
    unary main_while1b_v78 main_v29_11 id,
    unary main_while1b_v79 main_v29_12 id,
    unary main_while1b_v80 main_v29_13 id,
    unary main_while1b_v81 main_v29_14 id,
    unary main_while1b_v82 main_v29_15 id ]

/-- Operations of `main` before the first loop, in order. -/
abbrev preOps : List (HloOp τ sig (Elt F)) :=
  [ nullary main_cst (constant S_ .f32 0x00000000#32),
    unary main_cst main_v0 (broadcastInDim S2x8x128x128 ![] bcast_S_S2x8x128x128 : C F S_ → C F S2x8x128x128),
    reshape main_arg2 main_v1 (rfl : (.f32 : EltTy) = .f32) shapeCasts_S2x8x2048x128_S2x8x32x64x128,
    unary main_v1 main_v2 ((transpose S32x2x8x64x128 [2, 0, 1, 3, 4] · transposes_S2x8x32x64x128_S32x2x8x64x128_2_0_1_3_4) : C F S2x8x32x64x128 → C F S32x2x8x64x128),
    reshape main_arg1 main_v3 (rfl : (.f32 : EltTy) = .f32) shapeCasts_S2x8x2048x128_S2x8x32x64x128,
    unary main_v3 main_v4 ((transpose S32x2x8x64x128 [2, 0, 1, 3, 4] · transposes_S2x8x32x64x128_S32x2x8x64x128_2_0_1_3_4) : C F S2x8x32x64x128 → C F S32x2x8x64x128),
    reshape main_arg0 main_v5 (rfl : (.f32 : EltTy) = .f32) shapeCasts_S2x8x2048x128_S2x8x32x64x128,
    unary main_v5 main_v6 ((transpose S32x2x8x64x128 [2, 0, 1, 3, 4] · transposes_S2x8x32x64x128_S32x2x8x64x128_2_0_1_3_4) : C F S2x8x32x64x128 → C F S32x2x8x64x128),
    reshape main_arg4 main_v7 (rfl : (.f32 : EltTy) = .f32) shapeCasts_S2x8x2048x64_S2x8x32x64x64,
    unary main_v7 main_v8 ((transpose S32x2x8x64x64 [2, 0, 1, 3, 4] · transposes_S2x8x32x64x64_S32x2x8x64x64_2_0_1_3_4) : C F S2x8x32x64x64 → C F S32x2x8x64x64),
    reshape main_arg3 main_v9 (rfl : (.f32 : EltTy) = .f32) shapeCasts_S2x8x2048x128_S2x8x32x64x128,
    unary main_v9 main_v10 ((transpose S32x2x8x64x128 [2, 0, 1, 3, 4] · transposes_S2x8x32x64x128_S32x2x8x64x128_2_0_1_3_4) : C F S2x8x32x64x128 → C F S32x2x8x64x128),
    unary main_arg5 main_v11 ((transpose S32x2x8 [2, 0, 1] · transposes_S2x8x32_S32x2x8_2_0_1) : C F S2x8x32 → C F S32x2x8),
    nullary main_cst_0 (constant S_ .f32 0x00000000#32),
    unary main_cst_0 main_v12 (broadcastInDim S32x2x8x64x128 ![] bcast_S_S32x2x8x64x128 : C F S_ → C F S32x2x8x64x128),
    nullary main_cst_1 (constant S_ .f32 0x00000000#32),
    unary main_cst_1 main_v13 (broadcastInDim S32x2x8x128x128 ![] bcast_S_S32x2x8x128x128 : C F S_ → C F S32x2x8x128x128),
    nullary main_cst_2 (constant S_ .f32 0x00000000#32),
    unary main_cst_2 main_v14 (broadcastInDim S32x2x8x64x128 ![] bcast_S_S32x2x8x64x128 : C F S_ → C F S32x2x8x64x128),
    nullary main_cst_3 (constant S_ .f32 0x00000000#32),
    unary main_cst_3 main_v15 (broadcastInDim S32x2x8x1x1 ![] bcast_S_S32x2x8x1x1 : C F S_ → C F S32x2x8x1x1),
    nullary main_c (constantI S_ 32 0#32),
    unary main_v2 main_v16_0 id,
    unary main_v4 main_v16_1 id,
    unary main_v6 main_v16_2 id,
    unary main_v8 main_v16_3 id,
    unary main_v10 main_v16_4 id,
    unary main_v11 main_v16_5 id,
    unary main_c main_v16_6 id,
    unary main_v0 main_v16_7 id,
    unary main_v12 main_v16_8 id,
    unary main_v13 main_v16_9 id,
    unary main_v14 main_v16_10 id,
    unary main_v15 main_v16_11 id ]

/-- Operations of `main` between the two loops, in order. -/
abbrev midOps : List (HloOp τ sig (Elt F)) :=
  [ unary main_v16_8 main_v17 ((transpose S2x8x32x64x128 [1, 2, 0, 3, 4] · transposes_S32x2x8x64x128_S2x8x32x64x128_1_2_0_3_4) : C F S32x2x8x64x128 → C F S2x8x32x64x128),
    reshape main_v17 main_v18 (rfl : (.f32 : EltTy) = .f32) shapeCasts_S2x8x32x64x128_S2x8x2048x128,
    nullary main_cst_4 (constant S_ .f32 0x00000000#32),
    unary main_cst_4 main_v19 (broadcastInDim S2x8x128x128 ![] bcast_S_S2x8x128x128 : C F S_ → C F S2x8x128x128),
    reshape main_arg6 main_v20 (rfl : (.f32 : EltTy) = .f32) shapeCasts_S2x8x2048x128_S2x8x32x64x128,
    unary main_v20 main_v21 ((transpose S32x2x8x64x128 [2, 0, 1, 3, 4] · transposes_S2x8x32x64x128_S32x2x8x64x128_2_0_1_3_4) : C F S2x8x32x64x128 → C F S32x2x8x64x128),
    nullary main_cst_5 (constant S_ .f32 0x00000000#32),
    unary main_cst_5 main_v22 (broadcastInDim S2x8x128x128 ![] bcast_S_S2x8x128x128 : C F S_ → C F S2x8x128x128),
    nullary main_cst_6 (constant S_ .f32 0x00000000#32),
    unary main_cst_6 main_v23 (broadcastInDim S32x2x8x64x128 ![] bcast_S_S32x2x8x64x128 : C F S_ → C F S32x2x8x64x128),
    nullary main_cst_7 (constant S_ .f32 0x00000000#32),
    unary main_cst_7 main_v24 (broadcastInDim S32x2x8x64x128 ![] bcast_S_S32x2x8x64x128 : C F S_ → C F S32x2x8x64x128),
    nullary main_cst_8 (constant S_ .f32 0x00000000#32),
    unary main_cst_8 main_v25 (broadcastInDim S32x2x8x64x128 ![] bcast_S_S32x2x8x64x128 : C F S_ → C F S32x2x8x64x128),
    nullary main_cst_9 (constant S_ .f32 0x00000000#32),
    unary main_cst_9 main_v26 (broadcastInDim S32x2x8x64x64 ![] bcast_S_S32x2x8x64x64 : C F S_ → C F S32x2x8x64x64),
    nullary main_cst_10 (constant S_ .f32 0x00000000#32),
    unary main_cst_10 main_v27 (broadcastInDim S32x2x8x64x128 ![] bcast_S_S32x2x8x64x128 : C F S_ → C F S32x2x8x64x128),
    nullary main_cst_11 (constant S_ .f32 0x00000000#32),
    unary main_cst_11 main_v28 (broadcastInDim S32x2x8 ![] bcast_S_S32x2x8 : C F S_ → C F S32x2x8),
    nullary main_c_12 (constantI S_ 32 0#32),
    unary main_v21 main_v29_0 id,
    unary main_v16_9 main_v29_1 id,
    unary main_v4 main_v29_2 id,
    unary main_v2 main_v29_3 id,
    unary main_v16_10 main_v29_4 id,
    unary main_v8 main_v29_5 id,
    unary main_v16_11 main_v29_6 id,
    unary main_v10 main_v29_7 id,
    unary main_c_12 main_v29_8 id,
    unary main_v22 main_v29_9 id,
    unary main_v23 main_v29_10 id,
    unary main_v24 main_v29_11 id,
    unary main_v25 main_v29_12 id,
    unary main_v26 main_v29_13 id,
    unary main_v27 main_v29_14 id,
    unary main_v28 main_v29_15 id ]

/-- Operations of `main` after the second loop, in order. -/
abbrev postOps : List (HloOp τ sig (Elt F)) :=
  [ unary main_v29_15 main_v30 ((transpose S2x8x32 [1, 2, 0] · transposes_S32x2x8_S2x8x32_1_2_0) : C F S32x2x8 → C F S2x8x32),
    unary main_v29_14 main_v31 ((transpose S2x8x32x64x128 [1, 2, 0, 3, 4] · transposes_S32x2x8x64x128_S2x8x32x64x128_1_2_0_3_4) : C F S32x2x8x64x128 → C F S2x8x32x64x128),
    reshape main_v31 main_v32 (rfl : (.f32 : EltTy) = .f32) shapeCasts_S2x8x32x64x128_S2x8x2048x128,
    unary main_v29_13 main_v33 ((transpose S2x8x32x64x64 [1, 2, 0, 3, 4] · transposes_S32x2x8x64x64_S2x8x32x64x64_1_2_0_3_4) : C F S32x2x8x64x64 → C F S2x8x32x64x64),
    reshape main_v33 main_v34 (rfl : (.f32 : EltTy) = .f32) shapeCasts_S2x8x32x64x64_S2x8x2048x64,
    unary main_v29_12 main_v35 ((transpose S2x8x32x64x128 [1, 2, 0, 3, 4] · transposes_S32x2x8x64x128_S2x8x32x64x128_1_2_0_3_4) : C F S32x2x8x64x128 → C F S2x8x32x64x128),
    reshape main_v35 main_v36 (rfl : (.f32 : EltTy) = .f32) shapeCasts_S2x8x32x64x128_S2x8x2048x128,
    unary main_v29_11 main_v37 ((transpose S2x8x32x64x128 [1, 2, 0, 3, 4] · transposes_S32x2x8x64x128_S2x8x32x64x128_1_2_0_3_4) : C F S32x2x8x64x128 → C F S2x8x32x64x128),
    reshape main_v37 main_v38 (rfl : (.f32 : EltTy) = .f32) shapeCasts_S2x8x32x64x128_S2x8x2048x128,
    unary main_v29_10 main_v39 ((transpose S2x8x32x64x128 [1, 2, 0, 3, 4] · transposes_S32x2x8x64x128_S2x8x32x64x128_1_2_0_3_4) : C F S32x2x8x64x128 → C F S2x8x32x64x128),
    reshape main_v39 main_v40 (rfl : (.f32 : EltTy) = .f32) shapeCasts_S2x8x32x64x128_S2x8x2048x128,
    unary main_v30 main_v41 (broadcastInDim S2x8x32x1x1 ![0, 1, 2] bcast_S2x8x32_S2x8x32x1x1_0_1_2 : C F S2x8x32 → C F S2x8x32x1x1),
    unary main_v41 main_v42 (broadcastInDim S2x8x32x8x128 ![0, 1, 2, 3, 4] bcast_S2x8x32x1x1_S2x8x32x8x128_0_1_2_3_4 : C F S2x8x32x1x1 → C F S2x8x32x8x128),
    reshape main_v42 main_v43 (rfl : (.f32 : EltTy) = .f32) shapeCasts_S2x8x32x8x128_S2x8x256x128 ]

/-- The first loop's body, stretch by stretch. -/
abbrev body0 : List (List (HloOp τ sig (Elt F))) :=
  [ getRows (.of main_v16_0) (.of main_v16_6) main_while0b_call0,
    getRows (.of main_v16_1) (.of main_v16_6) main_while0b_call1,
    getRows (.of main_v16_2) (.of main_v16_6) main_while0b_call2,
    getMix (.of main_v16_3) (.of main_v16_6) main_while0b_call3,
    getRows (.of main_v16_4) (.of main_v16_6) main_while0b_call4,
    getScalar (.of main_v16_5) (.of main_v16_6) main_while0b_call5,
    trip0Ops,
    setRows (.of main_v16_8) (.of main_while0b_v54) (.of main_v16_6) main_while0b_call6,
    setState (.of main_v16_9) (.of main_v16_7) (.of main_v16_6) main_while0b_call7,
    setRows (.of main_v16_10) (.of main_while0b_v51) (.of main_v16_6) main_while0b_call8,
    setOne (.of main_v16_11) (.of main_while0b_v55) (.of main_v16_6) main_while0b_call9,
    trip0Ops1 ]

/-- The second loop's body, stretch by stretch. -/
abbrev body1 : List (List (HloOp τ sig (Elt F))) :=
  [ trip1Ops,
    getRows (.of main_v29_0) (.of main_while1b_v45) main_while1b_call10,
    getState (.of main_v29_1) (.of main_while1b_v45) main_while1b_call11,
    getRows (.of main_v29_2) (.of main_while1b_v45) main_while1b_call12,
    getRows (.of main_v29_3) (.of main_while1b_v45) main_while1b_call13,
    getRows (.of main_v29_4) (.of main_while1b_v45) main_while1b_call14,
    getMix (.of main_v29_5) (.of main_while1b_v45) main_while1b_call15,
    getOne (.of main_v29_6) (.of main_while1b_v45) main_while1b_call16,
    getRows (.of main_v29_7) (.of main_while1b_v45) main_while1b_call17,
    trip1Ops1,
    setRows (.of main_v29_10) (.of main_while1b_v71) (.of main_while1b_v45) main_while1b_call18,
    setRows (.of main_v29_11) (.of main_while1b_v76) (.of main_while1b_v45) main_while1b_call19,
    setRows (.of main_v29_12) (.of main_while1b_v66) (.of main_while1b_v45) main_while1b_call20,
    setMix (.of main_v29_13) (.of main_while1b_v67) (.of main_while1b_v45) main_while1b_call21,
    setRows (.of main_v29_14) (.of main_while1b_v57) (.of main_while1b_v45) main_while1b_call22,
    setScalar (.of main_v29_15) (.of main_while1b_v63) (.of main_while1b_v45) main_while1b_call23,
    trip1Ops2 ]

/-- The first loop's condition: the bound, and the counter compared with it. -/
abbrev cond0 : List (HloOp τ sig (Elt F)) :=
  [ nullary main_while0c_c_24 (constantI S_ 32 32#32),
    binary main_v16_6 main_while0c_c_24 main_while0c_v44 (cmpi .slt) ]

/-- The second loop's condition: the bound, and the counter compared with it. -/
abbrev cond1 : List (HloOp τ sig (Elt F)) :=
  [ nullary main_while1c_c_28 (constantI S_ 32 32#32),
    binary main_v29_8 main_while1c_c_28 main_while1c_v44 (cmpi .slt) ]

/-- What every fragment of the program is: statements over the labels of two host loops. -/
abbrev Code (F : FTy → Type) [FloatOps F] :=
  Prog (TpuEff nD τ sig (Elt F) (HostLoop.Sig (Pipeline.Sig Λ₀ (Fin 0) fun p => (pcfgs (F := F) p).Adm) 2) .tc) PUnit

theorem main_chain (c : Dev nD) : main (F := F) c
    = (Pipeline.chain [seq preOps, HostLoop.enter 0, seq midOps, HostLoop.enter 1, seq postOps] : Code F) := by
  chain_rfl

theorem body0_chain : main_while0_body (F := F) = (Pipeline.chain (body0.map fun ops => seq ops) : Code F) := by
  simp only [body0, List.map_cons, List.map_nil]
  chain_rfl

theorem body1_chain : main_while1_body (F := F) = (Pipeline.chain (body1.map fun ops => seq ops) : Code F) := by
  simp only [body1, List.map_cons, List.map_nil]
  chain_rfl

end Cert.ScanRefIdeal.Loops

end

end
-- ==== Proof.ScanTwoLoops.lean ====
module

public import Idealize.ShloMosaic.Lib.StableHlo.RunLoop

/-! Running host operations with two counted loops among them: the stretches before, between and after the loops and the
    loops themselves are segments of one chain, so the final contents are the fold through all of them. -/

@[expose] public section

noncomputable section

namespace Cert.TwoLoops

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs)

variable {nD : Nat} {τ : Topo} {sig : RefSig} {F : FTy → Type} [FloatOps F] {Λ₀ : Labels}

/-- The assertions of a program without kernel regions. -/
abbrev M (nD : Nat) (τ : Topo) (sig : RefSig) (F : FTy → Type) [FloatOps F] := MT nD τ sig Unit (Elt F) ℕ (Option PUnit) ℕ

section

variable (pcs : Fin 0 → PCfg sig Λ₀ (Elt F)) (defs₀ : Defs nD τ sig (Elt F) Λ₀) {nL : Nat}

/-- Statements over the labels of `nL` host loops. -/
abbrev Code := Prog (TpuEff nD τ sig (Elt F) (HostLoop.Sig (Pipeline.Sig Λ₀ (Fin 0) fun p => (pcs p).Adm) nL) .tc)

variable (loops : Fin nL → Code (nD := nD) (τ := τ) pcs (nL := nL) PUnit)

/-- No pipeline has no admission. -/
abbrev noAdm : (p : Fin 0) → (pcs p).Adm := fun p => p.elim0

/-- No ticket. -/
abbrev noTk : Fin 0 → Ticket (Ix := Unit) (Name := ℕ) (U := Option PUnit) (Lvl := ℕ) (nD := nD) (τ := τ) pcs (noAdm pcs) :=
  fun j => j.elim0

/-- No counter owes anything. -/
abbrev noL : GSem nD τ sig → Finset Unit := fun _ => ∅

/-- Every counter is at the lowest level. -/
abbrev lv0 : GSem nD τ sig → Unit → ℕ := fun _ _ => 0

/-- What every segment carries beside the buffers: the core owes nothing. -/
abbrev Owe (c : Dev nD) : sProp (M nD τ sig F) := iprop(∃ W, owes (c : Thread nD τ) (0 : CellTallies nD τ sig Unit) W)

/-- A counted loop: its label, its two regions, and these as lists of operations. -/
structure Counted where
  l : Fin nL
  cond : Code (nD := nD) (τ := τ) pcs (nL := nL) (Elt F .i1)
  body : Code (nD := nD) (τ := τ) pcs (nL := nL) PUnit
  step : loops l = HostLoop.step l cond body
  condOps : List (HloOp τ sig (Elt F))
  bodyI : List (List (HloOp τ sig (Elt F)))
  plain : Plain bodyI
  chain : body = Pipeline.chain (bodyI.map fun ops => (seq ops : Prog _ PUnit))
  n : ℕ

variable {pcs loops}

/-- Every buffer after the loop, entered at `W`: its trips, then the condition that fails. -/
abbrev Counted.leave (A : Counted (nD := nD) (τ := τ) (F := F) pcs loops) (W : Dev nD → Valuation τ sig (Elt F)) (c : Dev nD) :
    Valuation τ sig (Elt F) :=
  after A.condOps (atTrip A.condOps A.bodyI W A.n c)

/-- The loop's condition counts: it answers `1` before each of the `n` trips and `0` after them. -/
abbrev Counted.Counts (A : Counted (nD := nD) (τ := τ) (F := F) pcs loops) (W : Dev nD → Valuation τ sig (Elt F)) : Prop :=
  CondSpec pcs defs₀ loops A.cond A.condOps A.bodyI W A.n

/-- A counting condition still counts with what the core owes beside it. -/
theorem Counted.Counts.framed {A : Counted (nD := nD) (τ := τ) (F := F) pcs loops} {W : Dev nD → Valuation τ sig (Elt F)}
    (h : A.Counts defs₀ W) : LoopCond pcs defs₀ Variants.none loops Owe A.cond A.condOps A.bodyI W A.n := fun k hk c bd => by
  have hpost : ∀ v : Elt F .i1,
      iprop(iprop(⌜v = 1#1 ↔ k < A.n⌝ ∗ boundary (c : Thread nD τ)
          ∗ held (c : Thread nD τ) (ucRefs τ sig) (after A.condOps (atTrip A.condOps A.bodyI W k c))) ∗ Owe (F := F) c)
        ⊢ iprop(⌜v = 1#1 ↔ k < A.n⌝ ∗ boundary (c : Thread nD τ)
          ∗ held (c : Thread nD τ) (ucRefs τ sig) (after A.condOps (atTrip A.condOps A.bodyI W k c)) ∗ Owe (F := F) c) := fun v => by
    iintro ⟨⟨%hv, Hb, Hh⟩, HO⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ hpost))
  iintro ⟨Hb, Hh, HO⟩
  isplitl [Hb Hh]; · isplitl [Hb] <;> iassumption
  iexact HO

variable (A B : Counted (nD := nD) (τ := τ) (F := F) pcs loops)
  (pre mid post : List (List (HloOp τ sig (Elt F)))) (hpre : Plain pre) (hmid : Plain mid) (hpost : Plain post)
  (m : (ℓ : Loc nD τ sig) → Buf (Elt F) ℓ)

/-- Every buffer where the first loop is entered. -/
abbrev enter0 (c : Dev nD) : Valuation τ sig (Elt F) := afterL pre (launchContents m c)

/-- Every buffer where the second loop is entered. -/
abbrev enter1 (c : Dev nD) : Valuation τ sig (Elt F) := afterL mid (A.leave (enter0 pre m) c)

/-- Every buffer at the end. -/
abbrev final (c : Dev nD) : Valuation τ sig (Elt F) := afterL post (B.leave (enter1 A pre mid m) c)

/-- One counted loop as a segment. -/
abbrev loopOf (W : Dev nD → Valuation τ sig (Elt F)) (h : A.Counts defs₀ W) :
    CSeg pcs (noAdm pcs) defs₀ Variants.none noL lv0 loops (noTk pcs) :=
  loopSeg _ _ _ _ _ _ _ _ A.l A.cond A.body A.step A.condOps A.bodyI A.plain A.chain A.n W Owe h.framed

/-- The whole program as segments. -/
def allSegs (hA : A.Counts defs₀ (enter0 pre m)) (hB : B.Counts defs₀ (enter1 A pre mid m)) :
    List (CSeg pcs (noAdm pcs) defs₀ Variants.none noL lv0 loops (noTk pcs)) :=
  segsOf _ _ _ _ _ _ _ _ Owe pre hpre (launchContents m)
    ++ loopOf defs₀ A (enter0 pre m) hA
      :: (segsOf _ _ _ _ _ _ _ _ Owe mid hmid (A.leave (enter0 pre m))
        ++ loopOf defs₀ B (enter1 A pre mid m) hB
          :: segsOf _ _ _ _ _ _ _ _ Owe post hpost (B.leave (enter1 A pre mid m)))

/-- Their statements: the stretches with the two labels between them. -/
theorem allSegs_prog (hA : A.Counts defs₀ (enter0 pre m)) (hB : B.Counts defs₀ (enter1 A pre mid m)) :
    (allSegs defs₀ A B pre mid post hpre hmid hpost m hA hB).map CSeg.prog
      = (pre.map fun ops => (seq ops : Prog _ PUnit)) ++ HostLoop.enter A.l
        :: ((mid.map fun ops => (seq ops : Prog _ PUnit)) ++ HostLoop.enter B.l :: post.map fun ops => (seq ops : Prog _ PUnit)) := by
  unfold allSegs
  rw [List.map_append, List.map_cons, List.map_append, List.map_cons, segsOf_prog, segsOf_prog, segsOf_prog]
  rfl

/-- They chain from the launch to the end. -/
theorem allSegs_chains (hA : A.Counts defs₀ (enter0 pre m)) (hB : B.Counts defs₀ (enter1 A pre mid m)) :
    CSeg.Chains (fun c => iprop(held (c : Thread nD τ) (ucRefs τ sig) (launchContents m c) ∗ Owe c))
      (allSegs defs₀ A B pre mid post hpre hmid hpost m hA hB)
      (fun c => iprop(iprop(held (c : Thread nD τ) (ucRefs τ sig) (final A B pre mid post m c))
        ∗ ∃ W, owes (c : Thread nD τ) (0 : CellTallies nD τ sig Unit) W)) := by
  unfold allSegs
  exact CSeg.Chains.append (segsOf_chains _ _ _ _ _ _ _ _ Owe pre hpre _)
    ⟨fun _ => .rfl, CSeg.Chains.append (segsOf_chains _ _ _ _ _ _ _ _ Owe mid hmid _)
      ⟨fun _ => .rfl, segsOf_chains _ _ _ _ _ _ _ _ Owe post hpost _⟩⟩

include hpre hmid hpost in
/-- The run: every execution from zero counters terminates with every unscoped buffer at the fold. -/
theorem run [∀ e, Nonempty (Elt F e)] (main : Dev nD → Code (nD := nD) (τ := τ) pcs (nL := nL) PUnit)
    (hmain : ∀ c, main c = Pipeline.chain ((pre.map fun ops => (seq ops : Prog _ PUnit)) ++ HostLoop.enter A.l
        :: ((mid.map fun ops => (seq ops : Prog _ PUnit)) ++ HostLoop.enter B.l :: post.map fun ops => (seq ops : Prog _ PUnit))))
    (ρ : Dev nD → PrngReg)
    (hA : A.Counts defs₀ (enter0 pre m)) (hB : B.Counts defs₀ (enter1 A pre mid m)) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final A B pre mid post m c (Proc.devRef .tc b)) :=
  Pipeline.θ_run_regions_loop_kit (Ix := Unit) (Name := ℕ) (U := Option PUnit) (Lvl := ℕ) (J := Fin 0) (P := Fin 0) (Val := Elt F)
    pcs (noAdm pcs) (fun k => k.1.elim0) defs₀ Variants.none noL lv0 loops (noTk pcs) m ρ main
    (allSegs defs₀ A B pre mid post hpre hmid hpost m hA hB)
    (fun c Q => by
      rw [hmain c]
      show wp _ _ _ (Pipeline.chain ((allSegs defs₀ A B pre mid post hpre hmid hpost m hA hB).map CSeg.prog)) Q ⊢ _
      rw [allSegs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (M nD τ sig F)) ⊢ bigSep Finset.univ (fun _ : Dev nD => (BI.emp : sProp (M nD τ sig F))) from by
          rw [BI.bigSep_emp_const])
        iempintro)
    (T₀ := fun c => iprop(held (c : Thread nD τ) (ucRefs τ sig) (launchContents m c) ∗ Owe c))
    (Tₙ := fun c => iprop(held (c : Thread nD τ) (ucRefs τ sig) (final A B pre mid post m c)))
    (hch := allSegs_chains defs₀ A B pre mid post hpre hmid hpost m hA hB)
    (hinit := by
      refine Pipeline.initEach noL lv0 fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final A B pre mid post m c b)
    (hfin := fun c s' => by
      unfold held
      iintro ⟨Hh, HSI⟩
      ihave Hr := (pointsTo_read_all (ucRefs τ sig) (fun b => ((c : Dev nD), b)) (fun b => final A B pre mid post m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end

end Cert.TwoLoops

end

end
-- ==== Proof.ScanRefRun.lean ====
module

public import proofs.«01_k».proof.Proof.ScanRefOps
public import proofs.«01_k».proof.Proof.ScanTwoLoops

/-! The reference of the state's scan runs: both loops count to 32, so every buffer ends at the fold through the stretches
    and the loops' trips. -/

@[expose] public section

noncomputable section

namespace Cert.ScanRefIdeal.Loops

open Cert.ScanRefIdeal Cert.ScanRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- Stretches are plain when each of their operations touches buffers of the program only and allocates none. -/
theorem plain_of {items : List (List (HloOp τ sig (Elt F)))} (h : items.flatten.Forall fun op => op.bufs ⊆ tcRefs τ sig)
    (hf : items.flatten.Forall fun op => op.fresh = ∅) : Plain items := fun ops ho =>
  ⟨fun op hop => List.forall_iff_forall_mem.mp h op (List.mem_flatten.2 ⟨ops, ho, hop⟩),
    fun op hop => List.forall_iff_forall_mem.mp hf op (List.mem_flatten.2 ⟨ops, ho, hop⟩)⟩

set_option maxRecDepth 10000 in
theorem preOps_plain : Plain [(preOps : List (HloOp τ sig (Elt F)))] := by
  refine plain_of ?_ (forall_fresh_of_map rfl)
  simp only [preOps, List.flatten_cons, List.flatten_nil, List.append_nil, List.cons_append, List.nil_append, List.forall_cons, List.Forall]
  repeat' with_reducible apply And.intro
  all_goals first
    | with_reducible exact trivial
    | with_reducible exact unary_bufs_sub .. | with_reducible exact binary_bufs_sub .. | with_reducible exact nullary_bufs_sub ..
    | with_reducible exact reshape_bufs_sub ..
    | exact nullary_bufs_sub .. | exact unary_bufs_sub .. | exact reshape_bufs_sub ..
    | exact unaryIndexed_bufs_sub .. | exact binaryIndexed_bufs_sub ..

set_option maxRecDepth 10000 in
theorem midOps_plain : Plain [(midOps : List (HloOp τ sig (Elt F)))] := by
  refine plain_of ?_ (forall_fresh_of_map rfl)
  simp only [midOps, List.flatten_cons, List.flatten_nil, List.append_nil, List.cons_append, List.nil_append, List.forall_cons, List.Forall]
  repeat' with_reducible apply And.intro
  all_goals first
    | with_reducible exact trivial
    | with_reducible exact unary_bufs_sub .. | with_reducible exact binary_bufs_sub .. | with_reducible exact nullary_bufs_sub ..
    | with_reducible exact reshape_bufs_sub ..
    | exact nullary_bufs_sub .. | exact unary_bufs_sub .. | exact reshape_bufs_sub ..
    | exact unaryIndexed_bufs_sub .. | exact binaryIndexed_bufs_sub ..

set_option maxRecDepth 10000 in
theorem postOps_plain : Plain [(postOps : List (HloOp τ sig (Elt F)))] := by
  refine plain_of ?_ (forall_fresh_of_map rfl)
  simp only [postOps, List.flatten_cons, List.flatten_nil, List.append_nil, List.cons_append, List.nil_append, List.forall_cons, List.Forall]
  repeat' with_reducible apply And.intro
  all_goals first
    | with_reducible exact trivial
    | with_reducible exact unary_bufs_sub .. | with_reducible exact binary_bufs_sub .. | with_reducible exact nullary_bufs_sub ..
    | with_reducible exact reshape_bufs_sub ..
    | exact nullary_bufs_sub .. | exact unary_bufs_sub .. | exact reshape_bufs_sub ..
    | exact unaryIndexed_bufs_sub .. | exact binaryIndexed_bufs_sub ..

/-- The same, the buffers given stretch by stretch. -/
theorem plain_of' {items : List (List (HloOp τ sig (Elt F)))} (h : items.Forall fun ops => ops.Forall fun op => op.bufs ⊆ tcRefs τ sig)
    (hf : items.flatten.Forall fun op => op.fresh = ∅) : Plain items := fun ops ho =>
  ⟨List.forall_iff_forall_mem.mp (List.forall_iff_forall_mem.mp h ops ho),
    fun op hop => List.forall_iff_forall_mem.mp hf op (List.mem_flatten.2 ⟨ops, ho, hop⟩)⟩

/-- What `Plain` asks of the buffers of one stretch. -/
abbrev Sub (ops : List (HloOp τ sig (Elt F))) : Prop := ops.Forall fun op => op.bufs ⊆ tcRefs τ sig

theorem getRows_sub (arg0 : TRef sig ⟨S32x2x8x64x128, .f32⟩) (arg1 : TRef sig ⟨S_, .i32⟩) (φ : fn_dynamic_index_in_dim.Bufs) : Sub (F := F) (getRows arg0 arg1 φ) :=
  ⟨nullary_bufs_sub .., nullary_bufs_sub .., nullary_bufs_sub .., nullary_bufs_sub .., unaryIndexed_bufs_sub .., reshape_bufs_sub ..⟩

theorem getMix_sub (arg0 : TRef sig ⟨S32x2x8x64x64, .f32⟩) (arg1 : TRef sig ⟨S_, .i32⟩) (φ : fn_dynamic_index_in_dim_0.Bufs) : Sub (F := F) (getMix arg0 arg1 φ) :=
  ⟨nullary_bufs_sub .., nullary_bufs_sub .., nullary_bufs_sub .., nullary_bufs_sub .., unaryIndexed_bufs_sub .., reshape_bufs_sub ..⟩

theorem getScalar_sub (arg0 : TRef sig ⟨S32x2x8, .f32⟩) (arg1 : TRef sig ⟨S_, .i32⟩) (φ : fn_dynamic_index_in_dim_1.Bufs) : Sub (F := F) (getScalar arg0 arg1 φ) :=
  ⟨nullary_bufs_sub .., nullary_bufs_sub .., unaryIndexed_bufs_sub .., reshape_bufs_sub ..⟩

theorem getState_sub (arg0 : TRef sig ⟨S32x2x8x128x128, .f32⟩) (arg1 : TRef sig ⟨S_, .i32⟩) (φ : fn_dynamic_index_in_dim_4.Bufs) : Sub (F := F) (getState arg0 arg1 φ) :=
  ⟨nullary_bufs_sub .., nullary_bufs_sub .., nullary_bufs_sub .., nullary_bufs_sub .., unaryIndexed_bufs_sub .., reshape_bufs_sub ..⟩

theorem getOne_sub (arg0 : TRef sig ⟨S32x2x8x1x1, .f32⟩) (arg1 : TRef sig ⟨S_, .i32⟩) (φ : fn_dynamic_index_in_dim_5.Bufs) : Sub (F := F) (getOne arg0 arg1 φ) :=
  ⟨nullary_bufs_sub .., nullary_bufs_sub .., nullary_bufs_sub .., nullary_bufs_sub .., unaryIndexed_bufs_sub .., reshape_bufs_sub ..⟩

theorem setRows_sub (arg0 : TRef sig ⟨S32x2x8x64x128, .f32⟩) (arg1 : TRef sig ⟨S2x8x64x128, .f32⟩) (arg2 : TRef sig ⟨S_, .i32⟩) (φ : fn_dynamic_update_index_in_dim.Bufs) : Sub (F := F) (setRows arg0 arg1 arg2 φ) :=
  ⟨unary_bufs_sub .., nullary_bufs_sub .., nullary_bufs_sub .., nullary_bufs_sub .., nullary_bufs_sub .., binaryIndexed_bufs_sub ..⟩

theorem setState_sub (arg0 : TRef sig ⟨S32x2x8x128x128, .f32⟩) (arg1 : TRef sig ⟨S2x8x128x128, .f32⟩) (arg2 : TRef sig ⟨S_, .i32⟩) (φ : fn_dynamic_update_index_in_dim_2.Bufs) : Sub (F := F) (setState arg0 arg1 arg2 φ) :=
  ⟨unary_bufs_sub .., nullary_bufs_sub .., nullary_bufs_sub .., nullary_bufs_sub .., nullary_bufs_sub .., binaryIndexed_bufs_sub ..⟩

theorem setOne_sub (arg0 : TRef sig ⟨S32x2x8x1x1, .f32⟩) (arg1 : TRef sig ⟨S2x8x1x1, .f32⟩) (arg2 : TRef sig ⟨S_, .i32⟩) (φ : fn_dynamic_update_index_in_dim_3.Bufs) : Sub (F := F) (setOne arg0 arg1 arg2 φ) :=
  ⟨unary_bufs_sub .., nullary_bufs_sub .., nullary_bufs_sub .., nullary_bufs_sub .., nullary_bufs_sub .., binaryIndexed_bufs_sub ..⟩

theorem setMix_sub (arg0 : TRef sig ⟨S32x2x8x64x64, .f32⟩) (arg1 : TRef sig ⟨S2x8x64x64, .f32⟩) (arg2 : TRef sig ⟨S_, .i32⟩) (φ : fn_dynamic_update_index_in_dim_6.Bufs) : Sub (F := F) (setMix arg0 arg1 arg2 φ) :=
  ⟨unary_bufs_sub .., nullary_bufs_sub .., nullary_bufs_sub .., nullary_bufs_sub .., nullary_bufs_sub .., binaryIndexed_bufs_sub ..⟩

theorem setScalar_sub (arg0 : TRef sig ⟨S32x2x8, .f32⟩) (arg1 : TRef sig ⟨S2x8, .f32⟩) (arg2 : TRef sig ⟨S_, .i32⟩) (φ : fn_dynamic_update_index_in_dim_7.Bufs) : Sub (F := F) (setScalar arg0 arg1 arg2 φ) :=
  ⟨unary_bufs_sub .., nullary_bufs_sub .., nullary_bufs_sub .., binaryIndexed_bufs_sub ..⟩

theorem trip0Ops_sub : Sub (F := F) trip0Ops :=
  ⟨binary_bufs_sub .., binary_bufs_sub .., binary_bufs_sub .., binary_bufs_sub .., binary_bufs_sub .., unary_bufs_sub .., unary_bufs_sub .., binary_bufs_sub .., binary_bufs_sub .., binary_bufs_sub ..⟩

theorem trip0Ops1_sub : Sub (F := F) trip0Ops1 :=
  ⟨nullary_bufs_sub .., binary_bufs_sub .., unary_bufs_sub .., unary_bufs_sub .., unary_bufs_sub .., unary_bufs_sub .., unary_bufs_sub .., unary_bufs_sub ..⟩

theorem trip1Ops_sub : Sub (F := F) trip1Ops :=
  ⟨nullary_bufs_sub .., binary_bufs_sub .., nullary_bufs_sub .., binary_bufs_sub ..⟩

theorem trip1Ops1_sub : Sub (F := F) trip1Ops1 :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩

theorem trip1Ops2_sub : Sub (F := F) trip1Ops2 :=
  ⟨nullary_bufs_sub .., binary_bufs_sub .., unary_bufs_sub .., unary_bufs_sub .., unary_bufs_sub .., unary_bufs_sub .., unary_bufs_sub .., unary_bufs_sub .., unary_bufs_sub .., unary_bufs_sub ..⟩

theorem body0_plain : Plain (body0 (F := F)) :=
  plain_of' ⟨getRows_sub .., getRows_sub .., getRows_sub .., getMix_sub .., getRows_sub .., getScalar_sub .., trip0Ops_sub, setRows_sub .., setState_sub .., setRows_sub .., setOne_sub .., trip0Ops1_sub⟩ (forall_fresh_of_map rfl)

theorem body1_plain : Plain (body1 (F := F)) :=
  plain_of' ⟨trip1Ops_sub, getRows_sub .., getState_sub .., getRows_sub .., getRows_sub .., getRows_sub .., getMix_sub .., getOne_sub .., getRows_sub .., trip1Ops1_sub, setRows_sub .., setRows_sub .., setRows_sub .., setMix_sub .., setRows_sub .., setScalar_sub .., trip1Ops2_sub⟩ (forall_fresh_of_map rfl)

/-- The first loop. -/
abbrev loop0 : TwoLoops.Counted (nD := nD) (τ := τ) (F := F) pcfgs loops :=
  ⟨0, main_while0_cond, main_while0_body, rfl, cond0, body0, body0_plain, body0_chain, 32⟩

/-- The second loop. -/
abbrev loop1 : TwoLoops.Counted (nD := nD) (τ := τ) (F := F) pcfgs loops :=
  ⟨1, main_while1_cond, main_while1_body, rfl, cond1, body1, body1_plain, body1_chain, 32⟩

set_option maxRecDepth 100000 in
/-- One trip of the first loop moves its counter one step on. -/
theorem ctr0_step (V : Valuation τ sig (Elt F)) :
    afterL body0 (after cond0 V) (Proc.devRef .tc main_v16_6) = addi (V (Proc.devRef .tc main_v16_6)) (constantI S_ 32 1#32) := by
  simp only [body0, afterL_cons, afterL_nil]
  after_reads_simp
  rfl

set_option maxRecDepth 100000 in
/-- One trip of the second loop moves its counter one step on. -/
theorem ctr1_step (V : Valuation τ sig (Elt F)) :
    afterL body1 (after cond1 V) (Proc.devRef .tc main_v29_8) = addi (V (Proc.devRef .tc main_v29_8)) (constantI S_ 32 1#32) := by
  simp only [body1, afterL_cons, afterL_nil]
  after_reads_simp
  rfl

set_option maxRecDepth 100000 in
theorem ctr0_entry (V : Valuation τ sig (Elt F)) :
    afterL [preOps] V (Proc.devRef .tc main_v16_6) = fun _ => (0#32 : BitVec 32) := by
  simp only [afterL_cons, afterL_nil]
  after_reads_simp
  rfl

set_option maxRecDepth 100000 in
theorem ctr1_entry (V : Valuation τ sig (Elt F)) :
    afterL [midOps] V (Proc.devRef .tc main_v29_8) = fun _ => (0#32 : BitVec 32) := by
  simp only [afterL_cons, afterL_nil]
  after_reads_simp
  rfl

/-- Before condition `k` the first loop's counter is at step `k`. -/
theorem ctr0_at (W : Dev nD → Valuation τ sig (Elt F)) (c : Dev nD)
    (h : W c (Proc.devRef .tc main_v16_6) = fun _ => (0#32 : BitVec 32)) :
    ∀ k, atTrip cond0 body0 W k c (Proc.devRef .tc main_v16_6) = fun _ => Scf.iv 0#32 1#32 k
  | 0 => by rw [atTrip_zero, h, Scf.iv_zero]
  | k + 1 => by rw [atTrip_succ, ctr0_step, ctr0_at W c h k, Scf.iv_succ]; rfl

/-- Before condition `k` the second loop's counter is at step `k`. -/
theorem ctr1_at (W : Dev nD → Valuation τ sig (Elt F)) (c : Dev nD)
    (h : W c (Proc.devRef .tc main_v29_8) = fun _ => (0#32 : BitVec 32)) :
    ∀ k, atTrip cond1 body1 W k c (Proc.devRef .tc main_v29_8) = fun _ => Scf.iv 0#32 1#32 k
  | 0 => by rw [atTrip_zero, h, Scf.iv_zero]
  | k + 1 => by rw [atTrip_succ, ctr1_step, ctr1_at W c h k, Scf.iv_succ]; rfl

set_option backward.isDefEq.respectTransparency.types false in
/-- The first loop's condition counts from any entry whose counter is zero. -/
theorem counts0 (W : Dev nD → Valuation τ sig (Elt F))
    (h : ∀ c, W c (Proc.devRef .tc main_v16_6) = fun _ => (0#32 : BitVec 32)) :
    (loop0 (F := F)).Counts defs₀ W := by
  intro k hk c bd
  have hctr := ctr0_at W c (h c) k
  show _ ⊢ wp _ _ _ (main_while0_cond (F := F)) _
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 W k c) main_v16_6 HostLoop.idx0)
        (HloOp.result _ (atTrip cond0 body0 W k c) main_while0c_c_24 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

set_option backward.isDefEq.respectTransparency.types false in
/-- The second loop's condition counts from any entry whose counter is zero. -/
theorem counts1 (W : Dev nD → Valuation τ sig (Elt F))
    (h : ∀ c, W c (Proc.devRef .tc main_v29_8) = fun _ => (0#32 : BitVec 32)) :
    (loop1 (F := F)).Counts defs₀ W := by
  intro k hk c bd
  have hctr := ctr1_at W c (h c) k
  show _ ⊢ wp _ _ _ (main_while1_cond (F := F)) _
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 W k c) main_v29_8 HostLoop.idx0)
        (HloOp.result _ (atTrip cond1 body1 W k c) main_while1c_c_28 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

variable (m : (ℓ : Loc nD τ sig) → Buf (Elt F) ℓ) (ρ : Dev nD → PrngReg)

/-- Every buffer where the first loop is entered. -/
abbrev W0 (c : Dev nD) : Valuation τ sig (Elt F) := TwoLoops.enter0 [preOps] m c

/-- Every buffer where the second loop is entered. -/
abbrev W1 (c : Dev nD) : Valuation τ sig (Elt F) := TwoLoops.enter1 (loop0 (F := F)) [preOps] [midOps] m c

/-- Every buffer at the end. -/
abbrev WF (c : Dev nD) : Valuation τ sig (Elt F) := TwoLoops.final (loop0 (F := F)) loop1 [preOps] [midOps] [postOps] m c

theorem runs : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = WF m c (Proc.devRef .tc b)) :=
  TwoLoops.run (pcs := pcfgs (F := F)) (loops := loops) defs₀ loop0 loop1 [preOps] [midOps] [postOps] preOps_plain midOps_plain postOps_plain m
    main (fun c => main_chain c) ρ (counts0 _ fun c => ctr0_entry _) (counts1 _ fun c => ctr1_entry _)

end Cert.ScanRefIdeal.Loops

end

end
-- ==== Proof.ScanEntries.lean ====
module

public import proofs.«01_k».proof.Proof.ScanRefOps
public import Idealize.ShloMosaic.Lib.Pipeline.ValueKit
public import Idealize.ShloMosaic.Lib.DynamicIndex
public import Idealize.ShloMosaic.Lib.WordCmp

/-! One entry of a stack of 32 arrays read or replaced at a loop's index, as the reference's loops do it. -/

@[expose] public section

noncomputable section

namespace Cert.ScanRefIdeal.Loops

open Cert.ScanRefIdeal Cert.ScanRefIdeal.Gen
open Idealize.ShloMosaic Idealize.ShloMosaic.TcCoe Idealize.ShloMosaic.Tactic
open Idealize.ShloMosaic.StableHlo Idealize.ShloMosaic.WordCmp

variable {F : FTy → Type} [FloatOps F]

/-- A loop's index. -/
abbrev Ix (F : FTy → Type) [FloatOps F] := (⟨S_, .i32⟩ : BufTy).Contents (Elt F)

theorem ite_dite_entry {α : Type} (a n : Fin 32) (x y : α) :
    (if _h : n.val ≤ a.val ∧ a.val < n.val + 1 then x else y) = if a = n then x else y := by
  by_cases h : a = n
  · rw [if_pos h, dif_pos ⟨by omega, by omega⟩]
  · rw [if_neg h, dif_neg fun h' => h (Fin.ext (by omega))]

/-- The starts of entry `i` of a stack of matrices. -/
abbrev starts (i : Ix F) : Fin 5 → Int := fun k =>
  ((![i, constantI S_ 32 0#32, constantI S_ 32 0#32, constantI S_ 32 0#32, constantI S_ 32 0#32] : Fin 5 → Ix F) k (Shape.Idx.first h_S_)).toInt

/-- The starts of entry `i` of a stack of numbers. -/
abbrev starts3 (i : Ix F) : Fin 3 → Int := fun k =>
  ((![i, constantI S_ 32 0#32, constantI S_ 32 0#32] : Fin 3 → Ix F) k (Shape.Idx.first h_S_)).toInt

/-- The index is the number `n`. -/
abbrev Is (i : Ix F) (n : Fin 32) : Prop := (i (Shape.Idx.first h_S_) : BitVec 32).toInt = n.val

theorem starts_eq (i : Ix F) (n : Fin 32) (h : Is i n) : starts i = ![(n.val : Int), 0, 0, 0, 0] := by
  funext k; fin_cases k
  · exact h
  all_goals rfl

theorem starts3_eq (i : Ix F) (n : Fin 32) (h : Is i n) : starts3 i = ![(n.val : Int), 0, 0] := by
  funext k; fin_cases k
  · exact h
  all_goals rfl

/-- Entry `i` of a stack. -/
def rowsAt (x : C F S32x2x8x64x128) (i : Ix F) : C F S2x8x64x128 :=
  shapeCast S2x8x64x128 (Host.dynamicSlice S1x2x8x64x128 x (starts i) sliceFits_S32x2x8x64x128_S1x2x8x64x128) shapeCasts_S1x2x8x64x128_S2x8x64x128

/-- A stack with entry `i` replaced. -/
def rowsSet (x : C F S32x2x8x64x128) (u : C F S2x8x64x128) (i : Ix F) : C F S32x2x8x64x128 :=
  Host.dynamicUpdateSlice x (broadcastInDim S1x2x8x64x128 ![1, 2, 3, 4] bcast_S2x8x64x128_S1x2x8x64x128_1_2_3_4 u) (starts i) updateFits_S32x2x8x64x128_S1x2x8x64x128

theorem rowsSlices {n : Fin 32} : Shape.Slices S32x2x8x64x128 (![n.val, 0, 0, 0, 0] : Fin 5 → ℕ) S1x2x8x64x128 := ⟨rfl, fun a => by
  fin_cases a
  · exact n.isLt
  all_goals exact Nat.le_of_eq (Nat.zero_add _)⟩

theorem rowsAt_apply (x : C F S32x2x8x64x128) (i : Ix F) (n : Fin 32) (hi : Is i n) (b : Fin 2) (h : Fin 8) (t : Fin 64) (d : Fin 128) :
    rowsAt x i (ix4 b h t d) = x (ix5 n b h t d) := by
  have e := Host.dynamicSlice_eq_extractStridedSlice S1x2x8x64x128 x (starts i) ![n.val, 0, 0, 0, 0] sliceFits_S32x2x8x64x128_S1x2x8x64x128 rowsSlices
    (fun a => by rw [starts_eq i n hi]; fin_cases a <;> rfl)
  unfold rowsAt
  refine (congrArg (fun y => shapeCast S2x8x64x128 y shapeCasts_S1x2x8x64x128_S2x8x64x128 (ix4 b h t d)) e).trans ?_
  pointwise []

theorem rowsSet_apply (x : C F S32x2x8x64x128) (u : C F S2x8x64x128) (i : Ix F) (n : Fin 32) (hi : Is i n) (a : Fin 32) (b : Fin 2) (h : Fin 8) (t : Fin 64) (d : Fin 128) :
    rowsSet x u i (ix5 a b h t d) = if a = n then u (ix4 b h t d) else x (ix5 a b h t d) := by
  have e := fun y => dynamicUpdateSlice_eq_update (u := S1x2x8x64x128) x y (starts i) updateFits_S32x2x8x64x128_S1x2x8x64x128 ![n.val, 0, 0, 0, 0] rowsSlices
    (fun a => by rw [starts_eq i n hi]; fin_cases a <;> rfl)
  unfold rowsSet
  refine (congrFun (e _) (ix5 a b h t d)).trans ?_
  pointwise []
  exact (ite_dite_entry a n _ _)

/-- Entry `i` of a stack. -/
def mixAt (x : C F S32x2x8x64x64) (i : Ix F) : C F S2x8x64x64 :=
  shapeCast S2x8x64x64 (Host.dynamicSlice S1x2x8x64x64 x (starts i) sliceFits_S32x2x8x64x64_S1x2x8x64x64) shapeCasts_S1x2x8x64x64_S2x8x64x64

/-- A stack with entry `i` replaced. -/
def mixSet (x : C F S32x2x8x64x64) (u : C F S2x8x64x64) (i : Ix F) : C F S32x2x8x64x64 :=
  Host.dynamicUpdateSlice x (broadcastInDim S1x2x8x64x64 ![1, 2, 3, 4] bcast_S2x8x64x64_S1x2x8x64x64_1_2_3_4 u) (starts i) updateFits_S32x2x8x64x64_S1x2x8x64x64

theorem mixSlices {n : Fin 32} : Shape.Slices S32x2x8x64x64 (![n.val, 0, 0, 0, 0] : Fin 5 → ℕ) S1x2x8x64x64 := ⟨rfl, fun a => by
  fin_cases a
  · exact n.isLt
  all_goals exact Nat.le_of_eq (Nat.zero_add _)⟩

theorem mixAt_apply (x : C F S32x2x8x64x64) (i : Ix F) (n : Fin 32) (hi : Is i n) (b : Fin 2) (h : Fin 8) (t : Fin 64) (d : Fin 64) :
    mixAt x i (ix4 b h t d) = x (ix5 n b h t d) := by
  have e := Host.dynamicSlice_eq_extractStridedSlice S1x2x8x64x64 x (starts i) ![n.val, 0, 0, 0, 0] sliceFits_S32x2x8x64x64_S1x2x8x64x64 mixSlices
    (fun a => by rw [starts_eq i n hi]; fin_cases a <;> rfl)
  unfold mixAt
  refine (congrArg (fun y => shapeCast S2x8x64x64 y shapeCasts_S1x2x8x64x64_S2x8x64x64 (ix4 b h t d)) e).trans ?_
  pointwise []

theorem mixSet_apply (x : C F S32x2x8x64x64) (u : C F S2x8x64x64) (i : Ix F) (n : Fin 32) (hi : Is i n) (a : Fin 32) (b : Fin 2) (h : Fin 8) (t : Fin 64) (d : Fin 64) :
    mixSet x u i (ix5 a b h t d) = if a = n then u (ix4 b h t d) else x (ix5 a b h t d) := by
  have e := fun y => dynamicUpdateSlice_eq_update (u := S1x2x8x64x64) x y (starts i) updateFits_S32x2x8x64x64_S1x2x8x64x64 ![n.val, 0, 0, 0, 0] mixSlices
    (fun a => by rw [starts_eq i n hi]; fin_cases a <;> rfl)
  unfold mixSet
  refine (congrFun (e _) (ix5 a b h t d)).trans ?_
  pointwise []
  exact (ite_dite_entry a n _ _)

/-- Entry `i` of a stack. -/
def stateAt (x : C F S32x2x8x128x128) (i : Ix F) : C F S2x8x128x128 :=
  shapeCast S2x8x128x128 (Host.dynamicSlice S1x2x8x128x128 x (starts i) sliceFits_S32x2x8x128x128_S1x2x8x128x128) shapeCasts_S1x2x8x128x128_S2x8x128x128

/-- A stack with entry `i` replaced. -/
def stateSet (x : C F S32x2x8x128x128) (u : C F S2x8x128x128) (i : Ix F) : C F S32x2x8x128x128 :=
  Host.dynamicUpdateSlice x (broadcastInDim S1x2x8x128x128 ![1, 2, 3, 4] bcast_S2x8x128x128_S1x2x8x128x128_1_2_3_4 u) (starts i) updateFits_S32x2x8x128x128_S1x2x8x128x128

theorem stateSlices {n : Fin 32} : Shape.Slices S32x2x8x128x128 (![n.val, 0, 0, 0, 0] : Fin 5 → ℕ) S1x2x8x128x128 := ⟨rfl, fun a => by
  fin_cases a
  · exact n.isLt
  all_goals exact Nat.le_of_eq (Nat.zero_add _)⟩

theorem stateAt_apply (x : C F S32x2x8x128x128) (i : Ix F) (n : Fin 32) (hi : Is i n) (b : Fin 2) (h : Fin 8) (t : Fin 128) (d : Fin 128) :
    stateAt x i (ix4 b h t d) = x (ix5 n b h t d) := by
  have e := Host.dynamicSlice_eq_extractStridedSlice S1x2x8x128x128 x (starts i) ![n.val, 0, 0, 0, 0] sliceFits_S32x2x8x128x128_S1x2x8x128x128 stateSlices
    (fun a => by rw [starts_eq i n hi]; fin_cases a <;> rfl)
  unfold stateAt
  refine (congrArg (fun y => shapeCast S2x8x128x128 y shapeCasts_S1x2x8x128x128_S2x8x128x128 (ix4 b h t d)) e).trans ?_
  pointwise []

theorem stateSet_apply (x : C F S32x2x8x128x128) (u : C F S2x8x128x128) (i : Ix F) (n : Fin 32) (hi : Is i n) (a : Fin 32) (b : Fin 2) (h : Fin 8) (t : Fin 128) (d : Fin 128) :
    stateSet x u i (ix5 a b h t d) = if a = n then u (ix4 b h t d) else x (ix5 a b h t d) := by
  have e := fun y => dynamicUpdateSlice_eq_update (u := S1x2x8x128x128) x y (starts i) updateFits_S32x2x8x128x128_S1x2x8x128x128 ![n.val, 0, 0, 0, 0] stateSlices
    (fun a => by rw [starts_eq i n hi]; fin_cases a <;> rfl)
  unfold stateSet
  refine (congrFun (e _) (ix5 a b h t d)).trans ?_
  pointwise []
  exact (ite_dite_entry a n _ _)

/-- Entry `i` of a stack. -/
def oneAt (x : C F S32x2x8x1x1) (i : Ix F) : C F S2x8x1x1 :=
  shapeCast S2x8x1x1 (Host.dynamicSlice S1x2x8x1x1 x (starts i) sliceFits_S32x2x8x1x1_S1x2x8x1x1) shapeCasts_S1x2x8x1x1_S2x8x1x1

/-- A stack with entry `i` replaced. -/
def oneSet (x : C F S32x2x8x1x1) (u : C F S2x8x1x1) (i : Ix F) : C F S32x2x8x1x1 :=
  Host.dynamicUpdateSlice x (broadcastInDim S1x2x8x1x1 ![1, 2, 3, 4] bcast_S2x8x1x1_S1x2x8x1x1_1_2_3_4 u) (starts i) updateFits_S32x2x8x1x1_S1x2x8x1x1

theorem oneSlices {n : Fin 32} : Shape.Slices S32x2x8x1x1 (![n.val, 0, 0, 0, 0] : Fin 5 → ℕ) S1x2x8x1x1 := ⟨rfl, fun a => by
  fin_cases a
  · exact n.isLt
  all_goals exact Nat.le_of_eq (Nat.zero_add _)⟩

theorem oneAt_apply (x : C F S32x2x8x1x1) (i : Ix F) (n : Fin 32) (hi : Is i n) (b : Fin 2) (h : Fin 8) (t : Fin 1) (d : Fin 1) :
    oneAt x i (ix4 b h t d) = x (ix5 n b h t d) := by
  have e := Host.dynamicSlice_eq_extractStridedSlice S1x2x8x1x1 x (starts i) ![n.val, 0, 0, 0, 0] sliceFits_S32x2x8x1x1_S1x2x8x1x1 oneSlices
    (fun a => by rw [starts_eq i n hi]; fin_cases a <;> rfl)
  unfold oneAt
  obtain rfl : t = 0 := Subsingleton.elim _ _; obtain rfl : d = 0 := Subsingleton.elim _ _
  refine (congrArg (fun y => shapeCast S2x8x1x1 y shapeCasts_S1x2x8x1x1_S2x8x1x1 (ix4 b h 0 0)) e).trans ?_
  pointwise []

theorem oneSet_apply (x : C F S32x2x8x1x1) (u : C F S2x8x1x1) (i : Ix F) (n : Fin 32) (hi : Is i n) (a : Fin 32) (b : Fin 2) (h : Fin 8) (t : Fin 1) (d : Fin 1) :
    oneSet x u i (ix5 a b h t d) = if a = n then u (ix4 b h t d) else x (ix5 a b h t d) := by
  have e := fun y => dynamicUpdateSlice_eq_update (u := S1x2x8x1x1) x y (starts i) updateFits_S32x2x8x1x1_S1x2x8x1x1 ![n.val, 0, 0, 0, 0] oneSlices
    (fun a => by rw [starts_eq i n hi]; fin_cases a <;> rfl)
  unfold oneSet
  obtain rfl : t = 0 := Subsingleton.elim _ _; obtain rfl : d = 0 := Subsingleton.elim _ _
  refine (congrFun (e _) (ix5 a b h 0 0)).trans ?_
  pointwise []
  exact (ite_dite_entry a n _ _)

/-- Entry `i` of a stack. -/
def numAt (x : C F S32x2x8) (i : Ix F) : C F S2x8 :=
  shapeCast S2x8 (Host.dynamicSlice S1x2x8 x (starts3 i) sliceFits_S32x2x8_S1x2x8) shapeCasts_S1x2x8_S2x8

/-- A stack with entry `i` replaced. -/
def numSet (x : C F S32x2x8) (u : C F S2x8) (i : Ix F) : C F S32x2x8 :=
  Host.dynamicUpdateSlice x (broadcastInDim S1x2x8 ![1, 2] bcast_S2x8_S1x2x8_1_2 u) (starts3 i) updateFits_S32x2x8_S1x2x8

theorem numSlices {n : Fin 32} : Shape.Slices S32x2x8 (![n.val, 0, 0] : Fin 3 → ℕ) S1x2x8 := ⟨rfl, fun a => by
  fin_cases a
  · exact n.isLt
  all_goals exact Nat.le_of_eq (Nat.zero_add _)⟩

theorem numAt_apply (x : C F S32x2x8) (i : Ix F) (n : Fin 32) (hi : Is i n) (b : Fin 2) (h : Fin 8) :
    numAt x i (ix2 b h) = x (ix3 n b h) := by
  have e := Host.dynamicSlice_eq_extractStridedSlice S1x2x8 x (starts3 i) ![n.val, 0, 0] sliceFits_S32x2x8_S1x2x8 numSlices
    (fun a => by rw [starts3_eq i n hi]; fin_cases a <;> rfl)
  unfold numAt
  refine (congrArg (fun y => shapeCast S2x8 y shapeCasts_S1x2x8_S2x8 (ix2 b h)) e).trans ?_
  pointwise []

theorem numSet_apply (x : C F S32x2x8) (u : C F S2x8) (i : Ix F) (n : Fin 32) (hi : Is i n) (a : Fin 32) (b : Fin 2) (h : Fin 8) :
    numSet x u i (ix3 a b h) = if a = n then u (ix2 b h) else x (ix3 a b h) := by
  have e := fun y => dynamicUpdateSlice_eq_update (u := S1x2x8) x y (starts3 i) updateFits_S32x2x8_S1x2x8 ![n.val, 0, 0] numSlices
    (fun a => by rw [starts3_eq i n hi]; fin_cases a <;> rfl)
  unfold numSet
  refine (congrFun (e _) (ix3 a b h)).trans ?_
  pointwise []
  exact (ite_dite_entry a n _ _)

end Cert.ScanRefIdeal.Loops

end

end
-- ==== Proof.ScanTrips.lean ====
module

public import proofs.«01_k».proof.Proof.ScanRefRun
public import proofs.«01_k».proof.Proof.ScanEntries

/-! What one trip of each of the reference's loops leaves in the buffers the loop carries. -/

@[expose] public section

noncomputable section

namespace Cert.ScanRefIdeal.Loops

open Cert.ScanRefIdeal Cert.ScanRefIdeal.Gen
open Idealize.ShloMosaic Idealize.ShloMosaic.TcCoe Idealize.ShloMosaic.Tactic
open Idealize.ShloMosaic.StableHlo

variable {F : FTy → Type} [FloatOps F]

/-- The arrays a trip reads and the state it starts from. -/
structure Chunk (F : FTy → Type) [FloatOps F] where
  q : C F S2x8x64x128
  w : C F S2x8x64x128
  u : C F S2x8x64x128
  i : C F S2x8x64x64
  k : C F S2x8x64x128
  e : C F S2x8
  s : C F S2x8x128x128

/-- The new values of one chunk. -/
def Chunk.newv (X : Chunk F) : C F S2x8x64x128 :=
  subf X.u (Host.dotGeneral dot_S2x8x64x128_S2x8x128x128_S2x8x64x128_3_2_2_3_01_01 none X.w X.s)

/-- The output of one chunk. -/
def Chunk.out (X : Chunk F) : C F S2x8x64x128 :=
  addf (Host.dotGeneral dot_S2x8x64x128_S2x8x128x128_S2x8x64x128_3_2_2_3_01_01 none X.q X.s : C F S2x8x64x128)
    (Host.dotGeneral dot_S2x8x64x64_S2x8x64x128_S2x8x64x128_3_2_2_3_01_01 none X.i X.newv : C F S2x8x64x128)

/-- The decay, one number for each head. -/
def Chunk.decay (X : Chunk F) : C F S2x8x1x1 := broadcastInDim S2x8x1x1 ![0, 1] bcast_S2x8_S2x8x1x1_0_1 X.e

/-- The state after the chunk. -/
def Chunk.next (X : Chunk F) : C F S2x8x128x128 :=
  addf (mulf X.s (broadcastInDim S2x8x128x128 ![0, 1, 2, 3] bcast_S2x8x1x1_S2x8x128x128_0_1_2_3 X.decay : C F S2x8x128x128))
    (Host.dotGeneral dot_S2x8x64x128_S2x8x64x128_S2x8x128x128_2_2_3_3_01_01 none X.k X.newv : C F S2x8x128x128)

/-- What a trip of the first loop reads. -/
abbrev chunk (V : Valuation τ sig (Elt F)) : Chunk F where
  q := rowsAt (V (Proc.devRef .tc main_v16_0)) (V (Proc.devRef .tc main_v16_6))
  w := rowsAt (V (Proc.devRef .tc main_v16_1)) (V (Proc.devRef .tc main_v16_6))
  u := rowsAt (V (Proc.devRef .tc main_v16_2)) (V (Proc.devRef .tc main_v16_6))
  i := mixAt (V (Proc.devRef .tc main_v16_3)) (V (Proc.devRef .tc main_v16_6))
  k := rowsAt (V (Proc.devRef .tc main_v16_4)) (V (Proc.devRef .tc main_v16_6))
  e := numAt (V (Proc.devRef .tc main_v16_5)) (V (Proc.devRef .tc main_v16_6))
  s := V (Proc.devRef .tc main_v16_7)

/-- One trip of the first loop. -/
abbrev trip0 (V : Valuation τ sig (Elt F)) : Valuation τ sig (Elt F) := afterL body0 (after cond0 V)

set_option maxRecDepth 100000 in
theorem trip0_state (V : Valuation τ sig (Elt F)) : trip0 V (Proc.devRef .tc main_v16_7) = (chunk V).next := by
  simp only [trip0, body0, afterL_cons, afterL_nil]
  after_reads_simp [unaryIndexed_result_read, binaryIndexed_result_read, indexContents_tref_cons, indexContents_tref_empty, TRef.ofBuf_toBuf]
  rfl

set_option maxRecDepth 100000 in
theorem trip0_out (V : Valuation τ sig (Elt F)) : trip0 V (Proc.devRef .tc main_v16_8)
    = rowsSet (V (Proc.devRef .tc main_v16_8)) (chunk V).out (V (Proc.devRef .tc main_v16_6)) := by
  simp only [trip0, body0, afterL_cons, afterL_nil]
  after_reads_simp [unaryIndexed_result_read, binaryIndexed_result_read, indexContents_tref_cons, indexContents_tref_empty, TRef.ofBuf_toBuf]
  rfl

set_option maxRecDepth 100000 in
theorem trip0_states (V : Valuation τ sig (Elt F)) : trip0 V (Proc.devRef .tc main_v16_9)
    = stateSet (V (Proc.devRef .tc main_v16_9)) (V (Proc.devRef .tc main_v16_7)) (V (Proc.devRef .tc main_v16_6)) := by
  simp only [trip0, body0, afterL_cons, afterL_nil]
  after_reads_simp [unaryIndexed_result_read, binaryIndexed_result_read, indexContents_tref_cons, indexContents_tref_empty, TRef.ofBuf_toBuf]
  rfl

set_option maxRecDepth 100000 in
theorem trip0_newv (V : Valuation τ sig (Elt F)) : trip0 V (Proc.devRef .tc main_v16_10)
    = rowsSet (V (Proc.devRef .tc main_v16_10)) (chunk V).newv (V (Proc.devRef .tc main_v16_6)) := by
  simp only [trip0, body0, afterL_cons, afterL_nil]
  after_reads_simp [unaryIndexed_result_read, binaryIndexed_result_read, indexContents_tref_cons, indexContents_tref_empty, TRef.ofBuf_toBuf]
  rfl

set_option maxRecDepth 100000 in
theorem trip0_decay (V : Valuation τ sig (Elt F)) : trip0 V (Proc.devRef .tc main_v16_11)
    = oneSet (V (Proc.devRef .tc main_v16_11)) (chunk V).decay (V (Proc.devRef .tc main_v16_6)) := by
  simp only [trip0, body0, afterL_cons, afterL_nil]
  after_reads_simp [unaryIndexed_result_read, binaryIndexed_result_read, indexContents_tref_cons, indexContents_tref_empty, TRef.ofBuf_toBuf]
  rfl

end Cert.ScanRefIdeal.Loops

end

end
-- ==== Proof.ScanTrips1.lean ====
module

public import proofs.«01_k».proof.Proof.ScanTrips

/-! What one trip of the reference's second loop leaves, which buffers both loops keep, and what the straight stretches before,
    between and after the loops leave. -/

@[expose] public section

noncomputable section

namespace Cert.ScanRefIdeal.Loops

open Cert.ScanRefIdeal Cert.ScanRefIdeal.Gen
open Idealize.ShloMosaic Idealize.ShloMosaic.TcCoe Idealize.ShloMosaic.Tactic
open Idealize.ShloMosaic.StableHlo

variable {F : FTy → Type} [FloatOps F]

/-- The arrays a trip of the second loop reads: the cotangent, what the first loop kept, and the state's gradient. -/
structure Back (F : FTy → Type) [FloatOps F] where
  ct : C F S2x8x64x128
  s : C F S2x8x128x128
  w : C F S2x8x64x128
  q : C F S2x8x64x128
  v : C F S2x8x64x128
  i : C F S2x8x64x64
  e : C F S2x8x1x1
  k : C F S2x8x64x128
  g : C F S2x8x128x128

/-- Rows and columns of every matrix exchanged. -/
abbrev flip (x : C F S2x8x128x64) : C F S2x8x64x128 := transpose S2x8x64x128 [0, 1, 3, 2] x transposes_S2x8x128x64_S2x8x64x128_0_1_3_2

/-- Rows and columns of every matrix exchanged. -/
abbrev flipS (x : C F S2x8x128x128) : C F S2x8x128x128 := transpose S2x8x128x128 [0, 1, 3, 2] x transposes_S2x8x128x128_S2x8x128x128_0_1_3_2

/-- The gradient of the keys. -/
def Back.dk (X : Back F) : C F S2x8x64x128 :=
  flip (Host.dotGeneral dot_S2x8x128x128_S2x8x64x128_S2x8x128x64_3_3_2_2_01_01 none X.g X.v)

/-- The gradient of the new values. -/
def Back.du (X : Back F) : C F S2x8x64x128 :=
  addf (flip (Host.dotGeneral dot_S2x8x128x128_S2x8x64x128_S2x8x128x64_2_3_3_2_01_01 none X.g X.k))
    (flip (Host.dotGeneral dot_S2x8x64x128_S2x8x64x64_S2x8x128x64_2_2_3_3_01_01 none X.ct X.i))

/-- The gradient of the matrix inside the chunk. -/
def Back.di (X : Back F) : C F S2x8x64x64 := Host.dotGeneral dot_S2x8x64x128_S2x8x64x128_S2x8x64x64_3_3_2_2_01_01 none X.ct X.v

/-- The gradient of the queries. -/
def Back.dq (X : Back F) : C F S2x8x64x128 := Host.dotGeneral dot_S2x8x64x128_S2x8x128x128_S2x8x64x128_3_3_2_2_01_01 none X.ct X.s

/-- The gradient of the new values with its sign turned. -/
def Back.neg (X : Back F) : C F S2x8x64x128 := Host.negf X.du

/-- The gradient of the rows the state is read with. -/
def Back.dw (X : Back F) : C F S2x8x64x128 := Host.dotGeneral dot_S2x8x64x128_S2x8x128x128_S2x8x64x128_3_3_2_2_01_01 none X.neg X.s

/-- The gradient of the decay. -/
def Back.de (X : Back F) : C F S2x8 :=
  Host.reduceAdd (shapeCast S2x8x1x1 (Host.reduceAdd (mulf X.s X.g : C F S2x8x128x128) (constant S_ .f32 0x00000000#32) reducesTo_S2x8x128x128_S2x8_d2_3 h_S_ : C F S2x8)
      shapeCasts_S2x8_S2x8x1x1 : C F S2x8x1x1) (constant S_ .f32 0x00000000#32) reducesTo_S2x8x1x1_S2x8_d2_3 h_S_

/-- The gradient of the state before the chunk. -/
def Back.next (X : Back F) : C F S2x8x128x128 :=
  addf (addf (mulf X.g (broadcastInDim S2x8x128x128 ![0, 1, 2, 3] bcast_S2x8x1x1_S2x8x128x128_0_1_2_3 X.e : C F S2x8x128x128))
      (flipS (Host.dotGeneral dot_S2x8x64x128_S2x8x64x128_S2x8x128x128_2_2_3_3_01_01 none X.ct X.q)) : C F S2x8x128x128)
    (flipS (Host.dotGeneral dot_S2x8x64x128_S2x8x64x128_S2x8x128x128_2_2_3_3_01_01 none X.neg X.w))

/-- The second loop's index: from the last chunk down. -/
abbrev down (i : Ix F) : Ix F := subi (subi (constantI S_ 32 32#32) i) (constantI S_ 32 1#32)

/-- What a trip of the second loop reads. -/
abbrev back (V : Valuation τ sig (Elt F)) : Back F where
  ct := rowsAt (V (Proc.devRef .tc main_v29_0)) (down (V (Proc.devRef .tc main_v29_8)))
  s := stateAt (V (Proc.devRef .tc main_v29_1)) (down (V (Proc.devRef .tc main_v29_8)))
  w := rowsAt (V (Proc.devRef .tc main_v29_2)) (down (V (Proc.devRef .tc main_v29_8)))
  q := rowsAt (V (Proc.devRef .tc main_v29_3)) (down (V (Proc.devRef .tc main_v29_8)))
  v := rowsAt (V (Proc.devRef .tc main_v29_4)) (down (V (Proc.devRef .tc main_v29_8)))
  i := mixAt (V (Proc.devRef .tc main_v29_5)) (down (V (Proc.devRef .tc main_v29_8)))
  e := oneAt (V (Proc.devRef .tc main_v29_6)) (down (V (Proc.devRef .tc main_v29_8)))
  k := rowsAt (V (Proc.devRef .tc main_v29_7)) (down (V (Proc.devRef .tc main_v29_8)))
  g := V (Proc.devRef .tc main_v29_9)

/-- One trip of the second loop. -/
abbrev trip1 (V : Valuation τ sig (Elt F)) : Valuation τ sig (Elt F) := afterL body1 (after cond1 V)

set_option maxRecDepth 100000 in
theorem trip1_state (V : Valuation τ sig (Elt F)) : trip1 V (Proc.devRef .tc main_v29_9)
    = (back V).next := by
  simp only [trip1, body1, afterL_cons, afterL_nil]
  after_reads_simp [unaryIndexed_result_read, binaryIndexed_result_read, indexContents_tref_cons, indexContents_tref_empty, TRef.ofBuf_toBuf]
  rfl

set_option maxRecDepth 100000 in
theorem trip1_dq (V : Valuation τ sig (Elt F)) : trip1 V (Proc.devRef .tc main_v29_10)
    = rowsSet (V (Proc.devRef .tc main_v29_10)) (back V).dq (down (V (Proc.devRef .tc main_v29_8))) := by
  simp only [trip1, body1, afterL_cons, afterL_nil]
  after_reads_simp [unaryIndexed_result_read, binaryIndexed_result_read, indexContents_tref_cons, indexContents_tref_empty, TRef.ofBuf_toBuf]
  rfl

set_option maxRecDepth 100000 in
theorem trip1_dw (V : Valuation τ sig (Elt F)) : trip1 V (Proc.devRef .tc main_v29_11)
    = rowsSet (V (Proc.devRef .tc main_v29_11)) (back V).dw (down (V (Proc.devRef .tc main_v29_8))) := by
  simp only [trip1, body1, afterL_cons, afterL_nil]
  after_reads_simp [unaryIndexed_result_read, binaryIndexed_result_read, indexContents_tref_cons, indexContents_tref_empty, TRef.ofBuf_toBuf]
  rfl

set_option maxRecDepth 100000 in
theorem trip1_du (V : Valuation τ sig (Elt F)) : trip1 V (Proc.devRef .tc main_v29_12)
    = rowsSet (V (Proc.devRef .tc main_v29_12)) (back V).du (down (V (Proc.devRef .tc main_v29_8))) := by
  simp only [trip1, body1, afterL_cons, afterL_nil]
  after_reads_simp [unaryIndexed_result_read, binaryIndexed_result_read, indexContents_tref_cons, indexContents_tref_empty, TRef.ofBuf_toBuf]
  rfl

set_option maxRecDepth 100000 in
theorem trip1_di (V : Valuation τ sig (Elt F)) : trip1 V (Proc.devRef .tc main_v29_13)
    = mixSet (V (Proc.devRef .tc main_v29_13)) (back V).di (down (V (Proc.devRef .tc main_v29_8))) := by
  simp only [trip1, body1, afterL_cons, afterL_nil]
  after_reads_simp [unaryIndexed_result_read, binaryIndexed_result_read, indexContents_tref_cons, indexContents_tref_empty, TRef.ofBuf_toBuf]
  rfl

set_option maxRecDepth 100000 in
theorem trip1_dk (V : Valuation τ sig (Elt F)) : trip1 V (Proc.devRef .tc main_v29_14)
    = rowsSet (V (Proc.devRef .tc main_v29_14)) (back V).dk (down (V (Proc.devRef .tc main_v29_8))) := by
  simp only [trip1, body1, afterL_cons, afterL_nil]
  after_reads_simp [unaryIndexed_result_read, binaryIndexed_result_read, indexContents_tref_cons, indexContents_tref_empty, TRef.ofBuf_toBuf]
  rfl

set_option maxRecDepth 100000 in
theorem trip1_de (V : Valuation τ sig (Elt F)) : trip1 V (Proc.devRef .tc main_v29_15)
    = numSet (V (Proc.devRef .tc main_v29_15)) (back V).de (down (V (Proc.devRef .tc main_v29_8))) := by
  simp only [trip1, body1, afterL_cons, afterL_nil]
  after_reads_simp [unaryIndexed_result_read, binaryIndexed_result_read, indexContents_tref_cons, indexContents_tref_empty, TRef.ofBuf_toBuf]
  rfl

/-- Buffers the first loop keeps: the arguments, their chunks, and the stacks the loop reads. -/
abbrev keep0 : List (Ref sig .tc) :=
  [main_arg0, main_arg1, main_arg2, main_arg3, main_arg4, main_arg5, main_arg6, main_v2, main_v4, main_v8, main_v10,
    main_v16_0, main_v16_1, main_v16_2, main_v16_3, main_v16_4, main_v16_5]

/-- Buffers the second loop keeps: the arguments, the output, and the stacks the loop reads. -/
abbrev keep1 : List (Ref sig .tc) :=
  [main_arg0, main_arg1, main_arg2, main_arg3, main_arg4, main_arg5, main_arg6, main_v18,
    main_v29_0, main_v29_1, main_v29_2, main_v29_3, main_v29_4, main_v29_5, main_v29_6, main_v29_7]

/-- The arguments. -/
abbrev keepArgs : List (Ref sig .tc) := [main_arg0, main_arg1, main_arg2, main_arg3, main_arg4, main_arg5, main_arg6]

set_option maxRecDepth 100000 in
set_option maxHeartbeats 1000000 in
theorem trip0_keep (V : Valuation τ sig (Elt F)) :
    ∀ r ∈ (keep0 : List (Ref sig .tc)), trip0 V (Proc.devRef .tc r) = V (Proc.devRef .tc r) := by
  simp only [trip0, body0, afterL_cons, afterL_nil, List.forall_mem_cons]
  repeat' apply And.intro
  all_goals first | (after_reads_simp; done) | exact fun r h => absurd h List.not_mem_nil

set_option maxRecDepth 100000 in
set_option maxHeartbeats 1000000 in
theorem trip1_keep (V : Valuation τ sig (Elt F)) :
    ∀ r ∈ (keep1 : List (Ref sig .tc)), trip1 V (Proc.devRef .tc r) = V (Proc.devRef .tc r) := by
  simp only [trip1, body1, afterL_cons, afterL_nil, List.forall_mem_cons]
  repeat' apply And.intro
  all_goals first | (after_reads_simp; done) | exact fun r h => absurd h List.not_mem_nil

set_option maxRecDepth 100000 in
set_option maxHeartbeats 1000000 in
theorem pre_keep (V : Valuation τ sig (Elt F)) :
    ∀ r ∈ (keepArgs : List (Ref sig .tc)), afterL [preOps] V (Proc.devRef .tc r) = V (Proc.devRef .tc r) := by
  simp only [afterL_cons, afterL_nil, List.forall_mem_cons]
  repeat' apply And.intro
  all_goals first | (after_reads_simp; done) | exact fun r h => absurd h List.not_mem_nil

set_option maxRecDepth 100000 in
set_option maxHeartbeats 1000000 in
theorem mid_keep (V : Valuation τ sig (Elt F)) :
    ∀ r ∈ (keepArgs : List (Ref sig .tc)), afterL [midOps] V (Proc.devRef .tc r) = V (Proc.devRef .tc r) := by
  simp only [afterL_cons, afterL_nil, List.forall_mem_cons]
  repeat' apply And.intro
  all_goals first | (after_reads_simp; done) | exact fun r h => absurd h List.not_mem_nil

set_option maxRecDepth 100000 in
set_option maxHeartbeats 1000000 in
theorem post_keep (V : Valuation τ sig (Elt F)) :
    ∀ r ∈ ((main_v18 :: keepArgs) : List (Ref sig .tc)), afterL [postOps] V (Proc.devRef .tc r) = V (Proc.devRef .tc r) := by
  simp only [afterL_cons, afterL_nil, List.forall_mem_cons]
  repeat' apply And.intro
  all_goals first | (after_reads_simp; done) | exact fun r h => absurd h List.not_mem_nil

/-- A buffer that one trip keeps is kept by any number of trips. -/
theorem atTrip_keep {ops : List (HloOp τ sig (Elt F))} {items : List (List (HloOp τ sig (Elt F)))} {r : Ref sig .tc}
    (h : ∀ V : Valuation τ sig (Elt F), afterL items (after ops V) (Proc.devRef .tc r) = V (Proc.devRef .tc r))
    (W : Dev nD → Valuation τ sig (Elt F)) (c : Dev nD) :
    ∀ k, atTrip ops items W k c (Proc.devRef .tc r) = W c (Proc.devRef .tc r)
  | 0 => rfl
  | k + 1 => by rw [atTrip_succ, h, atTrip_keep h W c k]

end Cert.ScanRefIdeal.Loops

end

end
-- ==== Proof.ScanRefTrip.lean ====
module

public import proofs.«01_k».proof.Proof.ScanTrips1
public import proofs.«01_k».proof.Proof.ScanArrays

/-! One trip of each of the reference's loops, entry by entry. -/

@[expose] public section

set_option maxRecDepth 16384

noncomputable section

namespace Cert.ScanRefIdeal.Loops

open Cert.ScanRefIdeal Cert.ScanRefIdeal.Gen
open Idealize.ShloMosaic Idealize.ShloMosaic.TcCoe Idealize.ShloMosaic.Tactic
open Idealize.ShloMosaic.StableHlo
open Cert.ScanMath

/-- Head `h` of sequence `b`. -/
abbrev M {p q : ℕ} (x : (⟨4, ![2, 8, p, q]⟩ : Shape).Idx → EReal) (b : Fin 2) (h : Fin 8) : Mx p q := fun t d => x (ix4 b h t d)

theorem newv_at (X : Chunk Ideal) (b : Fin 2) (h : Fin 8) (t : Fin 64) (d : Fin 128) :
    X.newv (ix4 b h t d) = newv (M X.u b h) (M X.w b h) (M X.s b h) t d := by pointwise [Chunk.newv, newv, M]

theorem out_at (X : Chunk Ideal) (b : Fin 2) (h : Fin 8) (t : Fin 64) (d : Fin 128) :
    X.out (ix4 b h t d) = out (M X.q b h) (M X.i b h) (M X.s b h) (M X.newv b h) t d := by pointwise [Chunk.out, out, M]

theorem decay_at (X : Chunk Ideal) (b : Fin 2) (h : Fin 8) (t d : Fin 1) : X.decay (ix4 b h t d) = X.e (ix2 b h) := by
  pointwise [Chunk.decay]

theorem next_at (X : Chunk Ideal) (b : Fin 2) (h : Fin 8) (j d : Fin 128) :
    X.next (ix4 b h j d) = next (M X.s b h) (X.e (ix2 b h)) (M X.k b h) (M X.newv b h) j d := by
  pointwise [Chunk.next, decay_at, next, M]

theorem dk_at (X : Back Ideal) (b : Fin 2) (h : Fin 8) (t : Fin 64) (d : Fin 128) :
    X.dk (ix4 b h t d) = rows (M X.v b h) (M X.g b h) t d := by
  have e : X.dk (ix4 b h t d) = ∑ x, M X.g b h d x * M X.v b h t x := by pointwise [Back.dk, flip, M]
  exact e.trans (Finset.sum_congr rfl fun _ _ => mul_comm _ _)

theorem du_at (X : Back Ideal) (b : Fin 2) (h : Fin 8) (t : Fin 64) (d : Fin 128) :
    X.du (ix4 b h t d) = dv (M X.i b h) (M X.k b h) (M X.ct b h) (M X.g b h) t d := by
  have e : X.du (ix4 b h t d) = (∑ x, M X.g b h x d * M X.k b h t x) + ∑ x, M X.ct b h x d * M X.i b h x t := by pointwise [Back.du, flip, M]
  exact e.trans ((add_comm _ _).trans (congrArg₂ (· + ·) (Finset.sum_congr rfl fun _ _ => mul_comm _ _) (Finset.sum_congr rfl fun _ _ => mul_comm _ _)))

theorem di_at (X : Back Ideal) (b : Fin 2) (h : Fin 8) (t a : Fin 64) :
    X.di (ix4 b h t a) = di (M X.ct b h) (M X.v b h) t a := by pointwise [Back.di, di, M]

theorem dq_at (X : Back Ideal) (b : Fin 2) (h : Fin 8) (t : Fin 64) (d : Fin 128) :
    X.dq (ix4 b h t d) = rows (M X.ct b h) (M X.s b h) t d := by pointwise [Back.dq, rows, M]

theorem neg_at (X : Back Ideal) (b : Fin 2) (h : Fin 8) (t : Fin 64) (d : Fin 128) :
    X.neg (ix4 b h t d) = -X.du (ix4 b h t d) := by pointwise [Back.neg]

theorem dw_at (X : Back Ideal) (b : Fin 2) (h : Fin 8) (t : Fin 64) (d : Fin 128) :
    X.dw (ix4 b h t d) = ∑ x, -X.du (ix4 b h t x) * M X.s b h d x := by pointwise [Back.dw, neg_at, M]

theorem next1_at (X : Back Ideal) (b : Fin 2) (h : Fin 8) (j d : Fin 128) :
    X.next (ix4 b h j d) = (M X.g b h j d * X.e (ix4 b h 0 0) + ∑ t, M X.ct b h t d * M X.q b h t j) + ∑ t, -X.du (ix4 b h t d) * M X.w b h t j := by
  pointwise [Back.next, flipS, neg_at, M]

theorem de_at (X : Back Ideal) (b : Fin 2) (h : Fin 8) : X.de (ix2 b h) = de (M X.g b h) (M X.s b h) := by
  have e : X.de (ix2 b h) = ∑ j, ∑ d, M X.s b h j d * M X.g b h j d := by
    pointwise [Back.de, M, Finset.univ_unique, Finset.sum_singleton]
    try simp only [Finset.univ_unique, Finset.sum_singleton]
  exact e.trans (Finset.sum_congr rfl fun _ _ => Finset.sum_congr rfl fun _ _ => mul_comm _ _)

/-- A sequence cut into chunks, chunk first. -/
abbrev cut (x : C Ideal S2x8x2048x128) : C Ideal S32x2x8x64x128 :=
  transpose S32x2x8x64x128 [2, 0, 1, 3, 4] (shapeCast S2x8x32x64x128 x shapeCasts_S2x8x2048x128_S2x8x32x64x128) transposes_S2x8x32x64x128_S32x2x8x64x128_2_0_1_3_4

theorem cut_at (x : C Ideal S2x8x2048x128) (n : Fin 32) (b : Fin 2) (h : Fin 8) (t : Fin 64) (d : Fin 128) :
    cut x (ix5 n b h t d) = x (ix4 b h (row n t) d) := by pointwise [cut]

/-- A sequence of matrices cut into chunks, chunk first. -/
abbrev cutMix (x : C Ideal S2x8x2048x64) : C Ideal S32x2x8x64x64 :=
  transpose S32x2x8x64x64 [2, 0, 1, 3, 4] (shapeCast S2x8x32x64x64 x shapeCasts_S2x8x2048x64_S2x8x32x64x64) transposes_S2x8x32x64x64_S32x2x8x64x64_2_0_1_3_4

theorem cutMix_at (x : C Ideal S2x8x2048x64) (n : Fin 32) (b : Fin 2) (h : Fin 8) (t : Fin 64) (d : Fin 64) :
    cutMix x (ix5 n b h t d) = x (ix4 b h (row n t) d) := by pointwise [cutMix]

/-- The chunks put back in their sequence. -/
abbrev glue (x : C Ideal S32x2x8x64x128) : C Ideal S2x8x2048x128 :=
  shapeCast S2x8x2048x128 (transpose S2x8x32x64x128 [1, 2, 0, 3, 4] x transposes_S32x2x8x64x128_S2x8x32x64x128_1_2_0_3_4 : C Ideal S2x8x32x64x128) shapeCasts_S2x8x32x64x128_S2x8x2048x128

theorem glue_at (x : C Ideal S32x2x8x64x128) (n : Fin 32) (b : Fin 2) (h : Fin 8) (t : Fin 64) (d : Fin 128) :
    glue x (ix4 b h (row n t) d) = x (ix5 n b h t d) := by
  pointwise [glue]
  have e1 : ∀ q, (⟨(n.val * 64 + t.val) / 64, q⟩ : Fin 32) = n := fun q => Fin.ext (by simp only; omega)
  have e2 : ∀ q, (⟨(n.val * 64 + t.val) % 64, q⟩ : Fin 64) = t := fun q => Fin.ext (by simp only; omega)
  exact congrArg₂ (fun n t => x (ix5 n b h t d)) (e1 _) (e2 _)

/-- The chunks' matrices put back in their sequence. -/
abbrev glueMix (x : C Ideal S32x2x8x64x64) : C Ideal S2x8x2048x64 :=
  shapeCast S2x8x2048x64 (transpose S2x8x32x64x64 [1, 2, 0, 3, 4] x transposes_S32x2x8x64x64_S2x8x32x64x64_1_2_0_3_4 : C Ideal S2x8x32x64x64) shapeCasts_S2x8x32x64x64_S2x8x2048x64

theorem glueMix_at (x : C Ideal S32x2x8x64x64) (n : Fin 32) (b : Fin 2) (h : Fin 8) (t : Fin 64) (d : Fin 64) :
    glueMix x (ix4 b h (row n t) d) = x (ix5 n b h t d) := by
  pointwise [glueMix]
  have e1 : ∀ q, (⟨(n.val * 64 + t.val) / 64, q⟩ : Fin 32) = n := fun q => Fin.ext (by simp only; omega)
  have e2 : ∀ q, (⟨(n.val * 64 + t.val) % 64, q⟩ : Fin 64) = t := fun q => Fin.ext (by simp only; omega)
  exact congrArg₂ (fun n t => x (ix5 n b h t d)) (e1 _) (e2 _)

/-- One number for each chunk, repeated over eight rows. -/
abbrev spread (x : C Ideal S32x2x8) : C Ideal S2x8x256x128 :=
  shapeCast S2x8x256x128 (broadcastInDim S2x8x32x8x128 ![0, 1, 2, 3, 4] bcast_S2x8x32x1x1_S2x8x32x8x128_0_1_2_3_4
    (broadcastInDim S2x8x32x1x1 ![0, 1, 2] bcast_S2x8x32_S2x8x32x1x1_0_1_2
      (transpose S2x8x32 [1, 2, 0] x transposes_S32x2x8_S2x8x32_1_2_0 : C Ideal S2x8x32) : C Ideal S2x8x32x1x1) : C Ideal S2x8x32x8x128) shapeCasts_S2x8x32x8x128_S2x8x256x128

theorem spread_at (x : C Ideal S32x2x8) (b : Fin 2) (h : Fin 8) (r : Fin 256) (d : Fin 128) :
    spread x (ix4 b h r d) = x (ix3 ⟨r.val / 8, by omega⟩ b h) := by pointwise [spread]

end Cert.ScanRefIdeal.Loops

end

end
-- ==== Proof.ScanFrames.lean ====
module

public import proofs.«01_k».proof.Defs
public import proofs.«01_k».proof.Proof.ScanRun
public import proofs.«01_k».proof.Proof.ScanTrips1
public import proofs.«01_k».proof.Proof.Gen.Scan

/-! The scan call and its reference end with every argument unchanged. -/

@[expose] public section

noncomputable section

open Idealize.ShloMosaic Idealize.ShloMosaic.TcCoe Idealize.SL.Sem
open Idealize.ShloMosaic.StableHlo

namespace Cert.ScanRefIdeal.Loops

open Cert.ScanRefIdeal Cert.ScanRefIdeal.Gen

variable {F : FTy → Type} [FloatOps F] (m : (ℓ : Loc nD τ sig) → Buf (Elt F) ℓ)

set_option maxRecDepth 100000 in
theorem cond0_keep (V : Valuation τ sig (Elt F)) (r : Ref sig .tc) (h : r ∉ ([main_while0c_c_24, main_while0c_v44] : List (Ref sig .tc))) :
    after cond0 V (Proc.devRef .tc r) = V (Proc.devRef .tc r) :=
  after_of_writes_sub cond0 V (forall_writes_sub_of_map rfl) h

theorem cond1_keep (V : Valuation τ sig (Elt F)) (r : Ref sig .tc) (h : r ∉ ([main_while1c_c_28, main_while1c_v44] : List (Ref sig .tc))) :
    after cond1 V (Proc.devRef .tc r) = V (Proc.devRef .tc r) :=
  after_of_writes_sub cond1 V (forall_writes_sub_of_map rfl) h

/-- Every buffer where the first loop is left. -/
abbrev L0 (c : Dev nD) : Valuation τ sig (Elt F) := (loop0 (F := F)).leave (W0 m) c

/-- Every buffer where the second loop is left. -/
abbrev L1 (c : Dev nD) : Valuation τ sig (Elt F) := (loop1 (F := F)).leave (W1 m) c

theorem L0_keep (c : Dev nD) (r : Ref sig .tc) (h : r ∈ keep0) (h' : r ∉ ([main_while0c_c_24, main_while0c_v44] : List (Ref sig .tc))) :
    L0 m c (Proc.devRef .tc r) = W0 m c (Proc.devRef .tc r) :=
  (cond0_keep _ r h').trans (atTrip_keep (fun V => trip0_keep V r h) (W0 m) c 32)

theorem L1_keep (c : Dev nD) (r : Ref sig .tc) (h : r ∈ keep1) (h' : r ∉ ([main_while1c_c_28, main_while1c_v44] : List (Ref sig .tc))) :
    L1 m c (Proc.devRef .tc r) = W1 m c (Proc.devRef .tc r) :=
  (cond1_keep _ r h').trans (atTrip_keep (fun V => trip1_keep V r h) (W1 m) c 32)

/-- Every argument is as launched at the end. -/
theorem WF_args (c : Dev nD) : ∀ r ∈ keepArgs, WF m c (Proc.devRef .tc r) = launchContents m c (Proc.devRef .tc r) := by
  intro r hr
  have h0 : r ∈ keep0 := (show ∀ r ∈ keepArgs, r ∈ keep0 by decide) r hr
  have h1 : r ∈ keep1 := (show ∀ r ∈ keepArgs, r ∈ keep1 by decide) r hr
  have n0 := (show ∀ r ∈ keepArgs, r ∉ ([main_while0c_c_24, main_while0c_v44] : List (Ref sig .tc)) by decide) r hr
  have n1 := (show ∀ r ∈ keepArgs, r ∉ ([main_while1c_c_28, main_while1c_v44] : List (Ref sig .tc)) by decide) r hr
  exact (post_keep _ r (List.mem_cons_of_mem _ hr)).trans ((L1_keep m c r h1 n1).trans ((mid_keep _ r hr).trans
    ((L0_keep m c r h0 n0).trans (pre_keep _ r hr))))

end Cert.ScanRefIdeal.Loops

namespace Cert.ScanIdeal.Val

/-- The call's run with its results forgotten. -/
theorem args {F : FTy → Type} [FloatOps F] (m : (ℓ : Loc Cert.ScanIdeal.nD Cert.ScanIdeal.τ Cert.ScanIdeal.sig) → Buf (Elt F) ℓ)
    (ρ : Dev Cert.ScanIdeal.nD → PrngReg) :
    θ_run (Cert.ScanIdeal.defs (F := F)) (onTc (τ := Cert.ScanIdeal.τ) (Cert.ScanIdeal.main (F := F))) ⟨m, fun _ => 0, ρ⟩ (fun r =>
      (∀ c : Dev Cert.ScanIdeal.nD,
        r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
        ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
        ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
        ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
        ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
        ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
        ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0) :=
  (θ_run _ _ _).mono (fun _ h => ⟨fun c => (h.1 c).2, h.2⟩) (Cert.ScanIdeal.Scan.run (F := F) m ρ)

theorem frame_kernel : Cert.quiescent_Scan := fun m ρ _ => Eq.mp (by sl_kernel_rfl) (args (F := Bits) m ρ)

theorem frame_ideal : Cert.quiescent_ScanIdeal := fun m ρ _ => args (F := Ideal) m ρ

theorem frame_reference : Cert.quiescent_ScanRefIdeal := fun m ρ _ =>
  (θ_run Cert.ScanRefIdeal.defs _ _).mono (fun r h => ⟨fun c =>
    ⟨(h c _ rfl).trans (Cert.ScanRefIdeal.Loops.WF_args m c Cert.ScanRefIdeal.main_arg0 (by decide)),
      (h c _ rfl).trans (Cert.ScanRefIdeal.Loops.WF_args m c Cert.ScanRefIdeal.main_arg1 (by decide)),
      (h c _ rfl).trans (Cert.ScanRefIdeal.Loops.WF_args m c Cert.ScanRefIdeal.main_arg2 (by decide)),
      (h c _ rfl).trans (Cert.ScanRefIdeal.Loops.WF_args m c Cert.ScanRefIdeal.main_arg3 (by decide)),
      (h c _ rfl).trans (Cert.ScanRefIdeal.Loops.WF_args m c Cert.ScanRefIdeal.main_arg4 (by decide)),
      (h c _ rfl).trans (Cert.ScanRefIdeal.Loops.WF_args m c Cert.ScanRefIdeal.main_arg5 (by decide)),
      (h c _ rfl).trans (Cert.ScanRefIdeal.Loops.WF_args m c Cert.ScanRefIdeal.main_arg6 (by decide))⟩,
    sem_eq_zero_of_no_sems (by decide) _⟩) (Cert.ScanRefIdeal.Loops.runs (F := Ideal) m ρ)

end Cert.ScanIdeal.Val

end

end
-- ==== Proof.ScanRefFirst.lean ====
module

public import proofs.«01_k».proof.Proof.ScanRefTrip
public import proofs.«01_k».proof.Proof.ScanFrames

/-! The reference's first loop: every chunk's output, state and new values. -/

@[expose] public section

set_option maxRecDepth 16384

noncomputable section

namespace Cert.ScanRefIdeal.Loops

open Cert.ScanRefIdeal Cert.ScanRefIdeal.Gen
open Idealize.ShloMosaic Idealize.ShloMosaic.TcCoe Idealize.ShloMosaic.Tactic
open Idealize.ShloMosaic.StableHlo
open Cert.ScanMath

/-- The chunk's inputs a valuation holds. -/
structure In0 (V : Valuation τ sig (Elt Ideal)) (A : Fin 2 → Fin 8 → Seq) : Prop where
  q : ∀ (n : Fin 32) (b : Fin 2) (h : Fin 8) (t : Fin 64) (d : Fin 128), (V (Proc.devRef .tc main_v16_0) : C Ideal S32x2x8x64x128) (ix5 n b h t d) = (A b h).q n t d
  w : ∀ (n : Fin 32) (b : Fin 2) (h : Fin 8) (t : Fin 64) (d : Fin 128), (V (Proc.devRef .tc main_v16_1) : C Ideal S32x2x8x64x128) (ix5 n b h t d) = (A b h).w n t d
  u : ∀ (n : Fin 32) (b : Fin 2) (h : Fin 8) (t : Fin 64) (d : Fin 128), (V (Proc.devRef .tc main_v16_2) : C Ideal S32x2x8x64x128) (ix5 n b h t d) = (A b h).u n t d
  i : ∀ (n : Fin 32) (b : Fin 2) (h : Fin 8) (t : Fin 64) (d : Fin 64), (V (Proc.devRef .tc main_v16_3) : C Ideal S32x2x8x64x64) (ix5 n b h t d) = (A b h).i n t d
  k : ∀ (n : Fin 32) (b : Fin 2) (h : Fin 8) (t : Fin 64) (d : Fin 128), (V (Proc.devRef .tc main_v16_4) : C Ideal S32x2x8x64x128) (ix5 n b h t d) = (A b h).k n t d
  e : ∀ (n : Fin 32) (b : Fin 2) (h : Fin 8), (V (Proc.devRef .tc main_v16_5) : C Ideal S32x2x8) (ix3 n b h) = (A b h).e n

/-- What `k` trips of the first loop have left. -/
structure Out0 (V : Valuation τ sig (Elt Ideal)) (A : Fin 2 → Fin 8 → Seq) (k : ℕ) : Prop where
  s : ∀ (b : Fin 2) (h : Fin 8) (j d : Fin 128), (V (Proc.devRef .tc main_v16_7) : C Ideal S2x8x128x128) (ix4 b h j d) = (A b h).state k j d
  o : ∀ (n : Fin 32), n.val < k → ∀ (b : Fin 2) (h : Fin 8) (t : Fin 64) (d : Fin 128), (V (Proc.devRef .tc main_v16_8) : C Ideal S32x2x8x64x128) (ix5 n b h t d) = (A b h).outs n t d
  z : ∀ (n : Fin 32), n.val < k → ∀ (b : Fin 2) (h : Fin 8) (j d : Fin 128), (V (Proc.devRef .tc main_v16_9) : C Ideal S32x2x8x128x128) (ix5 n b h j d) = (A b h).state n.val j d
  v : ∀ (n : Fin 32), n.val < k → ∀ (b : Fin 2) (h : Fin 8) (t : Fin 64) (d : Fin 128), (V (Proc.devRef .tc main_v16_10) : C Ideal S32x2x8x64x128) (ix5 n b h t d) = (A b h).vs n t d
  e : ∀ (n : Fin 32), n.val < k → ∀ (b : Fin 2) (h : Fin 8) (t d : Fin 1), (V (Proc.devRef .tc main_v16_11) : C Ideal S32x2x8x1x1) (ix5 n b h t d) = (A b h).e n

section Step

variable {V : Valuation τ sig (Elt Ideal)} {A : Fin 2 → Fin 8 → Seq} (n : Fin 32)
variable (hi : Is (V (Proc.devRef .tc main_v16_6) : Ix Ideal) n) (I : In0 V A) (H : Out0 V A n.val)
include hi I H

theorem newv_step (b : Fin 2) (h : Fin 8) : M (chunk V).newv b h = (A b h).vs n := by
  funext t d
  refine (newv_at _ b h t d).trans ?_
  have e1 : M (chunk V).u b h = (A b h).u n := by funext t d; exact (rowsAt_apply _ _ n hi b h t d).trans (I.u n b h t d)
  have e2 : M (chunk V).w b h = (A b h).w n := by funext t d; exact (rowsAt_apply _ _ n hi b h t d).trans (I.w n b h t d)
  have e3 : M (chunk V).s b h = (A b h).state n.val := by funext t d; exact H.s b h t d
  rw [e1, e2, e3]; rfl

theorem out_step (b : Fin 2) (h : Fin 8) : M (chunk V).out b h = (A b h).outs n := by
  funext t d
  refine (out_at _ b h t d).trans ?_
  have e1 : M (chunk V).q b h = (A b h).q n := by funext t d; exact (rowsAt_apply _ _ n hi b h t d).trans (I.q n b h t d)
  have e2 : M (chunk V).i b h = (A b h).i n := by funext t d; exact (mixAt_apply _ _ n hi b h t d).trans (I.i n b h t d)
  have e3 : M (chunk V).s b h = (A b h).state n.val := by funext t d; exact H.s b h t d
  rw [e1, e2, e3, newv_step n hi I H]; rfl

theorem next_step (b : Fin 2) (h : Fin 8) : M (chunk V).next b h = (A b h).state (n.val + 1) := by
  funext t d
  refine (next_at _ b h t d).trans ?_
  have e1 : M (chunk V).k b h = (A b h).k n := by funext t d; exact (rowsAt_apply _ _ n hi b h t d).trans (I.k n b h t d)
  have e2 : (chunk V).e (ix2 b h) = (A b h).e n := (numAt_apply _ _ n hi b h).trans (I.e n b h)
  have e3 : M (chunk V).s b h = (A b h).state n.val := by funext t d; exact H.s b h t d
  rw [e1, e2, e3, newv_step n hi I H, Seq.state_succ]

/-- One trip. -/
theorem step0 : Out0 (trip0 V) A (n.val + 1) where
  s b h j d := (congrFun (trip0_state V) _).trans (congrFun (congrFun (next_step n hi I H b h) j) d)
  o a ha b h t d := by
    refine (congrFun (trip0_out V) _).trans ((rowsSet_apply _ _ _ n hi a b h t d).trans ?_)
    split
    · rename_i e; subst e; exact congrFun (congrFun (out_step _ hi I H b h) t) d
    · exact H.o a (by omega) b h t d
  z a ha b h j d := by
    refine (congrFun (trip0_states V) _).trans ((stateSet_apply _ _ _ n hi a b h j d).trans ?_)
    split
    · rename_i e; subst e; exact H.s b h j d
    · exact H.z a (by omega) b h j d
  v a ha b h t d := by
    refine (congrFun (trip0_newv V) _).trans ((rowsSet_apply _ _ _ n hi a b h t d).trans ?_)
    split
    · rename_i e; subst e; exact congrFun (congrFun (newv_step _ hi I H b h) t) d
    · exact H.v a (by omega) b h t d
  e a ha b h t d := by
    refine (congrFun (trip0_decay V) _).trans ((oneSet_apply _ _ _ n hi a b h t d).trans ?_)
    split
    · rename_i e; subst e; exact (decay_at _ b h t d).trans ((numAt_apply _ _ _ hi b h).trans (I.e _ b h))
    · exact H.e a (by omega) b h t d

end Step

variable (m : (ℓ : Loc nD τ sig) → Buf (Elt Ideal) ℓ) (c : Dev nD)

abbrev arg0 : C Ideal S2x8x2048x128 := m ((c.tc : Thread nD τ).loc main_arg0)
abbrev arg1 : C Ideal S2x8x2048x128 := m ((c.tc : Thread nD τ).loc main_arg1)
abbrev arg2 : C Ideal S2x8x2048x128 := m ((c.tc : Thread nD τ).loc main_arg2)
abbrev arg3 : C Ideal S2x8x2048x128 := m ((c.tc : Thread nD τ).loc main_arg3)
abbrev arg4 : C Ideal S2x8x2048x64 := m ((c.tc : Thread nD τ).loc main_arg4)
abbrev arg5 : C Ideal S2x8x32 := m ((c.tc : Thread nD τ).loc main_arg5)
abbrev arg6 : C Ideal S2x8x2048x128 := m ((c.tc : Thread nD τ).loc main_arg6)

/-- The sequences of the call's arguments. -/
abbrev Sq : Fin 2 → Fin 8 → Seq := (arrays (arg0 m c) (arg1 m c) (arg2 m c) (arg3 m c) (arg4 m c) (arg5 m c) (arg6 m c)).seq

section Entry

variable (V : Valuation τ sig (Elt Ideal))

set_option maxRecDepth 100000 in
theorem pre_q : afterL [preOps] V (Proc.devRef .tc main_v16_0) = cut (V (Proc.devRef .tc main_arg2)) := by
  simp only [afterL_cons, afterL_nil]; after_reads_simp; rfl
set_option maxRecDepth 100000 in
theorem pre_w : afterL [preOps] V (Proc.devRef .tc main_v16_1) = cut (V (Proc.devRef .tc main_arg1)) := by
  simp only [afterL_cons, afterL_nil]; after_reads_simp; rfl
set_option maxRecDepth 100000 in
theorem pre_u : afterL [preOps] V (Proc.devRef .tc main_v16_2) = cut (V (Proc.devRef .tc main_arg0)) := by
  simp only [afterL_cons, afterL_nil]; after_reads_simp; rfl
set_option maxRecDepth 100000 in
theorem pre_i : afterL [preOps] V (Proc.devRef .tc main_v16_3) = cutMix (V (Proc.devRef .tc main_arg4)) := by
  simp only [afterL_cons, afterL_nil]; after_reads_simp; rfl
set_option maxRecDepth 100000 in
theorem pre_k : afterL [preOps] V (Proc.devRef .tc main_v16_4) = cut (V (Proc.devRef .tc main_arg3)) := by
  simp only [afterL_cons, afterL_nil]; after_reads_simp; rfl
set_option maxRecDepth 100000 in
theorem pre_e : afterL [preOps] V (Proc.devRef .tc main_v16_5)
    = (transpose S32x2x8 [2, 0, 1] (V (Proc.devRef .tc main_arg5)) transposes_S2x8x32_S32x2x8_2_0_1 : C Ideal S32x2x8) := by
  simp only [afterL_cons, afterL_nil]; after_reads_simp; rfl
set_option maxRecDepth 100000 in
theorem pre_s : afterL [preOps] V (Proc.devRef .tc main_v16_7)
    = (broadcastInDim S2x8x128x128 ![] bcast_S_S2x8x128x128 (constant (F := Ideal) S_ .f32 0x00000000#32) : C Ideal S2x8x128x128) := by
  simp only [afterL_cons, afterL_nil]; after_reads_simp; rfl

end Entry

theorem in0 : In0 (W0 m c) (Sq m c) where
  q n b h t d := (congrFun (pre_q _) _).trans (cut_at _ n b h t d)
  w n b h t d := (congrFun (pre_w _) _).trans (cut_at _ n b h t d)
  u n b h t d := (congrFun (pre_u _) _).trans (cut_at _ n b h t d)
  i n b h t d := (congrFun (pre_i _) _).trans (cutMix_at _ n b h t d)
  k n b h t d := (congrFun (pre_k _) _).trans (cut_at _ n b h t d)
  e n b h := (congrFun (pre_e _) _).trans (by pointwise [])

theorem in0_at (k : ℕ) : In0 (atTrip cond0 body0 (W0 m) k c) (Sq m c) where
  q n b h t d := (congrFun (atTrip_keep (r := main_v16_0) (fun V => trip0_keep V _ (by decide)) (W0 m) c k) _).trans ((in0 m c).q n b h t d)
  w n b h t d := (congrFun (atTrip_keep (r := main_v16_1) (fun V => trip0_keep V _ (by decide)) (W0 m) c k) _).trans ((in0 m c).w n b h t d)
  u n b h t d := (congrFun (atTrip_keep (r := main_v16_2) (fun V => trip0_keep V _ (by decide)) (W0 m) c k) _).trans ((in0 m c).u n b h t d)
  i n b h t d := (congrFun (atTrip_keep (r := main_v16_3) (fun V => trip0_keep V _ (by decide)) (W0 m) c k) _).trans ((in0 m c).i n b h t d)
  k n b h t d := (congrFun (atTrip_keep (r := main_v16_4) (fun V => trip0_keep V _ (by decide)) (W0 m) c k) _).trans ((in0 m c).k n b h t d)
  e n b h := (congrFun (atTrip_keep (r := main_v16_5) (fun V => trip0_keep V _ (by decide)) (W0 m) c k) _).trans ((in0 m c).e n b h)

theorem iv_int : ∀ n : Fin 32, (Scf.iv 0#32 1#32 n.val : BitVec 32).toInt = n.val := by decide

theorem down_int : ∀ n : Fin 32, ((32#32 - Scf.iv 0#32 1#32 n.val) - 1#32 : BitVec 32).toInt = ((31 - n.val : ℕ) : Int) := by decide

/-- The first loop before each condition. -/
theorem out0 : ∀ k : ℕ, k ≤ 32 → Out0 (atTrip cond0 body0 (W0 m) k c) (Sq m c) k
  | 0, _ => ⟨fun b h j d => (congrFun (pre_s _) _).trans (by pointwise []; rfl),
      fun n hn => absurd hn (Nat.not_lt_zero _), fun n hn => absurd hn (Nat.not_lt_zero _), fun n hn => absurd hn (Nat.not_lt_zero _), fun n hn => absurd hn (Nat.not_lt_zero _)⟩
  | k + 1, hk => by
    rw [atTrip_succ]
    refine step0 (⟨k, hk⟩ : Fin 32) ?_ (in0_at m c k) (out0 k (Nat.le_of_succ_le hk))
    have e := ctr0_at (W0 m) c (ctr0_entry _) k
    exact (congrArg BitVec.toInt (congrFun e _)).trans (iv_int ⟨k, hk⟩)

/-- What the first loop leaves. -/
theorem left0 : Out0 (L0 m c) (Sq m c) 32 :=
  have H := out0 m c 32 (le_refl _)
  ⟨fun b h j d => (congrFun (cond0_keep _ main_v16_7 (by decide)) _).trans (H.s b h j d),
    fun n hn b h t d => (congrFun (cond0_keep _ main_v16_8 (by decide)) _).trans (H.o n hn b h t d),
    fun n hn b h t d => (congrFun (cond0_keep _ main_v16_9 (by decide)) _).trans (H.z n hn b h t d),
    fun n hn b h t d => (congrFun (cond0_keep _ main_v16_10 (by decide)) _).trans (H.v n hn b h t d),
    fun n hn b h t d => (congrFun (cond0_keep _ main_v16_11 (by decide)) _).trans (H.e n hn b h t d)⟩

end Cert.ScanRefIdeal.Loops

end

end
-- ==== Proof.ScanRefSecond.lean ====
module

public import proofs.«01_k».proof.Proof.ScanRefFirst

/-! The reference's second loop: every gradient, from the last chunk down, and the results put together. -/

@[expose] public section

set_option maxRecDepth 16384

noncomputable section

namespace Cert.ScanRefIdeal.Loops

open Cert.ScanRefIdeal Cert.ScanRefIdeal.Gen
open Idealize.ShloMosaic Idealize.ShloMosaic.TcCoe Idealize.ShloMosaic.Tactic
open Idealize.ShloMosaic.StableHlo
open Cert.ScanMath

/-- What the second loop reads. -/
structure In1 (V : Valuation τ sig (Elt Ideal)) (A : Fin 2 → Fin 8 → Seq) : Prop where
  ct : ∀ (n : Fin 32) (b : Fin 2) (h : Fin 8) (t : Fin 64) (d : Fin 128), (V (Proc.devRef .tc main_v29_0) : C Ideal S32x2x8x64x128) (ix5 n b h t d) = (A b h).ct n t d
  s : ∀ (n : Fin 32) (b : Fin 2) (h : Fin 8) (j d : Fin 128), (V (Proc.devRef .tc main_v29_1) : C Ideal S32x2x8x128x128) (ix5 n b h j d) = (A b h).state n.val j d
  w : ∀ (n : Fin 32) (b : Fin 2) (h : Fin 8) (t : Fin 64) (d : Fin 128), (V (Proc.devRef .tc main_v29_2) : C Ideal S32x2x8x64x128) (ix5 n b h t d) = (A b h).w n t d
  q : ∀ (n : Fin 32) (b : Fin 2) (h : Fin 8) (t : Fin 64) (d : Fin 128), (V (Proc.devRef .tc main_v29_3) : C Ideal S32x2x8x64x128) (ix5 n b h t d) = (A b h).q n t d
  v : ∀ (n : Fin 32) (b : Fin 2) (h : Fin 8) (t : Fin 64) (d : Fin 128), (V (Proc.devRef .tc main_v29_4) : C Ideal S32x2x8x64x128) (ix5 n b h t d) = (A b h).vs n t d
  i : ∀ (n : Fin 32) (b : Fin 2) (h : Fin 8) (t d : Fin 64), (V (Proc.devRef .tc main_v29_5) : C Ideal S32x2x8x64x64) (ix5 n b h t d) = (A b h).i n t d
  e : ∀ (n : Fin 32) (b : Fin 2) (h : Fin 8) (t d : Fin 1), (V (Proc.devRef .tc main_v29_6) : C Ideal S32x2x8x1x1) (ix5 n b h t d) = (A b h).e n
  k : ∀ (n : Fin 32) (b : Fin 2) (h : Fin 8) (t : Fin 64) (d : Fin 128), (V (Proc.devRef .tc main_v29_7) : C Ideal S32x2x8x64x128) (ix5 n b h t d) = (A b h).k n t d

/-- What `k` trips of the second loop have left: the last `k` chunks' gradients. -/
structure Out1 (V : Valuation τ sig (Elt Ideal)) (A : Fin 2 → Fin 8 → Seq) (k : ℕ) : Prop where
  g : ∀ (b : Fin 2) (h : Fin 8) (j d : Fin 128), (V (Proc.devRef .tc main_v29_9) : C Ideal S2x8x128x128) (ix4 b h j d) = (A b h).grad k j d
  dq : ∀ (n : Fin 32), 32 ≤ n.val + k → ∀ (b : Fin 2) (h : Fin 8) (t : Fin 64) (d : Fin 128),
    (V (Proc.devRef .tc main_v29_10) : C Ideal S32x2x8x64x128) (ix5 n b h t d) = rows ((A b h).ct n) ((A b h).state n.val) t d
  dw : ∀ (n : Fin 32), 32 ≤ n.val + k → ∀ (b : Fin 2) (h : Fin 8) (t : Fin 64) (d : Fin 128),
    (V (Proc.devRef .tc main_v29_11) : C Ideal S32x2x8x64x128) (ix5 n b h t d) = dw ((A b h).dvs n) ((A b h).state n.val) t d
  du : ∀ (n : Fin 32), 32 ≤ n.val + k → ∀ (b : Fin 2) (h : Fin 8) (t : Fin 64) (d : Fin 128),
    (V (Proc.devRef .tc main_v29_12) : C Ideal S32x2x8x64x128) (ix5 n b h t d) = (A b h).dvs n t d
  di : ∀ (n : Fin 32), 32 ≤ n.val + k → ∀ (b : Fin 2) (h : Fin 8) (t d : Fin 64),
    (V (Proc.devRef .tc main_v29_13) : C Ideal S32x2x8x64x64) (ix5 n b h t d) = di ((A b h).ct n) ((A b h).vs n) t d
  dk : ∀ (n : Fin 32), 32 ≤ n.val + k → ∀ (b : Fin 2) (h : Fin 8) (t : Fin 64) (d : Fin 128),
    (V (Proc.devRef .tc main_v29_14) : C Ideal S32x2x8x64x128) (ix5 n b h t d) = rows ((A b h).vs n) ((A b h).after n) t d
  de : ∀ (n : Fin 32), 32 ≤ n.val + k → ∀ (b : Fin 2) (h : Fin 8),
    (V (Proc.devRef .tc main_v29_15) : C Ideal S32x2x8) (ix3 n b h) = de ((A b h).after n) ((A b h).state n.val)

section Step

variable {V : Valuation τ sig (Elt Ideal)} {A : Fin 2 → Fin 8 → Seq} (n : Fin 32)
variable (hi : Is (down (V (Proc.devRef .tc main_v29_8) : Ix Ideal)) n) (I : In1 V A) (H : Out1 V A (31 - n.val))

section
include hi I

theorem ct_in (b : Fin 2) (h : Fin 8) : M (back V).ct b h = (A b h).ct n := by funext t d; exact (rowsAt_apply _ _ n hi b h t d).trans (I.ct n b h t d)
theorem s_in (b : Fin 2) (h : Fin 8) : M (back V).s b h = (A b h).state n.val := by funext t d; exact (stateAt_apply _ _ n hi b h t d).trans (I.s n b h t d)
theorem w_in (b : Fin 2) (h : Fin 8) : M (back V).w b h = (A b h).w n := by funext t d; exact (rowsAt_apply _ _ n hi b h t d).trans (I.w n b h t d)
theorem q_in (b : Fin 2) (h : Fin 8) : M (back V).q b h = (A b h).q n := by funext t d; exact (rowsAt_apply _ _ n hi b h t d).trans (I.q n b h t d)
theorem v_in (b : Fin 2) (h : Fin 8) : M (back V).v b h = (A b h).vs n := by funext t d; exact (rowsAt_apply _ _ n hi b h t d).trans (I.v n b h t d)
theorem i_in (b : Fin 2) (h : Fin 8) : M (back V).i b h = (A b h).i n := by funext t d; exact (mixAt_apply _ _ n hi b h t d).trans (I.i n b h t d)
theorem e_in (b : Fin 2) (h : Fin 8) : (back V).e (ix4 b h 0 0) = (A b h).e n := (oneAt_apply _ _ n hi b h 0 0).trans (I.e n b h 0 0)
theorem k_in (b : Fin 2) (h : Fin 8) : M (back V).k b h = (A b h).k n := by funext t d; exact (rowsAt_apply _ _ n hi b h t d).trans (I.k n b h t d)

end

include H in
theorem g_in (b : Fin 2) (h : Fin 8) : M (back V).g b h = (A b h).after n := by funext t d; exact H.g b h t d

include hi I H in
theorem du_step (b : Fin 2) (h : Fin 8) (t : Fin 64) (d : Fin 128) : (back V).du (ix4 b h t d) = (A b h).dvs n t d := by
  refine (du_at _ b h t d).trans ?_
  rw [i_in n hi I, k_in n hi I, ct_in n hi I, g_in n H]; rfl

variable (R : ∀ b h, (A b h).Real)
include hi I H R

/-- One trip. -/
theorem step1 : Out1 (trip1 V) A (31 - n.val + 1) where
  g b h j d := by
    refine (congrFun (trip1_state V) _).trans ((next1_at _ b h j d).trans ?_)
    simp only [du_step n hi I H]
    have he := e_in n hi I b h
    dsimp only at he
    rw [g_in n H, he, ct_in n hi I, q_in n hi I, w_in n hi I, Seq.grad_succ]
    exact ((R b h).prev_eq n j d).symm
  dq a ha b h t d := by
    refine (congrFun (trip1_dq V) _).trans ((rowsSet_apply _ _ _ n hi a b h t d).trans ?_)
    split
    · rename_i e; subst e; refine (dq_at _ b h t d).trans ?_; rw [ct_in _ hi I, s_in _ hi I]
    · exact H.dq a (by omega) b h t d
  dw a ha b h t d := by
    refine (congrFun (trip1_dw V) _).trans ((rowsSet_apply _ _ _ n hi a b h t d).trans ?_)
    split
    · rename_i e; subst e; refine (dw_at _ b h t d).trans ?_
      simp only [du_step _ hi I H]
      rw [s_in _ hi I]; exact ((R b h).dw_eq _ t d).symm
    · exact H.dw a (by omega) b h t d
  du a ha b h t d := by
    refine (congrFun (trip1_du V) _).trans ((rowsSet_apply _ _ _ n hi a b h t d).trans ?_)
    split
    · rename_i e; subst e; exact du_step _ hi I H b h t d
    · exact H.du a (by omega) b h t d
  di a ha b h t d := by
    refine (congrFun (trip1_di V) _).trans ((mixSet_apply _ _ _ n hi a b h t d).trans ?_)
    split
    · rename_i e; subst e; refine (di_at _ b h t d).trans ?_; rw [ct_in _ hi I, v_in _ hi I]
    · exact H.di a (by omega) b h t d
  dk a ha b h t d := by
    refine (congrFun (trip1_dk V) _).trans ((rowsSet_apply _ _ _ n hi a b h t d).trans ?_)
    split
    · rename_i e; subst e; refine (dk_at _ b h t d).trans ?_; rw [v_in _ hi I, g_in _ H]
    · exact H.dk a (by omega) b h t d
  de a ha b h := by
    refine (congrFun (trip1_de V) _).trans ((numSet_apply _ _ _ n hi a b h).trans ?_)
    split
    · rename_i e; subst e; refine (de_at _ b h).trans ?_; rw [s_in _ hi I, g_in _ H]
    · exact H.de a (by omega) b h

end Step

section Entry

variable (V : Valuation τ sig (Elt Ideal))

set_option maxRecDepth 100000 in
theorem mid_ct : afterL [midOps] V (Proc.devRef .tc main_v29_0) = cut (V (Proc.devRef .tc main_arg6)) := by
  simp only [afterL_cons, afterL_nil]; after_reads_simp; rfl
set_option maxRecDepth 100000 in
theorem mid_s : afterL [midOps] V (Proc.devRef .tc main_v29_1) = V (Proc.devRef .tc main_v16_9) := by
  simp only [afterL_cons, afterL_nil]; after_reads_simp; rfl
set_option maxRecDepth 100000 in
theorem mid_w : afterL [midOps] V (Proc.devRef .tc main_v29_2) = V (Proc.devRef .tc main_v4) := by
  simp only [afterL_cons, afterL_nil]; after_reads_simp; rfl
set_option maxRecDepth 100000 in
theorem mid_q : afterL [midOps] V (Proc.devRef .tc main_v29_3) = V (Proc.devRef .tc main_v2) := by
  simp only [afterL_cons, afterL_nil]; after_reads_simp; rfl
set_option maxRecDepth 100000 in
theorem mid_v : afterL [midOps] V (Proc.devRef .tc main_v29_4) = V (Proc.devRef .tc main_v16_10) := by
  simp only [afterL_cons, afterL_nil]; after_reads_simp; rfl
set_option maxRecDepth 100000 in
theorem mid_i : afterL [midOps] V (Proc.devRef .tc main_v29_5) = V (Proc.devRef .tc main_v8) := by
  simp only [afterL_cons, afterL_nil]; after_reads_simp; rfl
set_option maxRecDepth 100000 in
theorem mid_e : afterL [midOps] V (Proc.devRef .tc main_v29_6) = V (Proc.devRef .tc main_v16_11) := by
  simp only [afterL_cons, afterL_nil]; after_reads_simp; rfl
set_option maxRecDepth 100000 in
theorem mid_k : afterL [midOps] V (Proc.devRef .tc main_v29_7) = V (Proc.devRef .tc main_v10) := by
  simp only [afterL_cons, afterL_nil]; after_reads_simp; rfl
set_option maxRecDepth 100000 in
theorem mid_g : afterL [midOps] V (Proc.devRef .tc main_v29_9)
    = (broadcastInDim S2x8x128x128 ![] bcast_S_S2x8x128x128 (constant (F := Ideal) S_ .f32 0x00000000#32) : C Ideal S2x8x128x128) := by
  simp only [afterL_cons, afterL_nil]; after_reads_simp; rfl
set_option maxRecDepth 100000 in
theorem mid_o : afterL [midOps] V (Proc.devRef .tc main_v18) = glue (V (Proc.devRef .tc main_v16_8)) := by
  simp only [afterL_cons, afterL_nil]; after_reads_simp; rfl
set_option maxRecDepth 100000 in
theorem pre_v2 : afterL [preOps] V (Proc.devRef .tc main_v2) = cut (V (Proc.devRef .tc main_arg2)) := by
  simp only [afterL_cons, afterL_nil]; after_reads_simp; rfl
set_option maxRecDepth 100000 in
theorem pre_v4 : afterL [preOps] V (Proc.devRef .tc main_v4) = cut (V (Proc.devRef .tc main_arg1)) := by
  simp only [afterL_cons, afterL_nil]; after_reads_simp; rfl
set_option maxRecDepth 100000 in
theorem pre_v8 : afterL [preOps] V (Proc.devRef .tc main_v8) = cutMix (V (Proc.devRef .tc main_arg4)) := by
  simp only [afterL_cons, afterL_nil]; after_reads_simp; rfl
set_option maxRecDepth 100000 in
theorem pre_v10 : afterL [preOps] V (Proc.devRef .tc main_v10) = cut (V (Proc.devRef .tc main_arg3)) := by
  simp only [afterL_cons, afterL_nil]; after_reads_simp; rfl
set_option maxRecDepth 100000 in
theorem post_du : afterL [postOps] V (Proc.devRef .tc main_v36) = glue (V (Proc.devRef .tc main_v29_12)) := by
  simp only [afterL_cons, afterL_nil]; after_reads_simp; rfl
set_option maxRecDepth 100000 in
theorem post_dw : afterL [postOps] V (Proc.devRef .tc main_v38) = glue (V (Proc.devRef .tc main_v29_11)) := by
  simp only [afterL_cons, afterL_nil]; after_reads_simp; rfl
set_option maxRecDepth 100000 in
theorem post_dq : afterL [postOps] V (Proc.devRef .tc main_v40) = glue (V (Proc.devRef .tc main_v29_10)) := by
  simp only [afterL_cons, afterL_nil]; after_reads_simp; rfl
set_option maxRecDepth 100000 in
theorem post_dk : afterL [postOps] V (Proc.devRef .tc main_v32) = glue (V (Proc.devRef .tc main_v29_14)) := by
  simp only [afterL_cons, afterL_nil]; after_reads_simp; rfl
set_option maxRecDepth 100000 in
theorem post_di : afterL [postOps] V (Proc.devRef .tc main_v34) = glueMix (V (Proc.devRef .tc main_v29_13)) := by
  simp only [afterL_cons, afterL_nil]; after_reads_simp; rfl
set_option maxRecDepth 100000 in
theorem post_de : afterL [postOps] V (Proc.devRef .tc main_v43) = spread (V (Proc.devRef .tc main_v29_15)) := by
  simp only [afterL_cons, afterL_nil]; after_reads_simp; rfl

end Entry

variable (m : (ℓ : Loc nD τ sig) → Buf (Elt Ideal) ℓ) (c : Dev nD)

theorem in1 : In1 (W1 m c) (Sq m c) where
  ct n b h t d := (congrFun (mid_ct _) _).trans ((cut_at _ n b h t d).trans (congrFun ((L0_keep m c main_arg6 (by decide) (by decide)).trans (pre_keep _ _ (by decide))) _))
  s n b h j d := (congrFun (mid_s _) _).trans ((left0 m c).z n n.isLt b h j d)
  w n b h t d := (congrFun (mid_w _) _).trans ((congrFun ((L0_keep m c main_v4 (by decide) (by decide)).trans (pre_v4 _)) _).trans (cut_at _ n b h t d))
  q n b h t d := (congrFun (mid_q _) _).trans ((congrFun ((L0_keep m c main_v2 (by decide) (by decide)).trans (pre_v2 _)) _).trans (cut_at _ n b h t d))
  v n b h t d := (congrFun (mid_v _) _).trans ((left0 m c).v n n.isLt b h t d)
  i n b h t d := (congrFun (mid_i _) _).trans ((congrFun ((L0_keep m c main_v8 (by decide) (by decide)).trans (pre_v8 _)) _).trans (cutMix_at _ n b h t d))
  e n b h t d := (congrFun (mid_e _) _).trans ((left0 m c).e n n.isLt b h t d)
  k n b h t d := (congrFun (mid_k _) _).trans ((congrFun ((L0_keep m c main_v10 (by decide) (by decide)).trans (pre_v10 _)) _).trans (cut_at _ n b h t d))

theorem in1_at (k : ℕ) : In1 (atTrip cond1 body1 (W1 m) k c) (Sq m c) where
  ct n b h t d := (congrFun (atTrip_keep (r := main_v29_0) (fun V => trip1_keep V _ (by decide)) (W1 m) c k) _).trans ((in1 m c).ct n b h t d)
  s n b h t d := (congrFun (atTrip_keep (r := main_v29_1) (fun V => trip1_keep V _ (by decide)) (W1 m) c k) _).trans ((in1 m c).s n b h t d)
  w n b h t d := (congrFun (atTrip_keep (r := main_v29_2) (fun V => trip1_keep V _ (by decide)) (W1 m) c k) _).trans ((in1 m c).w n b h t d)
  q n b h t d := (congrFun (atTrip_keep (r := main_v29_3) (fun V => trip1_keep V _ (by decide)) (W1 m) c k) _).trans ((in1 m c).q n b h t d)
  v n b h t d := (congrFun (atTrip_keep (r := main_v29_4) (fun V => trip1_keep V _ (by decide)) (W1 m) c k) _).trans ((in1 m c).v n b h t d)
  i n b h t d := (congrFun (atTrip_keep (r := main_v29_5) (fun V => trip1_keep V _ (by decide)) (W1 m) c k) _).trans ((in1 m c).i n b h t d)
  e n b h t d := (congrFun (atTrip_keep (r := main_v29_6) (fun V => trip1_keep V _ (by decide)) (W1 m) c k) _).trans ((in1 m c).e n b h t d)
  k n b h t d := (congrFun (atTrip_keep (r := main_v29_7) (fun V => trip1_keep V _ (by decide)) (W1 m) c k) _).trans ((in1 m c).k n b h t d)

variable (R : ∀ b h, (Sq m c b h).Real)
include R

/-- The second loop before each condition. -/
theorem out1 : ∀ k : ℕ, k ≤ 32 → Out1 (atTrip cond1 body1 (W1 m) k c) (Sq m c) k
  | 0, _ => ⟨fun b h j d => (congrFun (mid_g _) _).trans (by pointwise []; rfl),
      fun n hn => absurd hn (by omega), fun n hn => absurd hn (by omega), fun n hn => absurd hn (by omega),
      fun n hn => absurd hn (by omega), fun n hn => absurd hn (by omega), fun n hn => absurd hn (by omega)⟩
  | k + 1, hk => by
    rw [atTrip_succ]
    have ek : 31 - (31 - k) = k := by omega
    have H := step1 (⟨31 - k, by omega⟩ : Fin 32) (V := atTrip cond1 body1 (W1 m) k c) (A := Sq m c) ?_ (in1_at m c k)
      (by rw [ek]; exact out1 k (Nat.le_of_succ_le hk)) R
    · rw [ek] at H; exact H
    · have e := ctr1_at (W1 m) c (ctr1_entry _) k
      exact (congrArg (fun x : BitVec 32 => ((32#32 - x) - 1#32 : BitVec 32).toInt) (congrFun e _)).trans (down_int ⟨k, hk⟩)

/-- What the second loop leaves. -/
theorem left1 : Out1 (L1 m c) (Sq m c) 32 :=
  have H := out1 m c R 32 (le_refl _)
  ⟨fun b h j d => (congrFun (cond1_keep _ main_v29_9 (by decide)) _).trans (H.g b h j d),
    fun n hn b h t d => (congrFun (cond1_keep _ main_v29_10 (by decide)) _).trans (H.dq n hn b h t d),
    fun n hn b h t d => (congrFun (cond1_keep _ main_v29_11 (by decide)) _).trans (H.dw n hn b h t d),
    fun n hn b h t d => (congrFun (cond1_keep _ main_v29_12 (by decide)) _).trans (H.du n hn b h t d),
    fun n hn b h t d => (congrFun (cond1_keep _ main_v29_13 (by decide)) _).trans (H.di n hn b h t d),
    fun n hn b h t d => (congrFun (cond1_keep _ main_v29_14 (by decide)) _).trans (H.dk n hn b h t d),
    fun n hn b h => (congrFun (cond1_keep _ main_v29_15 (by decide)) _).trans (H.de n hn b h)⟩

/-! ## The seven results -/

omit R in
theorem o_ref : WF m c (Proc.devRef .tc main_v18) = (rowArr fun b h => (Sq m c b h).outs : C Ideal S2x8x2048x128) :=
  rows_ext _ _ fun b h n t d => (congrFun ((post_keep _ main_v18 (by decide)).trans ((L1_keep m c main_v18 (by decide) (by decide)).trans (mid_o _))) _).trans
    ((glue_at _ n b h t d).trans ((left0 m c).o n n.isLt b h t d))

theorem du_ref : WF m c (Proc.devRef .tc main_v36) = (rowArr fun b h => (Sq m c b h).dvs : C Ideal S2x8x2048x128) :=
  rows_ext _ _ fun b h n t d => (congrFun (post_du _) _).trans ((glue_at _ n b h t d).trans ((left1 m c R).du n (by omega) b h t d))

theorem dw_ref : WF m c (Proc.devRef .tc main_v38) = (rowArr fun b h n => dw ((Sq m c b h).dvs n) ((Sq m c b h).state n.val) : C Ideal S2x8x2048x128) :=
  rows_ext _ _ fun b h n t d => (congrFun (post_dw _) _).trans ((glue_at _ n b h t d).trans ((left1 m c R).dw n (by omega) b h t d))

theorem dq_ref : WF m c (Proc.devRef .tc main_v40) = (rowArr fun b h n => rows ((Sq m c b h).ct n) ((Sq m c b h).state n.val) : C Ideal S2x8x2048x128) :=
  rows_ext _ _ fun b h n t d => (congrFun (post_dq _) _).trans ((glue_at _ n b h t d).trans ((left1 m c R).dq n (by omega) b h t d))

theorem dk_ref : WF m c (Proc.devRef .tc main_v32) = (rowArr fun b h n => rows ((Sq m c b h).vs n) ((Sq m c b h).after n) : C Ideal S2x8x2048x128) :=
  rows_ext _ _ fun b h n t d => (congrFun (post_dk _) _).trans ((glue_at _ n b h t d).trans ((left1 m c R).dk n (by omega) b h t d))

theorem di_ref : WF m c (Proc.devRef .tc main_v34) = (rowArr fun b h n => di ((Sq m c b h).ct n) ((Sq m c b h).vs n) : C Ideal S2x8x2048x64) :=
  rows_ext _ _ fun b h n t d => (congrFun (post_di _) _).trans ((glueMix_at _ n b h t d).trans ((left1 m c R).di n (by omega) b h t d))

theorem de_ref : WF m c (Proc.devRef .tc main_v43) = (numArr fun b h n => de ((Sq m c b h).after n) ((Sq m c b h).state n.val) : C Ideal S2x8x256x128) := by
  funext y
  obtain ⟨b, h, r, d, rfl⟩ : ∃ b h r d, y = ix4 b h r d := ⟨y 0, y 1, y 2, y 3, by funext a; fin_cases a <;> rfl⟩
  exact (congrFun (post_de _) _).trans ((spread_at _ b h r d).trans ((left1 m c R).de _ (by omega) b h))

end Cert.ScanRefIdeal.Loops

end

end
-- ==== Proof.ScanClaim.lean ====
module

public import proofs.«01_k».proof.Defs
public import proofs.«01_k».proof.Proof.Gen.Pre_scan_finite
public import proofs.«01_k».proof.Proof.Finite
public import proofs.«01_k».proof.Proof.ScanBwdValue
public import proofs.«01_k».proof.Proof.ScanRefSecond

/-! The claims about the scan and its gradient. -/

@[expose] public section

set_option maxRecDepth 16384

noncomputable section

open Idealize.ShloMosaic Idealize.ShloMosaic.TcCoe Idealize.SL.Sem
open Cert.ScanMath

namespace Cert.ScanIdeal.Val

theorem frame_ideal_pre : Cert.quiescent_ScanIdeal_pre_scan_finite := fun m ρ _ => frame_ideal m ρ trivial

theorem frame_reference_pre : Cert.quiescent_ScanRefIdeal_pre_scan_finite := fun m ρ _ => frame_reference m ρ trivial

/-- The precondition makes every entry of the seven arguments a real number. -/
theorem real_of_pre (m : (ℓ : Loc Cert.ScanIdeal.nD Cert.ScanIdeal.τ Cert.ScanIdeal.sig) → Buf (Elt Ideal) ℓ) (H : Cert.Pre_ScanIdeal_scan_finite m)
    (c : Dev Cert.ScanIdeal.nD) (b : Fin 2) (h : Fin 8) : (Sq m c b h).Real := by
  have e := H c
  have e0 := congrFun e (Shape.Idx.first Cert.Pre_scan_finite.Gen.h_S_)
  dsimp only [Cert.Pre_scan_finite.fn, Cert.Pre_scan_finite.fn_part1] at e0
  obtain ⟨e0, h6⟩ := IntOp.andi_eq_one.1 e0
  obtain ⟨e0, h5⟩ := IntOp.andi_eq_one.1 e0
  obtain ⟨e0, h4⟩ := IntOp.andi_eq_one.1 e0
  obtain ⟨e0, h3⟩ := IntOp.andi_eq_one.1 e0
  obtain ⟨e0, h2⟩ := IntOp.andi_eq_one.1 e0
  obtain ⟨h0, h1⟩ := IntOp.andi_eq_one.1 e0
  haveI : Subsingleton Cert.Pre_scan_finite.S_.Idx := ⟨fun a b => funext fun k => k.elim0⟩
  exact {
    u := fun _ _ _ => all_re _ _ _ _ _ _ _ h0 _
    w := fun _ _ _ => all_re _ _ _ _ _ _ _ h1 _
    q := fun _ _ _ => all_re _ _ _ _ _ _ _ h2 _
    k := fun _ _ _ => all_re _ _ _ _ _ _ _ h3 _
    i := fun _ _ _ => all_re _ _ _ _ _ _ _ h4 _
    e := fun _ => all_re _ _ _ _ _ _ _ h5 _
    ct := fun _ _ _ => all_re _ _ _ _ _ _ _ h6 _ }

/-- The two programs end with equal results. -/
theorem equal : Cert.algebraic_ScanIdeal_ScanRefIdeal_pre_scan_finite := fun m ρ m' ρ' H hag => by
  have es : ∀ c, Cert.ScanRefIdeal.Loops.Sq m' c = Sq m c := fun c => by
    obtain ⟨a0, a1, a2, a3, a4, a5, a6⟩ := hag c
    unfold Cert.ScanRefIdeal.Loops.Sq Sq Cert.ScanRefIdeal.Loops.arg0 Cert.ScanRefIdeal.Loops.arg1 Cert.ScanRefIdeal.Loops.arg2 Cert.ScanRefIdeal.Loops.arg3
      Cert.ScanRefIdeal.Loops.arg4 Cert.ScanRefIdeal.Loops.arg5 Cert.ScanRefIdeal.Loops.arg6
    rw [a0, a1, a2, a3, a4, a5, a6]
  have R : ∀ c b h, (Cert.ScanRefIdeal.Loops.Sq m' c b h).Real := fun c b h => by rw [es]; exact real_of_pre m H c b h
  refine ⟨fun c => rowArr fun b h => (Sq m c b h).outs, fun c => rowArr fun b h => (Sq m c b h).dvs,
    fun c => rowArr fun b h n => dw ((Sq m c b h).dvs n) ((Sq m c b h).state n.val),
    fun c => rowArr fun b h n => rows ((Sq m c b h).ct n) ((Sq m c b h).state n.val),
    fun c => rowArr fun b h n => rows ((Sq m c b h).vs n) ((Sq m c b h).after n),
    fun c => rowArr fun b h n => di ((Sq m c b h).ct n) ((Sq m c b h).vs n),
    fun c => numArr fun b h n => de ((Sq m c b h).after n) ((Sq m c b h).state n.val), ?_, ?_⟩
  · refine (θ_run _ _ _).mono (fun _ h c => ?_) (Cert.ScanIdeal.Scan.run (F := Ideal) m ρ)
    obtain ⟨⟨h0, h1, h2, h3, h4, h5, h6⟩, ha⟩ := h.1 c
    exact ⟨h0.trans (o_arr m ρ c), h1.trans (du_arr m ρ c), h2.trans (dw_arr m ρ c), h3.trans (dq_arr m ρ c), h4.trans (dk_arr m ρ c),
      h5.trans (di_arr m ρ c), h6.trans (de_arr m ρ c), ha⟩
  · refine (θ_run _ _ _).mono (fun r h c => ?_) (Cert.ScanRefIdeal.Loops.runs m' ρ')
    have k := fun a (ha : a ∈ Cert.ScanRefIdeal.Loops.keepArgs) => Cert.ScanRefIdeal.Loops.WF_args m' c a ha
    refine ⟨(h c _ rfl).trans ((Cert.ScanRefIdeal.Loops.o_ref m' c).trans ?_), (h c _ rfl).trans ((Cert.ScanRefIdeal.Loops.du_ref m' c (R c)).trans ?_),
      (h c _ rfl).trans ((Cert.ScanRefIdeal.Loops.dw_ref m' c (R c)).trans ?_), (h c _ rfl).trans ((Cert.ScanRefIdeal.Loops.dq_ref m' c (R c)).trans ?_),
      (h c _ rfl).trans ((Cert.ScanRefIdeal.Loops.dk_ref m' c (R c)).trans ?_), (h c _ rfl).trans ((Cert.ScanRefIdeal.Loops.di_ref m' c (R c)).trans ?_),
      (h c _ rfl).trans ((Cert.ScanRefIdeal.Loops.de_ref m' c (R c)).trans ?_),
      (h c _ rfl).trans (k _ (by decide)), (h c _ rfl).trans (k _ (by decide)), (h c _ rfl).trans (k _ (by decide)), (h c _ rfl).trans (k _ (by decide)),
      (h c _ rfl).trans (k _ (by decide)), (h c _ rfl).trans (k _ (by decide)), (h c _ rfl).trans (k _ (by decide))⟩
    all_goals rw [es]

end Cert.ScanIdeal.Val

end

end
-- ==== Proof.GateRow.lean ====
module

public import proofs.«01_k».proof.Proof.ScanMath
public import Idealize.ShloMosaic.Lib.Affine

/-! The gates of the recurrence, one number at a time: silu's gradient, softplus and its gradient as the kernel and as the
    reference write them. -/

@[expose] public section

noncomputable section

namespace Cert.GateRow

open Idealize.ShloMosaic Cert.ScanMath

/-- silu's gradient, as one factor. -/
def dact (x : EReal) : EReal := Ideal.logistic x * (1 + x * (1 - Ideal.logistic x))
/-- silu's gradient times `d`, as the product rule writes it. -/
def dsilu (x d : EReal) : EReal := d * Ideal.logistic x + x * d * (Ideal.logistic x * (1 - Ideal.logistic x))

/-- `exp (-|x|)`. -/
def tail (x : EReal) : EReal := Ideal.exp (-max x (-x))
/-- Softplus. -/
def sp (x : EReal) : EReal := max x 0 + Ideal.log (1 + tail x)
/-- The gradient of `max x 0`. -/
def corner (x : EReal) : EReal := if 0 < x then 1 else if x = 0 then Ideal.ofBits FTy.f32 1056964608#32 else 0
/-- The kernel's gradient through the logarithm. -/
def through (y x : EReal) : EReal := -(Ideal.div y (1 + tail x) * tail x)
/-- The kernel's gradient of softplus, times `y`. -/
def gate (y x : EReal) : EReal := (if 0 ≤ x then through y x else 0) + -(if 0 ≤ x then 0 else through y x) + y * corner x
/-- The word of infinity. -/
abbrev inf : EReal := Ideal.ofBits FTy.f32 2139095040#32
/-- The reference's factor of softplus's gradient. -/
def factor (x : EReal) : EReal := Ideal.exp ((if x = inf then 0 else x) - (if sp x = inf then 0 else sp x))
/-- The logistic function's gradient. -/
def dlog (x : EReal) : EReal := Ideal.logistic x * (1 - Ideal.logistic x)

theorem inf_eq : inf = ⊤ := by simp [inf, Ideal.ofBits, Ideal.ieee]

theorem coe_max (x y : ℝ) : ((max x y : ℝ) : EReal) = max (x : EReal) y := EReal.coe_strictMono.monotone.map_max

theorem tail_coe (x : ℝ) : tail x = (Real.exp (-|x|) : ℝ) := by
  rw [tail, ← EReal.coe_neg, ← coe_max, ← EReal.coe_neg, Ideal.exp_coe]; rfl

theorem sp_coe (x : ℝ) : sp x = (max x 0 + Real.log (1 + Real.exp (-|x|)) : ℝ) := by
  have h : ¬ (1 + Real.exp (-|x|)) ≤ 0 := by have := Real.exp_pos (-|x|); linarith
  rw [sp, tail_coe, ← EReal.coe_one, ← EReal.coe_add, Ideal.log_coe, if_neg h, ← EReal.coe_zero, ← coe_max, ← EReal.coe_add]

theorem sp_re {x : EReal} (h : Re x) : Re (sp x) := by obtain ⟨x, rfl⟩ := h; exact ⟨_, sp_coe x⟩

theorem factor_coe (x : ℝ) : factor x = (Real.exp (x - (max x 0 + Real.log (1 + Real.exp (-|x|)))) : ℝ) := by
  rw [factor, inf_eq, if_neg (EReal.coe_ne_top x), sp_coe, if_neg (EReal.coe_ne_top _), ← EReal.coe_sub, Ideal.exp_coe]

theorem through_coe (y x : ℝ) : through y x = (-(y * (1 / (1 + Real.exp (-|x|))) * Real.exp (-|x|)) : ℝ) := by
  have h : (1 + Real.exp (-|x|)) ≠ 0 := by have := Real.exp_pos (-|x|); positivity
  rw [through, tail_coe, ← EReal.coe_one, ← EReal.coe_add, Ideal.div_coe h]
  push_cast; rfl

/-- Away from the corner the kernel's gradient is the reference's. -/
theorem gate_eq {y x : EReal} (hy : Re y) (hx : Re x) (h0 : x ≠ 0) : gate y x = y * factor x := by
  obtain ⟨y, rfl⟩ := hy
  obtain ⟨x, rfl⟩ := hx
  have hx0 : x ≠ 0 := fun h => h0 (by rw [h, EReal.coe_zero])
  have hp := Real.exp_pos (-|x|)
  have hq : (1 + Real.exp (-|x|)) ≠ 0 := by positivity
  rw [gate, through_coe, factor_coe, corner, if_neg h0]
  rcases lt_or_gt_of_ne hx0 with h | h
  · have hn : ¬ (0 : EReal) ≤ (x : EReal) := by rw [← EReal.coe_zero, EReal.coe_le_coe_iff]; linarith
    have hn' : ¬ (0 : EReal) < (x : EReal) := fun h => hn h.le
    rw [if_neg hn, if_neg hn, if_neg hn', mul_zero, add_zero, zero_add, ← EReal.coe_neg, ← EReal.coe_mul]
    congr 1
    rw [max_eq_right h.le, zero_add, Real.exp_sub, Real.exp_log (by positivity), abs_of_neg h, neg_neg]
    ring_nf
  · have hn : (0 : EReal) ≤ (x : EReal) := by rw [← EReal.coe_zero, EReal.coe_le_coe_iff]; linarith
    have hn' : (0 : EReal) < (x : EReal) := by rw [← EReal.coe_zero, EReal.coe_lt_coe_iff]; exact h
    rw [if_pos hn, if_pos hn, if_pos hn', neg_zero, add_zero, mul_one, ← EReal.coe_add, ← EReal.coe_mul]
    congr 1
    rw [max_eq_left h.le, sub_add_cancel_left, Real.exp_neg (Real.log _), Real.exp_log (by positivity)]
    field_simp
    ring_nf

/-- Nothing comes back where nothing came in. -/
theorem gate_zero (x : EReal) : gate 0 x = 0 := by
  have h : through 0 x = 0 := by
    have e : Ideal.div 0 (1 + tail x) = 0 := by
      induction x with
      | bot => simp [tail, Ideal.div]
      | top => simp [tail, Ideal.div]
      | coe x =>
        have h : (1 + Real.exp (-|x|)) ≠ 0 := by have := Real.exp_pos (-|x|); positivity
        rw [tail_coe, ← EReal.coe_one, ← EReal.coe_add, Ideal.div_coe h, zero_mul]
    rw [through, e, zero_mul, neg_zero]
  rw [gate, h, zero_mul, ite_self, neg_zero, add_zero, add_zero]

theorem dsilu_eq {d x : EReal} (hd : Re d) : d * dact x = dsilu x d := by
  obtain ⟨d, rfl⟩ := hd
  induction x with
  | bot => simp [dact, dsilu]
  | top =>
    have e : (1 : EReal) - 1 = 0 := by rw [← EReal.coe_one, ← EReal.coe_sub, sub_self, EReal.coe_zero]
    simp [dact, dsilu, e]
  | coe x =>
    rw [dact, dsilu, Ideal.logistic_coe]
    generalize (1 + Real.exp (-x))⁻¹ = s
    rw [← EReal.coe_one]
    simp only [← EReal.coe_mul, ← EReal.coe_add, ← EReal.coe_sub]
    congr 1
    ring

theorem exp_re {x : EReal} (h : Re x) : Re (Ideal.exp x) := by obtain ⟨x, rfl⟩ := h; exact ⟨_, Ideal.exp_coe x⟩
theorem neg_re {x : EReal} (h : Re x) : Re (-x) := by obtain ⟨x, rfl⟩ := h; exact ⟨-x, rfl⟩

/-- A factor and a sign leave a sum of real numbers. -/
theorem neg_sum_mul {ι : Type} (s : Finset ι) (f : ι → EReal) (e : EReal) (hf : ∀ a, Re (f a)) (he : Re e) : ∑ a ∈ s, -f a * e = -(∑ a ∈ s, f a) * e := by
  classical
  obtain ⟨e, rfl⟩ := he
  induction s using Finset.induction_on with
  | empty => simp
  | insert a s ha ih =>
    rw [Finset.sum_insert ha, Finset.sum_insert ha, ih]
    obtain ⟨x, hx⟩ := hf a
    obtain ⟨y, hy⟩ := Re.sum s f hf
    rw [hx, hy]
    simp only [← EReal.coe_neg, ← EReal.coe_mul, ← EReal.coe_add]
    congr 1
    ring

end Cert.GateRow

end

end
-- ==== Proof.PrepKernel.lean ====
module

public import proofs.«01_k».proof.Proof.Gen.PrepIdeal.Frame
public import proofs.«01_k».proof.Proof.GateRow
public import Idealize.ShloMosaic.Lib.Pipeline.ValueKit

/-! What the kernel of the gates' gradient computes of a block, entry by entry. -/

@[expose] public section

set_option maxRecDepth 16384

noncomputable section

open Idealize.ShloMosaic Idealize.ShloMosaic.TcCoe Idealize.SL.Sem
open Cert.GateRow

namespace Cert.PrepIdeal.Val
open Cert.PrepIdeal Cert.PrepIdeal.Gen

abbrev Blk := Vec Ideal S256x128 .f32
abbrev Row := Vec Ideal S1x128 .f32

variable (a : Blk) (al b : Row) (r : Fin 256) (l : Fin 128)

theorem pay51 : k0_pay51 (F := Ideal) a b (ix2 r l) = a (ix2 r l) + b (ix2 0 l) := by pointwise [k0_pay51, k0_pay48]
theorem pay52 : k0_pay52 (F := Ideal) a b (ix2 r l) = corner (a (ix2 r l) + b (ix2 0 l)) := by pointwise [k0_pay52, pay51, corner]
theorem pay53 : k0_pay53 (F := Ideal) a b (ix2 r l) = BitVec.ofBool (decide (0 ≤ a (ix2 r l) + b (ix2 0 l))) := by pointwise [k0_pay53, pay51]
theorem pay54 : k0_pay54 (F := Ideal) a b (ix2 r l) = tail (a (ix2 r l) + b (ix2 0 l)) := by
  pointwise [k0_pay54, pay51, tail]
  rw [zero_sub]
  rfl
theorem pay55 : k0_pay55 (F := Ideal) a b (ix2 r l) = 1 + tail (a (ix2 r l) + b (ix2 0 l)) := by pointwise [k0_pay55, pay54]
theorem pay56 : k0_pay56 (F := Ideal) a b (ix2 r l) = sp (a (ix2 r l) + b (ix2 0 l)) := by pointwise [k0_pay56, pay55, pay51, sp]
theorem pay57 : k0_pay57 (F := Ideal) a (ix2 r l) = dlog (a (ix2 r l)) := by pointwise [k0_pay57, k0_pay48, dlog]
theorem pay50 (q : Fin 1) : k0_pay50 (F := Ideal) al (ix2 q l) = -Ideal.exp (al (ix2 q l)) := by pointwise [k0_pay50, k0_pay49]; rw [zero_sub]
theorem pay49 (q : Fin 1) : k0_pay49 (F := Ideal) al (ix2 q l) = Ideal.exp (al (ix2 q l)) := by pointwise [k0_pay49]
theorem pay1 (v : Vec Ideal S256x3072 .f32) (k : Fin 3072) : k0_pay1 (F := Ideal) v (ix2 r k) = dact (v (ix2 r k)) := by pointwise [k0_pay1, dact]

/-- The softplus argument's gradient. -/
theorem pay58 (cg : Blk) : k0_pay58 (F := Ideal) cg (k0_pay50 al) (k0_pay52 a b) (k0_pay53 a b) (k0_pay54 a b) (k0_pay55 a b) (ix2 r l)
    = gate (-Ideal.exp (al (ix2 0 l)) * cg (ix2 r l)) (a (ix2 r l) + b (ix2 0 l)) := by
  pointwise [k0_pay58, pay50, pay52, pay53, pay54, pay55, gate, through]
  simp only [zero_sub]
theorem pay59 (cg cb : Blk) : k0_pay59 (F := Ideal) cg cb (k0_pay50 al) (k0_pay52 a b) (k0_pay53 a b) (k0_pay54 a b) (k0_pay55 a b) (k0_pay57 a) (ix2 r l)
    = cb (ix2 r l) * dlog (a (ix2 r l)) + gate (-Ideal.exp (al (ix2 0 l)) * cg (ix2 r l)) (a (ix2 r l) + b (ix2 0 l)) := by
  pointwise [k0_pay59, pay58, pay57]
theorem pay61 (cg : Blk) (old : Row) (q : Fin 1) : k0_pay61 (F := Ideal) cg (k0_pay49 al) (k0_pay56 a b) old (ix2 q l)
    = old (ix2 0 l) + -(∑ r, cg (ix2 r l) * sp (a (ix2 r l) + b (ix2 0 l))) * Ideal.exp (al (ix2 0 l)) := by
  obtain rfl : q = 0 := Subsingleton.elim _ _
  pointwise [k0_pay61, pay49, pay56]
  rw [zero_sub]
theorem pay62 (cg : Blk) (old : Row) (q : Fin 1) : k0_pay62 (F := Ideal) cg (k0_pay50 al) (k0_pay52 a b) (k0_pay53 a b) (k0_pay54 a b) (k0_pay55 a b) old (ix2 q l)
    = old (ix2 0 l) + ∑ r, gate (-Ideal.exp (al (ix2 0 l)) * cg (ix2 r l)) (a (ix2 r l) + b (ix2 0 l)) := by
  obtain rfl : q = 0 := Subsingleton.elim _ _
  pointwise [k0_pay62, pay58]

/-- The eight heads' row sums in the lanes 0 to 7, and in the lanes 8 to 15. -/
def lanes (f : Fin 8 → EReal) (l : Fin 128) : EReal := if h : l.val < 8 then f ⟨l.val, h⟩ else 0
def lanes8 (f : Fin 8 → EReal) (l : Fin 128) : EReal := if h : 8 ≤ l.val ∧ l.val < 16 then f ⟨l.val - 8, by omega⟩ else 0

theorem sel (n : ℕ) (hn : n < 128) (x y : EReal) : Scalar.select (IntOp.cmpi .eq (BitVec.ofNat 32 l.val) (BitVec.ofNat 32 n)) x y = if l.val = n then x else y := by
  have h : (BitVec.ofNat 32 l.val = BitVec.ofNat 32 n) ↔ l.val = n := by
    rw [BitVec.toNat_inj.symm, BitVec.toNat_ofNat, BitVec.toNat_ofNat, Nat.mod_eq_of_lt (by omega), Nat.mod_eq_of_lt (by omega)]
  have hb : (BitVec.ofNat 32 l.val == BitVec.ofNat 32 n) = decide (l.val = n) := by
    rw [Bool.eq_iff_iff, beq_iff_eq, decide_eq_true_eq]; exact h
  by_cases e : l.val = n
  · simp [Scalar.select, IntOp.cmpi, hb, e]
  · simp [Scalar.select, IntOp.cmpi, hb, e]

/-- The lane numbers. -/
abbrev lane : IVec S256x128 32 := iota .tc S256x128 32 [1] iota_S256x128_d1_w32

/-- The row sums of the decay's gradient, lane by lane. -/
def sums (B : Vec Ideal S1x8x256x128 .f32) : Blk :=
  k0_pay45 lane (k0_pay38 lane (k0_pay33 lane (k0_pay28 lane (k0_pay23 lane (k0_pay18 lane (k0_pay13 lane (k0_pay8 k0_pay2 k0_pay7 (View.ld B (Rect.unit ![0, 0, 0, 0] ![1, 1, 256, 128] inb_S1x8x256x128_S1x1x256x128_0_0_0_0)))
    (View.ld B (Rect.unit ![0, 1, 0, 0] ![1, 1, 256, 128] inb_S1x8x256x128_S1x1x256x128_0_1_0_0)))
    (View.ld B (Rect.unit ![0, 2, 0, 0] ![1, 1, 256, 128] inb_S1x8x256x128_S1x1x256x128_0_2_0_0)))
    (View.ld B (Rect.unit ![0, 3, 0, 0] ![1, 1, 256, 128] inb_S1x8x256x128_S1x1x256x128_0_3_0_0)))
    (View.ld B (Rect.unit ![0, 4, 0, 0] ![1, 1, 256, 128] inb_S1x8x256x128_S1x1x256x128_0_4_0_0)))
    (View.ld B (Rect.unit ![0, 5, 0, 0] ![1, 1, 256, 128] inb_S1x8x256x128_S1x1x256x128_0_5_0_0)))
    (View.ld B (Rect.unit ![0, 6, 0, 0] ![1, 1, 256, 128] inb_S1x8x256x128_S1x1x256x128_0_6_0_0)))
    (View.ld B (Rect.unit ![0, 7, 0, 0] ![1, 1, 256, 128] inb_S1x8x256x128_S1x1x256x128_0_7_0_0))

/-- The row sums of the write strength's gradient. -/
def sums8 (B : Vec Ideal S1x8x256x128 .f32) : Blk :=
  k0_pay47 (k0_pay41 (k0_pay34 lane (k0_pay29 lane (k0_pay24 lane (k0_pay19 lane (k0_pay14 lane (k0_pay9 lane k0_pay3 (View.ld B (Rect.unit ![0, 0, 0, 0] ![1, 1, 256, 128] inb_S1x8x256x128_S1x1x256x128_0_0_0_0)))
    (View.ld B (Rect.unit ![0, 1, 0, 0] ![1, 1, 256, 128] inb_S1x8x256x128_S1x1x256x128_0_1_0_0)))
    (View.ld B (Rect.unit ![0, 2, 0, 0] ![1, 1, 256, 128] inb_S1x8x256x128_S1x1x256x128_0_2_0_0)))
    (View.ld B (Rect.unit ![0, 3, 0, 0] ![1, 1, 256, 128] inb_S1x8x256x128_S1x1x256x128_0_3_0_0)))
    (View.ld B (Rect.unit ![0, 4, 0, 0] ![1, 1, 256, 128] inb_S1x8x256x128_S1x1x256x128_0_4_0_0)))
    (View.ld B (Rect.unit ![0, 5, 0, 0] ![1, 1, 256, 128] inb_S1x8x256x128_S1x1x256x128_0_5_0_0))) (k0_pay39 lane) (k0_pay40 (View.ld B (Rect.unit ![0, 6, 0, 0] ![1, 1, 256, 128] inb_S1x8x256x128_S1x1x256x128_0_6_0_0)))) (k0_pay46 lane) (View.ld B (Rect.unit ![0, 7, 0, 0] ![1, 1, 256, 128] inb_S1x8x256x128_S1x1x256x128_0_7_0_0))

theorem sums_at (B : Vec Ideal S1x8x256x128 .f32) : sums B (ix2 r l) = lanes (fun h => ∑ k : Fin 128, B (ix4 0 h r k)) l := by
  pointwise [sums, lane, k0_pay45, k0_pay38, k0_pay33, k0_pay28, k0_pay23, k0_pay18, k0_pay13, k0_pay8, k0_pay7, k0_pay2]
  rw [sel l 7 (by omega), sel l 6 (by omega), sel l 5 (by omega), sel l 4 (by omega), sel l 3 (by omega), sel l 2 (by omega), sel l 1 (by omega), sel l 0 (by omega), lanes]
  obtain ⟨l, hl⟩ := l
  dsimp only
  by_cases h : l < 8
  · interval_cases l <;> simp <;> rfl
  · rw [dif_neg h]
    repeat rw [if_neg (by omega)]

theorem sums8_at (B : Vec Ideal S1x8x256x128 .f32) : sums8 B (ix2 r l) = lanes8 (fun h => ∑ k : Fin 128, B (ix4 0 h r k)) l := by
  pointwise [sums8, lane, k0_pay47, k0_pay46, k0_pay41, k0_pay40, k0_pay39, k0_pay34, k0_pay29, k0_pay24, k0_pay19, k0_pay14, k0_pay9, k0_pay3]
  rw [sel l 15 (by omega), sel l 14 (by omega), sel l 13 (by omega), sel l 12 (by omega), sel l 11 (by omega), sel l 10 (by omega), sel l 9 (by omega), sel l 8 (by omega), lanes8]
  obtain ⟨l, hl⟩ := l
  dsimp only
  by_cases h : 8 ≤ l ∧ l < 16
  · obtain ⟨h8, h16⟩ := h
    interval_cases l <;> simp <;> rfl
  · rw [dif_neg h]
    repeat rw [if_neg (by omega)]

end Cert.PrepIdeal.Val

end

end
-- ==== Proof.PrepRef.lean ====
module

public import proofs.«01_k».proof.Proof.Gen.PrepRefIdeal.Read
public import proofs.«01_k».proof.Proof.GateRow
public import Idealize.ShloMosaic.Lib.Pipeline.ValueKit

/-! The reference of the gates' gradient, entry by entry. -/

@[expose] public section

set_option maxRecDepth 16384

noncomputable section

open Idealize.ShloMosaic Idealize.ShloMosaic.TcCoe Idealize.SL.Sem
open Cert.GateRow

namespace Cert.PrepIdeal.Val
open Cert.PrepRefIdeal Cert.PrepRefIdeal.Read

/-- The arguments' contents. -/
abbrev Conv := (⟨S4096x3072, .f32⟩ : BufTy).Contents (Elt Ideal)
abbrev Proj := (⟨S4096x4112, .f32⟩ : BufTy).Contents (Elt Ideal)
abbrev Eight := (⟨S8, .f32⟩ : BufTy).Contents (Elt Ideal)
abbrev Heads := (⟨S2x8x2048x128, .f32⟩ : BufTy).Contents (Elt Ideal)

/-- The sequence a row of the flattened array belongs to, and its position there. -/
abbrev sq (R : Fin 4096) : Fin 2 := ⟨R.val / 2048, by omega⟩
abbrev pos (R : Fin 4096) : Fin 2048 := ⟨R.val % 2048, by omega⟩
/-- The column of head `h`'s decay and of its write strength in the projection. -/
abbrev acol (h : Fin 8) : Fin 4112 := ⟨4096 + h.val, by omega⟩
abbrev bcol (h : Fin 8) : Fin 4112 := ⟨4096 + (8 + h.val), by omega⟩

variable (cv : Conv) (p : Proj) (al db : Eight) (dq dk dv dg dbe : Heads)

/-- The number softplus is taken of, and the gradient that reaches it, for one row and head. -/
abbrev arg (R : Fin 4096) (h : Fin 8) : EReal := p (ix2 R (acol h)) + db (ix1 h)
abbrev tot (d : Heads) (R : Fin 4096) (h : Fin 8) : EReal := ∑ k : Fin 128, d (ix4 (sq R) h (pos R) k)
abbrev cot (R : Fin 4096) (h : Fin 8) : EReal := -Ideal.exp (al (ix1 h)) * tot dg R h

theorem v16 (R : Fin 4096) (h : Fin 8) : val_main_v16 (F := Ideal) p db (ix2 R h) = arg p db R h := by
  pointwise [val_main_v16, val_main_v15, val_main_v14, val_main_v13, val_main_v0]
theorem v17_0 (R : Fin 4096) (h : Fin 8) : val_main_v17_0 (F := Ideal) p db (ix2 R h) = sp (arg p db R h) := by
  pointwise [val_main_v17_0, val_main_call1_v4, val_main_call1_v11, val_main_call1_v10, val_main_call1_v9, val_main_call1_v8, val_main_call1_v7, val_main_call1_v3, val_main_call1_v2,
    val_main_call1_v1, val_main_call1_v0, val_main_call1_cst, v16, sp, tail, Ideal.log1p]
  exact if_neg fun h => h rfl
theorem v17_1 (R : Fin 4096) (h : Fin 8) : val_main_v17_1 (F := Ideal) p db (ix2 R h) = factor (arg p db R h) := by
  pointwise [val_main_v17_1, val_main_call1_v21, val_main_call1_v20, val_main_call1_v19, val_main_call1_v18, val_main_call1_v17, val_main_call1_v16, val_main_call1_v14, val_main_call1_v15,
    val_main_call1_v13, val_main_call1_cst_0, val_main_call1_cst_1, val_main_call1_cst_2, val_main_call1_cst_3, v16, v17_0, factor, inf]
theorem v48 (R : Fin 4096) (h : Fin 8) : val_main_v48 (F := Ideal) dg (ix2 R h) = tot dg R h := by
  pointwise [val_main_v48, val_main_v47, val_main_v46, val_main_v45, val_main_v44, val_main_cst_4, val_main_cst_5, Finset.univ_unique, Finset.sum_singleton]
theorem v43 (R : Fin 4096) (h : Fin 8) : val_main_v43 (F := Ideal) dbe (ix2 R h) = tot dbe R h := by
  pointwise [val_main_v43, val_main_v42, val_main_v41, val_main_v40, val_main_v39, val_main_cst_2, val_main_cst_3, Finset.univ_unique, Finset.sum_singleton]
theorem v57 (R : Fin 4096) (h : Fin 8) : val_main_v57 (F := Ideal) p al db dg (ix2 R h) = cot al dg R h * factor (arg p db R h) := by
  pointwise [val_main_v57, val_main_v52, val_main_v51, val_main_v18, val_main_v12, val_main_v11, v48, v17_1]
theorem v49 (R : Fin 4096) (h : Fin 8) : val_main_v49 (F := Ideal) p dbe (ix2 R h) = tot dbe R h * dlog (p (ix2 R (bcol h))) := by
  pointwise [val_main_v49, val_main_v30, val_main_v29, val_main_v28, val_main_cst_1, val_main_v27, val_main_v26, val_main_cst_0, val_main_v25, val_main_v24, val_main_cst,
    val_main_v23, val_main_v22, val_main_v21, val_main_v0, v43, dlog, Ideal.logistic]

theorem v1_2 (R : Fin 4096) (k : Fin 3072) : val_main_v1_2 (F := Ideal) cv (ix2 R k) = Ideal.logistic (cv (ix2 R k)) := by
  pointwise [val_main_v1_2, val_main_call0_v4, val_main_call0_cst_0, val_main_call0_v3, val_main_call0_v2, val_main_call0_cst, val_main_call0_v1, val_main_call0_v0, Ideal.logistic]
/-- The gradient of the convolution's output, where the three gradients stand next to each other. -/
theorem v72 (R : Fin 4096) (k : Fin 3072) : val_main_v72 (F := Ideal) cv dq dk dv (ix2 R k) = dsilu (cv (ix2 R k)) (val_main_v71 (F := Ideal) dq dk dv (ix2 R k)) := by
  pointwise [val_main_v72, val_main_call3_v2, val_main_call3_v1, val_main_call3_v0, val_main_v1_1, val_main_call0_v7, val_main_call0_v6, val_main_call0_cst_1, v1_2, dsilu]
theorem v70 (R : Fin 4096) (h : Fin 8) (k : Fin 128) : val_main_v70 (F := Ideal) dq (ix2 R ⟨h.val * 128 + k.val, by omega⟩) = dq (ix4 (sq R) h (pos R) k) := by
  pointwise [val_main_v70, val_main_v69]
theorem v68 (R : Fin 4096) (h : Fin 8) (k : Fin 128) : val_main_v68 (F := Ideal) dk (ix2 R ⟨h.val * 128 + k.val, by omega⟩) = dk (ix4 (sq R) h (pos R) k) := by
  pointwise [val_main_v68, val_main_v67]
theorem v66 (R : Fin 4096) (h : Fin 8) (k : Fin 128) : val_main_v66 (F := Ideal) dv (ix2 R ⟨h.val * 128 + k.val, by omega⟩) = dv (ix4 (sq R) h (pos R) k) := by
  pointwise [val_main_v66, val_main_v65]
theorem v71_q (R : Fin 4096) (h : Fin 8) (k : Fin 128) : val_main_v71 (F := Ideal) dq dk dv (ix2 R ⟨h.val * 128 + k.val, by omega⟩) = dq (ix4 (sq R) h (pos R) k) := by
  refine Eq.trans ?_ (v70 dq R h k)
  pointwise [val_main_v71]
  exact dif_pos (by omega)
theorem v71_k (R : Fin 4096) (h : Fin 8) (k : Fin 128) : val_main_v71 (F := Ideal) dq dk dv (ix2 R ⟨1024 + (h.val * 128 + k.val), by omega⟩) = dk (ix4 (sq R) h (pos R) k) := by
  refine Eq.trans ?_ (v68 dk R h k)
  pointwise [val_main_v71]
  exact dif_pos (by omega)
theorem v71_v (R : Fin 4096) (h : Fin 8) (k : Fin 128) : val_main_v71 (F := Ideal) dq dk dv (ix2 R ⟨2048 + (h.val * 128 + k.val), by omega⟩) = dv (ix4 (sq R) h (pos R) k) := by
  refine Eq.trans ?_ (v66 dv R h k)
  pointwise [val_main_v71]
  rw [dif_neg (by omega), dif_neg (by omega)]
  exact congrArg (val_main_v66 dv) (congrArg (ix2 R) (Fin.ext (by simp only; omega)))

theorem cst_6 (i : S_.Idx) : val_main_cst_6 (F := Ideal) i = 0 := by pointwise [val_main_cst_6]
theorem cst_11 (i : S_.Idx) : val_main_cst_11 (F := Ideal) i = 0 := by pointwise [val_main_cst_11]
theorem call4_v0 (i : S_.Idx) : val_main_call4_v0 (F := Ideal) i = 0 := by
  show FloatOps.sitofp (F := Ideal) FTy.f32 (0#32) = 0
  simp [FloatOps.sitofp]
theorem call5_v0 (i : S_.Idx) : val_main_call5_v0 (F := Ideal) i = 0 := call4_v0 i

/-- The gradient of the projection's gate columns, and nothing in the lanes after them. -/
theorem v74_g (R : Fin 4096) (h : Fin 8) : val_main_v74 (F := Ideal) p al db dg dbe (ix2 R ⟨h.val, by omega⟩) = cot al dg R h * factor (arg p db R h) := by
  pointwise [val_main_v74, val_main_v73, val_main_v62, val_main_v61, val_main_v50]
  rw [dif_pos (by omega), dif_neg (by simp), cst_6, zero_add, v57]
theorem v74_b (R : Fin 4096) (h : Fin 8) : val_main_v74 (F := Ideal) p al db dg dbe (ix2 R ⟨8 + h.val, by omega⟩) = tot dbe R h * dlog (p (ix2 R (bcol h))) := by
  pointwise [val_main_v74, val_main_v73, val_main_v62, val_main_v61, val_main_v50]
  rw [dif_pos (by omega), cst_11, add_zero, v49]
theorem v74_z (R : Fin 4096) (j : Fin 112) : val_main_v74 (F := Ideal) p al db dg dbe (ix2 R ⟨16 + j.val, by omega⟩) = 0 := by
  pointwise [val_main_v74, val_main_v73]
  exact call4_v0 _

theorem v64 (h : Fin 8) : val_main_v64 (F := Ideal) p al db dg (ix1 h) = -(∑ R : Fin 4096, tot dg R h * sp (arg p db R h)) * Ideal.exp (al (ix1 h)) := by
  pointwise [val_main_v64, val_main_v63, val_main_v56, val_main_v55, val_main_v54, val_main_v53, val_main_cst_7, val_main_cst_8, val_main_v11, v48, v17_0, Finset.univ_unique, Finset.sum_singleton]
theorem v60 (h : Fin 8) : val_main_v60 (F := Ideal) p al db dg (ix1 h) = ∑ R : Fin 4096, cot al dg R h * factor (arg p db R h) := by
  pointwise [val_main_v60, val_main_v59, val_main_v58, val_main_cst_9, val_main_cst_10, v57, Finset.univ_unique, Finset.sum_singleton]
theorem v78_a (h : Fin 8) : val_main_v78 (F := Ideal) p al db dg (ix2 0 ⟨h.val, by omega⟩) = -(∑ R : Fin 4096, tot dg R h * sp (arg p db R h)) * Ideal.exp (al (ix1 h)) := by
  pointwise [val_main_v78, val_main_v77, val_main_v75, v64]
theorem v78_b (h : Fin 8) : val_main_v78 (F := Ideal) p al db dg (ix2 1 ⟨h.val, by omega⟩) = ∑ R : Fin 4096, cot al dg R h * factor (arg p db R h) := by
  pointwise [val_main_v78, val_main_v77, val_main_v76, v60]
theorem v78_z (g : Fin 2) (j : Fin 120) : val_main_v78 (F := Ideal) p al db dg (ix2 g ⟨8 + j.val, by omega⟩) = 0 := by
  pointwise [val_main_v78]
  exact call5_v0 _

end Cert.PrepIdeal.Val

end

end
-- ==== Proof.PrepPoint.lean ====
module

public import proofs.«01_k».proof.Proof.PrepKernel
public import proofs.«01_k».proof.Proof.PrepRef
public import proofs.«01_k».proof.Proof.Sums
public import Idealize.ShloMosaic.Lib.Pipeline.ValueKit
public import Idealize.ShloMosaic.Lib.Pipeline.ReadBack

/-! What each point of the gates' gradient leaves in the three output blocks, and the blocks it reads. -/

@[expose] public section

set_option maxRecDepth 16384

noncomputable section

open Idealize.ShloMosaic Idealize.ShloMosaic.TcCoe Idealize.SL.Sem
open Idealize.ShloMosaic.Pipeline (Dat)
open Cert.GateRow

namespace Cert.PrepIdeal.Val
open Cert.PrepIdeal Cert.PrepIdeal.Gen

variable (m : (ℓ : Loc nD τ sig) → Buf (Elt Ideal) ℓ) (ρ : Dev nD → PrngReg) (c : Dev nD)

theorem idx : ∀ t : Fin cfg0.N, (win0_0.index t = ![t.val / 8, 0, t.val % 8, 0] ∧ win0_1.index t = ![t.val / 8, 0, t.val % 8, 0] ∧ win0_2.index t = ![t.val / 8, 0, t.val % 8, 0]
    ∧ win0_3.index t = ![t.val / 8, 0, t.val % 8, 0] ∧ win0_4.index t = ![t.val / 8, 0, t.val % 8, 0]) ∧ win0_5.index t = ![t.val, 0] ∧ win0_6.index t = ![t.val, 32]
    ∧ win0_7.index t = ![0, 0] ∧ win0_8.index t = ![0, 0] ∧ win0_9.index t = ![t.val, 0] ∧ win0_10.index t = ![t.val, 0] ∧ win0_11.index t = ![0, 0] :=
  (by decide +kernel : ∀ t : Fin grid0.N, _)

/-- The arguments on the device. -/
abbrev CV : Conv := m ((c.tc : Thread nD τ).loc main_arg0)
abbrev P : Proj := m ((c.tc : Thread nD τ).loc main_arg1)
abbrev AL : Eight := m ((c.tc : Thread nD τ).loc main_arg2)
abbrev DB : Eight := m ((c.tc : Thread nD τ).loc main_arg3)
abbrev DQ : Heads := m ((c.tc : Thread nD τ).loc main_arg4)
abbrev DK : Heads := m ((c.tc : Thread nD τ).loc main_arg5)
abbrev DV : Heads := m ((c.tc : Thread nD τ).loc main_arg6)
abbrev DG : Heads := m ((c.tc : Thread nD τ).loc main_arg7)
abbrev DBE : Heads := m ((c.tc : Thread nD τ).loc main_arg8)

theorem lt16 (t : Fin cfg0.N) : t.val < 16 := lt_of_lt_of_eq t.isLt N_0

/-- The row of the flattened array a block's row is. -/
abbrev row (t : Fin cfg0.N) (r : Fin 256) : Fin 4096 := ⟨256 * t.val + r.val, by have := lt16 t; have := r.isLt; omega⟩
abbrev hpos (t : Fin cfg0.N) (r : Fin 256) : Fin 2048 := ⟨256 * (t.val % 8) + r.val, by have := r.isLt; omega⟩
abbrev hsq (t : Fin cfg0.N) : Fin 2 := ⟨t.val / 8, by have := lt16 t; omega⟩
theorem sq_row (t : Fin cfg0.N) (r : Fin 256) : hsq t = sq (row t r) := by
  apply Fin.ext; have := r.isLt; simp only [row, hsq, sq]; omega
theorem pos_row (t : Fin cfg0.N) (r : Fin 256) : hpos t r = pos (row t r) := by
  apply Fin.ext; have := r.isLt; simp only [row, hpos, pos]; omega

theorem blk0 (t : Fin cfg0.N) (h : Fin 8) (r : Fin 256) (x : Fin 128) : iblk m c 0 t (ix4 0 h r x) = DQ m c (ix4 (sq (row t r)) h (pos (row t r)) x) := by
  rw [← sq_row, ← pos_row]; blk_point [iblk, V, idx t]
theorem blk1 (t : Fin cfg0.N) (h : Fin 8) (r : Fin 256) (x : Fin 128) : iblk m c 1 t (ix4 0 h r x) = DK m c (ix4 (sq (row t r)) h (pos (row t r)) x) := by
  rw [← sq_row, ← pos_row]; blk_point [iblk, V, idx t]
theorem blk2 (t : Fin cfg0.N) (h : Fin 8) (r : Fin 256) (x : Fin 128) : iblk m c 2 t (ix4 0 h r x) = DV m c (ix4 (sq (row t r)) h (pos (row t r)) x) := by
  rw [← sq_row, ← pos_row]; blk_point [iblk, V, idx t]
theorem blk3 (t : Fin cfg0.N) (h : Fin 8) (r : Fin 256) (x : Fin 128) : iblk m c 3 t (ix4 0 h r x) = DG m c (ix4 (sq (row t r)) h (pos (row t r)) x) := by
  rw [← sq_row, ← pos_row]; blk_point [iblk, V, idx t]
theorem blk4 (t : Fin cfg0.N) (h : Fin 8) (r : Fin 256) (x : Fin 128) : iblk m c 4 t (ix4 0 h r x) = DBE m c (ix4 (sq (row t r)) h (pos (row t r)) x) := by
  rw [← sq_row, ← pos_row]; blk_point [iblk, V, idx t]
theorem blk5 (t : Fin cfg0.N) (r : Fin 256) (k : Fin 3072) : iblk m c 5 t (ix2 r k) = CV m c (ix2 (row t r) k) := by
  blk_point [iblk, V, idx t]

/-- The projection and the two vectors, as the region finds them. -/
theorem host6 : (V m c main_v0 : (⟨S4096x4224, .f32⟩ : BufTy).Contents (Elt Ideal))
    = pad S4096x4224 ![0, 0] ![0, 112] ![0, 0] (P m c) (sitofp (F := Ideal) .f32 (constantI S_ 32 0#32)) pads_S4096x4112_S4096x4224_000_01120 h_S_ := by rfl
theorem host7 : (V m c main_v2 : (⟨S1x128, .f32⟩ : BufTy).Contents (Elt Ideal))
    = broadcastInDim S1x128 ![1] bcast_S128_S1x128_1 (pad S128 ![0] ![120] ![0] (AL m c) (sitofp (F := Ideal) .f32 (constantI S_ 32 0#32)) pads_S8_S128_01200 h_S_) := by rfl
theorem host8 : (V m c main_v4 : (⟨S1x128, .f32⟩ : BufTy).Contents (Elt Ideal))
    = broadcastInDim S1x128 ![1] bcast_S128_S1x128_1 (pad S128 ![0] ![120] ![0] (DB m c) (sitofp (F := Ideal) .f32 (constantI S_ 32 0#32)) pads_S8_S128_01200 h_S_) := by rfl

theorem blk6 (t : Fin cfg0.N) (r : Fin 256) (l : Fin 128) (h : l.val < 16) : iblk m c 6 t (ix2 r l) = P m c (ix2 (row t r) ⟨4096 + l.val, by omega⟩) := by
  have e : ((View.whole main_v0).slice (win0_6.rect t)).emb (ix2 r l) = ix2 (row t r) ⟨4096 + l.val, by omega⟩ := by blk_ext [idx t]
  refine (congrArg (V m c main_v0) e).trans ((congrFun (host6 m c) _).trans ?_)
  pointwise []
  exact dif_pos ⟨(row t r).isLt, by omega⟩
theorem blk7 (t : Fin cfg0.N) (h : Fin 8) : iblk m c 7 t (ix2 0 ⟨h.val, by omega⟩) = AL m c (ix1 h) := by
  have e : ((View.whole main_v2).slice (win0_7.rect t)).emb (ix2 0 ⟨h.val, by omega⟩) = ix2 0 ⟨h.val, by omega⟩ := by blk_ext [idx t]
  refine (congrArg (V m c main_v2) e).trans ((congrFun (host7 m c) _).trans ?_)
  pointwise []
theorem blk8 (t : Fin cfg0.N) (h : Fin 8) : iblk m c 8 t (ix2 0 ⟨h.val, by omega⟩) = DB m c (ix1 h) := by
  have e : ((View.whole main_v4).slice (win0_8.rect t)).emb (ix2 0 ⟨h.val, by omega⟩) = ix2 0 ⟨h.val, by omega⟩ := by blk_ext [idx t]
  refine (congrArg (V m c main_v4) e).trans ((congrFun (host8 m c) _).trans ?_)
  pointwise []
/-- The two vectors do not change from block to block. -/
theorem same7 (t t' : Fin cfg0.N) (l : Fin 128) : iblk m c 7 t (ix2 0 l) = iblk m c 7 t' (ix2 0 l) := by
  have e (t : Fin cfg0.N) : ((View.whole main_v2).slice (win0_7.rect t)).emb (ix2 0 l) = ix2 0 l := by blk_ext [idx t]
  exact (congrArg (V m c main_v2) (e t)).trans (congrArg (V m c main_v2) (e t')).symm

theorem emb9 (t : Fin cfg0.N) (r : Fin 256) (x : Fin 3072) : ((View.whole main_v5_0).slice (win0_9.rect t)).emb (ix2 r x) = ix2 (row t r) x := by blk_ext [idx t]
theorem emb10 (t : Fin cfg0.N) (r : Fin 256) (x : Fin 128) : ((View.whole main_v5_1).slice (win0_10.rect t)).emb (ix2 r x) = ix2 (row t r) x := by blk_ext [idx t]

/-! ## What a point leaves -/

/-- Column `l` of three blocks of heads that stand next to each other. -/
def three (x y z : Vec Ideal S1x8x256x128 .f32) (r : Fin 256) (l : Fin 3072) : EReal :=
  if h : l.val < 1024 then x (ix4 0 ⟨l.val / 128, by omega⟩ r ⟨l.val % 128, by omega⟩)
  else if h' : l.val < 2048 then y (ix4 0 ⟨(l.val - 1024) / 128, by omega⟩ r ⟨l.val % 128, by omega⟩)
  else z (ix4 0 ⟨(l.val - 2048) / 128, by omega⟩ r ⟨l.val % 128, by omega⟩)

theorem three_fst (x y z : Vec Ideal S1x8x256x128 .f32) (r : Fin 256) (h : Fin 8) (k : Fin 128) (l : Fin 3072) (e : l.val = h.val * 128 + k.val) :
    three x y z r l = x (ix4 0 h r k) := by
  obtain ⟨l, hl⟩ := l
  obtain rfl : l = h.val * 128 + k.val := e
  have := h.isLt
  have := k.isLt
  unfold three
  rw [dif_pos (by simp only; omega)]
  exact congrArg₂ (fun a b => x (ix4 0 a r b)) (Fin.ext (by simp only; omega)) (Fin.ext (by simp only; omega))
theorem three_snd (x y z : Vec Ideal S1x8x256x128 .f32) (r : Fin 256) (h : Fin 8) (k : Fin 128) (l : Fin 3072) (e : l.val = 1024 + (h.val * 128 + k.val)) :
    three x y z r l = y (ix4 0 h r k) := by
  obtain ⟨l, hl⟩ := l
  obtain rfl : l = 1024 + (h.val * 128 + k.val) := e
  have := h.isLt
  have := k.isLt
  unfold three
  rw [dif_neg (by simp only; omega), dif_pos (by simp only; omega)]
  exact congrArg₂ (fun a b => y (ix4 0 a r b)) (Fin.ext (by simp only; omega)) (Fin.ext (by simp only; omega))
theorem three_trd (x y z : Vec Ideal S1x8x256x128 .f32) (r : Fin 256) (h : Fin 8) (k : Fin 128) (l : Fin 3072) (e : l.val = 2048 + (h.val * 128 + k.val)) :
    three x y z r l = z (ix4 0 h r k) := by
  obtain ⟨l, hl⟩ := l
  obtain rfl : l = 2048 + (h.val * 128 + k.val) := e
  have := h.isLt
  have := k.isLt
  unfold three
  rw [dif_neg (by simp only; omega), dif_neg (by simp only; omega)]
  exact congrArg₂ (fun a b => z (ix4 0 a r b)) (Fin.ext (by simp only; omega)) (Fin.ext (by simp only; omega))

theorem out9 (t : Fin cfg0.N) (r : Fin 256) (l : Fin 3072) : (outsAt0 m c t.val t.isLt).1 (ix2 r l)
    = three (iblk m c 0 t) (iblk m c 1 t) (iblk m c 2 t) r l * dact (iblk m c 5 t (ix2 r l)) := by
  by_cases g0 : t.val % 16 = 0
  · rw [outsAt0_A m c t g0]; frame_out
    generalize iblk m c 0 t = B0, iblk m c 1 t = B1, iblk m c 2 t = B2, iblk m c 5 t = B5
    clear g0
    canon_tiles x h
    all_goals
      idx_vars x
      open_payloads; pointwise [pay1]
      obtain rfl : x0 = r := Fin.ext h0.symm
      refine congrArg₂ (fun a b : EReal => a * dact b) ?_ (congrArg (fun l => B5 (ix2 x0 l)) (Fin.ext h1.symm))
      first
        | exact (three_fst B0 B1 B2 x0 _ x1 l (h1.trans (by simp))).symm
        | exact (three_snd B0 B1 B2 x0 _ x1 l (h1.trans (by simp <;> omega))).symm
        | exact (three_trd B0 B1 B2 x0 _ x1 l (h1.trans (by simp <;> omega))).symm
  · rw [outsAt0_B m c t g0]; frame_out
    generalize iblk m c 0 t = B0, iblk m c 1 t = B1, iblk m c 2 t = B2, iblk m c 5 t = B5
    clear g0
    canon_tiles x h
    all_goals
      idx_vars x
      open_payloads; pointwise [pay1]
      obtain rfl : x0 = r := Fin.ext h0.symm
      refine congrArg₂ (fun a b : EReal => a * dact b) ?_ (congrArg (fun l => B5 (ix2 x0 l)) (Fin.ext h1.symm))
      first
        | exact (three_fst B0 B1 B2 x0 _ x1 l (h1.trans (by simp))).symm
        | exact (three_snd B0 B1 B2 x0 _ x1 l (h1.trans (by simp <;> omega))).symm
        | exact (three_trd B0 B1 B2 x0 _ x1 l (h1.trans (by simp <;> omega))).symm

/-- The gradient that reaches softplus, its argument, and what comes back, lane by lane. -/
abbrev lot (B3 : Vec Ideal S1x8x256x128 .f32) (r : Fin 256) (l : Fin 128) : EReal := lanes (fun h => ∑ k : Fin 128, B3 (ix4 0 h r k)) l
abbrev larg (a : Blk) (b : Row) (r : Fin 256) (l : Fin 128) : EReal := a (ix2 r l) + b (ix2 0 l)
abbrev back (B3 : Vec Ideal S1x8x256x128 .f32) (a : Blk) (al b : Row) (r : Fin 256) (l : Fin 128) : EReal :=
  gate (-Ideal.exp (al (ix2 0 l)) * lot B3 r l) (larg a b r l)

theorem out10 (t : Fin cfg0.N) (r : Fin 256) (l : Fin 128) : (outsAt0 m c t.val t.isLt).2.1 (ix2 r l)
    = lanes8 (fun h => ∑ k : Fin 128, iblk m c 4 t (ix4 0 h r k)) l * dlog (iblk m c 6 t (ix2 r l))
      + back (iblk m c 3 t) (iblk m c 6 t) (iblk m c 7 t) (iblk m c 8 t) r l := by
  by_cases g0 : t.val % 16 = 0
  · rw [outsAt0_A m c t g0]; frame_out
    generalize iblk m c 3 t = B3, iblk m c 4 t = B4, iblk m c 6 t = B6, iblk m c 7 t = B7, iblk m c 8 t = B8
    rw [pay59]
    change sums8 B4 (ix2 r l) * _ + gate (_ * sums B3 (ix2 r l)) _ = _
    rw [sums_at, sums8_at]
  · rw [outsAt0_B m c t g0]; frame_out
    generalize iblk m c 3 t = B3, iblk m c 4 t = B4, iblk m c 6 t = B6, iblk m c 7 t = B7, iblk m c 8 t = B8
    rw [pay59]
    change sums8 B4 (ix2 r l) * _ + gate (_ * sums B3 (ix2 r l)) _ = _
    rw [sums_at, sums8_at]

/-- A block's part of the two vectors' gradients. -/
def head (B3 : Vec Ideal S1x8x256x128 .f32) (a : Blk) (al b : Row) (j : S2x128.Idx) : EReal :=
  if (j 0).val = 0 then -(∑ r, lot B3 r (j 1) * sp (larg a b r (j 1))) * Ideal.exp (al (ix2 0 (j 1))) else ∑ r, back B3 a al b r (j 1)
abbrev headPart (t : Fin cfg0.N) (j : S2x128.Idx) : EReal := head (iblk m c 3 t) (iblk m c 6 t) (iblk m c 7 t) (iblk m c 8 t) j

/-- Two stores of one row each, the lower after the upper, leave the sum of what was there and the part. -/
theorem rows_add (B3 : Vec Ideal S1x8x256x128 .f32) (a : Blk) (al b : Row) (x : FVec Ideal S2x128 .f32) (L : List (View.Piece (Elt Ideal) S2x128 .f32)) (j : S2x128.Idx) :
    View.canon (⟨Rect.unit ![1, 0] ![1, 128] inb_S2x128_S1x128_1_0,
        k0_pay62 (sums B3) (k0_pay50 al) (k0_pay52 a b) (k0_pay53 a b) (k0_pay54 a b) (k0_pay55 a b)
          (View.ld (Val := Elt Ideal) (e' := .f32) (S := S2x128) x (Rect.unit ![1, 0] ![1, 128] inb_S2x128_S1x128_1_0))⟩ ::
      ⟨Rect.unit ![0, 0] ![1, 128] inb_S2x128_S1x128_0_0,
        k0_pay61 (sums B3) (k0_pay49 al) (k0_pay56 a b)
          (View.ld (Val := Elt Ideal) (e' := .f32) (S := S2x128) x (Rect.unit ![0, 0] ![1, 128] inb_S2x128_S1x128_0_0))⟩ :: L) j = x j + head B3 a al b j := by
  refine View.canon_append_of_piecesOf (fun j => x j + head B3 a al b j) L [_, _] ⟨fun y => ?_, fun y => ?_, trivial⟩ j ?_
  · idx_vars y
    have e : (Rect.unit (s := S2x128) ![1, 0] ![1, 128] inb_S2x128_S1x128_1_0).emb (ix2 y0 y1) = ix2 1 y1 := by blk_ext []
    obtain rfl : y0 = 0 := Subsingleton.elim _ _
    rw [pay62]
    simp only [sums_at]
    exact (congrArg₂ (· + ·) (congrArg x e) rfl).trans (congrArg (fun j => x j + head B3 a al b j) e).symm
  · idx_vars y
    have e : (Rect.unit (s := S2x128) ![0, 0] ![1, 128] inb_S2x128_S1x128_0_0).emb (ix2 y0 y1) = ix2 0 y1 := by blk_ext []
    obtain rfl : y0 = 0 := Subsingleton.elim _ _
    rw [pay61]
    simp only [sums_at]
    exact (congrArg₂ (· + ·) (congrArg x e) rfl).trans (congrArg (fun j => x j + head B3 a al b j) e).symm
  · idx_vars j
    by_cases h : j0 = 0
    · subst h
      exact ⟨_, .tail _ (.head _), (Rect.mem_set_unit (inb := inb_S2x128_S1x128_0_0)).2 fun a => by match a with | 0 => simp | 1 => simp⟩
    · obtain rfl : j0 = 1 := by omega
      exact ⟨_, .head _, (Rect.mem_set_unit (inb := inb_S2x128_S1x128_1_0)).2 fun a => by match a with | 0 => simp | 1 => simp⟩

theorem head_next (t : Fin cfg0.N) (h0 : ¬ t.val % 16 = 0) (j : S2x128.Idx) : (outsAt0 m c t.val t.isLt).2.2 j
    = (outsAt0 m c (t.val - 1) (Nat.lt_of_le_of_lt (Nat.sub_le _ _) t.isLt)).2.2 j + headPart m c t j := by
  rw [outsAt0_B m c t h0]; frame_out
  exact rows_add _ _ _ _ _ [] j

theorem head_first (t : Fin cfg0.N) (h0 : t.val % 16 = 0) (j : S2x128.Idx) : (outsAt0 m c t.val t.isLt).2.2 j = 0 + headPart m c t j := by
  rw [outsAt0_A m c t h0]; frame_open
  simp (disch := decide) only [↓ View.readCov_skip, ↓ View.readCov_cons_toLoadRect, ↓ View.readCov_fill]
  frame_out
  refine (rows_add _ _ _ _ k0_pay60 [_] j).trans (congrArg (· + headPart m c t j) ?_)
  idx_vars j
  pointwise [k0_pay60]

end Cert.PrepIdeal.Val

end

end
-- ==== Proof.PrepValue.lean ====
module

public import proofs.«01_k».proof.Proof.PrepPoint
public import proofs.«01_k».proof.Proof.Gen.PrepIdeal.Value

/-! The three output arrays of the gates' gradient are the reference's. -/

@[expose] public section

set_option maxRecDepth 16384

noncomputable section

open Idealize.ShloMosaic Idealize.ShloMosaic.TcCoe Idealize.SL.Sem
open Idealize.ShloMosaic.Pipeline (Dat)
open Cert.GateRow Cert.ScanMath

namespace Cert.PrepIdeal.Val
open Cert.PrepIdeal Cert.PrepIdeal.Gen

variable (m : (ℓ : Loc nD τ sig) → Buf (Elt Ideal) ℓ) (ρ : Dev nD → PrngReg) (c : Dev nD)

/-- The arguments the gradients' sums need are real numbers, and no gate is at the corner of softplus. -/
structure Regular : Prop where
  gate : ∀ R h, Re (P m c (ix2 R (acol h)))
  al : ∀ h, Re (AL m c (ix1 h))
  db : ∀ h, Re (DB m c (ix1 h))
  dq : ∀ i, Re (DQ m c i)
  dk : ∀ i, Re (DK m c i)
  dv : ∀ i, Re (DV m c i)
  dg : ∀ i, Re (DG m c i)
  corner : ∀ R h, arg (P m c) (DB m c) R h ≠ 0

variable {m c}

theorem Regular.arg (H : Regular m c) (R h) : Re (arg (P m c) (DB m c) R h) := Re.add (H.gate R h) (H.db h)
theorem Regular.tot (H : Regular m c) (R h) : Re (tot (DG m c) R h) := Re.sum _ _ fun _ => H.dg _
theorem Regular.cot (H : Regular m c) (R h) : Re (cot (AL m c) (DG m c) R h) := Re.mul (neg_re (exp_re (H.al h))) (H.tot R h)

variable (m c)

/-! ## Lanes -/

/-- A column of three arrays of heads that stand next to each other. -/
theorem col_cases (y : Fin 3072) : (∃ (h : Fin 8) (k : Fin 128), y = ⟨h.val * 128 + k.val, by omega⟩) ∨ (∃ (h : Fin 8) (k : Fin 128), y = ⟨1024 + (h.val * 128 + k.val), by omega⟩)
    ∨ ∃ (h : Fin 8) (k : Fin 128), y = ⟨2048 + (h.val * 128 + k.val), by omega⟩ := by
  have e := y.isLt
  rcases Nat.lt_or_ge y.val 1024 with h | h
  · exact Or.inl ⟨⟨y.val / 128, by omega⟩, ⟨y.val % 128, by omega⟩, Fin.ext (by simp only; omega)⟩
  rcases Nat.lt_or_ge y.val 2048 with h' | h'
  · exact Or.inr (Or.inl ⟨⟨(y.val - 1024) / 128, by omega⟩, ⟨y.val % 128, by omega⟩, Fin.ext (by simp only; omega)⟩)
  · exact Or.inr (Or.inr ⟨⟨(y.val - 2048) / 128, by omega⟩, ⟨y.val % 128, by omega⟩, Fin.ext (by simp only; omega)⟩)

/-- A lane belongs to a decay, to a write strength, or to nothing. -/
theorem lane_cases (y : Fin 128) : (∃ h : Fin 8, y = ⟨h.val, by omega⟩) ∨ ∃ j : Fin 120, y = ⟨8 + j.val, by omega⟩ := by
  have e := y.isLt
  rcases Nat.lt_or_ge y.val 8 with h | h
  · exact Or.inl ⟨⟨y.val, h⟩, rfl⟩
  · exact Or.inr ⟨⟨y.val - 8, by omega⟩, Fin.ext (by simp only; omega)⟩
theorem rest_cases (j : Fin 120) : (∃ h : Fin 8, (⟨8 + j.val, by omega⟩ : Fin 128) = ⟨8 + h.val, by omega⟩) ∨ ∃ i : Fin 112, (⟨8 + j.val, by omega⟩ : Fin 128) = ⟨16 + i.val, by omega⟩ := by
  have e := j.isLt
  rcases Nat.lt_or_ge j.val 8 with h | h
  · exact Or.inl ⟨⟨j.val, h⟩, rfl⟩
  · exact Or.inr ⟨⟨j.val - 8, by omega⟩, Fin.ext (by simp only; omega)⟩

theorem lanes_lt (f : Fin 8 → EReal) (h : Fin 8) (hl) : lanes f ⟨h.val, hl⟩ = f h := dif_pos h.isLt
theorem lanes_ge (f : Fin 8 → EReal) (l : Fin 128) (h : 8 ≤ l.val) : lanes f l = 0 := dif_neg (by omega)
theorem lanes8_at (f : Fin 8 → EReal) (h : Fin 8) (hl) : lanes8 f ⟨8 + h.val, hl⟩ = f h :=
  (dif_pos (by simp only; omega)).trans (congrArg f (Fin.ext (by simp only; omega)))
theorem lanes8_out (f : Fin 8 → EReal) (l : Fin 128) (h : l.val < 8 ∨ 16 ≤ l.val) : lanes8 f l = 0 := dif_neg (by omega)

theorem lot_lt (t : Fin cfg0.N) (r : Fin 256) (h : Fin 8) (hl) : lot (iblk m c 3 t) r ⟨h.val, hl⟩ = tot (DG m c) (row t r) h := by
  rw [lot, lanes_lt]
  simp only [blk3]
theorem larg_lt (t : Fin cfg0.N) (r : Fin 256) (h : Fin 8) : larg (iblk m c 6 t) (iblk m c 8 t) r ⟨h.val, by omega⟩ = arg (P m c) (DB m c) (row t r) h :=
  congrArg₂ (fun a b : EReal => a + b) (blk6 m c t r ⟨h.val, by omega⟩ (by simp only; omega)) (blk8 m c t h)
theorem back_lt (H : Regular m c) (t : Fin cfg0.N) (r : Fin 256) (h : Fin 8) :
    back (iblk m c 3 t) (iblk m c 6 t) (iblk m c 7 t) (iblk m c 8 t) r ⟨h.val, by omega⟩
      = cot (AL m c) (DG m c) (row t r) h * factor (arg (P m c) (DB m c) (row t r) h) := by
  rw [back, lot_lt, larg_lt, blk7]
  exact gate_eq (H.cot _ h) (H.arg _ h) (H.corner _ h)
theorem back_ge (t : Fin cfg0.N) (r : Fin 256) (l : Fin 128) (h : 8 ≤ l.val) :
    back (iblk m c 3 t) (iblk m c 6 t) (iblk m c 7 t) (iblk m c 8 t) r l = 0 := by
  rw [back, lot, lanes_ge _ l h, mul_zero, gate_zero]

/-! ## The output arrays -/

theorem final9 (H : Regular m c) : (dats m 0 c).arrAt 9 cfg0.N
    = Cert.PrepRefIdeal.Read.val_main_v72 (F := Ideal) (CV m c) (DQ m c) (DK m c) (DV m c) := by
  refine (dats m 0 c).arrAt_eq_of_covers 9 _ (by decide +kernel) fun t hf y => ?_
  blk_simp
  rw [after0_9]
  idx_vars y
  rw [emb9, v72]
  refine (out9 m c t y0 y1).trans ?_
  rw [blk5]
  rcases col_cases y1 with ⟨h, k, rfl⟩ | ⟨h, k, rfl⟩ | ⟨h, k, rfl⟩
  · rw [three_fst _ _ _ _ h k _ rfl, blk0, v71_q]
    exact dsilu_eq (H.dq _)
  · rw [three_snd _ _ _ _ h k _ rfl, blk1, v71_k]
    exact dsilu_eq (H.dk _)
  · rw [three_trd _ _ _ _ h k _ rfl, blk2, v71_v]
    exact dsilu_eq (H.dv _)

theorem final10 (H : Regular m c) : (dats m 0 c).arrAt 10 cfg0.N
    = Cert.PrepRefIdeal.Read.val_main_v74 (F := Ideal) (P m c) (AL m c) (DB m c) (DG m c) (DBE m c) := by
  refine (dats m 0 c).arrAt_eq_of_covers 10 _ (by decide +kernel) fun t hf y => ?_
  blk_simp
  rw [after0_10]
  idx_vars y
  rw [emb10]
  refine (out10 m c t y0 y1).trans ?_
  rcases lane_cases y1 with ⟨h, rfl⟩ | ⟨j, rfl⟩
  · rw [lanes8_out _ _ (Or.inl h.isLt), zero_mul, zero_add, back_lt m c H, v74_g]
  rw [back_ge m c _ _ _ (by simp only; omega), add_zero]
  rcases rest_cases j with ⟨h, e⟩ | ⟨i, e⟩
  · rw [e, lanes8_at, v74_b, blk6 m c _ _ _ (by simp only; omega)]
    simp only [blk4]
  · rw [e, lanes8_out _ _ (Or.inr (by simp only; omega)), zero_mul, v74_z]

theorem sum_rows (f : Fin 4096 → EReal) : (∑ t : Fin cfg0.N, ∑ r : Fin 256, f (row t r)) = ∑ R : Fin 4096, f R :=
  Sums.blocks (T := cfg0.N) (n := 256) (by rw [show cfg0.N = 16 from N_0]) f row (fun _ _ => rfl)

theorem head_a (t : Fin cfg0.N) (h : Fin 8) : headPart m c t (ix2 0 ⟨h.val, by omega⟩)
    = -(∑ r, tot (DG m c) (row t r) h * sp (arg (P m c) (DB m c) (row t r) h)) * Ideal.exp (AL m c (ix1 h)) := by
  refine (if_pos rfl).trans ?_
  show -(∑ r, lot (iblk m c 3 t) r ⟨h.val, _⟩ * sp (larg (iblk m c 6 t) (iblk m c 8 t) r ⟨h.val, _⟩)) * Ideal.exp (iblk m c 7 t (ix2 0 ⟨h.val, _⟩)) = _
  rw [blk7]
  refine congrArg (fun s : EReal => -s * _) (Finset.sum_congr rfl fun r _ => ?_)
  rw [lot_lt, larg_lt]

theorem head_z (t : Fin cfg0.N) (g : Fin 2) (j : Fin 120) : headPart m c t (ix2 g ⟨8 + j.val, by omega⟩) = 0 := by
  by_cases h0 : g = 0
  · subst h0
    refine (if_pos rfl).trans ?_
    have z : (∑ r, lot (iblk m c 3 t) r ⟨8 + j.val, by omega⟩ * sp (larg (iblk m c 6 t) (iblk m c 8 t) r ⟨8 + j.val, by omega⟩)) = 0 :=
      Finset.sum_eq_zero fun r _ => by rw [lot, lanes_ge _ _ (by simp only; omega), zero_mul]
    exact (congrArg (fun s : EReal => -s * _) z).trans (by rw [neg_zero, zero_mul])
  · obtain rfl : g = 1 := by omega
    exact (if_neg Nat.one_ne_zero).trans (Finset.sum_eq_zero fun r _ => back_ge m c t r ⟨8 + j.val, by omega⟩ (by simp only; omega))

theorem sum_a (H : Regular m c) (h : Fin 8) : (∑ t : Fin cfg0.N, headPart m c t (ix2 0 ⟨h.val, by omega⟩))
    = -(∑ R : Fin 4096, tot (DG m c) R h * sp (arg (P m c) (DB m c) R h)) * Ideal.exp (AL m c (ix1 h)) := by
  rw [Finset.sum_congr rfl fun t _ => head_a m c t h, neg_sum_mul _ _ _ (fun t => Re.sum _ _ fun r => Re.mul (H.tot _ h) (sp_re (H.arg _ h))) (exp_re (H.al h)),
    sum_rows fun R => tot (DG m c) R h * sp (arg (P m c) (DB m c) R h)]

theorem sum_b (H : Regular m c) (h : Fin 8) : (∑ t : Fin cfg0.N, headPart m c t (ix2 1 ⟨h.val, by omega⟩))
    = ∑ R : Fin 4096, cot (AL m c) (DG m c) R h * factor (arg (P m c) (DB m c) R h) := by
  rw [← sum_rows fun R => cot (AL m c) (DG m c) R h * factor (arg (P m c) (DB m c) R h)]
  exact Finset.sum_congr rfl fun t _ => (if_neg Nat.one_ne_zero).trans (Finset.sum_congr rfl fun r _ => back_lt m c H t r h)

theorem final11 (H : Regular m c) : (dats m 0 c).arrAt 11 cfg0.N
    = Cert.PrepRefIdeal.Read.val_main_v78 (F := Ideal) (P m c) (AL m c) (DB m c) (DG m c) := by
  refine (dats m 0 c).arrAt_eq_of_after_last 11 t0_15 (by decide +kernel) _ fun j => ?_
  blk_simp
  rw [after0_11, Pipeline.eq_sum_fin_of_reset_step_apply_last (fun n h => (outsAt0 m c n h).2.2) 16 (fun _ => 0) (headPart m c)
    (head_first m c) (head_next m c) (le_of_eq N_0) t0_15 rfl j]
  rw [zero_add]
  idx_vars j
  rcases lane_cases j1 with ⟨h, rfl⟩ | ⟨j, rfl⟩
  · by_cases h0 : j0 = 0
    · subst h0
      exact (sum_a m c H h).trans (v78_a _ _ _ _ h).symm
    · obtain rfl : j0 = 1 := by omega
      exact (sum_b m c H h).trans (v78_b _ _ _ _ h).symm
  · exact (Finset.sum_eq_zero fun t _ => head_z m c t j0 j).trans (v78_z _ _ _ _ j0 j).symm

end Cert.PrepIdeal.Val

end

end
-- ==== Proof.PrepClaim.lean ====
module

public import proofs.«01_k».proof.Defs
public import proofs.«01_k».proof.Proof.Gen.Prep.Frame
public import proofs.«01_k».proof.Proof.Gen.PrepIdeal.Value
public import proofs.«01_k».proof.Proof.Gen.PrepRefIdeal.Run
public import proofs.«01_k».proof.Proof.PrepValue
public import proofs.«01_k».proof.Proof.Gen.Pre_prep_regular
public import proofs.«01_k».proof.Proof.Finite

/-! The claims about the gradient of the gates. -/

@[expose] public section

noncomputable section

open Idealize.ShloMosaic Idealize.ShloMosaic.TcCoe Idealize.SL.Sem

open Cert.ScanMath Cert.GateRow

namespace Cert.PrepIdeal.Val
open Cert.PrepIdeal Cert.PrepIdeal.Gen

theorem frame_kernel : Cert.quiescent_Prep := fun m ρ _ => Cert.Prep.Gen.frame m ρ
theorem frame_ideal : Cert.quiescent_PrepIdeal := fun m ρ _ => Cert.PrepIdeal.Gen.frame m ρ

/-- The reference is a straight line of host operations and declares no semaphore. -/
theorem frame_reference : Cert.quiescent_PrepRefIdeal := fun m ρ _ =>
  (θ_run Cert.PrepRefIdeal.defs _ _).mono (fun r h => ⟨fun c => (h c).2.2.2, sem_eq_zero_of_no_sems (by decide) r.2⟩) (Cert.PrepRefIdeal.Value.run m ρ)

theorem frame_ideal_pre : Cert.quiescent_PrepIdeal_pre_prep_regular := fun m ρ _ => frame_ideal m ρ trivial

theorem frame_reference_pre : Cert.quiescent_PrepRefIdeal_pre_prep_regular := fun m ρ _ => frame_reference m ρ trivial

/-- The precondition's gate columns and the argument of softplus. -/
theorem slice_at (p : Proj) (hs) (R : Fin 4096) (h : Fin 8) : extractStridedSlice Cert.Pre_prep_regular.S4096x8 ![0, 4096] p hs (ix2 R h) = p (ix2 R (acol h)) := by
  pointwise []
theorem arg_at (p : Proj) (db : Eight) (hs hb hb') (R : Fin 4096) (h : Fin 8) :
    addf (F := Ideal) (φ := .f32) (extractStridedSlice Cert.Pre_prep_regular.S4096x8 ![0, 4096] p hs)
      (broadcastInDim Cert.Pre_prep_regular.S4096x8 ![0, 1] hb (broadcastInDim Cert.Pre_prep_regular.S1x8 ![1] hb' db)) (ix2 R h) = arg p db R h := by
  pointwise []

/-- The precondition makes the arguments real numbers and keeps every gate away from the corner. -/
theorem regular_of_pre (m : (ℓ : Loc nD τ sig) → Buf (Elt Ideal) ℓ) (H : Cert.Pre_PrepIdeal_prep_regular m) (c : Dev nD) : Regular m c := by
  have e0 := congrFun (H c) (Shape.Idx.first Cert.Pre_prep_regular.Gen.h_S_)
  dsimp only [Cert.Pre_prep_regular.fn, Cert.Pre_prep_regular.fn_part1, Cert.Pre_prep_regular.fn_part2] at e0
  obtain ⟨e0, h7⟩ := IntOp.andi_eq_one.1 e0
  obtain ⟨e0, h6⟩ := IntOp.andi_eq_one.1 e0
  obtain ⟨e0, h5⟩ := IntOp.andi_eq_one.1 e0
  obtain ⟨e0, h4⟩ := IntOp.andi_eq_one.1 e0
  obtain ⟨e0, h3⟩ := IntOp.andi_eq_one.1 e0
  obtain ⟨e0, h2⟩ := IntOp.andi_eq_one.1 e0
  obtain ⟨h0, h1⟩ := IntOp.andi_eq_one.1 e0
  haveI : Subsingleton Cert.Pre_prep_regular.S_.Idx := ⟨fun a b => funext fun k => k.elim0⟩
  refine { gate := fun R h => ?_, al := fun _ => all_re _ _ _ _ _ _ _ h1 _, db := fun _ => all_re _ _ _ _ _ _ _ h2 _, dq := fun _ => all_re _ _ _ _ _ _ _ h3 _,
           dk := fun _ => all_re _ _ _ _ _ _ _ h4 _, dv := fun _ => all_re _ _ _ _ _ _ _ h5 _, dg := fun _ => all_re _ _ _ _ _ _ _ h6 _, corner := fun R h => ?_ }
  · have k : Re (extractStridedSlice Cert.Pre_prep_regular.S4096x8 ![0, 4096] (P m c) _ (ix2 R h)) := all_re _ _ _ _ _ _ _ h0 _
    rwa [slice_at] at k
  · intro hz
    have k := Host.reduce_andi_all _ _ _ _ _ h7 (ix2 R h)
    have k' : Ideal.cmp .une (addf (F := Ideal) (φ := .f32) (extractStridedSlice Cert.Pre_prep_regular.S4096x8 ![0, 4096] (P m c) _)
      (broadcastInDim Cert.Pre_prep_regular.S4096x8 ![0, 1] _ (broadcastInDim Cert.Pre_prep_regular.S1x8 ![1] _ (DB m c))) (ix2 R h)) (Ideal.ofBits .f32 0#32) = 1#1 := k
    rw [arg_at, hz] at k'
    simp [Ideal.cmp, Ideal.ofBits, Ideal.ieee] at k'

/-- The two programs end with equal results. -/
theorem equal : Cert.algebraic_PrepIdeal_PrepRefIdeal_pre_prep_regular := fun m ρ m' ρ' H hag =>
  ⟨fun c => Cert.PrepRefIdeal.Read.val_main_v72 (F := Ideal) (CV m c) (DQ m c) (DK m c) (DV m c),
    fun c => Cert.PrepRefIdeal.Read.val_main_v74 (F := Ideal) (P m c) (AL m c) (DB m c) (DG m c) (DBE m c),
    fun c => Cert.PrepRefIdeal.Read.val_main_v78 (F := Ideal) (P m c) (AL m c) (DB m c) (DG m c),
    (θ_run _ _ _).mono (fun _ h c => ⟨(h c).1.trans (final9 m c (regular_of_pre m H c)), (h c).2.1.trans (final10 m c (regular_of_pre m H c)),
        (h c).2.2.1.trans (final11 m c (regular_of_pre m H c)), (h c).2.2.2⟩)
      (Cert.PrepIdeal.Value.run_blocks m ρ),
    (θ_run _ _ _).mono (fun _ h c => by
        obtain ⟨a0, a1, a2, a3, a4, a5, a6, a7, a8⟩ := hag c
        refine ⟨(h c).1.trans ((Cert.PrepRefIdeal.Read.val_main_v72_eq _ _ _ _).trans ?_), (h c).2.1.trans ((Cert.PrepRefIdeal.Read.val_main_v74_eq _ _).trans ?_),
          (h c).2.2.1.trans ((Cert.PrepRefIdeal.Read.val_main_v78_eq _ _).trans ?_), (h c).2.2.2⟩
        · rw [a0, a4, a5, a6]
        · rw [a1, a2, a3, a7, a8]
        · rw [a1, a2, a3, a7])
      (Cert.PrepRefIdeal.Value.run m' ρ')⟩

end Cert.PrepIdeal.Val

end

end
-- ==== Proof.AdaBwdValue.lean ====
module

public import proofs.«01_k».proof.Proof.Gen.AdaBwdIdeal.Value
public import proofs.«01_k».proof.Proof.Gen.AdaBwdRefIdeal.Read
public import Idealize.ShloMosaic.Lib.Pipeline.ValueKit
public import Idealize.ShloMosaic.Lib.Pipeline.ReadBack

/-! The gradient of the conditioning's matrix: the kernel's output is the reference's. -/

@[expose] public section

set_option maxRecDepth 16384

noncomputable section

open Idealize.ShloMosaic Idealize.ShloMosaic.TcCoe Idealize.SL.Sem
open Idealize.ShloMosaic.Pipeline (Dat)

namespace Cert.AdaBwdIdeal.Val

/-- The arguments' contents. -/
abbrev Cond := (⟨S16x1024, .f32⟩ : BufTy).Contents (Elt Ideal)
abbrev Wide := (⟨S4x1024x1152, .f32⟩ : BufTy).Contents (Elt Ideal)
abbrev Bias := (⟨S4x1152, .f32⟩ : BufTy).Contents (Elt Ideal)
abbrev Cot := (⟨S4x16x1152, .f32⟩ : BufTy).Contents (Elt Ideal)

/-- The silu of one number. -/
def silu (x : EReal) : EReal := x * Ideal.logistic x

section Kernel
open Cert.AdaBwdIdeal Cert.AdaBwdIdeal.Gen

theorem pay1 (x : Vec Ideal S16x1024 .f32) (d : Vec Ideal S1x16x1152 .f32) (q : Fin 1) (k : Fin 1024) (j : Fin 1152) :
    k0_pay1 (F := Ideal) x d (ix3 q k j) = ∑ n : Fin 16, silu (x (ix2 n k)) * d (ix3 0 n j) := by
  pointwise [k0_pay1, silu]

end Kernel

section Reference
open Cert.AdaBwdRefIdeal Cert.AdaBwdRefIdeal.Read

variable (x0 : Cond) (x3 : Cot) (l : Fin 4) (k : Fin 1024) (j : Fin 1152)

/-- Row `k` of layer `l`. -/
abbrev rowOf (l : Fin 4) (k : Fin 1024) : Fin 4096 := ⟨1024 * l.val + k.val, by omega⟩

theorem v0 (n : Fin 16) : val_main_v0 (F := Ideal) x0 (ix2 n k) = silu (x0 (ix2 n k)) := by
  pointwise [val_main_v0, val_main_call0_v5, val_main_call0_v4, val_main_call0_cst_0, val_main_call0_v3, val_main_call0_v2, val_main_call0_cst, val_main_call0_v1, val_main_call0_v0, silu, Ideal.logistic]
theorem v8 : val_main_v8 (F := Ideal) x0 x3 (ix3 l k j) = ∑ n : Fin 16, x3 (ix3 l n j) * silu (x0 (ix2 n k)) := by
  pointwise [val_main_v8, val_main_v7, val_main_v6, v0]
theorem v9 (q : Fin 1) : val_main_v9 (F := Ideal) x0 x3 (ix3 q (rowOf l k) j) = ∑ n : Fin 16, silu (x0 (ix2 n k)) * x3 (ix3 l n j) := by
  have e : val_main_v9 (F := Ideal) x0 x3 (ix3 q (rowOf l k) j) = val_main_v8 (F := Ideal) x0 x3 (ix3 l k j) := by
    pointwise [val_main_v9]
    exact congrArg (val_main_v8 x0 x3) (by congr 1 <;> apply Fin.ext <;> simp only <;> omega)
  rw [e, v8]
  exact Finset.sum_congr rfl fun n _ => mul_comm _ _

end Reference

open Cert.AdaBwdIdeal Cert.AdaBwdIdeal.Gen

variable (m : (ℓ : Loc nD τ sig) → Buf (Elt Ideal) ℓ) (ρ : Dev nD → PrngReg) (c : Dev nD)

theorem idx : ∀ t : Fin cfg0.N, win0_0.index t = ![0, 0] ∧ win0_1.index t = ![t.val, 0, 0] ∧ win0_2.index t = ![0, t.val, 0] :=
  (by decide +kernel : ∀ t : Fin grid0.N, _)

/-- The arguments on the device that the call reads. -/
abbrev X : Cond := m ((c.tc : Thread nD τ).loc main_arg0)
abbrev D : Cot := m ((c.tc : Thread nD τ).loc main_arg3)

/-- The layer of a point of the grid. -/
abbrev layer (t : Fin cfg0.N) : Fin 4 := ⟨t.val, lt_of_lt_of_eq t.isLt N_0⟩

theorem blk0 (t : Fin cfg0.N) (n : Fin 16) (k : Fin 1024) : iblk m c 0 t (ix2 n k) = X m c (ix2 n k) := by
  blk_point [iblk, V, idx t]
theorem blk1 (t : Fin cfg0.N) (n : Fin 16) (j : Fin 1152) : iblk m c 1 t (ix3 0 n j) = D m c (ix3 (layer t) n j) := by
  blk_point [iblk, V, idx t]
theorem emb2 (t : Fin cfg0.N) (q : Fin 1) (k : Fin 1024) (j : Fin 1152) :
    ((View.whole main_v0).slice (win0_2.rect t)).emb (ix3 q k j) = ix3 q (rowOf (layer t) k) j := by
  blk_ext [idx t]

/-- The gradient of the matrix. -/
theorem final2 : (dats m 0 c).arrAt 2 cfg0.N = Cert.AdaBwdRefIdeal.Read.val_main_v9 (F := Ideal) (X m c) (D m c) := by
  refine (dats m 0 c).arrAt_eq_of_covers 2 _ (by decide +kernel) fun t hf y => ?_
  blk_simp
  rw [after0_2]
  frame_out
  idx_vars y
  rw [pay1, emb2, v9]
  simp only [blk0, blk1]

end Cert.AdaBwdIdeal.Val

end

end
-- ==== Proof.AdaBwdClaim.lean ====
module

public import proofs.«01_k».proof.Defs
public import proofs.«01_k».proof.Proof.Gen.AdaBwd.Frame
public import proofs.«01_k».proof.Proof.Gen.AdaBwdIdeal.Value
public import proofs.«01_k».proof.Proof.Gen.AdaBwdRefIdeal.Run
public import proofs.«01_k».proof.Proof.AdaBwdValue

/-! The claims about the gradient of the conditioning's matrix. -/

@[expose] public section

noncomputable section

open Idealize.ShloMosaic Idealize.ShloMosaic.TcCoe Idealize.SL.Sem

namespace Cert.AdaBwdIdeal.Val
open Cert.AdaBwdIdeal Cert.AdaBwdIdeal.Gen

theorem frame_kernel : Cert.quiescent_AdaBwd := fun m ρ _ => Cert.AdaBwd.Gen.frame m ρ
theorem frame_ideal : Cert.quiescent_AdaBwdIdeal := fun m ρ _ => Cert.AdaBwdIdeal.Gen.frame m ρ

/-- The reference is a straight line of host operations and declares no semaphore. -/
theorem frame_reference : Cert.quiescent_AdaBwdRefIdeal := fun m ρ _ =>
  (θ_run Cert.AdaBwdRefIdeal.defs _ _).mono (fun r h => ⟨fun c => (h c).2, sem_eq_zero_of_no_sems (by decide) r.2⟩) (Cert.AdaBwdRefIdeal.Value.run m ρ)

/-- The two programs end with equal results. -/
theorem equal : Cert.algebraic_AdaBwdIdeal_AdaBwdRefIdeal := fun m ρ m' ρ' _ hag =>
  ⟨fun c => Cert.AdaBwdRefIdeal.Read.val_main_v9 (F := Ideal) (X m c) (D m c),
    (θ_run _ _ _).mono (fun _ h c => ⟨(h c).1.trans (final2 m c), (h c).2⟩) (Cert.AdaBwdIdeal.Value.run_blocks m ρ),
    (θ_run _ _ _).mono (fun _ h c => ⟨(h c).1.trans ((Cert.AdaBwdRefIdeal.Read.val_main_v9_eq _ _).trans (by
        rw [(hag c).1, (hag c).2.2.2])), (h c).2⟩) (Cert.AdaBwdRefIdeal.Value.run m' ρ')⟩

end Cert.AdaBwdIdeal.Val

end

end
-- ==== Proof.AdaFwdValue.lean ====
module

public import proofs.«01_k».proof.Proof.Gen.AdaFwdIdeal.Value
public import proofs.«01_k».proof.Proof.Gen.AdaFwdRefIdeal.Read
public import Idealize.ShloMosaic.Lib.Pipeline.ValueKit
public import Idealize.ShloMosaic.Lib.Pipeline.ReadBack

/-! The conditioning of every layer: the kernel's output is the reference's. -/

@[expose] public section

set_option maxRecDepth 16384

noncomputable section

open Idealize.ShloMosaic Idealize.ShloMosaic.TcCoe Idealize.SL.Sem
open Idealize.ShloMosaic.Pipeline (Dat)

namespace Cert.AdaFwdIdeal.Val

/-- The arguments' contents. -/
abbrev Cond := (⟨S16x1024, .f32⟩ : BufTy).Contents (Elt Ideal)
abbrev Wide := (⟨S4x1024x1152, .f32⟩ : BufTy).Contents (Elt Ideal)
abbrev Bias := (⟨S4x1152, .f32⟩ : BufTy).Contents (Elt Ideal)
abbrev Cot := (⟨S4x16x1152, .f32⟩ : BufTy).Contents (Elt Ideal)

/-- The silu of one number. -/
def silu (x : EReal) : EReal := x * Ideal.logistic x

section Kernel
open Cert.AdaFwdIdeal Cert.AdaFwdIdeal.Gen

theorem pay1 (x : Vec Ideal S16x1024 .f32) (w : Vec Ideal S1x1024x1152 .f32) (b : Vec Ideal S1x1x1152 .f32) (q : Fin 1) (n : Fin 16) (j : Fin 1152) :
    k0_pay1 (F := Ideal) x w b (ix3 q n j) = (∑ k : Fin 1024, silu (x (ix2 n k)) * w (ix3 0 k j)) + b (ix3 0 0 j) := by
  pointwise [k0_pay1, silu]

end Kernel

section Reference
open Cert.AdaFwdRefIdeal Cert.AdaFwdRefIdeal.Read

variable (x0 : Cond) (x1 : Wide) (x2 : Bias) (l : Fin 4) (n : Fin 16) (j : Fin 1152)

theorem v0 (k : Fin 1024) : val_main_v0 (F := Ideal) x0 (ix2 n k) = silu (x0 (ix2 n k)) := by
  pointwise [val_main_v0, val_main_call0_v5, val_main_call0_v4, val_main_call0_cst_0, val_main_call0_v3, val_main_call0_v2, val_main_call0_cst, val_main_call0_v1, val_main_call0_v0, silu, Ideal.logistic]
theorem v2 : val_main_v2 (F := Ideal) x0 x1 (ix3 l n j) = ∑ k : Fin 1024, x1 (ix3 l k j) * silu (x0 (ix2 n k)) := by
  pointwise [val_main_v2, val_main_v1, v0]
theorem v5 : val_main_v5 (F := Ideal) x0 x1 x2 (ix3 l n j) = (∑ k : Fin 1024, silu (x0 (ix2 n k)) * x1 (ix3 l k j)) + x2 (ix2 l j) := by
  have e : val_main_v5 (F := Ideal) x0 x1 x2 (ix3 l n j) = val_main_v2 (F := Ideal) x0 x1 (ix3 l n j) + x2 (ix2 l j) := by
    pointwise [val_main_v5, val_main_v4, val_main_v3]
  rw [e, v2]
  exact congrArg (· + x2 (ix2 l j)) (Finset.sum_congr rfl fun k _ => mul_comm _ _)

end Reference

open Cert.AdaFwdIdeal Cert.AdaFwdIdeal.Gen

variable (m : (ℓ : Loc nD τ sig) → Buf (Elt Ideal) ℓ) (ρ : Dev nD → PrngReg) (c : Dev nD)

theorem idx : ∀ t : Fin cfg0.N, win0_0.index t = ![0, 0] ∧ win0_1.index t = ![t.val, 0, 0] ∧ win0_2.index t = ![t.val, 0, 0] ∧ win0_3.index t = ![t.val, 0, 0] :=
  (by decide +kernel : ∀ t : Fin grid0.N, _)

/-- The arguments on the device. -/
abbrev X : Cond := m ((c.tc : Thread nD τ).loc main_arg0)
abbrev M : Wide := m ((c.tc : Thread nD τ).loc main_arg1)
abbrev B : Bias := m ((c.tc : Thread nD τ).loc main_arg2)

/-- The layer of a point of the grid. -/
abbrev layer (t : Fin cfg0.N) : Fin 4 := ⟨t.val, lt_of_lt_of_eq t.isLt N_0⟩

theorem blk0 (t : Fin cfg0.N) (n : Fin 16) (k : Fin 1024) : iblk m c 0 t (ix2 n k) = X m c (ix2 n k) := by
  blk_point [iblk, V, idx t]
theorem blk1 (t : Fin cfg0.N) (k : Fin 1024) (j : Fin 1152) : iblk m c 1 t (ix3 0 k j) = M m c (ix3 (layer t) k j) := by
  blk_point [iblk, V, idx t]
theorem blk2 (t : Fin cfg0.N) (j : Fin 1152) : iblk m c 2 t (ix3 0 0 j) = B m c (ix2 (layer t) j) := by
  blk_point [iblk, V, idx t]
theorem emb3 (t : Fin cfg0.N) (n : Fin 16) (j : Fin 1152) : ((View.whole main_v1).slice (win0_3.rect t)).emb (ix3 0 n j) = ix3 (layer t) n j := by
  blk_ext [idx t]

/-- The conditioning. -/
theorem final3 : (dats m 0 c).arrAt 3 cfg0.N = Cert.AdaFwdRefIdeal.Read.val_main_v5 (F := Ideal) (X m c) (M m c) (B m c) := by
  refine (dats m 0 c).arrAt_eq_of_covers 3 _ (by decide +kernel) fun t hf y => ?_
  blk_simp
  rw [after0_3]
  frame_out
  idx_vars y
  obtain rfl : y0 = 0 := Subsingleton.elim _ _
  rw [pay1, emb3, v5]
  simp only [blk0, blk1, blk2]

end Cert.AdaFwdIdeal.Val

end

end
-- ==== Proof.AdaFwdClaim.lean ====
module

public import proofs.«01_k».proof.Defs
public import proofs.«01_k».proof.Proof.Gen.AdaFwd.Frame
public import proofs.«01_k».proof.Proof.Gen.AdaFwdIdeal.Value
public import proofs.«01_k».proof.Proof.Gen.AdaFwdRefIdeal.Run
public import proofs.«01_k».proof.Proof.AdaFwdValue

/-! The claims about the conditioning. -/

@[expose] public section

noncomputable section

open Idealize.ShloMosaic Idealize.ShloMosaic.TcCoe Idealize.SL.Sem

namespace Cert.AdaFwdIdeal.Val
open Cert.AdaFwdIdeal Cert.AdaFwdIdeal.Gen

theorem frame_kernel : Cert.quiescent_AdaFwd := fun m ρ _ => Cert.AdaFwd.Gen.frame m ρ
theorem frame_ideal : Cert.quiescent_AdaFwdIdeal := fun m ρ _ => Cert.AdaFwdIdeal.Gen.frame m ρ

/-- The reference is a straight line of host operations and declares no semaphore. -/
theorem frame_reference : Cert.quiescent_AdaFwdRefIdeal := fun m ρ _ =>
  (θ_run Cert.AdaFwdRefIdeal.defs _ _).mono (fun r h => ⟨fun c => (h c).2, sem_eq_zero_of_no_sems (by decide) r.2⟩) (Cert.AdaFwdRefIdeal.Value.run m ρ)

/-- The two programs end with equal results. -/
theorem equal : Cert.algebraic_AdaFwdIdeal_AdaFwdRefIdeal := fun m ρ m' ρ' _ hag =>
  ⟨fun c => Cert.AdaFwdRefIdeal.Read.val_main_v5 (F := Ideal) (X m c) (M m c) (B m c),
    (θ_run _ _ _).mono (fun _ h c => ⟨(h c).1.trans (final3 m c), (h c).2⟩) (Cert.AdaFwdIdeal.Value.run_blocks m ρ),
    (θ_run _ _ _).mono (fun _ h c => ⟨(h c).1.trans ((Cert.AdaFwdRefIdeal.Read.val_main_v5_eq _ _ _).trans (by
        rw [(hag c).1, (hag c).2.1, (hag c).2.2])), (h c).2⟩) (Cert.AdaFwdRefIdeal.Value.run m' ρ')⟩

end Cert.AdaFwdIdeal.Val

end

end
-- ==== Proof.FfnFwdValue.lean ====
module

public import proofs.«01_k».proof.Proof.Gen.FfnFwdIdeal.Value
public import proofs.«01_k».proof.Proof.Gen.FfnFwdRefIdeal.Read
public import proofs.«01_k».proof.Proof.RmsRow
public import proofs.«01_k».proof.Proof.Sums
public import Idealize.ShloMosaic.Lib.Pipeline.ValueKit
public import Idealize.ShloMosaic.Lib.Pipeline.ReadBack

/-! The forward call of the feed-forward half step: its four outputs are the reference's. The hidden columns come in four tiles; the product with the second matrix is accumulated over them. -/

@[expose] public section

set_option maxRecDepth 16384

noncomputable section

open Idealize.ShloMosaic Idealize.ShloMosaic.TcCoe Idealize.SL.Sem
open Idealize.ShloMosaic.Pipeline (Dat)
open Cert.RmsRow

namespace Cert.FfnFwdIdeal.Val

/-- The arguments' contents. -/
abbrev Mat := (⟨S4096x1024, .f32⟩ : BufTy).Contents (Elt Ideal)
abbrev Mods := (⟨S2x3x1024, .f32⟩ : BufTy).Contents (Elt Ideal)
abbrev Row := (⟨S1024, .f32⟩ : BufTy).Contents (Elt Ideal)
abbrev WIn := (⟨S1024x5632, .f32⟩ : BufTy).Contents (Elt Ideal)
abbrev WOut := (⟨S2816x1024, .f32⟩ : BufTy).Contents (Elt Ideal)

/-- The sequence a row belongs to. -/
abbrev seqOf (r : Fin 4096) : Fin 2 := ⟨r.val / 2048, by omega⟩
/-- Row `t` of sequence `b`. -/
abbrev rowOf (b : Fin 2) (t : Fin 2048) : Fin 4096 := ⟨b.val * 2048 + t.val, by omega⟩

/-- A normalized row with the norm's scale `g`, the modulation's scale `s` and its shift `a`. -/
def modulated (x g s a : Fin 1024 → EReal) (k : Fin 1024) : EReal := hat x k * g k * (1 + s k) + a k
/-- The gated unit of a gate `g` and a value `u`. -/
def unit (g u : EReal) : EReal := g * Ideal.logistic g * u
/-- The factor one half of the step. -/
abbrev half : EReal := Ideal.ofBits FTy.f32 1056964608#32

section Kernel
open Cert.FfnFwdIdeal Cert.FfnFwdIdeal.Gen

variable (s : Vec Ideal S1x3x1024 .f32) (x : Vec Ideal S512x1024 .f32) (g : Vec Ideal S1x1024 .f32) (h : Vec Ideal S512x1024 .bf16)
  (w u : Vec Ideal S1x1x704x1024 .bf16) (v : FVec Ideal S512x704 .bf16) (o : Vec Ideal S1x704x1024 .bf16) (r : Fin 512) (k : Fin 1024) (f : Fin 704)

theorem pay4 : k0_pay4 (F := Ideal) s x g (ix2 r k)
    = modulated (fun y => x (ix2 r y)) (fun y => g (ix2 0 y)) (fun y => s (ix3 0 1 y)) (fun y => s (ix3 0 0 y)) k := by
  pointwise [k0_pay4, modulated, rms, hat, ms, len]
theorem pay5 : k0_pay5 (F := Ideal) (ix2 r k) = 0 := by
  pointwise [k0_pay5]
theorem pay6 : k0_pay6 (F := Ideal) h w (ix2 r f) = ∑ y : Fin 1024, h (ix2 r y) * w (ix4 0 0 f y) := by
  pointwise [k0_pay6]
theorem pay7 : k0_pay7 (F := Ideal) h u (ix2 r f) = ∑ y : Fin 1024, h (ix2 r y) * u (ix4 0 0 f y) := by
  pointwise [k0_pay7]
theorem pay8 (p q : Fin 1) : k0_pay8 (F := Ideal) h w (ix4 p q r f) = k0_pay6 (F := Ideal) h w (ix2 r f) := by
  pointwise [k0_pay8]
theorem pay9 (p q : Fin 1) : k0_pay9 (F := Ideal) h u (ix4 p q r f) = k0_pay7 (F := Ideal) h u (ix2 r f) := by
  pointwise [k0_pay9]
theorem pay10 : k0_pay10 (F := Ideal) h w u (ix2 r f) = unit (k0_pay6 (F := Ideal) h w (ix2 r f)) (k0_pay7 (F := Ideal) h u (ix2 r f)) := by
  pointwise [k0_pay10, unit]
theorem pay11 (q : Fin 1) : k0_pay11 (F := Ideal) h w u (ix3 q r f) = unit (k0_pay6 (F := Ideal) h w (ix2 r f)) (k0_pay7 (F := Ideal) h u (ix2 r f)) := by
  pointwise [k0_pay11, pay10]
theorem pay1 : k0_pay1 (F := Ideal) v x o (ix2 r k) = x (ix2 r k) + ∑ f : Fin 704, v (ix2 r f) * o (ix3 0 f k) := by
  pointwise [k0_pay1]
theorem pay2 : k0_pay2 (F := Ideal) x (ix2 r k) = x (ix2 r k) := by
  pointwise [k0_pay2]
theorem pay3 (a : Vec Ideal S512x1024 .f32) : k0_pay3 (F := Ideal) a x s (ix2 r k) = x (ix2 r k) + half * (1 + s (ix3 0 2 k)) * a (ix2 r k) := by
  pointwise [k0_pay3]

end Kernel

/-- Column `f` of tile `j` of the hidden columns. -/
abbrev hcol (j : Fin 4) (f : Fin 704) : Fin 2816 := ⟨704 * j.val + f.val, by omega⟩
/-- Column `q` of the gates (`a` is 0) or of the values (`a` is 1) in the first matrix. -/
abbrev wcol (a : Fin 2) (q : Fin 2816) : Fin 5632 := ⟨2816 * a.val + q.val, by omega⟩

section Reference
open Cert.FfnFwdRefIdeal Cert.FfnFwdRefIdeal.Read

variable (x0 : Mat) (x1 : Mods) (x2 : Row) (x3 : WIn) (x4 : WOut) (r : Fin 4096) (b : Fin 2) (t : Fin 2048) (k : Fin 1024) (q : Fin 2816)

/-- The modulated row `r` of the arguments. -/
abbrev row0 : Fin 1024 → EReal :=
  modulated (fun y => x0 (ix2 r y)) (fun y => x2 (ix1 y)) (fun y => x1 (ix3 (seqOf r) 1 y)) (fun y => x1 (ix3 (seqOf r) 0 y))
/-- Row `r` of the product with the first matrix. -/
def pre (p : Fin 5632) : EReal := ∑ k : Fin 1024, row0 x0 x1 x2 r k * x3 (ix2 k p)
/-- Row `r` of the gated units. -/
def hid : EReal := unit (pre x0 x1 x2 x3 r (wcol 0 q)) (pre x0 x1 x2 x3 r (wcol 1 q))
/-- Row `r` of the product with the second matrix. -/
def out : EReal := ∑ q : Fin 2816, hid x0 x1 x2 x3 r q * x4 (ix2 q k)

theorem v9 : val_main_v9 (F := Ideal) x0 (ix3 b t k) = rms (fun y => x0 (ix2 (rowOf b t) y)) := by
  pointwise [val_main_v9, val_main_v8, val_main_v7, val_main_v6, val_main_v5, val_main_v4, val_main_v3, val_main_v2, val_main_v1, val_main_v0, val_main_cst, val_main_cst_0, val_main_cst_1, rms, ms, len]
theorem v13 : val_main_v13 (F := Ideal) x0 x2 (ix3 b t k) = hat (fun y => x0 (ix2 (rowOf b t) y)) k * x2 (ix1 k) := by
  pointwise [val_main_v13, val_main_v12, val_main_v11, val_main_v10, val_main_v0, v9, hat]
theorem v16 : val_main_v16 (F := Ideal) x1 (ix3 b 0 k) = 1 + x1 (ix3 b 1 k) := by
  pointwise [val_main_v16, val_main_v15, val_main_v14, val_main_cst_2]
theorem v21 : val_main_v21 (F := Ideal) x0 x1 x2 (ix3 b t k)
    = modulated (fun y => x0 (ix2 (rowOf b t) y)) (fun y => x2 (ix1 y)) (fun y => x1 (ix3 b 1 y)) (fun y => x1 (ix3 b 0 y)) k := by
  pointwise [val_main_v21, val_main_v20, val_main_v19, val_main_v18, val_main_v17, v13, v16, modulated]
theorem v22 : val_main_v22 (F := Ideal) x0 x1 x2 (ix2 r k) = row0 x0 x1 x2 r k := by
  have e : rowOf (seqOf r) ⟨r.val % 2048, Nat.mod_lt _ (by decide)⟩ = r := by apply Fin.ext; simp only [rowOf, seqOf]; omega
  pointwise [val_main_v22, v21]
  rw [e]
theorem v23 (p : Fin 5632) : val_main_v23 (F := Ideal) x0 x1 x2 x3 (ix2 r p) = pre x0 x1 x2 x3 r p := by
  pointwise [val_main_v23, v22, pre]
theorem v24 : val_main_v24 (F := Ideal) x0 x1 x2 x3 (ix2 r q) = pre x0 x1 x2 x3 r (wcol 0 q) := by
  have e : (⟨q.val, by omega⟩ : Fin 5632) = wcol 0 q := by apply Fin.ext; simp
  pointwise [val_main_v24, v23, e]
theorem v25 : val_main_v25 (F := Ideal) x0 x1 x2 x3 (ix2 r q) = pre x0 x1 x2 x3 r (wcol 1 q) := by
  have e : (⟨2816 + q.val, by omega⟩ : Fin 5632) = wcol 1 q := by apply Fin.ext; simp
  pointwise [val_main_v25, v23]
  rw [e]
theorem v26 : val_main_v26 (F := Ideal) x0 x1 x2 x3 (ix2 r q) = pre x0 x1 x2 x3 r (wcol 0 q) * Ideal.logistic (pre x0 x1 x2 x3 r (wcol 0 q)) := by
  pointwise [val_main_v26, val_main_call0_v5, val_main_call0_v4, val_main_call0_cst_0, val_main_call0_v3, val_main_call0_v2, val_main_call0_cst, val_main_call0_v1, val_main_call0_v0, v24, Ideal.logistic]
theorem v27 : val_main_v27 (F := Ideal) x0 x1 x2 x3 (ix2 r q) = hid x0 x1 x2 x3 r q := by
  pointwise [val_main_v27, v26, v25, hid, unit]
theorem v28 : val_main_v28 (F := Ideal) x0 x1 x2 x3 x4 (ix2 r k) = out x0 x1 x2 x3 x4 r k := by
  pointwise [val_main_v28, v27, out]
theorem v45 : val_main_v45 (F := Ideal) x0 x1 x2 x3 x4 (ix2 r k) = out x0 x1 x2 x3 x4 r k := by
  pointwise [val_main_v45, v28]
theorem v44 (j : Fin 4) (f : Fin 704) : val_main_v44 (F := Ideal) x0 x1 x2 x3 (ix3 j r f) = hid x0 x1 x2 x3 r (hcol j f) := by
  have e : (⟨j.val * 704 + f.val, by omega⟩ : Fin 2816) = hcol j f := by apply Fin.ext; simp only [hcol]; omega
  pointwise [val_main_v44, val_main_v43, val_main_v42, v27]
  rw [e]
theorem v41 (a : Fin 2) (j : Fin 4) (f : Fin 704) : val_main_v41 (F := Ideal) x0 x1 x2 x3 (ix4 a j r f) = pre x0 x1 x2 x3 r (wcol a (hcol j f)) := by
  have e : (⟨a.val * 2816 + j.val * 704 + f.val, by omega⟩ : Fin 5632) = wcol a (hcol j f) := by apply Fin.ext; simp only [wcol, hcol]; omega
  pointwise [val_main_v41, val_main_v30, val_main_v29, v23]
  rw [e]
theorem v35 : val_main_v35 (F := Ideal) x1 (ix3 b 0 k) = half * (1 + x1 (ix3 b 2 k)) := by
  pointwise [val_main_v35, val_main_v34, val_main_v33, val_main_v32, val_main_v31, val_main_cst_3, val_main_cst_4]
theorem v40 : val_main_v40 (F := Ideal) x0 x1 x2 x3 x4 (ix2 r k)
    = x0 (ix2 r k) + half * (1 + x1 (ix3 (seqOf r) 2 k)) * out x0 x1 x2 x3 x4 r k := by
  have e : (⟨(seqOf r).val * 2048 + r.val % 2048, by simp only [seqOf]; omega⟩ : Fin 4096) = r := by apply Fin.ext; simp only [seqOf]; omega
  pointwise [val_main_v40, val_main_v39, val_main_v38, val_main_v37, val_main_v36, v35, v28]

end Reference

open Cert.FfnFwdIdeal Cert.FfnFwdIdeal.Gen

variable (m : (ℓ : Loc nD τ sig) → Buf (Elt Ideal) ℓ) (ρ : Dev nD → PrngReg) (c : Dev nD)

theorem idx : ∀ t : Fin cfg0.N, win0_0.index t = ![t.val / 4, 0] ∧ win0_1.index t = ![t.val / 16, 0, 0] ∧ win0_2.index t = ![0, 0]
    ∧ win0_3.index t = ![0, t.val % 4, 0, 0] ∧ win0_4.index t = ![t.val % 4, 0, 0] ∧ win0_5.index t = ![t.val / 4, 0]
    ∧ win0_6.index t = ![0, t.val % 4, t.val / 4, 0] ∧ win0_7.index t = ![t.val % 4, t.val / 4, 0] ∧ win0_8.index t = ![t.val / 4, 0] :=
  (by decide +kernel : ∀ t : Fin grid0.N, _)

/-- The arguments on the device. -/
abbrev X : Mat := m ((c.tc : Thread nD τ).loc main_arg0)
abbrev S : Mods := m ((c.tc : Thread nD τ).loc main_arg1)
abbrev G : Row := m ((c.tc : Thread nD τ).loc main_arg2)
abbrev W : WIn := m ((c.tc : Thread nD τ).loc main_arg3)
abbrev O : WOut := m ((c.tc : Thread nD τ).loc main_arg4)

theorem lt32 (t : Fin cfg0.N) : t.val < 32 := lt_of_lt_of_eq t.isLt N_0

/-- The row of the whole array that row `r` of the rows at point `n` is. -/
abbrev row (n : ℕ) (hn : n < cfg0.N) (r : Fin 512) : Fin 4096 := ⟨512 * (n / 4) + r.val, by have := lt_of_lt_of_eq hn N_0; have := r.isLt; omega⟩
/-- The tile of the hidden columns at point `n`. -/
abbrev jt (n : ℕ) : Fin 4 := ⟨n % 4, by omega⟩

theorem blk0 (t : Fin cfg0.N) (r : Fin 512) (x : Fin 1024) : iblk m c 0 t (ix2 r x) = X m c (ix2 (row t.val t.isLt r) x) := by
  blk_point [iblk, V, idx t]
theorem blk1 (t : Fin cfg0.N) (i : Fin 3) (x : Fin 1024) : iblk m c 1 t (ix3 0 i x) = S m c (ix3 (⟨t.val / 16, by have := lt32 t; omega⟩ : Fin 2) i x) := by
  blk_point [iblk, V, idx t]
theorem blk2 (t : Fin cfg0.N) (x : Fin 1024) : iblk m c 2 t (ix2 0 x) = G m c (ix1 x) := by
  blk_point [iblk, V, idx t]
theorem blk3 (t : Fin cfg0.N) (a : Fin 2) (f : Fin 704) (x : Fin 1024) : iblk m c 3 t (ix4 a 0 f x) = W m c (ix2 x (wcol a (hcol (jt t.val) f))) := by
  blk_point [iblk, V, idx t]
theorem blk4 (t : Fin cfg0.N) (f : Fin 704) (x : Fin 1024) : iblk m c 4 t (ix3 0 f x) = O m c (ix2 (hcol (jt t.val) f) x) := by
  blk_point [iblk, V, idx t]
theorem emb5 (t : Fin cfg0.N) (r : Fin 512) (x : Fin 1024) : ((View.whole main_v6_0).slice (win0_5.rect t)).emb (ix2 r x) = ix2 (row t.val t.isLt r) x := by
  blk_ext [idx t]
theorem emb6 (t : Fin cfg0.N) (a : Fin 2) (r : Fin 512) (f : Fin 704) : ((View.whole main_v6_1).slice (win0_6.rect t)).emb (ix4 a 0 r f) = ix4 a (jt t.val) (row t.val t.isLt r) f := by
  blk_ext [idx t]
theorem emb7 (t : Fin cfg0.N) (r : Fin 512) (f : Fin 704) : ((View.whole main_v6_2).slice (win0_7.rect t)).emb (ix3 0 r f) = ix3 (jt t.val) (row t.val t.isLt r) f := by
  blk_ext [idx t]
theorem emb8 (t : Fin cfg0.N) (r : Fin 512) (x : Fin 1024) : ((View.whole main_v6_3).slice (win0_8.rect t)).emb (ix2 r x) = ix2 (row t.val t.isLt r) x := by
  blk_ext [idx t]

/-! ## The carried rows -/

theorem seq_row (t : Fin cfg0.N) (r : Fin 512) : seqOf (row t.val t.isLt r) = (⟨t.val / 16, by have := lt32 t; omega⟩ : Fin 2) := by
  apply Fin.ext; have := r.isLt; simp only [seqOf, row]; omega

/-- The kept modulated rows after a point are those of the point's rows. -/
theorem kept (n : ℕ) (hn : n < cfg0.N) (r : Fin 512) (k : Fin 1024) :
    (outsAt0 m c n hn).2.2.2.2.1 (ix2 r k) = row0 (X m c) (S m c) (G m c) (row n hn r) k := by
  induction n with
  | zero =>
    rw [outsAt0_A m c ⟨0, hn⟩ rfl (by dsimp only; omega)]
    frame_out
    rw [pay4]
    have e := seq_row ⟨0, hn⟩ r
    simp only [blk0, blk1, blk2, row0, e]
  | succ n ih =>
    by_cases h0 : (n + 1) % 4 = 0
    · rw [outsAt0_A m c ⟨n + 1, hn⟩ h0 (by dsimp only; omega)]
      frame_out
      rw [pay4]
      have e := seq_row ⟨n + 1, hn⟩ r
      simp only [blk0, blk1, blk2, row0, e]
    · have er : row (n + 1) hn r = row n (by omega) r := by apply Fin.ext; simp only [row]; omega
      rw [er, ← ih (by omega)]
      by_cases h1 : (n + 1) % 4 = 3
      · rw [outsAt0_C m c ⟨n + 1, hn⟩ h0 h1]
        frame_out
        rfl
      · rw [outsAt0_B m c ⟨n + 1, hn⟩ h0 h1]
        frame_out
        rfl

/-! ## One point -/

theorem cut0 (B : Vec Ideal S2x1x704x1024 .bf16) (inb) (f : Fin 704) (y : Fin 1024) :
    View.ld (Val := Elt Ideal) (e' := .bf16) (S := S2x1x704x1024) B (Rect.unit ![0, 0, 0, 0] ![1, 1, 704, 1024] inb) (ix4 0 0 f y) = B (ix4 0 0 f y) := by
  have e : (Rect.unit (s := S2x1x704x1024) ![0, 0, 0, 0] ![1, 1, 704, 1024] inb).emb (ix4 0 0 f y) = ix4 0 0 f y := by blk_ext []
  exact congrArg B e
theorem cut1 (B : Vec Ideal S2x1x704x1024 .bf16) (inb) (f : Fin 704) (y : Fin 1024) :
    View.ld (Val := Elt Ideal) (e' := .bf16) (S := S2x1x704x1024) B (Rect.unit ![1, 0, 0, 0] ![1, 1, 704, 1024] inb) (ix4 0 0 f y) = B (ix4 1 0 f y) := by
  have e : (Rect.unit (s := S2x1x704x1024) ![1, 0, 0, 0] ![1, 1, 704, 1024] inb).emb (ix4 0 0 f y) = ix4 1 0 f y := by blk_ext []
  exact congrArg B e

/-- The rows' kept modulation, stored at the first tile and read back at the others. -/
abbrev Kept (t : Fin cfg0.N) (h : Vec Ideal S512x1024 .bf16) : Prop :=
  ∀ (r : Fin 512) (y : Fin 1024), h (ix2 r y) = row0 (X m c) (S m c) (G m c) (row t.val t.isLt r) y

theorem kept_first (t : Fin cfg0.N) : Kept m c t (k0_pay4 (F := Ideal) (iblk m c 1 t) (iblk m c 0 t) (iblk m c 2 t)) := fun r y => by
  rw [pay4]
  simp only [blk0, blk1, blk2, row0, seq_row]

theorem kept_next (t : Fin cfg0.N) (h0 : ¬t.val % 4 = 0) : Kept m c t (outsAt0 m c (t.val - 1) (by have := t.isLt; omega)).2.2.2.2.1 := fun r y => by
  have er : row (t.val - 1) (by have := t.isLt; omega) r = row t.val t.isLt r := by apply Fin.ext; simp only [row]; omega
  rw [kept, er]

section Tile

variable (t : Fin cfg0.N) (h : Vec Ideal S512x1024 .bf16) (hh : Kept m c t h) (r : Fin 512) (f : Fin 704)
include hh

/-- The tile of gates and the tile of values. -/
abbrev tile0 (t : Fin cfg0.N) : Vec Ideal S1x1x704x1024 .bf16 := View.ld (Val := Elt Ideal) (e' := .bf16) (S := S2x1x704x1024) (iblk m c 3 t)
  (Rect.unit ![0, 0, 0, 0] ![1, 1, 704, 1024] inb_S2x1x704x1024_S1x1x704x1024_0_0_0_0)
abbrev tile1 (t : Fin cfg0.N) : Vec Ideal S1x1x704x1024 .bf16 := View.ld (Val := Elt Ideal) (e' := .bf16) (S := S2x1x704x1024) (iblk m c 3 t)
  (Rect.unit ![1, 0, 0, 0] ![1, 1, 704, 1024] inb_S2x1x704x1024_S1x1x704x1024_1_0_0_0)

theorem gate_at : k0_pay6 (F := Ideal) h (tile0 m c t) (ix2 r f) = pre (X m c) (S m c) (G m c) (W m c) (row t.val t.isLt r) (wcol 0 (hcol (jt t.val) f)) := by
  rw [pay6, pre]
  exact Finset.sum_congr rfl fun y _ => congrArg₂ _ (hh r y) ((cut0 _ _ f y).trans (blk3 m c t 0 f y))
theorem value_at : k0_pay7 (F := Ideal) h (tile1 m c t) (ix2 r f) = pre (X m c) (S m c) (G m c) (W m c) (row t.val t.isLt r) (wcol 1 (hcol (jt t.val) f)) := by
  rw [pay7, pre]
  exact Finset.sum_congr rfl fun y _ => congrArg₂ _ (hh r y) ((cut1 _ _ f y).trans (blk3 m c t 1 f y))
theorem unit_at : k0_pay11 (F := Ideal) h (tile0 m c t) (tile1 m c t) (ix3 0 r f)
    = hid (X m c) (S m c) (G m c) (W m c) (row t.val t.isLt r) (hcol (jt t.val) f) := by
  rw [pay11, gate_at m c t h hh, value_at m c t h hh, hid]
theorem unit_row : k0_pay10 (F := Ideal) h (tile0 m c t) (tile1 m c t) (ix2 r f)
    = hid (X m c) (S m c) (G m c) (W m c) (row t.val t.isLt r) (hcol (jt t.val) f) := by
  rw [pay10, gate_at m c t h hh, value_at m c t h hh, hid]

end Tile

/-- One tile's part of an entry of the product. -/
def tilePart (R : Fin 4096) (k : Fin 1024) (j : Fin 4) : EReal :=
  ∑ f : Fin 704, hid (X m c) (S m c) (G m c) (W m c) R (hcol j f) * O m c (ix2 (hcol j f) k)

theorem acc_at (t : Fin cfg0.N) (h : Vec Ideal S512x1024 .bf16) (hh : Kept m c t h) (a : Vec Ideal S512x1024 .f32) (r : Fin 512) (k : Fin 1024) :
    k0_pay1 (F := Ideal) (k0_pay10 h (tile0 m c t) (tile1 m c t)) a (iblk m c 4 t) (ix2 r k)
      = a (ix2 r k) + tilePart m c (row t.val t.isLt r) k (jt t.val) := by
  refine (pay1 _ _ _ r k).trans (congrArg _ ?_)
  exact Finset.sum_congr rfl fun f _ => congrArg₂ _ (unit_row m c t h hh r f) (blk4 m c t f k)

/-- Two stores over the gates' and values' block leave their tiles. -/
theorem both (h : Vec Ideal S512x1024 .bf16) (t : Fin cfg0.N) (hh : Kept m c t h) (a : Fin 2) (r : Fin 512) (f : Fin 704) :
    View.canon (Val := Elt Ideal) (e := .bf16)
      [⟨Rect.unit (s := S2x1x512x704) ![1, 0, 0, 0] ![1, 1, 512, 704] inb_S2x1x512x704_S1x1x512x704_1_0_0_0, k0_pay9 (F := Ideal) h (tile1 m c t)⟩,
        ⟨Rect.unit (s := S2x1x512x704) ![0, 0, 0, 0] ![1, 1, 512, 704] inb_S2x1x512x704_S1x1x512x704_0_0_0_0, k0_pay8 (F := Ideal) h (tile0 m c t)⟩] (ix4 a 0 r f)
      = pre (X m c) (S m c) (G m c) (W m c) (row t.val t.isLt r) (wcol a (hcol (jt t.val) f)) := by
  have e0 := gate_at m c t h hh
  have e1 := value_at m c t h hh
  generalize tile0 m c t = T0 at e0 ⊢
  generalize tile1 m c t = T1 at e1 ⊢
  canon_tiles x hx
  · idx_vars x
    obtain rfl : a = 1 := by apply Fin.ext; show a.val = 1; omega
    obtain rfl : r = x2 := Fin.ext hx2
    obtain rfl : f = x3 := Fin.ext hx3
    rw [pay9, e1]
  · idx_vars x
    obtain rfl : a = 0 := by apply Fin.ext; show a.val = 0; omega
    obtain rfl : r = x2 := Fin.ext hx2
    obtain rfl : f = x3 := Fin.ext hx3
    rw [pay8, e0]

/-- The gates and the values a point leaves. -/
theorem gates (t : Fin cfg0.N) (a : Fin 2) (r : Fin 512) (f : Fin 704) : (outsAt0 m c t.val t.isLt).2.1 (ix4 a 0 r f)
    = pre (X m c) (S m c) (G m c) (W m c) (row t.val t.isLt r) (wcol a (hcol (jt t.val) f)) := by
  by_cases h0 : t.val % 4 = 0
  · rw [outsAt0_A m c t h0 (by omega)]
    frame_out
    exact both m c _ t (kept_first m c t) a r f
  · by_cases h1 : t.val % 4 = 3
    · rw [outsAt0_C m c t h0 h1]
      frame_out
      simp only [read_unread_whole]
      exact both m c _ t (kept_next m c t h0) a r f
    · rw [outsAt0_B m c t h0 h1]
      frame_out
      simp only [read_unread_whole]
      exact both m c _ t (kept_next m c t h0) a r f

/-- The gated units a point leaves. -/
theorem units (t : Fin cfg0.N) (r : Fin 512) (f : Fin 704) : (outsAt0 m c t.val t.isLt).2.2.1 (ix3 0 r f)
    = hid (X m c) (S m c) (G m c) (W m c) (row t.val t.isLt r) (hcol (jt t.val) f) := by
  by_cases h0 : t.val % 4 = 0
  · rw [outsAt0_A m c t h0 (by omega)]
    frame_out
    exact unit_at m c t _ (kept_first m c t) r f
  · by_cases h1 : t.val % 4 = 3
    · rw [outsAt0_C m c t h0 h1]
      frame_out
      simp only [read_unread_whole]
      exact unit_at m c t _ (kept_next m c t h0) r f
    · rw [outsAt0_B m c t h0 h1]
      frame_out
      simp only [read_unread_whole]
      exact unit_at m c t _ (kept_next m c t h0) r f

theorem acc_first (t : Fin cfg0.N) (h0 : t.val % 4 = 0) (r : Fin 512) (k : Fin 1024) :
    (outsAt0 m c t.val t.isLt).2.2.2.2.2 (ix2 r k) = tilePart m c (row t.val t.isLt r) k (jt t.val) := by
  rw [outsAt0_A m c t h0 (by omega)]
  frame_out
  refine (acc_at m c t _ (kept_first m c t) _ r k).trans ?_
  rw [pay5, zero_add]

theorem acc_next (t : Fin cfg0.N) (h0 : ¬t.val % 4 = 0) (r : Fin 512) (k : Fin 1024) :
    (outsAt0 m c t.val t.isLt).2.2.2.2.2 (ix2 r k)
      = (outsAt0 m c (t.val - 1) (by have := t.isLt; omega)).2.2.2.2.2 (ix2 r k) + tilePart m c (row t.val t.isLt r) k (jt t.val) := by
  by_cases h1 : t.val % 4 = 3
  · rw [outsAt0_C m c t h0 h1]
    frame_out
    simp only [read_unread_whole]
    exact acc_at m c t _ (kept_next m c t h0) _ r k
  · rw [outsAt0_B m c t h0 h1]
    frame_out
    simp only [read_unread_whole]
    exact acc_at m c t _ (kept_next m c t h0) _ r k

/-! ## The accumulated product -/

theorem tiles_out (R : Fin 4096) (k : Fin 1024) : (∑ j : Fin 4, tilePart m c R k j) = out (X m c) (S m c) (G m c) (W m c) (O m c) R k :=
  Sums.blocks (T := 4) (n := 704) (N := 2816) rfl (fun q => hid (X m c) (S m c) (G m c) (W m c) R q * O m c (ix2 q k)) hcol (fun _ _ => rfl)

/-- The sum of the tiles up to one of them, with the next. -/
theorem upto (g : Fin 4 → EReal) (a : ℕ) (h : a + 1 < 4) :
    (∑ j : Fin 4, if j.val ≤ a then g j else 0) + g ⟨a + 1, h⟩ = ∑ j : Fin 4, if j.val ≤ a + 1 then g j else 0 := by
  have : a = 0 ∨ a = 1 ∨ a = 2 := by omega
  rcases this with rfl | rfl | rfl <;> simp [Fin.sum_univ_four]

/-- After a point, the accumulated product holds the tiles up to the point's. -/
theorem acc (n : ℕ) (hn : n < cfg0.N) (r : Fin 512) (k : Fin 1024) :
    (outsAt0 m c n hn).2.2.2.2.2 (ix2 r k) = ∑ j : Fin 4, if j.val ≤ n % 4 then tilePart m c (row n hn r) k j else 0 := by
  induction n with
  | zero =>
    rw [acc_first m c ⟨0, hn⟩ rfl]
    simp [Fin.sum_univ_four]
    rfl
  | succ n ih =>
    by_cases h0 : (n + 1) % 4 = 0
    · rw [acc_first m c ⟨n + 1, hn⟩ h0, h0]
      have ej : jt (n + 1) = 0 := by apply Fin.ext; exact h0
      simp [Fin.sum_univ_four, ej]
    · have er : row n (by omega) r = row (n + 1) hn r := by apply Fin.ext; simp only [row]; omega
      have e1 : (n + 1) % 4 = n % 4 + 1 := by omega
      have ej : jt (n + 1) = ⟨n % 4 + 1, by omega⟩ := by apply Fin.ext; exact e1
      rw [acc_next m c ⟨n + 1, hn⟩ h0, e1, ← upto _ _ (by omega)]
      refine congrArg₂ _ ?_ ?_
      · exact (ih (by omega)).trans (by rw [er])
      · exact congrArg _ ej

/-- At the last tile it holds the whole product. -/
theorem acc_last (t : Fin cfg0.N) (h : t.val % 4 = 3) (r : Fin 512) (k : Fin 1024) :
    (outsAt0 m c t.val t.isLt).2.2.2.2.2 (ix2 r k) = out (X m c) (S m c) (G m c) (W m c) (O m c) (row t.val t.isLt r) k := by
  rw [acc, h, ← tiles_out]
  exact Finset.sum_congr rfl fun j _ => if_pos (by omega)

theorem prod_last (t : Fin cfg0.N) (h : t.val % 4 = 3) (r : Fin 512) (k : Fin 1024) :
    (outsAt0 m c t.val t.isLt).2.2.2.1 (ix2 r k) = (outsAt0 m c t.val t.isLt).2.2.2.2.2 (ix2 r k) := by
  rw [outsAt0_C m c t (by omega) h]
  frame_out
  rw [pay2]

theorem resid_last (t : Fin cfg0.N) (h : t.val % 4 = 3) (r : Fin 512) (k : Fin 1024) :
    (outsAt0 m c t.val t.isLt).1 (ix2 r k)
      = X m c (ix2 (row t.val t.isLt r) k) + half * (1 + S m c (ix3 (seqOf (row t.val t.isLt r)) 2 k)) * (outsAt0 m c t.val t.isLt).2.2.2.2.2 (ix2 r k) := by
  rw [outsAt0_C m c t (by omega) h]
  frame_out
  rw [pay3, blk0, blk1, seq_row]

/-! ## The four outputs -/

theorem final6 : (dats m 0 c).arrAt 6 cfg0.N = Cert.FfnFwdRefIdeal.Read.val_main_v41 (F := Ideal) (X m c) (S m c) (G m c) (W m c) := by
  refine (dats m 0 c).arrAt_eq_of_covers 6 _ (by decide +kernel) fun t hf y => ?_
  blk_simp
  rw [after0_6]
  idx_vars y
  obtain rfl : y1 = 0 := Subsingleton.elim _ _
  rw [gates, emb6, v41]

theorem final7 : (dats m 0 c).arrAt 7 cfg0.N = Cert.FfnFwdRefIdeal.Read.val_main_v44 (F := Ideal) (X m c) (S m c) (G m c) (W m c) := by
  refine (dats m 0 c).arrAt_eq_of_covers 7 _ (by decide +kernel) fun t hf y => ?_
  blk_simp
  rw [after0_7]
  idx_vars y
  obtain rfl : y0 = 0 := Subsingleton.elim _ _
  rw [units, emb7, v44]

theorem final8 : (dats m 0 c).arrAt 8 cfg0.N = Cert.FfnFwdRefIdeal.Read.val_main_v45 (F := Ideal) (X m c) (S m c) (G m c) (W m c) (O m c) := by
  refine (dats m 0 c).arrAt_eq_of_covers 8 _ (by decide +kernel) fun t hf y => ?_
  have h : t.val % 4 = 3 := (by decide +kernel : ∀ t : Fin cfg0.N, (win0 8).flush t = true → t.val % 4 = 3) t hf
  blk_simp
  rw [after0_8]
  idx_vars y
  rw [prod_last m c t h, acc_last m c t h, emb8, v45]

theorem final5 : (dats m 0 c).arrAt 5 cfg0.N = Cert.FfnFwdRefIdeal.Read.val_main_v40 (F := Ideal) (X m c) (S m c) (G m c) (W m c) (O m c) := by
  refine (dats m 0 c).arrAt_eq_of_covers 5 _ (by decide +kernel) fun t hf y => ?_
  have h : t.val % 4 = 3 := (by decide +kernel : ∀ t : Fin cfg0.N, (win0 5).flush t = true → t.val % 4 = 3) t hf
  blk_simp
  rw [after0_5]
  idx_vars y
  rw [resid_last m c t h, acc_last m c t h, emb5, v40]

end Cert.FfnFwdIdeal.Val

end

end
-- ==== Proof.FfnFwdClaim.lean ====
module

public import proofs.«01_k».proof.Defs
public import proofs.«01_k».proof.Proof.Gen.FfnFwd.Frame
public import proofs.«01_k».proof.Proof.Gen.FfnFwdIdeal.Value
public import proofs.«01_k».proof.Proof.Gen.FfnFwdRefIdeal.Run
public import proofs.«01_k».proof.Proof.FfnFwdValue

/-! The claims about the forward call of the feed-forward half step. -/

@[expose] public section

noncomputable section

open Idealize.ShloMosaic Idealize.ShloMosaic.TcCoe Idealize.SL.Sem

namespace Cert.FfnFwdIdeal.Val
open Cert.FfnFwdIdeal Cert.FfnFwdIdeal.Gen

theorem frame_kernel : Cert.quiescent_FfnFwd := fun m ρ _ => Cert.FfnFwd.Gen.frame m ρ
theorem frame_ideal : Cert.quiescent_FfnFwdIdeal := fun m ρ _ => Cert.FfnFwdIdeal.Gen.frame m ρ

/-- The reference is a straight line of host operations and declares no semaphore. -/
theorem frame_reference : Cert.quiescent_FfnFwdRefIdeal := fun m ρ _ =>
  (θ_run Cert.FfnFwdRefIdeal.defs _ _).mono (fun r h => ⟨fun c => (h c).2.2.2.2, sem_eq_zero_of_no_sems (by decide) r.2⟩) (Cert.FfnFwdRefIdeal.Value.run m ρ)

/-- The two programs end with equal results. -/
theorem equal : Cert.algebraic_FfnFwdIdeal_FfnFwdRefIdeal := fun m ρ m' ρ' _ hag =>
  ⟨fun c => Cert.FfnFwdRefIdeal.Read.val_main_v40 (F := Ideal) (X m c) (S m c) (G m c) (W m c) (O m c),
    fun c => Cert.FfnFwdRefIdeal.Read.val_main_v41 (F := Ideal) (X m c) (S m c) (G m c) (W m c),
    fun c => Cert.FfnFwdRefIdeal.Read.val_main_v44 (F := Ideal) (X m c) (S m c) (G m c) (W m c),
    fun c => Cert.FfnFwdRefIdeal.Read.val_main_v45 (F := Ideal) (X m c) (S m c) (G m c) (W m c) (O m c),
    (θ_run _ _ _).mono (fun _ h c => ⟨(h c).1.trans (final5 m c), (h c).2.1.trans (final6 m c), (h c).2.2.1.trans (final7 m c), (h c).2.2.2.1.trans (final8 m c),
      (h c).2.2.2.2⟩) (Cert.FfnFwdIdeal.Value.run_blocks m ρ),
    (θ_run _ _ _).mono (fun _ h c =>
      have e := hag c
      ⟨(h c).1.trans ((Cert.FfnFwdRefIdeal.Read.val_main_v40_eq m' c).trans (by rw [e.1, e.2.1, e.2.2.1, e.2.2.2.1, e.2.2.2.2])),
      (h c).2.1.trans ((Cert.FfnFwdRefIdeal.Read.val_main_v41_eq _ _ _ _).trans (by rw [e.1, e.2.1, e.2.2.1, e.2.2.2.1])),
      (h c).2.2.1.trans ((Cert.FfnFwdRefIdeal.Read.val_main_v44_eq m' c).trans (by rw [e.1, e.2.1, e.2.2.1, e.2.2.2.1])),
      (h c).2.2.2.1.trans ((Cert.FfnFwdRefIdeal.Read.val_main_v45_eq m' c).trans (by rw [e.1, e.2.1, e.2.2.1, e.2.2.2.1, e.2.2.2.2])),
      (h c).2.2.2.2⟩)
      (Cert.FfnFwdRefIdeal.Value.run m' ρ')⟩

end Cert.FfnFwdIdeal.Val

end

end
-- ==== Proof.Steps.lean ====
module

public import Mathlib.Data.EReal.Operations
public import Mathlib.Algebra.BigOperators.Fin

/-! A running sum restarted at every `T`-th point: at the last point of a stretch it is the sum of the stretch's parts. -/

@[expose] public section

namespace Cert.Steps

variable {T N : ℕ} (a g : (n : ℕ) → n < N → EReal)

/-- The running sum `j` points after a restart. -/
theorem upto (first : ∀ n hn, n % T = 0 → a n hn = g n hn)
    (next : ∀ n hn, ¬n % T = 0 → a n hn = a (n - 1) (by omega) + g n hn) (q j : ℕ) (hj : j < T) (h : T * q + j < N) :
    a (T * q + j) h = ∑ i : Fin (j + 1), g (T * q + i.val) (by have := i.isLt; omega) := by
  induction j with
  | zero => rw [first _ _ (by simp)]; simp
  | succ j ih =>
    have hm : ¬(T * q + (j + 1)) % T = 0 := by rw [Nat.mul_add_mod, Nat.mod_eq_of_lt hj]; omega
    rw [next _ _ hm, Fin.sum_univ_castSucc]
    exact congrArg (· + _) (ih (by omega) (by omega))

/-- The running sum at the end of a stretch. -/
theorem last (first : ∀ n hn, n % T = 0 → a n hn = g n hn)
    (next : ∀ n hn, ¬n % T = 0 → a n hn = a (n - 1) (by omega) + g n hn) (k : ℕ) (hT : T = k + 1) (n : ℕ) (hn : n < N) (h : n % T = k) :
    a n hn = ∑ i : Fin T, g (T * (n / T) + i.val) (by have := i.isLt; have := Nat.div_add_mod n T; omega) := by
  have e : n = T * (n / T) + k := by rw [← h]; exact (Nat.div_add_mod n T).symm
  have hl : T * (n / T) + k < N := by omega
  have key := upto a g first next (n / T) k (by omega) hl
  subst hT
  rw [← key]
  congr 1

end Cert.Steps

end
-- ==== Proof.FfnWValue.lean ====
module

public import proofs.«01_k».proof.Proof.Gen.FfnWIdeal.Value
public import proofs.«01_k».proof.Proof.Gen.FfnWRefIdeal.Read
public import proofs.«01_k».proof.Proof.Steps
public import proofs.«01_k».proof.Proof.Sums
public import Idealize.ShloMosaic.Lib.Pipeline.ValueKit
public import Idealize.ShloMosaic.Lib.Pipeline.ReadBack

/-! The gradients of the feed-forward half step's two matrices: products over all rows, added up over four blocks of rows for each tile of the hidden columns. -/

@[expose] public section

set_option maxRecDepth 16384

noncomputable section

open Idealize.ShloMosaic Idealize.ShloMosaic.TcCoe Idealize.SL.Sem
open Idealize.ShloMosaic.Pipeline (Dat)

namespace Cert.FfnWIdeal.Val
open Cert.FfnWIdeal Cert.FfnWIdeal.Gen

/-- The arguments' contents. -/
abbrev Mat := (⟨S4096x1024, .f32⟩ : BufTy).Contents (Elt Ideal)
abbrev Hid := (⟨S4096x2816, .f32⟩ : BufTy).Contents (Elt Ideal)
abbrev Pre := (⟨S4096x5632, .f32⟩ : BufTy).Contents (Elt Ideal)

/-- Column `f` of tile `j` of the hidden columns. -/
abbrev hcol (j : Fin 4) (f : Fin 704) : Fin 2816 := ⟨704 * j.val + f.val, by omega⟩
/-- Column `q` of the gates (`a` is 0) or of the values (`a` is 1). -/
abbrev wcol (a : Fin 2) (q : Fin 2816) : Fin 5632 := ⟨2816 * a.val + q.val, by omega⟩

section Kernel

variable (h d : Vec Ideal S1024x1024 .bf16) (a : Vec Ideal S704x1024 .f32) (x : Vec Ideal S1x1x1024x704 .bf16) (u : Vec Ideal S1x1024x704 .bf16) (r : Fin 704) (k : Fin 1024)

theorem pay9 : k0_pay9 (F := Ideal) h a x (ix2 r k) = a (ix2 r k) + ∑ y : Fin 1024, x (ix4 0 0 y r) * h (ix2 y k) := by
  pointwise [k0_pay9, k0_pay8]
theorem pay10 : k0_pay10 (F := Ideal) h a x (ix2 r k) = a (ix2 r k) + ∑ y : Fin 1024, x (ix4 0 0 y r) * h (ix2 y k) := by
  pointwise [k0_pay10, k0_pay8]
theorem pay1 : k0_pay1 (F := Ideal) a (k0_pay11 u) (k0_pay12 d) (ix2 r k) = a (ix2 r k) + ∑ y : Fin 1024, u (ix3 0 y r) * d (ix2 y k) := by
  pointwise [k0_pay1, k0_pay11, k0_pay12]
theorem pay2 : k0_pay2 (F := Ideal) a (ix4 0 0 r k) = a (ix2 r k) := by
  pointwise [k0_pay2]
theorem pay3 : k0_pay3 (F := Ideal) a (ix4 0 0 r k) = a (ix2 r k) := by
  pointwise [k0_pay3]
theorem pay4 : k0_pay4 (F := Ideal) a (ix3 0 r k) = a (ix2 r k) := by
  pointwise [k0_pay4]
theorem pay5 : k0_pay5 (F := Ideal) (ix2 r k) = 0 := by
  pointwise [k0_pay5]
theorem pay6 : k0_pay6 (F := Ideal) (ix2 r k) = 0 := by
  pointwise [k0_pay6]
theorem pay7 : k0_pay7 (F := Ideal) (ix2 r k) = 0 := by
  pointwise [k0_pay7]

end Kernel

section Reference
open Cert.FfnWRefIdeal Cert.FfnWRefIdeal.Read

variable (x0 x3 : Mat) (x1 : Hid) (x2 : Pre) (a : Fin 2) (j : Fin 4) (f : Fin 704) (k : Fin 1024)

theorem v10 : val_main_v10 (F := Ideal) x0 x2 (ix4 a j f k) = ∑ y : Fin 4096, x2 (ix2 y (wcol a (hcol j f))) * x0 (ix2 y k) := by
  have e : (⟨a.val * 2816 + j.val * 704 + f.val, by omega⟩ : Fin 5632) = wcol a (hcol j f) := by apply Fin.ext; simp only [wcol, hcol]; omega
  pointwise [val_main_v10, val_main_v9, val_main_v8, val_main_v3, val_main_v2]
  rw [e]
theorem v12 : val_main_v12 (F := Ideal) x1 x3 (ix3 j f k) = ∑ y : Fin 4096, x1 (ix2 y (hcol j f)) * x3 (ix2 y k) := by
  have e : (⟨j.val * 704 + f.val, by omega⟩ : Fin 2816) = hcol j f := by apply Fin.ext; simp only [hcol]; omega
  pointwise [val_main_v12, val_main_v11, val_main_v7, val_main_v6]
  rw [e]
  exact Finset.sum_congr rfl fun y _ => mul_comm _ _

end Reference

variable (m : (ℓ : Loc nD τ sig) → Buf (Elt Ideal) ℓ) (ρ : Dev nD → PrngReg) (c : Dev nD)

theorem idx : ∀ t : Fin cfg0.N, win0_0.index t = ![t.val % 4, 0] ∧ win0_1.index t = ![0, t.val / 4, t.val % 4, 0] ∧ win0_2.index t = ![t.val / 4, t.val % 4, 0]
    ∧ win0_3.index t = ![t.val % 4, 0] ∧ win0_4.index t = ![0, t.val / 4, 0, 0] ∧ win0_5.index t = ![t.val / 4, 0, 0] :=
  (by decide +kernel : ∀ t : Fin grid0.N, _)

/-- The arguments on the device. -/
abbrev H : Mat := m ((c.tc : Thread nD τ).loc main_arg0)
abbrev U : Hid := m ((c.tc : Thread nD τ).loc main_arg1)
abbrev P : Pre := m ((c.tc : Thread nD τ).loc main_arg2)
abbrev D : Mat := m ((c.tc : Thread nD τ).loc main_arg3)

/-- The row of the arrays that row `y` of the block of rows at point `n` is. -/
abbrev row (n : ℕ) (y : Fin 1024) : Fin 4096 := ⟨1024 * (n % 4) + y.val, by omega⟩
/-- The tile of the hidden columns at point `n`. -/
abbrev jt (n : ℕ) (hn : n < cfg0.N) : Fin 4 := ⟨n / 4, by have := lt_of_lt_of_eq hn N_0; omega⟩

theorem blk0 (t : Fin cfg0.N) (y k : Fin 1024) : iblk m c 0 t (ix2 y k) = H m c (ix2 (row t.val y) k) := by
  blk_point [iblk, V, idx t]
theorem blk1 (t : Fin cfg0.N) (a : Fin 2) (y : Fin 1024) (f : Fin 704) : iblk m c 1 t (ix4 a 0 y f) = P m c (ix2 (row t.val y) (wcol a (hcol (jt t.val t.isLt) f))) := by
  blk_point [iblk, V, idx t]
theorem blk2 (t : Fin cfg0.N) (y : Fin 1024) (f : Fin 704) : iblk m c 2 t (ix3 0 y f) = U m c (ix2 (row t.val y) (hcol (jt t.val t.isLt) f)) := by
  blk_point [iblk, V, idx t]
theorem blk3 (t : Fin cfg0.N) (y k : Fin 1024) : iblk m c 3 t (ix2 y k) = D m c (ix2 (row t.val y) k) := by
  blk_point [iblk, V, idx t]
theorem emb4 (t : Fin cfg0.N) (a : Fin 2) (r : Fin 704) (k : Fin 1024) : ((View.whole main_v8_0).slice (win0_4.rect t)).emb (ix4 a 0 r k) = ix4 a (jt t.val t.isLt) r k := by
  blk_ext [idx t]
theorem emb5 (t : Fin cfg0.N) (r : Fin 704) (k : Fin 1024) : ((View.whole main_v8_1).slice (win0_5.rect t)).emb (ix3 0 r k) = ix3 (jt t.val t.isLt) r k := by
  blk_ext [idx t]

/-! ## One point -/

theorem cut0 (B : Vec Ideal S2x1x1024x704 .bf16) (inb) (y : Fin 1024) (f : Fin 704) :
    View.ld (Val := Elt Ideal) (e' := .bf16) (S := S2x1x1024x704) B (Rect.unit ![0, 0, 0, 0] ![1, 1, 1024, 704] inb) (ix4 0 0 y f) = B (ix4 0 0 y f) := by
  have e : (Rect.unit (s := S2x1x1024x704) ![0, 0, 0, 0] ![1, 1, 1024, 704] inb).emb (ix4 0 0 y f) = ix4 0 0 y f := by blk_ext []
  exact congrArg B e
theorem cut1 (B : Vec Ideal S2x1x1024x704 .bf16) (inb) (y : Fin 1024) (f : Fin 704) :
    View.ld (Val := Elt Ideal) (e' := .bf16) (S := S2x1x1024x704) B (Rect.unit ![1, 0, 0, 0] ![1, 1, 1024, 704] inb) (ix4 0 0 y f) = B (ix4 1 0 y f) := by
  have e : (Rect.unit (s := S2x1x1024x704) ![1, 0, 0, 0] ![1, 1, 1024, 704] inb).emb (ix4 0 0 y f) = ix4 1 0 y f := by blk_ext []
  exact congrArg B e

/-- The part one block of rows has in a product over the rows of a column `x` and a column `y`. -/
def part (x y : Fin 4096 → EReal) (n : ℕ) : EReal := ∑ i : Fin 1024, x (row n i) * y (row n i)
/-- A column of the gates' and values' cotangents at point `n`, and of the hidden rows. -/
abbrev pcol (a : Fin 2) (r : Fin 704) (n : ℕ) (hn : n < cfg0.N) (y : Fin 4096) : EReal := P m c (ix2 y (wcol a (hcol (jt n hn) r)))
abbrev ucol (r : Fin 704) (n : ℕ) (hn : n < cfg0.N) (y : Fin 4096) : EReal := U m c (ix2 y (hcol (jt n hn) r))

variable (t : Fin cfg0.N) (b : Vec Ideal S704x1024 .f32) (r : Fin 704) (k : Fin 1024)

theorem gate_at : k0_pay9 (F := Ideal) (iblk m c 0 t) b (View.ld (Val := Elt Ideal) (e' := .bf16) (S := S2x1x1024x704) (iblk m c 1 t)
      (Rect.unit ![0, 0, 0, 0] ![1, 1, 1024, 704] inb_S2x1x1024x704_S1x1x1024x704_0_0_0_0)) (ix2 r k)
    = b (ix2 r k) + part (pcol m c 0 r t.val t.isLt) (fun y => H m c (ix2 y k)) t.val := by
  rw [pay9, part]
  exact congrArg _ (Finset.sum_congr rfl fun y _ => congrArg₂ _ ((cut0 _ _ y r).trans (blk1 m c t 0 y r)) (blk0 m c t y k))
theorem value_at : k0_pay10 (F := Ideal) (iblk m c 0 t) b (View.ld (Val := Elt Ideal) (e' := .bf16) (S := S2x1x1024x704) (iblk m c 1 t)
      (Rect.unit ![1, 0, 0, 0] ![1, 1, 1024, 704] inb_S2x1x1024x704_S1x1x1024x704_1_0_0_0)) (ix2 r k)
    = b (ix2 r k) + part (pcol m c 1 r t.val t.isLt) (fun y => H m c (ix2 y k)) t.val := by
  rw [pay10, part]
  exact congrArg _ (Finset.sum_congr rfl fun y _ => congrArg₂ _ ((cut1 _ _ y r).trans (blk1 m c t 1 y r)) (blk0 m c t y k))
theorem unit_at : k0_pay1 (F := Ideal) b (k0_pay11 (iblk m c 2 t)) (k0_pay12 (iblk m c 3 t)) (ix2 r k)
    = b (ix2 r k) + part (ucol m c r t.val t.isLt) (fun y => D m c (ix2 y k)) t.val := by
  rw [pay1, part]
  exact congrArg _ (Finset.sum_congr rfl fun y _ => congrArg₂ _ (blk2 m c t y r) (blk3 m c t y k))

omit t b

/-- Parts added up over the four blocks of rows are the whole product. -/
theorem whole (a : (n : ℕ) → n < cfg0.N → EReal) (x : (n : ℕ) → n < cfg0.N → Fin 4096 → EReal) (y : Fin 4096 → EReal)
    (hx : ∀ n n' hn hn', n / 4 = n' / 4 → x n hn = x n' hn') (first : ∀ n hn, n % 4 = 0 → a n hn = part (x n hn) y n)
    (next : ∀ n hn, ¬n % 4 = 0 → a n hn = a (n - 1) (by omega) + part (x n hn) y n) (n : ℕ) (hn : n < cfg0.N) (h : n % 4 = 3) :
    a n hn = ∑ i : Fin 4096, x n hn i * y i := by
  refine (Steps.last a (fun n hn => part (x n hn) y n) first next 3 rfl n hn h).trans ?_
  refine Eq.trans ?_ (Sums.blocks (T := 4) (n := 1024) (N := 4096) rfl (fun i => x n hn i * y i) (fun j i => ⟨1024 * j.val + i.val, by omega⟩) (fun _ _ => rfl))
  refine Finset.sum_congr rfl fun j _ => Finset.sum_congr rfl fun i _ => ?_
  have er : row (4 * (n / 4) + j.val) i = ⟨1024 * j.val + i.val, by omega⟩ := by apply Fin.ext; simp only [row]; omega
  rw [er, hx _ n _ hn (by omega)]

theorem tile_eq (n n' : ℕ) (hn : n < cfg0.N) (hn' : n' < cfg0.N) (h : n / 4 = n' / 4) : jt n hn = jt n' hn' := Fin.ext h

/-! ## The three running sums -/

theorem gate_first (t : Fin cfg0.N) (h0 : t.val % 4 = 0) :
    (outsAt0 m c t.val t.isLt).2.2.1 (ix2 r k) = part (pcol m c 0 r t.val t.isLt) (fun y => H m c (ix2 y k)) t.val := by
  rw [outsAt0_A m c t h0 (by omega)]
  frame_out
  refine (gate_at m c t _ r k).trans ?_
  rw [pay5, zero_add]
theorem value_first (t : Fin cfg0.N) (h0 : t.val % 4 = 0) :
    (outsAt0 m c t.val t.isLt).2.2.2.1 (ix2 r k) = part (pcol m c 1 r t.val t.isLt) (fun y => H m c (ix2 y k)) t.val := by
  rw [outsAt0_A m c t h0 (by omega)]
  frame_out
  refine (value_at m c t _ r k).trans ?_
  rw [pay6, zero_add]
theorem unit_first (t : Fin cfg0.N) (h0 : t.val % 4 = 0) :
    (outsAt0 m c t.val t.isLt).2.2.2.2 (ix2 r k) = part (ucol m c r t.val t.isLt) (fun y => D m c (ix2 y k)) t.val := by
  rw [outsAt0_A m c t h0 (by omega)]
  frame_out
  refine (unit_at m c t _ r k).trans ?_
  rw [pay7, zero_add]

theorem gate_next (t : Fin cfg0.N) (h0 : ¬t.val % 4 = 0) : (outsAt0 m c t.val t.isLt).2.2.1 (ix2 r k)
    = (outsAt0 m c (t.val - 1) (by have := t.isLt; omega)).2.2.1 (ix2 r k) + part (pcol m c 0 r t.val t.isLt) (fun y => H m c (ix2 y k)) t.val := by
  by_cases h1 : t.val % 4 = 3
  · rw [outsAt0_C m c t h0 h1]
    frame_out
    simp only [read_unread_whole]
    exact gate_at m c t _ r k
  · rw [outsAt0_B m c t h0 h1]
    frame_out
    simp only [read_unread_whole]
    exact gate_at m c t _ r k
theorem value_next (t : Fin cfg0.N) (h0 : ¬t.val % 4 = 0) : (outsAt0 m c t.val t.isLt).2.2.2.1 (ix2 r k)
    = (outsAt0 m c (t.val - 1) (by have := t.isLt; omega)).2.2.2.1 (ix2 r k) + part (pcol m c 1 r t.val t.isLt) (fun y => H m c (ix2 y k)) t.val := by
  by_cases h1 : t.val % 4 = 3
  · rw [outsAt0_C m c t h0 h1]
    frame_out
    simp only [read_unread_whole]
    exact value_at m c t _ r k
  · rw [outsAt0_B m c t h0 h1]
    frame_out
    simp only [read_unread_whole]
    exact value_at m c t _ r k
theorem unit_next (t : Fin cfg0.N) (h0 : ¬t.val % 4 = 0) : (outsAt0 m c t.val t.isLt).2.2.2.2 (ix2 r k)
    = (outsAt0 m c (t.val - 1) (by have := t.isLt; omega)).2.2.2.2 (ix2 r k) + part (ucol m c r t.val t.isLt) (fun y => D m c (ix2 y k)) t.val := by
  by_cases h1 : t.val % 4 = 3
  · rw [outsAt0_C m c t h0 h1]
    frame_out
    simp only [read_unread_whole]
    exact unit_at m c t _ r k
  · rw [outsAt0_B m c t h0 h1]
    frame_out
    simp only [read_unread_whole]
    exact unit_at m c t _ r k

theorem gate_last (t : Fin cfg0.N) (h : t.val % 4 = 3) :
    (outsAt0 m c t.val t.isLt).2.2.1 (ix2 r k) = ∑ y : Fin 4096, pcol m c 0 r t.val t.isLt y * H m c (ix2 y k) :=
  whole (fun n hn => (outsAt0 m c n hn).2.2.1 (ix2 r k)) (pcol m c 0 r) (fun y => H m c (ix2 y k))
    (fun n n' hn hn' e => by funext y; simp only [pcol, tile_eq n n' hn hn' e]) (fun n hn h0 => gate_first m c r k ⟨n, hn⟩ h0)
    (fun n hn h0 => gate_next m c r k ⟨n, hn⟩ h0) t.val t.isLt h
theorem value_last (t : Fin cfg0.N) (h : t.val % 4 = 3) :
    (outsAt0 m c t.val t.isLt).2.2.2.1 (ix2 r k) = ∑ y : Fin 4096, pcol m c 1 r t.val t.isLt y * H m c (ix2 y k) :=
  whole (fun n hn => (outsAt0 m c n hn).2.2.2.1 (ix2 r k)) (pcol m c 1 r) (fun y => H m c (ix2 y k))
    (fun n n' hn hn' e => by funext y; simp only [pcol, tile_eq n n' hn hn' e]) (fun n hn h0 => value_first m c r k ⟨n, hn⟩ h0)
    (fun n hn h0 => value_next m c r k ⟨n, hn⟩ h0) t.val t.isLt h
theorem unit_last (t : Fin cfg0.N) (h : t.val % 4 = 3) :
    (outsAt0 m c t.val t.isLt).2.2.2.2 (ix2 r k) = ∑ y : Fin 4096, ucol m c r t.val t.isLt y * D m c (ix2 y k) :=
  whole (fun n hn => (outsAt0 m c n hn).2.2.2.2 (ix2 r k)) (ucol m c r) (fun y => D m c (ix2 y k))
    (fun n n' hn hn' e => by funext y; simp only [ucol, tile_eq n n' hn hn' e]) (fun n hn h0 => unit_first m c r k ⟨n, hn⟩ h0)
    (fun n hn h0 => unit_next m c r k ⟨n, hn⟩ h0) t.val t.isLt h

/-! ## The two outputs -/

/-- Two stores over the gates' and values' block leave their tiles. -/
theorem both (u v : Vec Ideal S704x1024 .f32) (a : Fin 2) :
    View.canon (Val := Elt Ideal) (e := .bf16)
      [⟨Rect.unit (s := S2x1x704x1024) ![1, 0, 0, 0] ![1, 1, 704, 1024] inb_S2x1x704x1024_S1x1x704x1024_1_0_0_0, k0_pay3 (F := Ideal) v⟩,
        ⟨Rect.unit (s := S2x1x704x1024) ![0, 0, 0, 0] ![1, 1, 704, 1024] inb_S2x1x704x1024_S1x1x704x1024_0_0_0_0, k0_pay2 (F := Ideal) u⟩] (ix4 a 0 r k)
      = (if a = 0 then u else v) (ix2 r k) := by
  canon_tiles x hx
  · idx_vars x
    obtain rfl : a = 1 := by apply Fin.ext; show a.val = 1; omega
    obtain rfl : r = x2 := Fin.ext hx2
    obtain rfl : k = x3 := Fin.ext hx3
    obtain rfl : x0 = 0 := Subsingleton.elim _ _
    obtain rfl : x1 = 0 := Subsingleton.elim _ _
    rw [pay3, if_neg (by decide)]
  · idx_vars x
    obtain rfl : a = 0 := by apply Fin.ext; show a.val = 0; omega
    obtain rfl : r = x2 := Fin.ext hx2
    obtain rfl : k = x3 := Fin.ext hx3
    obtain rfl : x0 = 0 := Subsingleton.elim _ _
    obtain rfl : x1 = 0 := Subsingleton.elim _ _
    rw [pay2, if_pos rfl]

theorem in_last (t : Fin cfg0.N) (h : t.val % 4 = 3) (a : Fin 2) : (outsAt0 m c t.val t.isLt).1 (ix4 a 0 r k)
    = (if a = 0 then (outsAt0 m c t.val t.isLt).2.2.1 else (outsAt0 m c t.val t.isLt).2.2.2.1) (ix2 r k) := by
  rw [outsAt0_C m c t (by omega) h]
  frame_out
  exact both r k _ _ a

theorem out_last (t : Fin cfg0.N) (h : t.val % 4 = 3) : (outsAt0 m c t.val t.isLt).2.1 (ix3 0 r k) = (outsAt0 m c t.val t.isLt).2.2.2.2 (ix2 r k) := by
  rw [outsAt0_C m c t (by omega) h]
  frame_out
  rw [pay4]

theorem final4 : (dats m 0 c).arrAt 4 cfg0.N = Cert.FfnWRefIdeal.Read.val_main_v10 (F := Ideal) (H m c) (P m c) := by
  refine (dats m 0 c).arrAt_eq_of_covers 4 _ (by decide +kernel) fun t hf y => ?_
  have h : t.val % 4 = 3 := (by decide +kernel : ∀ t : Fin cfg0.N, (win0 4).flush t = true → t.val % 4 = 3) t hf
  blk_simp
  rw [after0_4]
  idx_vars y
  obtain rfl : y1 = 0 := Subsingleton.elim _ _
  rw [in_last m c _ _ t h, emb4, v10]
  have ha : y0 = 0 ∨ y0 = 1 := by omega
  rcases ha with rfl | rfl
  · exact gate_last m c _ _ t h
  · exact value_last m c _ _ t h

theorem final5 : (dats m 0 c).arrAt 5 cfg0.N = Cert.FfnWRefIdeal.Read.val_main_v12 (F := Ideal) (U m c) (D m c) := by
  refine (dats m 0 c).arrAt_eq_of_covers 5 _ (by decide +kernel) fun t hf y => ?_
  have h : t.val % 4 = 3 := (by decide +kernel : ∀ t : Fin cfg0.N, (win0 5).flush t = true → t.val % 4 = 3) t hf
  blk_simp
  rw [after0_5]
  idx_vars y
  obtain rfl : y0 = 0 := Subsingleton.elim _ _
  rw [out_last m c _ _ t h, unit_last m c _ _ t h, emb5, v12]

end Cert.FfnWIdeal.Val

end

end
-- ==== Proof.FfnWClaim.lean ====
module

public import proofs.«01_k».proof.Defs
public import proofs.«01_k».proof.Proof.Gen.FfnW.Frame
public import proofs.«01_k».proof.Proof.Gen.FfnWIdeal.Value
public import proofs.«01_k».proof.Proof.Gen.FfnWRefIdeal.Run
public import proofs.«01_k».proof.Proof.FfnWValue

/-! The claims about the gradients of the two matrices of the feed-forward half step. -/

@[expose] public section

noncomputable section

open Idealize.ShloMosaic Idealize.ShloMosaic.TcCoe Idealize.SL.Sem

namespace Cert.FfnWIdeal.Val
open Cert.FfnWIdeal Cert.FfnWIdeal.Gen

theorem frame_kernel : Cert.quiescent_FfnW := fun m ρ _ => Cert.FfnW.Gen.frame m ρ
theorem frame_ideal : Cert.quiescent_FfnWIdeal := fun m ρ _ => Cert.FfnWIdeal.Gen.frame m ρ

/-- The reference is a straight line of host operations and declares no semaphore. -/
theorem frame_reference : Cert.quiescent_FfnWRefIdeal := fun m ρ _ =>
  (θ_run Cert.FfnWRefIdeal.defs _ _).mono (fun r h => ⟨fun c => (h c).2.2, sem_eq_zero_of_no_sems (by decide) r.2⟩) (Cert.FfnWRefIdeal.Value.run m ρ)

/-- The two programs end with equal results. -/
theorem equal : Cert.algebraic_FfnWIdeal_FfnWRefIdeal := fun m ρ m' ρ' _ hag =>
  ⟨fun c => Cert.FfnWRefIdeal.Read.val_main_v10 (F := Ideal) (H m c) (P m c),
    fun c => Cert.FfnWRefIdeal.Read.val_main_v12 (F := Ideal) (U m c) (D m c),
    (θ_run _ _ _).mono (fun _ h c => ⟨(h c).1.trans (final4 m c), (h c).2.1.trans (final5 m c), (h c).2.2⟩) (Cert.FfnWIdeal.Value.run_blocks m ρ),
    (θ_run _ _ _).mono (fun _ h c => ⟨(h c).1.trans ((Cert.FfnWRefIdeal.Read.val_main_v10_eq _ _).trans (by rw [(hag c).1, (hag c).2.2.1])),
      (h c).2.1.trans ((Cert.FfnWRefIdeal.Read.val_main_v12_eq _ _).trans (by rw [(hag c).2.1, (hag c).2.2.2])), (h c).2.2⟩)
      (Cert.FfnWRefIdeal.Value.run m' ρ')⟩

end Cert.FfnWIdeal.Val

end

end
-- ==== Proof.GradWValue.lean ====
module

public import proofs.«01_k».proof.Proof.Gen.GradWIdeal.Value
public import proofs.«01_k».proof.Proof.Gen.GradWRefIdeal.Read
public import proofs.«01_k».proof.Proof.Steps
public import proofs.«01_k».proof.Proof.Sums
public import Idealize.ShloMosaic.Lib.Pipeline.ValueKit
public import Idealize.ShloMosaic.Lib.Pipeline.ReadBack

/-! The gradient of a projection's matrix: a product over all rows, added up over four blocks of rows. -/

@[expose] public section

set_option maxRecDepth 16384

noncomputable section

open Idealize.ShloMosaic Idealize.ShloMosaic.TcCoe Idealize.SL.Sem
open Idealize.ShloMosaic.Pipeline (Dat)

namespace Cert.GradWIdeal.Val
open Cert.GradWIdeal Cert.GradWIdeal.Gen

/-- The arguments' contents. -/
abbrev Act := (⟨S4096x1024, .f32⟩ : BufTy).Contents (Elt Ideal)
abbrev Cot := (⟨S4096x3072, .f32⟩ : BufTy).Contents (Elt Ideal)

section Kernel

variable (a : Vec Ideal S1024x1024 .f32) (x h : Vec Ideal S1024x1024 .bf16) (r k : Fin 1024)

theorem pay1 : k0_pay1 (F := Ideal) (ix2 r k) = 0 := by
  pointwise [k0_pay1]
theorem pay2 : k0_pay2 (F := Ideal) a x h (ix2 r k) = a (ix2 r k) + ∑ y : Fin 1024, x (ix2 y r) * h (ix2 y k) := by
  pointwise [k0_pay2]
theorem pay3 : k0_pay3 (F := Ideal) a (ix2 r k) = a (ix2 r k) := by
  pointwise [k0_pay3]

end Kernel

section Reference
open Cert.GradWRefIdeal Cert.GradWRefIdeal.Read

theorem v5 (x0 : Act) (x1 : Cot) (r : Fin 3072) (k : Fin 1024) :
    val_main_v5 (F := Ideal) x0 x1 (ix2 r k) = ∑ y : Fin 4096, x1 (ix2 y r) * x0 (ix2 y k) := by
  pointwise [val_main_v5, val_main_v4, val_main_v3, val_main_v2]

end Reference

variable (m : (ℓ : Loc nD τ sig) → Buf (Elt Ideal) ℓ) (ρ : Dev nD → PrngReg) (c : Dev nD)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The arguments on the device. -/
abbrev H : Act := m ((c.tc : Thread nD τ).loc main_arg0)
abbrev C : Cot := m ((c.tc : Thread nD τ).loc main_arg1)

/-- The row of the arrays that row `y` of the block of rows at point `n` is. -/
abbrev row (n : ℕ) (y : Fin 1024) : Fin 4096 := ⟨1024 * (n % 4) + y.val, by omega⟩
/-- The column of the cotangent that column `r` of its block at point `n` is. -/
abbrev col (n : ℕ) (hn : n < cfg0.N) (r : Fin 1024) : Fin 3072 := ⟨1024 * (n / 4) + r.val, by have := lt_of_lt_of_eq hn N_0; have := r.isLt; omega⟩

theorem blk0 (t : Fin cfg0.N) (y r : Fin 1024) : iblk m c 0 t (ix2 y r) = C m c (ix2 (row t.val y) (col t.val t.isLt r)) := by
  blk_point [iblk, V, idx t]
theorem blk1 (t : Fin cfg0.N) (y k : Fin 1024) : iblk m c 1 t (ix2 y k) = H m c (ix2 (row t.val y) k) := by
  blk_point [iblk, V, idx t]
theorem emb2 (t : Fin cfg0.N) (r k : Fin 1024) : ((View.whole main_v2).slice (win0_2.rect t)).emb (ix2 r k) = ix2 (col t.val t.isLt r) k := by
  blk_ext [idx t]

/-- The part of one block of rows. -/
def part (r k : Fin 1024) (n : ℕ) (hn : n < cfg0.N) : EReal := ∑ y : Fin 1024, C m c (ix2 (row n y) (col n hn r)) * H m c (ix2 (row n y) k)

theorem acc_at (t : Fin cfg0.N) (a : Vec Ideal S1024x1024 .f32) (r k : Fin 1024) :
    k0_pay2 (F := Ideal) a (iblk m c 0 t) (iblk m c 1 t) (ix2 r k) = a (ix2 r k) + part m c r k t.val t.isLt := by
  rw [pay2, part]
  exact congrArg _ (Finset.sum_congr rfl fun y _ => congrArg₂ _ (blk0 m c t y r) (blk1 m c t y k))

theorem acc_first (t : Fin cfg0.N) (h0 : t.val % 4 = 0) (r k : Fin 1024) : (outsAt0 m c t.val t.isLt).2 (ix2 r k) = part m c r k t.val t.isLt := by
  rw [outsAt0_A m c t h0 (by omega)]
  frame_out
  refine (acc_at m c t _ r k).trans ?_
  rw [pay1, zero_add]

theorem acc_next (t : Fin cfg0.N) (h0 : ¬t.val % 4 = 0) (r k : Fin 1024) :
    (outsAt0 m c t.val t.isLt).2 (ix2 r k) = (outsAt0 m c (t.val - 1) (by have := t.isLt; omega)).2 (ix2 r k) + part m c r k t.val t.isLt := by
  by_cases h1 : t.val % 4 = 3
  · rw [outsAt0_C m c t h0 h1]
    frame_out
    simp only [read_unread_whole]
    exact acc_at m c t _ r k
  · rw [outsAt0_B m c t h0 h1]
    frame_out
    simp only [read_unread_whole]
    exact acc_at m c t _ r k

theorem acc_last (t : Fin cfg0.N) (h : t.val % 4 = 3) (r k : Fin 1024) :
    (outsAt0 m c t.val t.isLt).2 (ix2 r k) = ∑ y : Fin 4096, C m c (ix2 y (col t.val t.isLt r)) * H m c (ix2 y k) := by
  refine (Steps.last (fun n hn => (outsAt0 m c n hn).2 (ix2 r k)) (part m c r k) (fun n hn h0 => acc_first m c ⟨n, hn⟩ h0 r k)
    (fun n hn h0 => acc_next m c ⟨n, hn⟩ h0 r k) 3 rfl t.val t.isLt h).trans ?_
  refine Eq.trans ?_ (Sums.blocks (T := 4) (n := 1024) (N := 4096) rfl (fun y => C m c (ix2 y (col t.val t.isLt r)) * H m c (ix2 y k))
    (fun j y => ⟨1024 * j.val + y.val, by omega⟩) (fun _ _ => rfl))
  refine Finset.sum_congr rfl fun j _ => Finset.sum_congr rfl fun y _ => ?_
  have er : row (4 * (t.val / 4) + j.val) y = ⟨1024 * j.val + y.val, by omega⟩ := by apply Fin.ext; simp only [row]; omega
  have ec : ∀ hn, col (4 * (t.val / 4) + j.val) hn r = col t.val t.isLt r := fun hn => by apply Fin.ext; simp only [col]; omega
  rw [er, ec]

theorem out_last (t : Fin cfg0.N) (h : t.val % 4 = 3) (r k : Fin 1024) : (outsAt0 m c t.val t.isLt).1 (ix2 r k) = (outsAt0 m c t.val t.isLt).2 (ix2 r k) := by
  rw [outsAt0_C m c t (by omega) h]
  frame_out
  rw [pay3]

theorem final2 : (dats m 0 c).arrAt 2 cfg0.N = Cert.GradWRefIdeal.Read.val_main_v5 (F := Ideal) (H m c) (C m c) := by
  refine (dats m 0 c).arrAt_eq_of_covers 2 _ (by decide +kernel) fun t hf y => ?_
  have h : t.val % 4 = 3 := (by decide +kernel : ∀ t : Fin cfg0.N, (win0 2).flush t = true → t.val % 4 = 3) t hf
  blk_simp
  rw [after0_2]
  idx_vars y
  rw [out_last m c t h, acc_last m c t h, emb2, v5]

end Cert.GradWIdeal.Val

end

end
-- ==== Proof.GradWClaim.lean ====
module

public import proofs.«01_k».proof.Defs
public import proofs.«01_k».proof.Proof.Gen.GradW.Frame
public import proofs.«01_k».proof.Proof.Gen.GradWIdeal.Value
public import proofs.«01_k».proof.Proof.Gen.GradWRefIdeal.Run
public import proofs.«01_k».proof.Proof.GradWValue

/-! The claims about the gradient of the matrix of the projection to the queries, keys and values. -/

@[expose] public section

noncomputable section

open Idealize.ShloMosaic Idealize.ShloMosaic.TcCoe Idealize.SL.Sem

namespace Cert.GradWIdeal.Val
open Cert.GradWIdeal Cert.GradWIdeal.Gen

theorem frame_kernel : Cert.quiescent_GradW := fun m ρ _ => Cert.GradW.Gen.frame m ρ
theorem frame_ideal : Cert.quiescent_GradWIdeal := fun m ρ _ => Cert.GradWIdeal.Gen.frame m ρ

/-- The reference is a straight line of host operations and declares no semaphore. -/
theorem frame_reference : Cert.quiescent_GradWRefIdeal := fun m ρ _ =>
  (θ_run Cert.GradWRefIdeal.defs _ _).mono (fun r h => ⟨fun c => (h c).2, sem_eq_zero_of_no_sems (by decide) r.2⟩) (Cert.GradWRefIdeal.Value.run m ρ)

/-- The two programs end with equal results. -/
theorem equal : Cert.algebraic_GradWIdeal_GradWRefIdeal := fun m ρ m' ρ' _ hag =>
  ⟨fun c => Cert.GradWRefIdeal.Read.val_main_v5 (F := Ideal) (H m c) (C m c),
    (θ_run _ _ _).mono (fun _ h c => ⟨(h c).1.trans (final2 m c), (h c).2⟩) (Cert.GradWIdeal.Value.run_blocks m ρ),
    (θ_run _ _ _).mono (fun _ h c => ⟨(h c).1.trans ((Cert.GradWRefIdeal.Read.val_main_v5_eq _ _).trans (by
        rw [(hag c).1, (hag c).2])), (h c).2⟩) (Cert.GradWRefIdeal.Value.run m' ρ')⟩

end Cert.GradWIdeal.Val

end

end
-- ==== Proof.AdamValue.lean ====
module

public import proofs.«01_k».proof.Proof.Gen.AdamIdeal.Value
public import proofs.«01_k».proof.Proof.Gen.AdamRefIdeal.Read
public import Idealize.ShloMosaic.Lib.Pipeline.ValueKit

/-! The optimiser's step: each of its four outputs is, entry by entry, the reference's. -/

@[expose] public section

set_option maxRecDepth 16384

noncomputable section

open Idealize.ShloMosaic Idealize.ShloMosaic.TcCoe Idealize.SL.Sem
open Idealize.ShloMosaic.Pipeline (Dat)

namespace Cert.AdamIdeal.Val
open Cert.AdamIdeal Cert.AdamIdeal.Gen

/-- The contents of each argument. -/
abbrev Mat := (⟨S4096x1152, .f32⟩ : BufTy).Contents (Elt Ideal)

/-- The new first moment of an entry with gradient `g` and moment `m`. -/
def mom (g m : EReal) : EReal := Ideal.ofBits FTy.f32 0x3F666666#32 * m + Ideal.ofBits FTy.f32 0x3DCCCCCD#32 * g
/-- The new second moment of an entry with gradient `g` and moment `v`. -/
def sq (g v : EReal) : EReal := Ideal.ofBits FTy.f32 0x3F7FBE77#32 * v + Ideal.ofBits FTy.f32 0x3A83126F#32 * (g * g)
/-- The step of an entry `w`. -/
def step (g w m v : EReal) : EReal :=
  Ideal.ofBits FTy.f32 0xBA83126F#32 * (Ideal.div (mom g m) (Ideal.ofBits FTy.f32 0x3F26BD02#32)
    |> fun d => Ideal.div d (Ideal.sqrt (Ideal.div (sq g v) (Ideal.ofBits FTy.f32 0x3C231ACC#32)) + Ideal.ofBits FTy.f32 0x322BCC77#32)
      + Ideal.ofBits FTy.f32 0x3C23D70A#32 * w)

section Kernel

variable (g : Vec Ideal S1x256x1152 .f32) (w m v : Vec Ideal S256x1152 .f32) (r : Fin 256) (k : Fin 1152)

theorem pay1 : k0_pay1 (F := Ideal) g (ix2 r k) = g (ix3 0 r k) := by
  pointwise [k0_pay1]
theorem pay2 : k0_pay2 (F := Ideal) g m (ix2 r k) = mom (g (ix3 0 r k)) (m (ix2 r k)) := by
  pointwise [k0_pay2, pay1, mom]
theorem pay3 : k0_pay3 (F := Ideal) g v (ix2 r k) = sq (g (ix3 0 r k)) (v (ix2 r k)) := by
  pointwise [k0_pay3, pay1, sq]
theorem pay4 : k0_pay4 (F := Ideal) g m v w (ix2 r k) = step (g (ix3 0 r k)) (w (ix2 r k)) (m (ix2 r k)) (v (ix2 r k)) := by
  pointwise [k0_pay4, pay2, pay3, step]

end Kernel

section Reference
open Cert.AdamRefIdeal Cert.AdamRefIdeal.Read

variable (x0 x1 x2 x3 : Mat) (r : Fin 4096) (k : Fin 1152)

theorem v4 : val_main_v4 (F := Ideal) x0 x2 (ix2 r k) = mom (x0 (ix2 r k)) (x2 (ix2 r k)) := by
  pointwise [val_main_v4, val_main_v3, val_main_v2, val_main_v1, val_main_v0, val_main_cst, val_main_cst_0, mom]
theorem v10 : val_main_v10 (F := Ideal) x0 x3 (ix2 r k) = sq (x0 (ix2 r k)) (x3 (ix2 r k)) := by
  pointwise [val_main_v10, val_main_v9, val_main_v8, val_main_v7, val_main_v6, val_main_v5, val_main_cst_1, val_main_cst_2, sq]
theorem v23 : val_main_v23 (F := Ideal) x0 x1 x2 x3 (ix2 r k) = step (x0 (ix2 r k)) (x1 (ix2 r k)) (x2 (ix2 r k)) (x3 (ix2 r k)) := by
  pointwise [val_main_v23, val_main_v22, val_main_v21, val_main_v20, val_main_v19, val_main_v18, val_main_v17, val_main_v16, val_main_v15, val_main_v14, val_main_v13, val_main_v12, val_main_v11, v4, v10, val_main_cst_3, val_main_cst_4, val_main_cst_5, val_main_cst_6, val_main_cst_7, step]

end Reference

variable (m : (ℓ : Loc nD τ sig) → Buf (Elt Ideal) ℓ) (ρ : Dev nD → PrngReg) (c : Dev nD)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The arguments on the device. -/
abbrev G : Mat := m ((c.tc : Thread nD τ).loc main_arg0)
abbrev W : Mat := m ((c.tc : Thread nD τ).loc main_arg1)
abbrev M : Mat := m ((c.tc : Thread nD τ).loc main_arg2)
abbrev U : Mat := m ((c.tc : Thread nD τ).loc main_arg3)

/-- The row of the whole array that row `r` of block `t` is. -/
abbrev row (t : Fin cfg0.N) (r : Fin 256) : Fin 4096 := ⟨256 * t.val + r.val, by have := lt_of_lt_of_eq t.isLt N_0; have := r.isLt; omega⟩

variable (t : Fin cfg0.N) (r : Fin 256) (k : Fin 1152)

theorem blk0 : iblk m c 0 t (ix3 0 r k) = G m c (ix2 (row t r) k) := by
  blk_point [iblk, V, idx t]
theorem blk1 : iblk m c 1 t (ix2 r k) = W m c (ix2 (row t r) k) := by
  blk_point [iblk, V, idx t]
theorem blk2 : iblk m c 2 t (ix2 r k) = M m c (ix2 (row t r) k) := by
  blk_point [iblk, V, idx t]
theorem blk3 : iblk m c 3 t (ix2 r k) = U m c (ix2 (row t r) k) := by
  blk_point [iblk, V, idx t]
theorem emb4 : ((View.whole main_v1_0).slice (win0_4.rect t)).emb (ix2 r k) = ix2 (row t r) k := by
  blk_ext [idx t]
theorem emb5 : ((View.whole main_v1_1).slice (win0_5.rect t)).emb (ix2 r k) = ix2 (row t r) k := by
  blk_ext [idx t]
theorem emb6 : ((View.whole main_v1_2).slice (win0_6.rect t)).emb (ix2 r k) = ix2 (row t r) k := by
  blk_ext [idx t]
theorem emb7 : ((View.whole main_v1_3).slice (win0_7.rect t)).emb (ix2 r k) = ix2 (row t r) k := by
  blk_ext [idx t]

omit t r k

theorem final4 : (dats m 0 c).arrAt 4 cfg0.N = G m c := by
  refine (dats m 0 c).arrAt_eq_of_covers 4 _ (by decide +kernel) fun t hf y => ?_
  blk_simp
  rw [after0_4]
  frame_out
  idx_vars y
  rw [pay1, blk0, emb4]

theorem final5 : (dats m 0 c).arrAt 5 cfg0.N = Cert.AdamRefIdeal.Read.val_main_v23 (F := Ideal) (G m c) (W m c) (M m c) (U m c) := by
  refine (dats m 0 c).arrAt_eq_of_covers 5 _ (by decide +kernel) fun t hf y => ?_
  blk_simp
  rw [after0_5]
  frame_out
  idx_vars y
  rw [pay4, blk0, blk1, blk2, blk3, emb5, v23]

theorem final6 : (dats m 0 c).arrAt 6 cfg0.N = Cert.AdamRefIdeal.Read.val_main_v4 (F := Ideal) (G m c) (M m c) := by
  refine (dats m 0 c).arrAt_eq_of_covers 6 _ (by decide +kernel) fun t hf y => ?_
  blk_simp
  rw [after0_6]
  frame_out
  idx_vars y
  rw [pay2, blk0, blk2, emb6, v4]

theorem final7 : (dats m 0 c).arrAt 7 cfg0.N = Cert.AdamRefIdeal.Read.val_main_v10 (F := Ideal) (G m c) (U m c) := by
  refine (dats m 0 c).arrAt_eq_of_covers 7 _ (by decide +kernel) fun t hf y => ?_
  blk_simp
  rw [after0_7]
  frame_out
  idx_vars y
  rw [pay3, blk0, blk3, emb7, v10]

end Cert.AdamIdeal.Val

end

end
-- ==== Proof.AdamClaim.lean ====
module

public import proofs.«01_k».proof.Defs
public import proofs.«01_k».proof.Proof.Gen.Adam.Frame
public import proofs.«01_k».proof.Proof.Gen.AdamIdeal.Value
public import proofs.«01_k».proof.Proof.Gen.AdamRefIdeal.Run
public import proofs.«01_k».proof.Proof.AdamValue

/-! The claims about the step of the optimiser. -/

@[expose] public section

noncomputable section

open Idealize.ShloMosaic Idealize.ShloMosaic.TcCoe Idealize.SL.Sem

namespace Cert.AdamIdeal.Val
open Cert.AdamIdeal Cert.AdamIdeal.Gen

theorem frame_kernel : Cert.quiescent_Adam := fun m ρ _ => Cert.Adam.Gen.frame m ρ
theorem frame_ideal : Cert.quiescent_AdamIdeal := fun m ρ _ => Cert.AdamIdeal.Gen.frame m ρ

/-- The reference is a straight line of host operations and declares no semaphore. -/
theorem frame_reference : Cert.quiescent_AdamRefIdeal := fun m ρ _ =>
  (θ_run Cert.AdamRefIdeal.defs _ _).mono (fun r h => ⟨fun c => (h c).2.2.2.2, sem_eq_zero_of_no_sems (by decide) r.2⟩) (Cert.AdamRefIdeal.Value.run m ρ)

/-- The two programs end with equal results. -/
theorem equal : Cert.algebraic_AdamIdeal_AdamRefIdeal := fun m ρ m' ρ' _ hag =>
  ⟨fun c => G m c, fun c => Cert.AdamRefIdeal.Read.val_main_v23 (F := Ideal) (G m c) (W m c) (M m c) (U m c),
    fun c => Cert.AdamRefIdeal.Read.val_main_v4 (F := Ideal) (G m c) (M m c), fun c => Cert.AdamRefIdeal.Read.val_main_v10 (F := Ideal) (G m c) (U m c),
    (θ_run _ _ _).mono (fun _ h c => ⟨(h c).1.trans (final4 m c), (h c).2.1.trans (final5 m c), (h c).2.2.1.trans (final6 m c), (h c).2.2.2.1.trans (final7 m c),
      (h c).2.2.2.2⟩) (Cert.AdamIdeal.Value.run_blocks m ρ),
    (θ_run _ _ _).mono (fun _ h c =>
      have e := hag c
      ⟨(h c).1.trans e.1, (h c).2.1.trans ((Cert.AdamRefIdeal.Read.val_main_v23_eq _ _ _ _).trans (by rw [e.1, e.2.1, e.2.2.1, e.2.2.2])),
      (h c).2.2.1.trans ((Cert.AdamRefIdeal.Read.val_main_v4_eq _ _).trans (by rw [e.1, e.2.2.1])),
      (h c).2.2.2.1.trans ((Cert.AdamRefIdeal.Read.val_main_v10_eq _ _).trans (by rw [e.1, e.2.2.2])), (h c).2.2.2.2⟩)
      (Cert.AdamRefIdeal.Value.run m' ρ')⟩

end Cert.AdamIdeal.Val

end

end
-- ==== Proof.lean ====
module

public import proofs.«01_k».proof.Defs
public import proofs.«01_k».proof.Proof.Gen.LnSilu
public import proofs.«01_k».proof.Proof.Gen.LnSiluIdeal
public import proofs.«01_k».proof.Proof.Gen.LnSiluRefIdeal
public import proofs.«01_k».proof.Proof.LnSiluClaim
public import proofs.«01_k».proof.Proof.Gen.Loss
public import proofs.«01_k».proof.Proof.Gen.LossIdeal
public import proofs.«01_k».proof.Proof.Gen.LossRefIdeal
public import proofs.«01_k».proof.Proof.LossClaim
public import proofs.«01_k».proof.Proof.Gen.ResGate
public import proofs.«01_k».proof.Proof.Gen.ResGateIdeal
public import proofs.«01_k».proof.Proof.Gen.ResGateRefIdeal
public import proofs.«01_k».proof.Proof.ResGateClaim
public import proofs.«01_k».proof.Proof.Gen.ResFwd
public import proofs.«01_k».proof.Proof.Gen.ResFwdIdeal
public import proofs.«01_k».proof.Proof.Gen.ResFwdRefIdeal
public import proofs.«01_k».proof.Proof.ResFwdClaim
public import proofs.«01_k».proof.Proof.Gen.ModGlu
public import proofs.«01_k».proof.Proof.Gen.ModGluIdeal
public import proofs.«01_k».proof.Proof.Gen.ModGluRefIdeal
public import proofs.«01_k».proof.Proof.ModGluClaim
public import proofs.«01_k».proof.Proof.Gen.GluFwd
public import proofs.«01_k».proof.Proof.Gen.GluFwdIdeal
public import proofs.«01_k».proof.Proof.Gen.GluFwdRefIdeal
public import proofs.«01_k».proof.Proof.GluFwdClaim
public import proofs.«01_k».proof.Proof.Gen.ModQkv
public import proofs.«01_k».proof.Proof.Gen.ModQkvIdeal
public import proofs.«01_k».proof.Proof.Gen.ModQkvRefIdeal
public import proofs.«01_k».proof.Proof.ModQkvClaim
public import proofs.«01_k».proof.Proof.Gen.GNorm
public import proofs.«01_k».proof.Proof.Gen.GNormIdeal
public import proofs.«01_k».proof.Proof.Gen.GNormRefIdeal
public import proofs.«01_k».proof.Proof.GNormClaim
public import proofs.«01_k».proof.Proof.Gen.GNormFwd
public import proofs.«01_k».proof.Proof.Gen.GNormFwdIdeal
public import proofs.«01_k».proof.Proof.Gen.GNormFwdRefIdeal
public import proofs.«01_k».proof.Proof.GNormFwdClaim
public import proofs.«01_k».proof.Proof.Gen.Scan
public import proofs.«01_k».proof.Proof.Gen.ScanIdeal
public import proofs.«01_k».proof.Proof.Gen.ScanRefIdeal
public import proofs.«01_k».proof.Proof.Gen.Pre_scan_finite
public import proofs.«01_k».proof.Proof.ScanClaim
public import proofs.«01_k».proof.Proof.Gen.Prep
public import proofs.«01_k».proof.Proof.Gen.PrepIdeal
public import proofs.«01_k».proof.Proof.Gen.PrepRefIdeal
public import proofs.«01_k».proof.Proof.Gen.Pre_prep_regular
public import proofs.«01_k».proof.Proof.PrepClaim
public import proofs.«01_k».proof.Proof.Gen.AdaBwd
public import proofs.«01_k».proof.Proof.Gen.AdaBwdIdeal
public import proofs.«01_k».proof.Proof.Gen.AdaBwdRefIdeal
public import proofs.«01_k».proof.Proof.AdaBwdClaim
public import proofs.«01_k».proof.Proof.Gen.AdaFwd
public import proofs.«01_k».proof.Proof.Gen.AdaFwdIdeal
public import proofs.«01_k».proof.Proof.Gen.AdaFwdRefIdeal
public import proofs.«01_k».proof.Proof.AdaFwdClaim
public import proofs.«01_k».proof.Proof.Gen.FfnFwd
public import proofs.«01_k».proof.Proof.Gen.FfnFwdIdeal
public import proofs.«01_k».proof.Proof.Gen.FfnFwdRefIdeal
public import proofs.«01_k».proof.Proof.FfnFwdClaim
public import proofs.«01_k».proof.Proof.Gen.FfnW
public import proofs.«01_k».proof.Proof.Gen.FfnWIdeal
public import proofs.«01_k».proof.Proof.Gen.FfnWRefIdeal
public import proofs.«01_k».proof.Proof.FfnWClaim
public import proofs.«01_k».proof.Proof.GradWClaim
public import proofs.«01_k».proof.Proof.Gen.Adam
public import proofs.«01_k».proof.Proof.Gen.AdamIdeal
public import proofs.«01_k».proof.Proof.Gen.AdamRefIdeal
public import proofs.«01_k».proof.Proof.AdamClaim
public import proofs.«01_k».proof.Proof.Gen.Pre
public import proofs.«01_k».proof.Proof.Gen.Pre.Frame
public import proofs.«01_k».proof.Proof.Gen.PreIdeal
public import proofs.«01_k».proof.Proof.Gen.PreIdeal.Frame
public import Idealize.ShloMosaic.Adequacy
public import Idealize.ShloMosaic.Init

@[expose] public section

noncomputable section

namespace Cert.Proof

open Idealize.ShloMosaic Idealize.SL.Sem

theorem claim : Cert.Claim := ⟨Cert.LnSilu.Gen.facts, Cert.LnSiluIdeal.Gen.facts, Cert.LnSiluRefIdeal.Gen.facts,
  Cert.Loss.Gen.facts, Cert.LossIdeal.Gen.facts, Cert.LossRefIdeal.Gen.facts,
  Cert.ResGate.Gen.facts, Cert.ResGateIdeal.Gen.facts, Cert.ResGateRefIdeal.Gen.facts,
  Cert.ResFwd.Gen.facts, Cert.ResFwdIdeal.Gen.facts, Cert.ResFwdRefIdeal.Gen.facts,
  Cert.ModGlu.Gen.facts, Cert.ModGluIdeal.Gen.facts, Cert.ModGluRefIdeal.Gen.facts,
  Cert.GluFwd.Gen.facts, Cert.GluFwdIdeal.Gen.facts, Cert.GluFwdRefIdeal.Gen.facts,
  Cert.ModQkv.Gen.facts, Cert.ModQkvIdeal.Gen.facts, Cert.ModQkvRefIdeal.Gen.facts,
  Cert.GNorm.Gen.facts, Cert.GNormIdeal.Gen.facts, Cert.GNormRefIdeal.Gen.facts,
  Cert.GNormFwd.Gen.facts, Cert.GNormFwdIdeal.Gen.facts, Cert.GNormFwdRefIdeal.Gen.facts,
  Cert.Scan.Gen.facts, Cert.ScanIdeal.Gen.facts, Cert.ScanRefIdeal.Gen.facts,
  Cert.Prep.Gen.facts, Cert.PrepIdeal.Gen.facts, Cert.PrepRefIdeal.Gen.facts,
  Cert.AdaBwd.Gen.facts, Cert.AdaBwdIdeal.Gen.facts, Cert.AdaBwdRefIdeal.Gen.facts,
  Cert.AdaFwd.Gen.facts, Cert.AdaFwdIdeal.Gen.facts, Cert.AdaFwdRefIdeal.Gen.facts,
  Cert.FfnFwd.Gen.facts, Cert.FfnFwdIdeal.Gen.facts, Cert.FfnFwdRefIdeal.Gen.facts,
  Cert.FfnW.Gen.facts, Cert.FfnWIdeal.Gen.facts, Cert.FfnWRefIdeal.Gen.facts,
  Cert.GradW.Gen.facts, Cert.GradWIdeal.Gen.facts, Cert.GradWRefIdeal.Gen.facts,
  Cert.Adam.Gen.facts, Cert.AdamIdeal.Gen.facts, Cert.AdamRefIdeal.Gen.facts,
  Cert.Pre.Gen.facts,
  Cert.PreIdeal.Gen.facts,
  Cert.Pre_scan_finite.Gen.facts,
  Cert.Pre_prep_regular.Gen.facts,
  ⟨Cert.LnSiluIdeal.Val.frame_kernel, Cert.LnSiluIdeal.Val.frame_ideal, Cert.LnSiluIdeal.Val.frame_reference,
  Cert.LossIdeal.Val.frame_kernel, Cert.LossIdeal.Val.frame_ideal, Cert.LossIdeal.Val.frame_reference,
  Cert.ResGateIdeal.Val.frame_kernel, Cert.ResGateIdeal.Val.frame_ideal, Cert.ResGateIdeal.Val.frame_reference,
  Cert.ResFwdIdeal.Val.frame_kernel, Cert.ResFwdIdeal.Val.frame_ideal, Cert.ResFwdIdeal.Val.frame_reference,
  Cert.ModGluIdeal.Val.frame_kernel, Cert.ModGluIdeal.Val.frame_ideal, Cert.ModGluIdeal.Val.frame_reference,
  Cert.GluFwdIdeal.Val.frame_kernel, Cert.GluFwdIdeal.Val.frame_ideal, Cert.GluFwdIdeal.Val.frame_reference,
  Cert.ModQkvIdeal.Val.frame_kernel, Cert.ModQkvIdeal.Val.frame_ideal, Cert.ModQkvIdeal.Val.frame_reference,
  Cert.GNormIdeal.Val.frame_kernel, Cert.GNormIdeal.Val.frame_ideal, Cert.GNormIdeal.Val.frame_reference,
  Cert.GNormFwdIdeal.Val.frame_kernel, Cert.GNormFwdIdeal.Val.frame_ideal, Cert.GNormFwdIdeal.Val.frame_reference,
  Cert.ScanIdeal.Val.frame_kernel, Cert.ScanIdeal.Val.frame_ideal, Cert.ScanIdeal.Val.frame_ideal_pre, Cert.ScanIdeal.Val.frame_reference, Cert.ScanIdeal.Val.frame_reference_pre,
  Cert.PrepIdeal.Val.frame_kernel, Cert.PrepIdeal.Val.frame_ideal, Cert.PrepIdeal.Val.frame_ideal_pre, Cert.PrepIdeal.Val.frame_reference, Cert.PrepIdeal.Val.frame_reference_pre,
  Cert.AdaBwdIdeal.Val.frame_kernel, Cert.AdaBwdIdeal.Val.frame_ideal, Cert.AdaBwdIdeal.Val.frame_reference,
  Cert.AdaFwdIdeal.Val.frame_kernel, Cert.AdaFwdIdeal.Val.frame_ideal, Cert.AdaFwdIdeal.Val.frame_reference,
  Cert.FfnFwdIdeal.Val.frame_kernel, Cert.FfnFwdIdeal.Val.frame_ideal, Cert.FfnFwdIdeal.Val.frame_reference,
  Cert.FfnWIdeal.Val.frame_kernel, Cert.FfnWIdeal.Val.frame_ideal, Cert.FfnWIdeal.Val.frame_reference,
  Cert.GradWIdeal.Val.frame_kernel, Cert.GradWIdeal.Val.frame_ideal, Cert.GradWIdeal.Val.frame_reference,
  Cert.AdamIdeal.Val.frame_kernel, Cert.AdamIdeal.Val.frame_ideal, Cert.AdamIdeal.Val.frame_reference,
  fun m ρ _ => Cert.Pre.Gen.frame m ρ, fun m ρ _ => Cert.PreIdeal.Gen.frame m ρ,
  trivial, Cert.LnSiluIdeal.Val.equal,
  trivial, Cert.LossIdeal.Val.equal,
  trivial, Cert.ResGateIdeal.Val.equal,
  trivial, Cert.ResFwdIdeal.Val.equal,
  trivial, Cert.ModGluIdeal.Val.equal,
  trivial, Cert.GluFwdIdeal.Val.equal,
  trivial, Cert.ModQkvIdeal.Val.equal,
  trivial, Cert.GNormIdeal.Val.equal,
  trivial, Cert.GNormFwdIdeal.Val.equal,
  trivial, Cert.ScanIdeal.Val.equal,
  trivial, Cert.PrepIdeal.Val.equal,
  trivial, Cert.AdaBwdIdeal.Val.equal,
  trivial, Cert.AdaFwdIdeal.Val.equal,
  trivial, Cert.FfnFwdIdeal.Val.equal,
  trivial, Cert.FfnWIdeal.Val.equal,
  trivial, Cert.GradWIdeal.Val.equal,
  trivial, Cert.AdamIdeal.Val.equal,
  trivial⟩⟩

end Cert.Proof

end
